-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDw (m : (ℓ : Loc Cert.KernelDw.nD Cert.KernelDw.τ Cert.KernelDw.sig) → Buf (Elt Bits) ℓ) : Prop :=
  True

def Pre_KernelDwIdeal (m : (ℓ : Loc Cert.KernelDwIdeal.nD Cert.KernelDwIdeal.τ Cert.KernelDwIdeal.sig) → Buf (Elt Ideal) ℓ) : Prop :=
  True

def Pre_ReferenceDwIdeal (m : (ℓ : Loc Cert.ReferenceDwIdeal.nD Cert.ReferenceDwIdeal.τ Cert.ReferenceDwIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelMf (m : (ℓ : Loc Cert.KernelMf.nD Cert.KernelMf.τ Cert.KernelMf.sig) → Buf (Elt Bits) ℓ) : Prop :=
  True

def Pre_KernelMfIdeal (m : (ℓ : Loc Cert.KernelMfIdeal.nD Cert.KernelMfIdeal.τ Cert.KernelMfIdeal.sig) → Buf (Elt Ideal) ℓ) : Prop :=
  True

def Pre_ReferenceMfIdeal (m : (ℓ : Loc Cert.ReferenceMfIdeal.nD Cert.ReferenceMfIdeal.τ Cert.ReferenceMfIdeal.sig) → Buf (Elt Ideal) ℓ) : Prop :=
  True

def Pre_KernelMb (m : (ℓ : Loc Cert.KernelMb.nD Cert.KernelMb.τ Cert.KernelMb.sig) → Buf (Elt Bits) ℓ) : Prop :=
  True

def Pre_KernelMbIdeal (m : (ℓ : Loc Cert.KernelMbIdeal.nD Cert.KernelMbIdeal.τ Cert.KernelMbIdeal.sig) → Buf (Elt Ideal) ℓ) : Prop :=
  True

def Pre_ReferenceMbIdeal (m : (ℓ : Loc Cert.ReferenceMbIdeal.nD Cert.ReferenceMbIdeal.τ Cert.ReferenceMbIdeal.sig) → Buf (Elt Ideal) ℓ) : Prop :=
  True

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_ReferenceWoIdeal (m : (ℓ : Loc Cert.ReferenceWoIdeal.nD Cert.ReferenceWoIdeal.τ Cert.ReferenceWoIdeal.sig) → Buf (Elt Ideal) ℓ) : Prop :=
  True

def Pre_KernelSu (m : (ℓ : Loc Cert.KernelSu.nD Cert.KernelSu.τ Cert.KernelSu.sig) → Buf (Elt Bits) ℓ) : Prop :=
  True

def Pre_KernelSuIdeal (m : (ℓ : Loc Cert.KernelSuIdeal.nD Cert.KernelSuIdeal.τ Cert.KernelSuIdeal.sig) → Buf (Elt Ideal) ℓ) : Prop :=
  True

def Pre_ReferenceSuIdeal (m : (ℓ : Loc Cert.ReferenceSuIdeal.nD Cert.ReferenceSuIdeal.τ Cert.ReferenceSuIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelSo (m : (ℓ : Loc Cert.KernelSo.nD Cert.KernelSo.τ Cert.KernelSo.sig) → Buf (Elt Bits) ℓ) : Prop :=
  True

def Pre_KernelSoIdeal (m : (ℓ : Loc Cert.KernelSoIdeal.nD Cert.KernelSoIdeal.τ Cert.KernelSoIdeal.sig) → Buf (Elt Ideal) ℓ) : Prop :=
  True

def Pre_ReferenceSoIdeal (m : (ℓ : Loc Cert.ReferenceSoIdeal.nD Cert.ReferenceSoIdeal.τ Cert.ReferenceSoIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelPf (m : (ℓ : Loc Cert.KernelPf.nD Cert.KernelPf.τ Cert.KernelPf.sig) → Buf (Elt Bits) ℓ) : Prop :=
  True

def Pre_KernelPfIdeal (m : (ℓ : Loc Cert.KernelPfIdeal.nD Cert.KernelPfIdeal.τ Cert.KernelPfIdeal.sig) → Buf (Elt Ideal) ℓ) : Prop :=
  True

def Pre_ReferencePfIdeal (m : (ℓ : Loc Cert.ReferencePfIdeal.nD Cert.ReferencePfIdeal.τ Cert.ReferencePfIdeal.sig) → Buf (Elt Ideal) ℓ) : Prop :=
  True

def Pre_KernelFi (m : (ℓ : Loc Cert.KernelFi.nD Cert.KernelFi.τ Cert.KernelFi.sig) → Buf (Elt Bits) ℓ) : Prop :=
  True

def Pre_KernelFiIdeal (m : (ℓ : Loc Cert.KernelFiIdeal.nD Cert.KernelFiIdeal.τ Cert.KernelFiIdeal.sig) → Buf (Elt Ideal) ℓ) : Prop :=
  True

def Pre_ReferenceFiIdeal (m : (ℓ : Loc Cert.ReferenceFiIdeal.nD Cert.ReferenceFiIdeal.τ Cert.ReferenceFiIdeal.sig) → Buf (Elt Ideal) ℓ) : Prop :=
  True

def Pre_KernelSf (m : (ℓ : Loc Cert.KernelSf.nD Cert.KernelSf.τ Cert.KernelSf.sig) → Buf (Elt Bits) ℓ) : Prop :=
  True

def Pre_KernelSfIdeal (m : (ℓ : Loc Cert.KernelSfIdeal.nD Cert.KernelSfIdeal.τ Cert.KernelSfIdeal.sig) → Buf (Elt Ideal) ℓ) : Prop :=
  True

def Pre_ReferenceSfIdeal (m : (ℓ : Loc Cert.ReferenceSfIdeal.nD Cert.ReferenceSfIdeal.τ Cert.ReferenceSfIdeal.sig) → Buf (Elt Ideal) ℓ) : Prop :=
  True

def Pre_KernelLf (m : (ℓ : Loc Cert.KernelLf.nD Cert.KernelLf.τ Cert.KernelLf.sig) → Buf (Elt Bits) ℓ) : Prop :=
  True

def Pre_KernelLfIdeal (m : (ℓ : Loc Cert.KernelLfIdeal.nD Cert.KernelLfIdeal.τ Cert.KernelLfIdeal.sig) → Buf (Elt Ideal) ℓ) : Prop :=
  True

def Pre_ReferenceLfIdeal (m : (ℓ : Loc Cert.ReferenceLfIdeal.nD Cert.ReferenceLfIdeal.τ Cert.ReferenceLfIdeal.sig) → Buf (Elt Ideal) ℓ) : Prop :=
  True

def Pre_KernelPb (m : (ℓ : Loc Cert.KernelPb.nD Cert.KernelPb.τ Cert.KernelPb.sig) → Buf (Elt Bits) ℓ) : Prop :=
  True

def Pre_KernelPbIdeal (m : (ℓ : Loc Cert.KernelPbIdeal.nD Cert.KernelPbIdeal.τ Cert.KernelPbIdeal.sig) → Buf (Elt Ideal) ℓ) : Prop :=
  True

def Pre_KernelPbIdeal_finite_norm [hPre_finite_norm : Cert.Pre_finite_norm.Facts] (m : (ℓ : Loc Cert.KernelPbIdeal.nD Cert.KernelPbIdeal.τ Cert.KernelPbIdeal.sig) → Buf (Elt Ideal) ℓ) : Prop :=
  ∀ c : Dev Cert.KernelPbIdeal.nD,
    (Cert.Pre_finite_norm.fn (F := Ideal) (m ((c.tc : Thread Cert.KernelPbIdeal.nD Cert.KernelPbIdeal.τ).loc Cert.KernelPbIdeal.main_arg0)) (m ((c.tc : Thread Cert.KernelPbIdeal.nD Cert.KernelPbIdeal.τ).loc Cert.KernelPbIdeal.main_arg1)) (m ((c.tc : Thread Cert.KernelPbIdeal.nD Cert.KernelPbIdeal.τ).loc Cert.KernelPbIdeal.main_arg2)) (m ((c.tc : Thread Cert.KernelPbIdeal.nD Cert.KernelPbIdeal.τ).loc Cert.KernelPbIdeal.main_arg3))) = (fun _ => 1#1)

def Pre_ReferencePbIdeal (m : (ℓ : Loc Cert.ReferencePbIdeal.nD Cert.ReferencePbIdeal.τ Cert.ReferencePbIdeal.sig) → Buf (Elt Ideal) ℓ) : Prop :=
  True

def Pre_ReferencePbIdeal_finite_norm [hPre_finite_norm : Cert.Pre_finite_norm.Facts] (m : (ℓ : Loc Cert.ReferencePbIdeal.nD Cert.ReferencePbIdeal.τ Cert.ReferencePbIdeal.sig) → Buf (Elt Ideal) ℓ) : Prop :=
  ∀ c : Dev Cert.ReferencePbIdeal.nD,
    (Cert.Pre_finite_norm.fn (F := Ideal) (m ((c.tc : Thread Cert.ReferencePbIdeal.nD Cert.ReferencePbIdeal.τ).loc Cert.ReferencePbIdeal.main_arg0)) (m ((c.tc : Thread Cert.ReferencePbIdeal.nD Cert.ReferencePbIdeal.τ).loc Cert.ReferencePbIdeal.main_arg1)) (m ((c.tc : Thread Cert.ReferencePbIdeal.nD Cert.ReferencePbIdeal.τ).loc Cert.ReferencePbIdeal.main_arg2)) (m ((c.tc : Thread Cert.ReferencePbIdeal.nD Cert.ReferencePbIdeal.τ).loc Cert.ReferencePbIdeal.main_arg3))) = (fun _ => 1#1)

def Pre_KernelLb (m : (ℓ : Loc Cert.KernelLb.nD Cert.KernelLb.τ Cert.KernelLb.sig) → Buf (Elt Bits) ℓ) : Prop :=
  True

def Pre_KernelLbIdeal (m : (ℓ : Loc Cert.KernelLbIdeal.nD Cert.KernelLbIdeal.τ Cert.KernelLbIdeal.sig) → Buf (Elt Ideal) ℓ) : Prop :=
  True

def Pre_ReferenceLbIdeal (m : (ℓ : Loc Cert.ReferenceLbIdeal.nD Cert.ReferenceLbIdeal.τ Cert.ReferenceLbIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelDw [hKernelDw : Cert.KernelDw.Facts] : Prop :=
  ∀ (m : (ℓ : Loc Cert.KernelDw.nD Cert.KernelDw.τ Cert.KernelDw.sig) → Buf (Elt Bits) ℓ) (g : Dev Cert.KernelDw.nD → PrngReg), Pre_KernelDw m →
    θ_run (Cert.KernelDw.defs (F := Bits)) (onTc (τ := Cert.KernelDw.τ) (Cert.KernelDw.main (F := Bits))) ⟨m, fun _ => 0, g⟩ (fun r => (∀ c : Dev Cert.KernelDw.nD,
      r.2.mem ((c.tc : Thread Cert.KernelDw.nD Cert.KernelDw.τ).loc Cert.KernelDw.main_arg0) = m ((c.tc : Thread Cert.KernelDw.nD Cert.KernelDw.τ).loc Cert.KernelDw.main_arg0)
      ∧ r.2.mem ((c.tc : Thread Cert.KernelDw.nD Cert.KernelDw.τ).loc Cert.KernelDw.main_arg1) = m ((c.tc : Thread Cert.KernelDw.nD Cert.KernelDw.τ).loc Cert.KernelDw.main_arg1))
      ∧ r.2.sem = fun _ => 0)

def quiescent_KernelDwIdeal [hKernelDwIdeal : Cert.KernelDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg), Pre_KernelDwIdeal m →
    θ_run (Cert.KernelDwIdeal.defs (F := Ideal)) (onTc (τ := Cert.KernelDwIdeal.τ) (Cert.KernelDwIdeal.main (F := Ideal))) ⟨m, fun _ => 0, g⟩ (fun r => (∀ c : Dev Cert.KernelDwIdeal.nD,
      r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
      ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ r.2.sem = fun _ => 0)

def quiescent_ReferenceDwIdeal [hReferenceDwIdeal : Cert.ReferenceDwIdeal.Facts] : Prop :=
  ∀ (m : (ℓ : Loc Cert.ReferenceDwIdeal.nD Cert.ReferenceDwIdeal.τ Cert.ReferenceDwIdeal.sig) → Buf (Elt Ideal) ℓ) (g : Dev Cert.ReferenceDwIdeal.nD → PrngReg), Pre_ReferenceDwIdeal m →
    θ_run (Cert.ReferenceDwIdeal.defs (F := Ideal)) (onTc (τ := Cert.ReferenceDwIdeal.τ) (Cert.ReferenceDwIdeal.main (F := Ideal))) ⟨m, fun _ => 0, g⟩ (fun r => (∀ c : Dev Cert.ReferenceDwIdeal.nD,
      r.2.mem ((c.tc : Thread Cert.ReferenceDwIdeal.nD Cert.ReferenceDwIdeal.τ).loc Cert.ReferenceDwIdeal.main_arg0) = m ((c.tc : Thread Cert.ReferenceDwIdeal.nD Cert.ReferenceDwIdeal.τ).loc Cert.ReferenceDwIdeal.main_arg0)
      ∧ r.2.mem ((c.tc : Thread Cert.ReferenceDwIdeal.nD Cert.ReferenceDwIdeal.τ).loc Cert.ReferenceDwIdeal.main_arg1) = m ((c.tc : Thread Cert.ReferenceDwIdeal.nD Cert.ReferenceDwIdeal.τ).loc Cert.ReferenceDwIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelMf [hKernelMf : Cert.KernelMf.Facts] : Prop :=
  ∀ (m : (ℓ : Loc Cert.KernelMf.nD Cert.KernelMf.τ Cert.KernelMf.sig) → Buf (Elt Bits) ℓ) (g : Dev Cert.KernelMf.nD → PrngReg), Pre_KernelMf m →
    θ_run (Cert.KernelMf.defs (F := Bits)) (onTc (τ := Cert.KernelMf.τ) (Cert.KernelMf.main (F := Bits))) ⟨m, fun _ => 0, g⟩ (fun r => (∀ c : Dev Cert.KernelMf.nD,
      r.2.mem ((c.tc : Thread Cert.KernelMf.nD Cert.KernelMf.τ).loc Cert.KernelMf.main_arg0) = m ((c.tc : Thread Cert.KernelMf.nD Cert.KernelMf.τ).loc Cert.KernelMf.main_arg0)
      ∧ r.2.mem ((c.tc : Thread Cert.KernelMf.nD Cert.KernelMf.τ).loc Cert.KernelMf.main_arg1) = m ((c.tc : Thread Cert.KernelMf.nD Cert.KernelMf.τ).loc Cert.KernelMf.main_arg1)
      ∧ r.2.mem ((c.tc : Thread Cert.KernelMf.nD Cert.KernelMf.τ).loc Cert.KernelMf.main_arg2) = m ((c.tc : Thread Cert.KernelMf.nD Cert.KernelMf.τ).loc Cert.KernelMf.main_arg2)
      ∧ r.2.mem ((c.tc : Thread Cert.KernelMf.nD Cert.KernelMf.τ).loc Cert.KernelMf.main_arg3) = m ((c.tc : Thread Cert.KernelMf.nD Cert.KernelMf.τ).loc Cert.KernelMf.main_arg3)
      ∧ r.2.mem ((c.tc : Thread Cert.KernelMf.nD Cert.KernelMf.τ).loc Cert.KernelMf.main_arg4) = m ((c.tc : Thread Cert.KernelMf.nD Cert.KernelMf.τ).loc Cert.KernelMf.main_arg4))
      ∧ r.2.sem = fun _ => 0)

def quiescent_KernelMfIdeal [hKernelMfIdeal : Cert.KernelMfIdeal.Facts] : Prop :=
  ∀ (m : (ℓ : Loc Cert.KernelMfIdeal.nD Cert.KernelMfIdeal.τ Cert.KernelMfIdeal.sig) → Buf (Elt Ideal) ℓ) (g : Dev Cert.KernelMfIdeal.nD → PrngReg), Pre_KernelMfIdeal m →
    θ_run (Cert.KernelMfIdeal.defs (F := Ideal)) (onTc (τ := Cert.KernelMfIdeal.τ) (Cert.KernelMfIdeal.main (F := Ideal))) ⟨m, fun _ => 0, g⟩ (fun r => (∀ c : Dev Cert.KernelMfIdeal.nD,
      r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
      ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
      ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
      ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
      ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4))
      ∧ r.2.sem = fun _ => 0)

def quiescent_ReferenceMfIdeal [hReferenceMfIdeal : Cert.ReferenceMfIdeal.Facts] : Prop :=
  ∀ (m : (ℓ : Loc Cert.ReferenceMfIdeal.nD Cert.ReferenceMfIdeal.τ Cert.ReferenceMfIdeal.sig) → Buf (Elt Ideal) ℓ) (g : Dev Cert.ReferenceMfIdeal.nD → PrngReg), Pre_ReferenceMfIdeal m →
    θ_run (Cert.ReferenceMfIdeal.defs (F := Ideal)) (onTc (τ := Cert.ReferenceMfIdeal.τ) (Cert.ReferenceMfIdeal.main (F := Ideal))) ⟨m, fun _ => 0, g⟩ (fun r => (∀ c : Dev Cert.ReferenceMfIdeal.nD,
      r.2.mem ((c.tc : Thread Cert.ReferenceMfIdeal.nD Cert.ReferenceMfIdeal.τ).loc Cert.ReferenceMfIdeal.main_arg0) = m ((c.tc : Thread Cert.ReferenceMfIdeal.nD Cert.ReferenceMfIdeal.τ).loc Cert.ReferenceMfIdeal.main_arg0)
      ∧ r.2.mem ((c.tc : Thread Cert.ReferenceMfIdeal.nD Cert.ReferenceMfIdeal.τ).loc Cert.ReferenceMfIdeal.main_arg1) = m ((c.tc : Thread Cert.ReferenceMfIdeal.nD Cert.ReferenceMfIdeal.τ).loc Cert.ReferenceMfIdeal.main_arg1)
      ∧ r.2.mem ((c.tc : Thread Cert.ReferenceMfIdeal.nD Cert.ReferenceMfIdeal.τ).loc Cert.ReferenceMfIdeal.main_arg2) = m ((c.tc : Thread Cert.ReferenceMfIdeal.nD Cert.ReferenceMfIdeal.τ).loc Cert.ReferenceMfIdeal.main_arg2)
      ∧ r.2.mem ((c.tc : Thread Cert.ReferenceMfIdeal.nD Cert.ReferenceMfIdeal.τ).loc Cert.ReferenceMfIdeal.main_arg3) = m ((c.tc : Thread Cert.ReferenceMfIdeal.nD Cert.ReferenceMfIdeal.τ).loc Cert.ReferenceMfIdeal.main_arg3)
      ∧ r.2.mem ((c.tc : Thread Cert.ReferenceMfIdeal.nD Cert.ReferenceMfIdeal.τ).loc Cert.ReferenceMfIdeal.main_arg4) = m ((c.tc : Thread Cert.ReferenceMfIdeal.nD Cert.ReferenceMfIdeal.τ).loc Cert.ReferenceMfIdeal.main_arg4))
      ∧ r.2.sem = fun _ => 0)

def quiescent_KernelMb [hKernelMb : Cert.KernelMb.Facts] : Prop :=
  ∀ (m : (ℓ : Loc Cert.KernelMb.nD Cert.KernelMb.τ Cert.KernelMb.sig) → Buf (Elt Bits) ℓ) (g : Dev Cert.KernelMb.nD → PrngReg), Pre_KernelMb m →
    θ_run (Cert.KernelMb.defs (F := Bits)) (onTc (τ := Cert.KernelMb.τ) (Cert.KernelMb.main (F := Bits))) ⟨m, fun _ => 0, g⟩ (fun r => (∀ c : Dev Cert.KernelMb.nD,
      r.2.mem ((c.tc : Thread Cert.KernelMb.nD Cert.KernelMb.τ).loc Cert.KernelMb.main_arg0) = m ((c.tc : Thread Cert.KernelMb.nD Cert.KernelMb.τ).loc Cert.KernelMb.main_arg0)
      ∧ r.2.mem ((c.tc : Thread Cert.KernelMb.nD Cert.KernelMb.τ).loc Cert.KernelMb.main_arg1) = m ((c.tc : Thread Cert.KernelMb.nD Cert.KernelMb.τ).loc Cert.KernelMb.main_arg1)
      ∧ r.2.mem ((c.tc : Thread Cert.KernelMb.nD Cert.KernelMb.τ).loc Cert.KernelMb.main_arg2) = m ((c.tc : Thread Cert.KernelMb.nD Cert.KernelMb.τ).loc Cert.KernelMb.main_arg2)
      ∧ r.2.mem ((c.tc : Thread Cert.KernelMb.nD Cert.KernelMb.τ).loc Cert.KernelMb.main_arg3) = m ((c.tc : Thread Cert.KernelMb.nD Cert.KernelMb.τ).loc Cert.KernelMb.main_arg3)
      ∧ r.2.mem ((c.tc : Thread Cert.KernelMb.nD Cert.KernelMb.τ).loc Cert.KernelMb.main_arg4) = m ((c.tc : Thread Cert.KernelMb.nD Cert.KernelMb.τ).loc Cert.KernelMb.main_arg4))
      ∧ r.2.sem = fun _ => 0)

def quiescent_KernelMbIdeal [hKernelMbIdeal : Cert.KernelMbIdeal.Facts] : Prop :=
  ∀ (m : (ℓ : Loc Cert.KernelMbIdeal.nD Cert.KernelMbIdeal.τ Cert.KernelMbIdeal.sig) → Buf (Elt Ideal) ℓ) (g : Dev Cert.KernelMbIdeal.nD → PrngReg), Pre_KernelMbIdeal m →
    θ_run (Cert.KernelMbIdeal.defs (F := Ideal)) (onTc (τ := Cert.KernelMbIdeal.τ) (Cert.KernelMbIdeal.main (F := Ideal))) ⟨m, fun _ => 0, g⟩ (fun r => (∀ c : Dev Cert.KernelMbIdeal.nD,
      r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
      ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
      ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
      ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
      ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
      ∧ r.2.sem = fun _ => 0)

def quiescent_ReferenceMbIdeal [hReferenceMbIdeal : Cert.ReferenceMbIdeal.Facts] : Prop :=
  ∀ (m : (ℓ : Loc Cert.ReferenceMbIdeal.nD Cert.ReferenceMbIdeal.τ Cert.ReferenceMbIdeal.sig) → Buf (Elt Ideal) ℓ) (g : Dev Cert.ReferenceMbIdeal.nD → PrngReg), Pre_ReferenceMbIdeal m →
    θ_run (Cert.ReferenceMbIdeal.defs (F := Ideal)) (onTc (τ := Cert.ReferenceMbIdeal.τ) (Cert.ReferenceMbIdeal.main (F := Ideal))) ⟨m, fun _ => 0, g⟩ (fun r => (∀ c : Dev Cert.ReferenceMbIdeal.nD,
      r.2.mem ((c.tc : Thread Cert.ReferenceMbIdeal.nD Cert.ReferenceMbIdeal.τ).loc Cert.ReferenceMbIdeal.main_arg0) = m ((c.tc : Thread Cert.ReferenceMbIdeal.nD Cert.ReferenceMbIdeal.τ).loc Cert.ReferenceMbIdeal.main_arg0)
      ∧ r.2.mem ((c.tc : Thread Cert.ReferenceMbIdeal.nD Cert.ReferenceMbIdeal.τ).loc Cert.ReferenceMbIdeal.main_arg1) = m ((c.tc : Thread Cert.ReferenceMbIdeal.nD Cert.ReferenceMbIdeal.τ).loc Cert.ReferenceMbIdeal.main_arg1)
      ∧ r.2.mem ((c.tc : Thread Cert.ReferenceMbIdeal.nD Cert.ReferenceMbIdeal.τ).loc Cert.ReferenceMbIdeal.main_arg2) = m ((c.tc : Thread Cert.ReferenceMbIdeal.nD Cert.ReferenceMbIdeal.τ).loc Cert.ReferenceMbIdeal.main_arg2)
      ∧ r.2.mem ((c.tc : Thread Cert.ReferenceMbIdeal.nD Cert.ReferenceMbIdeal.τ).loc Cert.ReferenceMbIdeal.main_arg3) = m ((c.tc : Thread Cert.ReferenceMbIdeal.nD Cert.ReferenceMbIdeal.τ).loc Cert.ReferenceMbIdeal.main_arg3)
      ∧ r.2.mem ((c.tc : Thread Cert.ReferenceMbIdeal.nD Cert.ReferenceMbIdeal.τ).loc Cert.ReferenceMbIdeal.main_arg4) = m ((c.tc : Thread Cert.ReferenceMbIdeal.nD Cert.ReferenceMbIdeal.τ).loc Cert.ReferenceMbIdeal.main_arg4))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1))
      ∧ r.2.sem = fun _ => 0)

def quiescent_KernelSu [hKernelSu : Cert.KernelSu.Facts] : Prop :=
  ∀ (m : (ℓ : Loc Cert.KernelSu.nD Cert.KernelSu.τ Cert.KernelSu.sig) → Buf (Elt Bits) ℓ) (g : Dev Cert.KernelSu.nD → PrngReg), Pre_KernelSu m →
    θ_run (Cert.KernelSu.defs (F := Bits)) (onTc (τ := Cert.KernelSu.τ) (Cert.KernelSu.main (F := Bits))) ⟨m, fun _ => 0, g⟩ (fun r => (∀ c : Dev Cert.KernelSu.nD,
      r.2.mem ((c.tc : Thread Cert.KernelSu.nD Cert.KernelSu.τ).loc Cert.KernelSu.main_arg0) = m ((c.tc : Thread Cert.KernelSu.nD Cert.KernelSu.τ).loc Cert.KernelSu.main_arg0)
      ∧ r.2.mem ((c.tc : Thread Cert.KernelSu.nD Cert.KernelSu.τ).loc Cert.KernelSu.main_arg1) = m ((c.tc : Thread Cert.KernelSu.nD Cert.KernelSu.τ).loc Cert.KernelSu.main_arg1))
      ∧ r.2.sem = fun _ => 0)

def quiescent_KernelSuIdeal [hKernelSuIdeal : Cert.KernelSuIdeal.Facts] : Prop :=
  ∀ (m : (ℓ : Loc Cert.KernelSuIdeal.nD Cert.KernelSuIdeal.τ Cert.KernelSuIdeal.sig) → Buf (Elt Ideal) ℓ) (g : Dev Cert.KernelSuIdeal.nD → PrngReg), Pre_KernelSuIdeal m →
    θ_run (Cert.KernelSuIdeal.defs (F := Ideal)) (onTc (τ := Cert.KernelSuIdeal.τ) (Cert.KernelSuIdeal.main (F := Ideal))) ⟨m, fun _ => 0, g⟩ (fun r => (∀ c : Dev Cert.KernelSuIdeal.nD,
      r.2.mem ((c.tc : Thread Cert.KernelSuIdeal.nD Cert.KernelSuIdeal.τ).loc Cert.KernelSuIdeal.main_arg0) = m ((c.tc : Thread Cert.KernelSuIdeal.nD Cert.KernelSuIdeal.τ).loc Cert.KernelSuIdeal.main_arg0)
      ∧ r.2.mem ((c.tc : Thread Cert.KernelSuIdeal.nD Cert.KernelSuIdeal.τ).loc Cert.KernelSuIdeal.main_arg1) = m ((c.tc : Thread Cert.KernelSuIdeal.nD Cert.KernelSuIdeal.τ).loc Cert.KernelSuIdeal.main_arg1))
      ∧ r.2.sem = fun _ => 0)

def quiescent_ReferenceSuIdeal [hReferenceSuIdeal : Cert.ReferenceSuIdeal.Facts] : Prop :=
  ∀ (m : (ℓ : Loc Cert.ReferenceSuIdeal.nD Cert.ReferenceSuIdeal.τ Cert.ReferenceSuIdeal.sig) → Buf (Elt Ideal) ℓ) (g : Dev Cert.ReferenceSuIdeal.nD → PrngReg), Pre_ReferenceSuIdeal m →
    θ_run (Cert.ReferenceSuIdeal.defs (F := Ideal)) (onTc (τ := Cert.ReferenceSuIdeal.τ) (Cert.ReferenceSuIdeal.main (F := Ideal))) ⟨m, fun _ => 0, g⟩ (fun r => (∀ c : Dev Cert.ReferenceSuIdeal.nD,
      r.2.mem ((c.tc : Thread Cert.ReferenceSuIdeal.nD Cert.ReferenceSuIdeal.τ).loc Cert.ReferenceSuIdeal.main_arg0) = m ((c.tc : Thread Cert.ReferenceSuIdeal.nD Cert.ReferenceSuIdeal.τ).loc Cert.ReferenceSuIdeal.main_arg0)
      ∧ r.2.mem ((c.tc : Thread Cert.ReferenceSuIdeal.nD Cert.ReferenceSuIdeal.τ).loc Cert.ReferenceSuIdeal.main_arg1) = m ((c.tc : Thread Cert.ReferenceSuIdeal.nD Cert.ReferenceSuIdeal.τ).loc Cert.ReferenceSuIdeal.main_arg1))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0)

def quiescent_KernelSo [hKernelSo : Cert.KernelSo.Facts] : Prop :=
  ∀ (m : (ℓ : Loc Cert.KernelSo.nD Cert.KernelSo.τ Cert.KernelSo.sig) → Buf (Elt Bits) ℓ) (g : Dev Cert.KernelSo.nD → PrngReg), Pre_KernelSo m →
    θ_run (Cert.KernelSo.defs (F := Bits)) (onTc (τ := Cert.KernelSo.τ) (Cert.KernelSo.main (F := Bits))) ⟨m, fun _ => 0, g⟩ (fun r => (∀ c : Dev Cert.KernelSo.nD,
      r.2.mem ((c.tc : Thread Cert.KernelSo.nD Cert.KernelSo.τ).loc Cert.KernelSo.main_arg0) = m ((c.tc : Thread Cert.KernelSo.nD Cert.KernelSo.τ).loc Cert.KernelSo.main_arg0)
      ∧ r.2.mem ((c.tc : Thread Cert.KernelSo.nD Cert.KernelSo.τ).loc Cert.KernelSo.main_arg1) = m ((c.tc : Thread Cert.KernelSo.nD Cert.KernelSo.τ).loc Cert.KernelSo.main_arg1))
      ∧ r.2.sem = fun _ => 0)

def quiescent_KernelSoIdeal [hKernelSoIdeal : Cert.KernelSoIdeal.Facts] : Prop :=
  ∀ (m : (ℓ : Loc Cert.KernelSoIdeal.nD Cert.KernelSoIdeal.τ Cert.KernelSoIdeal.sig) → Buf (Elt Ideal) ℓ) (g : Dev Cert.KernelSoIdeal.nD → PrngReg), Pre_KernelSoIdeal m →
    θ_run (Cert.KernelSoIdeal.defs (F := Ideal)) (onTc (τ := Cert.KernelSoIdeal.τ) (Cert.KernelSoIdeal.main (F := Ideal))) ⟨m, fun _ => 0, g⟩ (fun r => (∀ c : Dev Cert.KernelSoIdeal.nD,
      r.2.mem ((c.tc : Thread Cert.KernelSoIdeal.nD Cert.KernelSoIdeal.τ).loc Cert.KernelSoIdeal.main_arg0) = m ((c.tc : Thread Cert.KernelSoIdeal.nD Cert.KernelSoIdeal.τ).loc Cert.KernelSoIdeal.main_arg0)
      ∧ r.2.mem ((c.tc : Thread Cert.KernelSoIdeal.nD Cert.KernelSoIdeal.τ).loc Cert.KernelSoIdeal.main_arg1) = m ((c.tc : Thread Cert.KernelSoIdeal.nD Cert.KernelSoIdeal.τ).loc Cert.KernelSoIdeal.main_arg1))
      ∧ r.2.sem = fun _ => 0)

def quiescent_ReferenceSoIdeal [hReferenceSoIdeal : Cert.ReferenceSoIdeal.Facts] : Prop :=
  ∀ (m : (ℓ : Loc Cert.ReferenceSoIdeal.nD Cert.ReferenceSoIdeal.τ Cert.ReferenceSoIdeal.sig) → Buf (Elt Ideal) ℓ) (g : Dev Cert.ReferenceSoIdeal.nD → PrngReg), Pre_ReferenceSoIdeal m →
    θ_run (Cert.ReferenceSoIdeal.defs (F := Ideal)) (onTc (τ := Cert.ReferenceSoIdeal.τ) (Cert.ReferenceSoIdeal.main (F := Ideal))) ⟨m, fun _ => 0, g⟩ (fun r => (∀ c : Dev Cert.ReferenceSoIdeal.nD,
      r.2.mem ((c.tc : Thread Cert.ReferenceSoIdeal.nD Cert.ReferenceSoIdeal.τ).loc Cert.ReferenceSoIdeal.main_arg0) = m ((c.tc : Thread Cert.ReferenceSoIdeal.nD Cert.ReferenceSoIdeal.τ).loc Cert.ReferenceSoIdeal.main_arg0)
      ∧ r.2.mem ((c.tc : Thread Cert.ReferenceSoIdeal.nD Cert.ReferenceSoIdeal.τ).loc Cert.ReferenceSoIdeal.main_arg1) = m ((c.tc : Thread Cert.ReferenceSoIdeal.nD Cert.ReferenceSoIdeal.τ).loc Cert.ReferenceSoIdeal.main_arg1))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelPf [hKernelPf : Cert.KernelPf.Facts] : Prop :=
  ∀ (m : (ℓ : Loc Cert.KernelPf.nD Cert.KernelPf.τ Cert.KernelPf.sig) → Buf (Elt Bits) ℓ) (g : Dev Cert.KernelPf.nD → PrngReg), Pre_KernelPf m →
    θ_run (Cert.KernelPf.defs (F := Bits)) (onTc (τ := Cert.KernelPf.τ) (Cert.KernelPf.main (F := Bits))) ⟨m, fun _ => 0, g⟩ (fun r => (∀ c : Dev Cert.KernelPf.nD,
      r.2.mem ((c.tc : Thread Cert.KernelPf.nD Cert.KernelPf.τ).loc Cert.KernelPf.main_arg0) = m ((c.tc : Thread Cert.KernelPf.nD Cert.KernelPf.τ).loc Cert.KernelPf.main_arg0)
      ∧ r.2.mem ((c.tc : Thread Cert.KernelPf.nD Cert.KernelPf.τ).loc Cert.KernelPf.main_arg1) = m ((c.tc : Thread Cert.KernelPf.nD Cert.KernelPf.τ).loc Cert.KernelPf.main_arg1)
      ∧ r.2.mem ((c.tc : Thread Cert.KernelPf.nD Cert.KernelPf.τ).loc Cert.KernelPf.main_arg2) = m ((c.tc : Thread Cert.KernelPf.nD Cert.KernelPf.τ).loc Cert.KernelPf.main_arg2))
      ∧ r.2.sem = fun _ => 0)

def quiescent_KernelPfIdeal [hKernelPfIdeal : Cert.KernelPfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg), Pre_KernelPfIdeal m →
    θ_run (Cert.KernelPfIdeal.defs (F := Ideal)) (onTc (τ := Cert.KernelPfIdeal.τ) (Cert.KernelPfIdeal.main (F := Ideal))) ⟨m, fun _ => 0, g⟩ (fun r => (∀ c : Dev Cert.KernelPfIdeal.nD,
      r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
      ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1)
      ∧ r.2.mem ((c.tc : Thread Cert.KernelPfIdeal.nD Cert.KernelPfIdeal.τ).loc Cert.KernelPfIdeal.main_arg2) = m ((c.tc : Thread Cert.KernelPfIdeal.nD Cert.KernelPfIdeal.τ).loc Cert.KernelPfIdeal.main_arg2))
      ∧ r.2.sem = fun _ => 0)

def quiescent_ReferencePfIdeal [hReferencePfIdeal : Cert.ReferencePfIdeal.Facts] : Prop :=
  ∀ (m : (ℓ : Loc Cert.ReferencePfIdeal.nD Cert.ReferencePfIdeal.τ Cert.ReferencePfIdeal.sig) → Buf (Elt Ideal) ℓ) (g : Dev Cert.ReferencePfIdeal.nD → PrngReg), Pre_ReferencePfIdeal m →
    θ_run (Cert.ReferencePfIdeal.defs (F := Ideal)) (onTc (τ := Cert.ReferencePfIdeal.τ) (Cert.ReferencePfIdeal.main (F := Ideal))) ⟨m, fun _ => 0, g⟩ (fun r => (∀ c : Dev Cert.ReferencePfIdeal.nD,
      r.2.mem ((c.tc : Thread Cert.ReferencePfIdeal.nD Cert.ReferencePfIdeal.τ).loc Cert.ReferencePfIdeal.main_arg0) = m ((c.tc : Thread Cert.ReferencePfIdeal.nD Cert.ReferencePfIdeal.τ).loc Cert.ReferencePfIdeal.main_arg0)
      ∧ r.2.mem ((c.tc : Thread Cert.ReferencePfIdeal.nD Cert.ReferencePfIdeal.τ).loc Cert.ReferencePfIdeal.main_arg1) = m ((c.tc : Thread Cert.ReferencePfIdeal.nD Cert.ReferencePfIdeal.τ).loc Cert.ReferencePfIdeal.main_arg1)
      ∧ r.2.mem ((c.tc : Thread Cert.ReferencePfIdeal.nD Cert.ReferencePfIdeal.τ).loc Cert.ReferencePfIdeal.main_arg2) = m ((c.tc : Thread Cert.ReferencePfIdeal.nD Cert.ReferencePfIdeal.τ).loc Cert.ReferencePfIdeal.main_arg2))
      ∧ r.2.sem = fun _ => 0)

def quiescent_KernelFi [hKernelFi : Cert.KernelFi.Facts] : Prop :=
  ∀ (m : (ℓ : Loc Cert.KernelFi.nD Cert.KernelFi.τ Cert.KernelFi.sig) → Buf (Elt Bits) ℓ) (g : Dev Cert.KernelFi.nD → PrngReg), Pre_KernelFi m →
    θ_run (Cert.KernelFi.defs (F := Bits)) (onTc (τ := Cert.KernelFi.τ) (Cert.KernelFi.main (F := Bits))) ⟨m, fun _ => 0, g⟩ (fun r => (∀ c : Dev Cert.KernelFi.nD,
      r.2.mem ((c.tc : Thread Cert.KernelFi.nD Cert.KernelFi.τ).loc Cert.KernelFi.main_arg0) = m ((c.tc : Thread Cert.KernelFi.nD Cert.KernelFi.τ).loc Cert.KernelFi.main_arg0)
      ∧ r.2.mem ((c.tc : Thread Cert.KernelFi.nD Cert.KernelFi.τ).loc Cert.KernelFi.main_arg1) = m ((c.tc : Thread Cert.KernelFi.nD Cert.KernelFi.τ).loc Cert.KernelFi.main_arg1)
      ∧ r.2.mem ((c.tc : Thread Cert.KernelFi.nD Cert.KernelFi.τ).loc Cert.KernelFi.main_arg2) = m ((c.tc : Thread Cert.KernelFi.nD Cert.KernelFi.τ).loc Cert.KernelFi.main_arg2)
      ∧ r.2.mem ((c.tc : Thread Cert.KernelFi.nD Cert.KernelFi.τ).loc Cert.KernelFi.main_arg3) = m ((c.tc : Thread Cert.KernelFi.nD Cert.KernelFi.τ).loc Cert.KernelFi.main_arg3)
      ∧ r.2.mem ((c.tc : Thread Cert.KernelFi.nD Cert.KernelFi.τ).loc Cert.KernelFi.main_arg4) = m ((c.tc : Thread Cert.KernelFi.nD Cert.KernelFi.τ).loc Cert.KernelFi.main_arg4))
      ∧ r.2.sem = fun _ => 0)

def quiescent_KernelFiIdeal [hKernelFiIdeal : Cert.KernelFiIdeal.Facts] : Prop :=
  ∀ (m : (ℓ : Loc Cert.KernelFiIdeal.nD Cert.KernelFiIdeal.τ Cert.KernelFiIdeal.sig) → Buf (Elt Ideal) ℓ) (g : Dev Cert.KernelFiIdeal.nD → PrngReg), Pre_KernelFiIdeal m →
    θ_run (Cert.KernelFiIdeal.defs (F := Ideal)) (onTc (τ := Cert.KernelFiIdeal.τ) (Cert.KernelFiIdeal.main (F := Ideal))) ⟨m, fun _ => 0, g⟩ (fun r => (∀ c : Dev Cert.KernelFiIdeal.nD,
      r.2.mem ((c.tc : Thread Cert.KernelFiIdeal.nD Cert.KernelFiIdeal.τ).loc Cert.KernelFiIdeal.main_arg0) = m ((c.tc : Thread Cert.KernelFiIdeal.nD Cert.KernelFiIdeal.τ).loc Cert.KernelFiIdeal.main_arg0)
      ∧ r.2.mem ((c.tc : Thread Cert.KernelFiIdeal.nD Cert.KernelFiIdeal.τ).loc Cert.KernelFiIdeal.main_arg1) = m ((c.tc : Thread Cert.KernelFiIdeal.nD Cert.KernelFiIdeal.τ).loc Cert.KernelFiIdeal.main_arg1)
      ∧ r.2.mem ((c.tc : Thread Cert.KernelFiIdeal.nD Cert.KernelFiIdeal.τ).loc Cert.KernelFiIdeal.main_arg2) = m ((c.tc : Thread Cert.KernelFiIdeal.nD Cert.KernelFiIdeal.τ).loc Cert.KernelFiIdeal.main_arg2)
      ∧ r.2.mem ((c.tc : Thread Cert.KernelFiIdeal.nD Cert.KernelFiIdeal.τ).loc Cert.KernelFiIdeal.main_arg3) = m ((c.tc : Thread Cert.KernelFiIdeal.nD Cert.KernelFiIdeal.τ).loc Cert.KernelFiIdeal.main_arg3)
      ∧ r.2.mem ((c.tc : Thread Cert.KernelFiIdeal.nD Cert.KernelFiIdeal.τ).loc Cert.KernelFiIdeal.main_arg4) = m ((c.tc : Thread Cert.KernelFiIdeal.nD Cert.KernelFiIdeal.τ).loc Cert.KernelFiIdeal.main_arg4))
      ∧ r.2.sem = fun _ => 0)

def quiescent_ReferenceFiIdeal [hReferenceFiIdeal : Cert.ReferenceFiIdeal.Facts] : Prop :=
  ∀ (m : (ℓ : Loc Cert.ReferenceFiIdeal.nD Cert.ReferenceFiIdeal.τ Cert.ReferenceFiIdeal.sig) → Buf (Elt Ideal) ℓ) (g : Dev Cert.ReferenceFiIdeal.nD → PrngReg), Pre_ReferenceFiIdeal m →
    θ_run (Cert.ReferenceFiIdeal.defs (F := Ideal)) (onTc (τ := Cert.ReferenceFiIdeal.τ) (Cert.ReferenceFiIdeal.main (F := Ideal))) ⟨m, fun _ => 0, g⟩ (fun r => (∀ c : Dev Cert.ReferenceFiIdeal.nD,
      r.2.mem ((c.tc : Thread Cert.ReferenceFiIdeal.nD Cert.ReferenceFiIdeal.τ).loc Cert.ReferenceFiIdeal.main_arg0) = m ((c.tc : Thread Cert.ReferenceFiIdeal.nD Cert.ReferenceFiIdeal.τ).loc Cert.ReferenceFiIdeal.main_arg0)
      ∧ r.2.mem ((c.tc : Thread Cert.ReferenceFiIdeal.nD Cert.ReferenceFiIdeal.τ).loc Cert.ReferenceFiIdeal.main_arg1) = m ((c.tc : Thread Cert.ReferenceFiIdeal.nD Cert.ReferenceFiIdeal.τ).loc Cert.ReferenceFiIdeal.main_arg1)
      ∧ r.2.mem ((c.tc : Thread Cert.ReferenceFiIdeal.nD Cert.ReferenceFiIdeal.τ).loc Cert.ReferenceFiIdeal.main_arg2) = m ((c.tc : Thread Cert.ReferenceFiIdeal.nD Cert.ReferenceFiIdeal.τ).loc Cert.ReferenceFiIdeal.main_arg2)
      ∧ r.2.mem ((c.tc : Thread Cert.ReferenceFiIdeal.nD Cert.ReferenceFiIdeal.τ).loc Cert.ReferenceFiIdeal.main_arg3) = m ((c.tc : Thread Cert.ReferenceFiIdeal.nD Cert.ReferenceFiIdeal.τ).loc Cert.ReferenceFiIdeal.main_arg3)
      ∧ r.2.mem ((c.tc : Thread Cert.ReferenceFiIdeal.nD Cert.ReferenceFiIdeal.τ).loc Cert.ReferenceFiIdeal.main_arg4) = m ((c.tc : Thread Cert.ReferenceFiIdeal.nD Cert.ReferenceFiIdeal.τ).loc Cert.ReferenceFiIdeal.main_arg4))
      ∧ r.2.sem = fun _ => 0)

def quiescent_KernelSf [hKernelSf : Cert.KernelSf.Facts] : Prop :=
  ∀ (m : (ℓ : Loc Cert.KernelSf.nD Cert.KernelSf.τ Cert.KernelSf.sig) → Buf (Elt Bits) ℓ) (g : Dev Cert.KernelSf.nD → PrngReg), Pre_KernelSf m →
    θ_run (Cert.KernelSf.defs (F := Bits)) (onTc (τ := Cert.KernelSf.τ) (Cert.KernelSf.main (F := Bits))) ⟨m, fun _ => 0, g⟩ (fun r => (∀ c : Dev Cert.KernelSf.nD,
      r.2.mem ((c.tc : Thread Cert.KernelSf.nD Cert.KernelSf.τ).loc Cert.KernelSf.main_arg0) = m ((c.tc : Thread Cert.KernelSf.nD Cert.KernelSf.τ).loc Cert.KernelSf.main_arg0)
      ∧ r.2.mem ((c.tc : Thread Cert.KernelSf.nD Cert.KernelSf.τ).loc Cert.KernelSf.main_arg1) = m ((c.tc : Thread Cert.KernelSf.nD Cert.KernelSf.τ).loc Cert.KernelSf.main_arg1)
      ∧ r.2.mem ((c.tc : Thread Cert.KernelSf.nD Cert.KernelSf.τ).loc Cert.KernelSf.main_arg2) = m ((c.tc : Thread Cert.KernelSf.nD Cert.KernelSf.τ).loc Cert.KernelSf.main_arg2)
      ∧ r.2.mem ((c.tc : Thread Cert.KernelSf.nD Cert.KernelSf.τ).loc Cert.KernelSf.main_arg3) = m ((c.tc : Thread Cert.KernelSf.nD Cert.KernelSf.τ).loc Cert.KernelSf.main_arg3))
      ∧ r.2.sem = fun _ => 0)

def quiescent_KernelSfIdeal [hKernelSfIdeal : Cert.KernelSfIdeal.Facts] : Prop :=
  ∀ (m : (ℓ : Loc Cert.KernelSfIdeal.nD Cert.KernelSfIdeal.τ Cert.KernelSfIdeal.sig) → Buf (Elt Ideal) ℓ) (g : Dev Cert.KernelSfIdeal.nD → PrngReg), Pre_KernelSfIdeal m →
    θ_run (Cert.KernelSfIdeal.defs (F := Ideal)) (onTc (τ := Cert.KernelSfIdeal.τ) (Cert.KernelSfIdeal.main (F := Ideal))) ⟨m, fun _ => 0, g⟩ (fun r => (∀ c : Dev Cert.KernelSfIdeal.nD,
      r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
      ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
      ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
      ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3))
      ∧ r.2.sem = fun _ => 0)

def quiescent_ReferenceSfIdeal [hReferenceSfIdeal : Cert.ReferenceSfIdeal.Facts] : Prop :=
  ∀ (m : (ℓ : Loc Cert.ReferenceSfIdeal.nD Cert.ReferenceSfIdeal.τ Cert.ReferenceSfIdeal.sig) → Buf (Elt Ideal) ℓ) (g : Dev Cert.ReferenceSfIdeal.nD → PrngReg), Pre_ReferenceSfIdeal m →
    θ_run (Cert.ReferenceSfIdeal.defs (F := Ideal)) (onTc (τ := Cert.ReferenceSfIdeal.τ) (Cert.ReferenceSfIdeal.main (F := Ideal))) ⟨m, fun _ => 0, g⟩ (fun r => (∀ c : Dev Cert.ReferenceSfIdeal.nD,
      r.2.mem ((c.tc : Thread Cert.ReferenceSfIdeal.nD Cert.ReferenceSfIdeal.τ).loc Cert.ReferenceSfIdeal.main_arg0) = m ((c.tc : Thread Cert.ReferenceSfIdeal.nD Cert.ReferenceSfIdeal.τ).loc Cert.ReferenceSfIdeal.main_arg0)
      ∧ r.2.mem ((c.tc : Thread Cert.ReferenceSfIdeal.nD Cert.ReferenceSfIdeal.τ).loc Cert.ReferenceSfIdeal.main_arg1) = m ((c.tc : Thread Cert.ReferenceSfIdeal.nD Cert.ReferenceSfIdeal.τ).loc Cert.ReferenceSfIdeal.main_arg1)
      ∧ r.2.mem ((c.tc : Thread Cert.ReferenceSfIdeal.nD Cert.ReferenceSfIdeal.τ).loc Cert.ReferenceSfIdeal.main_arg2) = m ((c.tc : Thread Cert.ReferenceSfIdeal.nD Cert.ReferenceSfIdeal.τ).loc Cert.ReferenceSfIdeal.main_arg2)
      ∧ r.2.mem ((c.tc : Thread Cert.ReferenceSfIdeal.nD Cert.ReferenceSfIdeal.τ).loc Cert.ReferenceSfIdeal.main_arg3) = m ((c.tc : Thread Cert.ReferenceSfIdeal.nD Cert.ReferenceSfIdeal.τ).loc Cert.ReferenceSfIdeal.main_arg3))
      ∧ r.2.sem = fun _ => 0)

def quiescent_KernelLf [hKernelLf : Cert.KernelLf.Facts] : Prop :=
  ∀ (m : (ℓ : Loc Cert.KernelLf.nD Cert.KernelLf.τ Cert.KernelLf.sig) → Buf (Elt Bits) ℓ) (g : Dev Cert.KernelLf.nD → PrngReg), Pre_KernelLf m →
    θ_run (Cert.KernelLf.defs (F := Bits)) (onTc (τ := Cert.KernelLf.τ) (Cert.KernelLf.main (F := Bits))) ⟨m, fun _ => 0, g⟩ (fun r => (∀ c : Dev Cert.KernelLf.nD,
      r.2.mem ((c.tc : Thread Cert.KernelLf.nD Cert.KernelLf.τ).loc Cert.KernelLf.main_arg0) = m ((c.tc : Thread Cert.KernelLf.nD Cert.KernelLf.τ).loc Cert.KernelLf.main_arg0)
      ∧ r.2.mem ((c.tc : Thread Cert.KernelLf.nD Cert.KernelLf.τ).loc Cert.KernelLf.main_arg1) = m ((c.tc : Thread Cert.KernelLf.nD Cert.KernelLf.τ).loc Cert.KernelLf.main_arg1))
      ∧ r.2.sem = fun _ => 0)

def quiescent_KernelLfIdeal [hKernelLfIdeal : Cert.KernelLfIdeal.Facts] : Prop :=
  ∀ (m : (ℓ : Loc Cert.KernelLfIdeal.nD Cert.KernelLfIdeal.τ Cert.KernelLfIdeal.sig) → Buf (Elt Ideal) ℓ) (g : Dev Cert.KernelLfIdeal.nD → PrngReg), Pre_KernelLfIdeal m →
    θ_run (Cert.KernelLfIdeal.defs (F := Ideal)) (onTc (τ := Cert.KernelLfIdeal.τ) (Cert.KernelLfIdeal.main (F := Ideal))) ⟨m, fun _ => 0, g⟩ (fun r => (∀ c : Dev Cert.KernelLfIdeal.nD,
      r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
      ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1))
      ∧ r.2.sem = fun _ => 0)

def quiescent_ReferenceLfIdeal [hReferenceLfIdeal : Cert.ReferenceLfIdeal.Facts] : Prop :=
  ∀ (m : (ℓ : Loc Cert.ReferenceLfIdeal.nD Cert.ReferenceLfIdeal.τ Cert.ReferenceLfIdeal.sig) → Buf (Elt Ideal) ℓ) (g : Dev Cert.ReferenceLfIdeal.nD → PrngReg), Pre_ReferenceLfIdeal m →
    θ_run (Cert.ReferenceLfIdeal.defs (F := Ideal)) (onTc (τ := Cert.ReferenceLfIdeal.τ) (Cert.ReferenceLfIdeal.main (F := Ideal))) ⟨m, fun _ => 0, g⟩ (fun r => (∀ c : Dev Cert.ReferenceLfIdeal.nD,
      r.2.mem ((c.tc : Thread Cert.ReferenceLfIdeal.nD Cert.ReferenceLfIdeal.τ).loc Cert.ReferenceLfIdeal.main_arg0) = m ((c.tc : Thread Cert.ReferenceLfIdeal.nD Cert.ReferenceLfIdeal.τ).loc Cert.ReferenceLfIdeal.main_arg0)
      ∧ r.2.mem ((c.tc : Thread Cert.ReferenceLfIdeal.nD Cert.ReferenceLfIdeal.τ).loc Cert.ReferenceLfIdeal.main_arg1) = m ((c.tc : Thread Cert.ReferenceLfIdeal.nD Cert.ReferenceLfIdeal.τ).loc Cert.ReferenceLfIdeal.main_arg1))
      ∧ r.2.sem = fun _ => 0)

def quiescent_KernelPb [hKernelPb : Cert.KernelPb.Facts] : Prop :=
  ∀ (m : (ℓ : Loc Cert.KernelPb.nD Cert.KernelPb.τ Cert.KernelPb.sig) → Buf (Elt Bits) ℓ) (g : Dev Cert.KernelPb.nD → PrngReg), Pre_KernelPb m →
    θ_run (Cert.KernelPb.defs (F := Bits)) (onTc (τ := Cert.KernelPb.τ) (Cert.KernelPb.main (F := Bits))) ⟨m, fun _ => 0, g⟩ (fun r => (∀ c : Dev Cert.KernelPb.nD,
      r.2.mem ((c.tc : Thread Cert.KernelPb.nD Cert.KernelPb.τ).loc Cert.KernelPb.main_arg0) = m ((c.tc : Thread Cert.KernelPb.nD Cert.KernelPb.τ).loc Cert.KernelPb.main_arg0)
      ∧ r.2.mem ((c.tc : Thread Cert.KernelPb.nD Cert.KernelPb.τ).loc Cert.KernelPb.main_arg1) = m ((c.tc : Thread Cert.KernelPb.nD Cert.KernelPb.τ).loc Cert.KernelPb.main_arg1)
      ∧ r.2.mem ((c.tc : Thread Cert.KernelPb.nD Cert.KernelPb.τ).loc Cert.KernelPb.main_arg2) = m ((c.tc : Thread Cert.KernelPb.nD Cert.KernelPb.τ).loc Cert.KernelPb.main_arg2)
      ∧ r.2.mem ((c.tc : Thread Cert.KernelPb.nD Cert.KernelPb.τ).loc Cert.KernelPb.main_arg3) = m ((c.tc : Thread Cert.KernelPb.nD Cert.KernelPb.τ).loc Cert.KernelPb.main_arg3))
      ∧ r.2.sem = fun _ => 0)

def quiescent_KernelPbIdeal [hKernelPbIdeal : Cert.KernelPbIdeal.Facts] : Prop :=
  ∀ (m : (ℓ : Loc Cert.KernelPbIdeal.nD Cert.KernelPbIdeal.τ Cert.KernelPbIdeal.sig) → Buf (Elt Ideal) ℓ) (g : Dev Cert.KernelPbIdeal.nD → PrngReg), Pre_KernelPbIdeal m →
    θ_run (Cert.KernelPbIdeal.defs (F := Ideal)) (onTc (τ := Cert.KernelPbIdeal.τ) (Cert.KernelPbIdeal.main (F := Ideal))) ⟨m, fun _ => 0, g⟩ (fun r => (∀ c : Dev Cert.KernelPbIdeal.nD,
      r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
      ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1)
      ∧ r.2.mem ((c.tc : Thread Cert.KernelPbIdeal.nD Cert.KernelPbIdeal.τ).loc Cert.KernelPbIdeal.main_arg2) = m ((c.tc : Thread Cert.KernelPbIdeal.nD Cert.KernelPbIdeal.τ).loc Cert.KernelPbIdeal.main_arg2)
      ∧ r.2.mem ((c.tc : Thread Cert.KernelPbIdeal.nD Cert.KernelPbIdeal.τ).loc Cert.KernelPbIdeal.main_arg3) = m ((c.tc : Thread Cert.KernelPbIdeal.nD Cert.KernelPbIdeal.τ).loc Cert.KernelPbIdeal.main_arg3))
      ∧ r.2.sem = fun _ => 0)

def quiescent_KernelPbIdeal_pre_finite_norm [hKernelPbIdeal : Cert.KernelPbIdeal.Facts] [hPre_finite_norm : Cert.Pre_finite_norm.Facts] : Prop :=
  ∀ (m : (ℓ : Loc Cert.KernelPbIdeal.nD Cert.KernelPbIdeal.τ Cert.KernelPbIdeal.sig) → Buf (Elt Ideal) ℓ) (g : Dev Cert.KernelPbIdeal.nD → PrngReg), Pre_KernelPbIdeal_finite_norm m →
    θ_run (Cert.KernelPbIdeal.defs (F := Ideal)) (onTc (τ := Cert.KernelPbIdeal.τ) (Cert.KernelPbIdeal.main (F := Ideal))) ⟨m, fun _ => 0, g⟩ (fun r => (∀ c : Dev Cert.KernelPbIdeal.nD,
      r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
      ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1)
      ∧ r.2.mem ((c.tc : Thread Cert.KernelPbIdeal.nD Cert.KernelPbIdeal.τ).loc Cert.KernelPbIdeal.main_arg2) = m ((c.tc : Thread Cert.KernelPbIdeal.nD Cert.KernelPbIdeal.τ).loc Cert.KernelPbIdeal.main_arg2)
      ∧ r.2.mem ((c.tc : Thread Cert.KernelPbIdeal.nD Cert.KernelPbIdeal.τ).loc Cert.KernelPbIdeal.main_arg3) = m ((c.tc : Thread Cert.KernelPbIdeal.nD Cert.KernelPbIdeal.τ).loc Cert.KernelPbIdeal.main_arg3))
      ∧ r.2.sem = fun _ => 0)

def quiescent_ReferencePbIdeal [hReferencePbIdeal : Cert.ReferencePbIdeal.Facts] : Prop :=
  ∀ (m : (ℓ : Loc Cert.ReferencePbIdeal.nD Cert.ReferencePbIdeal.τ Cert.ReferencePbIdeal.sig) → Buf (Elt Ideal) ℓ) (g : Dev Cert.ReferencePbIdeal.nD → PrngReg), Pre_ReferencePbIdeal m →
    θ_run (Cert.ReferencePbIdeal.defs (F := Ideal)) (onTc (τ := Cert.ReferencePbIdeal.τ) (Cert.ReferencePbIdeal.main (F := Ideal))) ⟨m, fun _ => 0, g⟩ (fun r => (∀ c : Dev Cert.ReferencePbIdeal.nD,
      r.2.mem ((c.tc : Thread Cert.ReferencePbIdeal.nD Cert.ReferencePbIdeal.τ).loc Cert.ReferencePbIdeal.main_arg0) = m ((c.tc : Thread Cert.ReferencePbIdeal.nD Cert.ReferencePbIdeal.τ).loc Cert.ReferencePbIdeal.main_arg0)
      ∧ r.2.mem ((c.tc : Thread Cert.ReferencePbIdeal.nD Cert.ReferencePbIdeal.τ).loc Cert.ReferencePbIdeal.main_arg1) = m ((c.tc : Thread Cert.ReferencePbIdeal.nD Cert.ReferencePbIdeal.τ).loc Cert.ReferencePbIdeal.main_arg1)
      ∧ r.2.mem ((c.tc : Thread Cert.ReferencePbIdeal.nD Cert.ReferencePbIdeal.τ).loc Cert.ReferencePbIdeal.main_arg2) = m ((c.tc : Thread Cert.ReferencePbIdeal.nD Cert.ReferencePbIdeal.τ).loc Cert.ReferencePbIdeal.main_arg2)
      ∧ r.2.mem ((c.tc : Thread Cert.ReferencePbIdeal.nD Cert.ReferencePbIdeal.τ).loc Cert.ReferencePbIdeal.main_arg3) = m ((c.tc : Thread Cert.ReferencePbIdeal.nD Cert.ReferencePbIdeal.τ).loc Cert.ReferencePbIdeal.main_arg3))
      ∧ r.2.sem = fun _ => 0)

def quiescent_ReferencePbIdeal_pre_finite_norm [hReferencePbIdeal : Cert.ReferencePbIdeal.Facts] [hPre_finite_norm : Cert.Pre_finite_norm.Facts] : Prop :=
  ∀ (m : (ℓ : Loc Cert.ReferencePbIdeal.nD Cert.ReferencePbIdeal.τ Cert.ReferencePbIdeal.sig) → Buf (Elt Ideal) ℓ) (g : Dev Cert.ReferencePbIdeal.nD → PrngReg), Pre_ReferencePbIdeal_finite_norm m →
    θ_run (Cert.ReferencePbIdeal.defs (F := Ideal)) (onTc (τ := Cert.ReferencePbIdeal.τ) (Cert.ReferencePbIdeal.main (F := Ideal))) ⟨m, fun _ => 0, g⟩ (fun r => (∀ c : Dev Cert.ReferencePbIdeal.nD,
      r.2.mem ((c.tc : Thread Cert.ReferencePbIdeal.nD Cert.ReferencePbIdeal.τ).loc Cert.ReferencePbIdeal.main_arg0) = m ((c.tc : Thread Cert.ReferencePbIdeal.nD Cert.ReferencePbIdeal.τ).loc Cert.ReferencePbIdeal.main_arg0)
      ∧ r.2.mem ((c.tc : Thread Cert.ReferencePbIdeal.nD Cert.ReferencePbIdeal.τ).loc Cert.ReferencePbIdeal.main_arg1) = m ((c.tc : Thread Cert.ReferencePbIdeal.nD Cert.ReferencePbIdeal.τ).loc Cert.ReferencePbIdeal.main_arg1)
      ∧ r.2.mem ((c.tc : Thread Cert.ReferencePbIdeal.nD Cert.ReferencePbIdeal.τ).loc Cert.ReferencePbIdeal.main_arg2) = m ((c.tc : Thread Cert.ReferencePbIdeal.nD Cert.ReferencePbIdeal.τ).loc Cert.ReferencePbIdeal.main_arg2)
      ∧ r.2.mem ((c.tc : Thread Cert.ReferencePbIdeal.nD Cert.ReferencePbIdeal.τ).loc Cert.ReferencePbIdeal.main_arg3) = m ((c.tc : Thread Cert.ReferencePbIdeal.nD Cert.ReferencePbIdeal.τ).loc Cert.ReferencePbIdeal.main_arg3))
      ∧ r.2.sem = fun _ => 0)

def quiescent_KernelLb [hKernelLb : Cert.KernelLb.Facts] : Prop :=
  ∀ (m : (ℓ : Loc Cert.KernelLb.nD Cert.KernelLb.τ Cert.KernelLb.sig) → Buf (Elt Bits) ℓ) (g : Dev Cert.KernelLb.nD → PrngReg), Pre_KernelLb m →
    θ_run (Cert.KernelLb.defs (F := Bits)) (onTc (τ := Cert.KernelLb.τ) (Cert.KernelLb.main (F := Bits))) ⟨m, fun _ => 0, g⟩ (fun r => (∀ c : Dev Cert.KernelLb.nD,
      r.2.mem ((c.tc : Thread Cert.KernelLb.nD Cert.KernelLb.τ).loc Cert.KernelLb.main_arg0) = m ((c.tc : Thread Cert.KernelLb.nD Cert.KernelLb.τ).loc Cert.KernelLb.main_arg0)
      ∧ r.2.mem ((c.tc : Thread Cert.KernelLb.nD Cert.KernelLb.τ).loc Cert.KernelLb.main_arg1) = m ((c.tc : Thread Cert.KernelLb.nD Cert.KernelLb.τ).loc Cert.KernelLb.main_arg1)
      ∧ r.2.mem ((c.tc : Thread Cert.KernelLb.nD Cert.KernelLb.τ).loc Cert.KernelLb.main_arg2) = m ((c.tc : Thread Cert.KernelLb.nD Cert.KernelLb.τ).loc Cert.KernelLb.main_arg2)
      ∧ r.2.mem ((c.tc : Thread Cert.KernelLb.nD Cert.KernelLb.τ).loc Cert.KernelLb.main_arg3) = m ((c.tc : Thread Cert.KernelLb.nD Cert.KernelLb.τ).loc Cert.KernelLb.main_arg3))
      ∧ r.2.sem = fun _ => 0)

def quiescent_KernelLbIdeal [hKernelLbIdeal : Cert.KernelLbIdeal.Facts] : Prop :=
  ∀ (m : (ℓ : Loc Cert.KernelLbIdeal.nD Cert.KernelLbIdeal.τ Cert.KernelLbIdeal.sig) → Buf (Elt Ideal) ℓ) (g : Dev Cert.KernelLbIdeal.nD → PrngReg), Pre_KernelLbIdeal m →
    θ_run (Cert.KernelLbIdeal.defs (F := Ideal)) (onTc (τ := Cert.KernelLbIdeal.τ) (Cert.KernelLbIdeal.main (F := Ideal))) ⟨m, fun _ => 0, g⟩ (fun r => (∀ c : Dev Cert.KernelLbIdeal.nD,
      r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
      ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1)
      ∧ r.2.mem ((c.tc : Thread Cert.KernelLbIdeal.nD Cert.KernelLbIdeal.τ).loc Cert.KernelLbIdeal.main_arg2) = m ((c.tc : Thread Cert.KernelLbIdeal.nD Cert.KernelLbIdeal.τ).loc Cert.KernelLbIdeal.main_arg2)
      ∧ r.2.mem ((c.tc : Thread Cert.KernelLbIdeal.nD Cert.KernelLbIdeal.τ).loc Cert.KernelLbIdeal.main_arg3) = m ((c.tc : Thread Cert.KernelLbIdeal.nD Cert.KernelLbIdeal.τ).loc Cert.KernelLbIdeal.main_arg3))
      ∧ r.2.sem = fun _ => 0)

def quiescent_ReferenceLbIdeal [hReferenceLbIdeal : Cert.ReferenceLbIdeal.Facts] : Prop :=
  ∀ (m : (ℓ : Loc Cert.ReferenceLbIdeal.nD Cert.ReferenceLbIdeal.τ Cert.ReferenceLbIdeal.sig) → Buf (Elt Ideal) ℓ) (g : Dev Cert.ReferenceLbIdeal.nD → PrngReg), Pre_ReferenceLbIdeal m →
    θ_run (Cert.ReferenceLbIdeal.defs (F := Ideal)) (onTc (τ := Cert.ReferenceLbIdeal.τ) (Cert.ReferenceLbIdeal.main (F := Ideal))) ⟨m, fun _ => 0, g⟩ (fun r => (∀ c : Dev Cert.ReferenceLbIdeal.nD,
      r.2.mem ((c.tc : Thread Cert.ReferenceLbIdeal.nD Cert.ReferenceLbIdeal.τ).loc Cert.ReferenceLbIdeal.main_arg0) = m ((c.tc : Thread Cert.ReferenceLbIdeal.nD Cert.ReferenceLbIdeal.τ).loc Cert.ReferenceLbIdeal.main_arg0)
      ∧ r.2.mem ((c.tc : Thread Cert.ReferenceLbIdeal.nD Cert.ReferenceLbIdeal.τ).loc Cert.ReferenceLbIdeal.main_arg1) = m ((c.tc : Thread Cert.ReferenceLbIdeal.nD Cert.ReferenceLbIdeal.τ).loc Cert.ReferenceLbIdeal.main_arg1)
      ∧ r.2.mem ((c.tc : Thread Cert.ReferenceLbIdeal.nD Cert.ReferenceLbIdeal.τ).loc Cert.ReferenceLbIdeal.main_arg2) = m ((c.tc : Thread Cert.ReferenceLbIdeal.nD Cert.ReferenceLbIdeal.τ).loc Cert.ReferenceLbIdeal.main_arg2)
      ∧ r.2.mem ((c.tc : Thread Cert.ReferenceLbIdeal.nD Cert.ReferenceLbIdeal.τ).loc Cert.ReferenceLbIdeal.main_arg3) = m ((c.tc : Thread Cert.ReferenceLbIdeal.nD Cert.ReferenceLbIdeal.τ).loc Cert.ReferenceLbIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_v26_12) = v4 c
          ∧ r.2.mem ((c.tc : Thread Cert.ReferenceIdeal.nD Cert.ReferenceIdeal.τ).loc Cert.ReferenceIdeal.main_v36) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelDw_KernelDwIdeal : Prop :=
  True

def algebraic_KernelDwIdeal_ReferenceDwIdeal [hKernelDwIdeal : Cert.KernelDwIdeal.Facts] [hReferenceDwIdeal : Cert.ReferenceDwIdeal.Facts] : Prop :=
  ∀ (m : (ℓ : Loc Cert.KernelDwIdeal.nD Cert.KernelDwIdeal.τ Cert.KernelDwIdeal.sig) → Buf (Elt Ideal) ℓ) (g : Dev Cert.KernelDwIdeal.nD → PrngReg)
    (m' : (ℓ : Loc Cert.ReferenceDwIdeal.nD Cert.ReferenceDwIdeal.τ Cert.ReferenceDwIdeal.sig) → Buf (Elt Ideal) ℓ) (g' : Dev Cert.ReferenceDwIdeal.nD → PrngReg), Pre_KernelDwIdeal m →
    (∀ c : Dev Cert.KernelDwIdeal.nD,
      m' ((c.tc : Thread Cert.ReferenceDwIdeal.nD Cert.ReferenceDwIdeal.τ).loc Cert.ReferenceDwIdeal.main_arg0) = m ((c.tc : Thread Cert.KernelDwIdeal.nD Cert.KernelDwIdeal.τ).loc Cert.KernelDwIdeal.main_arg0)
      ∧ m' ((c.tc : Thread Cert.ReferenceDwIdeal.nD Cert.ReferenceDwIdeal.τ).loc Cert.ReferenceDwIdeal.main_arg1) = m ((c.tc : Thread Cert.KernelDwIdeal.nD Cert.KernelDwIdeal.τ).loc Cert.KernelDwIdeal.main_arg1)) →
    ∃ (v0 : (c : Dev Cert.KernelDwIdeal.nD) → Buf (Elt Ideal) ((c.tc : Thread Cert.KernelDwIdeal.nD Cert.KernelDwIdeal.τ).loc Cert.KernelDwIdeal.main_v0_0)) (v1 : (c : Dev Cert.KernelDwIdeal.nD) → Buf (Elt Ideal) ((c.tc : Thread Cert.KernelDwIdeal.nD Cert.KernelDwIdeal.τ).loc Cert.KernelDwIdeal.main_v0_1)),
      θ_run (Cert.KernelDwIdeal.defs (F := Ideal)) (onTc (τ := Cert.KernelDwIdeal.τ) (Cert.KernelDwIdeal.main (F := Ideal))) ⟨m, fun _ => 0, g⟩ (fun r => ∀ c : Dev Cert.KernelDwIdeal.nD,
          r.2.mem ((c.tc : Thread Cert.KernelDwIdeal.nD Cert.KernelDwIdeal.τ).loc Cert.KernelDwIdeal.main_v0_0) = v0 c
          ∧ r.2.mem ((c.tc : Thread Cert.KernelDwIdeal.nD Cert.KernelDwIdeal.τ).loc Cert.KernelDwIdeal.main_v0_1) = v1 c
          ∧ r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
          ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
      ∧ θ_run (Cert.ReferenceDwIdeal.defs (F := Ideal)) (onTc (τ := Cert.ReferenceDwIdeal.τ) (Cert.ReferenceDwIdeal.main (F := Ideal))) ⟨m', fun _ => 0, g'⟩ (fun r => ∀ c : Dev Cert.ReferenceDwIdeal.nD,
          r.2.mem ((c.tc : Thread Cert.ReferenceDwIdeal.nD Cert.ReferenceDwIdeal.τ).loc Cert.ReferenceDwIdeal.main_v7) = v0 c
          ∧ r.2.mem ((c.tc : Thread Cert.ReferenceDwIdeal.nD Cert.ReferenceDwIdeal.τ).loc Cert.ReferenceDwIdeal.main_v8) = v1 c
          ∧ r.2.mem ((c.tc : Thread Cert.ReferenceDwIdeal.nD Cert.ReferenceDwIdeal.τ).loc Cert.ReferenceDwIdeal.main_arg0) = m' ((c.tc : Thread Cert.ReferenceDwIdeal.nD Cert.ReferenceDwIdeal.τ).loc Cert.ReferenceDwIdeal.main_arg0)
          ∧ r.2.mem ((c.tc : Thread Cert.ReferenceDwIdeal.nD Cert.ReferenceDwIdeal.τ).loc Cert.ReferenceDwIdeal.main_arg1) = m' ((c.tc : Thread Cert.ReferenceDwIdeal.nD Cert.ReferenceDwIdeal.τ).loc Cert.ReferenceDwIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v5) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelMf_KernelMfIdeal : Prop :=
  True

def algebraic_KernelMfIdeal_ReferenceMfIdeal [hKernelMfIdeal : Cert.KernelMfIdeal.Facts] [hReferenceMfIdeal : Cert.ReferenceMfIdeal.Facts] : Prop :=
  ∀ (m : (ℓ : Loc Cert.KernelMfIdeal.nD Cert.KernelMfIdeal.τ Cert.KernelMfIdeal.sig) → Buf (Elt Ideal) ℓ) (g : Dev Cert.KernelMfIdeal.nD → PrngReg)
    (m' : (ℓ : Loc Cert.ReferenceMfIdeal.nD Cert.ReferenceMfIdeal.τ Cert.ReferenceMfIdeal.sig) → Buf (Elt Ideal) ℓ) (g' : Dev Cert.ReferenceMfIdeal.nD → PrngReg), Pre_KernelMfIdeal m →
    (∀ c : Dev Cert.KernelMfIdeal.nD,
      m' ((c.tc : Thread Cert.ReferenceMfIdeal.nD Cert.ReferenceMfIdeal.τ).loc Cert.ReferenceMfIdeal.main_arg0) = m ((c.tc : Thread Cert.KernelMfIdeal.nD Cert.KernelMfIdeal.τ).loc Cert.KernelMfIdeal.main_arg0)
      ∧ m' ((c.tc : Thread Cert.ReferenceMfIdeal.nD Cert.ReferenceMfIdeal.τ).loc Cert.ReferenceMfIdeal.main_arg1) = m ((c.tc : Thread Cert.KernelMfIdeal.nD Cert.KernelMfIdeal.τ).loc Cert.KernelMfIdeal.main_arg1)
      ∧ m' ((c.tc : Thread Cert.ReferenceMfIdeal.nD Cert.ReferenceMfIdeal.τ).loc Cert.ReferenceMfIdeal.main_arg2) = m ((c.tc : Thread Cert.KernelMfIdeal.nD Cert.KernelMfIdeal.τ).loc Cert.KernelMfIdeal.main_arg2)
      ∧ m' ((c.tc : Thread Cert.ReferenceMfIdeal.nD Cert.ReferenceMfIdeal.τ).loc Cert.ReferenceMfIdeal.main_arg3) = m ((c.tc : Thread Cert.KernelMfIdeal.nD Cert.KernelMfIdeal.τ).loc Cert.KernelMfIdeal.main_arg3)
      ∧ m' ((c.tc : Thread Cert.ReferenceMfIdeal.nD Cert.ReferenceMfIdeal.τ).loc Cert.ReferenceMfIdeal.main_arg4) = m ((c.tc : Thread Cert.KernelMfIdeal.nD Cert.KernelMfIdeal.τ).loc Cert.KernelMfIdeal.main_arg4)) →
    ∃ (v0 : (c : Dev Cert.KernelMfIdeal.nD) → Buf (Elt Ideal) ((c.tc : Thread Cert.KernelMfIdeal.nD Cert.KernelMfIdeal.τ).loc Cert.KernelMfIdeal.main_v0_0)) (v1 : (c : Dev Cert.KernelMfIdeal.nD) → Buf (Elt Ideal) ((c.tc : Thread Cert.KernelMfIdeal.nD Cert.KernelMfIdeal.τ).loc Cert.KernelMfIdeal.main_v0_1)) (v2 : (c : Dev Cert.KernelMfIdeal.nD) → Buf (Elt Ideal) ((c.tc : Thread Cert.KernelMfIdeal.nD Cert.KernelMfIdeal.τ).loc Cert.KernelMfIdeal.main_v0_2)),
      θ_run (Cert.KernelMfIdeal.defs (F := Ideal)) (onTc (τ := Cert.KernelMfIdeal.τ) (Cert.KernelMfIdeal.main (F := Ideal))) ⟨m, fun _ => 0, g⟩ (fun r => ∀ c : Dev Cert.KernelMfIdeal.nD,
          r.2.mem ((c.tc : Thread Cert.KernelMfIdeal.nD Cert.KernelMfIdeal.τ).loc Cert.KernelMfIdeal.main_v0_0) = v0 c
          ∧ r.2.mem ((c.tc : Thread Cert.KernelMfIdeal.nD Cert.KernelMfIdeal.τ).loc Cert.KernelMfIdeal.main_v0_1) = v1 c
          ∧ r.2.mem ((c.tc : Thread Cert.KernelMfIdeal.nD Cert.KernelMfIdeal.τ).loc Cert.KernelMfIdeal.main_v0_2) = v2 c
          ∧ r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
          ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
          ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
          ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
          ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4))
      ∧ θ_run (Cert.ReferenceMfIdeal.defs (F := Ideal)) (onTc (τ := Cert.ReferenceMfIdeal.τ) (Cert.ReferenceMfIdeal.main (F := Ideal))) ⟨m', fun _ => 0, g'⟩ (fun r => ∀ c : Dev Cert.ReferenceMfIdeal.nD,
          r.2.mem ((c.tc : Thread Cert.ReferenceMfIdeal.nD Cert.ReferenceMfIdeal.τ).loc Cert.ReferenceMfIdeal.main_v6) = v0 c
          ∧ r.2.mem ((c.tc : Thread Cert.ReferenceMfIdeal.nD Cert.ReferenceMfIdeal.τ).loc Cert.ReferenceMfIdeal.main_v7) = v1 c
          ∧ r.2.mem ((c.tc : Thread Cert.ReferenceMfIdeal.nD Cert.ReferenceMfIdeal.τ).loc Cert.ReferenceMfIdeal.main_v23) = v2 c
          ∧ r.2.mem ((c.tc : Thread Cert.ReferenceMfIdeal.nD Cert.ReferenceMfIdeal.τ).loc Cert.ReferenceMfIdeal.main_arg0) = m' ((c.tc : Thread Cert.ReferenceMfIdeal.nD Cert.ReferenceMfIdeal.τ).loc Cert.ReferenceMfIdeal.main_arg0)
          ∧ r.2.mem ((c.tc : Thread Cert.ReferenceMfIdeal.nD Cert.ReferenceMfIdeal.τ).loc Cert.ReferenceMfIdeal.main_arg1) = m' ((c.tc : Thread Cert.ReferenceMfIdeal.nD Cert.ReferenceMfIdeal.τ).loc Cert.ReferenceMfIdeal.main_arg1)
          ∧ r.2.mem ((c.tc : Thread Cert.ReferenceMfIdeal.nD Cert.ReferenceMfIdeal.τ).loc Cert.ReferenceMfIdeal.main_arg2) = m' ((c.tc : Thread Cert.ReferenceMfIdeal.nD Cert.ReferenceMfIdeal.τ).loc Cert.ReferenceMfIdeal.main_arg2)
          ∧ r.2.mem ((c.tc : Thread Cert.ReferenceMfIdeal.nD Cert.ReferenceMfIdeal.τ).loc Cert.ReferenceMfIdeal.main_arg3) = m' ((c.tc : Thread Cert.ReferenceMfIdeal.nD Cert.ReferenceMfIdeal.τ).loc Cert.ReferenceMfIdeal.main_arg3)
          ∧ r.2.mem ((c.tc : Thread Cert.ReferenceMfIdeal.nD Cert.ReferenceMfIdeal.τ).loc Cert.ReferenceMfIdeal.main_arg4) = m' ((c.tc : Thread Cert.ReferenceMfIdeal.nD Cert.ReferenceMfIdeal.τ).loc Cert.ReferenceMfIdeal.main_arg4))

def preserves_KernelMb_KernelMbIdeal : Prop :=
  True

def algebraic_KernelMbIdeal_ReferenceMbIdeal [hKernelMbIdeal : Cert.KernelMbIdeal.Facts] [hReferenceMbIdeal : Cert.ReferenceMbIdeal.Facts] : Prop :=
  ∀ (m : (ℓ : Loc Cert.KernelMbIdeal.nD Cert.KernelMbIdeal.τ Cert.KernelMbIdeal.sig) → Buf (Elt Ideal) ℓ) (g : Dev Cert.KernelMbIdeal.nD → PrngReg)
    (m' : (ℓ : Loc Cert.ReferenceMbIdeal.nD Cert.ReferenceMbIdeal.τ Cert.ReferenceMbIdeal.sig) → Buf (Elt Ideal) ℓ) (g' : Dev Cert.ReferenceMbIdeal.nD → PrngReg), Pre_KernelMbIdeal m →
    (∀ c : Dev Cert.KernelMbIdeal.nD,
      m' ((c.tc : Thread Cert.ReferenceMbIdeal.nD Cert.ReferenceMbIdeal.τ).loc Cert.ReferenceMbIdeal.main_arg0) = m ((c.tc : Thread Cert.KernelMbIdeal.nD Cert.KernelMbIdeal.τ).loc Cert.KernelMbIdeal.main_arg0)
      ∧ m' ((c.tc : Thread Cert.ReferenceMbIdeal.nD Cert.ReferenceMbIdeal.τ).loc Cert.ReferenceMbIdeal.main_arg1) = m ((c.tc : Thread Cert.KernelMbIdeal.nD Cert.KernelMbIdeal.τ).loc Cert.KernelMbIdeal.main_arg1)
      ∧ m' ((c.tc : Thread Cert.ReferenceMbIdeal.nD Cert.ReferenceMbIdeal.τ).loc Cert.ReferenceMbIdeal.main_arg2) = m ((c.tc : Thread Cert.KernelMbIdeal.nD Cert.KernelMbIdeal.τ).loc Cert.KernelMbIdeal.main_arg2)
      ∧ m' ((c.tc : Thread Cert.ReferenceMbIdeal.nD Cert.ReferenceMbIdeal.τ).loc Cert.ReferenceMbIdeal.main_arg3) = m ((c.tc : Thread Cert.KernelMbIdeal.nD Cert.KernelMbIdeal.τ).loc Cert.KernelMbIdeal.main_arg3)
      ∧ m' ((c.tc : Thread Cert.ReferenceMbIdeal.nD Cert.ReferenceMbIdeal.τ).loc Cert.ReferenceMbIdeal.main_arg4) = m ((c.tc : Thread Cert.KernelMbIdeal.nD Cert.KernelMbIdeal.τ).loc Cert.KernelMbIdeal.main_arg4)) →
    ∃ (v0 : (c : Dev Cert.KernelMbIdeal.nD) → Buf (Elt Ideal) ((c.tc : Thread Cert.KernelMbIdeal.nD Cert.KernelMbIdeal.τ).loc Cert.KernelMbIdeal.main_v0_0)) (v1 : (c : Dev Cert.KernelMbIdeal.nD) → Buf (Elt Ideal) ((c.tc : Thread Cert.KernelMbIdeal.nD Cert.KernelMbIdeal.τ).loc Cert.KernelMbIdeal.main_v0_1)) (v2 : (c : Dev Cert.KernelMbIdeal.nD) → Buf (Elt Ideal) ((c.tc : Thread Cert.KernelMbIdeal.nD Cert.KernelMbIdeal.τ).loc Cert.KernelMbIdeal.main_v0_2)) (v3 : (c : Dev Cert.KernelMbIdeal.nD) → Buf (Elt Ideal) ((c.tc : Thread Cert.KernelMbIdeal.nD Cert.KernelMbIdeal.τ).loc Cert.KernelMbIdeal.main_v0_3)),
      θ_run (Cert.KernelMbIdeal.defs (F := Ideal)) (onTc (τ := Cert.KernelMbIdeal.τ) (Cert.KernelMbIdeal.main (F := Ideal))) ⟨m, fun _ => 0, g⟩ (fun r => ∀ c : Dev Cert.KernelMbIdeal.nD,
          r.2.mem ((c.tc : Thread Cert.KernelMbIdeal.nD Cert.KernelMbIdeal.τ).loc Cert.KernelMbIdeal.main_v0_0) = v0 c
          ∧ r.2.mem ((c.tc : Thread Cert.KernelMbIdeal.nD Cert.KernelMbIdeal.τ).loc Cert.KernelMbIdeal.main_v0_1) = v1 c
          ∧ r.2.mem ((c.tc : Thread Cert.KernelMbIdeal.nD Cert.KernelMbIdeal.τ).loc Cert.KernelMbIdeal.main_v0_2) = v2 c
          ∧ r.2.mem ((c.tc : Thread Cert.KernelMbIdeal.nD Cert.KernelMbIdeal.τ).loc Cert.KernelMbIdeal.main_v0_3) = v3 c
          ∧ r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
          ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
          ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
          ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
          ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
      ∧ θ_run (Cert.ReferenceMbIdeal.defs (F := Ideal)) (onTc (τ := Cert.ReferenceMbIdeal.τ) (Cert.ReferenceMbIdeal.main (F := Ideal))) ⟨m', fun _ => 0, g'⟩ (fun r => ∀ c : Dev Cert.ReferenceMbIdeal.nD,
          r.2.mem ((c.tc : Thread Cert.ReferenceMbIdeal.nD Cert.ReferenceMbIdeal.τ).loc Cert.ReferenceMbIdeal.main_v33) = v0 c
          ∧ r.2.mem ((c.tc : Thread Cert.ReferenceMbIdeal.nD Cert.ReferenceMbIdeal.τ).loc Cert.ReferenceMbIdeal.main_v34) = v1 c
          ∧ r.2.mem ((c.tc : Thread Cert.ReferenceMbIdeal.nD Cert.ReferenceMbIdeal.τ).loc Cert.ReferenceMbIdeal.main_v35) = v2 c
          ∧ r.2.mem ((c.tc : Thread Cert.ReferenceMbIdeal.nD Cert.ReferenceMbIdeal.τ).loc Cert.ReferenceMbIdeal.main_v36) = v3 c
          ∧ r.2.mem ((c.tc : Thread Cert.ReferenceMbIdeal.nD Cert.ReferenceMbIdeal.τ).loc Cert.ReferenceMbIdeal.main_arg0) = m' ((c.tc : Thread Cert.ReferenceMbIdeal.nD Cert.ReferenceMbIdeal.τ).loc Cert.ReferenceMbIdeal.main_arg0)
          ∧ r.2.mem ((c.tc : Thread Cert.ReferenceMbIdeal.nD Cert.ReferenceMbIdeal.τ).loc Cert.ReferenceMbIdeal.main_arg1) = m' ((c.tc : Thread Cert.ReferenceMbIdeal.nD Cert.ReferenceMbIdeal.τ).loc Cert.ReferenceMbIdeal.main_arg1)
          ∧ r.2.mem ((c.tc : Thread Cert.ReferenceMbIdeal.nD Cert.ReferenceMbIdeal.τ).loc Cert.ReferenceMbIdeal.main_arg2) = m' ((c.tc : Thread Cert.ReferenceMbIdeal.nD Cert.ReferenceMbIdeal.τ).loc Cert.ReferenceMbIdeal.main_arg2)
          ∧ r.2.mem ((c.tc : Thread Cert.ReferenceMbIdeal.nD Cert.ReferenceMbIdeal.τ).loc Cert.ReferenceMbIdeal.main_arg3) = m' ((c.tc : Thread Cert.ReferenceMbIdeal.nD Cert.ReferenceMbIdeal.τ).loc Cert.ReferenceMbIdeal.main_arg3)
          ∧ r.2.mem ((c.tc : Thread Cert.ReferenceMbIdeal.nD Cert.ReferenceMbIdeal.τ).loc Cert.ReferenceMbIdeal.main_arg4) = m' ((c.tc : Thread Cert.ReferenceMbIdeal.nD Cert.ReferenceMbIdeal.τ).loc Cert.ReferenceMbIdeal.main_arg4))

def preserves_KernelWo_KernelWoIdeal : Prop :=
  True

def algebraic_KernelWoIdeal_ReferenceWoIdeal [hKernelWoIdeal : Cert.KernelWoIdeal.Facts] [hReferenceWoIdeal : Cert.ReferenceWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)) →
    ∃ (v0 : (c : Dev Cert.KernelWoIdeal.nD) → Buf (Elt Ideal) ((c.tc : Thread Cert.KernelWoIdeal.nD Cert.KernelWoIdeal.τ).loc Cert.KernelWoIdeal.main_v0_0)) (v1 : (c : Dev Cert.KernelWoIdeal.nD) → Buf (Elt Ideal) ((c.tc : Thread Cert.KernelWoIdeal.nD Cert.KernelWoIdeal.τ).loc Cert.KernelWoIdeal.main_v0_1)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v0_0) = v0 c
          ∧ r.2.mem ((c.tc : Thread Cert.KernelWoIdeal.nD Cert.KernelWoIdeal.τ).loc Cert.KernelWoIdeal.main_v0_1) = v1 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v5) = v0 c
          ∧ r.2.mem ((c.tc : Thread Cert.ReferenceWoIdeal.nD Cert.ReferenceWoIdeal.τ).loc Cert.ReferenceWoIdeal.main_v6) = v1 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1))

def preserves_KernelSu_KernelSuIdeal : Prop :=
  True

def algebraic_KernelSuIdeal_ReferenceSuIdeal [hKernelSuIdeal : Cert.KernelSuIdeal.Facts] [hReferenceSuIdeal : Cert.ReferenceSuIdeal.Facts] : Prop :=
  ∀ (m : (ℓ : Loc Cert.KernelSuIdeal.nD Cert.KernelSuIdeal.τ Cert.KernelSuIdeal.sig) → Buf (Elt Ideal) ℓ) (g : Dev Cert.KernelSuIdeal.nD → PrngReg)
    (m' : (ℓ : Loc Cert.ReferenceSuIdeal.nD Cert.ReferenceSuIdeal.τ Cert.ReferenceSuIdeal.sig) → Buf (Elt Ideal) ℓ) (g' : Dev Cert.ReferenceSuIdeal.nD → PrngReg), Pre_KernelSuIdeal m →
    (∀ c : Dev Cert.KernelSuIdeal.nD,
      m' ((c.tc : Thread Cert.ReferenceSuIdeal.nD Cert.ReferenceSuIdeal.τ).loc Cert.ReferenceSuIdeal.main_arg0) = m ((c.tc : Thread Cert.KernelSuIdeal.nD Cert.KernelSuIdeal.τ).loc Cert.KernelSuIdeal.main_arg0)
      ∧ m' ((c.tc : Thread Cert.ReferenceSuIdeal.nD Cert.ReferenceSuIdeal.τ).loc Cert.ReferenceSuIdeal.main_arg1) = m ((c.tc : Thread Cert.KernelSuIdeal.nD Cert.KernelSuIdeal.τ).loc Cert.KernelSuIdeal.main_arg1)) →
    ∃ (v0 : (c : Dev Cert.KernelSuIdeal.nD) → Buf (Elt Ideal) ((c.tc : Thread Cert.KernelSuIdeal.nD Cert.KernelSuIdeal.τ).loc Cert.KernelSuIdeal.main_v0_0)) (v1 : (c : Dev Cert.KernelSuIdeal.nD) → Buf (Elt Ideal) ((c.tc : Thread Cert.KernelSuIdeal.nD Cert.KernelSuIdeal.τ).loc Cert.KernelSuIdeal.main_v0_1)),
      θ_run (Cert.KernelSuIdeal.defs (F := Ideal)) (onTc (τ := Cert.KernelSuIdeal.τ) (Cert.KernelSuIdeal.main (F := Ideal))) ⟨m, fun _ => 0, g⟩ (fun r => ∀ c : Dev Cert.KernelSuIdeal.nD,
          r.2.mem ((c.tc : Thread Cert.KernelSuIdeal.nD Cert.KernelSuIdeal.τ).loc Cert.KernelSuIdeal.main_v0_0) = v0 c
          ∧ r.2.mem ((c.tc : Thread Cert.KernelSuIdeal.nD Cert.KernelSuIdeal.τ).loc Cert.KernelSuIdeal.main_v0_1) = v1 c
          ∧ r.2.mem ((c.tc : Thread Cert.KernelSuIdeal.nD Cert.KernelSuIdeal.τ).loc Cert.KernelSuIdeal.main_arg0) = m ((c.tc : Thread Cert.KernelSuIdeal.nD Cert.KernelSuIdeal.τ).loc Cert.KernelSuIdeal.main_arg0)
          ∧ r.2.mem ((c.tc : Thread Cert.KernelSuIdeal.nD Cert.KernelSuIdeal.τ).loc Cert.KernelSuIdeal.main_arg1) = m ((c.tc : Thread Cert.KernelSuIdeal.nD Cert.KernelSuIdeal.τ).loc Cert.KernelSuIdeal.main_arg1))
      ∧ θ_run (Cert.ReferenceSuIdeal.defs (F := Ideal)) (onTc (τ := Cert.ReferenceSuIdeal.τ) (Cert.ReferenceSuIdeal.main (F := Ideal))) ⟨m', fun _ => 0, g'⟩ (fun r => ∀ c : Dev Cert.ReferenceSuIdeal.nD,
          r.2.mem ((c.tc : Thread Cert.ReferenceSuIdeal.nD Cert.ReferenceSuIdeal.τ).loc Cert.ReferenceSuIdeal.main_v7) = v0 c
          ∧ r.2.mem ((c.tc : Thread Cert.ReferenceSuIdeal.nD Cert.ReferenceSuIdeal.τ).loc Cert.ReferenceSuIdeal.main_v10) = v1 c
          ∧ r.2.mem ((c.tc : Thread Cert.ReferenceSuIdeal.nD Cert.ReferenceSuIdeal.τ).loc Cert.ReferenceSuIdeal.main_arg0) = m' ((c.tc : Thread Cert.ReferenceSuIdeal.nD Cert.ReferenceSuIdeal.τ).loc Cert.ReferenceSuIdeal.main_arg0)
          ∧ r.2.mem ((c.tc : Thread Cert.ReferenceSuIdeal.nD Cert.ReferenceSuIdeal.τ).loc Cert.ReferenceSuIdeal.main_arg1) = m' ((c.tc : Thread Cert.ReferenceSuIdeal.nD Cert.ReferenceSuIdeal.τ).loc Cert.ReferenceSuIdeal.main_arg1))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)) →
    ∃ (v0 : (c : Dev Cert.KernelDuIdeal.nD) → Buf (Elt Ideal) ((c.tc : Thread Cert.KernelDuIdeal.nD Cert.KernelDuIdeal.τ).loc Cert.KernelDuIdeal.main_v0_0)) (v1 : (c : Dev Cert.KernelDuIdeal.nD) → Buf (Elt Ideal) ((c.tc : Thread Cert.KernelDuIdeal.nD Cert.KernelDuIdeal.τ).loc Cert.KernelDuIdeal.main_v0_1)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v0_0) = v0 c
          ∧ r.2.mem ((c.tc : Thread Cert.KernelDuIdeal.nD Cert.KernelDuIdeal.τ).loc Cert.KernelDuIdeal.main_v0_1) = v1 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v7) = v0 c
          ∧ r.2.mem ((c.tc : Thread Cert.ReferenceDuIdeal.nD Cert.ReferenceDuIdeal.τ).loc Cert.ReferenceDuIdeal.main_v10) = v1 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1))

def preserves_KernelSo_KernelSoIdeal : Prop :=
  True

def algebraic_KernelSoIdeal_ReferenceSoIdeal [hKernelSoIdeal : Cert.KernelSoIdeal.Facts] [hReferenceSoIdeal : Cert.ReferenceSoIdeal.Facts] : Prop :=
  ∀ (m : (ℓ : Loc Cert.KernelSoIdeal.nD Cert.KernelSoIdeal.τ Cert.KernelSoIdeal.sig) → Buf (Elt Ideal) ℓ) (g : Dev Cert.KernelSoIdeal.nD → PrngReg)
    (m' : (ℓ : Loc Cert.ReferenceSoIdeal.nD Cert.ReferenceSoIdeal.τ Cert.ReferenceSoIdeal.sig) → Buf (Elt Ideal) ℓ) (g' : Dev Cert.ReferenceSoIdeal.nD → PrngReg), Pre_KernelSoIdeal m →
    (∀ c : Dev Cert.KernelSoIdeal.nD,
      m' ((c.tc : Thread Cert.ReferenceSoIdeal.nD Cert.ReferenceSoIdeal.τ).loc Cert.ReferenceSoIdeal.main_arg0) = m ((c.tc : Thread Cert.KernelSoIdeal.nD Cert.KernelSoIdeal.τ).loc Cert.KernelSoIdeal.main_arg0)
      ∧ m' ((c.tc : Thread Cert.ReferenceSoIdeal.nD Cert.ReferenceSoIdeal.τ).loc Cert.ReferenceSoIdeal.main_arg1) = m ((c.tc : Thread Cert.KernelSoIdeal.nD Cert.KernelSoIdeal.τ).loc Cert.KernelSoIdeal.main_arg1)) →
    ∃ (v0 : (c : Dev Cert.KernelSoIdeal.nD) → Buf (Elt Ideal) ((c.tc : Thread Cert.KernelSoIdeal.nD Cert.KernelSoIdeal.τ).loc Cert.KernelSoIdeal.main_v0)),
      θ_run (Cert.KernelSoIdeal.defs (F := Ideal)) (onTc (τ := Cert.KernelSoIdeal.τ) (Cert.KernelSoIdeal.main (F := Ideal))) ⟨m, fun _ => 0, g⟩ (fun r => ∀ c : Dev Cert.KernelSoIdeal.nD,
          r.2.mem ((c.tc : Thread Cert.KernelSoIdeal.nD Cert.KernelSoIdeal.τ).loc Cert.KernelSoIdeal.main_v0) = v0 c
          ∧ r.2.mem ((c.tc : Thread Cert.KernelSoIdeal.nD Cert.KernelSoIdeal.τ).loc Cert.KernelSoIdeal.main_arg0) = m ((c.tc : Thread Cert.KernelSoIdeal.nD Cert.KernelSoIdeal.τ).loc Cert.KernelSoIdeal.main_arg0)
          ∧ r.2.mem ((c.tc : Thread Cert.KernelSoIdeal.nD Cert.KernelSoIdeal.τ).loc Cert.KernelSoIdeal.main_arg1) = m ((c.tc : Thread Cert.KernelSoIdeal.nD Cert.KernelSoIdeal.τ).loc Cert.KernelSoIdeal.main_arg1))
      ∧ θ_run (Cert.ReferenceSoIdeal.defs (F := Ideal)) (onTc (τ := Cert.ReferenceSoIdeal.τ) (Cert.ReferenceSoIdeal.main (F := Ideal))) ⟨m', fun _ => 0, g'⟩ (fun r => ∀ c : Dev Cert.ReferenceSoIdeal.nD,
          r.2.mem ((c.tc : Thread Cert.ReferenceSoIdeal.nD Cert.ReferenceSoIdeal.τ).loc Cert.ReferenceSoIdeal.main_v4) = v0 c
          ∧ r.2.mem ((c.tc : Thread Cert.ReferenceSoIdeal.nD Cert.ReferenceSoIdeal.τ).loc Cert.ReferenceSoIdeal.main_arg0) = m' ((c.tc : Thread Cert.ReferenceSoIdeal.nD Cert.ReferenceSoIdeal.τ).loc Cert.ReferenceSoIdeal.main_arg0)
          ∧ r.2.mem ((c.tc : Thread Cert.ReferenceSoIdeal.nD Cert.ReferenceSoIdeal.τ).loc Cert.ReferenceSoIdeal.main_arg1) = m' ((c.tc : Thread Cert.ReferenceSoIdeal.nD Cert.ReferenceSoIdeal.τ).loc Cert.ReferenceSoIdeal.main_arg1))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v4) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelPf_KernelPfIdeal : Prop :=
  True

def algebraic_KernelPfIdeal_ReferencePfIdeal [hKernelPfIdeal : Cert.KernelPfIdeal.Facts] [hReferencePfIdeal : Cert.ReferencePfIdeal.Facts] : Prop :=
  ∀ (m : (ℓ : Loc Cert.KernelPfIdeal.nD Cert.KernelPfIdeal.τ Cert.KernelPfIdeal.sig) → Buf (Elt Ideal) ℓ) (g : Dev Cert.KernelPfIdeal.nD → PrngReg)
    (m' : (ℓ : Loc Cert.ReferencePfIdeal.nD Cert.ReferencePfIdeal.τ Cert.ReferencePfIdeal.sig) → Buf (Elt Ideal) ℓ) (g' : Dev Cert.ReferencePfIdeal.nD → PrngReg), Pre_KernelPfIdeal m →
    (∀ c : Dev Cert.KernelPfIdeal.nD,
      m' ((c.tc : Thread Cert.ReferencePfIdeal.nD Cert.ReferencePfIdeal.τ).loc Cert.ReferencePfIdeal.main_arg0) = m ((c.tc : Thread Cert.KernelPfIdeal.nD Cert.KernelPfIdeal.τ).loc Cert.KernelPfIdeal.main_arg0)
      ∧ m' ((c.tc : Thread Cert.ReferencePfIdeal.nD Cert.ReferencePfIdeal.τ).loc Cert.ReferencePfIdeal.main_arg1) = m ((c.tc : Thread Cert.KernelPfIdeal.nD Cert.KernelPfIdeal.τ).loc Cert.KernelPfIdeal.main_arg1)
      ∧ m' ((c.tc : Thread Cert.ReferencePfIdeal.nD Cert.ReferencePfIdeal.τ).loc Cert.ReferencePfIdeal.main_arg2) = m ((c.tc : Thread Cert.KernelPfIdeal.nD Cert.KernelPfIdeal.τ).loc Cert.KernelPfIdeal.main_arg2)) →
    ∃ (v0 : (c : Dev Cert.KernelPfIdeal.nD) → Buf (Elt Ideal) ((c.tc : Thread Cert.KernelPfIdeal.nD Cert.KernelPfIdeal.τ).loc Cert.KernelPfIdeal.main_v0)),
      θ_run (Cert.KernelPfIdeal.defs (F := Ideal)) (onTc (τ := Cert.KernelPfIdeal.τ) (Cert.KernelPfIdeal.main (F := Ideal))) ⟨m, fun _ => 0, g⟩ (fun r => ∀ c : Dev Cert.KernelPfIdeal.nD,
          r.2.mem ((c.tc : Thread Cert.KernelPfIdeal.nD Cert.KernelPfIdeal.τ).loc Cert.KernelPfIdeal.main_v0) = v0 c
          ∧ r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
          ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1)
          ∧ r.2.mem ((c.tc : Thread Cert.KernelPfIdeal.nD Cert.KernelPfIdeal.τ).loc Cert.KernelPfIdeal.main_arg2) = m ((c.tc : Thread Cert.KernelPfIdeal.nD Cert.KernelPfIdeal.τ).loc Cert.KernelPfIdeal.main_arg2))
      ∧ θ_run (Cert.ReferencePfIdeal.defs (F := Ideal)) (onTc (τ := Cert.ReferencePfIdeal.τ) (Cert.ReferencePfIdeal.main (F := Ideal))) ⟨m', fun _ => 0, g'⟩ (fun r => ∀ c : Dev Cert.ReferencePfIdeal.nD,
          r.2.mem ((c.tc : Thread Cert.ReferencePfIdeal.nD Cert.ReferencePfIdeal.τ).loc Cert.ReferencePfIdeal.main_v19) = v0 c
          ∧ r.2.mem ((c.tc : Thread Cert.ReferencePfIdeal.nD Cert.ReferencePfIdeal.τ).loc Cert.ReferencePfIdeal.main_arg0) = m' ((c.tc : Thread Cert.ReferencePfIdeal.nD Cert.ReferencePfIdeal.τ).loc Cert.ReferencePfIdeal.main_arg0)
          ∧ r.2.mem ((c.tc : Thread Cert.ReferencePfIdeal.nD Cert.ReferencePfIdeal.τ).loc Cert.ReferencePfIdeal.main_arg1) = m' ((c.tc : Thread Cert.ReferencePfIdeal.nD Cert.ReferencePfIdeal.τ).loc Cert.ReferencePfIdeal.main_arg1)
          ∧ r.2.mem ((c.tc : Thread Cert.ReferencePfIdeal.nD Cert.ReferencePfIdeal.τ).loc Cert.ReferencePfIdeal.main_arg2) = m' ((c.tc : Thread Cert.ReferencePfIdeal.nD Cert.ReferencePfIdeal.τ).loc Cert.ReferencePfIdeal.main_arg2))

def preserves_KernelFi_KernelFiIdeal : Prop :=
  True

def algebraic_KernelFiIdeal_ReferenceFiIdeal [hKernelFiIdeal : Cert.KernelFiIdeal.Facts] [hReferenceFiIdeal : Cert.ReferenceFiIdeal.Facts] : Prop :=
  ∀ (m : (ℓ : Loc Cert.KernelFiIdeal.nD Cert.KernelFiIdeal.τ Cert.KernelFiIdeal.sig) → Buf (Elt Ideal) ℓ) (g : Dev Cert.KernelFiIdeal.nD → PrngReg)
    (m' : (ℓ : Loc Cert.ReferenceFiIdeal.nD Cert.ReferenceFiIdeal.τ Cert.ReferenceFiIdeal.sig) → Buf (Elt Ideal) ℓ) (g' : Dev Cert.ReferenceFiIdeal.nD → PrngReg), Pre_KernelFiIdeal m →
    (∀ c : Dev Cert.KernelFiIdeal.nD,
      m' ((c.tc : Thread Cert.ReferenceFiIdeal.nD Cert.ReferenceFiIdeal.τ).loc Cert.ReferenceFiIdeal.main_arg0) = m ((c.tc : Thread Cert.KernelFiIdeal.nD Cert.KernelFiIdeal.τ).loc Cert.KernelFiIdeal.main_arg0)
      ∧ m' ((c.tc : Thread Cert.ReferenceFiIdeal.nD Cert.ReferenceFiIdeal.τ).loc Cert.ReferenceFiIdeal.main_arg1) = m ((c.tc : Thread Cert.KernelFiIdeal.nD Cert.KernelFiIdeal.τ).loc Cert.KernelFiIdeal.main_arg1)
      ∧ m' ((c.tc : Thread Cert.ReferenceFiIdeal.nD Cert.ReferenceFiIdeal.τ).loc Cert.ReferenceFiIdeal.main_arg2) = m ((c.tc : Thread Cert.KernelFiIdeal.nD Cert.KernelFiIdeal.τ).loc Cert.KernelFiIdeal.main_arg2)
      ∧ m' ((c.tc : Thread Cert.ReferenceFiIdeal.nD Cert.ReferenceFiIdeal.τ).loc Cert.ReferenceFiIdeal.main_arg3) = m ((c.tc : Thread Cert.KernelFiIdeal.nD Cert.KernelFiIdeal.τ).loc Cert.KernelFiIdeal.main_arg3)
      ∧ m' ((c.tc : Thread Cert.ReferenceFiIdeal.nD Cert.ReferenceFiIdeal.τ).loc Cert.ReferenceFiIdeal.main_arg4) = m ((c.tc : Thread Cert.KernelFiIdeal.nD Cert.KernelFiIdeal.τ).loc Cert.KernelFiIdeal.main_arg4)) →
    ∃ (v0 : (c : Dev Cert.KernelFiIdeal.nD) → Buf (Elt Ideal) ((c.tc : Thread Cert.KernelFiIdeal.nD Cert.KernelFiIdeal.τ).loc Cert.KernelFiIdeal.main_v0_0)) (v1 : (c : Dev Cert.KernelFiIdeal.nD) → Buf (Elt Ideal) ((c.tc : Thread Cert.KernelFiIdeal.nD Cert.KernelFiIdeal.τ).loc Cert.KernelFiIdeal.main_v0_1)) (v2 : (c : Dev Cert.KernelFiIdeal.nD) → Buf (Elt Ideal) ((c.tc : Thread Cert.KernelFiIdeal.nD Cert.KernelFiIdeal.τ).loc Cert.KernelFiIdeal.main_v0_2)) (v3 : (c : Dev Cert.KernelFiIdeal.nD) → Buf (Elt Ideal) ((c.tc : Thread Cert.KernelFiIdeal.nD Cert.KernelFiIdeal.τ).loc Cert.KernelFiIdeal.main_v0_3)),
      θ_run (Cert.KernelFiIdeal.defs (F := Ideal)) (onTc (τ := Cert.KernelFiIdeal.τ) (Cert.KernelFiIdeal.main (F := Ideal))) ⟨m, fun _ => 0, g⟩ (fun r => ∀ c : Dev Cert.KernelFiIdeal.nD,
          r.2.mem ((c.tc : Thread Cert.KernelFiIdeal.nD Cert.KernelFiIdeal.τ).loc Cert.KernelFiIdeal.main_v0_0) = v0 c
          ∧ r.2.mem ((c.tc : Thread Cert.KernelFiIdeal.nD Cert.KernelFiIdeal.τ).loc Cert.KernelFiIdeal.main_v0_1) = v1 c
          ∧ r.2.mem ((c.tc : Thread Cert.KernelFiIdeal.nD Cert.KernelFiIdeal.τ).loc Cert.KernelFiIdeal.main_v0_2) = v2 c
          ∧ r.2.mem ((c.tc : Thread Cert.KernelFiIdeal.nD Cert.KernelFiIdeal.τ).loc Cert.KernelFiIdeal.main_v0_3) = v3 c
          ∧ r.2.mem ((c.tc : Thread Cert.KernelFiIdeal.nD Cert.KernelFiIdeal.τ).loc Cert.KernelFiIdeal.main_arg0) = m ((c.tc : Thread Cert.KernelFiIdeal.nD Cert.KernelFiIdeal.τ).loc Cert.KernelFiIdeal.main_arg0)
          ∧ r.2.mem ((c.tc : Thread Cert.KernelFiIdeal.nD Cert.KernelFiIdeal.τ).loc Cert.KernelFiIdeal.main_arg1) = m ((c.tc : Thread Cert.KernelFiIdeal.nD Cert.KernelFiIdeal.τ).loc Cert.KernelFiIdeal.main_arg1)
          ∧ r.2.mem ((c.tc : Thread Cert.KernelFiIdeal.nD Cert.KernelFiIdeal.τ).loc Cert.KernelFiIdeal.main_arg2) = m ((c.tc : Thread Cert.KernelFiIdeal.nD Cert.KernelFiIdeal.τ).loc Cert.KernelFiIdeal.main_arg2)
          ∧ r.2.mem ((c.tc : Thread Cert.KernelFiIdeal.nD Cert.KernelFiIdeal.τ).loc Cert.KernelFiIdeal.main_arg3) = m ((c.tc : Thread Cert.KernelFiIdeal.nD Cert.KernelFiIdeal.τ).loc Cert.KernelFiIdeal.main_arg3)
          ∧ r.2.mem ((c.tc : Thread Cert.KernelFiIdeal.nD Cert.KernelFiIdeal.τ).loc Cert.KernelFiIdeal.main_arg4) = m ((c.tc : Thread Cert.KernelFiIdeal.nD Cert.KernelFiIdeal.τ).loc Cert.KernelFiIdeal.main_arg4))
      ∧ θ_run (Cert.ReferenceFiIdeal.defs (F := Ideal)) (onTc (τ := Cert.ReferenceFiIdeal.τ) (Cert.ReferenceFiIdeal.main (F := Ideal))) ⟨m', fun _ => 0, g'⟩ (fun r => ∀ c : Dev Cert.ReferenceFiIdeal.nD,
          r.2.mem ((c.tc : Thread Cert.ReferenceFiIdeal.nD Cert.ReferenceFiIdeal.τ).loc Cert.ReferenceFiIdeal.main_v52) = v0 c
          ∧ r.2.mem ((c.tc : Thread Cert.ReferenceFiIdeal.nD Cert.ReferenceFiIdeal.τ).loc Cert.ReferenceFiIdeal.main_v53) = v1 c
          ∧ r.2.mem ((c.tc : Thread Cert.ReferenceFiIdeal.nD Cert.ReferenceFiIdeal.τ).loc Cert.ReferenceFiIdeal.main_v54) = v2 c
          ∧ r.2.mem ((c.tc : Thread Cert.ReferenceFiIdeal.nD Cert.ReferenceFiIdeal.τ).loc Cert.ReferenceFiIdeal.main_v36) = v3 c
          ∧ r.2.mem ((c.tc : Thread Cert.ReferenceFiIdeal.nD Cert.ReferenceFiIdeal.τ).loc Cert.ReferenceFiIdeal.main_arg0) = m' ((c.tc : Thread Cert.ReferenceFiIdeal.nD Cert.ReferenceFiIdeal.τ).loc Cert.ReferenceFiIdeal.main_arg0)
          ∧ r.2.mem ((c.tc : Thread Cert.ReferenceFiIdeal.nD Cert.ReferenceFiIdeal.τ).loc Cert.ReferenceFiIdeal.main_arg1) = m' ((c.tc : Thread Cert.ReferenceFiIdeal.nD Cert.ReferenceFiIdeal.τ).loc Cert.ReferenceFiIdeal.main_arg1)
          ∧ r.2.mem ((c.tc : Thread Cert.ReferenceFiIdeal.nD Cert.ReferenceFiIdeal.τ).loc Cert.ReferenceFiIdeal.main_arg2) = m' ((c.tc : Thread Cert.ReferenceFiIdeal.nD Cert.ReferenceFiIdeal.τ).loc Cert.ReferenceFiIdeal.main_arg2)
          ∧ r.2.mem ((c.tc : Thread Cert.ReferenceFiIdeal.nD Cert.ReferenceFiIdeal.τ).loc Cert.ReferenceFiIdeal.main_arg3) = m' ((c.tc : Thread Cert.ReferenceFiIdeal.nD Cert.ReferenceFiIdeal.τ).loc Cert.ReferenceFiIdeal.main_arg3)
          ∧ r.2.mem ((c.tc : Thread Cert.ReferenceFiIdeal.nD Cert.ReferenceFiIdeal.τ).loc Cert.ReferenceFiIdeal.main_arg4) = m' ((c.tc : Thread Cert.ReferenceFiIdeal.nD Cert.ReferenceFiIdeal.τ).loc Cert.ReferenceFiIdeal.main_arg4))

def preserves_KernelSf_KernelSfIdeal : Prop :=
  True

def algebraic_KernelSfIdeal_ReferenceSfIdeal [hKernelSfIdeal : Cert.KernelSfIdeal.Facts] [hReferenceSfIdeal : Cert.ReferenceSfIdeal.Facts] : Prop :=
  ∀ (m : (ℓ : Loc Cert.KernelSfIdeal.nD Cert.KernelSfIdeal.τ Cert.KernelSfIdeal.sig) → Buf (Elt Ideal) ℓ) (g : Dev Cert.KernelSfIdeal.nD → PrngReg)
    (m' : (ℓ : Loc Cert.ReferenceSfIdeal.nD Cert.ReferenceSfIdeal.τ Cert.ReferenceSfIdeal.sig) → Buf (Elt Ideal) ℓ) (g' : Dev Cert.ReferenceSfIdeal.nD → PrngReg), Pre_KernelSfIdeal m →
    (∀ c : Dev Cert.KernelSfIdeal.nD,
      m' ((c.tc : Thread Cert.ReferenceSfIdeal.nD Cert.ReferenceSfIdeal.τ).loc Cert.ReferenceSfIdeal.main_arg0) = m ((c.tc : Thread Cert.KernelSfIdeal.nD Cert.KernelSfIdeal.τ).loc Cert.KernelSfIdeal.main_arg0)
      ∧ m' ((c.tc : Thread Cert.ReferenceSfIdeal.nD Cert.ReferenceSfIdeal.τ).loc Cert.ReferenceSfIdeal.main_arg1) = m ((c.tc : Thread Cert.KernelSfIdeal.nD Cert.KernelSfIdeal.τ).loc Cert.KernelSfIdeal.main_arg1)
      ∧ m' ((c.tc : Thread Cert.ReferenceSfIdeal.nD Cert.ReferenceSfIdeal.τ).loc Cert.ReferenceSfIdeal.main_arg2) = m ((c.tc : Thread Cert.KernelSfIdeal.nD Cert.KernelSfIdeal.τ).loc Cert.KernelSfIdeal.main_arg2)
      ∧ m' ((c.tc : Thread Cert.ReferenceSfIdeal.nD Cert.ReferenceSfIdeal.τ).loc Cert.ReferenceSfIdeal.main_arg3) = m ((c.tc : Thread Cert.KernelSfIdeal.nD Cert.KernelSfIdeal.τ).loc Cert.KernelSfIdeal.main_arg3)) →
    ∃ (v0 : (c : Dev Cert.KernelSfIdeal.nD) → Buf (Elt Ideal) ((c.tc : Thread Cert.KernelSfIdeal.nD Cert.KernelSfIdeal.τ).loc Cert.KernelSfIdeal.main_v0)),
      θ_run (Cert.KernelSfIdeal.defs (F := Ideal)) (onTc (τ := Cert.KernelSfIdeal.τ) (Cert.KernelSfIdeal.main (F := Ideal))) ⟨m, fun _ => 0, g⟩ (fun r => ∀ c : Dev Cert.KernelSfIdeal.nD,
          r.2.mem ((c.tc : Thread Cert.KernelSfIdeal.nD Cert.KernelSfIdeal.τ).loc Cert.KernelSfIdeal.main_v0) = v0 c
          ∧ r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
          ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
          ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
          ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3))
      ∧ θ_run (Cert.ReferenceSfIdeal.defs (F := Ideal)) (onTc (τ := Cert.ReferenceSfIdeal.τ) (Cert.ReferenceSfIdeal.main (F := Ideal))) ⟨m', fun _ => 0, g'⟩ (fun r => ∀ c : Dev Cert.ReferenceSfIdeal.nD,
          r.2.mem ((c.tc : Thread Cert.ReferenceSfIdeal.nD Cert.ReferenceSfIdeal.τ).loc Cert.ReferenceSfIdeal.main_v29) = v0 c
          ∧ r.2.mem ((c.tc : Thread Cert.ReferenceSfIdeal.nD Cert.ReferenceSfIdeal.τ).loc Cert.ReferenceSfIdeal.main_arg0) = m' ((c.tc : Thread Cert.ReferenceSfIdeal.nD Cert.ReferenceSfIdeal.τ).loc Cert.ReferenceSfIdeal.main_arg0)
          ∧ r.2.mem ((c.tc : Thread Cert.ReferenceSfIdeal.nD Cert.ReferenceSfIdeal.τ).loc Cert.ReferenceSfIdeal.main_arg1) = m' ((c.tc : Thread Cert.ReferenceSfIdeal.nD Cert.ReferenceSfIdeal.τ).loc Cert.ReferenceSfIdeal.main_arg1)
          ∧ r.2.mem ((c.tc : Thread Cert.ReferenceSfIdeal.nD Cert.ReferenceSfIdeal.τ).loc Cert.ReferenceSfIdeal.main_arg2) = m' ((c.tc : Thread Cert.ReferenceSfIdeal.nD Cert.ReferenceSfIdeal.τ).loc Cert.ReferenceSfIdeal.main_arg2)
          ∧ r.2.mem ((c.tc : Thread Cert.ReferenceSfIdeal.nD Cert.ReferenceSfIdeal.τ).loc Cert.ReferenceSfIdeal.main_arg3) = m' ((c.tc : Thread Cert.ReferenceSfIdeal.nD Cert.ReferenceSfIdeal.τ).loc Cert.ReferenceSfIdeal.main_arg3))

def preserves_KernelLf_KernelLfIdeal : Prop :=
  True

def algebraic_KernelLfIdeal_ReferenceLfIdeal [hKernelLfIdeal : Cert.KernelLfIdeal.Facts] [hReferenceLfIdeal : Cert.ReferenceLfIdeal.Facts] : Prop :=
  ∀ (m : (ℓ : Loc Cert.KernelLfIdeal.nD Cert.KernelLfIdeal.τ Cert.KernelLfIdeal.sig) → Buf (Elt Ideal) ℓ) (g : Dev Cert.KernelLfIdeal.nD → PrngReg)
    (m' : (ℓ : Loc Cert.ReferenceLfIdeal.nD Cert.ReferenceLfIdeal.τ Cert.ReferenceLfIdeal.sig) → Buf (Elt Ideal) ℓ) (g' : Dev Cert.ReferenceLfIdeal.nD → PrngReg), Pre_KernelLfIdeal m →
    (∀ c : Dev Cert.KernelLfIdeal.nD,
      m' ((c.tc : Thread Cert.ReferenceLfIdeal.nD Cert.ReferenceLfIdeal.τ).loc Cert.ReferenceLfIdeal.main_arg0) = m ((c.tc : Thread Cert.KernelLfIdeal.nD Cert.KernelLfIdeal.τ).loc Cert.KernelLfIdeal.main_arg0)
      ∧ m' ((c.tc : Thread Cert.ReferenceLfIdeal.nD Cert.ReferenceLfIdeal.τ).loc Cert.ReferenceLfIdeal.main_arg1) = m ((c.tc : Thread Cert.KernelLfIdeal.nD Cert.KernelLfIdeal.τ).loc Cert.KernelLfIdeal.main_arg1)) →
    ∃ (v0 : (c : Dev Cert.KernelLfIdeal.nD) → Buf (Elt Ideal) ((c.tc : Thread Cert.KernelLfIdeal.nD Cert.KernelLfIdeal.τ).loc Cert.KernelLfIdeal.main_v0_0)) (v1 : (c : Dev Cert.KernelLfIdeal.nD) → Buf (Elt Ideal) ((c.tc : Thread Cert.KernelLfIdeal.nD Cert.KernelLfIdeal.τ).loc Cert.KernelLfIdeal.main_v0_1)),
      θ_run (Cert.KernelLfIdeal.defs (F := Ideal)) (onTc (τ := Cert.KernelLfIdeal.τ) (Cert.KernelLfIdeal.main (F := Ideal))) ⟨m, fun _ => 0, g⟩ (fun r => ∀ c : Dev Cert.KernelLfIdeal.nD,
          r.2.mem ((c.tc : Thread Cert.KernelLfIdeal.nD Cert.KernelLfIdeal.τ).loc Cert.KernelLfIdeal.main_v0_0) = v0 c
          ∧ r.2.mem ((c.tc : Thread Cert.KernelLfIdeal.nD Cert.KernelLfIdeal.τ).loc Cert.KernelLfIdeal.main_v0_1) = v1 c
          ∧ r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
          ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1))
      ∧ θ_run (Cert.ReferenceLfIdeal.defs (F := Ideal)) (onTc (τ := Cert.ReferenceLfIdeal.τ) (Cert.ReferenceLfIdeal.main (F := Ideal))) ⟨m', fun _ => 0, g'⟩ (fun r => ∀ c : Dev Cert.ReferenceLfIdeal.nD,
          r.2.mem ((c.tc : Thread Cert.ReferenceLfIdeal.nD Cert.ReferenceLfIdeal.τ).loc Cert.ReferenceLfIdeal.main_v12) = v0 c
          ∧ r.2.mem ((c.tc : Thread Cert.ReferenceLfIdeal.nD Cert.ReferenceLfIdeal.τ).loc Cert.ReferenceLfIdeal.main_v20) = v1 c
          ∧ r.2.mem ((c.tc : Thread Cert.ReferenceLfIdeal.nD Cert.ReferenceLfIdeal.τ).loc Cert.ReferenceLfIdeal.main_arg0) = m' ((c.tc : Thread Cert.ReferenceLfIdeal.nD Cert.ReferenceLfIdeal.τ).loc Cert.ReferenceLfIdeal.main_arg0)
          ∧ r.2.mem ((c.tc : Thread Cert.ReferenceLfIdeal.nD Cert.ReferenceLfIdeal.τ).loc Cert.ReferenceLfIdeal.main_arg1) = m' ((c.tc : Thread Cert.ReferenceLfIdeal.nD Cert.ReferenceLfIdeal.τ).loc Cert.ReferenceLfIdeal.main_arg1))

def preserves_KernelPb_KernelPbIdeal : Prop :=
  True

def algebraic_KernelPbIdeal_ReferencePbIdeal_pre_finite_norm [hKernelPbIdeal : Cert.KernelPbIdeal.Facts] [hReferencePbIdeal : Cert.ReferencePbIdeal.Facts] [hPre_finite_norm : Cert.Pre_finite_norm.Facts] : Prop :=
  ∀ (m : (ℓ : Loc Cert.KernelPbIdeal.nD Cert.KernelPbIdeal.τ Cert.KernelPbIdeal.sig) → Buf (Elt Ideal) ℓ) (g : Dev Cert.KernelPbIdeal.nD → PrngReg)
    (m' : (ℓ : Loc Cert.ReferencePbIdeal.nD Cert.ReferencePbIdeal.τ Cert.ReferencePbIdeal.sig) → Buf (Elt Ideal) ℓ) (g' : Dev Cert.ReferencePbIdeal.nD → PrngReg), Pre_KernelPbIdeal_finite_norm m →
    (∀ c : Dev Cert.KernelPbIdeal.nD,
      m' ((c.tc : Thread Cert.ReferencePbIdeal.nD Cert.ReferencePbIdeal.τ).loc Cert.ReferencePbIdeal.main_arg0) = m ((c.tc : Thread Cert.KernelPbIdeal.nD Cert.KernelPbIdeal.τ).loc Cert.KernelPbIdeal.main_arg0)
      ∧ m' ((c.tc : Thread Cert.ReferencePbIdeal.nD Cert.ReferencePbIdeal.τ).loc Cert.ReferencePbIdeal.main_arg1) = m ((c.tc : Thread Cert.KernelPbIdeal.nD Cert.KernelPbIdeal.τ).loc Cert.KernelPbIdeal.main_arg1)
      ∧ m' ((c.tc : Thread Cert.ReferencePbIdeal.nD Cert.ReferencePbIdeal.τ).loc Cert.ReferencePbIdeal.main_arg2) = m ((c.tc : Thread Cert.KernelPbIdeal.nD Cert.KernelPbIdeal.τ).loc Cert.KernelPbIdeal.main_arg2)
      ∧ m' ((c.tc : Thread Cert.ReferencePbIdeal.nD Cert.ReferencePbIdeal.τ).loc Cert.ReferencePbIdeal.main_arg3) = m ((c.tc : Thread Cert.KernelPbIdeal.nD Cert.KernelPbIdeal.τ).loc Cert.KernelPbIdeal.main_arg3)) →
    ∃ (v0 : (c : Dev Cert.KernelPbIdeal.nD) → Buf (Elt Ideal) ((c.tc : Thread Cert.KernelPbIdeal.nD Cert.KernelPbIdeal.τ).loc Cert.KernelPbIdeal.main_v0_0)) (v1 : (c : Dev Cert.KernelPbIdeal.nD) → Buf (Elt Ideal) ((c.tc : Thread Cert.KernelPbIdeal.nD Cert.KernelPbIdeal.τ).loc Cert.KernelPbIdeal.main_v0_1)) (v2 : (c : Dev Cert.KernelPbIdeal.nD) → Buf (Elt Ideal) ((c.tc : Thread Cert.KernelPbIdeal.nD Cert.KernelPbIdeal.τ).loc Cert.KernelPbIdeal.main_v0_2)),
      θ_run (Cert.KernelPbIdeal.defs (F := Ideal)) (onTc (τ := Cert.KernelPbIdeal.τ) (Cert.KernelPbIdeal.main (F := Ideal))) ⟨m, fun _ => 0, g⟩ (fun r => ∀ c : Dev Cert.KernelPbIdeal.nD,
          r.2.mem ((c.tc : Thread Cert.KernelPbIdeal.nD Cert.KernelPbIdeal.τ).loc Cert.KernelPbIdeal.main_v0_0) = v0 c
          ∧ r.2.mem ((c.tc : Thread Cert.KernelPbIdeal.nD Cert.KernelPbIdeal.τ).loc Cert.KernelPbIdeal.main_v0_1) = v1 c
          ∧ r.2.mem ((c.tc : Thread Cert.KernelPbIdeal.nD Cert.KernelPbIdeal.τ).loc Cert.KernelPbIdeal.main_v0_2) = v2 c
          ∧ r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
          ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1)
          ∧ r.2.mem ((c.tc : Thread Cert.KernelPbIdeal.nD Cert.KernelPbIdeal.τ).loc Cert.KernelPbIdeal.main_arg2) = m ((c.tc : Thread Cert.KernelPbIdeal.nD Cert.KernelPbIdeal.τ).loc Cert.KernelPbIdeal.main_arg2)
          ∧ r.2.mem ((c.tc : Thread Cert.KernelPbIdeal.nD Cert.KernelPbIdeal.τ).loc Cert.KernelPbIdeal.main_arg3) = m ((c.tc : Thread Cert.KernelPbIdeal.nD Cert.KernelPbIdeal.τ).loc Cert.KernelPbIdeal.main_arg3))
      ∧ θ_run (Cert.ReferencePbIdeal.defs (F := Ideal)) (onTc (τ := Cert.ReferencePbIdeal.τ) (Cert.ReferencePbIdeal.main (F := Ideal))) ⟨m', fun _ => 0, g'⟩ (fun r => ∀ c : Dev Cert.ReferencePbIdeal.nD,
          r.2.mem ((c.tc : Thread Cert.ReferencePbIdeal.nD Cert.ReferencePbIdeal.τ).loc Cert.ReferencePbIdeal.main_v48) = v0 c
          ∧ r.2.mem ((c.tc : Thread Cert.ReferencePbIdeal.nD Cert.ReferencePbIdeal.τ).loc Cert.ReferencePbIdeal.main_v49) = v1 c
          ∧ r.2.mem ((c.tc : Thread Cert.ReferencePbIdeal.nD Cert.ReferencePbIdeal.τ).loc Cert.ReferencePbIdeal.main_v33) = v2 c
          ∧ r.2.mem ((c.tc : Thread Cert.ReferencePbIdeal.nD Cert.ReferencePbIdeal.τ).loc Cert.ReferencePbIdeal.main_arg0) = m' ((c.tc : Thread Cert.ReferencePbIdeal.nD Cert.ReferencePbIdeal.τ).loc Cert.ReferencePbIdeal.main_arg0)
          ∧ r.2.mem ((c.tc : Thread Cert.ReferencePbIdeal.nD Cert.ReferencePbIdeal.τ).loc Cert.ReferencePbIdeal.main_arg1) = m' ((c.tc : Thread Cert.ReferencePbIdeal.nD Cert.ReferencePbIdeal.τ).loc Cert.ReferencePbIdeal.main_arg1)
          ∧ r.2.mem ((c.tc : Thread Cert.ReferencePbIdeal.nD Cert.ReferencePbIdeal.τ).loc Cert.ReferencePbIdeal.main_arg2) = m' ((c.tc : Thread Cert.ReferencePbIdeal.nD Cert.ReferencePbIdeal.τ).loc Cert.ReferencePbIdeal.main_arg2)
          ∧ r.2.mem ((c.tc : Thread Cert.ReferencePbIdeal.nD Cert.ReferencePbIdeal.τ).loc Cert.ReferencePbIdeal.main_arg3) = m' ((c.tc : Thread Cert.ReferencePbIdeal.nD Cert.ReferencePbIdeal.τ).loc Cert.ReferencePbIdeal.main_arg3))

def preserves_KernelLb_KernelLbIdeal : Prop :=
  True

def algebraic_KernelLbIdeal_ReferenceLbIdeal [hKernelLbIdeal : Cert.KernelLbIdeal.Facts] [hReferenceLbIdeal : Cert.ReferenceLbIdeal.Facts] : Prop :=
  ∀ (m : (ℓ : Loc Cert.KernelLbIdeal.nD Cert.KernelLbIdeal.τ Cert.KernelLbIdeal.sig) → Buf (Elt Ideal) ℓ) (g : Dev Cert.KernelLbIdeal.nD → PrngReg)
    (m' : (ℓ : Loc Cert.ReferenceLbIdeal.nD Cert.ReferenceLbIdeal.τ Cert.ReferenceLbIdeal.sig) → Buf (Elt Ideal) ℓ) (g' : Dev Cert.ReferenceLbIdeal.nD → PrngReg), Pre_KernelLbIdeal m →
    (∀ c : Dev Cert.KernelLbIdeal.nD,
      m' ((c.tc : Thread Cert.ReferenceLbIdeal.nD Cert.ReferenceLbIdeal.τ).loc Cert.ReferenceLbIdeal.main_arg0) = m ((c.tc : Thread Cert.KernelLbIdeal.nD Cert.KernelLbIdeal.τ).loc Cert.KernelLbIdeal.main_arg0)
      ∧ m' ((c.tc : Thread Cert.ReferenceLbIdeal.nD Cert.ReferenceLbIdeal.τ).loc Cert.ReferenceLbIdeal.main_arg1) = m ((c.tc : Thread Cert.KernelLbIdeal.nD Cert.KernelLbIdeal.τ).loc Cert.KernelLbIdeal.main_arg1)
      ∧ m' ((c.tc : Thread Cert.ReferenceLbIdeal.nD Cert.ReferenceLbIdeal.τ).loc Cert.ReferenceLbIdeal.main_arg2) = m ((c.tc : Thread Cert.KernelLbIdeal.nD Cert.KernelLbIdeal.τ).loc Cert.KernelLbIdeal.main_arg2)
      ∧ m' ((c.tc : Thread Cert.ReferenceLbIdeal.nD Cert.ReferenceLbIdeal.τ).loc Cert.ReferenceLbIdeal.main_arg3) = m ((c.tc : Thread Cert.KernelLbIdeal.nD Cert.KernelLbIdeal.τ).loc Cert.KernelLbIdeal.main_arg3)) →
    ∃ (v0 : (c : Dev Cert.KernelLbIdeal.nD) → Buf (Elt Ideal) ((c.tc : Thread Cert.KernelLbIdeal.nD Cert.KernelLbIdeal.τ).loc Cert.KernelLbIdeal.main_v8_0)) (v1 : (c : Dev Cert.KernelLbIdeal.nD) → Buf (Elt Ideal) ((c.tc : Thread Cert.KernelLbIdeal.nD Cert.KernelLbIdeal.τ).loc Cert.KernelLbIdeal.main_v8_1)),
      θ_run (Cert.KernelLbIdeal.defs (F := Ideal)) (onTc (τ := Cert.KernelLbIdeal.τ) (Cert.KernelLbIdeal.main (F := Ideal))) ⟨m, fun _ => 0, g⟩ (fun r => ∀ c : Dev Cert.KernelLbIdeal.nD,
          r.2.mem ((c.tc : Thread Cert.KernelLbIdeal.nD Cert.KernelLbIdeal.τ).loc Cert.KernelLbIdeal.main_v8_0) = v0 c
          ∧ r.2.mem ((c.tc : Thread Cert.KernelLbIdeal.nD Cert.KernelLbIdeal.τ).loc Cert.KernelLbIdeal.main_v8_1) = v1 c
          ∧ r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
          ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1)
          ∧ r.2.mem ((c.tc : Thread Cert.KernelLbIdeal.nD Cert.KernelLbIdeal.τ).loc Cert.KernelLbIdeal.main_arg2) = m ((c.tc : Thread Cert.KernelLbIdeal.nD Cert.KernelLbIdeal.τ).loc Cert.KernelLbIdeal.main_arg2)
          ∧ r.2.mem ((c.tc : Thread Cert.KernelLbIdeal.nD Cert.KernelLbIdeal.τ).loc Cert.KernelLbIdeal.main_arg3) = m ((c.tc : Thread Cert.KernelLbIdeal.nD Cert.KernelLbIdeal.τ).loc Cert.KernelLbIdeal.main_arg3))
      ∧ θ_run (Cert.ReferenceLbIdeal.defs (F := Ideal)) (onTc (τ := Cert.ReferenceLbIdeal.τ) (Cert.ReferenceLbIdeal.main (F := Ideal))) ⟨m', fun _ => 0, g'⟩ (fun r => ∀ c : Dev Cert.ReferenceLbIdeal.nD,
          r.2.mem ((c.tc : Thread Cert.ReferenceLbIdeal.nD Cert.ReferenceLbIdeal.τ).loc Cert.ReferenceLbIdeal.main_v34) = v0 c
          ∧ r.2.mem ((c.tc : Thread Cert.ReferenceLbIdeal.nD Cert.ReferenceLbIdeal.τ).loc Cert.ReferenceLbIdeal.main_v17) = v1 c
          ∧ r.2.mem ((c.tc : Thread Cert.ReferenceLbIdeal.nD Cert.ReferenceLbIdeal.τ).loc Cert.ReferenceLbIdeal.main_arg0) = m' ((c.tc : Thread Cert.ReferenceLbIdeal.nD Cert.ReferenceLbIdeal.τ).loc Cert.ReferenceLbIdeal.main_arg0)
          ∧ r.2.mem ((c.tc : Thread Cert.ReferenceLbIdeal.nD Cert.ReferenceLbIdeal.τ).loc Cert.ReferenceLbIdeal.main_arg1) = m' ((c.tc : Thread Cert.ReferenceLbIdeal.nD Cert.ReferenceLbIdeal.τ).loc Cert.ReferenceLbIdeal.main_arg1)
          ∧ r.2.mem ((c.tc : Thread Cert.ReferenceLbIdeal.nD Cert.ReferenceLbIdeal.τ).loc Cert.ReferenceLbIdeal.main_arg2) = m' ((c.tc : Thread Cert.ReferenceLbIdeal.nD Cert.ReferenceLbIdeal.τ).loc Cert.ReferenceLbIdeal.main_arg2)
          ∧ r.2.mem ((c.tc : Thread Cert.ReferenceLbIdeal.nD Cert.ReferenceLbIdeal.τ).loc Cert.ReferenceLbIdeal.main_arg3) = m' ((c.tc : Thread Cert.ReferenceLbIdeal.nD Cert.ReferenceLbIdeal.τ).loc Cert.ReferenceLbIdeal.main_arg3))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelDw : Cert.KernelDw.Facts) (hKernelDwIdeal : Cert.KernelDwIdeal.Facts) (hReferenceDwIdeal : Cert.ReferenceDwIdeal.Facts) (hKernelDh : Cert.KernelDh.Facts) (hKernelDhIdeal : Cert.KernelDhIdeal.Facts) (hReferenceDhIdeal : Cert.ReferenceDhIdeal.Facts) (hKernelMf : Cert.KernelMf.Facts) (hKernelMfIdeal : Cert.KernelMfIdeal.Facts) (hReferenceMfIdeal : Cert.ReferenceMfIdeal.Facts) (hKernelMb : Cert.KernelMb.Facts) (hKernelMbIdeal : Cert.KernelMbIdeal.Facts) (hReferenceMbIdeal : Cert.ReferenceMbIdeal.Facts) (hKernelWo : Cert.KernelWo.Facts) (hKernelWoIdeal : Cert.KernelWoIdeal.Facts) (hReferenceWoIdeal : Cert.ReferenceWoIdeal.Facts) (hKernelSu : Cert.KernelSu.Facts) (hKernelSuIdeal : Cert.KernelSuIdeal.Facts) (hReferenceSuIdeal : Cert.ReferenceSuIdeal.Facts) (hKernelDu : Cert.KernelDu.Facts) (hKernelDuIdeal : Cert.KernelDuIdeal.Facts) (hReferenceDuIdeal : Cert.ReferenceDuIdeal.Facts) (hKernelSo : Cert.KernelSo.Facts) (hKernelSoIdeal : Cert.KernelSoIdeal.Facts) (hReferenceSoIdeal : Cert.ReferenceSoIdeal.Facts) (hKernelDo : Cert.KernelDo.Facts) (hKernelDoIdeal : Cert.KernelDoIdeal.Facts) (hReferenceDoIdeal : Cert.ReferenceDoIdeal.Facts) (hKernelPf : Cert.KernelPf.Facts) (hKernelPfIdeal : Cert.KernelPfIdeal.Facts) (hReferencePfIdeal : Cert.ReferencePfIdeal.Facts) (hKernelFi : Cert.KernelFi.Facts) (hKernelFiIdeal : Cert.KernelFiIdeal.Facts) (hReferenceFiIdeal : Cert.ReferenceFiIdeal.Facts) (hKernelSf : Cert.KernelSf.Facts) (hKernelSfIdeal : Cert.KernelSfIdeal.Facts) (hReferenceSfIdeal : Cert.ReferenceSfIdeal.Facts) (hKernelLf : Cert.KernelLf.Facts) (hKernelLfIdeal : Cert.KernelLfIdeal.Facts) (hReferenceLfIdeal : Cert.ReferenceLfIdeal.Facts) (hKernelPb : Cert.KernelPb.Facts) (hKernelPbIdeal : Cert.KernelPbIdeal.Facts) (hReferencePbIdeal : Cert.ReferencePbIdeal.Facts) (hKernelLb : Cert.KernelLb.Facts) (hKernelLbIdeal : Cert.KernelLbIdeal.Facts) (hReferenceLbIdeal : Cert.ReferenceLbIdeal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDw (hKernelDw := hKernelDw)
    ∧ quiescent_KernelDwIdeal (hKernelDwIdeal := hKernelDwIdeal)
    ∧ quiescent_ReferenceDwIdeal (hReferenceDwIdeal := hReferenceDwIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelMf (hKernelMf := hKernelMf)
    ∧ quiescent_KernelMfIdeal (hKernelMfIdeal := hKernelMfIdeal)
    ∧ quiescent_ReferenceMfIdeal (hReferenceMfIdeal := hReferenceMfIdeal)
    ∧ quiescent_KernelMb (hKernelMb := hKernelMb)
    ∧ quiescent_KernelMbIdeal (hKernelMbIdeal := hKernelMbIdeal)
    ∧ quiescent_ReferenceMbIdeal (hReferenceMbIdeal := hReferenceMbIdeal)
    ∧ quiescent_KernelWo (hKernelWo := hKernelWo)
    ∧ quiescent_KernelWoIdeal (hKernelWoIdeal := hKernelWoIdeal)
    ∧ quiescent_ReferenceWoIdeal (hReferenceWoIdeal := hReferenceWoIdeal)
    ∧ quiescent_KernelSu (hKernelSu := hKernelSu)
    ∧ quiescent_KernelSuIdeal (hKernelSuIdeal := hKernelSuIdeal)
    ∧ quiescent_ReferenceSuIdeal (hReferenceSuIdeal := hReferenceSuIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelSo (hKernelSo := hKernelSo)
    ∧ quiescent_KernelSoIdeal (hKernelSoIdeal := hKernelSoIdeal)
    ∧ quiescent_ReferenceSoIdeal (hReferenceSoIdeal := hReferenceSoIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelPf (hKernelPf := hKernelPf)
    ∧ quiescent_KernelPfIdeal (hKernelPfIdeal := hKernelPfIdeal)
    ∧ quiescent_ReferencePfIdeal (hReferencePfIdeal := hReferencePfIdeal)
    ∧ quiescent_KernelFi (hKernelFi := hKernelFi)
    ∧ quiescent_KernelFiIdeal (hKernelFiIdeal := hKernelFiIdeal)
    ∧ quiescent_ReferenceFiIdeal (hReferenceFiIdeal := hReferenceFiIdeal)
    ∧ quiescent_KernelSf (hKernelSf := hKernelSf)
    ∧ quiescent_KernelSfIdeal (hKernelSfIdeal := hKernelSfIdeal)
    ∧ quiescent_ReferenceSfIdeal (hReferenceSfIdeal := hReferenceSfIdeal)
    ∧ quiescent_KernelLf (hKernelLf := hKernelLf)
    ∧ quiescent_KernelLfIdeal (hKernelLfIdeal := hKernelLfIdeal)
    ∧ quiescent_ReferenceLfIdeal (hReferenceLfIdeal := hReferenceLfIdeal)
    ∧ quiescent_KernelPb (hKernelPb := hKernelPb)
    ∧ quiescent_KernelPbIdeal (hKernelPbIdeal := hKernelPbIdeal)
    ∧ quiescent_KernelPbIdeal_pre_finite_norm (hKernelPbIdeal := hKernelPbIdeal) (hPre_finite_norm := hPre_finite_norm)
    ∧ quiescent_ReferencePbIdeal (hReferencePbIdeal := hReferencePbIdeal)
    ∧ quiescent_ReferencePbIdeal_pre_finite_norm (hReferencePbIdeal := hReferencePbIdeal) (hPre_finite_norm := hPre_finite_norm)
    ∧ quiescent_KernelLb (hKernelLb := hKernelLb)
    ∧ quiescent_KernelLbIdeal (hKernelLbIdeal := hKernelLbIdeal)
    ∧ quiescent_ReferenceLbIdeal (hReferenceLbIdeal := hReferenceLbIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelDw_KernelDwIdeal
    ∧ algebraic_KernelDwIdeal_ReferenceDwIdeal (hKernelDwIdeal := hKernelDwIdeal) (hReferenceDwIdeal := hReferenceDwIdeal)
    ∧ preserves_KernelDh_KernelDhIdeal
    ∧ algebraic_KernelDhIdeal_ReferenceDhIdeal (hKernelDhIdeal := hKernelDhIdeal) (hReferenceDhIdeal := hReferenceDhIdeal)
    ∧ preserves_KernelMf_KernelMfIdeal
    ∧ algebraic_KernelMfIdeal_ReferenceMfIdeal (hKernelMfIdeal := hKernelMfIdeal) (hReferenceMfIdeal := hReferenceMfIdeal)
    ∧ preserves_KernelMb_KernelMbIdeal
    ∧ algebraic_KernelMbIdeal_ReferenceMbIdeal (hKernelMbIdeal := hKernelMbIdeal) (hReferenceMbIdeal := hReferenceMbIdeal)
    ∧ preserves_KernelWo_KernelWoIdeal
    ∧ algebraic_KernelWoIdeal_ReferenceWoIdeal (hKernelWoIdeal := hKernelWoIdeal) (hReferenceWoIdeal := hReferenceWoIdeal)
    ∧ preserves_KernelSu_KernelSuIdeal
    ∧ algebraic_KernelSuIdeal_ReferenceSuIdeal (hKernelSuIdeal := hKernelSuIdeal) (hReferenceSuIdeal := hReferenceSuIdeal)
    ∧ preserves_KernelDu_KernelDuIdeal
    ∧ algebraic_KernelDuIdeal_ReferenceDuIdeal (hKernelDuIdeal := hKernelDuIdeal) (hReferenceDuIdeal := hReferenceDuIdeal)
    ∧ preserves_KernelSo_KernelSoIdeal
    ∧ algebraic_KernelSoIdeal_ReferenceSoIdeal (hKernelSoIdeal := hKernelSoIdeal) (hReferenceSoIdeal := hReferenceSoIdeal)
    ∧ preserves_KernelDo_KernelDoIdeal
    ∧ algebraic_KernelDoIdeal_ReferenceDoIdeal (hKernelDoIdeal := hKernelDoIdeal) (hReferenceDoIdeal := hReferenceDoIdeal)
    ∧ preserves_KernelPf_KernelPfIdeal
    ∧ algebraic_KernelPfIdeal_ReferencePfIdeal (hKernelPfIdeal := hKernelPfIdeal) (hReferencePfIdeal := hReferencePfIdeal)
    ∧ preserves_KernelFi_KernelFiIdeal
    ∧ algebraic_KernelFiIdeal_ReferenceFiIdeal (hKernelFiIdeal := hKernelFiIdeal) (hReferenceFiIdeal := hReferenceFiIdeal)
    ∧ preserves_KernelSf_KernelSfIdeal
    ∧ algebraic_KernelSfIdeal_ReferenceSfIdeal (hKernelSfIdeal := hKernelSfIdeal) (hReferenceSfIdeal := hReferenceSfIdeal)
    ∧ preserves_KernelLf_KernelLfIdeal
    ∧ algebraic_KernelLfIdeal_ReferenceLfIdeal (hKernelLfIdeal := hKernelLfIdeal) (hReferenceLfIdeal := hReferenceLfIdeal)
    ∧ preserves_KernelPb_KernelPbIdeal
    ∧ algebraic_KernelPbIdeal_ReferencePbIdeal_pre_finite_norm (hKernelPbIdeal := hKernelPbIdeal) (hReferencePbIdeal := hReferencePbIdeal) (hPre_finite_norm := hPre_finite_norm)
    ∧ preserves_KernelLb_KernelLbIdeal
    ∧ algebraic_KernelLbIdeal_ReferenceLbIdeal (hKernelLbIdeal := hKernelLbIdeal) (hReferenceLbIdeal := hReferenceLbIdeal)
-- ==== Pre_finite.lean ====
abbrev S2048x1024 : Shape := ⟨2, ![2048, 1024]⟩
abbrev S32x8x64x64 : Shape := ⟨4, ![32, 8, 64, 64]⟩
abbrev S32x8 : Shape := ⟨2, ![32, 8]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S32x8x64x64 : S_.BroadcastsInDim S32x8x64x64 (![] : Fin 0 → Fin S32x8x64x64.rank)
  reducesTo_S32x8x64x64_S_d0_1_2_3 : S32x8x64x64.ReducesTo [0, 1, 2, 3] S_
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_arg4 : FVec F S32x8x64x64 .f32) (main_arg5 : FVec F S32x8 .f32) (main_arg6 : FVec F S2048x1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S32x8x64x64 .f32 := subf main_arg4 main_arg4
  let main_cst_6 : FVec F S_ .f32 := constant S_ .f32 0x00000000#32
  let main_v20 : FVec F S32x8x64x64 .f32 := broadcastInDim S32x8x64x64 ![] bcast_S_S32x8x64x64 main_cst_6
  let main_v21 : IVec S32x8x64x64 1 := cmpf .oeq main_v19 main_v20
  let main_c_7 : IVec S_ 1 := constantI S_ 1 1#1
  let main_v22 : IVec S_ 1 := (fun x v => Host.reduce IntOp.andi x v reducesTo_S32x8x64x64_S_d0_1_2_3 h_S_) main_v21 main_c_7
  let main_v23 : IVec S_ 1 := andi main_v18 main_v22
  let main_v24 : FVec F S32x8 .f32 := subf main_arg5 main_arg5
  let main_cst_8 : FVec F S_ .f32 := constant S_ .f32 0x00000000#32
  let main_v25 : FVec F S32x8 .f32 := broadcastInDim S32x8 ![] bcast_S_S32x8 main_cst_8
  let main_v26 : IVec S32x8 1 := cmpf .oeq main_v24 main_v25
  let main_c_9 : IVec S_ 1 := constantI S_ 1 1#1
  let main_v27 : IVec S_ 1 := (fun x v => Host.reduce IntOp.andi x v reducesTo_S32x8_S_d0_1 h_S_) main_v26 main_c_9
  let main_v28 : IVec S_ 1 := andi main_v23 main_v27
  let main_v29 : FVec F S2048x1024 .f32 := subf main_arg6 main_arg6
  let main_cst_10 : FVec F S_ .f32 := constant S_ .f32 0x00000000#32
  let main_v30 : FVec F S2048x1024 .f32 := broadcastInDim S2048x1024 ![] bcast_S_S2048x1024 main_cst_10
  let main_v31 : IVec S2048x1024 1 := cmpf .oeq main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x1024 .f32) (main_arg1 : FVec F S2048x1024 .f32) (main_arg2 : FVec F S2048x1024 .f32) (main_arg3 : FVec F S2048x1024 .f32) (main_arg4 : FVec F S32x8x64x64 .f32) (main_arg5 : FVec F S32x8 .f32) (main_arg6 : FVec F S2048x1024 .f32) : IVec S_ 1 :=
  let main_v0 : FVec F S2048x1024 .f32 := subf main_arg0 main_arg0
  let main_cst : FVec F S_ .f32 := constant S_ .f32 0x00000000#32
  let main_v1 : FVec F S2048x1024 .f32 := broadcastInDim S2048x1024 ![] bcast_S_S2048x1024 main_cst
  let main_v2 : IVec S2048x1024 1 := cmpf .oeq main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := subf main_arg1 main_arg1
  let main_cst_0 : FVec F S_ .f32 := constant S_ .f32 0x00000000#32
  let main_v5 : FVec F S2048x1024 .f32 := broadcastInDim S2048x1024 ![] bcast_S_S2048x1024 main_cst_0
  let main_v6 : IVec S2048x1024 1 := cmpf .oeq main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := subf main_arg2 main_arg2
  let main_cst_2 : FVec F S_ .f32 := constant S_ .f32 0x00000000#32
  let main_v10 : FVec F S2048x1024 .f32 := broadcastInDim S2048x1024 ![] bcast_S_S2048x1024 main_cst_2
  let main_v11 : IVec S2048x1024 1 := cmpf .oeq main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := subf main_arg3 main_arg3
  let main_cst_4 : FVec F S_ .f32 := constant S_ .f32 0x00000000#32
  let main_v15 : FVec F S2048x1024 .f32 := broadcastInDim S2048x1024 ![] bcast_S_S2048x1024 main_cst_4
  let main_v16 : IVec S2048x1024 1 := cmpf .oeq main_v14 main_v15
  fn_part1 (F := F) main_arg4 main_arg5 main_arg6 main_v13 main_v16
-- ==== Pre_finite_norm.lean ====
abbrev S2048x1024 : Shape := ⟨2, ![2048, 1024]⟩
abbrev S2048x10368 : Shape := ⟨2, ![2048, 10368]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x1024 .f32) (main_arg1 : FVec F S2048x10368 .f32) (main_arg2 : FVec F S1x128 .f32) (main_arg3 : FVec F S2048x1024 .f32) : IVec S_ 1 :=
  let main_v0 : FVec F S1x128 .f32 := subf main_arg2 main_arg2
  let main_cst : FVec F S_ .f32 := constant S_ .f32 0x00000000#32
  let main_v1 : FVec F S1x128 .f32 := broadcastInDim S1x128 ![] bcast_S_S1x128 main_cst
  let main_v2 : IVec S1x128 1 := cmpf .oeq main_v0 main_v1
  let main_c : IVec S_ 1 := constantI S_ 1 1#1
  let main_v3 : IVec S_ 1 := (fun x v => Host.reduce IntOp.andi x v reducesTo_S1x128_S_d0_1 h_S_) main_v2 main_c
  let main_v4 : FVec F S2048x1024 .f32 := subf main_arg3 main_arg3
  let main_cst_0 : FVec F S_ .f32 := constant S_ .f32 0x00000000#32
  let main_v5 : FVec F S2048x1024 .f32 := broadcastInDim S2048x1024 ![] bcast_S_S2048x1024 main_cst_0
  let main_v6 : IVec S2048x1024 1 := cmpf .oeq main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S2048x1024 : Shape := ⟨2, ![2048, 1024]⟩
abbrev S32x8x64x64 : Shape := ⟨4, ![32, 8, 64, 64]⟩
abbrev S32x8 : Shape := ⟨2, ![32, 8]⟩
abbrev S32x8x1x1 : Shape := ⟨4, ![32, 8, 1, 1]⟩
abbrev S32x8x8x128 : Shape := ⟨4, ![32, 8, 8, 128]⟩
abbrev S32x8x128x128 : Shape := ⟨4, ![32, 8, 128, 128]⟩
abbrev S64x1024 : Shape := ⟨2, ![64, 1024]⟩
abbrev S1x8x64x64 : Shape := ⟨4, ![1, 8, 64, 64]⟩
abbrev S1x8x8x128 : Shape := ⟨4, ![1, 8, 8, 128]⟩
abbrev S1x8x128x128 : Shape := ⟨4, ![1, 8, 128, 128]⟩
abbrev S8x128x128 : Shape := ⟨3, ![8, 128, 128]⟩
abbrev S128x128 : Shape := ⟨2, ![128, 128]⟩
abbrev S1x128x128 : Shape := ⟨3, ![1, 128, 128]⟩
abbrev S64x128 : Shape := ⟨2, ![64, 128]⟩
abbrev S1x1x64x64 : Shape := ⟨4, ![1, 1, 64, 64]⟩
abbrev S64x64 : Shape := ⟨2, ![64, 64]⟩
abbrev S1x1x128x128 : Shape := ⟨4, ![1, 1, 128, 128]⟩
abbrev S1x1x1x128 : Shape := ⟨4, ![1, 1, 1, 128]⟩
abbrev S1x128 : Shape := ⟨2, ![1, 128]⟩
abbrev S1 : Shape := ⟨1, ![1]⟩
abbrev S1x1x1 : Shape := ⟨3, ![1, 1, 1]⟩
abbrev S1x1 : Shape := ⟨2, ![1, 1]⟩
abbrev S8x128 : Shape := ⟨2, ![8, 128]⟩
abbrev S1x1x8x128 : Shape := ⟨4, ![1, 1, 8, 128]⟩

abbrev nBuf : Space → Nat
  | .hbm => 17
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S32x8x64x64, .f32⟩
  | .hbm, ⟨5, _⟩ => ⟨S32x8, .f32⟩
  | .hbm, ⟨6, _⟩ => ⟨S2048x1024, .f32⟩
  | .hbm, ⟨7, _⟩ => ⟨S32x8x1x1, .f32⟩
  | .hbm, ⟨8, _⟩ => ⟨S32x8x8x128, .f32⟩
  | .hbm, ⟨9, _⟩ => ⟨S2048x1024, .f32⟩
  | .hbm, ⟨10, _⟩ => ⟨S32x8x128x128, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S32x8x64x64, .f32⟩
  | .hbm, ⟨16, _⟩ => ⟨S32x8x8x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x8x64x64, .f32⟩
  | .local _ .vmem, ⟨9, _⟩ => ⟨S1x8x64x64, .f32⟩
  | .local _ .vmem, ⟨10, _⟩ => ⟨S1x8x8x128, .f32⟩
  | .local _ .vmem, ⟨11, _⟩ => ⟨S1x8x8x128, .f32⟩
  | .local _ .vmem, ⟨12, _⟩ => ⟨S64x1024, .f32⟩
  | .local _ .vmem, ⟨13, _⟩ => ⟨S64x1024, .f32⟩
  | .local _ .vmem, ⟨14, _⟩ => ⟨S1x8x128x128, .f32⟩
  | .local _ .vmem, ⟨15, _⟩ => ⟨S1x8x128x128, .f32⟩
  | .local _ .vmem, ⟨16, _⟩ => ⟨S8x128x128, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S1x8x64x64, .f32⟩
  | .local _ .vmem, ⟨26, _⟩ => ⟨S1x8x64x64, .f32⟩
  | .local _ .vmem, ⟨27, _⟩ => ⟨S1x8x8x128, .f32⟩
  | .local _ .vmem, ⟨28, _⟩ => ⟨S1x8x8x128, .f32⟩
  | .local _ .vmem, ⟨29, _⟩ => ⟨S1x8x128x128, .f32⟩
  | .local _ .vmem, ⟨30, _⟩ => ⟨S1x8x128x128, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S1x8x64x64, .f32⟩
  | .local _ .vmem, ⟨42, _⟩ => ⟨S1x8x64x64, .f32⟩
  | .local _ .vmem, ⟨43, _⟩ => ⟨S1x8x8x128, .f32⟩
  | .local _ .vmem, ⟨44, _⟩ => ⟨S1x8x8x128, .f32⟩
  | .local _ .vmem, ⟨45, _⟩ => ⟨S8x128x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) (c0_i32_235 : BitVec 32) : Fin 3 → Nat :=
  let arg1 : BitVec 32 := BitVec.ofNat 32 (i 1).val
  let c8_i32 : BitVec 32 := 8#32
  let v0 : BitVec 32 := Scalar.muli arg1 c8_i32
  let v309 : BitVec 32 := Scalar.addi v0 c0_i32_235
  let v310 : Index := Scalar.indexCast v309
  let c0_236 : Index := 0#32
  let c0_237 : Index := 0#32
  ![v310.toNat, 0, 0]
def k0_off2 (i : grid0.Coords) (c0_i32_1 : BitVec 32) : Fin 3 → Nat :=
  let arg1 : BitVec 32 := BitVec.ofNat 32 (i 1).val
  let c8_i32 : BitVec 32 := 8#32
  let v0 : BitVec 32 := Scalar.muli arg1 c8_i32
  let v4 : BitVec 32 := Scalar.addi v0 c0_i32_1
  let v5 : Index := Scalar.indexCast v4
  let c0 : Index := 0#32
  let c0_2 : Index := 0#32
  ![v5.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![32, 1], ![false, false]⟩

def k1_cond1 (i : grid1.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k1_off1 (i : grid1.Coords) (c0_i32_435 : BitVec 32) : Fin 3 → Nat :=
  let arg1 : BitVec 32 := BitVec.ofNat 32 (i 1).val
  let c8_i32 : BitVec 32 := 8#32
  let v0 : BitVec 32 := Scalar.muli arg1 c8_i32
  let v597 : BitVec 32 := Scalar.addi v0 c0_i32_435
  let v598 : Index := Scalar.indexCast v597
  let c0_436 : Index := 0#32
  let c0_437 : Index := 0#32
  ![v598.toNat, 0, 0]
def k1_off2 (i : grid1.Coords) (c0_i32_25 : BitVec 32) : Fin 3 → Nat :=
  let arg1 : BitVec 32 := BitVec.ofNat 32 (i 1).val
  let c8_i32 : BitVec 32 := 8#32
  let v0 : BitVec 32 := Scalar.muli arg1 c8_i32
  let v20 : BitVec 32 := Scalar.addi v0 c0_i32_25
  let v21 : Index := Scalar.indexCast v20
  let c0_26 : Index := 0#32
  let c0_27 : Index := 0#32
  ![v21.toNat, 0, 0]
def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_4 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_9 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_10 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_11 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  ![v0.toNat, arg1.toNat]

def cc1_transform_12 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, arg1.toNat, c0_i32.toNat, c0_i32_0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x8x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x8x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S64x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S64x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S64x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x8x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S2048x1024 : Shape := ⟨2, ![2048, 1024]⟩
abbrev S32x8x64x64 : Shape := ⟨4, ![32, 8, 64, 64]⟩
abbrev S32x8 : Shape := ⟨2, ![32, 8]⟩
abbrev S32x64x8x128 : Shape := ⟨4, ![32, 64, 8, 128]⟩
abbrev S32x8x64x128 : Shape := ⟨4, ![32, 8, 64, 128]⟩
abbrev S_ : Shape := ⟨0, ![]⟩
abbrev S8x128x128 : Shape := ⟨3, ![8, 128, 128]⟩
abbrev S32x8x128x128 : Shape := ⟨4, ![32, 8, 128, 128]⟩
abbrev S32x8x1x1 : Shape := ⟨4, ![32, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S32x8x8x128 : Shape := ⟨4, ![32, 8, 8, 128]⟩

abbrev nBuf : Space → Nat
  | .hbm => 248
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S32x8x64x64, .f32⟩
  | 5 => ⟨S32x8, .f32⟩
  | 6 => ⟨S2048x1024, .f32⟩
  | 7 => ⟨S32x64x8x128, .f32⟩
  | 8 => ⟨S32x8x64x128, .f32⟩
  | 9 => ⟨S32x64x8x128, .f32⟩
  | 10 => ⟨S32x8x64x128, .f32⟩
  | 11 => ⟨S32x64x8x128, .f32⟩
  | 12 => ⟨S32x8x64x128, .f32⟩
  | 13 => ⟨S32x64x8x128, .f32⟩
  | 14 => ⟨S32x8x64x128, .f32⟩
  | 15 => ⟨S_, .f32⟩
  | 16 => ⟨S8x128x128, .f32⟩
  | 17 => ⟨S_, .f32⟩
  | 18 => ⟨S32x8x64x128, .f32⟩
  | 19 => ⟨S_, .f32⟩
  | 20 => ⟨S32x8x128x128, .f32⟩
  | 21 => ⟨S_, .f32⟩
  | 22 => ⟨S32x8x64x128, .f32⟩
  | 23 => ⟨S_, .f32⟩
  | 24 => ⟨S32x8x1x1, .f32⟩
  | 25 => ⟨S_, .i32⟩
  | 26 => ⟨S32x8x64x128, .f32⟩
  | 27 => ⟨S32x8x64x128, .f32⟩
  | 28 => ⟨S32x8x64x64, .f32⟩
  | 29 => ⟨S32x8x64x128, .f32⟩
  | 30 => ⟨S32x8x64x128, .f32⟩
  | 31 => ⟨S32x8, .f32⟩
  | 32 => ⟨S_, .i32⟩
  | 33 => ⟨S8x128x128, .f32⟩
  | 34 => ⟨S32x8x64x128, .f32⟩
  | 35 => ⟨S32x8x128x128, .f32⟩
  | 36 => ⟨S32x8x64x128, .f32⟩
  | 37 => ⟨S32x8x1x1, .f32⟩
  | 38 => ⟨S_, .i32⟩
  | 39 => ⟨S_, .i1⟩
  | 40 => ⟨S_, .i32⟩
  | 41 => ⟨S_, .i32⟩
  | 42 => ⟨S_, .i32⟩
  | 43 => ⟨S1x8x64x128, .f32⟩
  | 44 => ⟨S8x64x128, .f32⟩
  | 45 => ⟨S_, .i32⟩
  | 46 => ⟨S_, .i32⟩
  | 47 => ⟨S_, .i32⟩
  | 48 => ⟨S1x8x64x128, .f32⟩
  | 49 => ⟨S8x64x128, .f32⟩
  | 50 => ⟨S_, .i32⟩
  | 51 => ⟨S_, .i32⟩
  | 52 => ⟨S_, .i32⟩
  | 53 => ⟨S1x8x64x64, .f32⟩
  | 54 => ⟨S8x64x64, .f32⟩
  | 55 => ⟨S_, .i32⟩
  | 56 => ⟨S_, .i32⟩
  | 57 => ⟨S_, .i32⟩
  | 58 => ⟨S1x8x64x128, .f32⟩
  | 59 => ⟨S8x64x128, .f32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S1x8, .f32⟩
  | 67 => ⟨S8, .f32⟩
  | 68 => ⟨S8x64x128, .f32⟩
  | 69 => ⟨S8x64x128, .f32⟩
  | 70 => ⟨S8x64x128, .f32⟩
  | 71 => ⟨S8x64x128, .f32⟩
  | 72 => ⟨S8x64x128, .f32⟩
  | 73 => ⟨S8x1x1, .f32⟩
  | 74 => ⟨S8x128x128, .f32⟩
  | 75 => ⟨S8x128x128, .f32⟩
  | 76 => ⟨S8x128x128, .f32⟩
  | 77 => ⟨S8x128x128, .f32⟩
  | 78 => ⟨S1x8x64x128, .f32⟩
  | 79 => ⟨S_, .i32⟩
  | 80 => ⟨S_, .i32⟩
  | 81 => ⟨S_, .i32⟩
  | 82 => ⟨S32x8x64x128, .f32⟩
  | 83 => ⟨S1x8x128x128, .f32⟩
  | 84 => ⟨S_, .i32⟩
  | 85 => ⟨S_, .i32⟩
  | 86 => ⟨S_, .i32⟩
  | 87 => ⟨S32x8x128x128, .f32⟩
  | 88 => ⟨S1x8x64x128, .f32⟩
  | 89 => ⟨S_, .i32⟩
  | 90 => ⟨S_, .i32⟩
  | 91 => ⟨S_, .i32⟩
  | 92 => ⟨S32x8x64x128, .f32⟩
  | 93 => ⟨S1x8x1x1, .f32⟩
  | 94 => ⟨S_, .i32⟩
  | 95 => ⟨S_, .i32⟩
  | 96 => ⟨S_, .i32⟩
  | 97 => ⟨S32x8x1x1, .f32⟩
  | 98 => ⟨S_, .i32⟩
  | 99 => ⟨S_, .i32⟩
  | 100 => ⟨S32x64x8x128, .f32⟩
  | 101 => ⟨S2048x1024, .f32⟩
  | 102 => ⟨S_, .f32⟩
  | 103 => ⟨S8x128x128, .f32⟩
  | 104 => ⟨S32x64x8x128, .f32⟩
  | 105 => ⟨S32x8x64x128, .f32⟩
  | 106 => ⟨S_, .f32⟩
  | 107 => ⟨S8x128x128, .f32⟩
  | 108 => ⟨S_, .f32⟩
  | 109 => ⟨S32x8x64x128, .f32⟩
  | 110 => ⟨S_, .f32⟩
  | 111 => ⟨S32x8x64x128, .f32⟩
  | 112 => ⟨S_, .f32⟩
  | 113 => ⟨S32x8x64x64, .f32⟩
  | 114 => ⟨S_, .f32⟩
  | 115 => ⟨S32x8x64x128, .f32⟩
  | 116 => ⟨S_, .f32⟩
  | 117 => ⟨S32x8x64x128, .f32⟩
  | 118 => ⟨S_, .f32⟩
  | 119 => ⟨S32x8, .f32⟩
  | 120 => ⟨S_, .i32⟩
  | 121 => ⟨S32x8x64x128, .f32⟩
  | 122 => ⟨S32x8x128x128, .f32⟩
  | 123 => ⟨S32x8x64x128, .f32⟩
  | 124 => ⟨S32x8x64x128, .f32⟩
  | 125 => ⟨S32x8x64x128, .f32⟩
  | 126 => ⟨S32x8x64x64, .f32⟩
  | 127 => ⟨S32x8x1x1, .f32⟩
  | _ => ⟨S2048x1024, .f32⟩

abbrev hbmTy0_1 (i : Nat) : BufTy := match i % 128 with
  | 0 => ⟨S32x8x64x128, .f32⟩
  | 1 => ⟨S_, .i32⟩
  | 2 => ⟨S8x128x128, .f32⟩
  | 3 => ⟨S32x8x64x128, .f32⟩
  | 4 => ⟨S32x8x64x128, .f32⟩
  | 5 => ⟨S32x8x64x64, .f32⟩
  | 6 => ⟨S32x8x64x128, .f32⟩
  | 7 => ⟨S32x8x64x128, .f32⟩
  | 8 => ⟨S32x8, .f32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x8x64x128, .f32⟩
  | 19 => ⟨S8x64x128, .f32⟩
  | 20 => ⟨S_, .i32⟩
  | 21 => ⟨S_, .i32⟩
  | 22 => ⟨S_, .i32⟩
  | 23 => ⟨S1x8x128x128, .f32⟩
  | 24 => ⟨S8x128x128, .f32⟩
  | 25 => ⟨S_, .i32⟩
  | 26 => ⟨S_, .i32⟩
  | 27 => ⟨S_, .i32⟩
  | 28 => ⟨S1x8x64x128, .f32⟩
  | 29 => ⟨S8x64x128, .f32⟩
  | 30 => ⟨S_, .i32⟩
  | 31 => ⟨S_, .i32⟩
  | 32 => ⟨S_, .i32⟩
  | 33 => ⟨S1x8x64x128, .f32⟩
  | 34 => ⟨S8x64x128, .f32⟩
  | 35 => ⟨S_, .i32⟩
  | 36 => ⟨S_, .i32⟩
  | 37 => ⟨S_, .i32⟩
  | 38 => ⟨S1x8x64x128, .f32⟩
  | 39 => ⟨S8x64x128, .f32⟩
  | 40 => ⟨S_, .i32⟩
  | 41 => ⟨S_, .i32⟩
  | 42 => ⟨S_, .i32⟩
  | 43 => ⟨S1x8x64x64, .f32⟩
  | 44 => ⟨S8x64x64, .f32⟩
  | 45 => ⟨S_, .i32⟩
  | 46 => ⟨S_, .i32⟩
  | 47 => ⟨S_, .i32⟩
  | 48 => ⟨S1x8x1x1, .f32⟩
  | 49 => ⟨S8x1x1, .f32⟩
  | 50 => ⟨S_, .i32⟩
  | 51 => ⟨S_, .i32⟩
  | 52 => ⟨S_, .i32⟩
  | 53 => ⟨S1x8x64x128, .f32⟩
  | 54 => ⟨S8x64x128, .f32⟩
  | 55 => ⟨S8x128x64, .f32⟩
  | 56 => ⟨S8x64x128, .f32⟩
  | 57 => ⟨S8x128x64, .f32⟩
  | 58 => ⟨S8x64x128, .f32⟩
  | 59 => ⟨S8x128x128, .f32⟩
  | 60 => ⟨S_, .f32⟩
  | 61 => ⟨S8, .f32⟩
  | 62 => ⟨S8x1x1, .f32⟩
  | 63 => ⟨S8x128x128, .f32⟩
  | 64 => ⟨S8x128x128, .f32⟩
  | 65 => ⟨S_, .f32⟩
  | 66 => ⟨S8, .f32⟩
  | 67 => ⟨S8x128x64, .f32⟩
  | 68 => ⟨S8x64x128, .f32⟩
  | 69 => ⟨S8x64x128, .f32⟩
  | 70 => ⟨S8x64x64, .f32⟩
  | 71 => ⟨S8x128x128, .f32⟩
  | 72 => ⟨S8x128x128, .f32⟩
  | 73 => ⟨S8x128x128, .f32⟩
  | 74 => ⟨S8x64x128, .f32⟩
  | 75 => ⟨S8x64x128, .f32⟩
  | 76 => ⟨S8x128x128, .f32⟩
  | 77 => ⟨S8x128x128, .f32⟩
  | 78 => ⟨S8x128x128, .f32⟩
  | 79 => ⟨S8x64x128, .f32⟩
  | 80 => ⟨S1x8x64x128, .f32⟩
  | 81 => ⟨S_, .i32⟩
  | 82 => ⟨S_, .i32⟩
  | 83 => ⟨S_, .i32⟩
  | 84 => ⟨S32x8x64x128, .f32⟩
  | 85 => ⟨S1x8x64x128, .f32⟩
  | 86 => ⟨S_, .i32⟩
  | 87 => ⟨S_, .i32⟩
  | 88 => ⟨S_, .i32⟩
  | 89 => ⟨S32x8x64x128, .f32⟩
  | 90 => ⟨S1x8x64x64, .f32⟩
  | 91 => ⟨S_, .i32⟩
  | 92 => ⟨S_, .i32⟩
  | 93 => ⟨S_, .i32⟩
  | 94 => ⟨S32x8x64x64, .f32⟩
  | 95 => ⟨S1x8x64x128, .f32⟩
  | 96 => ⟨S_, .i32⟩
  | 97 => ⟨S_, .i32⟩
  | 98 => ⟨S_, .i32⟩
  | 99 => ⟨S32x8x64x128, .f32⟩
  | 100 => ⟨S1x8x64x128, .f32⟩
  | 101 => ⟨S_, .i32⟩
  | 102 => ⟨S_, .i32⟩
  | 103 => ⟨S_, .i32⟩
  | 104 => ⟨S32x8x64x128, .f32⟩
  | 105 => ⟨S1x8, .f32⟩
  | 106 => ⟨S_, .i32⟩
  | 107 => ⟨S32x8, .f32⟩
  | 108 => ⟨S_, .i32⟩
  | 109 => ⟨S_, .i32⟩
  | 110 => ⟨S32x64x8x128, .f32⟩
  | 111 => ⟨S2048x1024, .f32⟩
  | 112 => ⟨S32x64x8x128, .f32⟩
  | 113 => ⟨S2048x1024, .f32⟩
  | 114 => ⟨S32x64x8x128, .f32⟩
  | 115 => ⟨S2048x1024, .f32⟩
  | 116 => ⟨S32x64x8x128, .f32⟩
  | 117 => ⟨S2048x1024, .f32⟩
  | 118 => ⟨S32x8x1x1, .f32⟩
  | 119 => ⟨S32x8x8x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_c : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev main_v13_4 : Ref sig .tc := ⟨.hbm, 30, rfl⟩
abbrev main_v13_5 : Ref sig .tc := ⟨.hbm, 31, rfl⟩
abbrev main_v13_6 : Ref sig .tc := ⟨.hbm, 32, rfl⟩
abbrev main_v13_7 : Ref sig .tc := ⟨.hbm, 33, rfl⟩
abbrev main_v13_8 : Ref sig .tc := ⟨.hbm, 34, rfl⟩
abbrev main_v13_9 : Ref sig .tc := ⟨.hbm, 35, rfl⟩
abbrev main_v13_10 : Ref sig .tc := ⟨.hbm, 36, rfl⟩
abbrev main_v13_11 : Ref sig .tc := ⟨.hbm, 37, rfl⟩
abbrev main_while0c_c_24 : Ref sig .tc := ⟨.hbm, 38, rfl⟩
abbrev main_while0c_v37 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v37 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v38 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v39 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_call3_c_1 : Ref sig .tc := ⟨.hbm, 57, rfl⟩
abbrev main_while0b_call3_v0 : Ref sig .tc := ⟨.hbm, 58, rfl⟩
abbrev main_while0b_v40 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_v0 : Ref sig .tc := ⟨.hbm, 63, rfl⟩
abbrev main_while0b_v41 : Ref sig .tc := ⟨.hbm, 64, rfl⟩
abbrev main_while0b_call5_c : Ref sig .tc := ⟨.hbm, 65, rfl⟩
abbrev main_while0b_call5_v0 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_v49 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_call6_v0 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_v53 : Ref sig .tc := ⟨.hbm, 82, rfl⟩
abbrev main_while0b_call7_v0 : Ref sig .tc := ⟨.hbm, 83, rfl⟩
abbrev main_while0b_call7_c : Ref sig .tc := ⟨.hbm, 84, rfl⟩
abbrev main_while0b_call7_c_0 : Ref sig .tc := ⟨.hbm, 85, rfl⟩
abbrev main_while0b_call7_c_1 : Ref sig .tc := ⟨.hbm, 86, rfl⟩
abbrev main_while0b_v54 : Ref sig .tc := ⟨.hbm, 87, rfl⟩
abbrev main_while0b_call8_v0 : Ref sig .tc := ⟨.hbm, 88, rfl⟩
abbrev main_while0b_call8_c : Ref sig .tc := ⟨.hbm, 89, rfl⟩
abbrev main_while0b_call8_c_0 : Ref sig .tc := ⟨.hbm, 90, rfl⟩
abbrev main_while0b_call8_c_1 : Ref sig .tc := ⟨.hbm, 91, rfl⟩
abbrev main_while0b_v55 : Ref sig .tc := ⟨.hbm, 92, rfl⟩
abbrev main_while0b_call9_v0 : Ref sig .tc := ⟨.hbm, 93, rfl⟩
abbrev main_while0b_call9_c : Ref sig .tc := ⟨.hbm, 94, rfl⟩
abbrev main_while0b_call9_c_0 : Ref sig .tc := ⟨.hbm, 95, rfl⟩
abbrev main_while0b_call9_c_1 : Ref sig .tc := ⟨.hbm, 96, rfl⟩
abbrev main_while0b_v56 : Ref sig .tc := ⟨.hbm, 97, rfl⟩
abbrev main_while0b_c_24 : Ref sig .tc := ⟨.hbm, 98, rfl⟩
abbrev main_while0b_v57 : Ref sig .tc := ⟨.hbm, 99, rfl⟩
abbrev main_v14 : Ref sig .tc := ⟨.hbm, 100, rfl⟩
abbrev main_v15 : Ref sig .tc := ⟨.hbm, 101, rfl⟩
abbrev main_cst_4 : Ref sig .tc := ⟨.hbm, 102, rfl⟩
abbrev main_v16 : Ref sig .tc := ⟨.hbm, 103, rfl⟩
abbrev main_v17 : Ref sig .tc := ⟨.hbm, 104, rfl⟩
abbrev main_v18 : Ref sig .tc := ⟨.hbm, 105, rfl⟩
abbrev main_cst_5 : Ref sig .tc := ⟨.hbm, 106, rfl⟩
abbrev main_v19 : Ref sig .tc := ⟨.hbm, 107, rfl⟩
abbrev main_cst_6 : Ref sig .tc := ⟨.hbm, 108, rfl⟩
abbrev main_v20 : Ref sig .tc := ⟨.hbm, 109, rfl⟩
abbrev main_cst_7 : Ref sig .tc := ⟨.hbm, 110, rfl⟩
abbrev main_v21 : Ref sig .tc := ⟨.hbm, 111, rfl⟩
abbrev main_cst_8 : Ref sig .tc := ⟨.hbm, 112, rfl⟩
abbrev main_v22 : Ref sig .tc := ⟨.hbm, 113, rfl⟩
abbrev main_cst_9 : Ref sig .tc := ⟨.hbm, 114, rfl⟩
abbrev main_v23 : Ref sig .tc := ⟨.hbm, 115, rfl⟩
abbrev main_cst_10 : Ref sig .tc := ⟨.hbm, 116, rfl⟩
abbrev main_v24 : Ref sig .tc := ⟨.hbm, 117, rfl⟩
abbrev main_cst_11 : Ref sig .tc := ⟨.hbm, 118, rfl⟩
abbrev main_v25 : Ref sig .tc := ⟨.hbm, 119, rfl⟩
abbrev main_c_12 : Ref sig .tc := ⟨.hbm, 120, rfl⟩
abbrev main_v26_0 : Ref sig .tc := ⟨.hbm, 121, rfl⟩
abbrev main_v26_1 : Ref sig .tc := ⟨.hbm, 122, rfl⟩
abbrev main_v26_2 : Ref sig .tc := ⟨.hbm, 123, rfl⟩
abbrev main_v26_3 : Ref sig .tc := ⟨.hbm, 124, rfl⟩
abbrev main_v26_4 : Ref sig .tc := ⟨.hbm, 125, rfl⟩
abbrev main_v26_5 : Ref sig .tc := ⟨.hbm, 126, rfl⟩
abbrev main_v26_6 : Ref sig .tc := ⟨.hbm, 127, rfl⟩
abbrev main_v26_7 : Ref sig .tc := ⟨.hbm, 128, rfl⟩
abbrev main_v26_8 : Ref sig .tc := ⟨.hbm, 129, rfl⟩
abbrev main_v26_9 : Ref sig .tc := ⟨.hbm, 130, rfl⟩
abbrev main_v26_10 : Ref sig .tc := ⟨.hbm, 131, rfl⟩
abbrev main_v26_11 : Ref sig .tc := ⟨.hbm, 132, rfl⟩
abbrev main_v26_12 : Ref sig .tc := ⟨.hbm, 133, rfl⟩
abbrev main_v26_13 : Ref sig .tc := ⟨.hbm, 134, rfl⟩
abbrev main_v26_14 : Ref sig .tc := ⟨.hbm, 135, rfl⟩
abbrev main_v26_15 : Ref sig .tc := ⟨.hbm, 136, rfl⟩
abbrev main_while1c_c_28 : Ref sig .tc := ⟨.hbm, 137, rfl⟩
abbrev main_while1c_v37 : Ref sig .tc := ⟨.hbm, 138, rfl⟩
abbrev main_while1b_c_28 : Ref sig .tc := ⟨.hbm, 139, rfl⟩
abbrev main_while1b_v37 : Ref sig .tc := ⟨.hbm, 140, rfl⟩
abbrev main_while1b_c_29 : Ref sig .tc := ⟨.hbm, 141, rfl⟩
abbrev main_while1b_v38 : Ref sig .tc := ⟨.hbm, 142, rfl⟩
abbrev main_while1b_call10_c : Ref sig .tc := ⟨.hbm, 143, rfl⟩
abbrev main_while1b_call10_c_0 : Ref sig .tc := ⟨.hbm, 144, rfl⟩
abbrev main_while1b_call10_c_1 : Ref sig .tc := ⟨.hbm, 145, rfl⟩
abbrev main_while1b_call10_v0 : Ref sig .tc := ⟨.hbm, 146, rfl⟩
abbrev main_while1b_v39 : Ref sig .tc := ⟨.hbm, 147, rfl⟩
abbrev main_while1b_call11_c : Ref sig .tc := ⟨.hbm, 148, rfl⟩
abbrev main_while1b_call11_c_0 : Ref sig .tc := ⟨.hbm, 149, rfl⟩
abbrev main_while1b_call11_c_1 : Ref sig .tc := ⟨.hbm, 150, rfl⟩
abbrev main_while1b_call11_v0 : Ref sig .tc := ⟨.hbm, 151, rfl⟩
abbrev main_while1b_v40 : Ref sig .tc := ⟨.hbm, 152, rfl⟩
abbrev main_while1b_call12_c : Ref sig .tc := ⟨.hbm, 153, rfl⟩
abbrev main_while1b_call12_c_0 : Ref sig .tc := ⟨.hbm, 154, rfl⟩
abbrev main_while1b_call12_c_1 : Ref sig .tc := ⟨.hbm, 155, rfl⟩
abbrev main_while1b_call12_v0 : Ref sig .tc := ⟨.hbm, 156, rfl⟩
abbrev main_while1b_v41 : Ref sig .tc := ⟨.hbm, 157, rfl⟩
abbrev main_while1b_call13_c : Ref sig .tc := ⟨.hbm, 158, rfl⟩
abbrev main_while1b_call13_c_0 : Ref sig .tc := ⟨.hbm, 159, rfl⟩
abbrev main_while1b_call13_c_1 : Ref sig .tc := ⟨.hbm, 160, rfl⟩
abbrev main_while1b_call13_v0 : Ref sig .tc := ⟨.hbm, 161, rfl⟩
abbrev main_while1b_v42 : Ref sig .tc := ⟨.hbm, 162, rfl⟩
abbrev main_while1b_call14_c : Ref sig .tc := ⟨.hbm, 163, rfl⟩
abbrev main_while1b_call14_c_0 : Ref sig .tc := ⟨.hbm, 164, rfl⟩
abbrev main_while1b_call14_c_1 : Ref sig .tc := ⟨.hbm, 165, rfl⟩
abbrev main_while1b_call14_v0 : Ref sig .tc := ⟨.hbm, 166, rfl⟩
abbrev main_while1b_v43 : Ref sig .tc := ⟨.hbm, 167, rfl⟩
abbrev main_while1b_call15_c : Ref sig .tc := ⟨.hbm, 168, rfl⟩
abbrev main_while1b_call15_c_0 : Ref sig .tc := ⟨.hbm, 169, rfl⟩
abbrev main_while1b_call15_c_1 : Ref sig .tc := ⟨.hbm, 170, rfl⟩
abbrev main_while1b_call15_v0 : Ref sig .tc := ⟨.hbm, 171, rfl⟩
abbrev main_while1b_v44 : Ref sig .tc := ⟨.hbm, 172, rfl⟩
abbrev main_while1b_call16_c : Ref sig .tc := ⟨.hbm, 173, rfl⟩
abbrev main_while1b_call16_c_0 : Ref sig .tc := ⟨.hbm, 174, rfl⟩
abbrev main_while1b_call16_c_1 : Ref sig .tc := ⟨.hbm, 175, rfl⟩
abbrev main_while1b_call16_v0 : Ref sig .tc := ⟨.hbm, 176, rfl⟩
abbrev main_while1b_v45 : Ref sig .tc := ⟨.hbm, 177, rfl⟩
abbrev main_while1b_call17_c : Ref sig .tc := ⟨.hbm, 178, rfl⟩
abbrev main_while1b_call17_c_0 : Ref sig .tc := ⟨.hbm, 179, rfl⟩
abbrev main_while1b_call17_c_1 : Ref sig .tc := ⟨.hbm, 180, rfl⟩
abbrev main_while1b_call17_v0 : Ref sig .tc := ⟨.hbm, 181, rfl⟩
abbrev main_while1b_v46 : Ref sig .tc := ⟨.hbm, 182, rfl⟩
abbrev main_while1b_v47 : Ref sig .tc := ⟨.hbm, 183, rfl⟩
abbrev main_while1b_v48 : Ref sig .tc := ⟨.hbm, 184, rfl⟩
abbrev main_while1b_v49 : Ref sig .tc := ⟨.hbm, 185, rfl⟩
abbrev main_while1b_v50 : Ref sig .tc := ⟨.hbm, 186, rfl⟩
abbrev main_while1b_v51 : Ref sig .tc := ⟨.hbm, 187, rfl⟩
abbrev main_while1b_cst_30 : Ref sig .tc := ⟨.hbm, 188, rfl⟩
abbrev main_while1b_v52 : Ref sig .tc := ⟨.hbm, 189, rfl⟩
abbrev main_while1b_v53 : Ref sig .tc := ⟨.hbm, 190, rfl⟩
abbrev main_while1b_v54 : Ref sig .tc := ⟨.hbm, 191, rfl⟩
abbrev main_while1b_v55 : Ref sig .tc := ⟨.hbm, 192, rfl⟩
abbrev main_while1b_cst_31 : Ref sig .tc := ⟨.hbm, 193, rfl⟩
abbrev main_while1b_v56 : Ref sig .tc := ⟨.hbm, 194, rfl⟩
abbrev main_while1b_v57 : Ref sig .tc := ⟨.hbm, 195, rfl⟩
abbrev main_while1b_v58 : Ref sig .tc := ⟨.hbm, 196, rfl⟩
abbrev main_while1b_v59 : Ref sig .tc := ⟨.hbm, 197, rfl⟩
abbrev main_while1b_v60 : Ref sig .tc := ⟨.hbm, 198, rfl⟩
abbrev main_while1b_v61 : Ref sig .tc := ⟨.hbm, 199, rfl⟩
abbrev main_while1b_v62 : Ref sig .tc := ⟨.hbm, 200, rfl⟩
abbrev main_while1b_v63 : Ref sig .tc := ⟨.hbm, 201, rfl⟩
abbrev main_while1b_v64 : Ref sig .tc := ⟨.hbm, 202, rfl⟩
abbrev main_while1b_v65 : Ref sig .tc := ⟨.hbm, 203, rfl⟩
abbrev main_while1b_v66 : Ref sig .tc := ⟨.hbm, 204, rfl⟩
abbrev main_while1b_v67 : Ref sig .tc := ⟨.hbm, 205, rfl⟩
abbrev main_while1b_v68 : Ref sig .tc := ⟨.hbm, 206, rfl⟩
abbrev main_while1b_v69 : Ref sig .tc := ⟨.hbm, 207, rfl⟩
abbrev main_while1b_call18_v0 : Ref sig .tc := ⟨.hbm, 208, rfl⟩
abbrev main_while1b_call18_c : Ref sig .tc := ⟨.hbm, 209, rfl⟩
abbrev main_while1b_call18_c_0 : Ref sig .tc := ⟨.hbm, 210, rfl⟩
abbrev main_while1b_call18_c_1 : Ref sig .tc := ⟨.hbm, 211, rfl⟩
abbrev main_while1b_v70 : Ref sig .tc := ⟨.hbm, 212, rfl⟩
abbrev main_while1b_call19_v0 : Ref sig .tc := ⟨.hbm, 213, rfl⟩
abbrev main_while1b_call19_c : Ref sig .tc := ⟨.hbm, 214, rfl⟩
abbrev main_while1b_call19_c_0 : Ref sig .tc := ⟨.hbm, 215, rfl⟩
abbrev main_while1b_call19_c_1 : Ref sig .tc := ⟨.hbm, 216, rfl⟩
abbrev main_while1b_v71 : Ref sig .tc := ⟨.hbm, 217, rfl⟩
abbrev main_while1b_call20_v0 : Ref sig .tc := ⟨.hbm, 218, rfl⟩
abbrev main_while1b_call20_c : Ref sig .tc := ⟨.hbm, 219, rfl⟩
abbrev main_while1b_call20_c_0 : Ref sig .tc := ⟨.hbm, 220, rfl⟩
abbrev main_while1b_call20_c_1 : Ref sig .tc := ⟨.hbm, 221, rfl⟩
abbrev main_while1b_v72 : Ref sig .tc := ⟨.hbm, 222, rfl⟩
abbrev main_while1b_call21_v0 : Ref sig .tc := ⟨.hbm, 223, rfl⟩
abbrev main_while1b_call21_c : Ref sig .tc := ⟨.hbm, 224, rfl⟩
abbrev main_while1b_call21_c_0 : Ref sig .tc := ⟨.hbm, 225, rfl⟩
abbrev main_while1b_call21_c_1 : Ref sig .tc := ⟨.hbm, 226, rfl⟩
abbrev main_while1b_v73 : Ref sig .tc := ⟨.hbm, 227, rfl⟩
abbrev main_while1b_call22_v0 : Ref sig .tc := ⟨.hbm, 228, rfl⟩
abbrev main_while1b_call22_c : Ref sig .tc := ⟨.hbm, 229, rfl⟩
abbrev main_while1b_call22_c_0 : Ref sig .tc := ⟨.hbm, 230, rfl⟩
abbrev main_while1b_call22_c_1 : Ref sig .tc := ⟨.hbm, 231, rfl⟩
abbrev main_while1b_v74 : Ref sig .tc := ⟨.hbm, 232, rfl⟩
abbrev main_while1b_call23_v0 : Ref sig .tc := ⟨.hbm, 233, rfl⟩
abbrev main_while1b_call23_c : Ref sig .tc := ⟨.hbm, 234, rfl⟩
abbrev main_while1b_v75 : Ref sig .tc := ⟨.hbm, 235, rfl⟩
abbrev main_while1b_c_32 : Ref sig .tc := ⟨.hbm, 236, rfl⟩
abbrev main_while1b_v76 : Ref sig .tc := ⟨.hbm, 237, rfl⟩
abbrev main_v27 : Ref sig .tc := ⟨.hbm, 238, rfl⟩
abbrev main_v28 : Ref sig .tc := ⟨.hbm, 239, rfl⟩
abbrev main_v29 : Ref sig .tc := ⟨.hbm, 240, rfl⟩
abbrev main_v30 : Ref sig .tc := ⟨.hbm, 241, rfl⟩
abbrev main_v31 : Ref sig .tc := ⟨.hbm, 242, rfl⟩
abbrev main_v32 : Ref sig .tc := ⟨.hbm, 243, rfl⟩
abbrev main_v33 : Ref sig .tc := ⟨.hbm, 244, rfl⟩
abbrev main_v34 : Ref sig .tc := ⟨.hbm, 245, rfl⟩
abbrev main_v35 : Ref sig .tc := ⟨.hbm, 246, rfl⟩
abbrev main_v36 : Ref sig .tc := ⟨.hbm, 247, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 32#32, 1#32⟩
-- ==== KernelIn.lean ====
abbrev S2048x2048 : Shape := ⟨2, ![2048, 2048]⟩
abbrev S10368x2048 : Shape := ⟨2, ![10368, 2048]⟩
abbrev S2048x10368 : Shape := ⟨2, ![2048, 10368]⟩
abbrev S1024x2048 : Shape := ⟨2, ![1024, 2048]⟩
abbrev S1152x2048 : Shape := ⟨2, ![1152, 2048]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S10368x2048, .bf16⟩
  | .hbm, ⟨2, _⟩ => ⟨S2048x10368, .f32⟩
  | .local _ .vmem, ⟨0, _⟩ => ⟨S1024x2048, .bf16⟩
  | .local _ .vmem, ⟨1, _⟩ => ⟨S1024x2048, .bf16⟩
  | .local _ .vmem, ⟨2, _⟩ => ⟨S1152x2048, .bf16⟩
  | .local _ .vmem, ⟨3, _⟩ => ⟨S1152x2048, .bf16⟩
  | .local _ .vmem, ⟨4, _⟩ => ⟨S1024x1152, .f32⟩
  | .local _ .vmem, ⟨5, _⟩ => ⟨S1024x1152, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S2048x2048 : Shape := ⟨2, ![2048, 2048]⟩
abbrev S10368x2048 : Shape := ⟨2, ![10368, 2048]⟩
abbrev S2048x10368 : Shape := ⟨2, ![2048, 10368]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S10368x2048, .bf16⟩
  | .hbm, ⟨2, _⟩ => ⟨S2048x2048, .f32⟩
  | .hbm, ⟨3, _⟩ => ⟨S10368x2048, .f32⟩
  | .hbm, ⟨4, _⟩ => ⟨S2048x10368, .f32⟩
  | .hbm, ⟨5, _⟩ => ⟨S2048x10368, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDw.lean ====
abbrev S2048x2048 : Shape := ⟨2, ![2048, 2048]⟩
abbrev S2048x10368 : Shape := ⟨2, ![2048, 10368]⟩
abbrev S10368x2048 : Shape := ⟨2, ![10368, 2048]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S10368x2048, .f32⟩
  | .hbm, ⟨3, _⟩ => ⟨S10368x2048, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .f32⟩
  | .local _ .vmem, ⟨5, _⟩ => ⟨S1152x1024, .f32⟩
  | .local _ .vmem, ⟨6, _⟩ => ⟨S1152x1024, .bf16⟩
  | .local _ .vmem, ⟨7, _⟩ => ⟨S1152x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1152x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1152x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDwIdeal.lean ====
abbrev S2048x2048 : Shape := ⟨2, ![2048, 2048]⟩
abbrev S2048x10368 : Shape := ⟨2, ![2048, 10368]⟩
abbrev S_ : Shape := ⟨0, ![]⟩
abbrev S10368x2048 : Shape := ⟨2, ![10368, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10368, .bf16⟩
  | .hbm, ⟨2, _⟩ => ⟨S2048x2048, .f32⟩
  | .hbm, ⟨3, _⟩ => ⟨S2048x10368, .f32⟩
  | .hbm, ⟨4, _⟩ => ⟨S_, .f32⟩
  | .hbm, ⟨5, _⟩ => ⟨S10368x2048, .f32⟩
  | .hbm, ⟨6, _⟩ => ⟨S2048x10368, .f32⟩
  | .hbm, ⟨7, _⟩ => ⟨S2048x10368, .f32⟩
  | .hbm, ⟨8, _⟩ => ⟨S10368x2048, .f32⟩
  | .hbm, ⟨9, _⟩ => ⟨S2048x10368, .f32⟩
  | .hbm, ⟨10, _⟩ => ⟨S10368x2048, .f32⟩
  | .hbm, ⟨11, _⟩ => ⟨S10368x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDh.lean ====
abbrev S10368x2048 : Shape := ⟨2, ![10368, 2048]⟩
abbrev S2048x10368 : Shape := ⟨2, ![2048, 10368]⟩
abbrev S2048x2048 : Shape := ⟨2, ![2048, 2048]⟩
abbrev S2048x1152 : Shape := ⟨2, ![2048, 1152]⟩
abbrev S1152x1024 : Shape := ⟨2, ![1152, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S10368x2048, .bf16⟩
  | .hbm, ⟨1, _⟩ => ⟨S2048x10368, .bf16⟩
  | .hbm, ⟨2, _⟩ => ⟨S2048x2048, .f32⟩
  | .local _ .vmem, ⟨0, _⟩ => ⟨S2048x1152, .bf16⟩
  | .local _ .vmem, ⟨1, _⟩ => ⟨S2048x1152, .bf16⟩
  | .local _ .vmem, ⟨2, _⟩ => ⟨S1152x1024, .bf16⟩
  | .local _ .vmem, ⟨3, _⟩ => ⟨S1152x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S10368x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S10368x2048 : Shape := ⟨2, ![10368, 2048]⟩
abbrev S2048x10368 : Shape := ⟨2, ![2048, 10368]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S10368x2048, .bf16⟩
  | .hbm, ⟨1, _⟩ => ⟨S2048x10368, .bf16⟩
  | .hbm, ⟨2, _⟩ => ⟨S10368x2048, .f32⟩
  | .hbm, ⟨3, _⟩ => ⟨S2048x10368, .f32⟩
  | .hbm, ⟨4, _⟩ => ⟨S_, .f32⟩
  | .hbm, ⟨5, _⟩ => ⟨S2048x2048, .f32⟩
  | .hbm, ⟨6, _⟩ => ⟨S2048x10368, .f32⟩
  | .hbm, ⟨7, _⟩ => ⟨S2048x10368, .f32⟩
  | .hbm, ⟨8, _⟩ => ⟨S2048x2048, .f32⟩
  | _, _ => ⟨S10368x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMf.lean ====
abbrev S2048x1024 : Shape := ⟨2, ![2048, 1024]⟩
abbrev S1024x2048 : Shape := ⟨2, ![1024, 2048]⟩
abbrev S2048x10368 : Shape := ⟨2, ![2048, 10368]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x10368, .f32⟩
  | .hbm, ⟨5, _⟩ => ⟨S2048x2048, .f32⟩
  | .hbm, ⟨6, _⟩ => ⟨S2048x2048, .f32⟩
  | .hbm, ⟨7, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .bf16⟩
  | .local _ .vmem, ⟨17, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMfIdeal.lean ====
abbrev S2048x1024 : Shape := ⟨2, ![2048, 1024]⟩
abbrev S1024x2048 : Shape := ⟨2, ![1024, 2048]⟩
abbrev S2048x10368 : Shape := ⟨2, ![2048, 10368]⟩
abbrev S2048x2048 : Shape := ⟨2, ![2048, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x2048, .bf16⟩
  | .hbm, ⟨3, _⟩ => ⟨S1024x2048, .bf16⟩
  | .hbm, ⟨4, _⟩ => ⟨S2048x10368, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== KernelMb.lean ====
abbrev S2048x2048 : Shape := ⟨2, ![2048, 2048]⟩
abbrev S2048x10368 : Shape := ⟨2, ![2048, 10368]⟩
abbrev S512x2048 : Shape := ⟨2, ![512, 2048]⟩
abbrev S512x512 : Shape := ⟨2, ![512, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x10368, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceMbIdeal.lean ====
abbrev S2048x2048 : Shape := ⟨2, ![2048, 2048]⟩
abbrev S2048x10368 : Shape := ⟨2, ![2048, 10368]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x10368, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .bf16⟩
  | .hbm, ⟨45, _⟩ => ⟨S2048x2048, .bf16⟩
  | .hbm, ⟨46, _⟩ => ⟨S2048x2048, .bf16⟩
  | .hbm, ⟨47, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== KernelWo.lean ====
abbrev S2048x2048 : Shape := ⟨2, ![2048, 2048]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceWoIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelSu.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .f32⟩
  | .hbm, ⟨3, _⟩ => ⟨S4x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceSuIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelDu.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .f32⟩
  | .hbm, ⟨3, _⟩ => ⟨S4x1024x512, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDuIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelSo.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceSoIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDo.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x2048, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelPf.lean ====
abbrev S2048x1024 : Shape := ⟨2, ![2048, 1024]⟩
abbrev S2048x10368 : Shape := ⟨2, ![2048, 10368]⟩
abbrev S1x128 : Shape := ⟨2, ![1, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x128, .f32⟩
  | .hbm, ⟨3, _⟩ => ⟨S2048x1024, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferencePfIdeal.lean ====
abbrev S2048x1024 : Shape := ⟨2, ![2048, 1024]⟩
abbrev S2048x10368 : Shape := ⟨2, ![2048, 10368]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x128, .f32⟩
  | .hbm, ⟨3, _⟩ => ⟨S2048x1024, .f32⟩
  | .hbm, ⟨4, _⟩ => ⟨S2048x8x128, .f32⟩
  | .hbm, ⟨5, _⟩ => ⟨S2048x8x128, .f32⟩
  | .hbm, ⟨6, _⟩ => ⟨S_, .f32⟩
  | .hbm, ⟨7, _⟩ => ⟨S2048x8, .f32⟩
  | .hbm, ⟨8, _⟩ => ⟨S2048x8x1, .f32⟩
  | .hbm, ⟨9, _⟩ => ⟨S_, .f32⟩
  | .hbm, ⟨10, _⟩ => ⟨S2048x8x1, .f32⟩
  | .hbm, ⟨11, _⟩ => ⟨S2048x8x1, .f32⟩
  | .hbm, ⟨12, _⟩ => ⟨S_, .f32⟩
  | .hbm, ⟨13, _⟩ => ⟨S2048x8x1, .f32⟩
  | .hbm, ⟨14, _⟩ => ⟨S2048x8x1, .f32⟩
  | .hbm, ⟨15, _⟩ => ⟨S2048x8x1, .f32⟩
  | .hbm, ⟨16, _⟩ => ⟨S2048x8x128, .f32⟩
  | .hbm, ⟨17, _⟩ => ⟨S2048x8x128, .f32⟩
  | .hbm, ⟨18, _⟩ => ⟨S1x1x128, .f32⟩
  | .hbm, ⟨19, _⟩ => ⟨S2048x8x128, .f32⟩
  | .hbm, ⟨20, _⟩ => ⟨S2048x8x128, .f32⟩
  | .hbm, ⟨21, _⟩ => ⟨S2048x8x128, .f32⟩
  | .hbm, ⟨22, _⟩ => ⟨S2048x8x128, .f32⟩
  | .hbm, ⟨23, _⟩ => ⟨S2048x8x128, .f32⟩
  | .hbm, ⟨24, _⟩ => ⟨S_, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8x128, .f32⟩
  | .hbm, ⟨29, _⟩ => ⟨S2048x8x128, .f32⟩
  | .hbm, ⟨30, _⟩ => ⟨S2048x8x128, .f32⟩
  | .hbm, ⟨31, _⟩ => ⟨S2048x8x128, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== KernelFi.lean ====
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .bf16⟩
  | .hbm, ⟨7, _⟩ => ⟨S1x128, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_24 : BitVec 32 := 0#32
  let v57 : BitVec 1 := Scalar.cmpi .ne v56 c0_i32_24
  v57

def k0_cond2 (i : grid0.Coords) : BitVec 1 :=
  let arg0 : BitVec 32 := BitVec.ofNat 32 (i 0).val
  let c0_i32_25 : BitVec 32 := 0#32
  let v58 : BitVec 1 := Scalar.cmpi .sgt arg0 c0_i32_25
  let v59 : BitVec 32 := Scalar.extui v58
  let c0_i32_26 : BitVec 32 := 0#32
  let v60 : BitVec 1 := Scalar.cmpi .ne v59 c0_i32_26
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceFiIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x2048, .f32⟩
  | .hbm, ⟨61, _⟩ => ⟨S2048x2048, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x2048, .f32⟩
  | .hbm, ⟨73, _⟩ => ⟨S2048x2048, .bf16⟩
  | .hbm, ⟨74, _⟩ => ⟨S1x128, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== KernelSf.lean ====
abbrev S2048x1024 : Shape := ⟨2, ![2048, 1024]⟩
abbrev S2048x10368 : Shape := ⟨2, ![2048, 10368]⟩
abbrev S1x1024 : Shape := ⟨2, ![1, 1024]⟩
abbrev S1024x1024 : Shape := ⟨2, ![1024, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x1024, .f32⟩
  | .hbm, ⟨3, _⟩ => ⟨S1024x1024, .bf16⟩
  | .hbm, ⟨4, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceSfIdeal.lean ====
abbrev S2048x1024 : Shape := ⟨2, ![2048, 1024]⟩
abbrev S2048x10368 : Shape := ⟨2, ![2048, 10368]⟩
abbrev S1x1024 : Shape := ⟨2, ![1, 1024]⟩
abbrev S1024x1024 : Shape := ⟨2, ![1024, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x1024, .f32⟩
  | .hbm, ⟨3, _⟩ => ⟨S1024x1024, .bf16⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== KernelLf.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceLfIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelPb.lean ====
abbrev S2048x1024 : Shape := ⟨2, ![2048, 1024]⟩
abbrev S2048x10368 : Shape := ⟨2, ![2048, 10368]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .bf16⟩
  | .local _ .vmem, ⟨10, _⟩ => ⟨S512x128, .bf16⟩
  | .local _ .vmem, ⟨11, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v65 : BitVec 32 := Scalar.extui v2
  let c0_i32_25 : BitVec 32 := 0#32
  let v66 : BitVec 1 := Scalar.cmpi .ne v65 c0_i32_25
  v66

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v67 : BitVec 1 := Scalar.xori v2 v_true
  let v68 : BitVec 32 := Scalar.extui v67
  let c0_i32_26 : BitVec 32 := 0#32
  let v69 : BitVec 1 := Scalar.cmpi .ne v68 c0_i32_26
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferencePbIdeal.lean ====
abbrev S2048x1024 : Shape := ⟨2, ![2048, 1024]⟩
abbrev S2048x10368 : Shape := ⟨2, ![2048, 10368]⟩
abbrev S1x128 : Shape := ⟨2, ![1, 128]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S128 : Shape := ⟨1, ![128]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x10368, .f32⟩
  | .hbm, ⟨2, _⟩ => ⟨S1x128, .f32⟩
  | .hbm, ⟨3, _⟩ => ⟨S2048x1024, .f32⟩
  | .hbm, ⟨4, _⟩ => ⟨S2048x1024, .f32⟩
  | .hbm, ⟨5, _⟩ => ⟨S2048x8x128, .f32⟩
  | .hbm, ⟨6, _⟩ => ⟨S2048x8x128, .f32⟩
  | .hbm, ⟨7, _⟩ => ⟨S_, .f32⟩
  | .hbm, ⟨8, _⟩ => ⟨S2048x8, .f32⟩
  | .hbm, ⟨9, _⟩ => ⟨S2048x8x1, .f32⟩
  | .hbm, ⟨10, _⟩ => ⟨S_, .f32⟩
  | .hbm, ⟨11, _⟩ => ⟨S2048x8x1, .f32⟩
  | .hbm, ⟨12, _⟩ => ⟨S2048x8x1, .f32⟩
  | .hbm, ⟨13, _⟩ => ⟨S_, .f32⟩
  | .hbm, ⟨14, _⟩ => ⟨S2048x8x1, .f32⟩
  | .hbm, ⟨15, _⟩ => ⟨S2048x8x1, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x128, .f32⟩
  | .hbm, ⟨22, _⟩ => ⟨S2048x8x128, .f32⟩
  | .hbm, ⟨23, _⟩ => ⟨S1x1x128, .f32⟩
  | .hbm, ⟨24, _⟩ => ⟨S2048x8x128, .f32⟩
  | .hbm, ⟨25, _⟩ => ⟨S2048x8x128, .f32⟩
  | .hbm, ⟨26, _⟩ => ⟨S2048x8x128, .f32⟩
  | .hbm, ⟨27, _⟩ => ⟨S2048x8x128, .f32⟩
  | .hbm, ⟨28, _⟩ => ⟨S2048x8x128, .f32⟩
  | .hbm, ⟨29, _⟩ => ⟨S_, .f32⟩
  | .hbm, ⟨30, _⟩ => ⟨S2048x8x128, .f32⟩
  | .hbm, ⟨31, _⟩ => ⟨S2048x8x128, .f32⟩
  | .hbm, ⟨32, _⟩ => ⟨S_, .f32⟩
  | .hbm, ⟨33, _⟩ => ⟨S2048x8x128, .f32⟩
  | .hbm, ⟨34, _⟩ => ⟨S2048x8x128, .f32⟩
  | .hbm, ⟨35, _⟩ => ⟨S_, .f32⟩
  | .hbm, ⟨36, _⟩ => ⟨S2048x8x128, .f32⟩
  | .hbm, ⟨37, _⟩ => ⟨S2048x8x128, .f32⟩
  | .hbm, ⟨38, _⟩ => ⟨S2048x8x128, .f32⟩
  | .hbm, ⟨39, _⟩ => ⟨S2048x8x128, .f32⟩
  | .hbm, ⟨40, _⟩ => ⟨S2048x8x128, .f32⟩
  | .hbm, ⟨41, _⟩ => ⟨S2048x1024, .f32⟩
  | .hbm, ⟨42, _⟩ => ⟨S2048x8x128, .f32⟩
  | .hbm, ⟨43, _⟩ => ⟨S2048x8x128, .f32⟩
  | .hbm, ⟨44, _⟩ => ⟨S2048x8x128, .f32⟩
  | .hbm, ⟨45, _⟩ => ⟨S2048x8x128, .f32⟩
  | .hbm, ⟨46, _⟩ => ⟨S2048x8x128, .f32⟩
  | .hbm, ⟨47, _⟩ => ⟨S2048x8x128, .f32⟩
  | .hbm, ⟨48, _⟩ => ⟨S2048x8x128, .f32⟩
  | .hbm, ⟨49, _⟩ => ⟨S2048x1024, .f32⟩
  | .hbm, ⟨50, _⟩ => ⟨S2048x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S2048x8x128, .f32⟩
  | .hbm, ⟨55, _⟩ => ⟨S2048x8x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S2048x8x128, .f32⟩
  | .hbm, ⟨60, _⟩ => ⟨S_, .f32⟩
  | .hbm, ⟨61, _⟩ => ⟨S2048x8, .f32⟩
  | .hbm, ⟨62, _⟩ => ⟨S2048x8x1, .f32⟩
  | .hbm, ⟨63, _⟩ => ⟨S2048x8x128, .f32⟩
  | .hbm, ⟨64, _⟩ => ⟨S2048x8x128, .f32⟩
  | .hbm, ⟨65, _⟩ => ⟨S2048x8x1, .f32⟩
  | .hbm, ⟨66, _⟩ => ⟨S_, .f32⟩
  | .hbm, ⟨67, _⟩ => ⟨S2048x8x1, .f32⟩
  | .hbm, ⟨68, _⟩ => ⟨S2048x8x1, .f32⟩
  | .hbm, ⟨69, _⟩ => ⟨S_, .f32⟩
  | .hbm, ⟨70, _⟩ => ⟨S2048x8, .f32⟩
  | .hbm, ⟨71, _⟩ => ⟨S2048x8x128, .f32⟩
  | .hbm, ⟨72, _⟩ => ⟨S2048x8x128, .f32⟩
  | .hbm, ⟨73, _⟩ => ⟨S2048x8x128, .f32⟩
  | .hbm, ⟨74, _⟩ => ⟨S2048x8x128, .f32⟩
  | .hbm, ⟨75, _⟩ => ⟨S2048x8x128, .f32⟩
  | .hbm, ⟨76, _⟩ => ⟨S2048x1024, .f32⟩
  | .hbm, ⟨77, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== KernelLb.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 17
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_13 : BitVec 32 := 0#32
  let v31 : BitVec 1 := Scalar.cmpi .ne v30 c0_i32_13
  v31

def k0_cond2 (i : grid0.Coords) : BitVec 1 :=
  let arg0 : BitVec 32 := BitVec.ofNat 32 (i 0).val
  let c0_i32_14 : BitVec 32 := 0#32
  let v32 : BitVec 1 := Scalar.cmpi .sgt arg0 c0_i32_14
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLbIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Common.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.Frame

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the whole program: the pipelines' algebra beside the counters of the transfers. -/
abbrev UU : Type := Pipeline.UD sig nD τ

local notation "𝕄" => MT nD τ sig Unit (Elt F) ℕ UU ℕ

/-- The contents of the buffer a memref names on a device. -/
abbrev Bf (c : Dev nD) {sp : Space} {S : Shape} {e : EltTy} (M : Memref sig .tc sp S e) : Type := Buf (Elt F) (M.view.loc (c : Thread nD τ))

/-- That buffer held whole at the contents `f`. -/
abbrev pt (c : Dev nD) {sp : Space} {S : Shape} {e : EltTy} (M : Memref sig .tc sp S e) (f : Bf (F := F) c M) : sProp 𝕄 :=
  M.view.loc (c : Thread nD τ) ↦{fullShare} f

end Cert.Proof
end
-- ==== Proof.Block.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Common
public import Idealize.ShloMosaic.Lib.ValueIdxCore
public import Idealize.ShloMosaic.Lib.Pipeline.Value
public import Idealize.ShloMosaic.Lib.Pipeline.ValueKit.Tiles

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-! ## The parts of a block one head reads -/

/-- Head `r`'s 128 columns of a block of 64 rows. -/
def cut (x : Vec F S64x1024 .f32) (r : Fin 8) : Vec F S64x128 .f32 :=
  View.ld x (Rect.unit (s := S64x1024) ![0, 128 * r.val] S64x128.size (fun a => by fin_cases a <;> simp <;> omega))
/-- Head `r`'s square of a block of chunk-by-chunk squares. -/
def cutQ (x : Vec F S1x8x64x64 .f32) (r : Fin 8) : Vec F S1x1x64x64 .f32 :=
  View.ld x (Rect.unit (s := S1x8x64x64) ![0, r.val, 0, 0] S1x1x64x64.size (fun a => by fin_cases a <;> simp <;> omega))
/-- The first row of head `r`'s block of decays. -/
def cutE (x : Vec F S1x8x8x128 .f32) (r : Fin 8) : Vec F S1x1x1x128 .f32 :=
  View.ld x (Rect.unit (s := S1x8x8x128) ![0, r.val, 0, 0] S1x1x1x128.size (fun a => by fin_cases a <;> simp <;> omega))
/-- Head `r`'s saved state in a block of states. -/
def cutS (x : Vec F S1x8x128x128 .f32) (r : Fin 8) : Vec F S1x1x128x128 .f32 :=
  View.ld x (Rect.unit (s := S1x8x128x128) ![0, r.val, 0, 0] S1x1x128x128.size (fun a => by fin_cases a <;> simp <;> omega))
/-- Head `r`'s square of the carried state. -/
def rowS (s : Vec F S8x128x128 .f32) (r : Fin 8) : Vec F S1x128x128 .f32 :=
  View.ld s (Rect.unit (s := S8x128x128) ![r.val, 0, 0] S1x128x128.size (fun a => by fin_cases a <;> simp <;> omega))

/-! ## Putting the heads' parts back together -/

/-- A block of 64 rows from its heads' columns. -/
def cols {α : Type} (p : Fin 8 → S64x128.Idx → α) : S64x1024.Idx → α := fun y =>
  p ⟨(y 1).val / 128, by have : (y 1).val < 1024 := (y 1).isLt; omega⟩ (ix2 (y 0) ⟨(y 1).val % 128, Nat.mod_lt _ (by decide)⟩)
/-- A block of chunk-by-chunk squares from its heads' squares. -/
def squares {α : Type} (p : Fin 8 → S1x1x64x64.Idx → α) : S1x8x64x64.Idx → α := fun y => p (y 1) (ix4 0 0 (y 2) (y 3))
/-- A block of decays' gradients from its heads' parts. -/
def decays {α : Type} (p : Fin 8 → S1x1x8x128.Idx → α) : S1x8x8x128.Idx → α := fun y => p (y 1) (ix4 0 0 (y 2) (y 3))
/-- A block of states from its heads' states. -/
def states {α : Type} (p : Fin 8 → S1x1x128x128.Idx → α) : S1x8x128x128.Idx → α := fun y => p (y 1) (ix4 0 0 (y 2) (y 3))
/-- The carried state from its heads' squares. -/
def rows {α : Type} (p : Fin 8 → S1x128x128.Idx → α) : S8x128x128.Idx → α := fun y => p (y 0) (ix3 0 (y 1) (y 2))

/-! ## Eight stores that tile a buffer, read back -/

/-- Eight disjoint tiles stored one after the other leave, at an index of tile `r`, that tile's payload. -/
theorem canon_eight {Val : EltTy → Type} [∀ e, Nonempty (Val e)] {S : Shape} {e : EltTy} (off : Fin 8 → Fin S.rank → ℕ) (size : Fin S.rank → ℕ)
    (inb : ∀ r a, off r a + size a ≤ S.size a) (p : (r : Fin 8) → (Rect.unit (off r) size (inb r)).shape.Idx → Val e) (y : S.Idx) (r : Fin 8)
    (x : (⟨S.rank, size⟩ : Shape).Idx) (hx : ∀ a, (y a : ℕ) = off r a + x a)
    (hd : ∀ r' : Fin 8, (∀ a, off r' a ≤ (y a : ℕ) ∧ (y a : ℕ) < off r' a + size a) → r' = r) :
    View.canon [(⟨Rect.unit (off 7) size (inb 7), p 7⟩ : View.Piece Val S e), ⟨Rect.unit (off 6) size (inb 6), p 6⟩, ⟨Rect.unit (off 5) size (inb 5), p 5⟩,
      ⟨Rect.unit (off 4) size (inb 4), p 4⟩, ⟨Rect.unit (off 3) size (inb 3), p 3⟩, ⟨Rect.unit (off 2) size (inb 2), p 2⟩,
      ⟨Rect.unit (off 1) size (inb 1), p 1⟩, ⟨Rect.unit (off 0) size (inb 0), p 0⟩] y = p r x := by
  have hy : y ∈ (Rect.unit (off r) size (inb r)).set := Rect.mem_set_unit.mpr fun a => by
    have h1 := hx a
    have h2 : (x a : ℕ) < size a := (x a).isLt
    omega
  refine View.canon_eq_of_allAt _ y _ ⟨⟨Rect.unit (off r) size (inb r), p r⟩, ?_, hy⟩ ?_
  · fin_cases r <;> simp
  · have key : ∀ r' : Fin 8, View.RectAt y (Rect.unit (off r') size (inb r')) (p r') (p r x) := fun r' x' hx' => by
      have hr : r' = r := hd r' fun a => by
        have h1 : (y a : ℕ) = off r' a + 1 * (x' a : ℕ) := by rw [← hx']; rfl
        have h2 : (x' a : ℕ) < size a := (x' a).isLt
        omega
      subst hr
      refine congrArg (p r') (funext fun a => Fin.ext ?_)
      have h1 : (y a : ℕ) = off r' a + 1 * (x' a : ℕ) := by rw [← hx']; rfl
      have h3 := hx a
      omega
    exact View.allAt_cons _ _ _ (key 7) (View.allAt_cons _ _ _ (key 6) (View.allAt_cons _ _ _ (key 5) (View.allAt_cons _ _ _ (key 4)
      (View.allAt_cons _ _ _ (key 3) (View.allAt_cons _ _ _ (key 2) (View.allAt_cons _ _ _ (key 1) (View.allAt_cons _ _ _ (key 0) (View.allAt_nil _ _))))))))

/-- Two lists of eight are equal when their entries are. -/
theorem eight_eq {α : Type} {a7 a6 a5 a4 a3 a2 a1 a0 b7 b6 b5 b4 b3 b2 b1 b0 : α} (h7 : a7 = b7) (h6 : a6 = b6) (h5 : a5 = b5) (h4 : a4 = b4) (h3 : a3 = b3)
    (h2 : a2 = b2) (h1 : a1 = b1) (h0 : a0 = b0) : [a7, a6, a5, a4, a3, a2, a1, a0] = [b7, b6, b5, b4, b3, b2, b1, b0] := by
  rw [h7, h6, h5, h4, h3, h2, h1, h0]

section Tiles
variable {Val : EltTy → Type} [∀ e, Nonempty (Val e)]

/-- Eight stores of columns leave the block of those columns. -/
theorem canon_cols (off : Fin 8 → Fin 2 → ℕ) (inb : ∀ r a, off r a + S64x128.size a ≤ S64x1024.size a) (ho : ∀ r, off r = ![0, 128 * r.val])
    (p : Fin 8 → S64x128.Idx → Val .f32) :
    View.canon [(⟨Rect.unit (off 7) S64x128.size (inb 7), p 7⟩ : View.Piece Val S64x1024 .f32), ⟨Rect.unit (off 6) S64x128.size (inb 6), p 6⟩, ⟨Rect.unit (off 5) S64x128.size (inb 5), p 5⟩,
      ⟨Rect.unit (off 4) S64x128.size (inb 4), p 4⟩, ⟨Rect.unit (off 3) S64x128.size (inb 3), p 3⟩, ⟨Rect.unit (off 2) S64x128.size (inb 2), p 2⟩,
      ⟨Rect.unit (off 1) S64x128.size (inb 1), p 1⟩, ⟨Rect.unit (off 0) S64x128.size (inb 0), p 0⟩] = cols p := by
  funext y
  have h1 : (y 1).val < 1024 := (y 1).isLt
  refine canon_eight (S := S64x1024) off S64x128.size inb p y ⟨(y 1).val / 128, by omega⟩ (ix2 (y 0) ⟨(y 1).val % 128, Nat.mod_lt _ (by decide)⟩) ?_ ?_
  · intro a
    refine Eq.trans ?_ (congrArg (· + _) (congrFun (ho _) a).symm)
    match a with
    | ⟨0, _⟩ => exact (Nat.zero_add _).symm
    | ⟨1, _⟩ => exact (Nat.div_add_mod _ 128).symm
  · intro r' h
    have h' := h 1
    rw [congrFun (ho r') 1] at h'
    replace h' : 128 * r'.val ≤ (y 1).val ∧ (y 1).val < 128 * r'.val + 128 := h'
    exact Fin.ext (by show r'.val = (y 1).val / 128; omega)

/-- Eight stores along the second axis of a rank-four buffer leave, at an index, the store of its second coordinate. -/
theorem canon_four {m n : ℕ} (off : Fin 8 → Fin 4 → ℕ) (inb : ∀ r a, off r a + (![1, 1, m, n] : Fin 4 → ℕ) a ≤ (![1, 8, m, n] : Fin 4 → ℕ) a)
    (ho : ∀ r, off r = ![0, r.val, 0, 0]) (p : Fin 8 → (⟨4, ![1, 1, m, n]⟩ : Shape).Idx → Val .f32) :
    View.canon [(⟨Rect.unit (off 7) ![1, 1, m, n] (inb 7), p 7⟩ : View.Piece Val ⟨4, ![1, 8, m, n]⟩ .f32), ⟨Rect.unit (off 6) ![1, 1, m, n] (inb 6), p 6⟩,
      ⟨Rect.unit (off 5) ![1, 1, m, n] (inb 5), p 5⟩, ⟨Rect.unit (off 4) ![1, 1, m, n] (inb 4), p 4⟩, ⟨Rect.unit (off 3) ![1, 1, m, n] (inb 3), p 3⟩,
      ⟨Rect.unit (off 2) ![1, 1, m, n] (inb 2), p 2⟩, ⟨Rect.unit (off 1) ![1, 1, m, n] (inb 1), p 1⟩, ⟨Rect.unit (off 0) ![1, 1, m, n] (inb 0), p 0⟩]
      = fun y => p (y 1) (ix4 0 0 (y 2) (y 3)) := by
  funext y
  have h0 : (y 0).val = 0 := by have : (y 0).val < 1 := (y 0).isLt; omega
  refine canon_eight (S := ⟨4, ![1, 8, m, n]⟩) off ![1, 1, m, n] inb p y (y 1) (ix4 (n0 := 1) (n1 := 1) 0 0 (y 2) (y 3)) ?_ ?_
  · intro a
    refine Eq.trans ?_ (congrArg (· + _) (congrFun (ho _) a).symm)
    match a with
    | ⟨0, _⟩ => exact h0
    | ⟨1, _⟩ => rfl
    | ⟨2, _⟩ => exact (Nat.zero_add _).symm
    | ⟨3, _⟩ => exact (Nat.zero_add _).symm
  · intro r' h
    have h' := h 1
    rw [congrFun (ho r') 1] at h'
    replace h' : r'.val ≤ (y 1).val ∧ (y 1).val < r'.val + 1 := h'
    exact Fin.ext (by omega)

/-- Eight stores of chunk-by-chunk squares leave the block they make. -/
theorem canon_squares (off : Fin 8 → Fin 4 → ℕ) (inb : ∀ r a, off r a + S1x1x64x64.size a ≤ S1x8x64x64.size a) (ho : ∀ r, off r = ![0, r.val, 0, 0])
    (p : Fin 8 → S1x1x64x64.Idx → Val .f32) :
    View.canon [(⟨Rect.unit (off 7) S1x1x64x64.size (inb 7), p 7⟩ : View.Piece Val S1x8x64x64 .f32), ⟨Rect.unit (off 6) S1x1x64x64.size (inb 6), p 6⟩, ⟨Rect.unit (off 5) S1x1x64x64.size (inb 5), p 5⟩, ⟨Rect.unit (off 4) S1x1x64x64.size (inb 4), p 4⟩, ⟨Rect.unit (off 3) S1x1x64x64.size (inb 3), p 3⟩, ⟨Rect.unit (off 2) S1x1x64x64.size (inb 2), p 2⟩, ⟨Rect.unit (off 1) S1x1x64x64.size (inb 1), p 1⟩, ⟨Rect.unit (off 0) S1x1x64x64.size (inb 0), p 0⟩] = squares p := canon_four off inb ho p

/-- Eight stores of decays' gradients leave the block they make. -/
theorem canon_decays (off : Fin 8 → Fin 4 → ℕ) (inb : ∀ r a, off r a + S1x1x8x128.size a ≤ S1x8x8x128.size a) (ho : ∀ r, off r = ![0, r.val, 0, 0])
    (p : Fin 8 → S1x1x8x128.Idx → Val .f32) :
    View.canon [(⟨Rect.unit (off 7) S1x1x8x128.size (inb 7), p 7⟩ : View.Piece Val S1x8x8x128 .f32), ⟨Rect.unit (off 6) S1x1x8x128.size (inb 6), p 6⟩, ⟨Rect.unit (off 5) S1x1x8x128.size (inb 5), p 5⟩, ⟨Rect.unit (off 4) S1x1x8x128.size (inb 4), p 4⟩, ⟨Rect.unit (off 3) S1x1x8x128.size (inb 3), p 3⟩, ⟨Rect.unit (off 2) S1x1x8x128.size (inb 2), p 2⟩, ⟨Rect.unit (off 1) S1x1x8x128.size (inb 1), p 1⟩, ⟨Rect.unit (off 0) S1x1x8x128.size (inb 0), p 0⟩] = decays p := canon_four off inb ho p

/-- Eight stores of saved states leave the block they make. -/
theorem canon_states (off : Fin 8 → Fin 4 → ℕ) (inb : ∀ r a, off r a + S1x1x128x128.size a ≤ S1x8x128x128.size a) (ho : ∀ r, off r = ![0, r.val, 0, 0])
    (p : Fin 8 → S1x1x128x128.Idx → Val .f32) :
    View.canon [(⟨Rect.unit (off 7) S1x1x128x128.size (inb 7), p 7⟩ : View.Piece Val S1x8x128x128 .f32), ⟨Rect.unit (off 6) S1x1x128x128.size (inb 6), p 6⟩, ⟨Rect.unit (off 5) S1x1x128x128.size (inb 5), p 5⟩, ⟨Rect.unit (off 4) S1x1x128x128.size (inb 4), p 4⟩, ⟨Rect.unit (off 3) S1x1x128x128.size (inb 3), p 3⟩, ⟨Rect.unit (off 2) S1x1x128x128.size (inb 2), p 2⟩, ⟨Rect.unit (off 1) S1x1x128x128.size (inb 1), p 1⟩, ⟨Rect.unit (off 0) S1x1x128x128.size (inb 0), p 0⟩] = states p := canon_four off inb ho p

/-- Eight stores of squares leave the carried state of those squares. -/
theorem canon_rows (off : Fin 8 → Fin 3 → ℕ) (inb : ∀ r a, off r a + S1x128x128.size a ≤ S8x128x128.size a) (ho : ∀ r, off r = ![r.val, 0, 0])
    (p : Fin 8 → S1x128x128.Idx → Val .f32) :
    View.canon [(⟨Rect.unit (off 7) S1x128x128.size (inb 7), p 7⟩ : View.Piece Val S8x128x128 .f32), ⟨Rect.unit (off 6) S1x128x128.size (inb 6), p 6⟩, ⟨Rect.unit (off 5) S1x128x128.size (inb 5), p 5⟩,
      ⟨Rect.unit (off 4) S1x128x128.size (inb 4), p 4⟩, ⟨Rect.unit (off 3) S1x128x128.size (inb 3), p 3⟩, ⟨Rect.unit (off 2) S1x128x128.size (inb 2), p 2⟩,
      ⟨Rect.unit (off 1) S1x128x128.size (inb 1), p 1⟩, ⟨Rect.unit (off 0) S1x128x128.size (inb 0), p 0⟩] = rows p := by
  funext y
  refine canon_eight (S := S8x128x128) off S1x128x128.size inb p y (y 0) (ix3 0 (y 1) (y 2)) ?_ ?_
  · intro a
    refine Eq.trans ?_ (congrArg (· + _) (congrFun (ho _) a).symm)
    match a with
    | ⟨0, _⟩ => rfl
    | ⟨1, _⟩ => exact (Nat.zero_add _).symm
    | ⟨2, _⟩ => exact (Nat.zero_add _).symm
  · intro r' h
    have h' := h 0
    rw [congrFun (ho r') 0] at h'
    replace h' : r'.val ≤ (y 0).val ∧ (y 0).val < r'.val + 1 := h'
    exact Fin.ext (by omega)

/-- Eight stores of squares over anything leave the carried state of those squares. -/
theorem read_rows_over {v : View sig .tc .vmem S8x128x128 .f32} (f : v.ty.Contents Val) (off : Fin 8 → Fin 3 → ℕ)
    (inb : ∀ r a, off r a + S1x128x128.size a ≤ S8x128x128.size a) (ho : ∀ r, off r = ![r.val, 0, 0]) (p : Fin 8 → S1x128x128.Idx → Val .f32)
    (L : List (View.Piece Val S8x128x128 .f32)) {a7 a6 a5 a4 a3 a2 a1 a0 : View.Piece Val S8x128x128 .f32}
    (h7 : a7 = ⟨Rect.unit (off 7) S1x128x128.size (inb 7), p 7⟩)
    (h6 : a6 = ⟨Rect.unit (off 6) S1x128x128.size (inb 6), p 6⟩)
    (h5 : a5 = ⟨Rect.unit (off 5) S1x128x128.size (inb 5), p 5⟩)
    (h4 : a4 = ⟨Rect.unit (off 4) S1x128x128.size (inb 4), p 4⟩)
    (h3 : a3 = ⟨Rect.unit (off 3) S1x128x128.size (inb 3), p 3⟩)
    (h2 : a2 = ⟨Rect.unit (off 2) S1x128x128.size (inb 2), p 2⟩)
    (h1 : a1 = ⟨Rect.unit (off 1) S1x128x128.size (inb 1), p 1⟩)
    (h0 : a0 = ⟨Rect.unit (off 0) S1x128x128.size (inb 0), p 0⟩) :
    v.read Val (v.writes Val f (a7 :: a6 :: a5 :: a4 :: a3 :: a2 :: a1 :: a0 :: L)) = rows p := by
  subst h7 h6 h5 h4 h3 h2 h1 h0
  refine Eq.trans ?_ (canon_rows off inb ho p)
  refine View.read_writes_eq_canon v (v.writes Val f L) [(⟨Rect.unit (off 7) S1x128x128.size (inb 7), p 7⟩ : View.Piece Val S8x128x128 .f32), ⟨Rect.unit (off 6) S1x128x128.size (inb 6), p 6⟩, ⟨Rect.unit (off 5) S1x128x128.size (inb 5), p 5⟩, ⟨Rect.unit (off 4) S1x128x128.size (inb 4), p 4⟩, ⟨Rect.unit (off 3) S1x128x128.size (inb 3), p 3⟩, ⟨Rect.unit (off 2) S1x128x128.size (inb 2), p 2⟩, ⟨Rect.unit (off 1) S1x128x128.size (inb 1), p 1⟩, ⟨Rect.unit (off 0) S1x128x128.size (inb 0), p 0⟩] fun y => ?_
  have key : ∀ r : Fin 8, (y 0).val = r.val → y ∈ (Rect.unit (s := S8x128x128) (off r) S1x128x128.size (inb r)).set := fun r hr => by
    refine Rect.mem_set_unit.mpr fun a => ?_
    rw [congrFun (ho r) a]
    have h1 : (y 1).val < 128 := (y 1).isLt
    have h2 : (y 2).val < 128 := (y 2).isLt
    match a with
    | ⟨0, _⟩ => exact ⟨hr.ge, by show (y 0).val < r.val + 1; omega⟩
    | ⟨1, _⟩ => exact ⟨Nat.zero_le _, by show (y 1).val < 0 + 128; omega⟩
    | ⟨2, _⟩ => exact ⟨Nat.zero_le _, by show (y 2).val < 0 + 128; omega⟩
  have h0 : (y 0).val < 8 := (y 0).isLt
  obtain h | h | h | h | h | h | h | h : (y 0).val = 7 ∨ (y 0).val = 6 ∨ (y 0).val = 5 ∨ (y 0).val = 4 ∨ (y 0).val = 3 ∨ (y 0).val = 2 ∨ (y 0).val = 1 ∨ (y 0).val = 0 := by omega
  · exact ⟨_, .head _, key 7 h⟩
  · exact ⟨_, .tail _ (.head _), key 6 h⟩
  · exact ⟨_, .tail _ (.tail _ (.head _)), key 5 h⟩
  · exact ⟨_, .tail _ (.tail _ (.tail _ (.head _))), key 4 h⟩
  · exact ⟨_, .tail _ (.tail _ (.tail _ (.tail _ (.head _)))), key 3 h⟩
  · exact ⟨_, .tail _ (.tail _ (.tail _ (.tail _ (.tail _ (.head _))))), key 2 h⟩
  · exact ⟨_, .tail _ (.tail _ (.tail _ (.tail _ (.tail _ (.tail _ (.head _)))))), key 1 h⟩
  · exact ⟨_, .tail _ (.tail _ (.tail _ (.tail _ (.tail _ (.tail _ (.tail _ (.head _))))))), key 0 h⟩

end Tiles

/-! ## What one head computes -/

/-- 64 rows times a state. -/
def mulState (a : Vec F S64x128 .f32) (s : FVec F S128x128 .f32) : FVec F S64x128 .f32 :=
  matmul dot_S64x128_S128x128_S64x128_1_0_0_1_n_n none (truncf .bf16 a bitsLt_bf16_f32) (truncf .bf16 s bitsLt_bf16_f32) (constant S64x128 .f32 0x00000000#32)
/-- 64 rows times the transpose of a state. -/
def mulStateT (a : FVec F S64x128 .f32) (s : FVec F S128x128 .f32) : FVec F S64x128 .f32 :=
  matmul dot_S64x128_S128x128_S64x128_1_1_0_0_n_n none (truncf .bf16 a bitsLt_bf16_f32) (truncf .bf16 s bitsLt_bf16_f32) (constant S64x128 .f32 0x00000000#32)
/-- The transpose of 64 rows times 64 rows: a state. -/
def outer (a : FVec F S64x128 .f32) (b : FVec F S64x128 .f32) : FVec F S128x128 .f32 :=
  matmul dot_S64x128_S64x128_S128x128_0_0_1_1_n_n none (truncf .bf16 a bitsLt_bf16_f32) (truncf .bf16 b bitsLt_bf16_f32) (constant S128x128 .f32 0x00000000#32)
/-- A chunk-by-chunk square times 64 rows. -/
def mulSquare (q : FVec F S64x64 .f32) (b : FVec F S64x128 .f32) : FVec F S64x128 .f32 :=
  matmul dot_S64x64_S64x128_S64x128_1_0_0_1_n_n none (truncf .bf16 q bitsLt_bf16_f32) (truncf .bf16 b bitsLt_bf16_f32) (constant S64x128 .f32 0x00000000#32)
/-- The transpose of a chunk-by-chunk square times 64 rows. -/
def mulSquareT (q : FVec F S64x64 .f32) (b : FVec F S64x128 .f32) : FVec F S64x128 .f32 :=
  matmul dot_S64x64_S64x128_S64x128_0_0_1_1_n_n none (truncf .bf16 q bitsLt_bf16_f32) (truncf .bf16 b bitsLt_bf16_f32) (constant S64x128 .f32 0x00000000#32)
/-- 64 rows times the transpose of 64 rows: a chunk-by-chunk square. -/
def inner (a : FVec F S64x128 .f32) (b : FVec F S64x128 .f32) : FVec F S64x64 .f32 :=
  matmul dot_S64x128_S64x128_S64x64_1_1_0_0_n_n none (truncf .bf16 a bitsLt_bf16_f32) (truncf .bf16 b bitsLt_bf16_f32) (constant S64x64 .f32 0x00000000#32)
/-- A state scaled by a row of decays. -/
def scaled (s : FVec F S128x128 .f32) (g : Vec F S1x1x1x128 .f32) : FVec F S128x128 .f32 :=
  mulf s (broadcastTo S128x128 (shapeCast S1x128 g shapeCasts_S1x1x1x128_S1x128) broadcasts_S1x128_S128x128)
/-- A carried square as a state. -/
def sq (s : Vec F S1x128x128 .f32) : FVec F S128x128 .f32 := shapeCast S128x128 s shapeCasts_S1x128x128_S128x128
/-- A saved state as a state. -/
def sq4 (s : Vec F S1x1x128x128 .f32) : FVec F S128x128 .f32 := shapeCast S128x128 s shapeCasts_S1x1x128x128_S128x128
/-- A head's chunk-by-chunk square as a matrix. -/
def sqQ (q : Vec F S1x1x64x64 .f32) : FVec F S64x64 .f32 := shapeCast S64x64 q shapeCasts_S1x1x64x64_S64x64
/-- The sum of the products of two states, at every place of an eight by 128 block. -/
def total (d s : FVec F S128x128 .f32) : FVec F S1x1x8x128 .f32 :=
  shapeCast S1x1x8x128 (broadcastTo S8x128 (shapeCast S1x1 (broadcast S1x1 (extractAt ![0, 0, 0]
    (shapeCast S1x1x1 (multiReduction .add [1, 2] S1 (shapeCast S1x128x128 (mulf d s) shapeCasts_S128x128_S1x128x128) 0x00000000#32 reduces_S1x128x128_S1 (.inl rfl) rfl)
      shapeCasts_S1_S1x1x1) inpos_S1x1x1_p0_0_0)) shapeCasts_S1x1_S1x1) broadcasts_S1x1_S8x128) shapeCasts_S8x128_S1x1x8x128

/-- The new values of a chunk: `u - w·S`. -/
def newV (u w : Vec F S64x128 .f32) (s : FVec F S128x128 .f32) : FVec F S64x128 .f32 := subf u (mulState w s)
/-- The gradient of the new values: `qkᵀ·do + kd·dS`. -/
def gradV (qk : FVec F S64x64 .f32) (kd d : Vec F S64x128 .f32) (ds : FVec F S128x128 .f32) : FVec F S64x128 .f32 := addf (mulSquareT qk d) (mulState kd ds)

/-! ## What the bodies leave, by blocks -/

variable (u w qd kd d : Vec F S64x1024 .f32) (qk : Vec F S1x8x64x64 .f32) (g : Vec F S1x8x8x128 .f32) (st : Vec F S1x8x128x128 .f32)
  (s : Fin 8 → Vec F S1x128x128 .f32)

/-- The forward body's output block. One head's part. -/
def fwdOh (r : Fin 8) : Vec F S64x128 .f32 := addf (mulState (cut qd r) (sq (s r))) (mulSquare (sqQ (cutQ qk r)) (newV (cut u r) (cut w r) (sq (s r))))
/-- The forward body's output block. -/
def fwdO : Vec F S64x1024 .f32 := cols (fwdOh u w qd qk s)
/-- The forward body's block of saved states. One head's part. -/
def fwdSth (r : Fin 8) : Vec F S1x1x128x128 .f32 := shapeCast S1x1x128x128 (sq (s r)) shapeCasts_S128x128_S1x1x128x128
/-- The forward body's block of saved states. -/
def fwdSt : Vec F S1x8x128x128 .f32 := states (fwdSth s)
/-- The state the forward body leaves: `S·g + kdᵀ·(u - w·S)`. One head's part. -/
def fwdSh (r : Fin 8) : Vec F S1x128x128 .f32 := shapeCast S1x128x128
  (addf (scaled (sq (s r)) (cutE g r)) (outer (cut kd r) (newV (cut u r) (cut w r) (sq (s r))))) shapeCasts_S128x128_S1x128x128
/-- The state the forward body leaves: `S·g + kdᵀ·(u - w·S)`. -/
def fwdS : Vec F S8x128x128 .f32 := rows (fwdSh u w kd g s)
/-- The backward body's gradient of `u`. One head's part. -/
def bwdUh (r : Fin 8) : Vec F S64x128 .f32 := gradV (sqQ (cutQ qk r)) (cut kd r) (cut d r) (sq (s r))
/-- The backward body's gradient of `u`. -/
def bwdU : Vec F S64x1024 .f32 := cols (bwdUh kd d qk s)
/-- The backward body's gradient of `w`. One head's part. -/
def bwdWh (r : Fin 8) : Vec F S64x128 .f32 := subf (broadcast S64x128 (Scalar.ofBits .f32 0x00000000#32 : F .f32))
  (mulStateT (gradV (sqQ (cutQ qk r)) (cut kd r) (cut d r) (sq (s r))) (sq4 (cutS st r)))
/-- The backward body's gradient of `w`. -/
def bwdW : Vec F S64x1024 .f32 := cols (bwdWh kd d qk st s)
/-- The backward body's gradient of `qd`. One head's part. -/
def bwdQdh (r : Fin 8) : Vec F S64x128 .f32 := mulStateT (cut d r) (sq4 (cutS st r))
/-- The backward body's gradient of `qd`. -/
def bwdQd : Vec F S64x1024 .f32 := cols (bwdQdh d st)
/-- The backward body's gradient of `kd`. One head's part. -/
def bwdKdh (r : Fin 8) : Vec F S64x128 .f32 := mulStateT (newV (cut u r) (cut w r) (sq4 (cutS st r))) (sq (s r))
/-- The backward body's gradient of `kd`. -/
def bwdKd : Vec F S64x1024 .f32 := cols (bwdKdh u w st s)
/-- The backward body's gradient of `qk`. One head's part. -/
def bwdQkh (r : Fin 8) : Vec F S1x1x64x64 .f32 := shapeCast S1x1x64x64 (inner (cut d r) (newV (cut u r) (cut w r) (sq4 (cutS st r)))) shapeCasts_S64x64_S1x1x64x64
/-- The backward body's gradient of `qk`. -/
def bwdQk : Vec F S1x8x64x64 .f32 := squares (bwdQkh u w d st)
/-- The backward body's gradient of the decays. One head's part. -/
def bwdGh (r : Fin 8) : Vec F S1x1x8x128 .f32 := total (sq (s r)) (sq4 (cutS st r))
/-- The backward body's gradient of the decays. -/
def bwdG : Vec F S1x8x8x128 .f32 := decays (bwdGh st s)
/-- The gradient of the state the backward body leaves: `(qdᵀ·do - wᵀ·dv) + dS·g`. One head's part. -/
def bwdSh (r : Fin 8) : Vec F S1x128x128 .f32 := shapeCast S1x128x128
  (addf (subf (outer (cut qd r) (cut d r)) (outer (cut w r) (gradV (sqQ (cutQ qk r)) (cut kd r) (cut d r) (sq (s r))))) (scaled (sq (s r)) (cutE g r)))
  shapeCasts_S128x128_S1x128x128
/-- The gradient of the state the backward body leaves: `(qdᵀ·do - wᵀ·dv) + dS·g`. -/
def bwdS : Vec F S8x128x128 .f32 := rows (bwdSh w qd kd d qk g s)
/-- The square of zeros the bodies start from. -/
def zeroRow : Vec F S1x128x128 .f32 := shapeCast S1x128x128 (broadcast S128x128 (Scalar.ofBits .f32 0x00000000#32 : F .f32)) shapeCasts_S128x128_S1x128x128

end Cert.Proof
end
-- ==== Proof.FwdRun.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Block
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The squares the state is read from at the first point: read back from the eight squares of zeros just stored. -/
def fwdFirstRow (i : grid0.Coords) (hi : k0_cond1 i = 1#1) (M10 : Memref sig .tc .vmem S8x128x128 .f32) :=
  fun r : Fin 8 => M10.view.readCov [(⟨Rect.unit (k0_off1 i 7#32) S1x128x128.size (k0_off1_inb i hi 7), zeroRow⟩ : View.Piece (Elt F) S8x128x128 .f32),
    ⟨Rect.unit (k0_off1 i 6#32) S1x128x128.size (k0_off1_inb i hi 6), zeroRow⟩, ⟨Rect.unit (k0_off1 i 5#32) S1x128x128.size (k0_off1_inb i hi 5), zeroRow⟩,
    ⟨Rect.unit (k0_off1 i 4#32) S1x128x128.size (k0_off1_inb i hi 4), zeroRow⟩, ⟨Rect.unit (k0_off1 i 3#32) S1x128x128.size (k0_off1_inb i hi 3), zeroRow⟩,
    ⟨Rect.unit (k0_off1 i 2#32) S1x128x128.size (k0_off1_inb i hi 2), zeroRow⟩, ⟨Rect.unit (k0_off1 i 1#32) S1x128x128.size (k0_off1_inb i hi 1), zeroRow⟩,
    ⟨Rect.unit (k0_off1 i 0#32) S1x128x128.size (k0_off1_inb i hi 0), zeroRow⟩] (Rect.unit (s := S8x128x128) (k0_off2 i (BitVec.ofNat 32 r.val)) S1x128x128.size (k0_off2_inb i r)).toLoadRect

/-- Every square the state is read from at the first point is the square of zeros. -/
theorem fwdFirst_rows (i : grid0.Coords) (hi : k0_cond1 i = 1#1) (M10 : Memref sig .tc .vmem S8x128x128 .f32) (r : Fin 8) : fwdFirstRow (F := F) i hi M10 r = zeroRow := by
  unfold fwdFirstRow
  rw [View.readCov_eq_canon']
  funext x
  refine (congrFun (canon_rows (Val := Elt F) (fun r => k0_off1 i (BitVec.ofNat 32 r.val)) (fun r => k0_off1_inb i hi r) (fun r => ?_) (fun _ => zeroRow)) _).trans ?_
  · rw [k0_off1_eq, show (i 1).val = 0 from by have : (i 1).val < 1 := (i 1).isLt; omega, Nat.mul_zero, Nat.zero_add]
  · rfl

/-- The forward body at the first chunk: the state is zeroed before it is read. With what it leaves in each buffer it fills. -/
noncomputable def fwdFirst (c : Dev nD) (i : grid0.Coords) (hi : k0_cond1 i = 1#1)
    (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S64x1024 .f32) (h8 : M8.IsWhole) (M9 : Memref sig .tc .vmem S1x8x128x128 .f32) (h9 : M9.IsWhole) (M10 : Memref sig .tc .vmem S8x128x128 .f32) (h10 : M10.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    { W : Bf (F := F) c M8 × Bf (F := F) c M9 × Bf (F := F) c M10 //
      (M8.view.read (Elt F) W.1 = fwdO (M2.view.read (Elt F) f2) (M3.view.read (Elt F) f3) (M4.view.read (Elt F) f4) (M6.view.read (Elt F) f6) (fun _ => zeroRow) ∧ M9.view.read (Elt F) W.2.1 = fwdSt (fun _ => zeroRow) ∧ M10.view.read (Elt F) W.2.2 = fwdS (M2.view.read (Elt F) f2) (M3.view.read (Elt F) f3) (M5.view.read (Elt F) f5) (M7.view.read (Elt F) f7) (fun _ => zeroRow))
      ∧ ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ (iprop(pt c M2 f2 ∗ pt c M3 f3 ∗ pt c M4 f4 ∗ pt c M5 f5 ∗ pt c M6 f6 ∗ pt c M7 f7 ∗ pt c M8 W.1 ∗ pt c M9 W.2.1 ∗ pt c M10 W.2.2) -∗ Q ⟨⟩))
          ⊢ wp frame (wpE (defs₀ (F := F)) Variants.none c none) E (cc0_dn_scan_fwd i M2 h2 M3 h3 M4 h4 M5 h5 M6 h6 M7 h7 M8 h8 M9 h9 M10 h10) Q } := by
  refine ⟨(?_, ?_, ?_), ?vals, fun E Q => ?run⟩
  case run =>
    iintro ⟨H2, H3, H4, H5, H6, H7, H8, H9, H10, Hk⟩
    sl_unfold [cc0_dn_scan_fwd]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  case vals =>
    have e : (fun _ : Fin 8 => (zeroRow : Vec F S1x128x128 .f32)) = fwdFirstRow (F := F) i hi M10 := funext fun r => (fwdFirst_rows i hi M10 r).symm
    refine ⟨?_, ?_, ?_⟩
    · have key := canon_cols (Val := Elt F) (fun r => ![0, 128 * r.val]) (fun r a => by fin_cases a <;> simp <;> omega) (fun _ => rfl) (fwdOh (M2.view.read (Elt F) f2) (M3.view.read (Elt F) f3) (M4.view.read (Elt F) f4) (M6.view.read (Elt F) f6) (fwdFirstRow (F := F) i hi M10))
      dsimp only
      rw [View.read_writes_junk_eq_canon]
      refine Eq.trans (congrArg View.canon ?_) (key.trans (congrArg (fun s => fwdO (M2.view.read (Elt F) f2) (M3.view.read (Elt F) f3) (M4.view.read (Elt F) f4) (M6.view.read (Elt F) f6) s) e.symm))
      exact eight_eq rfl rfl rfl rfl rfl rfl rfl rfl
    · have key := canon_states (Val := Elt F) (fun r => ![0, r.val, 0, 0]) (fun r a => by fin_cases a <;> simp <;> omega) (fun _ => rfl) (fwdSth (fwdFirstRow (F := F) i hi M10))
      dsimp only
      rw [View.read_writes_junk_eq_canon]
      refine Eq.trans (congrArg View.canon ?_) (key.trans (congrArg (fun s => fwdSt s) e.symm))
      exact eight_eq rfl rfl rfl rfl rfl rfl rfl rfl
    · dsimp only
      refine Eq.trans (read_rows_over (v := M10.view) f10 (fun r => k0_off2 i (BitVec.ofNat 32 r.val)) (fun r => k0_off2_inb i r) (fun r => by
      rw [k0_off2_eq, show (i 1).val = 0 from by have : (i 1).val < 1 := (i 1).isLt; omega, Nat.mul_zero, Nat.zero_add]) (fwdSh (M2.view.read (Elt F) f2) (M3.view.read (Elt F) f3) (M5.view.read (Elt F) f5) (M7.view.read (Elt F) f7) (fwdFirstRow (F := F) i hi M10))
        (fwdFirst.sl.H10_8 i hi) rfl rfl rfl rfl rfl rfl rfl rfl) (congrArg (fun s => fwdS (M2.view.read (Elt F) f2) (M3.view.read (Elt F) f3) (M5.view.read (Elt F) f5) (M7.view.read (Elt F) f7) s) e.symm)

/-- The squares the state is read from at a later point. -/
def fwdNextRow (c : Dev nD) (i : grid0.Coords) (M10 : Memref sig .tc .vmem S8x128x128 .f32) (f10 : Bf (F := F) c M10) :=
  fun r : Fin 8 => View.readAt (Elt F) M10.view (Rect.unit (s := S8x128x128) (k0_off2 i (BitVec.ofNat 32 r.val)) S1x128x128.size (k0_off2_inb i r)).toLoadRect f10

/-- The square the state is read from at a later point is the head's square of what the buffer holds. -/
theorem fwdNext_rows (c : Dev nD) (i : grid0.Coords) (M10 : Memref sig .tc .vmem S8x128x128 .f32) (f10 : Bf (F := F) c M10) (r : Fin 8) :
    fwdNextRow c i M10 f10 r = rowS (M10.view.read (Elt F) f10) r := by
  have e : k0_off2 i (BitVec.ofNat 32 r.val) = ![r.val, 0, 0] := by
      rw [k0_off2_eq, show (i 1).val = 0 from by have : (i 1).val < 1 := (i 1).isLt; omega, Nat.mul_zero, Nat.zero_add]
  exact View.readAt_unit M10.view f10 _ e _

/-- The forward body at a later chunk: the state is what the chunk before left. With what it leaves in each buffer it fills. -/
noncomputable def fwdNext (c : Dev nD) (i : grid0.Coords) (hi : ¬ k0_cond1 i = 1#1)
    (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S64x1024 .f32) (h8 : M8.IsWhole) (M9 : Memref sig .tc .vmem S1x8x128x128 .f32) (h9 : M9.IsWhole) (M10 : Memref sig .tc .vmem S8x128x128 .f32) (h10 : M10.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) :
    { W : Bf (F := F) c M8 × Bf (F := F) c M9 × Bf (F := F) c M10 //
      (M8.view.read (Elt F) W.1 = fwdO (M2.view.read (Elt F) f2) (M3.view.read (Elt F) f3) (M4.view.read (Elt F) f4) (M6.view.read (Elt F) f6) (rowS (M10.view.read (Elt F) f10)) ∧ M9.view.read (Elt F) W.2.1 = fwdSt (rowS (M10.view.read (Elt F) f10)) ∧ M10.view.read (Elt F) W.2.2 = fwdS (M2.view.read (Elt F) f2) (M3.view.read (Elt F) f3) (M5.view.read (Elt F) f5) (M7.view.read (Elt F) f7) (rowS (M10.view.read (Elt F) f10)))
      ∧ ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ (iprop(pt c M2 f2 ∗ pt c M3 f3 ∗ pt c M4 f4 ∗ pt c M5 f5 ∗ pt c M6 f6 ∗ pt c M7 f7 ∗ pt c M8 W.1 ∗ pt c M9 W.2.1 ∗ pt c M10 W.2.2) -∗ Q ⟨⟩))
          ⊢ wp frame (wpE (defs₀ (F := F)) Variants.none c none) E (cc0_dn_scan_fwd i M2 h2 M3 h3 M4 h4 M5 h5 M6 h6 M7 h7 M8 h8 M9 h9 M10 h10) Q } := by
  refine ⟨(?_, ?_, ?_), ?vals, fun E Q => ?run⟩
  case run =>
    iintro ⟨H2, H3, H4, H5, H6, H7, H8, H9, H10, Hk⟩
    sl_unfold [cc0_dn_scan_fwd]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  case vals =>
    have e : (rowS (M10.view.read (Elt F) f10)) = fwdNextRow c i M10 f10 := funext fun r => (fwdNext_rows c i M10 f10 r).symm
    refine ⟨?_, ?_, ?_⟩
    · have key := canon_cols (Val := Elt F) (fun r => ![0, 128 * r.val]) (fun r a => by fin_cases a <;> simp <;> omega) (fun _ => rfl) (fwdOh (M2.view.read (Elt F) f2) (M3.view.read (Elt F) f3) (M4.view.read (Elt F) f4) (M6.view.read (Elt F) f6) (fwdNextRow c i M10 f10))
      dsimp only
      rw [View.read_writes_junk_eq_canon]
      refine Eq.trans (congrArg View.canon ?_) (key.trans (congrArg (fun s => fwdO (M2.view.read (Elt F) f2) (M3.view.read (Elt F) f3) (M4.view.read (Elt F) f4) (M6.view.read (Elt F) f6) s) e.symm))
      exact eight_eq rfl rfl rfl rfl rfl rfl rfl rfl
    · have key := canon_states (Val := Elt F) (fun r => ![0, r.val, 0, 0]) (fun r a => by fin_cases a <;> simp <;> omega) (fun _ => rfl) (fwdSth (fwdNextRow c i M10 f10))
      dsimp only
      rw [View.read_writes_junk_eq_canon]
      refine Eq.trans (congrArg View.canon ?_) (key.trans (congrArg (fun s => fwdSt s) e.symm))
      exact eight_eq rfl rfl rfl rfl rfl rfl rfl rfl
    · dsimp only
      refine Eq.trans (read_rows_over (v := M10.view) f10 (fun r => k0_off2 i (BitVec.ofNat 32 r.val)) (fun r => k0_off2_inb i r) (fun r => by
      rw [k0_off2_eq, show (i 1).val = 0 from by have : (i 1).val < 1 := (i 1).isLt; omega, Nat.mul_zero, Nat.zero_add]) (fwdSh (M2.view.read (Elt F) f2) (M3.view.read (Elt F) f3) (M5.view.read (Elt F) f5) (M7.view.read (Elt F) f7) (fwdNextRow c i M10 f10))
        ([]) rfl rfl rfl rfl rfl rfl rfl rfl) (congrArg (fun s => fwdS (M2.view.read (Elt F) f2) (M3.view.read (Elt F) f3) (M5.view.read (Elt F) f5) (M7.view.read (Elt F) f7) s) e.symm)

end Cert.Proof
end
-- ==== Proof.BwdRun.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Block
public import Idealize.ShloMosaic.Lib.VecWindow

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The squares the state is read from at the first point: read back from the eight squares of zeros just stored. -/
def bwdFirstRow (i : grid1.Coords) (hi : k1_cond1 i = 1#1) (M16 : Memref sig .tc .vmem S8x128x128 .f32) :=
  fun r : Fin 8 => M16.view.readCov [(⟨Rect.unit (k1_off1 i 7#32) S1x128x128.size (k1_off1_inb i hi 7), zeroRow⟩ : View.Piece (Elt F) S8x128x128 .f32),
    ⟨Rect.unit (k1_off1 i 6#32) S1x128x128.size (k1_off1_inb i hi 6), zeroRow⟩, ⟨Rect.unit (k1_off1 i 5#32) S1x128x128.size (k1_off1_inb i hi 5), zeroRow⟩,
    ⟨Rect.unit (k1_off1 i 4#32) S1x128x128.size (k1_off1_inb i hi 4), zeroRow⟩, ⟨Rect.unit (k1_off1 i 3#32) S1x128x128.size (k1_off1_inb i hi 3), zeroRow⟩,
    ⟨Rect.unit (k1_off1 i 2#32) S1x128x128.size (k1_off1_inb i hi 2), zeroRow⟩, ⟨Rect.unit (k1_off1 i 1#32) S1x128x128.size (k1_off1_inb i hi 1), zeroRow⟩,
    ⟨Rect.unit (k1_off1 i 0#32) S1x128x128.size (k1_off1_inb i hi 0), zeroRow⟩] (Rect.unit (s := S8x128x128) (k1_off2 i (BitVec.ofNat 32 r.val)) S1x128x128.size (k1_off2_inb i r)).toLoadRect

/-- Every square the state is read from at the first point is the square of zeros. -/
theorem bwdFirst_rows (i : grid1.Coords) (hi : k1_cond1 i = 1#1) (M16 : Memref sig .tc .vmem S8x128x128 .f32) (r : Fin 8) : bwdFirstRow (F := F) i hi M16 r = zeroRow := by
  unfold bwdFirstRow
  rw [View.readCov_eq_canon']
  funext x
  refine (congrFun (canon_rows (Val := Elt F) (fun r => k1_off1 i (BitVec.ofNat 32 r.val)) (fun r => k1_off1_inb i hi r) (fun r => ?_) (fun _ => zeroRow)) _).trans ?_
  · rw [k1_off1_eq, show (i 1).val = 0 from by have : (i 1).val < 1 := (i 1).isLt; omega, Nat.mul_zero, Nat.zero_add]
  · rfl

/-- The backward body at the first point (the last chunk): the gradient of the state is zeroed before it is read. With what it leaves in each buffer it fills. -/
noncomputable def bwdFirst (c : Dev nD) (i : grid1.Coords) (hi : k1_cond1 i = 1#1)
    (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S1x8x128x128 .f32) (h8 : M8.IsWhole) (M9 : Memref sig .tc .vmem S64x1024 .f32) (h9 : M9.IsWhole) (M10 : Memref sig .tc .vmem S64x1024 .f32) (h10 : M10.IsWhole) (M11 : Memref sig .tc .vmem S64x1024 .f32) (h11 : M11.IsWhole) (M12 : Memref sig .tc .vmem S64x1024 .f32) (h12 : M12.IsWhole) (M13 : Memref sig .tc .vmem S64x1024 .f32) (h13 : M13.IsWhole) (M14 : Memref sig .tc .vmem S1x8x64x64 .f32) (h14 : M14.IsWhole) (M15 : Memref sig .tc .vmem S1x8x8x128 .f32) (h15 : M15.IsWhole) (M16 : Memref sig .tc .vmem S8x128x128 .f32) (h16 : M16.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M10 × Bf (F := F) c M11 × Bf (F := F) c M12 × Bf (F := F) c M13 × Bf (F := F) c M14 × Bf (F := F) c M15 × Bf (F := F) c M16 //
      (M10.view.read (Elt F) W.1 = bwdU (M5.view.read (Elt F) f5) (M9.view.read (Elt F) f9) (M6.view.read (Elt F) f6) (fun _ => zeroRow) ∧ M11.view.read (Elt F) W.2.1 = bwdW (M5.view.read (Elt F) f5) (M9.view.read (Elt F) f9) (M6.view.read (Elt F) f6) (M8.view.read (Elt F) f8) (fun _ => zeroRow) ∧ M12.view.read (Elt F) W.2.2.1 = bwdQd (M9.view.read (Elt F) f9) (M8.view.read (Elt F) f8) ∧ M13.view.read (Elt F) W.2.2.2.1 = bwdKd (M2.view.read (Elt F) f2) (M3.view.read (Elt F) f3) (M8.view.read (Elt F) f8) (fun _ => zeroRow) ∧ M14.view.read (Elt F) W.2.2.2.2.1 = bwdQk (M2.view.read (Elt F) f2) (M3.view.read (Elt F) f3) (M9.view.read (Elt F) f9) (M8.view.read (Elt F) f8) ∧ M15.view.read (Elt F) W.2.2.2.2.2.1 = bwdG (M8.view.read (Elt F) f8) (fun _ => zeroRow) ∧ M16.view.read (Elt F) W.2.2.2.2.2.2 = bwdS (M3.view.read (Elt F) f3) (M4.view.read (Elt F) f4) (M5.view.read (Elt F) f5) (M9.view.read (Elt F) f9) (M6.view.read (Elt F) f6) (M7.view.read (Elt F) f7) (fun _ => zeroRow))
      ∧ ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_dn_scan_bwd i M2 h2 M3 h3 M4 h4 M5 h5 M6 h6 M7 h7 M8 h8 M9 h9 M10 h10 M11 h11 M12 h12 M13 h13 M14 h14 M15 h15 M16 h16) Q } := by
  refine ⟨(?_, ?_, ?_, ?_, ?_, ?_, ?_), ?vals, fun E Q => ?run⟩
  case run =>
    iintro ⟨H2, H3, H4, H5, H6, H7, H8, H9, H10, H11, H12, H13, H14, H15, H16, Hk⟩
    sl_unfold [cc1_dn_scan_bwd]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  case vals =>
    have e : (fun _ : Fin 8 => (zeroRow : Vec F S1x128x128 .f32)) = bwdFirstRow (F := F) i hi M16 := funext fun r => (bwdFirst_rows i hi M16 r).symm
    refine ⟨?_, ?_, ?_, ?_, ?_, ?_, ?_⟩
    · have key := canon_cols (Val := Elt F) (fun r => ![0, 128 * r.val]) (fun r a => by fin_cases a <;> simp <;> omega) (fun _ => rfl) (bwdUh (M5.view.read (Elt F) f5) (M9.view.read (Elt F) f9) (M6.view.read (Elt F) f6) (bwdFirstRow (F := F) i hi M16))
      dsimp only
      rw [View.read_writes_junk_eq_canon]
      refine Eq.trans (congrArg View.canon ?_) (key.trans (congrArg (fun s => bwdU (M5.view.read (Elt F) f5) (M9.view.read (Elt F) f9) (M6.view.read (Elt F) f6) s) e.symm))
      exact eight_eq rfl rfl rfl rfl rfl rfl rfl rfl
    · have key := canon_cols (Val := Elt F) (fun r => ![0, 128 * r.val]) (fun r a => by fin_cases a <;> simp <;> omega) (fun _ => rfl) (bwdWh (M5.view.read (Elt F) f5) (M9.view.read (Elt F) f9) (M6.view.read (Elt F) f6) (M8.view.read (Elt F) f8) (bwdFirstRow (F := F) i hi M16))
      dsimp only
      rw [View.read_writes_junk_eq_canon]
      refine Eq.trans (congrArg View.canon ?_) (key.trans (congrArg (fun s => bwdW (M5.view.read (Elt F) f5) (M9.view.read (Elt F) f9) (M6.view.read (Elt F) f6) (M8.view.read (Elt F) f8) s) e.symm))
      exact eight_eq rfl rfl rfl rfl rfl rfl rfl rfl
    · have key := canon_cols (Val := Elt F) (fun r => ![0, 128 * r.val]) (fun r a => by fin_cases a <;> simp <;> omega) (fun _ => rfl) (bwdQdh (M9.view.read (Elt F) f9) (M8.view.read (Elt F) f8))
      dsimp only
      rw [View.read_writes_junk_eq_canon]
      refine Eq.trans (congrArg View.canon ?_) (key.trans rfl)
      exact eight_eq rfl rfl rfl rfl rfl rfl rfl rfl
    · have key := canon_cols (Val := Elt F) (fun r => ![0, 128 * r.val]) (fun r a => by fin_cases a <;> simp <;> omega) (fun _ => rfl) (bwdKdh (M2.view.read (Elt F) f2) (M3.view.read (Elt F) f3) (M8.view.read (Elt F) f8) (bwdFirstRow (F := F) i hi M16))
      dsimp only
      rw [View.read_writes_junk_eq_canon]
      refine Eq.trans (congrArg View.canon ?_) (key.trans (congrArg (fun s => bwdKd (M2.view.read (Elt F) f2) (M3.view.read (Elt F) f3) (M8.view.read (Elt F) f8) s) e.symm))
      exact eight_eq rfl rfl rfl rfl rfl rfl rfl rfl
    · have key := canon_squares (Val := Elt F) (fun r => ![0, r.val, 0, 0]) (fun r a => by fin_cases a <;> simp <;> omega) (fun _ => rfl) (bwdQkh (M2.view.read (Elt F) f2) (M3.view.read (Elt F) f3) (M9.view.read (Elt F) f9) (M8.view.read (Elt F) f8))
      dsimp only
      rw [View.read_writes_junk_eq_canon]
      refine Eq.trans (congrArg View.canon ?_) (key.trans rfl)
      exact eight_eq rfl rfl rfl rfl rfl rfl rfl rfl
    · have key := canon_decays (Val := Elt F) (fun r => ![0, r.val, 0, 0]) (fun r a => by fin_cases a <;> simp <;> omega) (fun _ => rfl) (bwdGh (M8.view.read (Elt F) f8) (bwdFirstRow (F := F) i hi M16))
      dsimp only
      rw [View.read_writes_junk_eq_canon]
      refine Eq.trans (congrArg View.canon ?_) (key.trans (congrArg (fun s => bwdG (M8.view.read (Elt F) f8) s) e.symm))
      exact eight_eq rfl rfl rfl rfl rfl rfl rfl rfl
    · dsimp only
      refine Eq.trans (read_rows_over (v := M16.view) f16 (fun r => k1_off2 i (BitVec.ofNat 32 r.val)) (fun r => k1_off2_inb i r) (fun r => by
      rw [k1_off2_eq, show (i 1).val = 0 from by have : (i 1).val < 1 := (i 1).isLt; omega, Nat.mul_zero, Nat.zero_add]) (bwdSh (M3.view.read (Elt F) f3) (M4.view.read (Elt F) f4) (M5.view.read (Elt F) f5) (M9.view.read (Elt F) f9) (M6.view.read (Elt F) f6) (M7.view.read (Elt F) f7) (bwdFirstRow (F := F) i hi M16))
        (bwdFirst.sl.H16_8 i hi) rfl rfl rfl rfl rfl rfl rfl rfl) (congrArg (fun s => bwdS (M3.view.read (Elt F) f3) (M4.view.read (Elt F) f4) (M5.view.read (Elt F) f5) (M9.view.read (Elt F) f9) (M6.view.read (Elt F) f6) (M7.view.read (Elt F) f7) s) e.symm)

/-- The squares the state is read from at a later point. -/
def bwdNextRow (c : Dev nD) (i : grid1.Coords) (M16 : Memref sig .tc .vmem S8x128x128 .f32) (f16 : Bf (F := F) c M16) :=
  fun r : Fin 8 => View.readAt (Elt F) M16.view (Rect.unit (s := S8x128x128) (k1_off2 i (BitVec.ofNat 32 r.val)) S1x128x128.size (k1_off2_inb i r)).toLoadRect f16

/-- The square the state is read from at a later point is the head's square of what the buffer holds. -/
theorem bwdNext_rows (c : Dev nD) (i : grid1.Coords) (M16 : Memref sig .tc .vmem S8x128x128 .f32) (f16 : Bf (F := F) c M16) (r : Fin 8) :
    bwdNextRow c i M16 f16 r = rowS (M16.view.read (Elt F) f16) r := by
  have e : k1_off2 i (BitVec.ofNat 32 r.val) = ![r.val, 0, 0] := by
      rw [k1_off2_eq, show (i 1).val = 0 from by have : (i 1).val < 1 := (i 1).isLt; omega, Nat.mul_zero, Nat.zero_add]
  exact View.readAt_unit M16.view f16 _ e _

/-- The backward body at a later point: the gradient of the state is what the point before left. With what it leaves in each buffer it fills. -/
noncomputable def bwdNext (c : Dev nD) (i : grid1.Coords) (hi : ¬ k1_cond1 i = 1#1)
    (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S1x8x128x128 .f32) (h8 : M8.IsWhole) (M9 : Memref sig .tc .vmem S64x1024 .f32) (h9 : M9.IsWhole) (M10 : Memref sig .tc .vmem S64x1024 .f32) (h10 : M10.IsWhole) (M11 : Memref sig .tc .vmem S64x1024 .f32) (h11 : M11.IsWhole) (M12 : Memref sig .tc .vmem S64x1024 .f32) (h12 : M12.IsWhole) (M13 : Memref sig .tc .vmem S64x1024 .f32) (h13 : M13.IsWhole) (M14 : Memref sig .tc .vmem S1x8x64x64 .f32) (h14 : M14.IsWhole) (M15 : Memref sig .tc .vmem S1x8x8x128 .f32) (h15 : M15.IsWhole) (M16 : Memref sig .tc .vmem S8x128x128 .f32) (h16 : M16.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M10 × Bf (F := F) c M11 × Bf (F := F) c M12 × Bf (F := F) c M13 × Bf (F := F) c M14 × Bf (F := F) c M15 × Bf (F := F) c M16 //
      (M10.view.read (Elt F) W.1 = bwdU (M5.view.read (Elt F) f5) (M9.view.read (Elt F) f9) (M6.view.read (Elt F) f6) (rowS (M16.view.read (Elt F) f16)) ∧ M11.view.read (Elt F) W.2.1 = bwdW (M5.view.read (Elt F) f5) (M9.view.read (Elt F) f9) (M6.view.read (Elt F) f6) (M8.view.read (Elt F) f8) (rowS (M16.view.read (Elt F) f16)) ∧ M12.view.read (Elt F) W.2.2.1 = bwdQd (M9.view.read (Elt F) f9) (M8.view.read (Elt F) f8) ∧ M13.view.read (Elt F) W.2.2.2.1 = bwdKd (M2.view.read (Elt F) f2) (M3.view.read (Elt F) f3) (M8.view.read (Elt F) f8) (rowS (M16.view.read (Elt F) f16)) ∧ M14.view.read (Elt F) W.2.2.2.2.1 = bwdQk (M2.view.read (Elt F) f2) (M3.view.read (Elt F) f3) (M9.view.read (Elt F) f9) (M8.view.read (Elt F) f8) ∧ M15.view.read (Elt F) W.2.2.2.2.2.1 = bwdG (M8.view.read (Elt F) f8) (rowS (M16.view.read (Elt F) f16)) ∧ M16.view.read (Elt F) W.2.2.2.2.2.2 = bwdS (M3.view.read (Elt F) f3) (M4.view.read (Elt F) f4) (M5.view.read (Elt F) f5) (M9.view.read (Elt F) f9) (M6.view.read (Elt F) f6) (M7.view.read (Elt F) f7) (rowS (M16.view.read (Elt F) f16)))
      ∧ ∀ (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ (iprop(pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2.1 ∗ pt c M13 W.2.2.2.1 ∗ pt c M14 W.2.2.2.2.1 ∗ pt c M15 W.2.2.2.2.2.1 ∗ pt c M16 W.2.2.2.2.2.2) -∗ Q ⟨⟩))
          ⊢ wp frame (wpE (defs₀ (F := F)) Variants.none c none) E (cc1_dn_scan_bwd i M2 h2 M3 h3 M4 h4 M5 h5 M6 h6 M7 h7 M8 h8 M9 h9 M10 h10 M11 h11 M12 h12 M13 h13 M14 h14 M15 h15 M16 h16) Q } := by
  refine ⟨(?_, ?_, ?_, ?_, ?_, ?_, ?_), ?vals, fun E Q => ?run⟩
  case run =>
    iintro ⟨H2, H3, H4, H5, H6, H7, H8, H9, H10, H11, H12, H13, H14, H15, H16, Hk⟩
    sl_unfold [cc1_dn_scan_bwd]
    sl_exec!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  case vals =>
    have e : (rowS (M16.view.read (Elt F) f16)) = bwdNextRow c i M16 f16 := funext fun r => (bwdNext_rows c i M16 f16 r).symm
    refine ⟨?_, ?_, ?_, ?_, ?_, ?_, ?_⟩
    · have key := canon_cols (Val := Elt F) (fun r => ![0, 128 * r.val]) (fun r a => by fin_cases a <;> simp <;> omega) (fun _ => rfl) (bwdUh (M5.view.read (Elt F) f5) (M9.view.read (Elt F) f9) (M6.view.read (Elt F) f6) (bwdNextRow c i M16 f16))
      dsimp only
      rw [View.read_writes_junk_eq_canon]
      refine Eq.trans (congrArg View.canon ?_) (key.trans (congrArg (fun s => bwdU (M5.view.read (Elt F) f5) (M9.view.read (Elt F) f9) (M6.view.read (Elt F) f6) s) e.symm))
      exact eight_eq rfl rfl rfl rfl rfl rfl rfl rfl
    · have key := canon_cols (Val := Elt F) (fun r => ![0, 128 * r.val]) (fun r a => by fin_cases a <;> simp <;> omega) (fun _ => rfl) (bwdWh (M5.view.read (Elt F) f5) (M9.view.read (Elt F) f9) (M6.view.read (Elt F) f6) (M8.view.read (Elt F) f8) (bwdNextRow c i M16 f16))
      dsimp only
      rw [View.read_writes_junk_eq_canon]
      refine Eq.trans (congrArg View.canon ?_) (key.trans (congrArg (fun s => bwdW (M5.view.read (Elt F) f5) (M9.view.read (Elt F) f9) (M6.view.read (Elt F) f6) (M8.view.read (Elt F) f8) s) e.symm))
      exact eight_eq rfl rfl rfl rfl rfl rfl rfl rfl
    · have key := canon_cols (Val := Elt F) (fun r => ![0, 128 * r.val]) (fun r a => by fin_cases a <;> simp <;> omega) (fun _ => rfl) (bwdQdh (M9.view.read (Elt F) f9) (M8.view.read (Elt F) f8))
      dsimp only
      rw [View.read_writes_junk_eq_canon]
      refine Eq.trans (congrArg View.canon ?_) (key.trans rfl)
      exact eight_eq rfl rfl rfl rfl rfl rfl rfl rfl
    · have key := canon_cols (Val := Elt F) (fun r => ![0, 128 * r.val]) (fun r a => by fin_cases a <;> simp <;> omega) (fun _ => rfl) (bwdKdh (M2.view.read (Elt F) f2) (M3.view.read (Elt F) f3) (M8.view.read (Elt F) f8) (bwdNextRow c i M16 f16))
      dsimp only
      rw [View.read_writes_junk_eq_canon]
      refine Eq.trans (congrArg View.canon ?_) (key.trans (congrArg (fun s => bwdKd (M2.view.read (Elt F) f2) (M3.view.read (Elt F) f3) (M8.view.read (Elt F) f8) s) e.symm))
      exact eight_eq rfl rfl rfl rfl rfl rfl rfl rfl
    · have key := canon_squares (Val := Elt F) (fun r => ![0, r.val, 0, 0]) (fun r a => by fin_cases a <;> simp <;> omega) (fun _ => rfl) (bwdQkh (M2.view.read (Elt F) f2) (M3.view.read (Elt F) f3) (M9.view.read (Elt F) f9) (M8.view.read (Elt F) f8))
      dsimp only
      rw [View.read_writes_junk_eq_canon]
      refine Eq.trans (congrArg View.canon ?_) (key.trans rfl)
      exact eight_eq rfl rfl rfl rfl rfl rfl rfl rfl
    · have key := canon_decays (Val := Elt F) (fun r => ![0, r.val, 0, 0]) (fun r a => by fin_cases a <;> simp <;> omega) (fun _ => rfl) (bwdGh (M8.view.read (Elt F) f8) (bwdNextRow c i M16 f16))
      dsimp only
      rw [View.read_writes_junk_eq_canon]
      refine Eq.trans (congrArg View.canon ?_) (key.trans (congrArg (fun s => bwdG (M8.view.read (Elt F) f8) s) e.symm))
      exact eight_eq rfl rfl rfl rfl rfl rfl rfl rfl
    · dsimp only
      refine Eq.trans (read_rows_over (v := M16.view) f16 (fun r => k1_off2 i (BitVec.ofNat 32 r.val)) (fun r => k1_off2_inb i r) (fun r => by
      rw [k1_off2_eq, show (i 1).val = 0 from by have : (i 1).val < 1 := (i 1).isLt; omega, Nat.mul_zero, Nat.zero_add]) (bwdSh (M3.view.read (Elt F) f3) (M4.view.read (Elt F) f4) (M5.view.read (Elt F) f5) (M9.view.read (Elt F) f9) (M6.view.read (Elt F) f6) (M7.view.read (Elt F) f7) (bwdNextRow c i M16 f16))
        ([]) rfl rfl rfl rfl rfl rfl rfl rfl) (congrArg (fun s => bwdS (M3.view.read (Elt F) f3) (M4.view.read (Elt F) f4) (M5.view.read (Elt F) f5) (M9.view.read (Elt F) f9) (M6.view.read (Elt F) f6) (M7.view.read (Elt F) f7) s) e.symm)

end Cert.Proof
end
-- ==== Proof.Bodies.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.FwdRun
public import proofs.«01_k».proof.Proof.BwdRun

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

local notation "𝕄" => MT nD τ sig Unit (Elt F) ℕ UU ℕ

/-- A memref owned whole at contents `X`. -/
abbrev ow (c : Dev nD) {sp : Space} {S : Shape} {e : EltTy} (M : Memref sig .tc sp S e) (X : S.Idx → Elt F e) : sProp 𝕄 :=
  owns (c : Thread nD τ) M fullShare X

/-- A whole memref owned at contents `X` is its buffer held whole at something that reads `X`. -/
theorem owns_pt (c : Dev nD) {sp : Space} {S : Shape} {e : EltTy} (M : Memref sig .tc sp S e) (h : M.IsWhole) (X : S.Idx → Elt F e) :
    (ow c M X : sProp 𝕄) = iprop(∃ f : Bf (F := F) c M, ⌜M.view.read (Elt F) f = X⌝ ∗ pt c M f) := by
  unfold ow owns
  rw [h.set_eq_univ]

/-- A square read back out of a carried state made of squares. -/
theorem rowS_rows (p : Fin 8 → Vec F S1x128x128 .f32) : rowS (rows p) = p := by
  funext r x
  show p ⟨_, _⟩ (ix3 0 _ _) = p r x
  have h0 : (x 0).val = 0 := by have : (x 0).val < 1 := (x 0).isLt; omega
  refine congr (congrArg p (Fin.ext ?_)) (funext fun a => Fin.ext ?_)
  · show r.val + 1 * (x 0).val = r.val
    omega
  · match a with
    | ⟨0, _⟩ => exact h0.symm
    | ⟨1, _⟩ => show 0 + 1 * (x 1).val = (x 1).val; omega
    | ⟨2, _⟩ => show 0 + 1 * (x 2).val = (x 2).val; omega

/-- Every square of the state of zeros is the square of zeros. -/
theorem rowS_zero : rowS (rows fun _ => (zeroRow : Vec F S1x128x128 .f32)) = fun _ => zeroRow := rowS_rows _

/-- The forward body at any point: from the blocks it is handed and the state carried to it (zeros at the first point), the output, the saved states and the state it leaves. -/
theorem fwd_body (c : Dev nD) (i : grid0.Coords) (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S64x1024 .f32) (h8 : M8.IsWhole) (M9 : Memref sig .tc .vmem S1x8x128x128 .f32) (h9 : M9.IsWhole) (M10 : Memref sig .tc .vmem S8x128x128 .f32) (h10 : M10.IsWhole)
    (X2 : Vec F S64x1024 .f32) (X3 : Vec F S64x1024 .f32) (X4 : Vec F S64x1024 .f32) (X5 : Vec F S64x1024 .f32) (X6 : Vec F S1x8x64x64 .f32) (X7 : Vec F S1x8x8x128 .f32) (S : Vec F S8x128x128 .f32) (hs : k0_cond1 i = 1#1 → S = rows fun _ => zeroRow) (E : Set ℕ) (Q : PUnit → sProp 𝕄) :
    iprop(ow c M2 X2 ∗ ow c M3 X3 ∗ ow c M4 X4 ∗ ow c M5 X5 ∗ ow c M6 X6 ∗ ow c M7 X7 ∗ (∃ d, ow c M8 d) ∗ (∃ d, ow c M9 d) ∗ (∃ d, ⌜¬ k0_cond1 i = 1#1 → d = S⌝ ∗ ow c M10 d)
      ∗ (iprop(ow c M2 X2 ∗ ow c M3 X3 ∗ ow c M4 X4 ∗ ow c M5 X5 ∗ ow c M6 X6 ∗ ow c M7 X7 ∗ ow c M8 (fwdO X2 X3 X4 X6 (rowS S)) ∗ ow c M9 (fwdSt (rowS S)) ∗ ow c M10 (fwdS X2 X3 X5 X7 (rowS S))) -∗ Q ⟨⟩))
      ⊢ wp frame (wpE (defs₀ (F := F)) Variants.none c none) E (cc0_dn_scan_fwd i M2 h2 M3 h3 M4 h4 M5 h5 M6 h6 M7 h7 M8 h8 M9 h9 M10 h10) Q := by
  rw [owns_pt c M2 h2 X2, owns_pt c M3 h3 X3, owns_pt c M4 h4 X4, owns_pt c M5 h5 X5, owns_pt c M6 h6 X6, owns_pt c M7 h7 X7]
  simp only [owns_pt c M8 h8, owns_pt c M9 h9, owns_pt c M10 h10]
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %hd, %f10, %e10, H10⟩, Hk⟩
  by_cases hi : k0_cond1 i = 1#1
  · clear hd e10
    obtain ⟨W, hW, hrun⟩ := fwdFirst c i hi M2 h2 M3 h3 M4 h4 M5 h5 M6 h6 M7 h7 M8 h8 M9 h9 M10 h10 f2 f3 f4 f5 f6 f7 f8 f9 f10
    iapply (hrun E Q)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists f2; isplitr; swap; (· iexact H2); ipureintro; exact e2
    isplitl [H3]; · iexists f3; isplitr; swap; (· iexact H3); ipureintro; exact e3
    isplitl [H4]; · iexists f4; isplitr; swap; (· iexact H4); ipureintro; exact e4
    isplitl [H5]; · iexists f5; isplitr; swap; (· iexact H5); ipureintro; exact e5
    isplitl [H6]; · iexists f6; isplitr; swap; (· iexact H6); ipureintro; exact e6
    isplitl [H7]; · iexists f7; isplitr; swap; (· iexact H7); ipureintro; exact e7
    isplitl [H8]; · iexists _; isplitr; swap; (· iexact H8); ipureintro; rw [hW.1, e2, e3, e4, e6]; rw [hs hi, rowS_zero]
    isplitl [H9]; · iexists _; isplitr; swap; (· iexact H9); ipureintro; rw [hW.2.1]; rw [hs hi, rowS_zero]
    iexists _; isplitr; swap; (· iexact H10); ipureintro; rw [hW.2.2, e2, e3, e5, e7]; rw [hs hi, rowS_zero]
  · clear hs
    obtain ⟨W, hW, hrun⟩ := fwdNext c i hi M2 h2 M3 h3 M4 h4 M5 h5 M6 h6 M7 h7 M8 h8 M9 h9 M10 h10 f2 f3 f4 f5 f6 f7 f8 f9 f10
    iapply (hrun E Q)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iintro ⟨H2, H3, H4, H5, H6, H7, H8, H9, H10⟩
    iapply Hk
    isplitl [H2]; · iexists f2; isplitr; swap; (· iexact H2); ipureintro; exact e2
    isplitl [H3]; · iexists f3; isplitr; swap; (· iexact H3); ipureintro; exact e3
    isplitl [H4]; · iexists f4; isplitr; swap; (· iexact H4); ipureintro; exact e4
    isplitl [H5]; · iexists f5; isplitr; swap; (· iexact H5); ipureintro; exact e5
    isplitl [H6]; · iexists f6; isplitr; swap; (· iexact H6); ipureintro; exact e6
    isplitl [H7]; · iexists f7; isplitr; swap; (· iexact H7); ipureintro; exact e7
    isplitl [H8]; · iexists _; isplitr; swap; (· iexact H8); ipureintro; rw [hW.1, e2, e3, e4, e6]; rw [e10, hd hi]
    isplitl [H9]; · iexists _; isplitr; swap; (· iexact H9); ipureintro; rw [hW.2.1]; rw [e10, hd hi]
    iexists _; isplitr; swap; (· iexact H10); ipureintro; rw [hW.2.2, e2, e3, e5, e7]; rw [e10, hd hi]

/-- The backward body at any point: from the blocks it is handed and the gradient of the state carried to it (zeros at the first point), the six gradients and the gradient it leaves. -/
theorem bwd_body (c : Dev nD) (i : grid1.Coords) (M2 : Memref sig .tc .vmem S64x1024 .f32) (h2 : M2.IsWhole) (M3 : Memref sig .tc .vmem S64x1024 .f32) (h3 : M3.IsWhole) (M4 : Memref sig .tc .vmem S64x1024 .f32) (h4 : M4.IsWhole) (M5 : Memref sig .tc .vmem S64x1024 .f32) (h5 : M5.IsWhole) (M6 : Memref sig .tc .vmem S1x8x64x64 .f32) (h6 : M6.IsWhole) (M7 : Memref sig .tc .vmem S1x8x8x128 .f32) (h7 : M7.IsWhole) (M8 : Memref sig .tc .vmem S1x8x128x128 .f32) (h8 : M8.IsWhole) (M9 : Memref sig .tc .vmem S64x1024 .f32) (h9 : M9.IsWhole) (M10 : Memref sig .tc .vmem S64x1024 .f32) (h10 : M10.IsWhole) (M11 : Memref sig .tc .vmem S64x1024 .f32) (h11 : M11.IsWhole) (M12 : Memref sig .tc .vmem S64x1024 .f32) (h12 : M12.IsWhole) (M13 : Memref sig .tc .vmem S64x1024 .f32) (h13 : M13.IsWhole) (M14 : Memref sig .tc .vmem S1x8x64x64 .f32) (h14 : M14.IsWhole) (M15 : Memref sig .tc .vmem S1x8x8x128 .f32) (h15 : M15.IsWhole) (M16 : Memref sig .tc .vmem S8x128x128 .f32) (h16 : M16.IsWhole)
    (X2 : Vec F S64x1024 .f32) (X3 : Vec F S64x1024 .f32) (X4 : Vec F S64x1024 .f32) (X5 : Vec F S64x1024 .f32) (X6 : Vec F S1x8x64x64 .f32) (X7 : Vec F S1x8x8x128 .f32) (X8 : Vec F S1x8x128x128 .f32) (X9 : Vec F S64x1024 .f32) (S : Vec F S8x128x128 .f32) (hs : k1_cond1 i = 1#1 → S = rows fun _ => zeroRow) (E : Set ℕ) (Q : PUnit → sProp 𝕄) :
    iprop(ow c M2 X2 ∗ ow c M3 X3 ∗ ow c M4 X4 ∗ ow c M5 X5 ∗ ow c M6 X6 ∗ ow c M7 X7 ∗ ow c M8 X8 ∗ ow c M9 X9 ∗ (∃ d, ow c M10 d) ∗ (∃ d, ow c M11 d) ∗ (∃ d, ow c M12 d) ∗ (∃ d, ow c M13 d) ∗ (∃ d, ow c M14 d) ∗ (∃ d, ow c M15 d) ∗ (∃ d, ⌜¬ k1_cond1 i = 1#1 → d = S⌝ ∗ ow c M16 d)
      ∗ (iprop(ow c M2 X2 ∗ ow c M3 X3 ∗ ow c M4 X4 ∗ ow c M5 X5 ∗ ow c M6 X6 ∗ ow c M7 X7 ∗ ow c M8 X8 ∗ ow c M9 X9 ∗ ow c M10 (bwdU X5 X9 X6 (rowS S)) ∗ ow c M11 (bwdW X5 X9 X6 X8 (rowS S)) ∗ ow c M12 (bwdQd X9 X8) ∗ ow c M13 (bwdKd X2 X3 X8 (rowS S)) ∗ ow c M14 (bwdQk X2 X3 X9 X8) ∗ ow c M15 (bwdG X8 (rowS S)) ∗ ow c M16 (bwdS X3 X4 X5 X9 X6 X7 (rowS S))) -∗ Q ⟨⟩))
      ⊢ wp frame (wpE (defs₀ (F := F)) Variants.none c none) E (cc1_dn_scan_bwd i M2 h2 M3 h3 M4 h4 M5 h5 M6 h6 M7 h7 M8 h8 M9 h9 M10 h10 M11 h11 M12 h12 M13 h13 M14 h14 M15 h15 M16 h16) Q := by
  rw [owns_pt c M2 h2 X2, owns_pt c M3 h3 X3, owns_pt c M4 h4 X4, owns_pt c M5 h5 X5, owns_pt c M6 h6 X6, owns_pt c M7 h7 X7, owns_pt c M8 h8 X8, owns_pt c M9 h9 X9]
  simp only [owns_pt c M10 h10, owns_pt c M11 h11, owns_pt c M12 h12, owns_pt c M13 h13, owns_pt c M14 h14, owns_pt c M15 h15, owns_pt c M16 h16]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %hd, %f16, %e16, H16⟩, Hk⟩
  by_cases hi : k1_cond1 i = 1#1
  · clear hd e16
    obtain ⟨W, hW, hrun⟩ := bwdFirst c i hi M2 h2 M3 h3 M4 h4 M5 h5 M6 h6 M7 h7 M8 h8 M9 h9 M10 h10 M11 h11 M12 h12 M13 h13 M14 h14 M15 h15 M16 h16 f2 f3 f4 f5 f6 f7 f8 f9 f10 f11 f12 f13 f14 f15 f16
    iapply (hrun E Q)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H2, H3, H4, H5, H6, H7, H8, H9, H10, H11, H12, H13, H14, H15, H16⟩
    iapply Hk
    isplitl [H2]; · iexists f2; isplitr; swap; (· iexact H2); ipureintro; exact e2
    isplitl [H3]; · iexists f3; isplitr; swap; (· iexact H3); ipureintro; exact e3
    isplitl [H4]; · iexists f4; isplitr; swap; (· iexact H4); ipureintro; exact e4
    isplitl [H5]; · iexists f5; isplitr; swap; (· iexact H5); ipureintro; exact e5
    isplitl [H6]; · iexists f6; isplitr; swap; (· iexact H6); ipureintro; exact e6
    isplitl [H7]; · iexists f7; isplitr; swap; (· iexact H7); ipureintro; exact e7
    isplitl [H8]; · iexists f8; isplitr; swap; (· iexact H8); ipureintro; exact e8
    isplitl [H9]; · iexists f9; isplitr; swap; (· iexact H9); ipureintro; exact e9
    isplitl [H10]; · iexists _; isplitr; swap; (· iexact H10); ipureintro; rw [hW.1, e5, e6, e9]; rw [hs hi, rowS_zero]
    isplitl [H11]; · iexists _; isplitr; swap; (· iexact H11); ipureintro; rw [hW.2.1, e5, e6, e8, e9]; rw [hs hi, rowS_zero]
    isplitl [H12]; · iexists _; isplitr; swap; (· iexact H12); ipureintro; rw [hW.2.2.1, e8, e9]
    isplitl [H13]; · iexists _; isplitr; swap; (· iexact H13); ipureintro; rw [hW.2.2.2.1, e2, e3, e8]; rw [hs hi, rowS_zero]
    isplitl [H14]; · iexists _; isplitr; swap; (· iexact H14); ipureintro; rw [hW.2.2.2.2.1, e2, e3, e8, e9]
    isplitl [H15]; · iexists _; isplitr; swap; (· iexact H15); ipureintro; rw [hW.2.2.2.2.2.1, e8]; rw [hs hi, rowS_zero]
    iexists _; isplitr; swap; (· iexact H16); ipureintro; rw [hW.2.2.2.2.2.2, e3, e4, e5, e6, e7, e9]; rw [hs hi, rowS_zero]
  · clear hs
    obtain ⟨W, hW, hrun⟩ := bwdNext c i hi M2 h2 M3 h3 M4 h4 M5 h5 M6 h6 M7 h7 M8 h8 M9 h9 M10 h10 M11 h11 M12 h12 M13 h13 M14 h14 M15 h15 M16 h16 f2 f3 f4 f5 f6 f7 f8 f9 f10 f11 f12 f13 f14 f15 f16
    iapply (hrun E Q)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iintro ⟨H2, H3, H4, H5, H6, H7, H8, H9, H10, H11, H12, H13, H14, H15, H16⟩
    iapply Hk
    isplitl [H2]; · iexists f2; isplitr; swap; (· iexact H2); ipureintro; exact e2
    isplitl [H3]; · iexists f3; isplitr; swap; (· iexact H3); ipureintro; exact e3
    isplitl [H4]; · iexists f4; isplitr; swap; (· iexact H4); ipureintro; exact e4
    isplitl [H5]; · iexists f5; isplitr; swap; (· iexact H5); ipureintro; exact e5
    isplitl [H6]; · iexists f6; isplitr; swap; (· iexact H6); ipureintro; exact e6
    isplitl [H7]; · iexists f7; isplitr; swap; (· iexact H7); ipureintro; exact e7
    isplitl [H8]; · iexists f8; isplitr; swap; (· iexact H8); ipureintro; exact e8
    isplitl [H9]; · iexists f9; isplitr; swap; (· iexact H9); ipureintro; exact e9
    isplitl [H10]; · iexists _; isplitr; swap; (· iexact H10); ipureintro; rw [hW.1, e5, e6, e9]; rw [e16, hd hi]
    isplitl [H11]; · iexists _; isplitr; swap; (· iexact H11); ipureintro; rw [hW.2.1, e5, e6, e8, e9]; rw [e16, hd hi]
    isplitl [H12]; · iexists _; isplitr; swap; (· iexact H12); ipureintro; rw [hW.2.2.1, e8, e9]
    isplitl [H13]; · iexists _; isplitr; swap; (· iexact H13); ipureintro; rw [hW.2.2.2.1, e2, e3, e8]; rw [e16, hd hi]
    isplitl [H14]; · iexists _; isplitr; swap; (· iexact H14); ipureintro; rw [hW.2.2.2.2.1, e2, e3, e8, e9]
    isplitl [H15]; · iexists _; isplitr; swap; (· iexact H15); ipureintro; rw [hW.2.2.2.2.2.1, e8]; rw [e16, hd hi]
    iexists _; isplitr; swap; (· iexact H16); ipureintro; rw [hW.2.2.2.2.2.2, e3, e4, e5, e6, e7, e9]; rw [e16, hd hi]

end Cert.Proof
end
-- ==== Proof.Points.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Bodies

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Region 0: the forward scan -/

namespace R0

variable (V : (c : Dev nD) → (b : Ref sig .tc) → Buf (Elt F) ((c : Thread nD τ).loc b))

/-- The block of `u` at a point. -/
abbrev u (c : Dev nD) (t : Fin cfg0.N) : Vec F S64x1024 .f32 := ((cfg0.win 0).blk t).view.read (Elt F) (V c main_arg0)
/-- The block of `w` at a point. -/
abbrev w (c : Dev nD) (t : Fin cfg0.N) : Vec F S64x1024 .f32 := ((cfg0.win 1).blk t).view.read (Elt F) (V c main_arg1)
/-- The block of `qd` at a point. -/
abbrev qd (c : Dev nD) (t : Fin cfg0.N) : Vec F S64x1024 .f32 := ((cfg0.win 2).blk t).view.read (Elt F) (V c main_arg2)
/-- The block of `kd` at a point. -/
abbrev kd (c : Dev nD) (t : Fin cfg0.N) : Vec F S64x1024 .f32 := ((cfg0.win 3).blk t).view.read (Elt F) (V c main_arg3)
/-- The block of `qk` at a point. -/
abbrev qk (c : Dev nD) (t : Fin cfg0.N) : Vec F S1x8x64x64 .f32 := ((cfg0.win 4).blk t).view.read (Elt F) (V c main_arg4)
/-- The block of the decays at a point. -/
abbrev g (c : Dev nD) (t : Fin cfg0.N) : Vec F S1x8x8x128 .f32 := ((cfg0.win 5).blk t).view.read (Elt F) (V c main_v1)

/-- What is carried to a point: zeros to the first, then what the point before leaves. -/
def carry (c : Dev nD) : ℕ → Vec F S8x128x128 .f32
  | 0 => rows fun _ => zeroRow
  | n + 1 => if h : n < cfg0.N then fwdS (u V c ⟨n, h⟩) (w V c ⟨n, h⟩) (kd V c ⟨n, h⟩) (g V c ⟨n, h⟩) (rowS (carry c n)) else carry c n

/-- One step of what is carried. -/
theorem carry_succ (c : Dev nD) (t : Fin cfg0.N) : carry V c (t.val + 1) = fwdS (u V c t) (w V c t) (kd V c t) (g V c t) (rowS (carry V c t.val)) := by
  rw [carry, dif_pos t.isLt]

/-- The body's condition holds at the first point only. -/
theorem first_iff : ∀ t : Fin grid0.N, k0_cond1 (grid0.coords t) = 1#1 ↔ t.val = 0 := by decide +kernel

/-- What rides along between the points: the scratch, holding what is carried to the point, beside every other scoped buffer. -/
def inv (c : Dev nD) (n : ℕ) : sProp 𝕄 :=
  iprop((∃ d, ⌜n ≠ 0 → d = carry V c n⌝ ∗ ow c (Memref.whole cc0_scratch0) d)
    ∗ Pipeline.scopedRestBut (Ix := Unit) (Name := ℕ) (U := UU) (Lvl := ℕ) (Val := Elt F) spec0 c [cc0_scratch0])

/-- The region's proof data from the contents `V`: each input's staging buffer is left as fetched, each output's at the block the body computes. -/
def dat (c : Dev nD) : Dat τ (Elt F) Unit ℕ UU ℕ cfg0 c where
  A j := V c (Pipeline.arrRef spec0 j)
  after j t := match j with
    | ⟨0, _⟩ => u V c t
    | ⟨1, _⟩ => w V c t
    | ⟨2, _⟩ => qd V c t
    | ⟨3, _⟩ => kd V c t
    | ⟨4, _⟩ => qk V c t
    | ⟨5, _⟩ => g V c t
    | ⟨6, _⟩ => fwdO (u V c t) (w V c t) (qd V c t) (qk V c t) (rowS (carry V c t.val))
    | ⟨7, _⟩ => fwdSt (rowS (carry V c t.val))
  Φ n := inv V c n.val
  q _ := fullShare
  owed _ := 0

/-- Window 0's buffer holds its block when the body runs. -/
theorem before_0 (c : Dev nD) (t : Fin cfg0.N) (e : (cfg0.win 0).block.Idx → Elt F (cfg0.win 0).elt) : (dat V c).before 0 t e = u V c t := by
  rw [(dat V c).before_fetched 0 t (fetch0_0 t)]; rfl
/-- Window 1's buffer holds its block when the body runs. -/
theorem before_1 (c : Dev nD) (t : Fin cfg0.N) (e : (cfg0.win 1).block.Idx → Elt F (cfg0.win 1).elt) : (dat V c).before 1 t e = w V c t := by
  rw [(dat V c).before_fetched 1 t (fetch0_1 t)]; rfl
/-- Window 2's buffer holds its block when the body runs. -/
theorem before_2 (c : Dev nD) (t : Fin cfg0.N) (e : (cfg0.win 2).block.Idx → Elt F (cfg0.win 2).elt) : (dat V c).before 2 t e = qd V c t := by
  rw [(dat V c).before_fetched 2 t (fetch0_2 t)]; rfl
/-- Window 3's buffer holds its block when the body runs. -/
theorem before_3 (c : Dev nD) (t : Fin cfg0.N) (e : (cfg0.win 3).block.Idx → Elt F (cfg0.win 3).elt) : (dat V c).before 3 t e = kd V c t := by
  rw [(dat V c).before_fetched 3 t (fetch0_3 t)]; rfl
/-- Window 4's buffer holds its block when the body runs. -/
theorem before_4 (c : Dev nD) (t : Fin cfg0.N) (e : (cfg0.win 4).block.Idx → Elt F (cfg0.win 4).elt) : (dat V c).before 4 t e = qk V c t := by
  rw [(dat V c).before_fetched 4 t (fetch0_4 t)]; rfl
/-- Window 5's buffer holds its block when the body runs. -/
theorem before_5 (c : Dev nD) (t : Fin cfg0.N) (e : (cfg0.win 5).block.Idx → Elt F (cfg0.win 5).elt) : (dat V c).before 5 t e = g V c t := by
  rw [(dat V c).before_fetched 5 t (fetch0_5 t)]; rfl

set_option maxHeartbeats 1000000 in
/-- The body at every point meets the region's proof data. -/
theorem body_obligation (c : Dev nD) : BodyObligation (dat V c) (defs₀ (F := F)) Variants.none () Set.univ := fun t => by
  rw [bigSep_W0, bigSep_W0]
  simp only [before_0, before_1, before_2, before_3, before_4, before_5]
  rw [show (dat V c).Φ t.castSucc = inv V c t.val from rfl, show (dat V c).Φ t.succ = inv V c (t.val + 1) from rfl,
    show (dat V c).owesAt () t.succ = (dat V c).owesAt () t.castSucc from rfl]
  unfold inv
  have hf := first_iff t
  iintro ⟨⟨⟨%ds, %hd, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩⟩
  iapply (fwd_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _)
    (u V c t) (w V c t) (qd V c t) (kd V c t) (qk V c t) (g V c t) (carry V c t.val) (fun h => by rw [hf.mp h]; rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]
  · iexists ds
    isplitr; swap; (· iexact HS)
    ipureintro
    exact fun h => hd fun h0 => h (hf.mpr h0)
  iintro ⟨H0, H1, H2, H3, H4, H5, H6, H7, HS⟩
  isplitl [HS Hrest]
  · isplitl [HS]
    · iexists _
      isplitr; swap; (· iexact HS)
      ipureintro
      exact fun _ => (carry_succ V c t).symm
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end R0

namespace R0
variable (V : (c : Dev nD) → (b : Ref sig .tc) → Buf (Elt F) ((c : Thread nD τ).loc b))

/-- The scoped buffers the region does not stage make what rides along at the first point. -/
theorem inv_open (c : Dev nD) : (Pipeline.scopedRest (Ix := Unit) (Name := ℕ) (U := UU) (Lvl := ℕ) (Val := Elt F) spec0 c : sProp 𝕄) ⊢ inv V c 0 := by
  rw [scopedRest0_split]
  unfold inv ow
  simp only [owns_whole_eq]
  iintro ⟨⟨%f, H⟩, Hr⟩
  isplitl [H]
  · iexists f
    isplitr; · ipureintro; exact fun h => absurd rfl h
    iexists f
    isplitr; · ipureintro; rfl
    iexact H
  iexact Hr

/-- What rides along gives the scoped buffers back. -/
theorem inv_close (c : Dev nD) (n : ℕ) : inv V c n ⊢ (Pipeline.scopedRest (Ix := Unit) (Name := ℕ) (U := UU) (Lvl := ℕ) (Val := Elt F) spec0 c : sProp 𝕄) := by
  rw [scopedRest0_split]
  unfold inv ow
  simp only [owns_whole_eq]
  iintro ⟨⟨%d, -, %f, -, H⟩, Hr⟩
  isplitl [H]
  · iexists f
    iexact H
  iexact Hr

end R0

/-! ## Region 1: the backward scan -/

namespace R1

variable (V : (c : Dev nD) → (b : Ref sig .tc) → Buf (Elt F) ((c : Thread nD τ).loc b))

/-- The block of `u` at a point. -/
abbrev u (c : Dev nD) (t : Fin cfg1.N) : Vec F S64x1024 .f32 := ((cfg1.win 0).blk t).view.read (Elt F) (V c main_arg0)
/-- The block of `w` at a point. -/
abbrev w (c : Dev nD) (t : Fin cfg1.N) : Vec F S64x1024 .f32 := ((cfg1.win 1).blk t).view.read (Elt F) (V c main_arg1)
/-- The block of `qd` at a point. -/
abbrev qd (c : Dev nD) (t : Fin cfg1.N) : Vec F S64x1024 .f32 := ((cfg1.win 2).blk t).view.read (Elt F) (V c main_arg2)
/-- The block of `kd` at a point. -/
abbrev kd (c : Dev nD) (t : Fin cfg1.N) : Vec F S64x1024 .f32 := ((cfg1.win 3).blk t).view.read (Elt F) (V c main_arg3)
/-- The block of `qk` at a point. -/
abbrev qk (c : Dev nD) (t : Fin cfg1.N) : Vec F S1x8x64x64 .f32 := ((cfg1.win 4).blk t).view.read (Elt F) (V c main_arg4)
/-- The block of the decays at a point. -/
abbrev g (c : Dev nD) (t : Fin cfg1.N) : Vec F S1x8x8x128 .f32 := ((cfg1.win 5).blk t).view.read (Elt F) (V c main_v1)
/-- The block of saved states at a point. -/
abbrev st (c : Dev nD) (t : Fin cfg1.N) : Vec F S1x8x128x128 .f32 := ((cfg1.win 6).blk t).view.read (Elt F) (V c main_v2_1)
/-- The block of the output's gradient at a point. -/
abbrev d (c : Dev nD) (t : Fin cfg1.N) : Vec F S64x1024 .f32 := ((cfg1.win 7).blk t).view.read (Elt F) (V c main_arg6)

/-- What is carried to a point: zeros to the first, then what the point before leaves. -/
def carry (c : Dev nD) : ℕ → Vec F S8x128x128 .f32
  | 0 => rows fun _ => zeroRow
  | n + 1 => if h : n < cfg1.N then bwdS (w V c ⟨n, h⟩) (qd V c ⟨n, h⟩) (kd V c ⟨n, h⟩) (d V c ⟨n, h⟩) (qk V c ⟨n, h⟩) (g V c ⟨n, h⟩) (rowS (carry c n)) else carry c n

/-- One step of what is carried. -/
theorem carry_succ (c : Dev nD) (t : Fin cfg1.N) : carry V c (t.val + 1) = bwdS (w V c t) (qd V c t) (kd V c t) (d V c t) (qk V c t) (g V c t) (rowS (carry V c t.val)) := by
  rw [carry, dif_pos t.isLt]

/-- The body's condition holds at the first point only. -/
theorem first_iff : ∀ t : Fin grid1.N, k1_cond1 (grid1.coords t) = 1#1 ↔ t.val = 0 := by decide +kernel

/-- What rides along between the points: the scratch, holding what is carried to the point, beside every other scoped buffer. -/
def inv (c : Dev nD) (n : ℕ) : sProp 𝕄 :=
  iprop((∃ d, ⌜n ≠ 0 → d = carry V c n⌝ ∗ ow c (Memref.whole cc1_scratch0) d)
    ∗ Pipeline.scopedRestBut (Ix := Unit) (Name := ℕ) (U := UU) (Lvl := ℕ) (Val := Elt F) spec1 c [cc1_scratch0])

/-- The region's proof data from the contents `V`: each input's staging buffer is left as fetched, each output's at the block the body computes. -/
def dat (c : Dev nD) : Dat τ (Elt F) Unit ℕ UU ℕ cfg1 c where
  A j := V c (Pipeline.arrRef spec1 j)
  after j t := match j with
    | ⟨0, _⟩ => u V c t
    | ⟨1, _⟩ => w V c t
    | ⟨2, _⟩ => qd V c t
    | ⟨3, _⟩ => kd V c t
    | ⟨4, _⟩ => qk V c t
    | ⟨5, _⟩ => g V c t
    | ⟨6, _⟩ => st V c t
    | ⟨7, _⟩ => d V c t
    | ⟨8, _⟩ => bwdU (kd V c t) (d V c t) (qk V c t) (rowS (carry V c t.val))
    | ⟨9, _⟩ => bwdW (kd V c t) (d V c t) (qk V c t) (st V c t) (rowS (carry V c t.val))
    | ⟨10, _⟩ => bwdQd (d V c t) (st V c t)
    | ⟨11, _⟩ => bwdKd (u V c t) (w V c t) (st V c t) (rowS (carry V c t.val))
    | ⟨12, _⟩ => bwdQk (u V c t) (w V c t) (d V c t) (st V c t)
    | ⟨13, _⟩ => bwdG (st V c t) (rowS (carry V c t.val))
  Φ n := inv V c n.val
  q _ := fullShare
  owed _ := 0

/-- Window 0's buffer holds its block when the body runs. -/
theorem before_0 (c : Dev nD) (t : Fin cfg1.N) (e : (cfg1.win 0).block.Idx → Elt F (cfg1.win 0).elt) : (dat V c).before 0 t e = u V c t := by
  rw [(dat V c).before_fetched 0 t (fetch1_0 t)]; rfl
/-- Window 1's buffer holds its block when the body runs. -/
theorem before_1 (c : Dev nD) (t : Fin cfg1.N) (e : (cfg1.win 1).block.Idx → Elt F (cfg1.win 1).elt) : (dat V c).before 1 t e = w V c t := by
  rw [(dat V c).before_fetched 1 t (fetch1_1 t)]; rfl
/-- Window 2's buffer holds its block when the body runs. -/
theorem before_2 (c : Dev nD) (t : Fin cfg1.N) (e : (cfg1.win 2).block.Idx → Elt F (cfg1.win 2).elt) : (dat V c).before 2 t e = qd V c t := by
  rw [(dat V c).before_fetched 2 t (fetch1_2 t)]; rfl
/-- Window 3's buffer holds its block when the body runs. -/
theorem before_3 (c : Dev nD) (t : Fin cfg1.N) (e : (cfg1.win 3).block.Idx → Elt F (cfg1.win 3).elt) : (dat V c).before 3 t e = kd V c t := by
  rw [(dat V c).before_fetched 3 t (fetch1_3 t)]; rfl
/-- Window 4's buffer holds its block when the body runs. -/
theorem before_4 (c : Dev nD) (t : Fin cfg1.N) (e : (cfg1.win 4).block.Idx → Elt F (cfg1.win 4).elt) : (dat V c).before 4 t e = qk V c t := by
  rw [(dat V c).before_fetched 4 t (fetch1_4 t)]; rfl
/-- Window 5's buffer holds its block when the body runs. -/
theorem before_5 (c : Dev nD) (t : Fin cfg1.N) (e : (cfg1.win 5).block.Idx → Elt F (cfg1.win 5).elt) : (dat V c).before 5 t e = g V c t := by
  rw [(dat V c).before_fetched 5 t (fetch1_5 t)]; rfl
/-- Window 6's buffer holds its block when the body runs. -/
theorem before_6 (c : Dev nD) (t : Fin cfg1.N) (e : (cfg1.win 6).block.Idx → Elt F (cfg1.win 6).elt) : (dat V c).before 6 t e = st V c t := by
  rw [(dat V c).before_fetched 6 t (fetch1_6 t)]; rfl
/-- Window 7's buffer holds its block when the body runs. -/
theorem before_7 (c : Dev nD) (t : Fin cfg1.N) (e : (cfg1.win 7).block.Idx → Elt F (cfg1.win 7).elt) : (dat V c).before 7 t e = d V c t := by
  rw [(dat V c).before_fetched 7 t (fetch1_7 t)]; rfl

set_option maxHeartbeats 1000000 in
/-- The body at every point meets the region's proof data. -/
theorem body_obligation (c : Dev nD) : BodyObligation (dat V c) (defs₀ (F := F)) Variants.none () Set.univ := fun t => by
  rw [bigSep_W1, bigSep_W1]
  simp only [before_0, before_1, before_2, before_3, before_4, before_5, before_6, before_7]
  rw [show (dat V c).Φ t.castSucc = inv V c t.val from rfl, show (dat V c).Φ t.succ = inv V c (t.val + 1) from rfl,
    show (dat V c).owesAt () t.succ = (dat V c).owesAt () t.castSucc from rfl]
  unfold inv
  have hf := first_iff t
  iintro ⟨⟨⟨%ds, %hd, HS⟩, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bwd_body c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _)
    (u V c t) (w V c t) (qd V c t) (kd V c t) (qk V c t) (g V c t) (st V c t) (d V c t) (carry V c t.val) (fun h => by rw [hf.mp h]; rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [HS]
  · iexists ds
    isplitr; swap; (· iexact HS)
    ipureintro
    exact fun h => hd fun h0 => h (hf.mpr h0)
  iintro ⟨H0, H1, H2, H3, H4, H5, H6, H7, H8, H9, H10, H11, H12, H13, HS⟩
  isplitl [HS Hrest]
  · isplitl [HS]
    · iexists _
      isplitr; swap; (· iexact HS)
      ipureintro
      exact fun _ => (carry_succ V c t).symm
    · iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end R1

namespace R1
variable (V : (c : Dev nD) → (b : Ref sig .tc) → Buf (Elt F) ((c : Thread nD τ).loc b))

/-- The scoped buffers the region does not stage, its scratch apart. -/
theorem scopedRest1_split' (c : Dev nD) :
    (Pipeline.scopedRest (Ix := Unit) (Name := ℕ) (U := UU) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UU) (Lvl := ℕ) (Val := Elt F) spec1 c [cc1_scratch0]) :=
  Pipeline.scopedRest_split_of_list spec1 c [cc1_scratch0] (by decide) (by decide)

/-- The scoped buffers the region does not stage make what rides along at the first point. -/
theorem inv_open (c : Dev nD) : (Pipeline.scopedRest (Ix := Unit) (Name := ℕ) (U := UU) (Lvl := ℕ) (Val := Elt F) spec1 c : sProp 𝕄) ⊢ inv V c 0 := by
  rw [scopedRest1_split']
  unfold inv ow
  simp only [owns_whole_eq]
  iintro ⟨⟨%f, H⟩, Hr⟩
  isplitl [H]
  · iexists f
    isplitr; · ipureintro; exact fun h => absurd rfl h
    iexists f
    isplitr; · ipureintro; rfl
    iexact H
  iexact Hr

/-- What rides along gives the scoped buffers back. -/
theorem inv_close (c : Dev nD) (n : ℕ) : inv V c n ⊢ (Pipeline.scopedRest (Ix := Unit) (Name := ℕ) (U := UU) (Lvl := ℕ) (Val := Elt F) spec1 c : sProp 𝕄) := by
  rw [scopedRest1_split']
  unfold inv ow
  simp only [owns_whole_eq]
  iintro ⟨⟨%d, -, %f, -, H⟩, Hr⟩
  isplitl [H]
  · iexists f
    iexact H
  iexact Hr

end R1

end Cert.Proof
end
-- ==== Proof.Regs.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Points
public import proofs.«01_k».proof.Proof.Gen.KernelIdeal.Regions
public import Idealize.ShloMosaic.Lib.Pipeline.RegionsLoop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- No core owes another anything: no level is assigned. -/
abbrev L : GSem nD τ sig → Finset Unit := fun _ => ∅
/-- The level of every cell. -/
abbrev lv : GSem nD τ sig → Unit → ℕ := fun _ _ => 0

variable (Va Vb : (c : Dev nD) → (b : Ref sig .tc) → Buf (Elt F) ((c : Thread nD τ).loc b))

/-- The two regions' proof data, the forward one entered at `Va`, the backward one at `Vb`. -/
def pdats : (p : Fin 2) → (c : Dev nD) → Dat τ (Elt F) Unit ℕ UU ℕ (Pipeline.pin (pcfgs (F := F)) adm p) c
  | ⟨0, _⟩ => fun c => R0.dat Va c
  | ⟨1, _⟩ => fun c => R1.dat Vb c

section
variable (Vp : (c : Dev nD) → (b : Ref sig .tc) → Buf (Elt F) ((c : Thread nD τ).loc b))

set_option backward.isDefEq.respectTransparency.types false in
/-- Region 0 over the whole thread state: entered with every unscoped buffer at the entry contents, left with its outputs' arrays at what the pipeline wrote back. -/
def reg0 (R : Dev nD → sProp 𝕄)
    (h6 : ∀ c, Vp c main_v2_0 = (R0.dat Va c).arrAt 6 cfg0.N)
    (h7 : ∀ c, Vp c main_v2_1 = (R0.dat Va c).arrAt 7 cfg0.N)
    (hne : ∀ c (b : Ref sig .tc), b ≠ main_v2_0 → b ≠ main_v2_1 → Vp c b = Va c b) : Pipeline.RegionSeg (pcfgs (F := F)) adm (pdats Va Vb) () defs₀ Variants.none L lv 0 where
  win := launch0.win.to₀
  block_pos := launch0.block_pos
  stage_whole := launch0.stage_whole
  K := PEmpty
  osem k := k.elim
  ho := Pipeline.OwnSemFacts.none _
  hbody c := (R0.body_obligation Va c).loose
  hwaits := Pipeline.hwaits_of_owed_zero _ _ _ _ L lv 0 fun _ _ => rfl
  pre c := iprop(unscopedBufs c (Va c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec0 c (Va c) ∗ R c)
  hentry c := by
    rw [Pipeline.ownSems0_none]
    have hsplit := Pipeline.arrays_of_unscopedBufs (p := 0) (pcfgs (F := F)) adm (pdats Va Vb) launch0.win launch0.arr_whole c
      ((pdats Va Vb 0 c).share_full fun _ => rfl) (Va c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats Va Vb 0 c).Φ 0 = R0.inv Va c 0 from rfl]
    iintro ⟨-, -, Hr⟩
    iapply (R0.inv_open Va c)
    iexact Hr
  hout c := by
    rw [Pipeline.ownSems0_none, show (pdats Va Vb 0 c).Φ (Fin.last _) = R0.inv Va c cfg0.N from rfl]
    iintro Hr
    isplitr; · iempintro
    isplitr; · iempintro
    iapply (R0.inv_close Va c cfg0.N)
    iexact Hr
  hexit c := by
    have hjoin := Pipeline.unscopedBufs_of_arrays (p := 0) (pcfgs (F := F)) adm (Ix := Unit) (Name := ℕ) (U := UU) (Lvl := ℕ) launch0.win launch0.arr_whole c
      (pdats Va Vb) ((pdats Va Vb 0 c).share_full fun _ => rfl) (Va c) (Vp c) ((pdats Va Vb 0 c).arrAt · cfg0.N)
      (fun w => by
        fin_cases w
        · exact ((pdats Va Vb 0 c).arrAt_in 0 rfl _).trans (hne c main_arg0 (by decide) (by decide)).symm
        · exact ((pdats Va Vb 0 c).arrAt_in 1 rfl _).trans (hne c main_arg1 (by decide) (by decide)).symm
        · exact ((pdats Va Vb 0 c).arrAt_in 2 rfl _).trans (hne c main_arg2 (by decide) (by decide)).symm
        · exact ((pdats Va Vb 0 c).arrAt_in 3 rfl _).trans (hne c main_arg3 (by decide) (by decide)).symm
        · exact ((pdats Va Vb 0 c).arrAt_in 4 rfl _).trans (hne c main_arg4 (by decide) (by decide)).symm
        · exact ((pdats Va Vb 0 c).arrAt_in 5 rfl _).trans (hne c main_v1 (by decide) (by decide)).symm
        · exact (h6 c).symm
        · exact (h7 c).symm)
      (fun b hb => hne c b (fun h => hb (h ▸ Finset.mem_image.mpr ⟨6, Finset.mem_univ _, rfl⟩)) (fun h => hb (h ▸ Finset.mem_image.mpr ⟨7, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end

section
variable (Vp : (c : Dev nD) → (b : Ref sig .tc) → Buf (Elt F) ((c : Thread nD τ).loc b))

set_option backward.isDefEq.respectTransparency.types false in
/-- Region 1 over the whole thread state: entered with every unscoped buffer at the entry contents, left with its outputs' arrays at what the pipeline wrote back. -/
def reg1 (R : Dev nD → sProp 𝕄)
    (h8 : ∀ c, Vp c main_v3_0 = (R1.dat Vb c).arrAt 8 cfg1.N)
    (h9 : ∀ c, Vp c main_v3_1 = (R1.dat Vb c).arrAt 9 cfg1.N)
    (h10 : ∀ c, Vp c main_v3_2 = (R1.dat Vb c).arrAt 10 cfg1.N)
    (h11 : ∀ c, Vp c main_v3_3 = (R1.dat Vb c).arrAt 11 cfg1.N)
    (h12 : ∀ c, Vp c main_v3_4 = (R1.dat Vb c).arrAt 12 cfg1.N)
    (h13 : ∀ c, Vp c main_v3_5 = (R1.dat Vb c).arrAt 13 cfg1.N)
    (hne : ∀ c (b : Ref sig .tc), b ≠ main_v3_0 → b ≠ main_v3_1 → b ≠ main_v3_2 → b ≠ main_v3_3 → b ≠ main_v3_4 → b ≠ main_v3_5 → Vp c b = Vb c b) : Pipeline.RegionSeg (pcfgs (F := F)) adm (pdats Va Vb) () defs₀ Variants.none L lv 1 where
  win := launch1.win.to₀
  block_pos := launch1.block_pos
  stage_whole := launch1.stage_whole
  K := PEmpty
  osem k := k.elim
  ho := Pipeline.OwnSemFacts.none _
  hbody c := (R1.body_obligation Vb c).loose
  hwaits := Pipeline.hwaits_of_owed_zero _ _ _ _ L lv 1 fun _ _ => rfl
  pre c := iprop(unscopedBufs c (Vb c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) spec1 c (Vb c) ∗ R c)
  hentry c := by
    rw [Pipeline.ownSems0_none]
    have hsplit := Pipeline.arrays_of_unscopedBufs (p := 1) (pcfgs (F := F)) adm (pdats Va Vb) launch1.win launch1.arr_whole c
      ((pdats Va Vb 1 c).share_full fun _ => rfl) (Vb c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats Va Vb 1 c).Φ 0 = R1.inv Vb c 0 from rfl]
    iintro ⟨-, -, Hr⟩
    iapply (R1.inv_open Vb c)
    iexact Hr
  hout c := by
    rw [Pipeline.ownSems0_none, show (pdats Va Vb 1 c).Φ (Fin.last _) = R1.inv Vb c cfg1.N from rfl]
    iintro Hr
    isplitr; · iempintro
    isplitr; · iempintro
    iapply (R1.inv_close Vb c cfg1.N)
    iexact Hr
  hexit c := by
    have hjoin := Pipeline.unscopedBufs_of_arrays (p := 1) (pcfgs (F := F)) adm (Ix := Unit) (Name := ℕ) (U := UU) (Lvl := ℕ) launch1.win launch1.arr_whole c
      (pdats Va Vb) ((pdats Va Vb 1 c).share_full fun _ => rfl) (Vb c) (Vp c) ((pdats Va Vb 1 c).arrAt · cfg1.N)
      (fun w => by
        fin_cases w
        · exact ((pdats Va Vb 1 c).arrAt_in 0 rfl _).trans (hne c main_arg0 (by decide) (by decide) (by decide) (by decide) (by decide) (by decide)).symm
        · exact ((pdats Va Vb 1 c).arrAt_in 1 rfl _).trans (hne c main_arg1 (by decide) (by decide) (by decide) (by decide) (by decide) (by decide)).symm
        · exact ((pdats Va Vb 1 c).arrAt_in 2 rfl _).trans (hne c main_arg2 (by decide) (by decide) (by decide) (by decide) (by decide) (by decide)).symm
        · exact ((pdats Va Vb 1 c).arrAt_in 3 rfl _).trans (hne c main_arg3 (by decide) (by decide) (by decide) (by decide) (by decide) (by decide)).symm
        · exact ((pdats Va Vb 1 c).arrAt_in 4 rfl _).trans (hne c main_arg4 (by decide) (by decide) (by decide) (by decide) (by decide) (by decide)).symm
        · exact ((pdats Va Vb 1 c).arrAt_in 5 rfl _).trans (hne c main_v1 (by decide) (by decide) (by decide) (by decide) (by decide) (by decide)).symm
        · exact ((pdats Va Vb 1 c).arrAt_in 6 rfl _).trans (hne c main_v2_1 (by decide) (by decide) (by decide) (by decide) (by decide) (by decide)).symm
        · exact ((pdats Va Vb 1 c).arrAt_in 7 rfl _).trans (hne c main_arg6 (by decide) (by decide) (by decide) (by decide) (by decide) (by decide)).symm
        · exact (h8 c).symm
        · exact (h9 c).symm
        · exact (h10 c).symm
        · exact (h11 c).symm
        · exact (h12 c).symm
        · exact (h13 c).symm)
      (fun b hb => hne c b (fun h => hb (h ▸ Finset.mem_image.mpr ⟨8, Finset.mem_univ _, rfl⟩)) (fun h => hb (h ▸ Finset.mem_image.mpr ⟨9, Finset.mem_univ _, rfl⟩)) (fun h => hb (h ▸ Finset.mem_image.mpr ⟨10, Finset.mem_univ _, rfl⟩)) (fun h => hb (h ▸ Finset.mem_image.mpr ⟨11, Finset.mem_univ _, rfl⟩)) (fun h => hb (h ▸ Finset.mem_image.mpr ⟨12, Finset.mem_univ _, rfl⟩)) (fun h => hb (h ▸ Finset.mem_image.mpr ⟨13, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end

end Cert.Proof
end
-- ==== Proof.Run.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import proofs.«01_k».proof.Proof.Regs
public import proofs.«01_k».proof.Proof.Gen.KernelIdeal.Regions
public import Idealize.ShloMosaic.Lib.Pipeline.RegionsLoop

@[expose] public section

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The buffers of core `c` when the first region is entered: the launch's, after the host's broadcast of the decays. -/
def M1 (c : Dev nD) : Valuation τ sig (Elt F) := StableHlo.after hostOps0 fun b => m (c, b)
/-- The same, read at a reference. -/
def B1 (c : Dev nD) (b : Ref sig .tc) : Buf (Elt F) ((c : Thread nD τ).loc b) := M1 m c b
/-- After the forward region: the chunks' outputs and the states it saved are written. -/
def M2 (c : Dev nD) : Valuation τ sig (Elt F) :=
  Function.update (Function.update (M1 m c) main_v2_0 ((R0.dat (B1 m) c).arrAt 6 cfg0.N)) main_v2_1 ((R0.dat (B1 m) c).arrAt 7 cfg0.N)
/-- The same, read at a reference. -/
def B2 (c : Dev nD) (b : Ref sig .tc) : Buf (Elt F) ((c : Thread nD τ).loc b) := M2 m c b
/-- After the backward region: the six gradients are written. -/
def M3 (c : Dev nD) : Valuation τ sig (Elt F) :=
  Function.update (Function.update (Function.update (Function.update (Function.update (Function.update (M2 m c) main_v3_0 ((R1.dat (B2 m) c).arrAt 8 cfg1.N)) main_v3_1 ((R1.dat (B2 m) c).arrAt 9 cfg1.N)) main_v3_2 ((R1.dat (B2 m) c).arrAt 10 cfg1.N)) main_v3_3 ((R1.dat (B2 m) c).arrAt 11 cfg1.N)) main_v3_4 ((R1.dat (B2 m) c).arrAt 12 cfg1.N)) main_v3_5 ((R1.dat (B2 m) c).arrAt 13 cfg1.N)
/-- The same, read at a reference. -/
def B3 (c : Dev nD) (b : Ref sig .tc) : Buf (Elt F) ((c : Thread nD τ).loc b) := M3 m c b

/-- The host writes nothing but the broadcast decays. -/
theorem B1_of (c : Dev nD) (b : Ref sig .tc) (h : b ∉ hostOps0_W) : B1 m c b = m ((c : Thread nD τ).loc b) := V1_of m c b h

/-- The forward region changes its two outputs only. -/
theorem B2_of (c : Dev nD) (b : Ref sig .tc) (h0 : b ≠ main_v2_0) (h1 : b ≠ main_v2_1) : B2 m c b = B1 m c b := by
  unfold B2 M2 B1
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]

/-- The chunks' outputs after the forward region. -/
theorem B2_o (c : Dev nD) : B2 m c main_v2_0 = (R0.dat (B1 m) c).arrAt 6 cfg0.N := by
  unfold B2 M2
  rw [Function.update_of_ne (StableHlo.devRef_ne_of_ne (by decide) : (Proc.devRef .tc main_v2_0 : DevRef τ sig) ≠ Proc.devRef .tc main_v2_1), Function.update_self]

/-- The saved states after the forward region. -/
theorem B2_st (c : Dev nD) : B2 m c main_v2_1 = (R0.dat (B1 m) c).arrAt 7 cfg0.N := by
  unfold B2 M2
  rw [Function.update_self]

/-- The backward region changes its six outputs only. -/
theorem B3_of (c : Dev nD) (b : Ref sig .tc) (h0 : b ≠ main_v3_0) (h1 : b ≠ main_v3_1) (h2 : b ≠ main_v3_2) (h3 : b ≠ main_v3_3) (h4 : b ≠ main_v3_4) (h5 : b ≠ main_v3_5) : B3 m c b = B2 m c b := by
  unfold B3 M3 B2
  rw [Function.update_of_ne (StableHlo.devRef_ne_of_ne h5 : (Proc.devRef .tc b : DevRef τ sig) ≠ Proc.devRef .tc main_v3_5),
    Function.update_of_ne (StableHlo.devRef_ne_of_ne h4 : (Proc.devRef .tc b : DevRef τ sig) ≠ Proc.devRef .tc main_v3_4),
    Function.update_of_ne (StableHlo.devRef_ne_of_ne h3 : (Proc.devRef .tc b : DevRef τ sig) ≠ Proc.devRef .tc main_v3_3),
    Function.update_of_ne (StableHlo.devRef_ne_of_ne h2 : (Proc.devRef .tc b : DevRef τ sig) ≠ Proc.devRef .tc main_v3_2),
    Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]

/-- What the backward region leaves of its output 0. -/
theorem B3_0 (c : Dev nD) : B3 m c main_v3_0 = (R1.dat (B2 m) c).arrAt 8 cfg1.N := by
  unfold B3 M3
  rw [Function.update_of_ne (StableHlo.devRef_ne_of_ne (by decide) : (Proc.devRef .tc main_v3_0 : DevRef τ sig) ≠ Proc.devRef .tc main_v3_5),
    Function.update_of_ne (StableHlo.devRef_ne_of_ne (by decide) : (Proc.devRef .tc main_v3_0 : DevRef τ sig) ≠ Proc.devRef .tc main_v3_4),
    Function.update_of_ne (StableHlo.devRef_ne_of_ne (by decide) : (Proc.devRef .tc main_v3_0 : DevRef τ sig) ≠ Proc.devRef .tc main_v3_3),
    Function.update_of_ne (StableHlo.devRef_ne_of_ne (by decide) : (Proc.devRef .tc main_v3_0 : DevRef τ sig) ≠ Proc.devRef .tc main_v3_2),
    Function.update_of_ne (StableHlo.devRef_ne_of_ne (by decide) : (Proc.devRef .tc main_v3_0 : DevRef τ sig) ≠ Proc.devRef .tc main_v3_1),
    Function.update_self]

/-- What the backward region leaves of its output 1. -/
theorem B3_1 (c : Dev nD) : B3 m c main_v3_1 = (R1.dat (B2 m) c).arrAt 9 cfg1.N := by
  unfold B3 M3
  rw [Function.update_of_ne (StableHlo.devRef_ne_of_ne (by decide) : (Proc.devRef .tc main_v3_1 : DevRef τ sig) ≠ Proc.devRef .tc main_v3_5),
    Function.update_of_ne (StableHlo.devRef_ne_of_ne (by decide) : (Proc.devRef .tc main_v3_1 : DevRef τ sig) ≠ Proc.devRef .tc main_v3_4),
    Function.update_of_ne (StableHlo.devRef_ne_of_ne (by decide) : (Proc.devRef .tc main_v3_1 : DevRef τ sig) ≠ Proc.devRef .tc main_v3_3),
    Function.update_of_ne (StableHlo.devRef_ne_of_ne (by decide) : (Proc.devRef .tc main_v3_1 : DevRef τ sig) ≠ Proc.devRef .tc main_v3_2),
    Function.update_self]

/-- What the backward region leaves of its output 2. -/
theorem B3_2 (c : Dev nD) : B3 m c main_v3_2 = (R1.dat (B2 m) c).arrAt 10 cfg1.N := by
  unfold B3 M3
  rw [Function.update_of_ne (StableHlo.devRef_ne_of_ne (by decide) : (Proc.devRef .tc main_v3_2 : DevRef τ sig) ≠ Proc.devRef .tc main_v3_5),
    Function.update_of_ne (StableHlo.devRef_ne_of_ne (by decide) : (Proc.devRef .tc main_v3_2 : DevRef τ sig) ≠ Proc.devRef .tc main_v3_4),
    Function.update_of_ne (StableHlo.devRef_ne_of_ne (by decide) : (Proc.devRef .tc main_v3_2 : DevRef τ sig) ≠ Proc.devRef .tc main_v3_3),
    Function.update_self]

/-- What the backward region leaves of its output 3. -/
theorem B3_3 (c : Dev nD) : B3 m c main_v3_3 = (R1.dat (B2 m) c).arrAt 11 cfg1.N := by
  unfold B3 M3
  rw [Function.update_of_ne (StableHlo.devRef_ne_of_ne (by decide) : (Proc.devRef .tc main_v3_3 : DevRef τ sig) ≠ Proc.devRef .tc main_v3_5),
    Function.update_of_ne (StableHlo.devRef_ne_of_ne (by decide) : (Proc.devRef .tc main_v3_3 : DevRef τ sig) ≠ Proc.devRef .tc main_v3_4),
    Function.update_self]

/-- What the backward region leaves of its output 4. -/
theorem B3_4 (c : Dev nD) : B3 m c main_v3_4 = (R1.dat (B2 m) c).arrAt 12 cfg1.N := by
  unfold B3 M3
  rw [Function.update_of_ne (StableHlo.devRef_ne_of_ne (by decide) : (Proc.devRef .tc main_v3_4 : DevRef τ sig) ≠ Proc.devRef .tc main_v3_5),
    Function.update_self]

/-- What the backward region leaves of its output 5. -/
theorem B3_5 (c : Dev nD) : B3 m c main_v3_5 = (R1.dat (B2 m) c).arrAt 13 cfg1.N := by
  unfold B3 M3
  rw [Function.update_self]

/-- What rides along between the items: a core owes nothing. -/
abbrev idle (c : Dev nD) : sProp 𝕄 := iprop(emp ∗ ∃ W, owes (c : Thread nD τ) (0 : CellTallies nD τ sig Unit) W)

/-- The forward region, entered after the host's broadcast. -/
def seg1 := reg0 (B1 m) (B2 m) (B2 m) (fun _ => iprop(emp)) (B2_o m) (B2_st m) (B2_of m)
/-- The backward region, entered after the forward one. -/
def seg2 := reg1 (B1 m) (B2 m) (B3 m) (fun _ => iprop(emp)) (B3_0 m) (B3_1 m) (B3_2 m) (B3_3 m) (B3_4 m) (B3_5 m) (B3_of m)

/-- An argument is never written. -/
theorem B3_arg (c : Dev nD) (b : Ref sig .tc) (h : b ∉ hostOps0_W) (h0 : b ∉ [main_v2_0, main_v2_1, main_v3_0, main_v3_1, main_v3_2, main_v3_3, main_v3_4, main_v3_5]) : B3 m c b = m ((c : Thread nD τ).loc b) := by
  simp only [List.mem_cons, List.not_mem_nil, or_false, not_or] at h0
  obtain ⟨a, a', b0, b1, b2, b3, b4, b5⟩ := h0
  exact ((B3_of m c b b0 b1 b2 b3 b4 b5).trans (B2_of m c b a a')).trans (B1_of m c b h)

/-- A buffer's contents at the end are those of the last thread state. -/
abbrev Ends (c : Dev nD) (s : MemSt nD τ sig (Elt F)) : Prop :=
  ∀ b : Ref sig .tc, (Proc.devRef .tc b : DevRef τ sig).isScoped = false → s.mem ((c.tc : Thread nD τ).loc b) = B3 m c b

set_option backward.isDefEq.respectTransparency.types false in
/-- The whole program's run, at any reading of the floats: from zero counters every fair execution ends, each tensor value is
    what the last thread state says, and every counter is back at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats (B1 m) (B2 m)) () cellOf_inj (embL (Ix := Unit) (Name := ℕ) (Lvl := ℕ)) defs₀ Variants.none L lv m ρ main
    (segs m Variants.none L lv (fun _ c => idle c) () (pdats (B1 m) (B2 m)) (seg1 m) (seg2 m))
    (fun c Q => by
      rewrite [main_chain c, Pipeline.Seg.run_eq_chain,
        show (segs m Variants.none L lv (fun _ c => idle c) () (pdats (B1 m) (B2 m)) (seg1 m) (seg2 m) c).map Pipeline.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ idle c))
    (Tₙ := fun c => unscopedBufs c (B3 m c))
    (hch := fun c => ⟨.rfl, ?_, .rfl, ?_⟩)
    (hinit := ?_) (QY := fun c s => Ends m c s)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (V1 m c) ∗ idle c) ⊢ iprop(unscopedBufs c (B1 m c) ∗ idle c)
    rw [show unscopedBufs c (B1 m c) = StableHlo.held (c : Thread nD τ) (Pipeline.ucRefs τ sig) (V1 m c) from Pipeline.unscopedBufs_held c (V1 m c)]
  · show iprop(unscopedBufs c (B3 m c) ∗ idle c) ⊢ iprop(unscopedBufs c (B3 m c) ∗ ∃ W, owes (c : Thread nD τ) (0 : CellTallies nD τ sig Unit) W)
    exact sep_mono .rfl Laws.emp_sep.1
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitr; · iempintro
    iexists ∅; iexact HO
  · rw [show unscopedBufs c (B3 m c) = StableHlo.held (c : Thread nD τ) (Pipeline.ucRefs τ sig) (M3 m c) from Pipeline.unscopedBufs_held c (M3 m c)]
    unfold StableHlo.held
    iintro ⟨Hh, HSI⟩
    ihave Hr := (pointsTo_read_all (Pipeline.ucRefs τ sig) (fun b => ((c : Thread nD τ).1, b)) (M3 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by rw [hb]; decide⟩)
    · iexact HSI

end Cert.Proof
end
-- ==== Proof.RefOps.lean ====
/- The reference's operations as lists: the stretches before, between and after its two loops, and the stretches of a
   trip of each loop. -/
module

public import proofs.«01_k».proof.Proof.Gen.ReferenceIdeal
public import Idealize.ShloMosaic.Lib.Pipeline.RegionsLoop
public import Idealize.ShloMosaic.Lib.StableHlo.RunLoop

@[expose] public section

noncomputable section

namespace Cert.RefProof

open Cert.ReferenceIdeal Cert.ReferenceIdeal.Gen
open Idealize.ShloMosaic Idealize.ShloMosaic.TcCoe
open Idealize.SL Idealize.SL.Sem

variable {F : FTy → Type} [FloatOps F]

/-- The operations of one call of `dynamic_index_in_dim`, in order. -/
abbrev dynamic_index_in_dim_ops (arg0 : StableHlo.TRef sig ⟨S32x8x64x128, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x8x64x128 x (fun k => (i k (Shape.Idx.first h_S_)).toInt) sliceFits_S32x8x64x128_S1x8x64x128),
    StableHlo.TRef.reshape φ.v0 φ.v1 (rfl : (.f32 : EltTy) = .f32) shapeCasts_S1x8x64x128_S8x64x128 ]
/-- They touch references of the core only. -/
theorem dynamic_index_in_dim_sub (arg0 : StableHlo.TRef sig ⟨S32x8x64x128, .f32⟩) (arg1 : StableHlo.TRef sig ⟨S_, .i32⟩) (φ : fn_dynamic_index_in_dim.Bufs) : (dynamic_index_in_dim_ops (F := F) arg0 arg1 φ).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations of one call of `dynamic_index_in_dim_0`, in order. -/
abbrev dynamic_index_in_dim_0_ops (arg0 : StableHlo.TRef sig ⟨S32x8x64x64, .f32⟩) (arg1 : StableHlo.TRef sig ⟨S_, .i32⟩) (φ : fn_dynamic_index_in_dim_0.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x8x64x64 x (fun k => (i k (Shape.Idx.first h_S_)).toInt) sliceFits_S32x8x64x64_S1x8x64x64),
    StableHlo.TRef.reshape φ.v0 φ.v1 (rfl : (.f32 : EltTy) = .f32) shapeCasts_S1x8x64x64_S8x64x64 ]
/-- They touch references of the core only. -/
theorem dynamic_index_in_dim_0_sub (arg0 : StableHlo.TRef sig ⟨S32x8x64x64, .f32⟩) (arg1 : StableHlo.TRef sig ⟨S_, .i32⟩) (φ : fn_dynamic_index_in_dim_0.Bufs) : (dynamic_index_in_dim_0_ops (F := F) arg0 arg1 φ).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations of one call of `dynamic_index_in_dim_1`, in order. -/
abbrev dynamic_index_in_dim_1_ops (arg0 : StableHlo.TRef sig ⟨S32x8, .f32⟩) (arg1 : StableHlo.TRef sig ⟨S_, .i32⟩) (φ : fn_dynamic_index_in_dim_1.Bufs) : List (HloOp τ sig (Elt F)) :=
  [ StableHlo.TRef.nullary φ.c (constantI S_ 32 0#32),
    StableHlo.TRef.unaryIndexed arg0 ![arg1, φ.c] φ.v0 (fun x i => Host.dynamicSlice S1x8 x (fun k => (i k (Shape.Idx.first h_S_)).toInt) sliceFits_S32x8_S1x8),
    StableHlo.TRef.reshape φ.v0 φ.v1 (rfl : (.f32 : EltTy) = .f32) shapeCasts_S1x8_S8 ]
/-- They touch references of the core only. -/
theorem dynamic_index_in_dim_1_sub (arg0 : StableHlo.TRef sig ⟨S32x8, .f32⟩) (arg1 : StableHlo.TRef sig ⟨S_, .i32⟩) (φ : fn_dynamic_index_in_dim_1.Bufs) : (dynamic_index_in_dim_1_ops (F := F) arg0 arg1 φ).Forall fun op => op.bufs ⊆ StableHlo.tcRefs τ sig :=
  ⟨StableHlo.nullary_bufs_sub .., StableHlo.unaryIndexed_bufs_sub .., StableHlo.reshape_bufs_sub ..⟩

/-- The operations of one call of `dynamic_update_index_in_dim`, in order. -/
abbrev dynamic_update_index_in_dim_ops (arg0 : StableHlo.TRef sig ⟨S32x8x64x128, .f32⟩) (arg1 : StableHlo.TRef sig ⟨S8x64x128, .f32⟩) (arg2 : StableHlo.TRef sig ⟨S_, .i32⟩) (φ : fn_dynamic_update_index_in_dim.Bufs) : List (HloOp τ sig (Elt F)) :=
  [ StableHlo.TRef.unary arg1 φ.v0 (broadcastInDim S1x8x64x128 ![1, 2, 3] bcast_S8x64x128_S1x8x64x128_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S32x8x64x128_S1x8x64x128) ]
/-- They touch references of the core only. -/
theorem dynamic_update_index_in_dim_sub (arg0 : StableHlo.TRef sig ⟨S32x8x64x128, .f32⟩) (arg1 : StableHlo.TRef sig ⟨S8x64x128, .f32⟩) (arg2 : StableHlo.TRef sig ⟨S_, .i32⟩) (φ : fn_dynamic_update_index_in_dim.Bufs) : (dynamic_update_index_in_dim_ops (F := F) arg0 arg1 arg2 φ).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations of one call of `dynamic_update_index_in_dim_2`, in order. -/
abbrev dynamic_update_index_in_dim_2_ops (arg0 : StableHlo.TRef sig ⟨S32x8x128x128, .f32⟩) (arg1 : StableHlo.TRef sig ⟨S8x128x128, .f32⟩) (arg2 : StableHlo.TRef sig ⟨S_, .i32⟩) (φ : fn_dynamic_update_index_in_dim_2.Bufs) : List (HloOp τ sig (Elt F)) :=
  [ StableHlo.TRef.unary arg1 φ.v0 (broadcastInDim S1x8x128x128 ![1, 2, 3] bcast_S8x128x128_S1x8x128x128_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S32x8x128x128_S1x8x128x128) ]
/-- They touch references of the core only. -/
theorem dynamic_update_index_in_dim_2_sub (arg0 : StableHlo.TRef sig ⟨S32x8x128x128, .f32⟩) (arg1 : StableHlo.TRef sig ⟨S8x128x128, .f32⟩) (arg2 : StableHlo.TRef sig ⟨S_, .i32⟩) (φ : fn_dynamic_update_index_in_dim_2.Bufs) : (dynamic_update_index_in_dim_2_ops (F := F) arg0 arg1 arg2 φ).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations of one call of `dynamic_update_index_in_dim_3`, in order. -/
abbrev dynamic_update_index_in_dim_3_ops (arg0 : StableHlo.TRef sig ⟨S32x8x1x1, .f32⟩) (arg1 : StableHlo.TRef sig ⟨S8x1x1, .f32⟩) (arg2 : StableHlo.TRef sig ⟨S_, .i32⟩) (φ : fn_dynamic_update_index_in_dim_3.Bufs) : List (HloOp τ sig (Elt F)) :=
  [ StableHlo.TRef.unary arg1 φ.v0 (broadcastInDim S1x8x1x1 ![1, 2, 3] bcast_S8x1x1_S1x8x1x1_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S32x8x1x1_S1x8x1x1) ]
/-- They touch references of the core only. -/
theorem dynamic_update_index_in_dim_3_sub (arg0 : StableHlo.TRef sig ⟨S32x8x1x1, .f32⟩) (arg1 : StableHlo.TRef sig ⟨S8x1x1, .f32⟩) (arg2 : StableHlo.TRef sig ⟨S_, .i32⟩) (φ : fn_dynamic_update_index_in_dim_3.Bufs) : (dynamic_update_index_in_dim_3_ops (F := F) arg0 arg1 arg2 φ).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations of one call of `dynamic_index_in_dim_4`, in order. -/
abbrev dynamic_index_in_dim_4_ops (arg0 : StableHlo.TRef sig ⟨S32x8x128x128, .f32⟩) (arg1 : StableHlo.TRef sig ⟨S_, .i32⟩) (φ : fn_dynamic_index_in_dim_4.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x8x128x128 x (fun k => (i k (Shape.Idx.first h_S_)).toInt) sliceFits_S32x8x128x128_S1x8x128x128),
    StableHlo.TRef.reshape φ.v0 φ.v1 (rfl : (.f32 : EltTy) = .f32) shapeCasts_S1x8x128x128_S8x128x128 ]
/-- They touch references of the core only. -/
theorem dynamic_index_in_dim_4_sub (arg0 : StableHlo.TRef sig ⟨S32x8x128x128, .f32⟩) (arg1 : StableHlo.TRef sig ⟨S_, .i32⟩) (φ : fn_dynamic_index_in_dim_4.Bufs) : (dynamic_index_in_dim_4_ops (F := F) arg0 arg1 φ).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations of one call of `dynamic_index_in_dim_5`, in order. -/
abbrev dynamic_index_in_dim_5_ops (arg0 : StableHlo.TRef sig ⟨S32x8x1x1, .f32⟩) (arg1 : StableHlo.TRef sig ⟨S_, .i32⟩) (φ : fn_dynamic_index_in_dim_5.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x8x1x1 x (fun k => (i k (Shape.Idx.first h_S_)).toInt) sliceFits_S32x8x1x1_S1x8x1x1),
    StableHlo.TRef.reshape φ.v0 φ.v1 (rfl : (.f32 : EltTy) = .f32) shapeCasts_S1x8x1x1_S8x1x1 ]
/-- They touch references of the core only. -/
theorem dynamic_index_in_dim_5_sub (arg0 : StableHlo.TRef sig ⟨S32x8x1x1, .f32⟩) (arg1 : StableHlo.TRef sig ⟨S_, .i32⟩) (φ : fn_dynamic_index_in_dim_5.Bufs) : (dynamic_index_in_dim_5_ops (F := F) arg0 arg1 φ).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The operations of one call of `dynamic_update_index_in_dim_6`, in order. -/
abbrev dynamic_update_index_in_dim_6_ops (arg0 : StableHlo.TRef sig ⟨S32x8x64x64, .f32⟩) (arg1 : StableHlo.TRef sig ⟨S8x64x64, .f32⟩) (arg2 : StableHlo.TRef sig ⟨S_, .i32⟩) (φ : fn_dynamic_update_index_in_dim_6.Bufs) : List (HloOp τ sig (Elt F)) :=
  [ StableHlo.TRef.unary arg1 φ.v0 (broadcastInDim S1x8x64x64 ![1, 2, 3] bcast_S8x64x64_S1x8x64x64_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S32x8x64x64_S1x8x64x64) ]
/-- They touch references of the core only. -/
theorem dynamic_update_index_in_dim_6_sub (arg0 : StableHlo.TRef sig ⟨S32x8x64x64, .f32⟩) (arg1 : StableHlo.TRef sig ⟨S8x64x64, .f32⟩) (arg2 : StableHlo.TRef sig ⟨S_, .i32⟩) (φ : fn_dynamic_update_index_in_dim_6.Bufs) : (dynamic_update_index_in_dim_6_ops (F := F) arg0 arg1 arg2 φ).Forall fun op => op.bufs ⊆ StableHlo.tcRefs τ sig :=
  ⟨StableHlo.unary_bufs_sub .., StableHlo.nullary_bufs_sub .., StableHlo.nullary_bufs_sub .., StableHlo.nullary_bufs_sub .., StableHlo.binaryIndexed_bufs_sub ..⟩

/-- The operations of one call of `dynamic_update_index_in_dim_7`, in order. -/
abbrev dynamic_update_index_in_dim_7_ops (arg0 : StableHlo.TRef sig ⟨S32x8, .f32⟩) (arg1 : StableHlo.TRef sig ⟨S8, .f32⟩) (arg2 : StableHlo.TRef sig ⟨S_, .i32⟩) (φ : fn_dynamic_update_index_in_dim_7.Bufs) : List (HloOp τ sig (Elt F)) :=
  [ StableHlo.TRef.unary arg1 φ.v0 (broadcastInDim S1x8 ![1] bcast_S8_S1x8_1),
    StableHlo.TRef.nullary φ.c (constantI S_ 32 0#32),
    StableHlo.TRef.binaryIndexed arg0 φ.v0 ![arg2, φ.c] φ.v1 (fun x u i => Host.dynamicUpdateSlice x u (fun k => (i k (Shape.Idx.first h_S_)).toInt) updateFits_S32x8_S1x8) ]
/-- They touch references of the core only. -/
theorem dynamic_update_index_in_dim_7_sub (arg0 : StableHlo.TRef sig ⟨S32x8, .f32⟩) (arg1 : StableHlo.TRef sig ⟨S8, .f32⟩) (arg2 : StableHlo.TRef sig ⟨S_, .i32⟩) (φ : fn_dynamic_update_index_in_dim_7.Bufs) : (dynamic_update_index_in_dim_7_ops (F := F) arg0 arg1 arg2 φ).Forall fun op => op.bufs ⊆ StableHlo.tcRefs τ sig :=
  ⟨StableHlo.unary_bufs_sub .., StableHlo.nullary_bufs_sub .., StableHlo.binaryIndexed_bufs_sub ..⟩

/-- The operations of the program outside its loops, stretch 1. -/
abbrev host0 : List (HloOp τ sig (Elt F)) :=
  [ StableHlo.reshape main_arg0 main_v0 (rfl : (.f32 : EltTy) = .f32) shapeCasts_S2048x1024_S32x64x8x128,
    StableHlo.unary main_v0 main_v1 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg1 main_v2 (rfl : (.f32 : EltTy) = .f32) shapeCasts_S2048x1024_S32x64x8x128,
    StableHlo.unary main_v2 main_v3 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg2 main_v4 (rfl : (.f32 : EltTy) = .f32) shapeCasts_S2048x1024_S32x64x8x128,
    StableHlo.unary main_v4 main_v5 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.reshape main_arg3 main_v6 (rfl : (.f32 : EltTy) = .f32) shapeCasts_S2048x1024_S32x64x8x128,
    StableHlo.unary main_v6 main_v7 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.nullary main_cst (constant S_ .f32 0x00000000#32),
    StableHlo.unary main_cst main_v8 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v9 (broadcastInDim S32x8x64x128 ![] bcast_S_S32x8x64x128 : (⟨S_, .f32⟩ : BufTy).Contents (Elt F) → (⟨S32x8x64x128, .f32⟩ : BufTy).Contents (Elt F)),
    StableHlo.nullary main_cst_1 (constant S_ .f32 0x00000000#32),
    StableHlo.unary main_cst_1 main_v10 (broadcastInDim S32x8x128x128 ![] bcast_S_S32x8x128x128 : (⟨S_, .f32⟩ : BufTy).Contents (Elt F) → (⟨S32x8x128x128, .f32⟩ : BufTy).Contents (Elt F)),
    StableHlo.nullary main_cst_2 (constant S_ .f32 0x00000000#32),
    StableHlo.unary main_cst_2 main_v11 (broadcastInDim S32x8x64x128 ![] bcast_S_S32x8x64x128 : (⟨S_, .f32⟩ : BufTy).Contents (Elt F) → (⟨S32x8x64x128, .f32⟩ : BufTy).Contents (Elt F)),
    StableHlo.nullary main_cst_3 (constant S_ .f32 0x00000000#32),
    StableHlo.unary main_cst_3 main_v12 (broadcastInDim S32x8x1x1 ![] bcast_S_S32x8x1x1 : (⟨S_, .f32⟩ : BufTy).Contents (Elt F) → (⟨S32x8x1x1, .f32⟩ : BufTy).Contents (Elt F)),
    StableHlo.nullary main_c (constantI S_ 32 0#32),
    StableHlo.unary main_v1 main_v13_0 id,
    StableHlo.unary main_v3 main_v13_1 id,
    StableHlo.unary main_arg4 main_v13_2 id,
    StableHlo.unary main_v5 main_v13_3 id,
    StableHlo.unary main_v7 main_v13_4 id,
    StableHlo.unary main_arg5 main_v13_5 id,
    StableHlo.unary main_c main_v13_6 id,
    StableHlo.unary main_v8 main_v13_7 id,
    StableHlo.unary main_v9 main_v13_8 id,
    StableHlo.unary main_v10 main_v13_9 id,
    StableHlo.unary main_v11 main_v13_10 id,
    StableHlo.unary main_v12 main_v13_11 id ]
/-- They touch references of the core only. -/
theorem host0_sub : (host0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The operations of the program outside its loops, stretch 2. -/
abbrev host1 : List (HloOp τ sig (Elt F)) :=
  [ StableHlo.unary main_v13_8 main_v14 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v14 main_v15 (rfl : (.f32 : EltTy) = .f32) shapeCasts_S32x64x8x128_S2048x1024,
    StableHlo.nullary main_cst_4 (constant S_ .f32 0x00000000#32),
    StableHlo.unary main_cst_4 main_v16 (broadcastInDim S8x128x128 ![] bcast_S_S8x128x128 : (⟨S_, .f32⟩ : BufTy).Contents (Elt F) → (⟨S8x128x128, .f32⟩ : BufTy).Contents (Elt F)),
    StableHlo.reshape main_arg6 main_v17 (rfl : (.f32 : EltTy) = .f32) shapeCasts_S2048x1024_S32x64x8x128,
    StableHlo.unary main_v17 main_v18 ((transpose S32x8x64x128 [0, 2, 1, 3] · transposes_S32x64x8x128_S32x8x64x128_0_2_1_3) : (⟨S32x64x8x128, .f32⟩ : BufTy).Contents (Elt F) → (⟨S32x8x64x128, .f32⟩ : BufTy).Contents (Elt F)),
    StableHlo.nullary main_cst_5 (constant S_ .f32 0x00000000#32),
    StableHlo.unary main_cst_5 main_v19 (broadcastInDim S8x128x128 ![] bcast_S_S8x128x128 : (⟨S_, .f32⟩ : BufTy).Contents (Elt F) → (⟨S8x128x128, .f32⟩ : BufTy).Contents (Elt F)),
    StableHlo.nullary main_cst_6 (constant S_ .f32 0x00000000#32),
    StableHlo.unary main_cst_6 main_v20 (broadcastInDim S32x8x64x128 ![] bcast_S_S32x8x64x128 : (⟨S_, .f32⟩ : BufTy).Contents (Elt F) → (⟨S32x8x64x128, .f32⟩ : BufTy).Contents (Elt F)),
    StableHlo.nullary main_cst_7 (constant S_ .f32 0x00000000#32),
    StableHlo.unary main_cst_7 main_v21 (broadcastInDim S32x8x64x128 ![] bcast_S_S32x8x64x128 : (⟨S_, .f32⟩ : BufTy).Contents (Elt F) → (⟨S32x8x64x128, .f32⟩ : BufTy).Contents (Elt F)),
    StableHlo.nullary main_cst_8 (constant S_ .f32 0x00000000#32),
    StableHlo.unary main_cst_8 main_v22 (broadcastInDim S32x8x64x64 ![] bcast_S_S32x8x64x64 : (⟨S_, .f32⟩ : BufTy).Contents (Elt F) → (⟨S32x8x64x64, .f32⟩ : BufTy).Contents (Elt F)),
    StableHlo.nullary main_cst_9 (constant S_ .f32 0x00000000#32),
    StableHlo.unary main_cst_9 main_v23 (broadcastInDim S32x8x64x128 ![] bcast_S_S32x8x64x128 : (⟨S_, .f32⟩ : BufTy).Contents (Elt F) → (⟨S32x8x64x128, .f32⟩ : BufTy).Contents (Elt F)),
    StableHlo.nullary main_cst_10 (constant S_ .f32 0x00000000#32),
    StableHlo.unary main_cst_10 main_v24 (broadcastInDim S32x8x64x128 ![] bcast_S_S32x8x64x128 : (⟨S_, .f32⟩ : BufTy).Contents (Elt F) → (⟨S32x8x64x128, .f32⟩ : BufTy).Contents (Elt F)),
    StableHlo.nullary main_cst_11 (constant S_ .f32 0x00000000#32),
    StableHlo.unary main_cst_11 main_v25 (broadcastInDim S32x8 ![] bcast_S_S32x8 : (⟨S_, .f32⟩ : BufTy).Contents (Elt F) → (⟨S32x8, .f32⟩ : BufTy).Contents (Elt F)),
    StableHlo.nullary main_c_12 (constantI S_ 32 0#32),
    StableHlo.unary main_v18 main_v26_0 id,
    StableHlo.unary main_v13_9 main_v26_1 id,
    StableHlo.unary main_v3 main_v26_2 id,
    StableHlo.unary main_v5 main_v26_3 id,
    StableHlo.unary main_v13_10 main_v26_4 id,
    StableHlo.unary main_arg4 main_v26_5 id,
    StableHlo.unary main_v13_11 main_v26_6 id,
    StableHlo.unary main_v7 main_v26_7 id,
    StableHlo.unary main_c_12 main_v26_8 id,
    StableHlo.unary main_v19 main_v26_9 id,
    StableHlo.unary main_v20 main_v26_10 id,
    StableHlo.unary main_v21 main_v26_11 id,
    StableHlo.unary main_v22 main_v26_12 id,
    StableHlo.unary main_v23 main_v26_13 id,
    StableHlo.unary main_v24 main_v26_14 id,
    StableHlo.unary main_v25 main_v26_15 id ]
/-- They touch references of the core only. -/
theorem host1_sub : (host1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The operations of the program outside its loops, stretch 3. -/
abbrev host2 : List (HloOp τ sig (Elt F)) :=
  [ StableHlo.unary main_v26_14 main_v27 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v27 main_v28 (rfl : (.f32 : EltTy) = .f32) shapeCasts_S32x64x8x128_S2048x1024,
    StableHlo.unary main_v26_13 main_v29 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v29 main_v30 (rfl : (.f32 : EltTy) = .f32) shapeCasts_S32x64x8x128_S2048x1024,
    StableHlo.unary main_v26_11 main_v31 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v31 main_v32 (rfl : (.f32 : EltTy) = .f32) shapeCasts_S32x64x8x128_S2048x1024,
    StableHlo.unary main_v26_10 main_v33 ((transpose S32x64x8x128 [0, 2, 1, 3] · transposes_S32x8x64x128_S32x64x8x128_0_2_1_3) : (⟨S32x8x64x128, .f32⟩ : BufTy).Contents (Elt F) → (⟨S32x64x8x128, .f32⟩ : BufTy).Contents (Elt F)),
    StableHlo.reshape main_v33 main_v34 (rfl : (.f32 : EltTy) = .f32) shapeCasts_S32x64x8x128_S2048x1024,
    StableHlo.unary main_v26_15 main_v35 (broadcastInDim S32x8x1x1 ![0, 1] bcast_S32x8_S32x8x1x1_0_1 : (⟨S32x8, .f32⟩ : BufTy).Contents (Elt F) → (⟨S32x8x1x1, .f32⟩ : BufTy).Contents (Elt F)),
    StableHlo.unary main_v35 main_v36 (broadcastInDim S32x8x8x128 ![0, 1, 2, 3] bcast_S32x8x1x1_S32x8x8x128_0_1_2_3 : (⟨S32x8x1x1, .f32⟩ : BufTy).Contents (Elt F) → (⟨S32x8x8x128, .f32⟩ : BufTy).Contents (Elt F)) ]
/-- They touch references of the core only. -/
theorem host2_sub : (host2 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub ..⟩

/-- The operations of a trip of the first loop, stretch 1. -/
abbrev trip0_0 : List (HloOp τ sig (Elt F)) :=
  [ StableHlo.binary main_while0b_v38 main_v13_7 main_while0b_v43 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v37 main_while0b_v43 main_while0b_v44 (subf : (⟨S8x64x128, .f32⟩ : BufTy).Contents (Elt F) → (⟨S8x64x128, .f32⟩ : BufTy).Contents (Elt F) → (⟨S8x64x128, .f32⟩ : BufTy).Contents (Elt F)),
    StableHlo.binary main_while0b_v40 main_v13_7 main_while0b_v45 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v39 main_while0b_v44 main_while0b_v46 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v45 main_while0b_v46 main_while0b_v47 (addf : (⟨S8x64x128, .f32⟩ : BufTy).Contents (Elt F) → (⟨S8x64x128, .f32⟩ : BufTy).Contents (Elt F) → (⟨S8x64x128, .f32⟩ : BufTy).Contents (Elt F)),
    StableHlo.unary main_while0b_v42 main_while0b_v48 (broadcastInDim S8x1x1 ![0] bcast_S8_S8x1x1_0 : (⟨S8, .f32⟩ : BufTy).Contents (Elt F) → (⟨S8x1x1, .f32⟩ : BufTy).Contents (Elt F)),
    StableHlo.unary main_while0b_v48 main_while0b_v49 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v13_7 main_while0b_v49 main_while0b_v50 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v41 main_while0b_v44 main_while0b_v51 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v50 main_while0b_v51 main_while0b_v52 (addf : (⟨S8x128x128, .f32⟩ : BufTy).Contents (Elt F) → (⟨S8x128x128, .f32⟩ : BufTy).Contents (Elt F) → (⟨S8x128x128, .f32⟩ : BufTy).Contents (Elt F)) ]
/-- They touch references of the core only. -/
theorem trip0_0_sub : (trip0_0 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub ..⟩

/-- The operations of a trip of the first loop, stretch 2. -/
abbrev trip0_1 : List (HloOp τ sig (Elt F)) :=
  [ StableHlo.nullary main_while0b_c_24 (constantI S_ 32 1#32),
    StableHlo.binary main_v13_6 main_while0b_c_24 main_while0b_v57 (addi : (⟨S_, .i32⟩ : BufTy).Contents (Elt F) → (⟨S_, .i32⟩ : BufTy).Contents (Elt F) → (⟨S_, .i32⟩ : BufTy).Contents (Elt F)),
    StableHlo.unary main_while0b_v57 main_v13_6 id,
    StableHlo.unary main_while0b_v52 main_v13_7 id,
    StableHlo.unary main_while0b_v53 main_v13_8 id,
    StableHlo.unary main_while0b_v54 main_v13_9 id,
    StableHlo.unary main_while0b_v55 main_v13_10 id,
    StableHlo.unary main_while0b_v56 main_v13_11 id ]
/-- They touch references of the core only. -/
theorem trip0_1_sub : (trip0_1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub ..⟩

/-- The operations of a trip of the second loop, stretch 1. -/
abbrev trip1_0 : List (HloOp τ sig (Elt F)) :=
  [ StableHlo.nullary main_while1b_c_28 (constantI S_ 32 32#32),
    StableHlo.binary main_while1b_c_28 main_v26_8 main_while1b_v37 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v37 main_while1b_c_29 main_while1b_v38 (subi : (⟨S_, .i32⟩ : BufTy).Contents (Elt F) → (⟨S_, .i32⟩ : BufTy).Contents (Elt F) → (⟨S_, .i32⟩ : BufTy).Contents (Elt F)) ]
/-- They touch references of the core only. -/
theorem trip1_0_sub : (trip1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- The operations of a trip of the second loop, stretch 2. -/
abbrev trip1_1 : List (HloOp τ sig (Elt F)) :=
  [ StableHlo.binary main_v26_9 main_while1b_v46 main_while1b_v47 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v47 main_while1b_v48 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v26_9 main_while1b_v43 main_while1b_v49 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v49 main_while1b_v50 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v40 main_v26_9 main_while1b_v51 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_30 (constant S_ .f32 0x00000000#32),
    StableHlo.binary main_while1b_v51 main_while1b_cst_30 main_while1b_v52 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    StableHlo.reshape main_while1b_v52 main_while1b_v53 (rfl : (.f32 : EltTy) = .f32) shapeCasts_S8_S8x1x1,
    StableHlo.unary main_while1b_v45 main_while1b_v54 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v26_9 main_while1b_v54 main_while1b_v55 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_31 (constant S_ .f32 0x00000000#32),
    StableHlo.binary main_while1b_v53 main_while1b_cst_31 main_while1b_v56 ((fun x v => Host.reduceAdd x v reducesTo_S8x1x1_S8_d1_2 h_S_) : (⟨S8x1x1, .f32⟩ : BufTy).Contents (Elt F) → (⟨S_, .f32⟩ : BufTy).Contents (Elt F) → (⟨S8, .f32⟩ : BufTy).Contents (Elt F)),
    StableHlo.binary main_while1b_v39 main_while1b_v44 main_while1b_v57 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v57 main_while1b_v58 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v48 main_while1b_v58 main_while1b_v59 (addf : (⟨S8x64x128, .f32⟩ : BufTy).Contents (Elt F) → (⟨S8x64x128, .f32⟩ : BufTy).Contents (Elt F) → (⟨S8x64x128, .f32⟩ : BufTy).Contents (Elt F)),
    StableHlo.binary main_while1b_v39 main_while1b_v43 main_while1b_v60 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v39 main_while1b_v42 main_while1b_v61 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v61 main_while1b_v62 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v55 main_while1b_v62 main_while1b_v63 (addf : (⟨S8x128x128, .f32⟩ : BufTy).Contents (Elt F) → (⟨S8x128x128, .f32⟩ : BufTy).Contents (Elt F) → (⟨S8x128x128, .f32⟩ : BufTy).Contents (Elt F)),
    StableHlo.binary main_while1b_v39 main_while1b_v40 main_while1b_v64 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v59 main_while1b_v65 (Host.negf : (⟨S8x64x128, .f32⟩ : BufTy).Contents (Elt F) → (⟨S8x64x128, .f32⟩ : BufTy).Contents (Elt F)),
    StableHlo.binary main_while1b_v65 main_while1b_v41 main_while1b_v66 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v66 main_while1b_v67 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v63 main_while1b_v67 main_while1b_v68 (addf : (⟨S8x128x128, .f32⟩ : BufTy).Contents (Elt F) → (⟨S8x128x128, .f32⟩ : BufTy).Contents (Elt F) → (⟨S8x128x128, .f32⟩ : BufTy).Contents (Elt F)),
    StableHlo.binary main_while1b_v65 main_while1b_v40 main_while1b_v69 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]
/-- They touch references of the core only. -/
theorem trip1_1_sub : (trip1_1 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub ..⟩

/-- The operations of a trip of the second loop, stretch 3. -/
abbrev trip1_2 : List (HloOp τ sig (Elt F)) :=
  [ StableHlo.nullary main_while1b_c_32 (constantI S_ 32 1#32),
    StableHlo.binary main_v26_8 main_while1b_c_32 main_while1b_v76 (addi : (⟨S_, .i32⟩ : BufTy).Contents (Elt F) → (⟨S_, .i32⟩ : BufTy).Contents (Elt F) → (⟨S_, .i32⟩ : BufTy).Contents (Elt F)),
    StableHlo.unary main_while1b_v76 main_v26_8 id,
    StableHlo.unary main_while1b_v68 main_v26_9 id,
    StableHlo.unary main_while1b_v70 main_v26_10 id,
    StableHlo.unary main_while1b_v71 main_v26_11 id,
    StableHlo.unary main_while1b_v72 main_v26_12 id,
    StableHlo.unary main_while1b_v73 main_v26_13 id,
    StableHlo.unary main_while1b_v74 main_v26_14 id ]
/-- They touch references of the core only. -/
theorem trip1_2_sub : (trip1_2 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- The operations of a trip of the second loop, stretch 4. -/
abbrev trip1_3 : List (HloOp τ sig (Elt F)) :=
  [ StableHlo.unary main_while1b_v75 main_v26_15 id ]
/-- They touch references of the core only. -/
theorem trip1_3_sub : (trip1_3 : List (HloOp τ sig (Elt F))).Forall fun op => op.bufs ⊆ StableHlo.tcRefs τ sig :=
  StableHlo.unary_bufs_sub ..

/-- Before the first loop: the stretches, in order. -/
abbrev preI : List (List (HloOp τ sig (Elt F))) :=
  [ host0 ]
/-- Before the first loop: no stretch allocates or leaves the core. -/
theorem preI_plain : StableHlo.Plain (preI (F := F)) :=
  .cons host0_sub .nil

/-- Between the loops: the stretches, in order. -/
abbrev midI : List (List (HloOp τ sig (Elt F))) :=
  [ host1 ]
/-- Between the loops: no stretch allocates or leaves the core. -/
theorem midI_plain : StableHlo.Plain (midI (F := F)) :=
  .cons host1_sub .nil

/-- After the second loop: the stretches, in order. -/
abbrev postI : List (List (HloOp τ sig (Elt F))) :=
  [ host2 ]
/-- After the second loop: no stretch allocates or leaves the core. -/
theorem postI_plain : StableHlo.Plain (postI (F := F)) :=
  .cons host2_sub .nil

/-- The first loop's body: the stretches, in order. -/
abbrev bodyI0 : List (List (HloOp τ sig (Elt F))) :=
  [ dynamic_index_in_dim_ops (.of main_v13_0) (.of main_v13_6) main_while0b_call0,
    dynamic_index_in_dim_ops (.of main_v13_1) (.of main_v13_6) main_while0b_call1,
    dynamic_index_in_dim_0_ops (.of main_v13_2) (.of main_v13_6) main_while0b_call2,
    dynamic_index_in_dim_ops (.of main_v13_3) (.of main_v13_6) main_while0b_call3,
    dynamic_index_in_dim_ops (.of main_v13_4) (.of main_v13_6) main_while0b_call4,
    dynamic_index_in_dim_1_ops (.of main_v13_5) (.of main_v13_6) main_while0b_call5,
    trip0_0,
    dynamic_update_index_in_dim_ops (.of main_v13_8) (.of main_while0b_v47) (.of main_v13_6) main_while0b_call6,
    dynamic_update_index_in_dim_2_ops (.of main_v13_9) (.of main_v13_7) (.of main_v13_6) main_while0b_call7,
    dynamic_update_index_in_dim_ops (.of main_v13_10) (.of main_while0b_v44) (.of main_v13_6) main_while0b_call8,
    dynamic_update_index_in_dim_3_ops (.of main_v13_11) (.of main_while0b_v48) (.of main_v13_6) main_while0b_call9,
    trip0_1 ]
/-- The first loop's body: no stretch allocates or leaves the core. -/
theorem bodyI0_plain : StableHlo.Plain (bodyI0 (F := F)) :=
  .cons (dynamic_index_in_dim_sub _ _ _) (.cons (dynamic_index_in_dim_sub _ _ _) (.cons (dynamic_index_in_dim_0_sub _ _ _) (.cons (dynamic_index_in_dim_sub _ _ _) (.cons (dynamic_index_in_dim_sub _ _ _) (.cons (dynamic_index_in_dim_1_sub _ _ _) (.cons trip0_0_sub (.cons (dynamic_update_index_in_dim_sub _ _ _ _) (.cons (dynamic_update_index_in_dim_2_sub _ _ _ _) (.cons (dynamic_update_index_in_dim_sub _ _ _ _) (.cons (dynamic_update_index_in_dim_3_sub _ _ _ _) (.cons trip0_1_sub .nil)))))))))))

/-- The second loop's body: the stretches, in order. -/
abbrev bodyI1 : List (List (HloOp τ sig (Elt F))) :=
  [ trip1_0,
    dynamic_index_in_dim_ops (.of main_v26_0) (.of main_while1b_v38) main_while1b_call10,
    dynamic_index_in_dim_4_ops (.of main_v26_1) (.of main_while1b_v38) main_while1b_call11,
    dynamic_index_in_dim_ops (.of main_v26_2) (.of main_while1b_v38) main_while1b_call12,
    dynamic_index_in_dim_ops (.of main_v26_3) (.of main_while1b_v38) main_while1b_call13,
    dynamic_index_in_dim_ops (.of main_v26_4) (.of main_while1b_v38) main_while1b_call14,
    dynamic_index_in_dim_0_ops (.of main_v26_5) (.of main_while1b_v38) main_while1b_call15,
    dynamic_index_in_dim_5_ops (.of main_v26_6) (.of main_while1b_v38) main_while1b_call16,
    dynamic_index_in_dim_ops (.of main_v26_7) (.of main_while1b_v38) main_while1b_call17,
    trip1_1,
    dynamic_update_index_in_dim_ops (.of main_v26_10) (.of main_while1b_v59) (.of main_while1b_v38) main_while1b_call18,
    dynamic_update_index_in_dim_ops (.of main_v26_11) (.of main_while1b_v69) (.of main_while1b_v38) main_while1b_call19,
    dynamic_update_index_in_dim_6_ops (.of main_v26_12) (.of main_while1b_v60) (.of main_while1b_v38) main_while1b_call20,
    dynamic_update_index_in_dim_ops (.of main_v26_13) (.of main_while1b_v64) (.of main_while1b_v38) main_while1b_call21,
    dynamic_update_index_in_dim_ops (.of main_v26_14) (.of main_while1b_v50) (.of main_while1b_v38) main_while1b_call22,
    dynamic_update_index_in_dim_7_ops (.of main_v26_15) (.of main_while1b_v56) (.of main_while1b_v38) main_while1b_call23,
    trip1_2,
    trip1_3 ]
/-- The second loop's body: no stretch allocates or leaves the core. -/
theorem bodyI1_plain : StableHlo.Plain (bodyI1 (F := F)) :=
  .cons trip1_0_sub (.cons (dynamic_index_in_dim_sub _ _ _) (.cons (dynamic_index_in_dim_4_sub _ _ _) (.cons (dynamic_index_in_dim_sub _ _ _) (.cons (dynamic_index_in_dim_sub _ _ _) (.cons (dynamic_index_in_dim_sub _ _ _) (.cons (dynamic_index_in_dim_0_sub _ _ _) (.cons (dynamic_index_in_dim_5_sub _ _ _) (.cons (dynamic_index_in_dim_sub _ _ _) (.cons trip1_1_sub (.cons (dynamic_update_index_in_dim_sub _ _ _ _) (.cons (dynamic_update_index_in_dim_sub _ _ _ _) (.cons (dynamic_update_index_in_dim_6_sub _ _ _ _) (.cons (dynamic_update_index_in_dim_sub _ _ _ _) (.cons (dynamic_update_index_in_dim_sub _ _ _ _) (.cons (dynamic_update_index_in_dim_7_sub _ _ _ _) (.cons trip1_2_sub (.cons trip1_3_sub .nil)))))))))))))))))

/-- The body of loop 0 is its stretches, one after the other. -/
theorem body0_chain : main_while0_body (F := F) = Pipeline.chain ((bodyI0 (F := F)).map fun ops => (StableHlo.seq ops : Prog _ PUnit)) := by
  simp only [bodyI0, List.map]
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

/-- The first part of the body of loop 1: all its stretches but the last. -/
theorem body1_part0 : main_while1_body_part0 (F := F) = Pipeline.chainK
    [ StableHlo.seq trip1_0,
      StableHlo.seq (dynamic_index_in_dim_ops (.of main_v26_0) (.of main_while1b_v38) main_while1b_call10),
      StableHlo.seq (dynamic_index_in_dim_4_ops (.of main_v26_1) (.of main_while1b_v38) main_while1b_call11),
      StableHlo.seq (dynamic_index_in_dim_ops (.of main_v26_2) (.of main_while1b_v38) main_while1b_call12),
      StableHlo.seq (dynamic_index_in_dim_ops (.of main_v26_3) (.of main_while1b_v38) main_while1b_call13),
      StableHlo.seq (dynamic_index_in_dim_ops (.of main_v26_4) (.of main_while1b_v38) main_while1b_call14),
      StableHlo.seq (dynamic_index_in_dim_0_ops (.of main_v26_5) (.of main_while1b_v38) main_while1b_call15),
      StableHlo.seq (dynamic_index_in_dim_5_ops (.of main_v26_6) (.of main_while1b_v38) main_while1b_call16),
      StableHlo.seq (dynamic_index_in_dim_ops (.of main_v26_7) (.of main_while1b_v38) main_while1b_call17),
      StableHlo.seq trip1_1,
      StableHlo.seq (dynamic_update_index_in_dim_ops (.of main_v26_10) (.of main_while1b_v59) (.of main_while1b_v38) main_while1b_call18),
      StableHlo.seq (dynamic_update_index_in_dim_ops (.of main_v26_11) (.of main_while1b_v69) (.of main_while1b_v38) main_while1b_call19),
      StableHlo.seq (dynamic_update_index_in_dim_6_ops (.of main_v26_12) (.of main_while1b_v60) (.of main_while1b_v38) main_while1b_call20),
      StableHlo.seq (dynamic_update_index_in_dim_ops (.of main_v26_13) (.of main_while1b_v64) (.of main_while1b_v38) main_while1b_call21),
      StableHlo.seq (dynamic_update_index_in_dim_ops (.of main_v26_14) (.of main_while1b_v50) (.of main_while1b_v38) main_while1b_call22),
      StableHlo.seq (dynamic_update_index_in_dim_7_ops (.of main_v26_15) (.of main_while1b_v56) (.of main_while1b_v38) main_while1b_call23) ]
    (StableHlo.seq trip1_2) := by
  rewrite [StableHlo.chainK_seq_cons, Pipeline.chainK_cons, Pipeline.chainK_cons, Pipeline.chainK_cons, Pipeline.chainK_cons, Pipeline.chainK_cons, Pipeline.chainK_cons, Pipeline.chainK_cons, Pipeline.chainK_cons, StableHlo.chainK_seq_cons, Pipeline.chainK_cons, Pipeline.chainK_cons, Pipeline.chainK_cons, Pipeline.chainK_cons, Pipeline.chainK_cons, Pipeline.chainK_cons]
  chain_rfl
/-- The body of loop 1 is its stretches, one after the other. -/
theorem body1_chain : main_while1_body (F := F) = Pipeline.chain ((bodyI1 (F := F)).map fun ops => (StableHlo.seq ops : Prog _ PUnit)) :=
  Pipeline.chain_of_window body1_part0 (show main_while1_body_part1 (F := F) = Pipeline.chain [StableHlo.seq trip1_3] by chain_rfl)

/-- The program is its stretches and its two loops, one after the other. -/
theorem main_chain (c : Dev nD) : main (F := F) c = Pipeline.chain (((preI (F := F)).map fun ops => (StableHlo.seq ops : Prog _ PUnit))
    ++ HostLoop.enter 0 :: (((midI (F := F)).map fun ops => (StableHlo.seq ops : Prog _ PUnit))
    ++ HostLoop.enter 1 :: (postI (F := F)).map fun ops => (StableHlo.seq ops : Prog _ PUnit))) := by
  chain_rfl

/-- What `preI` writes, in order. -/
abbrev preI_W : List (Ref sig .tc) :=
  [ main_v0, main_v1, main_v2, main_v3, main_v4, main_v5, main_v6, main_v7, main_cst, main_v8, main_cst_0, main_v9, main_cst_1, main_v10, main_cst_2, main_v11, main_cst_3, main_v12, main_c, main_v13_0, main_v13_1, main_v13_2, main_v13_3, main_v13_4, main_v13_5, main_v13_6, main_v13_7, main_v13_8, main_v13_9, main_v13_10, main_v13_11 ]
/-- `preI` writes nothing else. -/
theorem preI_writes : (preI (F := F)).flatten.Forall fun op => op.writes ⊆ (preI_W.map (Proc.devRef (τ := τ) .tc)).toFinset :=
  StableHlo.forall_writes_sub_of_map rfl
/-- A buffer that `preI` does not write keeps its contents. -/
theorem preI_keeps (V : Valuation τ sig (Elt F)) {r : Ref sig .tc} (hr : r ∉ preI_W) :
    StableHlo.afterL preI V (Proc.devRef .tc r) = V (Proc.devRef .tc r) := by
  rw [StableHlo.afterL_eq_after_flatten]
  exact StableHlo.after_of_writes_sub _ V preI_writes hr

/-- What `midI` writes, in order. -/
abbrev midI_W : List (Ref sig .tc) :=
  [ main_v14, main_v15, main_cst_4, main_v16, main_v17, main_v18, main_cst_5, main_v19, main_cst_6, main_v20, main_cst_7, main_v21, main_cst_8, main_v22, main_cst_9, main_v23, main_cst_10, main_v24, main_cst_11, main_v25, main_c_12, main_v26_0, main_v26_1, main_v26_2, main_v26_3, main_v26_4, main_v26_5, main_v26_6, main_v26_7, main_v26_8, main_v26_9, main_v26_10, main_v26_11, main_v26_12, main_v26_13, main_v26_14, main_v26_15 ]
/-- `midI` writes nothing else. -/
theorem midI_writes : (midI (F := F)).flatten.Forall fun op => op.writes ⊆ (midI_W.map (Proc.devRef (τ := τ) .tc)).toFinset :=
  StableHlo.forall_writes_sub_of_map rfl
/-- A buffer that `midI` does not write keeps its contents. -/
theorem midI_keeps (V : Valuation τ sig (Elt F)) {r : Ref sig .tc} (hr : r ∉ midI_W) :
    StableHlo.afterL midI V (Proc.devRef .tc r) = V (Proc.devRef .tc r) := by
  rw [StableHlo.afterL_eq_after_flatten]
  exact StableHlo.after_of_writes_sub _ V midI_writes hr

/-- What `postI` writes, in order. -/
abbrev postI_W : List (Ref sig .tc) :=
  [ main_v27, main_v28, main_v29, main_v30, main_v31, main_v32, main_v33, main_v34, main_v35, main_v36 ]
/-- `postI` writes nothing else. -/
theorem postI_writes : (postI (F := F)).flatten.Forall fun op => op.writes ⊆ (postI_W.map (Proc.devRef (τ := τ) .tc)).toFinset :=
  StableHlo.forall_writes_sub_of_map rfl
/-- A buffer that `postI` does not write keeps its contents. -/
theorem postI_keeps (V : Valuation τ sig (Elt F)) {r : Ref sig .tc} (hr : r ∉ postI_W) :
    StableHlo.afterL postI V (Proc.devRef .tc r) = V (Proc.devRef .tc r) := by
  rw [StableHlo.afterL_eq_after_flatten]
  exact StableHlo.after_of_writes_sub _ V postI_writes hr

/-- What `bodyI0` writes, in order. -/
abbrev bodyI0_W : List (Ref sig .tc) :=
  [ main_while0b_call0.c.ref, main_while0b_call0.c_0.ref, main_while0b_call0.c_1.ref, main_while0b_call0.v0.ref, main_while0b_call0.v1.ref, main_while0b_call1.c.ref, main_while0b_call1.c_0.ref, main_while0b_call1.c_1.ref, main_while0b_call1.v0.ref, main_while0b_call1.v1.ref, main_while0b_call2.c.ref, main_while0b_call2.c_0.ref, main_while0b_call2.c_1.ref, main_while0b_call2.v0.ref, main_while0b_call2.v1.ref, main_while0b_call3.c.ref, main_while0b_call3.c_0.ref, main_while0b_call3.c_1.ref, main_while0b_call3.v0.ref, main_while0b_call3.v1.ref, main_while0b_call4.c.ref, main_while0b_call4.c_0.ref, main_while0b_call4.c_1.ref, main_while0b_call4.v0.ref, main_while0b_call4.v1.ref, main_while0b_call5.c.ref, main_while0b_call5.v0.ref, main_while0b_call5.v1.ref, main_while0b_v43, main_while0b_v44, main_while0b_v45, main_while0b_v46, main_while0b_v47, main_while0b_v48, main_while0b_v49, main_while0b_v50, main_while0b_v51, main_while0b_v52, main_while0b_call6.v0.ref, main_while0b_call6.c.ref, main_while0b_call6.c_0.ref, main_while0b_call6.c_1.ref, main_while0b_call6.v1.ref, main_while0b_call7.v0.ref, main_while0b_call7.c.ref, main_while0b_call7.c_0.ref, main_while0b_call7.c_1.ref, main_while0b_call7.v1.ref, main_while0b_call8.v0.ref, main_while0b_call8.c.ref, main_while0b_call8.c_0.ref, main_while0b_call8.c_1.ref, main_while0b_call8.v1.ref, main_while0b_call9.v0.ref, main_while0b_call9.c.ref, main_while0b_call9.c_0.ref, main_while0b_call9.c_1.ref, main_while0b_call9.v1.ref, main_while0b_c_24, main_while0b_v57, main_v13_6, main_v13_7, main_v13_8, main_v13_9, main_v13_10, main_v13_11 ]
/-- `bodyI0` writes nothing else. -/
theorem bodyI0_writes : (bodyI0 (F := F)).flatten.Forall fun op => op.writes ⊆ (bodyI0_W.map (Proc.devRef (τ := τ) .tc)).toFinset :=
  StableHlo.forall_writes_sub_of_map rfl
/-- A buffer that `bodyI0` does not write keeps its contents. -/
theorem bodyI0_keeps (V : Valuation τ sig (Elt F)) {r : Ref sig .tc} (hr : r ∉ bodyI0_W) :
    StableHlo.afterL bodyI0 V (Proc.devRef .tc r) = V (Proc.devRef .tc r) := by
  rw [StableHlo.afterL_eq_after_flatten]
  exact StableHlo.after_of_writes_sub _ V bodyI0_writes hr

/-- What `bodyI1` writes, in order. -/
abbrev bodyI1_W : List (Ref sig .tc) :=
  [ main_while1b_c_28, main_while1b_v37, main_while1b_c_29, main_while1b_v38, main_while1b_call10.c.ref, main_while1b_call10.c_0.ref, main_while1b_call10.c_1.ref, main_while1b_call10.v0.ref, main_while1b_call10.v1.ref, main_while1b_call11.c.ref, main_while1b_call11.c_0.ref, main_while1b_call11.c_1.ref, main_while1b_call11.v0.ref, main_while1b_call11.v1.ref, main_while1b_call12.c.ref, main_while1b_call12.c_0.ref, main_while1b_call12.c_1.ref, main_while1b_call12.v0.ref, main_while1b_call12.v1.ref, main_while1b_call13.c.ref, main_while1b_call13.c_0.ref, main_while1b_call13.c_1.ref, main_while1b_call13.v0.ref, main_while1b_call13.v1.ref, main_while1b_call14.c.ref, main_while1b_call14.c_0.ref, main_while1b_call14.c_1.ref, main_while1b_call14.v0.ref, main_while1b_call14.v1.ref, main_while1b_call15.c.ref, main_while1b_call15.c_0.ref, main_while1b_call15.c_1.ref, main_while1b_call15.v0.ref, main_while1b_call15.v1.ref, main_while1b_call16.c.ref, main_while1b_call16.c_0.ref, main_while1b_call16.c_1.ref, main_while1b_call16.v0.ref, main_while1b_call16.v1.ref, main_while1b_call17.c.ref, main_while1b_call17.c_0.ref, main_while1b_call17.c_1.ref, main_while1b_call17.v0.ref, main_while1b_call17.v1.ref, main_while1b_v47, main_while1b_v48, main_while1b_v49, main_while1b_v50, main_while1b_v51, main_while1b_cst_30, main_while1b_v52, main_while1b_v53, main_while1b_v54, main_while1b_v55, main_while1b_cst_31, main_while1b_v56, main_while1b_v57, main_while1b_v58, main_while1b_v59, main_while1b_v60, main_while1b_v61, main_while1b_v62, main_while1b_v63, main_while1b_v64, main_while1b_v65, main_while1b_v66, main_while1b_v67, main_while1b_v68, main_while1b_v69, main_while1b_call18.v0.ref, main_while1b_call18.c.ref, main_while1b_call18.c_0.ref, main_while1b_call18.c_1.ref, main_while1b_call18.v1.ref, main_while1b_call19.v0.ref, main_while1b_call19.c.ref, main_while1b_call19.c_0.ref, main_while1b_call19.c_1.ref, main_while1b_call19.v1.ref, main_while1b_call20.v0.ref, main_while1b_call20.c.ref, main_while1b_call20.c_0.ref, main_while1b_call20.c_1.ref, main_while1b_call20.v1.ref, main_while1b_call21.v0.ref, main_while1b_call21.c.ref, main_while1b_call21.c_0.ref, main_while1b_call21.c_1.ref, main_while1b_call21.v1.ref, main_while1b_call22.v0.ref, main_while1b_call22.c.ref, main_while1b_call22.c_0.ref, main_while1b_call22.c_1.ref, main_while1b_call22.v1.ref, main_while1b_call23.v0.ref, main_while1b_call23.c.ref, main_while1b_call23.v1.ref, main_while1b_c_32, main_while1b_v76, main_v26_8, main_v26_9, main_v26_10, main_v26_11, main_v26_12, main_v26_13, main_v26_14, main_v26_15 ]
/-- `bodyI1` writes nothing else. -/
theorem bodyI1_writes : (bodyI1 (F := F)).flatten.Forall fun op => op.writes ⊆ (bodyI1_W.map (Proc.devRef (τ := τ) .tc)).toFinset :=
  StableHlo.forall_writes_sub_of_map rfl
/-- A buffer that `bodyI1` does not write keeps its contents. -/
theorem bodyI1_keeps (V : Valuation τ sig (Elt F)) {r : Ref sig .tc} (hr : r ∉ bodyI1_W) :
    StableHlo.afterL bodyI1 V (Proc.devRef .tc r) = V (Proc.devRef .tc r) := by
  rw [StableHlo.afterL_eq_after_flatten]
  exact StableHlo.after_of_writes_sub _ V bodyI1_writes hr

/-- The operations of loop 0's condition. -/
abbrev condOps0 : List (HloOp τ sig (Elt F)) :=
  [ StableHlo.nullary main_while0c_c_24 (constantI S_ 32 32#32),
    StableHlo.binary main_v13_6 main_while0c_c_24 main_while0c_v37 (cmpi .slt : (⟨S_, .i32⟩ : BufTy).Contents (Elt F) → (⟨S_, .i32⟩ : BufTy).Contents (Elt F) → (⟨S_, .i1⟩ : BufTy).Contents (Elt F)) ]
/-- What they write. -/
abbrev condOps0_W : List (Ref sig .tc) := [main_while0c_c_24, main_while0c_v37]
/-- They write nothing else. -/
theorem condOps0_keeps (V : Valuation τ sig (Elt F)) {r : Ref sig .tc} (hr : r ∉ condOps0_W) :
    StableHlo.after condOps0 V (Proc.devRef .tc r) = V (Proc.devRef .tc r) :=
  StableHlo.after_of_writes_sub _ V (StableHlo.forall_writes_sub_of_map rfl) hr

/-- The operations of loop 1's condition. -/
abbrev condOps1 : List (HloOp τ sig (Elt F)) :=
  [ StableHlo.nullary main_while1c_c_28 (constantI S_ 32 32#32),
    StableHlo.binary main_v26_8 main_while1c_c_28 main_while1c_v37 (cmpi .slt : (⟨S_, .i32⟩ : BufTy).Contents (Elt F) → (⟨S_, .i32⟩ : BufTy).Contents (Elt F) → (⟨S_, .i1⟩ : BufTy).Contents (Elt F)) ]
/-- What they write. -/
abbrev condOps1_W : List (Ref sig .tc) := [main_while1c_c_28, main_while1c_v37]
/-- They write nothing else. -/
theorem condOps1_keeps (V : Valuation τ sig (Elt F)) {r : Ref sig .tc} (hr : r ∉ condOps1_W) :
    StableHlo.after condOps1 V (Proc.devRef .tc r) = V (Proc.devRef .tc r) :=
  StableHlo.after_of_writes_sub _ V (StableHlo.forall_writes_sub_of_map rfl) hr

end Cert.RefProof

end
-- ==== Proof.RefRun.lean ====
/- The run of the reference: the stretches and the two counted loops as segments, from any memory. -/
module

public import proofs.«01_k».proof.Proof.RefOps
public import Idealize.ShloMosaic.Lib.Scf.ExitTest
public import Idealize.ShloMosaic.Lib.Scf.Counter
public import Idealize.ShloMosaic.Lib.Quiescent
public import Idealize.ShloMosaic.Lib.StableHlo.RunRead

@[expose] public section

noncomputable section

namespace Cert.RefProof

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

local notation "𝕄" => MT nD τ sig Unit (Elt F) ℕ (Option PUnit) ℕ

/-- The program launches no kernel: nothing is admitted, no ticket, no level. -/
abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0
abbrev 𝒱₀ : Variants := Variants.none

/-- There is no staging cell. -/
theorem hinj : Function.Injective (Pipeline.cellOf (nD := nD) (τ := τ) (Pipeline.pin (pcfgs (F := F)) adm)) := fun p _ _ => p.1.elim0

/-- What is carried beside the buffers. -/
abbrev Rw (c : Dev nD) : sProp 𝕄 := iprop(∃ W, owes (c : Thread nD τ) (0 : CellTallies nD τ sig Unit) W)

/-! ## Contents at each boundary -/

variable (m : (ℓ : Loc nD τ sig) → Buf (Elt F) ℓ)

/-- At the entry of the first loop, after `k` of its trips, and when it is left. -/
abbrev E0 (c : Dev nD) : Valuation τ sig (Elt F) := afterL preI (launchContents m c)
abbrev T0 (k : ℕ) (c : Dev nD) : Valuation τ sig (Elt F) := atTrip condOps0 bodyI0 (E0 m) k c
abbrev X0 (c : Dev nD) : Valuation τ sig (Elt F) := after condOps0 (T0 m 32 c)
/-- The same of the second loop. -/
abbrev E1 (c : Dev nD) : Valuation τ sig (Elt F) := afterL midI (X0 m c)
abbrev T1 (k : ℕ) (c : Dev nD) : Valuation τ sig (Elt F) := atTrip condOps1 bodyI1 (E1 m) k c
abbrev X1 (c : Dev nD) : Valuation τ sig (Elt F) := after condOps1 (T1 m 32 c)
/-- At the end. -/
abbrev Last (c : Dev nD) : Valuation τ sig (Elt F) := afterL postI (X1 m c)

/-- One trip of the first loop keeps what it does not write. -/
theorem T0_keeps (c : Dev nD) (k : ℕ) {r : Ref sig .tc} (hb : r ∉ bodyI0_W) (hc : r ∉ condOps0_W) :
    T0 m k c (Proc.devRef .tc r) = E0 m c (Proc.devRef .tc r) := by
  induction k with
  | zero => rfl
  | succ k ih =>
    rw [show T0 m (k + 1) c = afterL bodyI0 (after condOps0 (T0 m k c)) from rfl, bodyI0_keeps _ hb, condOps0_keeps _ hc]
    exact ih

/-- One trip of the second loop keeps what it does not write. -/
theorem T1_keeps (c : Dev nD) (k : ℕ) {r : Ref sig .tc} (hb : r ∉ bodyI1_W) (hc : r ∉ condOps1_W) :
    T1 m k c (Proc.devRef .tc r) = E1 m c (Proc.devRef .tc r) := by
  induction k with
  | zero => rfl
  | succ k ih =>
    rw [show T1 m (k + 1) c = afterL bodyI1 (after condOps1 (T1 m k c)) from rfl, bodyI1_keeps _ hb, condOps1_keeps _ hc]
    exact ih

/-- A buffer that nothing writes keeps what memory holds. -/
theorem Last_keeps (c : Dev nD) {r : Ref sig .tc} (h0 : r ∉ preI_W) (h1 : r ∉ bodyI0_W) (h2 : r ∉ condOps0_W) (h3 : r ∉ midI_W)
    (h4 : r ∉ bodyI1_W) (h5 : r ∉ condOps1_W) (h6 : r ∉ postI_W) :
    Last m c (Proc.devRef .tc r) = m ((c : Thread nD τ).loc r) := by
  exact ((postI_keeps (X1 m c) h6).trans ((condOps1_keeps (T1 m 32 c) h5).trans ((T1_keeps m c 32 h4 h5).trans
    ((midI_keeps (X0 m c) h3).trans ((condOps0_keeps (T0 m 32 c) h2).trans ((T0_keeps m c 32 h1 h2).trans
      (preI_keeps (launchContents m c) h0)))))))

/-! ## The trip counters -/

/-- A trip moves the first loop's counter one on. -/
theorem ctr0_step (V : Valuation τ sig (Elt F)) :
    afterL bodyI0 V (Proc.devRef .tc main_v13_6) = addi (V (Proc.devRef .tc main_v13_6)) (constantI S_ 32 1#32) := by
  rw [afterL_eq_after_flatten]
  after_reads_simp
  rfl
/-- It starts at zero. -/
theorem ctr0_entry (c : Dev nD) : E0 m c (Proc.devRef .tc main_v13_6) = fun _ => (0#32 : BitVec 32) := by
  simp only [E0, E1, afterL_cons, afterL_nil]
  after_reads_simp
  rfl
/-- After `k` trips it is the induction variable at `k`. -/
theorem ctr0 (c : Dev nD) (k : ℕ) : T0 m k c (Proc.devRef .tc main_v13_6) = fun _ => Scf.iv 0#32 1#32 k := by
  induction k with
  | zero => rw [show T0 m 0 c = E0 m c from rfl, ctr0_entry, Scf.iv_zero]
  | succ k ih =>
    rw [show T0 m (k + 1) c = afterL bodyI0 (after condOps0 (T0 m k c)) from rfl, ctr0_step,
      condOps0_keeps _ (by decide), ih, Scf.iv_succ]
    rfl
/-- A trip moves the second loop's counter one on. -/
theorem ctr1_step (V : Valuation τ sig (Elt F)) :
    afterL bodyI1 V (Proc.devRef .tc main_v26_8) = addi (V (Proc.devRef .tc main_v26_8)) (constantI S_ 32 1#32) := by
  rw [afterL_eq_after_flatten]
  after_reads_simp
  rfl
/-- It starts at zero. -/
theorem ctr1_entry (c : Dev nD) : E1 m c (Proc.devRef .tc main_v26_8) = fun _ => (0#32 : BitVec 32) := by
  simp only [E0, E1, afterL_cons, afterL_nil]
  after_reads_simp
  rfl
/-- After `k` trips it is the induction variable at `k`. -/
theorem ctr1 (c : Dev nD) (k : ℕ) : T1 m k c (Proc.devRef .tc main_v26_8) = fun _ => Scf.iv 0#32 1#32 k := by
  induction k with
  | zero => rw [show T1 m 0 c = E1 m c from rfl, ctr1_entry, Scf.iv_zero]
  | succ k ih =>
    rw [show T1 m (k + 1) c = afterL bodyI1 (after condOps1 (T1 m k c)) from rfl, ctr1_step,
      condOps1_keeps _ (by decide), ih, Scf.iv_succ]
    rfl

/-! ## The conditions -/

set_option backward.isDefEq.respectTransparency.types false in
/-- The first loop goes on exactly while its counter is below 32. -/
theorem cond0_spec : LoopCond (pcfgs (F := F)) defs₀ 𝒱₀ loops Rw (main_while0_cond (F := F)) condOps0 bodyI0 (E0 m) 32 := by
  intro k hk c bd
  have hctr := ctr0 m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v13_6 HostLoop.idx0)
        (HloOp.result _ (T0 m k c) main_while0c_c_24 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

set_option backward.isDefEq.respectTransparency.types false in
/-- The second loop goes on exactly while its counter is below 32. -/
theorem cond1_spec : LoopCond (pcfgs (F := F)) defs₀ 𝒱₀ loops Rw (main_while1_cond (F := F)) condOps1 bodyI1 (E1 m) 32 := by
  intro k hk c bd
  have hctr := ctr1 m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v26_8 HostLoop.idx0)
        (HloOp.result _ (T1 m k c) main_while1c_c_28 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]; · rw [after_cons, after_cons, after_nil]; iexact Hh
  iexact HR

/-! ## The segments -/

abbrev KitSeg : Type 1 := CSeg (pcfgs (F := F)) adm defs₀ 𝒱₀ L lv loops tk

abbrev seg0 : KitSeg (F := F) :=
  loopSeg _ _ _ _ _ _ _ _ 0 (main_while0_cond (F := F)) (main_while0_body (F := F)) rfl condOps0 bodyI0 bodyI0_plain
    body0_chain 32 (E0 m) Rw (cond0_spec m)
abbrev seg1 : KitSeg (F := F) :=
  loopSeg _ _ _ _ _ _ _ _ 1 (main_while1_cond (F := F)) (main_while1_body (F := F)) rfl condOps1 bodyI1 bodyI1_plain
    body1_chain 32 (E1 m) Rw (cond1_spec m)

/-- The program's segments. -/
def segs : List (KitSeg (F := F)) :=
  segsOf _ _ _ _ _ _ _ _ Rw preI preI_plain (launchContents m)
    ++ seg0 m :: (segsOf _ _ _ _ _ _ _ _ Rw midI midI_plain (X0 m)
    ++ seg1 m :: segsOf _ _ _ _ _ _ _ _ Rw postI postI_plain (X1 m))

/-- Their programs, in order. -/
theorem segs_prog : (segs m).map CSeg.prog = ((preI (F := F)).map fun ops => (seq ops : Prog _ PUnit))
    ++ HostLoop.enter 0 :: (((midI (F := F)).map fun ops => (seq ops : Prog _ PUnit))
    ++ HostLoop.enter 1 :: (postI (F := F)).map fun ops => (seq ops : Prog _ PUnit)) := by
  unfold segs
  rw [List.map_append, List.map_cons, List.map_append, List.map_cons, segsOf_prog, segsOf_prog, segsOf_prog]
  rfl

/-- The program is the run of its segments. -/
theorem main_run (c : Dev nD) : main (F := F) c = CSeg.runL (segs m) :=
  (main_chain c).trans (congrArg Pipeline.chain (segs_prog m).symm)

/-- They chain from the launch to the end. -/
theorem segs_chains : CSeg.Chains (fun c => iprop(held (c : Thread nD τ) (ucRefs τ sig) (launchContents m c) ∗ Rw c)) (segs m)
    (fun c => iprop(iprop(held (c : Thread nD τ) (ucRefs τ sig) (Last m c)) ∗ ∃ W, owes (c : Thread nD τ) (0 : CellTallies nD τ sig Unit) W)) := by
  unfold segs
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

/-- The reference has no semaphore but the scoped ones. -/
theorem sems_scoped : ∀ sm : SemLoc sig, sm.isScoped .tc = true := by decide

/-- The reference runs from any memory: every buffer that is not scoped ends at `Last`, every semaphore at zero. -/
theorem run_ref (ρ : Dev nD → PrngReg) : θ_run defs (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = Last m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ 𝒱₀ L lv loops tk m ρ main (segs m)
    (fun c Q => by rw [main_run m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (Last m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Last m c b)
    (hfin := fun c s' => by
      unfold held
      iintro ⟨Hh, HSI⟩
      ihave Hr := (pointsTo_read_all (ucRefs τ sig) (fun b => ((c : Dev nD), b)) (fun b => Last m c b) s') $$ [Hh HSI]
      · isplitl [Hh] <;> iassumption
      icases Hr with ⟨%h, HSI⟩
      imodintro
      isplitr; · ipureintro; exact h
      iexact HSI)
    (hQ := fun _ h hs => ⟨fun c b hb => h c _ (devRef_mem_ucRefs b hb), sem_eq_zero hs fun c sm hsm => by
      rw [sems_scoped sm] at hsm; exact absurd hsm (by decide)⟩)

end Cert.RefProof

end
-- ==== Proof.Frames.lean ====
/- What both programs leave alone: every argument array, and every semaphore at zero. -/
module

public import proofs.«01_k».proof.Proof.Run
public import proofs.«01_k».proof.Proof.RefRun

@[expose] public section

noncomputable section

namespace Cert.Frames

open Idealize.ShloMosaic Idealize.ShloMosaic.TcCoe Idealize.SL.Sem

variable {F : FTy → Type} [FloatOps F]

/-- At the kernel's last state each argument holds what memory held at the start. -/
theorem kernel_args (m : (ℓ : Loc Cert.KernelIdeal.nD Cert.KernelIdeal.τ Cert.KernelIdeal.sig) → Buf (Elt F) ℓ) (c : Dev Cert.KernelIdeal.nD) (s : MemSt Cert.KernelIdeal.nD Cert.KernelIdeal.τ Cert.KernelIdeal.sig (Elt F)) (h : Cert.Proof.Ends m c s) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ s.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ s.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  ⟨(h Cert.KernelIdeal.main_arg0 rfl).trans (Cert.Proof.B3_arg m c _ (by decide) (by decide)),
    (h Cert.KernelIdeal.main_arg1 rfl).trans (Cert.Proof.B3_arg m c _ (by decide) (by decide)),
    (h Cert.KernelIdeal.main_arg2 rfl).trans (Cert.Proof.B3_arg m c _ (by decide) (by decide)),
    (h Cert.KernelIdeal.main_arg3 rfl).trans (Cert.Proof.B3_arg m c _ (by decide) (by decide)),
    (h Cert.KernelIdeal.main_arg4 rfl).trans (Cert.Proof.B3_arg m c _ (by decide) (by decide)),
    (h Cert.KernelIdeal.main_arg5 rfl).trans (Cert.Proof.B3_arg m c _ (by decide) (by decide)),
    (h Cert.KernelIdeal.main_arg6 rfl).trans (Cert.Proof.B3_arg m c _ (by decide) (by decide))⟩

/-- At the reference's last state each argument holds what memory held at the start. -/
theorem ref_args (m : (ℓ : Loc Cert.ReferenceIdeal.nD Cert.ReferenceIdeal.τ Cert.ReferenceIdeal.sig) → Buf (Elt F) ℓ) (c : Dev Cert.ReferenceIdeal.nD) (s : MemSt Cert.ReferenceIdeal.nD Cert.ReferenceIdeal.τ Cert.ReferenceIdeal.sig (Elt F))
    (h : ∀ b : Ref Cert.ReferenceIdeal.sig .tc, (Proc.devRef .tc b : DevRef Cert.ReferenceIdeal.τ Cert.ReferenceIdeal.sig).isScoped = false →
      s.mem ((c.tc : Thread Cert.ReferenceIdeal.nD Cert.ReferenceIdeal.τ).loc b) = Cert.RefProof.Last m c (Proc.devRef .tc b)) :
    s.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ s.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ s.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ s.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ s.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ s.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ s.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  ⟨(h Cert.ReferenceIdeal.main_arg0 rfl).trans (Cert.RefProof.Last_keeps m c (by decide) (by decide) (by decide) (by decide) (by decide) (by decide) (by decide)),
    (h Cert.ReferenceIdeal.main_arg1 rfl).trans (Cert.RefProof.Last_keeps m c (by decide) (by decide) (by decide) (by decide) (by decide) (by decide) (by decide)),
    (h Cert.ReferenceIdeal.main_arg2 rfl).trans (Cert.RefProof.Last_keeps m c (by decide) (by decide) (by decide) (by decide) (by decide) (by decide) (by decide)),
    (h Cert.ReferenceIdeal.main_arg3 rfl).trans (Cert.RefProof.Last_keeps m c (by decide) (by decide) (by decide) (by decide) (by decide) (by decide) (by decide)),
    (h Cert.ReferenceIdeal.main_arg4 rfl).trans (Cert.RefProof.Last_keeps m c (by decide) (by decide) (by decide) (by decide) (by decide) (by decide) (by decide)),
    (h Cert.ReferenceIdeal.main_arg5 rfl).trans (Cert.RefProof.Last_keeps m c (by decide) (by decide) (by decide) (by decide) (by decide) (by decide) (by decide)),
    (h Cert.ReferenceIdeal.main_arg6 rfl).trans (Cert.RefProof.Last_keeps m c (by decide) (by decide) (by decide) (by decide) (by decide) (by decide) (by decide))⟩

/-- The kernel runs at any reading of the floats, leaves its arguments and has every semaphore at zero. -/
theorem kernel_frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run Cert.KernelIdeal.defs _ _).mono (fun r h => ⟨fun c => kernel_args m c r.2 (h.1 c), h.2⟩) (Cert.Proof.run_main m g)

/-- The reference runs at any reading of the floats, leaves its arguments and has every semaphore at zero. -/
theorem ref_frame (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono (fun r h => ⟨fun c => ref_args m c r.2 (h.1 c), h.2⟩) (Cert.RefProof.run_ref m g)

end Cert.Frames

end
-- ==== Proof.Spec.lean ====
/- The mathematics of the scan's gradient, over the extended reals: chunk by chunk and head by head. -/
module

public import Mathlib.Data.EReal.Operations
public import Mathlib.Algebra.BigOperators.Fin

@[expose] public section

noncomputable section

namespace Cert.Spec

open Finset

/-- The arguments, by chunk, head and place in the chunk. -/
structure In where
  u : ℕ → Fin 8 → Fin 64 → Fin 128 → EReal
  w : ℕ → Fin 8 → Fin 64 → Fin 128 → EReal
  qd : ℕ → Fin 8 → Fin 64 → Fin 128 → EReal
  kd : ℕ → Fin 8 → Fin 64 → Fin 128 → EReal
  qk : ℕ → Fin 8 → Fin 64 → Fin 64 → EReal
  gl : ℕ → Fin 8 → EReal
  d : ℕ → Fin 8 → Fin 64 → Fin 128 → EReal

variable (A : In)

/-- What the rows of a chunk add to the state they meet: `u - w·S`. -/
def newV (n : ℕ) (S : Fin 8 → Fin 128 → Fin 128 → EReal) (h : Fin 8) (c : Fin 64) (e : Fin 128) : EReal :=
  A.u n h c e - ∑ k, A.w n h c k * S h k e

/-- The state before chunk `n`: zero, then `S·g + kdᵀ·(u - w·S)`. -/
def S : ℕ → Fin 8 → Fin 128 → Fin 128 → EReal
  | 0 => fun _ _ _ => 0
  | n + 1 => fun h k e => S n h k e * A.gl n h + ∑ c, A.kd n h c k * newV A n (S n) h c e

/-- The new values of chunk `n`. -/
abbrev vn (n : ℕ) : Fin 8 → Fin 64 → Fin 128 → EReal := newV A n (S A n)

/-- The gradient of the new values of chunk `n`, `D` the gradient of the state after it: `qkᵀ·do + kd·D`. -/
def gradV (n : ℕ) (D : Fin 8 → Fin 128 → Fin 128 → EReal) (h : Fin 8) (c : Fin 64) (e : Fin 128) : EReal :=
  (∑ s, A.qk n h s c * A.d n h s e) + ∑ k, A.kd n h c k * D h k e

/-- The gradient of the state after chunk `31 - t`, as the kernel sums it. -/
def D : ℕ → Fin 8 → Fin 128 → Fin 128 → EReal
  | 0 => fun _ _ _ => 0
  | t + 1 => fun h k e => ((∑ c, A.qd (31 - t) h c k * A.d (31 - t) h c e) - ∑ c, A.w (31 - t) h c k * gradV A (31 - t) (D t) h c e)
      + D t h k e * A.gl (31 - t) h

/-- The gradient of the new values at step `t`. -/
abbrev dv (t : ℕ) : Fin 8 → Fin 64 → Fin 128 → EReal := gradV A (31 - t) (D A t)

/-- The gradient of `w` at step `t`, as the kernel sums it. -/
def dw (t : ℕ) (h : Fin 8) (c : Fin 64) (k : Fin 128) : EReal := 0 - ∑ e, dv A t h c e * S A (31 - t) h k e
/-- The gradient of `qd` at step `t`. -/
def dqd (t : ℕ) (h : Fin 8) (c : Fin 64) (k : Fin 128) : EReal := ∑ e, A.d (31 - t) h c e * S A (31 - t) h k e
/-- The gradient of `kd` at step `t`. -/
def dkd (t : ℕ) (h : Fin 8) (c : Fin 64) (k : Fin 128) : EReal := ∑ e, vn A (31 - t) h c e * D A t h k e
/-- The gradient of `qk` at step `t`. -/
def dqk (t : ℕ) (h : Fin 8) (c s : Fin 64) : EReal := ∑ e, A.d (31 - t) h c e * vn A (31 - t) h s e
/-- The gradient of the decay at step `t`. -/
def dgl (t : ℕ) (h : Fin 8) : EReal := ∑ k, ∑ e, D A t h k e * S A (31 - t) h k e

/-! ## Real arguments give real values -/

/-- Neither infinity. -/
def Real (x : EReal) : Prop := ∃ r : ℝ, x = (r : EReal)

/-- Zero is real. -/
theorem Real.zero : Real 0 := ⟨0, rfl⟩
/-- A sum of two reals is real. -/
theorem Real.add {x y : EReal} (hx : Real x) (hy : Real y) : Real (x + y) := by
  obtain ⟨a, rfl⟩ := hx; obtain ⟨b, rfl⟩ := hy; exact ⟨a + b, (EReal.coe_add a b).symm⟩
/-- A product of two reals is real. -/
theorem Real.mul {x y : EReal} (hx : Real x) (hy : Real y) : Real (x * y) := by
  obtain ⟨a, rfl⟩ := hx; obtain ⟨b, rfl⟩ := hy; exact ⟨a * b, (EReal.coe_mul a b).symm⟩
/-- A difference of two reals is real. -/
theorem Real.sub {x y : EReal} (hx : Real x) (hy : Real y) : Real (x - y) := by
  obtain ⟨a, rfl⟩ := hx; obtain ⟨b, rfl⟩ := hy; exact ⟨a - b, (EReal.coe_sub a b).symm⟩
/-- A finite sum of reals is real. -/
theorem Real.sum {ι : Type} (s : Finset ι) {f : ι → EReal} (hf : ∀ i, Real (f i)) : Real (∑ i ∈ s, f i) := by
  classical
  induction s using Finset.induction_on with
  | empty => simpa using Real.zero
  | insert i s hi ih => rw [Finset.sum_insert hi]; exact (hf i).add ih

/-- The opposite of a sum of real terms is the sum of the opposites. -/
theorem sum_neg {ι : Type} (s : Finset ι) {f : ι → EReal} (hf : ∀ i, Real (f i)) : ∑ i ∈ s, -f i = -∑ i ∈ s, f i := by
  classical
  induction s using Finset.induction_on with
  | empty => simp
  | insert i s hi ih =>
    rw [Finset.sum_insert hi, Finset.sum_insert hi, ih]
    obtain ⟨a, ha⟩ := hf i
    obtain ⟨b, hb⟩ := Real.sum s hf
    rw [ha, hb, ← EReal.coe_add, ← EReal.coe_neg, ← EReal.coe_neg, ← EReal.coe_add, ← EReal.coe_neg, neg_add]

/-- Every argument is real. -/
structure Finite : Prop where
  u : ∀ n h c e, Real (A.u n h c e)
  w : ∀ n h c e, Real (A.w n h c e)
  qd : ∀ n h c e, Real (A.qd n h c e)
  kd : ∀ n h c e, Real (A.kd n h c e)
  qk : ∀ n h c e, Real (A.qk n h c e)
  gl : ∀ n h, Real (A.gl n h)
  d : ∀ n h c e, Real (A.d n h c e)

variable {A}

/-- The corrected values are real where the state is. -/
theorem real_newV (hA : Finite A) (n : ℕ) {T : Fin 8 → Fin 128 → Fin 128 → EReal} (hT : ∀ h k e, Real (T h k e)) (h : Fin 8) (c : Fin 64) (e : Fin 128) :
    Real (newV A n T h c e) := (hA.u n h c e).sub (Real.sum _ fun k => (hA.w n h c k).mul (hT h k e))
/-- The states are real. -/
theorem real_S (hA : Finite A) (n : ℕ) (h : Fin 8) (k e : Fin 128) : Real (S A n h k e) := by
  induction n generalizing h k e with
  | zero => exact Real.zero
  | succ n ih => exact ((ih h k e).mul (hA.gl n h)).add (Real.sum _ fun c => (hA.kd n h c k).mul (real_newV hA n ih h c e))
/-- The gradient of the corrected values is real where the gradient of the state is. -/
theorem real_gradV (hA : Finite A) (n : ℕ) {T : Fin 8 → Fin 128 → Fin 128 → EReal} (hT : ∀ h k e, Real (T h k e)) (h : Fin 8) (c : Fin 64) (e : Fin 128) :
    Real (gradV A n T h c e) :=
  (Real.sum _ fun s => (hA.qk n h s c).mul (hA.d n h s e)).add (Real.sum _ fun k => (hA.kd n h c k).mul (hT h k e))
/-- The states' gradients are real. -/
theorem real_D (hA : Finite A) (t : ℕ) (h : Fin 8) (k e : Fin 128) : Real (D A t h k e) := by
  induction t generalizing h k e with
  | zero => exact Real.zero
  | succ t ih =>
    exact ((Real.sum _ fun c => (hA.qd _ h c k).mul (hA.d _ h c e)).sub (Real.sum _ fun c => (hA.w _ h c k).mul (real_gradV hA _ ih h c e))).add
      ((ih h k e).mul (hA.gl _ h))

/-! ## The gradient as the chain rule writes it -/

variable (A)

/-- The gradient of the state after chunk `31 - t`, as the chain rule sums it: `(D·g + qdᵀ·do) + wᵀ·(-dv)`. -/
def D' : ℕ → Fin 8 → Fin 128 → Fin 128 → EReal
  | 0 => fun _ _ _ => 0
  | t + 1 => fun h k e => (D' t h k e * A.gl (31 - t) h + ∑ c, A.d (31 - t) h c e * A.qd (31 - t) h c k)
      + ∑ c, -gradV A (31 - t) (D' t) h c e * A.w (31 - t) h c k
/-- The gradient of `w` at step `t`, as the chain rule sums it. -/
def dw' (t : ℕ) (h : Fin 8) (c : Fin 64) (k : Fin 128) : EReal := ∑ e, -gradV A (31 - t) (D' A t) h c e * S A (31 - t) h k e

variable {A}

/-- The two sums of the state's gradient agree. -/
theorem D'_eq (hA : Finite A) (t : ℕ) : D' A t = D A t := by
  induction t with
  | zero => rfl
  | succ t ih =>
    funext h k e
    rw [D', D, ih]
    dsimp only
    have h1 : ∑ c, -gradV A (31 - t) (D A t) h c e * A.w (31 - t) h c k = -∑ c, A.w (31 - t) h c k * gradV A (31 - t) (D A t) h c e := by
      rw [← sum_neg _ fun c => (hA.w _ h c k).mul (real_gradV hA _ (real_D hA t) h c e)]
      exact Finset.sum_congr rfl fun c _ => by rw [EReal.neg_mul, EReal.mul_comm]
    have h2 : ∑ c, A.d (31 - t) h c e * A.qd (31 - t) h c k = ∑ c, A.qd (31 - t) h c k * A.d (31 - t) h c e :=
      Finset.sum_congr rfl fun c _ => EReal.mul_comm _ _
    rw [h1, h2, sub_eq_add_neg, add_assoc, add_comm]

/-- The two sums of the gradient of `w` agree. -/
theorem dw'_eq (hA : Finite A) (t : ℕ) (h : Fin 8) (c : Fin 64) (k : Fin 128) : dw' A t h c k = dw A t h c k := by
  rw [dw', dw, D'_eq hA, zero_sub, ← sum_neg _ fun e => (real_gradV hA _ (real_D hA t) h c e).mul (real_S hA _ h k e)]
  exact Finset.sum_congr rfl fun e _ => EReal.neg_mul _ _

end Cert.Spec

end
-- ==== Proof.KerBlock.lean ====
/- The blocks the bodies leave, read at an index over the extended reals. -/
module

public import proofs.«01_k».proof.Proof.Block
public import proofs.«01_k».proof.Proof.Spec
public import Idealize.ShloMosaic.Lib.Pointwise
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe

/-- Column `e` of head `h`. -/
abbrev col (h : Fin 8) (e : Fin 128) : Fin 1024 := ⟨128 * h.val + e.val, by omega⟩

/-- The columns of head `h` cut out of a block of rows. -/
theorem cut_apply (x : Vec Ideal S64x1024 .f32) (h : Fin 8) (c : Fin 64) (e : Fin 128) : cut x h (ix2 c e) = x (ix2 c (col h e)) := by
  unfold cut
  pointwise
  blk_ext
/-- The square of head `h` cut out of a block of squares. -/
theorem cutQ_apply (x : Vec Ideal S1x8x64x64 .f32) (h : Fin 8) (a c : Fin 64) : sqQ (cutQ x h) (ix2 a c) = x (ix4 0 h a c) := by
  unfold sqQ cutQ
  pointwise
  blk_ext
/-- The decay of head `h` cut out of a block of decays. -/
theorem cutE_apply (x : Vec Ideal S1x8x8x128 .f32) (h : Fin 8) (e : Fin 128) : cutE x h (ix4 0 0 0 e) = x (ix4 0 h 0 e) := by
  unfold cutE
  pointwise
  blk_ext
/-- The saved state of head `h` cut out of a block of states. -/
theorem cutS_apply (x : Vec Ideal S1x8x128x128 .f32) (h : Fin 8) (k e : Fin 128) : sq4 (cutS x h) (ix2 k e) = x (ix4 0 h k e) := by
  unfold sq4 cutS
  pointwise
  blk_ext
/-- The state of head `h` read from the carried states. -/
theorem rowS_apply (x : Vec Ideal S8x128x128 .f32) (h : Fin 8) (k e : Fin 128) : sq (rowS x h) (ix2 k e) = x (ix3 h k e) := by
  unfold sq rowS
  pointwise
  blk_ext

/-- An entry of rows times a state. -/
theorem mulState_apply (a : FVec Ideal S64x128 .f32) (b : FVec Ideal S128x128 .f32) (c : Fin 64) (e : Fin 128) :
    mulState a b (ix2 c e) = ∑ k : Fin 128, a (ix2 c k) * b (ix2 k e) := by
  unfold mulState
  pointwise
/-- An entry of rows times the transpose of a state. -/
theorem mulStateT_apply (a : FVec Ideal S64x128 .f32) (b : FVec Ideal S128x128 .f32) (c : Fin 64) (k : Fin 128) :
    mulStateT a b (ix2 c k) = ∑ e : Fin 128, a (ix2 c e) * b (ix2 k e) := by
  unfold mulStateT
  pointwise
/-- An entry of the transpose of rows times rows: a sum over the positions of the chunk. -/
theorem outer_apply (a b : FVec Ideal S64x128 .f32) (k e : Fin 128) :
    outer a b (ix2 k e) = ∑ c : Fin 64, a (ix2 c k) * b (ix2 c e) := by
  unfold outer
  pointwise
/-- An entry of the transpose of a square times rows. -/
theorem mulSquareT_apply (q : FVec Ideal S64x64 .f32) (b : FVec Ideal S64x128 .f32) (c : Fin 64) (e : Fin 128) :
    mulSquareT q b (ix2 c e) = ∑ a : Fin 64, q (ix2 a c) * b (ix2 a e) := by
  unfold mulSquareT
  pointwise
/-- An entry of rows times the transpose of rows: the products of two positions. -/
theorem inner_apply (a b : FVec Ideal S64x128 .f32) (c e : Fin 64) :
    inner a b (ix2 c e) = ∑ k : Fin 128, a (ix2 c k) * b (ix2 e k) := by
  unfold inner
  pointwise
/-- A state scaled by the decay of its head. -/
theorem scaled_apply (a : FVec Ideal S128x128 .f32) (x : Vec Ideal S1x1x1x128 .f32) (k e : Fin 128) :
    scaled a x (ix2 k e) = a (ix2 k e) * x (ix4 0 0 0 e) := by
  unfold scaled
  pointwise
/-- The sum of all products of two states, in every place of the block that holds it. -/
theorem total_apply (a b : FVec Ideal S128x128 .f32) (i : Fin 8) (j : Fin 128) :
    total a b (ix4 0 0 i j) = ∑ k : Fin 128, ∑ e : Fin 128, a (ix2 k e) * b (ix2 k e) := by
  unfold total
  pointwise

/-- An entry of a square times rows. -/
theorem mulSquare_apply (q : FVec Ideal S64x64 .f32) (b : FVec Ideal S64x128 .f32) (c : Fin 64) (e : Fin 128) :
    mulSquare q b (ix2 c e) = ∑ a : Fin 64, q (ix2 c a) * b (ix2 a e) := by
  unfold mulSquare
  pointwise

/-! ## Blocks that hold given values -/

/-- A block of 64 rows holds `f` head by head. -/
abbrev IsCols (x : Vec Ideal S64x1024 .f32) (f : Fin 8 → Fin 64 → Fin 128 → EReal) : Prop := ∀ h c e, x (ix2 c (col h e)) = f h c e
/-- A block of chunk-by-chunk squares holds `f`. -/
abbrev IsSquares (x : Vec Ideal S1x8x64x64 .f32) (f : Fin 8 → Fin 64 → Fin 64 → EReal) : Prop := ∀ h a c, x (ix4 0 h a c) = f h a c
/-- A block of decays holds `f`, one number per head. -/
abbrev IsDecays (x : Vec Ideal S1x8x8x128 .f32) (f : Fin 8 → EReal) : Prop := ∀ h i e, x (ix4 0 h i e) = f h
/-- A block of saved states holds `f`. -/
abbrev IsStates (x : Vec Ideal S1x8x128x128 .f32) (f : Fin 8 → Fin 128 → Fin 128 → EReal) : Prop := ∀ h k e, x (ix4 0 h k e) = f h k e
/-- The carried state holds `f`. -/
abbrev IsRows (x : Vec Ideal S8x128x128 .f32) (f : Fin 8 → Fin 128 → Fin 128 → EReal) : Prop := ∀ h k e, x (ix3 h k e) = f h k e

/-- The heads put side by side, read at a column of head `h`. -/
theorem cols_apply {α : Type} (p : Fin 8 → S64x128.Idx → α) (h : Fin 8) (c : Fin 64) (e : Fin 128) : cols p (ix2 c (col h e)) = p h (ix2 c e) := by
  have h1 : (⟨(128 * h.val + e.val) / 128, by omega⟩ : Fin 8) = h := Fin.ext (by show (128 * h.val + e.val) / 128 = h.val; omega)
  have h2 : (⟨(128 * h.val + e.val) % 128, Nat.mod_lt _ (by decide)⟩ : Fin 128) = e := Fin.ext (by show (128 * h.val + e.val) % 128 = e.val; omega)
  show p ⟨(128 * h.val + e.val) / 128, _⟩ (ix2 c ⟨(128 * h.val + e.val) % 128, _⟩) = _
  rw [h1, h2]

/-- The carried state at the start is zero. -/
theorem rows_zero : IsRows (rows fun _ => zeroRow) (fun _ _ _ => 0) := fun h k e => by
  show zeroRow (F := Ideal) (ix3 0 k e) = 0
  unfold zeroRow
  pointwise

section
variable (A : Spec.In) (n : ℕ) {u w qd kd d : Vec Ideal S64x1024 .f32} {qk : Vec Ideal S1x8x64x64 .f32} {g : Vec Ideal S1x8x8x128 .f32}
  {st : Vec Ideal S1x8x128x128 .f32} {s : Vec Ideal S8x128x128 .f32} {T D : Fin 8 → Fin 128 → Fin 128 → EReal}

/-- The corrected values of head `h`, from a block and a state. -/
theorem newV_apply (hu : IsCols u (A.u n)) (hw : IsCols w (A.w n)) (h : Fin 8) (S : FVec Ideal S128x128 .f32) (hS : ∀ k e, S (ix2 k e) = T h k e) (c : Fin 64) (e : Fin 128) :
    newV (cut u h) (cut w h) S (ix2 c e) = Spec.newV A n T h c e := by
  show cut u h (ix2 c e) - mulState (cut w h) S (ix2 c e) = _
  rw [cut_apply, hu, mulState_apply, Spec.newV]
  simp only [cut_apply, hS, hw h]

/-- The gradient of the corrected values of head `h`, from a block and the gradient of the state. -/
theorem gradV_apply (hqk : IsSquares qk (A.qk n)) (hkd : IsCols kd (A.kd n)) (hd : IsCols d (A.d n)) (hs : IsRows s D) (h : Fin 8) (c : Fin 64) (e : Fin 128) :
    gradV (sqQ (cutQ qk h)) (cut kd h) (cut d h) (sq (rowS s h)) (ix2 c e) = Spec.gradV A n D h c e := by
  show mulSquareT _ _ (ix2 c e) + mulState _ _ (ix2 c e) = _
  rw [mulSquareT_apply, mulState_apply, Spec.gradV]
  simp only [cut_apply, cutQ_apply, rowS_apply, hqk h, hkd h, hd h, hs h]

/-- The state the forward body leaves. -/
theorem fwdS_apply (hu : IsCols u (A.u n)) (hw : IsCols w (A.w n)) (hkd : IsCols kd (A.kd n)) (hg : IsDecays g (A.gl n)) (hs : IsRows s T) :
    IsRows (fwdS u w kd g (rowS s)) (fun h k e => T h k e * A.gl n h + ∑ c, A.kd n h c k * Spec.newV A n T h c e) := fun h k e => by
  show fwdSh u w kd g (rowS s) h (ix3 0 k e) = _
  unfold fwdSh
  pointwise
  rw [scaled_apply, outer_apply, rowS_apply, cutE_apply, hs, hg]
  simp only [cut_apply, hkd h, newV_apply A n hu hw h _ (fun k e => (rowS_apply s h k e).trans (hs h k e))]

/-- The block of saved states the forward body leaves. -/
theorem fwdSt_apply (hs : IsRows s T) : IsStates (fwdSt (rowS s)) T := fun h k e => by
  show fwdSth (rowS s) h (ix4 0 0 k e) = _
  unfold fwdSth
  pointwise
  rw [rowS_apply, hs]

/-- The gradient of `u`. -/
theorem bwdU_apply (hqk : IsSquares qk (A.qk n)) (hkd : IsCols kd (A.kd n)) (hd : IsCols d (A.d n)) (hs : IsRows s D) :
    IsCols (bwdU kd d qk (rowS s)) (Spec.gradV A n D) := fun h c e => by
  unfold bwdU
  rw [cols_apply]
  exact gradV_apply A n hqk hkd hd hs h c e

/-- The gradient of `w`. -/
theorem bwdW_apply (hqk : IsSquares qk (A.qk n)) (hkd : IsCols kd (A.kd n)) (hd : IsCols d (A.d n)) (hst : IsStates st T) (hs : IsRows s D) :
    IsCols (bwdW kd d qk st (rowS s)) (fun h c k => 0 - ∑ e, Spec.gradV A n D h c e * T h k e) := fun h c e => by
  unfold bwdW
  rw [cols_apply]
  unfold bwdWh
  pointwise
  rw [mulStateT_apply]
  simp only [cutS_apply, hst h, gradV_apply A n hqk hkd hd hs h]

/-- The gradient of `qd`. -/
theorem bwdQd_apply (hd : IsCols d (A.d n)) (hst : IsStates st T) : IsCols (bwdQd d st) (fun h c k => ∑ e, A.d n h c e * T h k e) := fun h c k => by
  unfold bwdQd
  rw [cols_apply]
  unfold bwdQdh
  rw [mulStateT_apply]
  simp only [cutS_apply, cut_apply, hst h, hd h]

/-- The gradient of `kd`. -/
theorem bwdKd_apply (hu : IsCols u (A.u n)) (hw : IsCols w (A.w n)) (hst : IsStates st T) (hs : IsRows s D) :
    IsCols (bwdKd u w st (rowS s)) (fun h c k => ∑ e, Spec.newV A n T h c e * D h k e) := fun h c k => by
  unfold bwdKd
  rw [cols_apply]
  unfold bwdKdh
  rw [mulStateT_apply]
  simp only [rowS_apply, hs h, newV_apply A n hu hw h _ (fun k e => (cutS_apply st h k e).trans (hst h k e))]

/-- The gradient of `qk`. -/
theorem bwdQk_apply (hu : IsCols u (A.u n)) (hw : IsCols w (A.w n)) (hd : IsCols d (A.d n)) (hst : IsStates st T) :
    IsSquares (bwdQk u w d st) (fun h c a => ∑ e, A.d n h c e * Spec.newV A n T h a e) := fun h c a => by
  show bwdQkh u w d st h (ix4 0 0 c a) = _
  unfold bwdQkh
  pointwise
  rw [inner_apply]
  simp only [cut_apply, hd h, newV_apply A n hu hw h _ (fun k e => (cutS_apply st h k e).trans (hst h k e))]

/-- The gradient of the decays. -/
theorem bwdG_apply (hst : IsStates st T) (hs : IsRows s D) : IsDecays (bwdG st (rowS s)) (fun h => ∑ k, ∑ e, D h k e * T h k e) := fun h i j => by
  show bwdGh st (rowS s) h (ix4 0 0 i j) = _
  unfold bwdGh
  rw [total_apply]
  simp only [rowS_apply, cutS_apply, hs h, hst h]

/-- The gradient of the state the backward body leaves. -/
theorem bwdS_apply (hw : IsCols w (A.w n)) (hqd : IsCols qd (A.qd n)) (hqk : IsSquares qk (A.qk n)) (hkd : IsCols kd (A.kd n)) (hd : IsCols d (A.d n))
    (hg : IsDecays g (A.gl n)) (hs : IsRows s D) :
    IsRows (bwdS w qd kd d qk g (rowS s)) (fun h k e => ((∑ c, A.qd n h c k * A.d n h c e) - ∑ c, A.w n h c k * Spec.gradV A n D h c e) + D h k e * A.gl n h) :=
  fun h k e => by
  show bwdSh w qd kd d qk g (rowS s) h (ix3 0 k e) = _
  unfold bwdSh
  pointwise
  rw [scaled_apply, outer_apply, outer_apply, rowS_apply, cutE_apply, hs, hg]
  simp only [cut_apply, hw h, hqd h, hd h, gradV_apply A n hqk hkd hd hs h]

end

end Cert.Proof
end
-- ==== Proof.KerVal.lean ====
/- What the kernel's arrays hold at the end, over the extended reals. -/
module

public import proofs.«01_k».proof.Proof.KerBlock
public import proofs.«01_k».proof.Proof.Run
public import Idealize.ShloMosaic.Lib.StableHlo.ReadAt

@[expose] public section

set_option maxRecDepth 16384

noncomputable section

namespace Cert.Spec

open Idealize.ShloMosaic

/-- Row `c` of chunk `n`. -/
abbrev row (n : ℕ) (c : Fin 64) : Fin 2048 := ⟨(64 * n + c.val) % 2048, Nat.mod_lt _ (by decide)⟩
/-- Chunk `n`. -/
abbrev chunk (n : ℕ) : Fin 32 := ⟨n % 32, Nat.mod_lt _ (by decide)⟩

/-- The arguments by chunk, head and place, from the arrays. -/
def inOf (u w qd kd : (⟨2, ![2048, 1024]⟩ : Shape).Idx → EReal) (qk : (⟨4, ![32, 8, 64, 64]⟩ : Shape).Idx → EReal) (gl : (⟨2, ![32, 8]⟩ : Shape).Idx → EReal)
    (d : (⟨2, ![2048, 1024]⟩ : Shape).Idx → EReal) : In where
  u n h c e := u (ix2 (row n c) (Cert.Proof.col h e))
  w n h c e := w (ix2 (row n c) (Cert.Proof.col h e))
  qd n h c e := qd (ix2 (row n c) (Cert.Proof.col h e))
  kd n h c e := kd (ix2 (row n c) (Cert.Proof.col h e))
  qk n h a c := qk (ix4 (chunk n) h a c)
  gl n h := gl (ix2 (chunk n) h)
  d n h c e := d (ix2 (row n c) (Cert.Proof.col h e))

/-- The array of rows that holds `f`, by chunk, head and place. -/
def colsOf (f : ℕ → Fin 8 → Fin 64 → Fin 128 → EReal) : (⟨2, ![2048, 1024]⟩ : Shape).Idx → EReal := fun y =>
  f ((y 0).val / 64) ⟨(y 1).val / 128, by have : (y 1).val < 1024 := (y 1).isLt; omega⟩ ⟨(y 0).val % 64, Nat.mod_lt _ (by decide)⟩
    ⟨(y 1).val % 128, Nat.mod_lt _ (by decide)⟩

/-- The whole array of columns, at the place of chunk `n`, head `h`, position `c` and feature `e`. -/
theorem colsOf_at (f : ℕ → Fin 8 → Fin 64 → Fin 128 → EReal) (z : (⟨2, ![2048, 1024]⟩ : Shape).Idx) (n : ℕ) (h : Fin 8) (c : Fin 64) (e : Fin 128)
    (h0 : (z 0).val = 64 * n + c.val) (h1 : (z 1).val = 128 * h.val + e.val) : colsOf f z = f n h c e := by
  unfold colsOf
  congr 1
  · omega
  · exact Fin.ext (by show (z 1).val / 128 = h.val; omega)
  · exact Fin.ext (by show (z 0).val % 64 = c.val; omega)
  · exact Fin.ext (by show (z 1).val % 128 = e.val; omega)

/-- The array that holds `f`, by chunk, head and two more coordinates. -/
def fourOf {p q : ℕ} (f : ℕ → Fin 8 → Fin p → Fin q → EReal) : (⟨4, ![32, 8, p, q]⟩ : Shape).Idx → EReal := fun y => f (y 0).val (y 1) (y 2) (y 3)

/-- The whole array of squares or states, at the place of chunk `n` and head `h`. -/
theorem fourOf_at {p q : ℕ} (f : ℕ → Fin 8 → Fin p → Fin q → EReal) (z : (⟨4, ![32, 8, p, q]⟩ : Shape).Idx) (n : ℕ) (h : Fin 8) (a : Fin p) (b : Fin q)
    (h0 : (z 0).val = n) (h1 : (z 1).val = h.val) (h2 : (z 2).val = a.val) (h3 : (z 3).val = b.val) : fourOf f z = f n h a b := by
  unfold fourOf
  rw [h0, show z 1 = h from Fin.ext h1, show z 2 = a from Fin.ext h2, show z 3 = b from Fin.ext h3]

end Cert.Spec

namespace Cert.Proof

open Cert.KernelIdeal Cert.KernelIdeal.Gen
open Idealize.ShloMosaic Idealize.ShloMosaic.TcCoe
open Cert.Spec (row chunk)

variable (m : (ℓ : Loc nD τ sig) → Buf (Elt Ideal) ℓ) (c : Dev nD)

/-- The kernel's arguments. -/
def args : Spec.In := Spec.inOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- Every column of a block is a feature of some head. -/
theorem exists_col (y : S64x1024.Idx) : ∃ (h : Fin 8) (a : Fin 64) (e : Fin 128), y = ix2 a (col h e) := by
  have h1 : (y 1).val < 1024 := (y 1).isLt
  refine ⟨⟨(y 1).val / 128, by omega⟩, y 0, ⟨(y 1).val % 128, Nat.mod_lt _ (by decide)⟩, ?_⟩
  refine (eq_ix2 y).trans ?_
  congr 1
  exact Fin.ext (Nat.div_add_mod _ 128).symm

/-- The decays the regions read: each number at every place of an eight by 128 block. -/
theorem B1_g (n : Fin 32) (h i : Fin 8) (e : Fin 128) :
    B1 m c main_v1 (ix4 n h i e) = m ((c : Thread nD τ).loc main_arg5) (ix2 n h) := by
  show StableHlo.after hostOps0 _ _ _ = _
  unfold hostOps0
  after_reads_at

namespace R0

/-- The blocks of a point are the chunk's. -/
theorem idx : ∀ t : Fin grid0.N, win0_0.index t = ![t.val, 0] ∧ win0_1.index t = ![t.val, 0] ∧ win0_2.index t = ![t.val, 0] ∧ win0_3.index t = ![t.val, 0]
    ∧ win0_4.index t = ![t.val, 0, 0, 0] ∧ win0_5.index t = ![t.val, 0, 0, 0] ∧ win0_7.index t = ![t.val, 0, 0, 0] ∧ t.val < 32 := by decide +kernel

/-- A grid point is one of thirty-two chunks. -/
theorem lt (t : Fin grid0.N) : t.val < 32 := (by decide +kernel : ∀ t : Fin grid0.N, t.val < 32) t

/-- The block of `u` that a grid point reads is its chunk of the argument. -/
theorem u_is (t : Fin cfg0.N) : IsCols (R0.u (B1 m) c t) ((args m c).u (t.val)) := fun h a e => by
  have ht := lt t
  show B1 m c main_arg0 _ = m ((c : Thread nD τ).loc main_arg0) _
  rw [B1_of m c _ (by decide)]
  refine congrArg _ ?_
  blk_ext [idx t]

/-- The block of `w` that a grid point reads is its chunk of the argument. -/
theorem w_is (t : Fin cfg0.N) : IsCols (R0.w (B1 m) c t) ((args m c).w (t.val)) := fun h a e => by
  have ht := lt t
  show B1 m c main_arg1 _ = m ((c : Thread nD τ).loc main_arg1) _
  rw [B1_of m c _ (by decide)]
  refine congrArg _ ?_
  blk_ext [idx t]

/-- The block of `qd` that a grid point reads is its chunk of the argument. -/
theorem qd_is (t : Fin cfg0.N) : IsCols (R0.qd (B1 m) c t) ((args m c).qd (t.val)) := fun h a e => by
  have ht := lt t
  show B1 m c main_arg2 _ = m ((c : Thread nD τ).loc main_arg2) _
  rw [B1_of m c _ (by decide)]
  refine congrArg _ ?_
  blk_ext [idx t]

/-- The block of `kd` that a grid point reads is its chunk of the argument. -/
theorem kd_is (t : Fin cfg0.N) : IsCols (R0.kd (B1 m) c t) ((args m c).kd (t.val)) := fun h a e => by
  have ht := lt t
  show B1 m c main_arg3 _ = m ((c : Thread nD τ).loc main_arg3) _
  rw [B1_of m c _ (by decide)]
  refine congrArg _ ?_
  blk_ext [idx t]

/-- The block of `qk` that a grid point reads is its chunk of the argument. -/
theorem qk_is (t : Fin cfg0.N) : IsSquares (R0.qk (B1 m) c t) ((args m c).qk (t.val)) := fun h a e => by
  have ht := lt t
  show B1 m c main_arg4 _ = m ((c : Thread nD τ).loc main_arg4) _
  rw [B1_of m c _ (by decide)]
  refine congrArg _ ?_
  blk_ext [idx t]

/-- The block of decays that a grid point reads is its chunk of the argument. -/
theorem g_is (t : Fin cfg0.N) : IsDecays (R0.g (B1 m) c t) ((args m c).gl (t.val)) := fun h i e => by
  have ht := lt t
  show B1 m c main_v1 _ = m ((c : Thread nD τ).loc main_arg5) _
  refine Eq.trans (congrArg _ ?_) (B1_g m c (chunk (t.val)) h i e)
  blk_ext [idx t]

/-- What is carried to point `n` is the state before chunk `n`. -/
theorem carry_is (n : ℕ) (hn : n ≤ 32) : IsRows (R0.carry (B1 m) c n) (Spec.S (args m c) n) := by
  induction n with
  | zero => exact rows_zero
  | succ n ih =>
    have hN : n < cfg0.N := by have : cfg0.N = 32 := by decide +kernel
                               omega
    rw [R0.carry_succ (B1 m) c ⟨n, hN⟩]
    exact fwdS_apply _ n (u_is m c ⟨n, hN⟩) (w_is m c ⟨n, hN⟩) (kd_is m c ⟨n, hN⟩) (g_is m c ⟨n, hN⟩) (ih (by omega))

/-- The array of states holds, at chunk `n`, the state before it. -/
theorem states_eq : (R0.dat (B1 m) c).arrAt 7 cfg0.N = Spec.fourOf (Spec.S (args m c)) := by
  refine (R0.dat (B1 m) c).arrAt_eq_of_covers 7 _ (by decide +kernel) fun t hf y => ?_
  have ht := lt t
  blk_simp
  obtain ⟨a0, a1, a2, a3, rfl⟩ : ∃ (a0 : Fin 1) (a1 : Fin 8) (a2 a3 : Fin 128), y = ix4 a0 a1 a2 a3 := ⟨y 0, y 1, y 2, y 3, eq_ix4 y⟩
  obtain rfl : a0 = 0 := Subsingleton.elim _ _
  refine (fwdSt_apply (carry_is m c t.val ht.le) a1 a2 a3).trans (Spec.fourOf_at _ _ _ _ _ _ ?_ ?_ ?_ ?_).symm
  all_goals blk_simp [idx t]
  all_goals omega

end R0

namespace R1

/-- The blocks of a point are the chunk's, the last chunk first. -/
theorem idx : ∀ t : Fin grid1.N, win1_0.index t = ![31 - t.val, 0] ∧ win1_1.index t = ![31 - t.val, 0] ∧ win1_2.index t = ![31 - t.val, 0] ∧ win1_3.index t = ![31 - t.val, 0]
    ∧ win1_4.index t = ![31 - t.val, 0, 0, 0] ∧ win1_5.index t = ![31 - t.val, 0, 0, 0] ∧ win1_6.index t = ![31 - t.val, 0, 0, 0] ∧ win1_7.index t = ![31 - t.val, 0]
    ∧ win1_8.index t = ![31 - t.val, 0] ∧ win1_9.index t = ![31 - t.val, 0] ∧ win1_10.index t = ![31 - t.val, 0] ∧ win1_11.index t = ![31 - t.val, 0]
    ∧ win1_12.index t = ![31 - t.val, 0, 0, 0] ∧ win1_13.index t = ![31 - t.val, 0, 0, 0] := by decide +kernel

/-- A grid point is one of thirty-two chunks. -/
theorem lt (t : Fin grid1.N) : t.val < 32 := (by decide +kernel : ∀ t : Fin grid1.N, t.val < 32) t

/-- The block of `u` that a grid point reads is its chunk of the argument. -/
theorem u_is (t : Fin cfg1.N) : IsCols (R1.u (B2 m) c t) ((args m c).u (31 - t.val)) := fun h a e => by
  have ht := lt t
  show B2 m c main_arg0 _ = m ((c : Thread nD τ).loc main_arg0) _
  rw [B2_of m c _ (by decide) (by decide), B1_of m c _ (by decide)]
  refine congrArg _ ?_
  blk_ext [idx t]

/-- The block of `w` that a grid point reads is its chunk of the argument. -/
theorem w_is (t : Fin cfg1.N) : IsCols (R1.w (B2 m) c t) ((args m c).w (31 - t.val)) := fun h a e => by
  have ht := lt t
  show B2 m c main_arg1 _ = m ((c : Thread nD τ).loc main_arg1) _
  rw [B2_of m c _ (by decide) (by decide), B1_of m c _ (by decide)]
  refine congrArg _ ?_
  blk_ext [idx t]

/-- The block of `qd` that a grid point reads is its chunk of the argument. -/
theorem qd_is (t : Fin cfg1.N) : IsCols (R1.qd (B2 m) c t) ((args m c).qd (31 - t.val)) := fun h a e => by
  have ht := lt t
  show B2 m c main_arg2 _ = m ((c : Thread nD τ).loc main_arg2) _
  rw [B2_of m c _ (by decide) (by decide), B1_of m c _ (by decide)]
  refine congrArg _ ?_
  blk_ext [idx t]

/-- The block of `kd` that a grid point reads is its chunk of the argument. -/
theorem kd_is (t : Fin cfg1.N) : IsCols (R1.kd (B2 m) c t) ((args m c).kd (31 - t.val)) := fun h a e => by
  have ht := lt t
  show B2 m c main_arg3 _ = m ((c : Thread nD τ).loc main_arg3) _
  rw [B2_of m c _ (by decide) (by decide), B1_of m c _ (by decide)]
  refine congrArg _ ?_
  blk_ext [idx t]

/-- The block of `d` that a grid point reads is its chunk of the argument. -/
theorem d_is (t : Fin cfg1.N) : IsCols (R1.d (B2 m) c t) ((args m c).d (31 - t.val)) := fun h a e => by
  have ht := lt t
  show B2 m c main_arg6 _ = m ((c : Thread nD τ).loc main_arg6) _
  rw [B2_of m c _ (by decide) (by decide), B1_of m c _ (by decide)]
  refine congrArg _ ?_
  blk_ext [idx t]

/-- The block of `qk` that a grid point reads is its chunk of the argument. -/
theorem qk_is (t : Fin cfg1.N) : IsSquares (R1.qk (B2 m) c t) ((args m c).qk (31 - t.val)) := fun h a e => by
  have ht := lt t
  show B2 m c main_arg4 _ = m ((c : Thread nD τ).loc main_arg4) _
  rw [B2_of m c _ (by decide) (by decide), B1_of m c _ (by decide)]
  refine congrArg _ ?_
  blk_ext [idx t]

/-- The block of decays that a grid point reads is its chunk of the argument. -/
theorem g_is (t : Fin cfg1.N) : IsDecays (R1.g (B2 m) c t) ((args m c).gl (31 - t.val)) := fun h i e => by
  have ht := lt t
  show B2 m c main_v1 _ = m ((c : Thread nD τ).loc main_arg5) _
  rw [B2_of m c _ (by decide) (by decide)]
  refine Eq.trans (congrArg _ ?_) (B1_g m c (chunk (31 - t.val)) h i e)
  blk_ext [idx t]

/-- What is carried to point `t` is the gradient of the state after chunk `31 - t`. -/
theorem carry_is (n : ℕ) (hn : n ≤ 32) : IsRows (R1.carry (B2 m) c n) (Spec.D (args m c) n) := by
  induction n with
  | zero => exact rows_zero
  | succ n ih =>
    have hN : n < cfg1.N := by have : cfg1.N = 32 := by decide +kernel
                               omega
    rw [R1.carry_succ (B2 m) c ⟨n, hN⟩]
    exact bwdS_apply _ (31 - n) (w_is m c ⟨n, hN⟩) (qd_is m c ⟨n, hN⟩) (qk_is m c ⟨n, hN⟩) (kd_is m c ⟨n, hN⟩) (d_is m c ⟨n, hN⟩) (g_is m c ⟨n, hN⟩) (ih (by omega))

/-- The block of saved states of point `t` is the state before chunk `31 - t`. -/
theorem st_is (t : Fin cfg1.N) : IsStates (R1.st (B2 m) c t) (Spec.S (args m c) (31 - t.val)) := fun h k e => by
  have ht := lt t
  show B2 m c main_v2_1 _ = _
  rw [B2_st, R0.states_eq]
  refine Spec.fourOf_at _ _ _ _ _ _ ?_ ?_ ?_ ?_
  all_goals blk_simp [idx t]
  all_goals omega

/-- The gradient of `u`, as an array. -/
theorem du_eq : (R1.dat (B2 m) c).arrAt 8 cfg1.N = Spec.colsOf fun n => Spec.dv (args m c) (31 - n) := by
  refine (R1.dat (B2 m) c).arrAt_eq_of_covers 8 _ (by decide +kernel) fun t hf y => ?_
  have ht := lt t
  blk_simp
  obtain ⟨h, a, e, rfl⟩ := exists_col y
  refine Eq.trans (bwdU_apply (args m c) (31 - t.val) (qk_is m c t) (kd_is m c t) (d_is m c t) (carry_is m c t.val ht.le) h a e) (Eq.trans ?_ (Spec.colsOf_at _ _ (31 - t.val) h a e ?_ ?_).symm)
  · exact congrFun (congrFun (congrFun (congrArg (Spec.dv (args m c)) (by omega)) h) a) e
  all_goals blk_simp [idx t]
  all_goals omega

/-- The gradient of `w`, as an array. -/
theorem dw_eq : (R1.dat (B2 m) c).arrAt 9 cfg1.N = Spec.colsOf fun n => Spec.dw (args m c) (31 - n) := by
  refine (R1.dat (B2 m) c).arrAt_eq_of_covers 9 _ (by decide +kernel) fun t hf y => ?_
  have ht := lt t
  blk_simp
  obtain ⟨h, a, e, rfl⟩ := exists_col y
  refine Eq.trans (bwdW_apply (args m c) (31 - t.val) (qk_is m c t) (kd_is m c t) (d_is m c t) (st_is m c t) (carry_is m c t.val ht.le) h a e) (Eq.trans ?_ (Spec.colsOf_at _ _ (31 - t.val) h a e ?_ ?_).symm)
  · exact congrFun (congrFun (congrFun (congrArg (Spec.dw (args m c)) (by omega)) h) a) e
  all_goals blk_simp [idx t]
  all_goals omega

/-- The gradient of `qd`, as an array. -/
theorem dqd_eq : (R1.dat (B2 m) c).arrAt 10 cfg1.N = Spec.colsOf fun n => Spec.dqd (args m c) (31 - n) := by
  refine (R1.dat (B2 m) c).arrAt_eq_of_covers 10 _ (by decide +kernel) fun t hf y => ?_
  have ht := lt t
  blk_simp
  obtain ⟨h, a, e, rfl⟩ := exists_col y
  refine Eq.trans (bwdQd_apply (args m c) (31 - t.val) (d_is m c t) (st_is m c t) h a e) (Eq.trans ?_ (Spec.colsOf_at _ _ (31 - t.val) h a e ?_ ?_).symm)
  · exact congrFun (congrFun (congrFun (congrArg (Spec.dqd (args m c)) (by omega)) h) a) e
  all_goals blk_simp [idx t]
  all_goals omega

/-- The gradient of `kd`, as an array. -/
theorem dkd_eq : (R1.dat (B2 m) c).arrAt 11 cfg1.N = Spec.colsOf fun n => Spec.dkd (args m c) (31 - n) := by
  refine (R1.dat (B2 m) c).arrAt_eq_of_covers 11 _ (by decide +kernel) fun t hf y => ?_
  have ht := lt t
  blk_simp
  obtain ⟨h, a, e, rfl⟩ := exists_col y
  refine Eq.trans (bwdKd_apply (args m c) (31 - t.val) (u_is m c t) (w_is m c t) (st_is m c t) (carry_is m c t.val ht.le) h a e) (Eq.trans ?_ (Spec.colsOf_at _ _ (31 - t.val) h a e ?_ ?_).symm)
  · exact congrFun (congrFun (congrFun (congrArg (Spec.dkd (args m c)) (by omega)) h) a) e
  all_goals blk_simp [idx t]
  all_goals omega

/-- The gradient of `qk`, as an array. -/
theorem dqk_eq : (R1.dat (B2 m) c).arrAt 12 cfg1.N = Spec.fourOf fun n => Spec.dqk (args m c) (31 - n) := by
  refine (R1.dat (B2 m) c).arrAt_eq_of_covers 12 _ (by decide +kernel) fun t hf y => ?_
  have ht := lt t
  blk_simp
  obtain ⟨a0, a1, a2, a3, rfl⟩ : ∃ (a0 : Fin 1) (a1 : Fin 8) (a2 a3 : Fin 64), y = ix4 a0 a1 a2 a3 := ⟨y 0, y 1, y 2, y 3, eq_ix4 y⟩
  obtain rfl : a0 = 0 := Subsingleton.elim _ _
  refine Eq.trans (bwdQk_apply (args m c) (31 - t.val) (u_is m c t) (w_is m c t) (d_is m c t) (st_is m c t) a1 a2 a3)
    (Eq.trans ?_ (Spec.fourOf_at _ _ (31 - t.val) a1 a2 a3 ?_ ?_ ?_ ?_).symm)
  · exact congrFun (congrFun (congrFun (congrArg (Spec.dqk (args m c)) (by omega)) a1) a2) a3
  all_goals blk_simp [idx t]
  all_goals omega

/-- The gradient of the decays, as an array: one number per chunk and head. -/
theorem dgl_eq : (R1.dat (B2 m) c).arrAt 13 cfg1.N = Spec.fourOf (p := 8) (q := 128) fun n h _ _ => Spec.dgl (args m c) (31 - n) h := by
  refine (R1.dat (B2 m) c).arrAt_eq_of_covers 13 _ (by decide +kernel) fun t hf y => ?_
  have ht := lt t
  blk_simp
  obtain ⟨a0, a1, a2, a3, rfl⟩ : ∃ (a0 : Fin 1) (a1 a2 : Fin 8) (a3 : Fin 128), y = ix4 a0 a1 a2 a3 := ⟨y 0, y 1, y 2, y 3, eq_ix4 y⟩
  obtain rfl : a0 = 0 := Subsingleton.elim _ _
  refine Eq.trans (bwdG_apply (st_is m c t) (carry_is m c t.val ht.le) a1 a2 a3) (Eq.trans ?_ (Spec.fourOf_at _ _ (31 - t.val) a1 a2 a3 ?_ ?_ ?_ ?_).symm)
  · exact congrFun (congrArg (Spec.dgl (args m c)) (by omega)) a1
  all_goals blk_simp [idx t]
  all_goals omega

end R1

end Cert.Proof
end
-- ==== Proof.RefSlice.lean ====
/- Rows of a stack read and replaced at an index of the loop, entry by entry. -/
module

public import proofs.«01_k».proof.Proof.RefRun
public import Idealize.ShloMosaic.Lib.Pointwise
public import Idealize.ShloMosaic.Lib.DynamicIndex
public import Idealize.ShloMosaic.Lib.ValueLayout
public import Idealize.ShloMosaic.Lib.Pipeline.Value

@[expose] public section

set_option maxRecDepth 16384

noncomputable section

namespace Cert.RefProof

open Cert.ReferenceIdeal Cert.ReferenceIdeal.Gen
open Idealize.ShloMosaic Idealize.ShloMosaic.TcCoe
open Idealize.ShloMosaic.StableHlo

/-- A slice of one row of a stack, its leading axis dropped, at an index. -/
theorem slice_at {p q r : ℕ} (x : (⟨4, ![32, p, q, r]⟩ : Shape).Idx → EReal) (start : Fin 4 → Int)
    (h : (⟨4, ![32, p, q, r]⟩ : Shape).Slices (fun _ => 0) ⟨4, ![1, p, q, r]⟩) (k : ℕ) (hk : k < 32)
    (h0 : start 0 = k) (h1 : start 1 = 0) (h2 : start 2 = 0) (h3 : start 3 = 0)
    (hs : (⟨4, ![1, p, q, r]⟩ : Shape).ShapeCasts ⟨3, ![p, q, r]⟩) (a : Fin p) (b : Fin q) (c : Fin r) :
    shapeCast ⟨3, ![p, q, r]⟩ (Host.dynamicSlice ⟨4, ![1, p, q, r]⟩ x start h) hs (ix3 a b c) = x (ix4 ⟨k, hk⟩ a b c) := by
  have hoff : (⟨4, ![32, p, q, r]⟩ : Shape).Slices ![k, 0, 0, 0] ⟨4, ![1, p, q, r]⟩ := by
    refine ⟨rfl, fun a => ?_⟩
    fin_cases a <;> simp <;> omega
  rw [Host.dynamicSlice_eq_extractStridedSlice _ x start ![k, 0, 0, 0] h hoff (fun a => by fin_cases a <;> assumption)]
  refine (ValueIdx.shapeCast_1abc_abc_apply _ hs a b c).trans (congrArg x (funext fun i => ?_))
  fin_cases i <;> exact Fin.ext (by simp [ix4, ValueIdx.ix4])

/-- A slice of one row of a matrix, at an index. -/
theorem slice_at2 {p : ℕ} (x : (⟨2, ![32, p]⟩ : Shape).Idx → EReal) (start : Fin 2 → Int)
    (h : (⟨2, ![32, p]⟩ : Shape).Slices (fun _ => 0) ⟨2, ![1, p]⟩) (k : ℕ) (hk : k < 32)
    (h0 : start 0 = k) (h1 : start 1 = 0)
    (hs : (⟨2, ![1, p]⟩ : Shape).ShapeCasts ⟨1, ![p]⟩) (a : Fin p) :
    shapeCast ⟨1, ![p]⟩ (Host.dynamicSlice ⟨2, ![1, p]⟩ x start h) hs (ix1 a) = x (ix2 ⟨k, hk⟩ a) := by
  have hoff : (⟨2, ![32, p]⟩ : Shape).Slices ![k, 0] ⟨2, ![1, p]⟩ := by
    refine ⟨rfl, fun a => ?_⟩
    fin_cases a <;> simp <;> omega
  rw [Host.dynamicSlice_eq_extractStridedSlice _ x start ![k, 0] h hoff (fun a => by fin_cases a <;> assumption)]
  refine (ValueIdx.shapeCast_1a_a_apply _ hs a).trans (congrArg x (funext fun i => ?_))
  fin_cases i <;> exact Fin.ext (by simp [ix2, ValueIdx.ix2])

/-- A block under a new leading axis of extent one, at an index. -/
theorem lead_at {p q r : ℕ} (v : (⟨3, ![p, q, r]⟩ : Shape).Idx → EReal)
    (hb : (⟨3, ![p, q, r]⟩ : Shape).BroadcastsInDim ⟨4, ![1, p, q, r]⟩ ![1, 2, 3])
    (j : (⟨4, ![1, p, q, r]⟩ : Shape).Idx) (a : Fin p) (b : Fin q) (c : Fin r)
    (h1 : (j 1).val = a.val) (h2 : (j 2).val = b.val) (h3 : (j 3).val = c.val) :
    broadcastInDim ⟨4, ![1, p, q, r]⟩ ![1, 2, 3] hb v j = v (ix3 a b c) := by
  rw [Pointwise.broadcastInDim_apply]
  refine congrArg v (funext fun i => Fin.ext ?_)
  fin_cases i
  · show (if h : p = 1 then (⟨0, _⟩ : Fin p) else ⟨(j 1).val, _⟩).val = a.val
    split
    · show 0 = a.val
      omega
    · exact h1
  · show (if h : q = 1 then (⟨0, _⟩ : Fin q) else ⟨(j 2).val, _⟩).val = b.val
    split
    · show 0 = b.val
      omega
    · exact h2
  · show (if h : r = 1 then (⟨0, _⟩ : Fin r) else ⟨(j 3).val, _⟩).val = c.val
    split
    · show 0 = c.val
      omega
    · exact h3

/-- A row under a new leading axis of extent one, at an index. -/
theorem lead_at2 {p : ℕ} (v : (⟨1, ![p]⟩ : Shape).Idx → EReal)
    (hb : (⟨1, ![p]⟩ : Shape).BroadcastsInDim ⟨2, ![1, p]⟩ ![1])
    (j : (⟨2, ![1, p]⟩ : Shape).Idx) (a : Fin p) (h1 : (j 1).val = a.val) :
    broadcastInDim ⟨2, ![1, p]⟩ ![1] hb v j = v (ix1 a) := by
  rw [Pointwise.broadcastInDim_apply]
  refine congrArg v (funext fun i => Fin.ext ?_)
  fin_cases i
  show (if h : p = 1 then (⟨0, _⟩ : Fin p) else ⟨(j 1).val, _⟩).val = a.val
  split
  · show 0 = a.val
    omega
  · exact h1

/-- A stack with one row replaced, at an index. -/
theorem update_at {p q r : ℕ} (x : (⟨4, ![32, p, q, r]⟩ : Shape).Idx → EReal) (v : (⟨3, ![p, q, r]⟩ : Shape).Idx → EReal)
    (start : Fin 4 → Int)
    (h : (⟨4, ![32, p, q, r]⟩ : Shape).Slices (fun _ => 0) ⟨4, ![1, p, q, r]⟩) (k : ℕ) (hk : k < 32)
    (h0 : start 0 = k) (h1 : start 1 = 0) (h2 : start 2 = 0) (h3 : start 3 = 0)
    (hb : (⟨3, ![p, q, r]⟩ : Shape).BroadcastsInDim ⟨4, ![1, p, q, r]⟩ ![1, 2, 3]) (n : Fin 32) (a : Fin p) (b : Fin q) (c : Fin r) :
    Host.dynamicUpdateSlice x (broadcastInDim ⟨4, ![1, p, q, r]⟩ ![1, 2, 3] hb v) start h (ix4 n a b c)
      = if n.val = k then v (ix3 a b c) else x (ix4 n a b c) := by
  have hoff : (⟨4, ![32, p, q, r]⟩ : Shape).Slices ![k, 0, 0, 0] ⟨4, ![1, p, q, r]⟩ := by
    refine ⟨rfl, fun a => ?_⟩
    fin_cases a <;> simp <;> omega
  rw [Host.dynamicUpdateSlice_eq_updateSlice x _ start h ![k, 0, 0, 0] (fun a => by
    fin_cases a
    · show (min (max (start 0) 0) ((32 - 1 : ℕ) : Int)).toNat = k
      rw [h0]; omega
    · show (min (max (start 1) 0) ((p - p : ℕ) : Int)).toNat = 0
      rw [h1]; omega
    · show (min (max (start 2) 0) ((q - q : ℕ) : Int)).toNat = 0
      rw [h2]; omega
    · show (min (max (start 3) 0) ((r - r : ℕ) : Int)).toNat = 0
      rw [h3]; omega) hoff]
  rw [updateSlice_apply]
  by_cases hn : n.val = k
  · rw [if_pos hn, dif_pos]
    · exact lead_at v hb _ a b c (Nat.sub_zero _) (Nat.sub_zero _) (Nat.sub_zero _)
    · intro i
      fin_cases i
      · show k ≤ n.val ∧ n.val < k + 1
        omega
      · show 0 ≤ a.val ∧ a.val < 0 + p
        omega
      · show 0 ≤ b.val ∧ b.val < 0 + q
        omega
      · show 0 ≤ c.val ∧ c.val < 0 + r
        omega
  · rw [if_neg hn, dif_neg]
    intro hin
    have := hin 0
    have : k ≤ n.val ∧ n.val < k + 1 := this
    omega

/-- A matrix with one row replaced, at an index. -/
theorem update_at2 {p : ℕ} (x : (⟨2, ![32, p]⟩ : Shape).Idx → EReal) (v : (⟨1, ![p]⟩ : Shape).Idx → EReal)
    (start : Fin 2 → Int)
    (h : (⟨2, ![32, p]⟩ : Shape).Slices (fun _ => 0) ⟨2, ![1, p]⟩) (k : ℕ) (hk : k < 32)
    (h0 : start 0 = k) (h1 : start 1 = 0)
    (hb : (⟨1, ![p]⟩ : Shape).BroadcastsInDim ⟨2, ![1, p]⟩ ![1]) (n : Fin 32) (a : Fin p) :
    Host.dynamicUpdateSlice x (broadcastInDim ⟨2, ![1, p]⟩ ![1] hb v) start h (ix2 n a)
      = if n.val = k then v (ix1 a) else x (ix2 n a) := by
  have hoff : (⟨2, ![32, p]⟩ : Shape).Slices ![k, 0] ⟨2, ![1, p]⟩ := by
    refine ⟨rfl, fun a => ?_⟩
    fin_cases a <;> simp <;> omega
  rw [Host.dynamicUpdateSlice_eq_updateSlice x _ start h ![k, 0] (fun a => by
    fin_cases a
    · show (min (max (start 0) 0) ((32 - 1 : ℕ) : Int)).toNat = k
      rw [h0]; omega
    · show (min (max (start 1) 0) ((p - p : ℕ) : Int)).toNat = 0
      rw [h1]; omega) hoff]
  rw [updateSlice_apply]
  by_cases hn : n.val = k
  · rw [if_pos hn, dif_pos]
    · exact lead_at2 v hb _ a (Nat.sub_zero _)
    · intro i
      fin_cases i
      · show k ≤ n.val ∧ n.val < k + 1
        omega
      · show 0 ≤ a.val ∧ a.val < 0 + p
        omega
  · rw [if_neg hn, dif_neg]
    intro hin
    have := hin 0
    have : k ≤ n.val ∧ n.val < k + 1 := this
    omega

/-- The induction variable, read signed, is the trip. -/
theorem iv_toInt {k : ℕ} (hk : k < 32) : BitVec.toInt (Scf.iv 0#32 1#32 k) = k := by
  have : Scf.iv 0#32 1#32 k = BitVec.ofNat 32 k := by simp [Scf.iv]
  rw [this, toInt_ofNat_of_lt (by omega)]

/-- Counted down from 32: the place the second loop reads and writes at trip `k`. -/
theorem down_toInt {k : ℕ} (hk : k < 32) : BitVec.toInt (32#32 - Scf.iv 0#32 1#32 k - 1#32) = (31 - k : ℕ) := by
  have : 32#32 - Scf.iv 0#32 1#32 k - 1#32 = BitVec.ofNat 32 (31 - k) := by
    have : Scf.iv 0#32 1#32 k = BitVec.ofNat 32 k := by simp [Scf.iv]
    rw [this]
    interval_cases k <;> rfl
  rw [this, toInt_ofNat_of_lt (by omega)]

/-- Reading a row keeps what it does not write. -/
theorem index_keeps (arg0 : TRef sig ⟨S32x8x64x128, .f32⟩) (arg1 : TRef sig ⟨S_, .i32⟩) (φ : fn_dynamic_index_in_dim.Bufs)
    (V : Valuation τ sig (Elt Ideal)) {r : Ref sig .tc} (hr : r ∉ [φ.c.ref, φ.c_0.ref, φ.c_1.ref, φ.v0.ref, φ.v1.ref]) :
    after (dynamic_index_in_dim_ops arg0 arg1 φ) V (Proc.devRef .tc r) = V (Proc.devRef .tc r) :=
  after_of_writes_sub _ V (forall_writes_sub_of_map rfl) hr
/-- Reading a row keeps what it does not write. -/
theorem index0_keeps (arg0 : TRef sig ⟨S32x8x64x64, .f32⟩) (arg1 : TRef sig ⟨S_, .i32⟩) (φ : fn_dynamic_index_in_dim_0.Bufs)
    (V : Valuation τ sig (Elt Ideal)) {r : Ref sig .tc} (hr : r ∉ [φ.c.ref, φ.c_0.ref, φ.c_1.ref, φ.v0.ref, φ.v1.ref]) :
    after (dynamic_index_in_dim_0_ops arg0 arg1 φ) V (Proc.devRef .tc r) = V (Proc.devRef .tc r) :=
  after_of_writes_sub _ V (forall_writes_sub_of_map rfl) hr
/-- Reading a row keeps what it does not write. -/
theorem index1_keeps (arg0 : TRef sig ⟨S32x8, .f32⟩) (arg1 : TRef sig ⟨S_, .i32⟩) (φ : fn_dynamic_index_in_dim_1.Bufs)
    (V : Valuation τ sig (Elt Ideal)) {r : Ref sig .tc} (hr : r ∉ [φ.c.ref, φ.v0.ref, φ.v1.ref]) :
    after (dynamic_index_in_dim_1_ops arg0 arg1 φ) V (Proc.devRef .tc r) = V (Proc.devRef .tc r) :=
  after_of_writes_sub _ V (forall_writes_sub_of_map rfl) hr
/-- Reading a row keeps what it does not write. -/
theorem index4_keeps (arg0 : TRef sig ⟨S32x8x128x128, .f32⟩) (arg1 : TRef sig ⟨S_, .i32⟩) (φ : fn_dynamic_index_in_dim_4.Bufs)
    (V : Valuation τ sig (Elt Ideal)) {r : Ref sig .tc} (hr : r ∉ [φ.c.ref, φ.c_0.ref, φ.c_1.ref, φ.v0.ref, φ.v1.ref]) :
    after (dynamic_index_in_dim_4_ops arg0 arg1 φ) V (Proc.devRef .tc r) = V (Proc.devRef .tc r) :=
  after_of_writes_sub _ V (forall_writes_sub_of_map rfl) hr
/-- Reading a row keeps what it does not write. -/
theorem index5_keeps (arg0 : TRef sig ⟨S32x8x1x1, .f32⟩) (arg1 : TRef sig ⟨S_, .i32⟩) (φ : fn_dynamic_index_in_dim_5.Bufs)
    (V : Valuation τ sig (Elt Ideal)) {r : Ref sig .tc} (hr : r ∉ [φ.c.ref, φ.c_0.ref, φ.c_1.ref, φ.v0.ref, φ.v1.ref]) :
    after (dynamic_index_in_dim_5_ops arg0 arg1 φ) V (Proc.devRef .tc r) = V (Proc.devRef .tc r) :=
  after_of_writes_sub _ V (forall_writes_sub_of_map rfl) hr
/-- Replacing a row keeps what it does not write. -/
theorem update_keeps (arg0 : TRef sig ⟨S32x8x64x128, .f32⟩) (arg1 : TRef sig ⟨S8x64x128, .f32⟩) (arg2 : TRef sig ⟨S_, .i32⟩) (φ : fn_dynamic_update_index_in_dim.Bufs)
    (V : Valuation τ sig (Elt Ideal)) {r : Ref sig .tc} (hr : r ∉ [φ.v0.ref, φ.c.ref, φ.c_0.ref, φ.c_1.ref, φ.v1.ref]) :
    after (dynamic_update_index_in_dim_ops arg0 arg1 arg2 φ) V (Proc.devRef .tc r) = V (Proc.devRef .tc r) :=
  after_of_writes_sub _ V (forall_writes_sub_of_map rfl) hr
/-- Replacing a row keeps what it does not write. -/
theorem update2_keeps (arg0 : TRef sig ⟨S32x8x128x128, .f32⟩) (arg1 : TRef sig ⟨S8x128x128, .f32⟩) (arg2 : TRef sig ⟨S_, .i32⟩) (φ : fn_dynamic_update_index_in_dim_2.Bufs)
    (V : Valuation τ sig (Elt Ideal)) {r : Ref sig .tc} (hr : r ∉ [φ.v0.ref, φ.c.ref, φ.c_0.ref, φ.c_1.ref, φ.v1.ref]) :
    after (dynamic_update_index_in_dim_2_ops arg0 arg1 arg2 φ) V (Proc.devRef .tc r) = V (Proc.devRef .tc r) :=
  after_of_writes_sub _ V (forall_writes_sub_of_map rfl) hr
/-- Replacing a row keeps what it does not write. -/
theorem update3_keeps (arg0 : TRef sig ⟨S32x8x1x1, .f32⟩) (arg1 : TRef sig ⟨S8x1x1, .f32⟩) (arg2 : TRef sig ⟨S_, .i32⟩) (φ : fn_dynamic_update_index_in_dim_3.Bufs)
    (V : Valuation τ sig (Elt Ideal)) {r : Ref sig .tc} (hr : r ∉ [φ.v0.ref, φ.c.ref, φ.c_0.ref, φ.c_1.ref, φ.v1.ref]) :
    after (dynamic_update_index_in_dim_3_ops arg0 arg1 arg2 φ) V (Proc.devRef .tc r) = V (Proc.devRef .tc r) :=
  after_of_writes_sub _ V (forall_writes_sub_of_map rfl) hr
/-- Replacing a row keeps what it does not write. -/
theorem update6_keeps (arg0 : TRef sig ⟨S32x8x64x64, .f32⟩) (arg1 : TRef sig ⟨S8x64x64, .f32⟩) (arg2 : TRef sig ⟨S_, .i32⟩) (φ : fn_dynamic_update_index_in_dim_6.Bufs)
    (V : Valuation τ sig (Elt Ideal)) {r : Ref sig .tc} (hr : r ∉ [φ.v0.ref, φ.c.ref, φ.c_0.ref, φ.c_1.ref, φ.v1.ref]) :
    after (dynamic_update_index_in_dim_6_ops arg0 arg1 arg2 φ) V (Proc.devRef .tc r) = V (Proc.devRef .tc r) :=
  after_of_writes_sub _ V (forall_writes_sub_of_map rfl) hr
/-- Replacing a row keeps what it does not write. -/
theorem update7_keeps (arg0 : TRef sig ⟨S32x8, .f32⟩) (arg1 : TRef sig ⟨S8, .f32⟩) (arg2 : TRef sig ⟨S_, .i32⟩) (φ : fn_dynamic_update_index_in_dim_7.Bufs)
    (V : Valuation τ sig (Elt Ideal)) {r : Ref sig .tc} (hr : r ∉ [φ.v0.ref, φ.c.ref, φ.v1.ref]) :
    after (dynamic_update_index_in_dim_7_ops arg0 arg1 arg2 φ) V (Proc.devRef .tc r) = V (Proc.devRef .tc r) :=
  after_of_writes_sub _ V (forall_writes_sub_of_map rfl) hr

/-- An array of four axes at an index. -/
abbrev at4 {a b c d : ℕ} (x : (⟨4, ![a, b, c, d]⟩ : Shape).Idx → EReal) (i : Fin a) (j : Fin b) (k : Fin c) (l : Fin d) : EReal := x (ix4 i j k l)
/-- An array of three axes at an index. -/
abbrev at3 {a b c : ℕ} (x : (⟨3, ![a, b, c]⟩ : Shape).Idx → EReal) (i : Fin a) (j : Fin b) (k : Fin c) : EReal := x (ix3 i j k)
/-- A matrix at an index. -/
abbrev at2 {a b : ℕ} (x : (⟨2, ![a, b]⟩ : Shape).Idx → EReal) (i : Fin a) (j : Fin b) : EReal := x (ix2 i j)
/-- A vector at an index. -/
abbrev at1 {a : ℕ} (x : (⟨1, ![a]⟩ : Shape).Idx → EReal) (i : Fin a) : EReal := x (ix1 i)

end Cert.RefProof

end
-- ==== Proof.RefTrip0.lean ====
/- One trip of the reference's first loop, entry by entry. -/
module

public import proofs.«01_k».proof.Proof.RefSlice
public import proofs.«01_k».proof.Proof.Spec
public import Idealize.ShloMosaic.Lib.StableHlo.ReadAt

@[expose] public section

set_option maxRecDepth 16384

noncomputable section

namespace Cert.RefProof

open Cert.ReferenceIdeal Cert.ReferenceIdeal.Gen
open Idealize.ShloMosaic Idealize.ShloMosaic.TcCoe
open Idealize.ShloMosaic.StableHlo

variable (V : Valuation τ sig (Elt Ideal)) {k : ℕ}

/-- After the trip's reads. -/
abbrev A0 : Valuation τ sig (Elt Ideal) := afterL
  [ dynamic_index_in_dim_ops (.of main_v13_0) (.of main_v13_6) main_while0b_call0,
    dynamic_index_in_dim_ops (.of main_v13_1) (.of main_v13_6) main_while0b_call1,
    dynamic_index_in_dim_0_ops (.of main_v13_2) (.of main_v13_6) main_while0b_call2,
    dynamic_index_in_dim_ops (.of main_v13_3) (.of main_v13_6) main_while0b_call3,
    dynamic_index_in_dim_ops (.of main_v13_4) (.of main_v13_6) main_while0b_call4,
    dynamic_index_in_dim_1_ops (.of main_v13_5) (.of main_v13_6) main_while0b_call5] V

/-- After the trip's arithmetic. -/
abbrev B0 : Valuation τ sig (Elt Ideal) := after trip0_0 (A0 V)

/-- The first loop's counter says trip `k`. -/
abbrev Trip0 (k : ℕ) : Prop := BitVec.toInt ((V (Proc.devRef .tc main_v13_6) : S_.Idx → BitVec 32) (Shape.Idx.first h_S_)) = k

/-- The read of `u`: one row of a stack. -/
theorem idx0_u (hk : k < 32) (hi : Trip0 V k) (a : Fin 8) (b : Fin 64) (c : Fin 128) :
    at3 (after (dynamic_index_in_dim_ops (F := Ideal) (.of main_v13_0) (.of main_v13_6) main_while0b_call0) V (Proc.devRef .tc main_while0b_v37)) a b c
      = at4 (V (Proc.devRef .tc main_v13_0)) ⟨k, hk⟩ a b c := by
  show after _ V (Proc.devRef .tc main_while0b_v37) (ix3 a b c) = V (Proc.devRef .tc main_v13_0) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of `w`: one row of a stack. -/
theorem idx0_w (hk : k < 32) (hi : Trip0 V k) (a : Fin 8) (b : Fin 64) (c : Fin 128) :
    at3 (after (dynamic_index_in_dim_ops (F := Ideal) (.of main_v13_1) (.of main_v13_6) main_while0b_call1) V (Proc.devRef .tc main_while0b_v38)) a b c
      = at4 (V (Proc.devRef .tc main_v13_1)) ⟨k, hk⟩ a b c := by
  show after _ V (Proc.devRef .tc main_while0b_v38) (ix3 a b c) = V (Proc.devRef .tc main_v13_1) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of `kd`: one row of a stack. -/
theorem idx0_kd (hk : k < 32) (hi : Trip0 V k) (a : Fin 8) (b : Fin 64) (c : Fin 128) :
    at3 (after (dynamic_index_in_dim_ops (F := Ideal) (.of main_v13_4) (.of main_v13_6) main_while0b_call4) V (Proc.devRef .tc main_while0b_v41)) a b c
      = at4 (V (Proc.devRef .tc main_v13_4)) ⟨k, hk⟩ a b c := by
  show after _ V (Proc.devRef .tc main_while0b_v41) (ix3 a b c) = V (Proc.devRef .tc main_v13_4) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of the decays: one row of a matrix. -/
theorem idx0_gl (hk : k < 32) (hi : Trip0 V k) (a : Fin 8) :
    at1 (after (dynamic_index_in_dim_1_ops (F := Ideal) (.of main_v13_5) (.of main_v13_6) main_while0b_call5) V (Proc.devRef .tc main_while0b_v42)) a
      = at2 (V (Proc.devRef .tc main_v13_5)) ⟨k, hk⟩ a := by
  show after _ V (Proc.devRef .tc main_while0b_v42) (ix1 a) = V (Proc.devRef .tc main_v13_5) (ix2 ⟨k, hk⟩ a)
  after_reads_simp
  exact slice_at2 (p := 8) _ _ sliceFits_S32x8_S1x8 k hk (.trans (by chain_rfl) hi) (by chain_rfl) _ _

/-- The state saved: one row of a stack replaced. -/
theorem upd0_st (hk : k < 32) (hi : Trip0 V k) (n : Fin 32) (a : Fin 8) (b : Fin 128) (c : Fin 128) :
    at4 (after (dynamic_update_index_in_dim_2_ops (F := Ideal) (.of main_v13_9) (.of main_v13_7) (.of main_v13_6) main_while0b_call7) V (Proc.devRef .tc main_while0b_v54)) n a b c
      = if n.val = k then at3 (V (Proc.devRef .tc main_v13_7)) a b c else at4 (V (Proc.devRef .tc main_v13_9)) n a b c := by
  show after _ V (Proc.devRef .tc main_while0b_v54) (ix4 n a b c)
    = if n.val = k then V (Proc.devRef .tc main_v13_7) (ix3 a b c) else V (Proc.devRef .tc main_v13_9) (ix4 n a b c)
  after_reads_simp
  exact update_at (p := 8) (q := 128) (r := 128) _ _ _ updateFits_S32x8x128x128_S1x8x128x128 k hk (.trans (by chain_rfl) hi)
    (by chain_rfl) (by chain_rfl) (by chain_rfl) bcast_S8x128x128_S1x8x128x128_1_2_3 _ _ _ _

/-- The new values saved: one row of a stack replaced. -/
theorem upd0_v (hk : k < 32) (hi : Trip0 V k) (n : Fin 32) (a : Fin 8) (b : Fin 64) (c : Fin 128) :
    at4 (after (dynamic_update_index_in_dim_ops (F := Ideal) (.of main_v13_10) (.of main_while0b_v44) (.of main_v13_6) main_while0b_call8) V (Proc.devRef .tc main_while0b_v55)) n a b c
      = if n.val = k then at3 (V (Proc.devRef .tc main_while0b_v44)) a b c else at4 (V (Proc.devRef .tc main_v13_10)) n a b c := by
  show after _ V (Proc.devRef .tc main_while0b_v55) (ix4 n a b c)
    = if n.val = k then V (Proc.devRef .tc main_while0b_v44) (ix3 a b c) else V (Proc.devRef .tc main_v13_10) (ix4 n a b c)
  after_reads_simp
  exact update_at (p := 8) (q := 64) (r := 128) _ _ _ updateFits_S32x8x64x128_S1x8x64x128 k hk (.trans (by chain_rfl) hi)
    (by chain_rfl) (by chain_rfl) (by chain_rfl) bcast_S8x64x128_S1x8x64x128_1_2_3 _ _ _ _

/-- The decays saved: one row of a stack replaced. -/
theorem upd0_gl (hk : k < 32) (hi : Trip0 V k) (n : Fin 32) (a : Fin 8) (b : Fin 1) (c : Fin 1) :
    at4 (after (dynamic_update_index_in_dim_3_ops (F := Ideal) (.of main_v13_11) (.of main_while0b_v48) (.of main_v13_6) main_while0b_call9) V (Proc.devRef .tc main_while0b_v56)) n a b c
      = if n.val = k then at3 (V (Proc.devRef .tc main_while0b_v48)) a b c else at4 (V (Proc.devRef .tc main_v13_11)) n a b c := by
  show after _ V (Proc.devRef .tc main_while0b_v56) (ix4 n a b c)
    = if n.val = k then V (Proc.devRef .tc main_while0b_v48) (ix3 a b c) else V (Proc.devRef .tc main_v13_11) (ix4 n a b c)
  after_reads_simp
  exact update_at (p := 8) (q := 1) (r := 1) _ _ _ updateFits_S32x8x1x1_S1x8x1x1 k hk (.trans (by chain_rfl) hi)
    (by chain_rfl) (by chain_rfl) (by chain_rfl) bcast_S8x1x1_S1x8x1x1_1_2_3 _ _ _ _

/-- The reads leave there the row at the counter. -/
theorem A0_u (hk : k < 32) (hi : Trip0 V k) (a : Fin 8) (b : Fin 64) (c : Fin 128) :
    at3 (A0 V (Proc.devRef .tc main_while0b_v37)) a b c = at4 (V (Proc.devRef .tc main_v13_0)) ⟨k, hk⟩ a b c := by
  simp only [A0, afterL_cons, afterL_nil]
  rw [index1_keeps _ _ _ _ (by decide), index_keeps _ _ _ _ (by decide), index_keeps _ _ _ _ (by decide), index0_keeps _ _ _ _ (by decide), index_keeps _ _ _ _ (by decide), idx0_u _ hk hi]
/-- The reads leave there the row at the counter. -/
theorem A0_w (hk : k < 32) (hi : Trip0 V k) (a : Fin 8) (b : Fin 64) (c : Fin 128) :
    at3 (A0 V (Proc.devRef .tc main_while0b_v38)) a b c = at4 (V (Proc.devRef .tc main_v13_1)) ⟨k, hk⟩ a b c := by
  simp only [A0, afterL_cons, afterL_nil]
  rw [index1_keeps _ _ _ _ (by decide), index_keeps _ _ _ _ (by decide), index_keeps _ _ _ _ (by decide), index0_keeps _ _ _ _ (by decide), idx0_w _ hk (by rw [Trip0, index_keeps _ _ _ _ (by decide)]; exact hi), index_keeps _ _ _ _ (by decide)]
/-- The reads leave there the row at the counter. -/
theorem A0_kd (hk : k < 32) (hi : Trip0 V k) (a : Fin 8) (b : Fin 64) (c : Fin 128) :
    at3 (A0 V (Proc.devRef .tc main_while0b_v41)) a b c = at4 (V (Proc.devRef .tc main_v13_4)) ⟨k, hk⟩ a b c := by
  simp only [A0, afterL_cons, afterL_nil]
  rw [index1_keeps _ _ _ _ (by decide), idx0_kd _ hk (by rw [Trip0, index_keeps _ _ _ _ (by decide), index0_keeps _ _ _ _ (by decide), index_keeps _ _ _ _ (by decide), index_keeps _ _ _ _ (by decide)]; exact hi), index_keeps _ _ _ _ (by decide), index0_keeps _ _ _ _ (by decide), index_keeps _ _ _ _ (by decide), index_keeps _ _ _ _ (by decide)]
/-- The reads leave there the row at the counter. -/
theorem A0_gl (hk : k < 32) (hi : Trip0 V k) (a : Fin 8) :
    at1 (A0 V (Proc.devRef .tc main_while0b_v42)) a = at2 (V (Proc.devRef .tc main_v13_5)) ⟨k, hk⟩ a := by
  simp only [A0, afterL_cons, afterL_nil]
  rw [idx0_gl _ hk (by rw [Trip0, index_keeps _ _ _ _ (by decide), index_keeps _ _ _ _ (by decide), index0_keeps _ _ _ _ (by decide), index_keeps _ _ _ _ (by decide), index_keeps _ _ _ _ (by decide)]; exact hi), index_keeps _ _ _ _ (by decide), index_keeps _ _ _ _ (by decide), index0_keeps _ _ _ _ (by decide), index_keeps _ _ _ _ (by decide), index_keeps _ _ _ _ (by decide)]
/-- What the reads write. -/
abbrev A0_W : List (Ref sig .tc) := bodyI0_W.take 28
/-- The reads keep the rest. -/
theorem A0_keeps {r : Ref sig .tc} (hr : r ∉ A0_W) : A0 V (Proc.devRef .tc r) = V (Proc.devRef .tc r) := by
  rw [A0, afterL_eq_after_flatten]
  exact after_of_writes_sub _ V (forall_writes_sub_of_map rfl) hr
/-- What the arithmetic writes. -/
abbrev arith0_W : List (Ref sig .tc) := [main_while0b_v43, main_while0b_v44, main_while0b_v45, main_while0b_v46, main_while0b_v47, main_while0b_v48, main_while0b_v49, main_while0b_v50, main_while0b_v51, main_while0b_v52]
/-- The arithmetic keeps the rest. -/
theorem arith0_keeps {r : Ref sig .tc} (hr : r ∉ arith0_W) : after trip0_0 V (Proc.devRef .tc r) = V (Proc.devRef .tc r) :=
  after_of_writes_sub _ V (forall_writes_sub_of_map rfl) hr
/-- The trip's last copies. -/
theorem copies0_S : after trip0_1 V (Proc.devRef .tc main_v13_7) = V (Proc.devRef .tc main_while0b_v52) := by
  after_reads_simp
  rfl
/-- The trip's last copies. -/
theorem copies0_st : after trip0_1 V (Proc.devRef .tc main_v13_9) = V (Proc.devRef .tc main_while0b_v54) := by
  after_reads_simp
  rfl
/-- The trip's last copies. -/
theorem copies0_v : after trip0_1 V (Proc.devRef .tc main_v13_10) = V (Proc.devRef .tc main_while0b_v55) := by
  after_reads_simp
  rfl
/-- The trip's last copies. -/
theorem copies0_gl : after trip0_1 V (Proc.devRef .tc main_v13_11) = V (Proc.devRef .tc main_while0b_v56) := by
  after_reads_simp
  rfl
/-- The state after the trip. -/
theorem trip0_S_is : afterL bodyI0 V (Proc.devRef .tc main_v13_7) = B0 V (Proc.devRef .tc main_while0b_v52) := by
  simp only [bodyI0, B0, A0, afterL_cons, afterL_nil]
  rw [copies0_S, update3_keeps _ _ _ _ _ (by decide), update_keeps _ _ _ _ _ (by decide), update2_keeps _ _ _ _ _ (by decide), update_keeps _ _ _ _ _ (by decide)]
/-- After the output's row is saved. -/
abbrev B1 : Valuation τ sig (Elt Ideal) := after (dynamic_update_index_in_dim_ops (.of main_v13_8) (.of main_while0b_v47) (.of main_v13_6) main_while0b_call6) (B0 V)
/-- After the state is saved. -/
abbrev B2 : Valuation τ sig (Elt Ideal) := after (dynamic_update_index_in_dim_2_ops (.of main_v13_9) (.of main_v13_7) (.of main_v13_6) main_while0b_call7) (B1 V)
/-- After the new values are saved. -/
abbrev B3 : Valuation τ sig (Elt Ideal) := after (dynamic_update_index_in_dim_ops (.of main_v13_10) (.of main_while0b_v44) (.of main_v13_6) main_while0b_call8) (B2 V)
/-- The states saved after the trip. -/
theorem trip0_st_is : afterL bodyI0 V (Proc.devRef .tc main_v13_9) = B2 V (Proc.devRef .tc main_while0b_v54) := by
  simp only [bodyI0, B2, B1, B0, A0, afterL_cons, afterL_nil]
  rw [copies0_st, update3_keeps _ _ _ _ _ (by decide), update_keeps _ _ _ _ _ (by decide)]
/-- The new values saved after the trip. -/
theorem trip0_v_is : afterL bodyI0 V (Proc.devRef .tc main_v13_10) = B3 V (Proc.devRef .tc main_while0b_v55) := by
  simp only [bodyI0, B3, B2, B1, B0, A0, afterL_cons, afterL_nil]
  rw [copies0_v, update3_keeps _ _ _ _ _ (by decide)]
/-- The decays saved after the trip. -/
theorem trip0_gl_is : afterL bodyI0 V (Proc.devRef .tc main_v13_11) = after (dynamic_update_index_in_dim_3_ops (.of main_v13_11) (.of main_while0b_v48) (.of main_v13_6) main_while0b_call9) (B3 V) (Proc.devRef .tc main_while0b_v56) := by
  simp only [bodyI0, B3, B2, B1, B0, A0, afterL_cons, afterL_nil]
  rw [copies0_gl]

/-- The arithmetic's new values. -/
theorem arith0_v (W : Valuation τ sig (Elt Ideal)) (h : Fin 8) (c : Fin 64) (e : Fin 128) :
    at3 (after (trip0_0 (F := Ideal)) W (Proc.devRef .tc main_while0b_v44)) h c e
      = at3 (W (Proc.devRef .tc main_while0b_v37)) h c e
        - ∑ j : Fin 128, at3 (W (Proc.devRef .tc main_while0b_v38)) h c j * at3 (W (Proc.devRef .tc main_v13_7)) h j e := by
  show after (trip0_0 (F := Ideal)) W (Proc.devRef .tc main_while0b_v44) (ix3 h c e) = _
  after_reads_at

/-- The arithmetic's next state. -/
theorem arith0_S (W : Valuation τ sig (Elt Ideal)) (h : Fin 8) (a e : Fin 128) :
    at3 (after (trip0_0 (F := Ideal)) W (Proc.devRef .tc main_while0b_v52)) h a e
      = at3 (W (Proc.devRef .tc main_v13_7)) h a e * at1 (W (Proc.devRef .tc main_while0b_v42)) h
        + ∑ c : Fin 64, at3 (W (Proc.devRef .tc main_while0b_v41)) h c a
            * (at3 (W (Proc.devRef .tc main_while0b_v37)) h c e
        - ∑ j : Fin 128, at3 (W (Proc.devRef .tc main_while0b_v38)) h c j * at3 (W (Proc.devRef .tc main_v13_7)) h j e) := by
  show after (trip0_0 (F := Ideal)) W (Proc.devRef .tc main_while0b_v52) (ix3 h a e) = _
  after_reads_at

/-- The arithmetic's decays. -/
theorem arith0_gl (W : Valuation τ sig (Elt Ideal)) (h : Fin 8) :
    at3 (after (trip0_0 (F := Ideal)) W (Proc.devRef .tc main_while0b_v48)) h 0 0
      = at1 (W (Proc.devRef .tc main_while0b_v42)) h := by
  show after (trip0_0 (F := Ideal)) W (Proc.devRef .tc main_while0b_v48) (ix3 h 0 0) = _
  after_reads_at

/-- What the loop's buffers hold, as the scan's arguments. -/
structure Holds0 (A : Spec.In) : Prop where
  u : ∀ (n : Fin 32) h c e, at4 (V (Proc.devRef .tc main_v13_0)) n h c e = A.u n h c e
  w : ∀ (n : Fin 32) h c e, at4 (V (Proc.devRef .tc main_v13_1)) n h c e = A.w n h c e
  kd : ∀ (n : Fin 32) h c e, at4 (V (Proc.devRef .tc main_v13_4)) n h c e = A.kd n h c e
  gl : ∀ (n : Fin 32) h, at2 (V (Proc.devRef .tc main_v13_5)) n h = A.gl n h

variable {V} {A : Spec.In}

/-- The trip's new values are the scan's. -/
theorem trip0_newV (H : Holds0 V A) (hk : k < 32) (hi : Trip0 V k) (hS : ∀ h a e, at3 (V (Proc.devRef .tc main_v13_7)) h a e = Spec.S A k h a e)
    (h : Fin 8) (c : Fin 64) (e : Fin 128) : at3 (B0 V (Proc.devRef .tc main_while0b_v44)) h c e = Spec.vn A k h c e := by
  rw [arith0_v, A0_keeps (r := main_v13_7) _ (by decide), A0_u V hk hi, H.u]
  simp only [A0_w V hk hi, H.w, hS]
  rfl

/-- The state after the trip is the scan's. -/
theorem trip0_S (H : Holds0 V A) (hk : k < 32) (hi : Trip0 V k) (hS : ∀ h a e, at3 (V (Proc.devRef .tc main_v13_7)) h a e = Spec.S A k h a e)
    (h : Fin 8) (a e : Fin 128) : at3 (afterL bodyI0 V (Proc.devRef .tc main_v13_7)) h a e = Spec.S A (k + 1) h a e := by
  rw [trip0_S_is, arith0_S, A0_keeps (r := main_v13_7) _ (by decide), A0_gl V hk hi, H.gl, hS]
  simp only [A0_u V hk hi, A0_w V hk hi, A0_kd V hk hi, H.u, H.w, H.kd, hS]
  rfl

/-- The states saved. -/
theorem trip0_st (hk : k < 32) (hi : Trip0 V k) (n : Fin 32) (h : Fin 8) (a e : Fin 128) :
    at4 (afterL bodyI0 V (Proc.devRef .tc main_v13_9)) n h a e
      = if n.val = k then at3 (V (Proc.devRef .tc main_v13_7)) h a e else at4 (V (Proc.devRef .tc main_v13_9)) n h a e := by
  rw [trip0_st_is, upd0_st _ hk (by rw [Trip0, B1, update_keeps _ _ _ _ _ (by decide), B0, arith0_keeps _ (by decide), A0_keeps _ (by decide)]; exact hi),
    B1, update_keeps _ _ _ _ _ (by decide), B0, arith0_keeps _ (by decide), A0_keeps _ (by decide),
    update_keeps _ _ _ _ _ (by decide), arith0_keeps _ (by decide), A0_keeps _ (by decide)]

/-- The new values saved. -/
theorem trip0_v (hk : k < 32) (hi : Trip0 V k) (n : Fin 32) (h : Fin 8) (c : Fin 64) (e : Fin 128) :
    at4 (afterL bodyI0 V (Proc.devRef .tc main_v13_10)) n h c e
      = if n.val = k then at3 (B0 V (Proc.devRef .tc main_while0b_v44)) h c e else at4 (V (Proc.devRef .tc main_v13_10)) n h c e := by
  rw [trip0_v_is, upd0_v _ hk (by rw [Trip0, B2, update2_keeps _ _ _ _ _ (by decide), B1, update_keeps _ _ _ _ _ (by decide), B0, arith0_keeps _ (by decide), A0_keeps _ (by decide)]; exact hi),
    B2, update2_keeps _ _ _ _ _ (by decide), B1, update_keeps _ _ _ _ _ (by decide), update2_keeps _ _ _ _ _ (by decide), update_keeps _ _ _ _ _ (by decide), B0, arith0_keeps (r := main_v13_10) _ (by decide), A0_keeps _ (by decide)]

/-- The decays saved. -/
theorem trip0_gl (H : Holds0 V A) (hk : k < 32) (hi : Trip0 V k) (n : Fin 32) (h : Fin 8) :
    at4 (afterL bodyI0 V (Proc.devRef .tc main_v13_11)) n h 0 0
      = if n.val = k then A.gl n h else at4 (V (Proc.devRef .tc main_v13_11)) n h 0 0 := by
  rw [trip0_gl_is, upd0_gl _ hk (by rw [Trip0, B3, update_keeps _ _ _ _ _ (by decide), B2, update2_keeps _ _ _ _ _ (by decide), B1, update_keeps _ _ _ _ _ (by decide), B0, arith0_keeps _ (by decide), A0_keeps _ (by decide)]; exact hi),
    B3, update_keeps _ _ _ _ _ (by decide), B2, update2_keeps _ _ _ _ _ (by decide), B1, update_keeps _ _ _ _ _ (by decide), update_keeps _ _ _ _ _ (by decide), update2_keeps _ _ _ _ _ (by decide), update_keeps _ _ _ _ _ (by decide), B0,
    arith0_keeps (r := main_v13_11) _ (by decide), A0_keeps _ (by decide), arith0_gl, A0_gl V hk hi, H.gl]
  split
  · next hn => rw [hn]
  · rfl

end Cert.RefProof

end
-- ==== Proof.RefTrip1.lean ====
/- One trip of the reference's second loop, entry by entry. -/
module

public import proofs.«01_k».proof.Proof.RefSlice
public import proofs.«01_k».proof.Proof.Spec
public import Idealize.ShloMosaic.Lib.StableHlo.ReadAt

@[expose] public section

set_option maxRecDepth 16384

noncomputable section

namespace Cert.RefProof

open Cert.ReferenceIdeal Cert.ReferenceIdeal.Gen
open Idealize.ShloMosaic Idealize.ShloMosaic.TcCoe
open Idealize.ShloMosaic.StableHlo

variable (V : Valuation τ sig (Elt Ideal)) {k : ℕ}

/-- The place the second loop reads and writes is `k`. -/
abbrev Place1 (k : ℕ) : Prop := BitVec.toInt ((V (Proc.devRef .tc main_while1b_v38) : S_.Idx → BitVec 32) (Shape.Idx.first h_S_)) = k

/-- After the trip's place is computed. -/
abbrev P1 : Valuation τ sig (Elt Ideal) := after trip1_0 V
/-- After the trip's reads. -/
abbrev A1 : Valuation τ sig (Elt Ideal) := afterL
  [ dynamic_index_in_dim_ops (.of main_v26_0) (.of main_while1b_v38) main_while1b_call10,
    dynamic_index_in_dim_4_ops (.of main_v26_1) (.of main_while1b_v38) main_while1b_call11,
    dynamic_index_in_dim_ops (.of main_v26_2) (.of main_while1b_v38) main_while1b_call12,
    dynamic_index_in_dim_ops (.of main_v26_3) (.of main_while1b_v38) main_while1b_call13,
    dynamic_index_in_dim_ops (.of main_v26_4) (.of main_while1b_v38) main_while1b_call14,
    dynamic_index_in_dim_0_ops (.of main_v26_5) (.of main_while1b_v38) main_while1b_call15,
    dynamic_index_in_dim_5_ops (.of main_v26_6) (.of main_while1b_v38) main_while1b_call16,
    dynamic_index_in_dim_ops (.of main_v26_7) (.of main_while1b_v38) main_while1b_call17 ] (P1 V)
/-- After the trip's arithmetic. -/
abbrev G1 : Valuation τ sig (Elt Ideal) := after trip1_1 (A1 V)

/-- The read of row 0: one row of a stack. -/
theorem idx1_d (hk : k < 32) (hi : Place1 V k) (a : Fin 8) (b : Fin 64) (c : Fin 128) :
    at3 (after (dynamic_index_in_dim_ops (F := Ideal) (.of main_v26_0) (.of main_while1b_v38) main_while1b_call10) V (Proc.devRef .tc main_while1b_v39)) a b c
      = at4 (V (Proc.devRef .tc main_v26_0)) ⟨k, hk⟩ a b c := by
  show after _ V (Proc.devRef .tc main_while1b_v39) (ix3 a b c) = V (Proc.devRef .tc main_v26_0) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of row 1: one row of a stack. -/
theorem idx1_st (hk : k < 32) (hi : Place1 V k) (a : Fin 8) (b : Fin 128) (c : Fin 128) :
    at3 (after (dynamic_index_in_dim_4_ops (F := Ideal) (.of main_v26_1) (.of main_while1b_v38) main_while1b_call11) V (Proc.devRef .tc main_while1b_v40)) a b c
      = at4 (V (Proc.devRef .tc main_v26_1)) ⟨k, hk⟩ a b c := by
  show after _ V (Proc.devRef .tc main_while1b_v40) (ix3 a b c) = V (Proc.devRef .tc main_v26_1) (ix4 ⟨k, hk⟩ a b c)
  after_reads_simp
  exact slice_at (p := 8) (q := 128) (r := 128) _ _ sliceFits_S32x8x128x128_S1x8x128x128 k hk (.trans (by chain_rfl) hi)
    (by chain_rfl) (by chain_rfl) (by chain_rfl) _ _ _ _

/-- The read of row 2: one row of a stack. -/
theorem idx1_w (hk : k < 32) (hi : Place1 V k) (a : Fin 8) (b : Fin 64) (c : Fin 128) :
    at3 (after (dynamic_index_in_dim_ops (F := Ideal) (.of main_v26_2) (.of main_while1b_v38) main_while1b_call12) V (Proc.devRef .tc main_while1b_v41)) a b c
      = at4 (V (Proc.devRef .tc main_v26_2)) ⟨k, hk⟩ a b c := by
  show after _ V (Proc.devRef .tc main_while1b_v41) (ix3 a b c) = V (Proc.devRef .tc main_v26_2) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of row 3: one row of a stack. -/
theorem idx1_qd (hk : k < 32) (hi : Place1 V k) (a : Fin 8) (b : Fin 64) (c : Fin 128) :
    at3 (after (dynamic_index_in_dim_ops (F := Ideal) (.of main_v26_3) (.of main_while1b_v38) main_while1b_call13) V (Proc.devRef .tc main_while1b_v42)) a b c
      = at4 (V (Proc.devRef .tc main_v26_3)) ⟨k, hk⟩ a b c := by
  show after _ V (Proc.devRef .tc main_while1b_v42) (ix3 a b c) = V (Proc.devRef .tc main_v26_3) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of row 4: one row of a stack. -/
theorem idx1_vn (hk : k < 32) (hi : Place1 V k) (a : Fin 8) (b : Fin 64) (c : Fin 128) :
    at3 (after (dynamic_index_in_dim_ops (F := Ideal) (.of main_v26_4) (.of main_while1b_v38) main_while1b_call14) V (Proc.devRef .tc main_while1b_v43)) a b c
      = at4 (V (Proc.devRef .tc main_v26_4)) ⟨k, hk⟩ a b c := by
  show after _ V (Proc.devRef .tc main_while1b_v43) (ix3 a b c) = V (Proc.devRef .tc main_v26_4) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The read of row 5: one row of a stack. -/
theorem idx1_qk (hk : k < 32) (hi : Place1 V k) (a : Fin 8) (b : Fin 64) (c : Fin 64) :
    at3 (after (dynamic_index_in_dim_0_ops (F := Ideal) (.of main_v26_5) (.of main_while1b_v38) main_while1b_call15) V (Proc.devRef .tc main_while1b_v44)) a b c
      = at4 (V (Proc.devRef .tc main_v26_5)) ⟨k, hk⟩ a b c := by
  show after _ V (Proc.devRef .tc main_while1b_v44) (ix3 a b c) = V (Proc.devRef .tc main_v26_5) (ix4 ⟨k, hk⟩ a b c)
  after_reads_simp
  exact slice_at (p := 8) (q := 64) (r := 64) _ _ sliceFits_S32x8x64x64_S1x8x64x64 k hk (.trans (by chain_rfl) hi)
    (by chain_rfl) (by chain_rfl) (by chain_rfl) _ _ _ _

/-- The read of row 6: one row of a stack. -/
theorem idx1_gl (hk : k < 32) (hi : Place1 V k) (a : Fin 8) (b : Fin 1) (c : Fin 1) :
    at3 (after (dynamic_index_in_dim_5_ops (F := Ideal) (.of main_v26_6) (.of main_while1b_v38) main_while1b_call16) V (Proc.devRef .tc main_while1b_v45)) a b c
      = at4 (V (Proc.devRef .tc main_v26_6)) ⟨k, hk⟩ a b c := by
  show after _ V (Proc.devRef .tc main_while1b_v45) (ix3 a b c) = V (Proc.devRef .tc main_v26_6) (ix4 ⟨k, hk⟩ a b c)
  after_reads_simp
  exact slice_at (p := 8) (q := 1) (r := 1) _ _ sliceFits_S32x8x1x1_S1x8x1x1 k hk (.trans (by chain_rfl) hi)
    (by chain_rfl) (by chain_rfl) (by chain_rfl) _ _ _ _

/-- The read of row 7: one row of a stack. -/
theorem idx1_kd (hk : k < 32) (hi : Place1 V k) (a : Fin 8) (b : Fin 64) (c : Fin 128) :
    at3 (after (dynamic_index_in_dim_ops (F := Ideal) (.of main_v26_7) (.of main_while1b_v38) main_while1b_call17) V (Proc.devRef .tc main_while1b_v46)) a b c
      = at4 (V (Proc.devRef .tc main_v26_7)) ⟨k, hk⟩ a b c := by
  show after _ V (Proc.devRef .tc main_while1b_v46) (ix3 a b c) = V (Proc.devRef .tc main_v26_7) (ix4 ⟨k, hk⟩ a b c)
  after_reads_simp
  exact slice_at (p := 8) (q := 64) (r := 128) _ _ sliceFits_S32x8x64x128_S1x8x64x128 k hk (.trans (by chain_rfl) hi)
    (by chain_rfl) (by chain_rfl) (by chain_rfl) _ _ _ _

/-- The write of result 0: one row of a stack replaced. -/
theorem upd1_du (hk : k < 32) (hi : Place1 V k) (n : Fin 32) (a : Fin 8) (b : Fin 64) (c : Fin 128) :
    at4 (after (dynamic_update_index_in_dim_ops (F := Ideal) (.of main_v26_10) (.of main_while1b_v59) (.of main_while1b_v38) main_while1b_call18) V (Proc.devRef .tc main_while1b_v70)) n a b c
      = if n.val = k then at3 (V (Proc.devRef .tc main_while1b_v59)) a b c else at4 (V (Proc.devRef .tc main_v26_10)) n a b c := by
  show after _ V (Proc.devRef .tc main_while1b_v70) (ix4 n a b c)
    = if n.val = k then V (Proc.devRef .tc main_while1b_v59) (ix3 a b c) else V (Proc.devRef .tc main_v26_10) (ix4 n a b c)
  after_reads_simp
  exact update_at (p := 8) (q := 64) (r := 128) _ _ _ updateFits_S32x8x64x128_S1x8x64x128 k hk (.trans (by chain_rfl) hi)
    (by chain_rfl) (by chain_rfl) (by chain_rfl) bcast_S8x64x128_S1x8x64x128_1_2_3 _ _ _ _

/-- The write of result 1: one row of a stack replaced. -/
theorem upd1_dw (hk : k < 32) (hi : Place1 V k) (n : Fin 32) (a : Fin 8) (b : Fin 64) (c : Fin 128) :
    at4 (after (dynamic_update_index_in_dim_ops (F := Ideal) (.of main_v26_11) (.of main_while1b_v69) (.of main_while1b_v38) main_while1b_call19) V (Proc.devRef .tc main_while1b_v71)) n a b c
      = if n.val = k then at3 (V (Proc.devRef .tc main_while1b_v69)) a b c else at4 (V (Proc.devRef .tc main_v26_11)) n a b c := by
  show after _ V (Proc.devRef .tc main_while1b_v71) (ix4 n a b c)
    = if n.val = k then V (Proc.devRef .tc main_while1b_v69) (ix3 a b c) else V (Proc.devRef .tc main_v26_11) (ix4 n a b c)
  after_reads_simp
  exact update_at (p := 8) (q := 64) (r := 128) _ _ _ updateFits_S32x8x64x128_S1x8x64x128 k hk (.trans (by chain_rfl) hi)
    (by chain_rfl) (by chain_rfl) (by chain_rfl) bcast_S8x64x128_S1x8x64x128_1_2_3 _ _ _ _

/-- The write of result 2: one row of a stack replaced. -/
theorem upd1_dqk (hk : k < 32) (hi : Place1 V k) (n : Fin 32) (a : Fin 8) (b : Fin 64) (c : Fin 64) :
    at4 (after (dynamic_update_index_in_dim_6_ops (F := Ideal) (.of main_v26_12) (.of main_while1b_v60) (.of main_while1b_v38) main_while1b_call20) V (Proc.devRef .tc main_while1b_v72)) n a b c
      = if n.val = k then at3 (V (Proc.devRef .tc main_while1b_v60)) a b c else at4 (V (Proc.devRef .tc main_v26_12)) n a b c := by
  show after _ V (Proc.devRef .tc main_while1b_v72) (ix4 n a b c)
    = if n.val = k then V (Proc.devRef .tc main_while1b_v60) (ix3 a b c) else V (Proc.devRef .tc main_v26_12) (ix4 n a b c)
  after_reads_simp
  exact update_at (p := 8) (q := 64) (r := 64) _ _ _ updateFits_S32x8x64x64_S1x8x64x64 k hk (.trans (by chain_rfl) hi)
    (by chain_rfl) (by chain_rfl) (by chain_rfl) bcast_S8x64x64_S1x8x64x64_1_2_3 _ _ _ _

/-- The write of result 3: one row of a stack replaced. -/
theorem upd1_dqd (hk : k < 32) (hi : Place1 V k) (n : Fin 32) (a : Fin 8) (b : Fin 64) (c : Fin 128) :
    at4 (after (dynamic_update_index_in_dim_ops (F := Ideal) (.of main_v26_13) (.of main_while1b_v64) (.of main_while1b_v38) main_while1b_call21) V (Proc.devRef .tc main_while1b_v73)) n a b c
      = if n.val = k then at3 (V (Proc.devRef .tc main_while1b_v64)) a b c else at4 (V (Proc.devRef .tc main_v26_13)) n a b c := by
  show after _ V (Proc.devRef .tc main_while1b_v73) (ix4 n a b c)
    = if n.val = k then V (Proc.devRef .tc main_while1b_v64) (ix3 a b c) else V (Proc.devRef .tc main_v26_13) (ix4 n a b c)
  after_reads_simp
  exact update_at (p := 8) (q := 64) (r := 128) _ _ _ updateFits_S32x8x64x128_S1x8x64x128 k hk (.trans (by chain_rfl) hi)
    (by chain_rfl) (by chain_rfl) (by chain_rfl) bcast_S8x64x128_S1x8x64x128_1_2_3 _ _ _ _

/-- The write of result 4: one row of a stack replaced. -/
theorem upd1_dkd (hk : k < 32) (hi : Place1 V k) (n : Fin 32) (a : Fin 8) (b : Fin 64) (c : Fin 128) :
    at4 (after (dynamic_update_index_in_dim_ops (F := Ideal) (.of main_v26_14) (.of main_while1b_v50) (.of main_while1b_v38) main_while1b_call22) V (Proc.devRef .tc main_while1b_v74)) n a b c
      = if n.val = k then at3 (V (Proc.devRef .tc main_while1b_v50)) a b c else at4 (V (Proc.devRef .tc main_v26_14)) n a b c := by
  show after _ V (Proc.devRef .tc main_while1b_v74) (ix4 n a b c)
    = if n.val = k then V (Proc.devRef .tc main_while1b_v50) (ix3 a b c) else V (Proc.devRef .tc main_v26_14) (ix4 n a b c)
  after_reads_simp
  exact update_at (p := 8) (q := 64) (r := 128) _ _ _ updateFits_S32x8x64x128_S1x8x64x128 k hk (.trans (by chain_rfl) hi)
    (by chain_rfl) (by chain_rfl) (by chain_rfl) bcast_S8x64x128_S1x8x64x128_1_2_3 _ _ _ _

/-- The write of result 5: one row of a matrix replaced. -/
theorem upd1_dgl (hk : k < 32) (hi : Place1 V k) (n : Fin 32) (a : Fin 8) :
    at2 (after (dynamic_update_index_in_dim_7_ops (F := Ideal) (.of main_v26_15) (.of main_while1b_v56) (.of main_while1b_v38) main_while1b_call23) V (Proc.devRef .tc main_while1b_v75)) n a
      = if n.val = k then at1 (V (Proc.devRef .tc main_while1b_v56)) a else at2 (V (Proc.devRef .tc main_v26_15)) n a := by
  show after _ V (Proc.devRef .tc main_while1b_v75) (ix2 n a) = if n.val = k then V (Proc.devRef .tc main_while1b_v56) (ix1 a) else V (Proc.devRef .tc main_v26_15) (ix2 n a)
  after_reads_simp
  exact update_at2 (p := 8) _ _ _ updateFits_S32x8_S1x8 k hk (.trans (by chain_rfl) hi) (by chain_rfl) bcast_S8_S1x8_1 _ _

/-- The reads leave there the row at the place. -/
theorem A1_d (hk : k < 32) (hi : Place1 (P1 V) k) (a : Fin 8) (b : Fin 64) (c : Fin 128) :
    at3 (A1 V (Proc.devRef .tc main_while1b_v39)) a b c = at4 (P1 V (Proc.devRef .tc main_v26_0)) ⟨k, hk⟩ a b c := by
  simp only [A1, afterL_cons, afterL_nil]
  rw [index_keeps _ _ _ _ (by decide), index5_keeps _ _ _ _ (by decide), index0_keeps _ _ _ _ (by decide), index_keeps _ _ _ _ (by decide), index_keeps _ _ _ _ (by decide), index_keeps _ _ _ _ (by decide), index4_keeps _ _ _ _ (by decide), idx1_d _ hk hi]
/-- The reads leave there the row at the place. -/
theorem A1_st (hk : k < 32) (hi : Place1 (P1 V) k) (a : Fin 8) (b : Fin 128) (c : Fin 128) :
    at3 (A1 V (Proc.devRef .tc main_while1b_v40)) a b c = at4 (P1 V (Proc.devRef .tc main_v26_1)) ⟨k, hk⟩ a b c := by
  simp only [A1, afterL_cons, afterL_nil]
  rw [index_keeps _ _ _ _ (by decide), index5_keeps _ _ _ _ (by decide), index0_keeps _ _ _ _ (by decide), index_keeps _ _ _ _ (by decide), index_keeps _ _ _ _ (by decide), index_keeps _ _ _ _ (by decide), idx1_st _ hk (by rw [Place1, index_keeps _ _ _ _ (by decide)]; exact hi), index_keeps _ _ _ _ (by decide)]
/-- The reads leave there the row at the place. -/
theorem A1_w (hk : k < 32) (hi : Place1 (P1 V) k) (a : Fin 8) (b : Fin 64) (c : Fin 128) :
    at3 (A1 V (Proc.devRef .tc main_while1b_v41)) a b c = at4 (P1 V (Proc.devRef .tc main_v26_2)) ⟨k, hk⟩ a b c := by
  simp only [A1, afterL_cons, afterL_nil]
  rw [index_keeps _ _ _ _ (by decide), index5_keeps _ _ _ _ (by decide), index0_keeps _ _ _ _ (by decide), index_keeps _ _ _ _ (by decide), index_keeps _ _ _ _ (by decide), idx1_w _ hk (by rw [Place1, index4_keeps _ _ _ _ (by decide), index_keeps _ _ _ _ (by decide)]; exact hi), index4_keeps _ _ _ _ (by decide), index_keeps _ _ _ _ (by decide)]
/-- The reads leave there the row at the place. -/
theorem A1_qd (hk : k < 32) (hi : Place1 (P1 V) k) (a : Fin 8) (b : Fin 64) (c : Fin 128) :
    at3 (A1 V (Proc.devRef .tc main_while1b_v42)) a b c = at4 (P1 V (Proc.devRef .tc main_v26_3)) ⟨k, hk⟩ a b c := by
  simp only [A1, afterL_cons, afterL_nil]
  rw [index_keeps _ _ _ _ (by decide), index5_keeps _ _ _ _ (by decide), index0_keeps _ _ _ _ (by decide), index_keeps _ _ _ _ (by decide), idx1_qd _ hk (by rw [Place1, index_keeps _ _ _ _ (by decide), index4_keeps _ _ _ _ (by decide), index_keeps _ _ _ _ (by decide)]; exact hi), index_keeps _ _ _ _ (by decide), index4_keeps _ _ _ _ (by decide), index_keeps _ _ _ _ (by decide)]
/-- The reads leave there the row at the place. -/
theorem A1_vn (hk : k < 32) (hi : Place1 (P1 V) k) (a : Fin 8) (b : Fin 64) (c : Fin 128) :
    at3 (A1 V (Proc.devRef .tc main_while1b_v43)) a b c = at4 (P1 V (Proc.devRef .tc main_v26_4)) ⟨k, hk⟩ a b c := by
  simp only [A1, afterL_cons, afterL_nil]
  rw [index_keeps _ _ _ _ (by decide), index5_keeps _ _ _ _ (by decide), index0_keeps _ _ _ _ (by decide), idx1_vn _ hk (by rw [Place1, index_keeps _ _ _ _ (by decide), index_keeps _ _ _ _ (by decide), index4_keeps _ _ _ _ (by decide), index_keeps _ _ _ _ (by decide)]; exact hi), index_keeps _ _ _ _ (by decide), index_keeps _ _ _ _ (by decide), index4_keeps _ _ _ _ (by decide), index_keeps _ _ _ _ (by decide)]
/-- The reads leave there the row at the place. -/
theorem A1_qk (hk : k < 32) (hi : Place1 (P1 V) k) (a : Fin 8) (b : Fin 64) (c : Fin 64) :
    at3 (A1 V (Proc.devRef .tc main_while1b_v44)) a b c = at4 (P1 V (Proc.devRef .tc main_v26_5)) ⟨k, hk⟩ a b c := by
  simp only [A1, afterL_cons, afterL_nil]
  rw [index_keeps _ _ _ _ (by decide), index5_keeps _ _ _ _ (by decide), idx1_qk _ hk (by rw [Place1, index_keeps _ _ _ _ (by decide), index_keeps _ _ _ _ (by decide), index_keeps _ _ _ _ (by decide), index4_keeps _ _ _ _ (by decide), index_keeps _ _ _ _ (by decide)]; exact hi), index_keeps _ _ _ _ (by decide), index_keeps _ _ _ _ (by decide), index_keeps _ _ _ _ (by decide), index4_keeps _ _ _ _ (by decide), index_keeps _ _ _ _ (by decide)]
/-- The reads leave there the row at the place. -/
theorem A1_gl (hk : k < 32) (hi : Place1 (P1 V) k) (a : Fin 8) (b : Fin 1) (c : Fin 1) :
    at3 (A1 V (Proc.devRef .tc main_while1b_v45)) a b c = at4 (P1 V (Proc.devRef .tc main_v26_6)) ⟨k, hk⟩ a b c := by
  simp only [A1, afterL_cons, afterL_nil]
  rw [index_keeps _ _ _ _ (by decide), idx1_gl _ hk (by rw [Place1, index0_keeps _ _ _ _ (by decide), index_keeps _ _ _ _ (by decide), index_keeps _ _ _ _ (by decide), index_keeps _ _ _ _ (by decide), index4_keeps _ _ _ _ (by decide), index_keeps _ _ _ _ (by decide)]; exact hi), index0_keeps _ _ _ _ (by decide), index_keeps _ _ _ _ (by decide), index_keeps _ _ _ _ (by decide), index_keeps _ _ _ _ (by decide), index4_keeps _ _ _ _ (by decide), index_keeps _ _ _ _ (by decide)]
/-- The reads leave there the row at the place. -/
theorem A1_kd (hk : k < 32) (hi : Place1 (P1 V) k) (a : Fin 8) (b : Fin 64) (c : Fin 128) :
    at3 (A1 V (Proc.devRef .tc main_while1b_v46)) a b c = at4 (P1 V (Proc.devRef .tc main_v26_7)) ⟨k, hk⟩ a b c := by
  simp only [A1, afterL_cons, afterL_nil]
  rw [idx1_kd _ hk (by rw [Place1, index5_keeps _ _ _ _ (by decide), index0_keeps _ _ _ _ (by decide), index_keeps _ _ _ _ (by decide), index_keeps _ _ _ _ (by decide), index_keeps _ _ _ _ (by decide), index4_keeps _ _ _ _ (by decide), index_keeps _ _ _ _ (by decide)]; exact hi), index5_keeps _ _ _ _ (by decide), index0_keeps _ _ _ _ (by decide), index_keeps _ _ _ _ (by decide), index_keeps _ _ _ _ (by decide), index_keeps _ _ _ _ (by decide), index4_keeps _ _ _ _ (by decide), index_keeps _ _ _ _ (by decide)]
/-- What computing the place writes. -/
abbrev place1_W : List (Ref sig .tc) := [main_while1b_c_28, main_while1b_v37, main_while1b_c_29, main_while1b_v38]
/-- Computing the place keeps the rest. -/
theorem P1_keeps {r : Ref sig .tc} (hr : r ∉ place1_W) : P1 V (Proc.devRef .tc r) = V (Proc.devRef .tc r) :=
  after_of_writes_sub _ V (forall_writes_sub_of_map rfl) hr
/-- What the reads write. -/
abbrev A1_W : List (Ref sig .tc) := (bodyI1_W.drop 4).take 40
/-- The reads keep the rest. -/
theorem A1_keeps {r : Ref sig .tc} (hr : r ∉ A1_W) : A1 V (Proc.devRef .tc r) = P1 V (Proc.devRef .tc r) := by
  rw [A1, afterL_eq_after_flatten]
  exact after_of_writes_sub _ (P1 V) (forall_writes_sub_of_map rfl) hr
/-- What the arithmetic writes. -/
abbrev arith1_W : List (Ref sig .tc) := (bodyI1_W.drop 44).take 25
/-- The arithmetic keeps the rest. -/
theorem arith1_keeps {r : Ref sig .tc} (hr : r ∉ arith1_W) : after trip1_1 V (Proc.devRef .tc r) = V (Proc.devRef .tc r) :=
  after_of_writes_sub _ V (forall_writes_sub_of_map rfl) hr
/-- The place is kept up to the writes. -/
theorem G1_place (hi : Place1 (P1 V) k) : Place1 (G1 V) k := by
  rw [Place1, G1, arith1_keeps _ (by decide), A1_keeps _ (by decide)]
  exact hi
/-- The last copy. -/
theorem copies1_dgl : after trip1_3 V (Proc.devRef .tc main_v26_15) = V (Proc.devRef .tc main_while1b_v75) := by
  after_reads_simp
  rfl
/-- The last copy keeps the rest. -/
theorem last1_keeps {r : Ref sig .tc} (hr : r ∉ [main_v26_15]) : after trip1_3 V (Proc.devRef .tc r) = V (Proc.devRef .tc r) :=
  after_of_writes_sub _ V (forall_writes_sub_of_map rfl) hr
/-- The trip's copies. -/
theorem copies1_D : after trip1_2 V (Proc.devRef .tc main_v26_9) = V (Proc.devRef .tc main_while1b_v68) := by
  after_reads_simp
  rfl
/-- The trip's copies. -/
theorem copies1_du : after trip1_2 V (Proc.devRef .tc main_v26_10) = V (Proc.devRef .tc main_while1b_v70) := by
  after_reads_simp
  rfl
/-- The trip's copies. -/
theorem copies1_dw : after trip1_2 V (Proc.devRef .tc main_v26_11) = V (Proc.devRef .tc main_while1b_v71) := by
  after_reads_simp
  rfl
/-- The trip's copies. -/
theorem copies1_dqk : after trip1_2 V (Proc.devRef .tc main_v26_12) = V (Proc.devRef .tc main_while1b_v72) := by
  after_reads_simp
  rfl
/-- The trip's copies. -/
theorem copies1_dqd : after trip1_2 V (Proc.devRef .tc main_v26_13) = V (Proc.devRef .tc main_while1b_v73) := by
  after_reads_simp
  rfl
/-- The trip's copies. -/
theorem copies1_dkd : after trip1_2 V (Proc.devRef .tc main_v26_14) = V (Proc.devRef .tc main_while1b_v74) := by
  after_reads_simp
  rfl
/-- What the copies write. -/
abbrev copies1_W : List (Ref sig .tc) := [main_while1b_c_32, main_while1b_v76, main_v26_8, main_v26_9, main_v26_10, main_v26_11, main_v26_12, main_v26_13, main_v26_14]
/-- The copies keep the rest. -/
theorem copies1_keeps {r : Ref sig .tc} (hr : r ∉ copies1_W) : after trip1_2 V (Proc.devRef .tc r) = V (Proc.devRef .tc r) :=
  after_of_writes_sub _ V (forall_writes_sub_of_map rfl) hr
/-- The state's gradient after the trip. -/
theorem trip1_D_is : afterL bodyI1 V (Proc.devRef .tc main_v26_9) = G1 V (Proc.devRef .tc main_while1b_v68) := by
  simp only [bodyI1, G1, A1, P1, afterL_cons, afterL_nil]
  rw [last1_keeps _ (by decide), copies1_D, update7_keeps _ _ _ _ _ (by decide), update_keeps _ _ _ _ _ (by decide), update_keeps _ _ _ _ _ (by decide), update6_keeps _ _ _ _ _ (by decide), update_keeps _ _ _ _ _ (by decide), update_keeps _ _ _ _ _ (by decide)]
/-- What the trip leaves of result 0. -/
theorem trip1_du_is (hk : k < 32) (hi : Place1 (P1 V) k) (n : Fin 32) (a : Fin 8) (b : Fin 64) (c : Fin 128) :
    at4 (afterL bodyI1 V (Proc.devRef .tc main_v26_10)) n a b c
      = if n.val = k then at3 (G1 V (Proc.devRef .tc main_while1b_v59)) a b c else at4 (G1 V (Proc.devRef .tc main_v26_10)) n a b c := by
  simp only [bodyI1, afterL_cons, afterL_nil]
  rw [last1_keeps _ (by decide), copies1_du, update7_keeps _ _ _ _ _ (by decide), update_keeps _ _ _ _ _ (by decide), update_keeps _ _ _ _ _ (by decide), update6_keeps _ _ _ _ _ (by decide), update_keeps _ _ _ _ _ (by decide), upd1_du _ hk (by rw [Place1]; exact G1_place V hi)]
  simp only [G1, A1, P1, afterL_cons, afterL_nil]
/-- What the trip leaves of result 1. -/
theorem trip1_dw_is (hk : k < 32) (hi : Place1 (P1 V) k) (n : Fin 32) (a : Fin 8) (b : Fin 64) (c : Fin 128) :
    at4 (afterL bodyI1 V (Proc.devRef .tc main_v26_11)) n a b c
      = if n.val = k then at3 (G1 V (Proc.devRef .tc main_while1b_v69)) a b c else at4 (G1 V (Proc.devRef .tc main_v26_11)) n a b c := by
  simp only [bodyI1, afterL_cons, afterL_nil]
  rw [last1_keeps _ (by decide), copies1_dw, update7_keeps _ _ _ _ _ (by decide), update_keeps _ _ _ _ _ (by decide), update_keeps _ _ _ _ _ (by decide), update6_keeps _ _ _ _ _ (by decide), upd1_dw _ hk (by rw [Place1, update_keeps _ _ _ _ _ (by decide)]; exact G1_place V hi), update_keeps _ _ _ _ _ (by decide), update_keeps _ _ _ _ _ (by decide)]
  simp only [G1, A1, P1, afterL_cons, afterL_nil]
/-- What the trip leaves of result 2. -/
theorem trip1_dqk_is (hk : k < 32) (hi : Place1 (P1 V) k) (n : Fin 32) (a : Fin 8) (b : Fin 64) (c : Fin 64) :
    at4 (afterL bodyI1 V (Proc.devRef .tc main_v26_12)) n a b c
      = if n.val = k then at3 (G1 V (Proc.devRef .tc main_while1b_v60)) a b c else at4 (G1 V (Proc.devRef .tc main_v26_12)) n a b c := by
  simp only [bodyI1, afterL_cons, afterL_nil]
  rw [last1_keeps _ (by decide), copies1_dqk, update7_keeps _ _ _ _ _ (by decide), update_keeps _ _ _ _ _ (by decide), update_keeps _ _ _ _ _ (by decide), upd1_dqk _ hk (by rw [Place1, update_keeps _ _ _ _ _ (by decide), update_keeps _ _ _ _ _ (by decide)]; exact G1_place V hi), update_keeps _ _ _ _ _ (by decide), update_keeps _ _ _ _ _ (by decide), update_keeps _ _ _ _ _ (by decide), update_keeps _ _ _ _ _ (by decide)]
  simp only [G1, A1, P1, afterL_cons, afterL_nil]
/-- What the trip leaves of result 3. -/
theorem trip1_dqd_is (hk : k < 32) (hi : Place1 (P1 V) k) (n : Fin 32) (a : Fin 8) (b : Fin 64) (c : Fin 128) :
    at4 (afterL bodyI1 V (Proc.devRef .tc main_v26_13)) n a b c
      = if n.val = k then at3 (G1 V (Proc.devRef .tc main_while1b_v64)) a b c else at4 (G1 V (Proc.devRef .tc main_v26_13)) n a b c := by
  simp only [bodyI1, afterL_cons, afterL_nil]
  rw [last1_keeps _ (by decide), copies1_dqd, update7_keeps _ _ _ _ _ (by decide), update_keeps _ _ _ _ _ (by decide), upd1_dqd _ hk (by rw [Place1, update6_keeps _ _ _ _ _ (by decide), update_keeps _ _ _ _ _ (by decide), update_keeps _ _ _ _ _ (by decide)]; exact G1_place V hi), update6_keeps _ _ _ _ _ (by decide), update_keeps _ _ _ _ _ (by decide), update_keeps _ _ _ _ _ (by decide), update6_keeps _ _ _ _ _ (by decide), update_keeps _ _ _ _ _ (by decide), update_keeps _ _ _ _ _ (by decide)]
  simp only [G1, A1, P1, afterL_cons, afterL_nil]
/-- What the trip leaves of result 4. -/
theorem trip1_dkd_is (hk : k < 32) (hi : Place1 (P1 V) k) (n : Fin 32) (a : Fin 8) (b : Fin 64) (c : Fin 128) :
    at4 (afterL bodyI1 V (Proc.devRef .tc main_v26_14)) n a b c
      = if n.val = k then at3 (G1 V (Proc.devRef .tc main_while1b_v50)) a b c else at4 (G1 V (Proc.devRef .tc main_v26_14)) n a b c := by
  simp only [bodyI1, afterL_cons, afterL_nil]
  rw [last1_keeps _ (by decide), copies1_dkd, update7_keeps _ _ _ _ _ (by decide), upd1_dkd _ hk (by rw [Place1, update_keeps _ _ _ _ _ (by decide), update6_keeps _ _ _ _ _ (by decide), update_keeps _ _ _ _ _ (by decide), update_keeps _ _ _ _ _ (by decide)]; exact G1_place V hi), update_keeps _ _ _ _ _ (by decide), update6_keeps _ _ _ _ _ (by decide), update_keeps _ _ _ _ _ (by decide), update_keeps _ _ _ _ _ (by decide), update_keeps _ _ _ _ _ (by decide), update6_keeps _ _ _ _ _ (by decide), update_keeps _ _ _ _ _ (by decide), update_keeps _ _ _ _ _ (by decide)]
  simp only [G1, A1, P1, afterL_cons, afterL_nil]
/-- What the trip leaves of result 5. -/
theorem trip1_dgl_is (hk : k < 32) (hi : Place1 (P1 V) k) (n : Fin 32) (a : Fin 8) :
    at2 (afterL bodyI1 V (Proc.devRef .tc main_v26_15)) n a
      = if n.val = k then at1 (G1 V (Proc.devRef .tc main_while1b_v56)) a else at2 (G1 V (Proc.devRef .tc main_v26_15)) n a := by
  simp only [bodyI1, afterL_cons, afterL_nil]
  rw [copies1_dgl, copies1_keeps _ (by decide), upd1_dgl _ hk (by rw [Place1, update_keeps _ _ _ _ _ (by decide), update_keeps _ _ _ _ _ (by decide), update6_keeps _ _ _ _ _ (by decide), update_keeps _ _ _ _ _ (by decide), update_keeps _ _ _ _ _ (by decide)]; exact G1_place V hi), update_keeps _ _ _ _ _ (by decide), update_keeps _ _ _ _ _ (by decide), update6_keeps _ _ _ _ _ (by decide), update_keeps _ _ _ _ _ (by decide), update_keeps _ _ _ _ _ (by decide), update_keeps _ _ _ _ _ (by decide), update_keeps _ _ _ _ _ (by decide), update6_keeps _ _ _ _ _ (by decide), update_keeps _ _ _ _ _ (by decide), update_keeps _ _ _ _ _ (by decide)]
  simp only [G1, A1, P1, afterL_cons, afterL_nil]

end Cert.RefProof

end
-- ==== Proof.RefStep1.lean ====
/- One trip of the reference's second loop is one step of the gradient's recurrence. -/
module

public import proofs.«01_k».proof.Proof.RefTrip1

@[expose] public section

set_option maxRecDepth 16384

noncomputable section

namespace Cert.RefProof

open Cert.ReferenceIdeal Cert.ReferenceIdeal.Gen
open Idealize.ShloMosaic Idealize.ShloMosaic.TcCoe
open Idealize.ShloMosaic.StableHlo

section Arith

variable (W : Valuation τ sig (Elt Ideal))

/-- The gradient of the new values, from the rows read: `kd·D + qkᵀ·do`. -/
def gradRow (h : Fin 8) (c : Fin 64) (e : Fin 128) : EReal :=
  (∑ j : Fin 128, at3 (W (Proc.devRef .tc main_v26_9)) h j e * at3 (W (Proc.devRef .tc main_while1b_v46)) h c j)
    + ∑ s : Fin 64, at3 (W (Proc.devRef .tc main_while1b_v39)) h s e * at3 (W (Proc.devRef .tc main_while1b_v44)) h s c

/-- The arithmetic's gradient of the new values. -/
theorem arith1_du (h : Fin 8) (c : Fin 64) (e : Fin 128) :
    at3 (after (trip1_1 (F := Ideal)) W (Proc.devRef .tc main_while1b_v59)) h c e = gradRow W h c e := by
  show after (trip1_1 (F := Ideal)) W (Proc.devRef .tc main_while1b_v59) (ix3 h c e) = _
  rw [gradRow]
  after_reads_at

/-- The arithmetic's gradient of `w`. -/
theorem arith1_dw (h : Fin 8) (c : Fin 64) (j : Fin 128) :
    at3 (after (trip1_1 (F := Ideal)) W (Proc.devRef .tc main_while1b_v69)) h c j
      = ∑ e : Fin 128, -gradRow W h c e * at3 (W (Proc.devRef .tc main_while1b_v40)) h j e := by
  show after (trip1_1 (F := Ideal)) W (Proc.devRef .tc main_while1b_v69) (ix3 h c j) = _
  simp only [gradRow]
  after_reads_at

/-- The arithmetic's gradient of `qk`. -/
theorem arith1_dqk (h : Fin 8) (c s : Fin 64) :
    at3 (after (trip1_1 (F := Ideal)) W (Proc.devRef .tc main_while1b_v60)) h c s
      = ∑ e : Fin 128, at3 (W (Proc.devRef .tc main_while1b_v39)) h c e * at3 (W (Proc.devRef .tc main_while1b_v43)) h s e := by
  show after (trip1_1 (F := Ideal)) W (Proc.devRef .tc main_while1b_v60) (ix3 h c s) = _
  after_reads_at

/-- The arithmetic's gradient of `qd`. -/
theorem arith1_dqd (h : Fin 8) (c : Fin 64) (j : Fin 128) :
    at3 (after (trip1_1 (F := Ideal)) W (Proc.devRef .tc main_while1b_v64)) h c j
      = ∑ e : Fin 128, at3 (W (Proc.devRef .tc main_while1b_v39)) h c e * at3 (W (Proc.devRef .tc main_while1b_v40)) h j e := by
  show after (trip1_1 (F := Ideal)) W (Proc.devRef .tc main_while1b_v64) (ix3 h c j) = _
  after_reads_at

/-- The arithmetic's gradient of `kd`. -/
theorem arith1_dkd (h : Fin 8) (c : Fin 64) (j : Fin 128) :
    at3 (after (trip1_1 (F := Ideal)) W (Proc.devRef .tc main_while1b_v50)) h c j
      = ∑ e : Fin 128, at3 (W (Proc.devRef .tc main_v26_9)) h j e * at3 (W (Proc.devRef .tc main_while1b_v43)) h c e := by
  show after (trip1_1 (F := Ideal)) W (Proc.devRef .tc main_while1b_v50) (ix3 h c j) = _
  after_reads_at

/-- The arithmetic's gradient of the decay. -/
theorem arith1_dgl (h : Fin 8) :
    at1 (after (trip1_1 (F := Ideal)) W (Proc.devRef .tc main_while1b_v56)) h
      = ∑ j : Fin 128, ∑ e : Fin 128, at3 (W (Proc.devRef .tc main_while1b_v40)) h j e * at3 (W (Proc.devRef .tc main_v26_9)) h j e := by
  show after (trip1_1 (F := Ideal)) W (Proc.devRef .tc main_while1b_v56) (ix1 h) = _
  after_reads_at
  simp only [Finset.univ_unique, Finset.sum_singleton]

/-- The arithmetic's gradient of the state. -/
theorem arith1_D (h : Fin 8) (j e : Fin 128) :
    at3 (after (trip1_1 (F := Ideal)) W (Proc.devRef .tc main_while1b_v68)) h j e
      = (at3 (W (Proc.devRef .tc main_v26_9)) h j e * at3 (W (Proc.devRef .tc main_while1b_v45)) h 0 0
        + ∑ c : Fin 64, at3 (W (Proc.devRef .tc main_while1b_v39)) h c e * at3 (W (Proc.devRef .tc main_while1b_v42)) h c j)
        + ∑ c : Fin 64, -gradRow W h c e * at3 (W (Proc.devRef .tc main_while1b_v41)) h c j := by
  show after (trip1_1 (F := Ideal)) W (Proc.devRef .tc main_while1b_v68) (ix3 h j e) = _
  simp only [gradRow]
  after_reads_at

end Arith

/-- What the second loop's buffers hold, as the scan's arguments and what its forward pass saved. -/
structure Holds1 (V : Valuation τ sig (Elt Ideal)) (A : Spec.In) : Prop where
  d : ∀ (n : Fin 32) h c e, at4 (V (Proc.devRef .tc main_v26_0)) n h c e = A.d n h c e
  st : ∀ (n : Fin 32) h j e, at4 (V (Proc.devRef .tc main_v26_1)) n h j e = Spec.S A n h j e
  w : ∀ (n : Fin 32) h c e, at4 (V (Proc.devRef .tc main_v26_2)) n h c e = A.w n h c e
  qd : ∀ (n : Fin 32) h c e, at4 (V (Proc.devRef .tc main_v26_3)) n h c e = A.qd n h c e
  vn : ∀ (n : Fin 32) h c e, at4 (V (Proc.devRef .tc main_v26_4)) n h c e = Spec.vn A n h c e
  qk : ∀ (n : Fin 32) h c s, at4 (V (Proc.devRef .tc main_v26_5)) n h c s = A.qk n h c s
  gl : ∀ (n : Fin 32) h, at4 (V (Proc.devRef .tc main_v26_6)) n h 0 0 = A.gl n h
  kd : ∀ (n : Fin 32) h c e, at4 (V (Proc.devRef .tc main_v26_7)) n h c e = A.kd n h c e

variable {V : Valuation τ sig (Elt Ideal)} {A : Spec.In} {k : ℕ} {D : Fin 8 → Fin 128 → Fin 128 → EReal}
  (H : Holds1 V A) (hk : k < 32) (hi : Place1 (P1 V) k) (hD : ∀ h j e, at3 (V (Proc.devRef .tc main_v26_9)) h j e = D h j e)

include H hk hi

/-- The rows read are the scan's. -/
theorem read1_d (h : Fin 8) (c : Fin 64) (e : Fin 128) : at3 (A1 V (Proc.devRef .tc main_while1b_v39)) h c e = A.d k h c e := by
  rw [A1_d V hk hi, P1_keeps _ (by decide), H.d]
/-- The step reads the state before chunk `k`. -/
theorem read1_st (h : Fin 8) (j e : Fin 128) : at3 (A1 V (Proc.devRef .tc main_while1b_v40)) h j e = Spec.S A k h j e := by
  rw [A1_st V hk hi, P1_keeps _ (by decide), H.st]
/-- The step reads chunk `k` of `w`. -/
theorem read1_w (h : Fin 8) (c : Fin 64) (e : Fin 128) : at3 (A1 V (Proc.devRef .tc main_while1b_v41)) h c e = A.w k h c e := by
  rw [A1_w V hk hi, P1_keeps _ (by decide), H.w]
/-- The step reads chunk `k` of `qd`. -/
theorem read1_qd (h : Fin 8) (c : Fin 64) (e : Fin 128) : at3 (A1 V (Proc.devRef .tc main_while1b_v42)) h c e = A.qd k h c e := by
  rw [A1_qd V hk hi, P1_keeps _ (by decide), H.qd]
/-- The step reads the corrected values of chunk `k`. -/
theorem read1_vn (h : Fin 8) (c : Fin 64) (e : Fin 128) : at3 (A1 V (Proc.devRef .tc main_while1b_v43)) h c e = Spec.vn A k h c e := by
  rw [A1_vn V hk hi, P1_keeps _ (by decide), H.vn]
/-- The step reads chunk `k` of `qk`. -/
theorem read1_qk (h : Fin 8) (c s : Fin 64) : at3 (A1 V (Proc.devRef .tc main_while1b_v44)) h c s = A.qk k h c s := by
  rw [A1_qk V hk hi, P1_keeps _ (by decide), H.qk]
/-- The step reads the decay of chunk `k`. -/
theorem read1_gl (h : Fin 8) : at3 (A1 V (Proc.devRef .tc main_while1b_v45)) h 0 0 = A.gl k h := by
  rw [A1_gl V hk hi, P1_keeps _ (by decide), H.gl]
/-- The step reads chunk `k` of `kd`. -/
theorem read1_kd (h : Fin 8) (c : Fin 64) (e : Fin 128) : at3 (A1 V (Proc.devRef .tc main_while1b_v46)) h c e = A.kd k h c e := by
  rw [A1_kd V hk hi, P1_keeps _ (by decide), H.kd]
include hD in
omit H hk hi in
/-- The state's gradient as the arithmetic meets it. -/
theorem read1_D (h : Fin 8) (j e : Fin 128) : at3 (A1 V (Proc.devRef .tc main_v26_9)) h j e = D h j e := by
  rw [A1_keeps _ (by decide), P1_keeps _ (by decide), hD]

include hD

/-- The gradient of the new values. -/
theorem gradRow_eq (h : Fin 8) (c : Fin 64) (e : Fin 128) : gradRow (A1 V) h c e = Spec.gradV A k D h c e := by
  simp only [gradRow, Spec.gradV, read1_d H hk hi, read1_qk H hk hi, read1_kd H hk hi, read1_D hD]
  rw [add_comm]
  exact congrArg₂ (· + ·) (Finset.sum_congr rfl fun s _ => EReal.mul_comm _ _) (Finset.sum_congr rfl fun j _ => EReal.mul_comm _ _)

/-- The state's gradient after the trip. -/
theorem step1_D (h : Fin 8) (j e : Fin 128) :
    at3 (afterL bodyI1 V (Proc.devRef .tc main_v26_9)) h j e
      = (D h j e * A.gl k h + ∑ c, A.d k h c e * A.qd k h c j) + ∑ c, -Spec.gradV A k D h c e * A.w k h c j := by
  rw [trip1_D_is, G1, arith1_D]
  simp only [gradRow_eq H hk hi hD, read1_d H hk hi, read1_qd H hk hi, read1_gl H hk hi, read1_w H hk hi, read1_D hD]

/-- What the trip leaves of the gradient of `u`. -/
theorem step1_du (n : Fin 32) (h : Fin 8) (c : Fin 64) (e : Fin 128) :
    at4 (afterL bodyI1 V (Proc.devRef .tc main_v26_10)) n h c e
      = if n.val = k then Spec.gradV A k D h c e else at4 (V (Proc.devRef .tc main_v26_10)) n h c e := by
  rw [trip1_du_is V hk hi, G1, arith1_du, gradRow_eq H hk hi hD, arith1_keeps _ (by decide), A1_keeps _ (by decide), P1_keeps _ (by decide)]

/-- What the trip leaves of the gradient of `w`. -/
theorem step1_dw (n : Fin 32) (h : Fin 8) (c : Fin 64) (j : Fin 128) :
    at4 (afterL bodyI1 V (Proc.devRef .tc main_v26_11)) n h c j
      = if n.val = k then ∑ e, -Spec.gradV A k D h c e * Spec.S A k h j e else at4 (V (Proc.devRef .tc main_v26_11)) n h c j := by
  rw [trip1_dw_is V hk hi, G1, arith1_dw, arith1_keeps _ (by decide), A1_keeps (r := main_v26_11) _ (by decide), P1_keeps _ (by decide)]
  simp only [gradRow_eq H hk hi hD, read1_st H hk hi]

omit hD in
/-- What the trip leaves of the gradient of `qk`. -/
theorem step1_dqk (n : Fin 32) (h : Fin 8) (c s : Fin 64) :
    at4 (afterL bodyI1 V (Proc.devRef .tc main_v26_12)) n h c s
      = if n.val = k then ∑ e, A.d k h c e * Spec.vn A k h s e else at4 (V (Proc.devRef .tc main_v26_12)) n h c s := by
  rw [trip1_dqk_is V hk hi, G1, arith1_dqk, arith1_keeps _ (by decide), A1_keeps (r := main_v26_12) _ (by decide), P1_keeps _ (by decide)]
  simp only [read1_d H hk hi, read1_vn H hk hi]

omit hD in
/-- What the trip leaves of the gradient of `qd`. -/
theorem step1_dqd (n : Fin 32) (h : Fin 8) (c : Fin 64) (j : Fin 128) :
    at4 (afterL bodyI1 V (Proc.devRef .tc main_v26_13)) n h c j
      = if n.val = k then ∑ e, A.d k h c e * Spec.S A k h j e else at4 (V (Proc.devRef .tc main_v26_13)) n h c j := by
  rw [trip1_dqd_is V hk hi, G1, arith1_dqd, arith1_keeps _ (by decide), A1_keeps (r := main_v26_13) _ (by decide), P1_keeps _ (by decide)]
  simp only [read1_d H hk hi, read1_st H hk hi]

/-- What the trip leaves of the gradient of `kd`. -/
theorem step1_dkd (n : Fin 32) (h : Fin 8) (c : Fin 64) (j : Fin 128) :
    at4 (afterL bodyI1 V (Proc.devRef .tc main_v26_14)) n h c j
      = if n.val = k then ∑ e, Spec.vn A k h c e * D h j e else at4 (V (Proc.devRef .tc main_v26_14)) n h c j := by
  rw [trip1_dkd_is V hk hi, G1, arith1_dkd, arith1_keeps _ (by decide), A1_keeps (r := main_v26_14) _ (by decide), P1_keeps _ (by decide)]
  simp only [read1_D hD, read1_vn H hk hi, EReal.mul_comm (D h j _)]

/-- What the trip leaves of the gradient of the decay. -/
theorem step1_dgl (n : Fin 32) (h : Fin 8) :
    at2 (afterL bodyI1 V (Proc.devRef .tc main_v26_15)) n h
      = if n.val = k then ∑ j, ∑ e, D h j e * Spec.S A k h j e else at2 (V (Proc.devRef .tc main_v26_15)) n h := by
  rw [trip1_dgl_is V hk hi, G1, arith1_dgl, arith1_keeps _ (by decide), A1_keeps (r := main_v26_15) _ (by decide), P1_keeps _ (by decide)]
  simp only [read1_D hD, read1_st H hk hi, EReal.mul_comm (D h _ _)]

end Cert.RefProof

end
-- ==== Proof.RefVal.lean ====
/- What the reference's loops leave, as the scan's recurrences. -/
module

public import proofs.«01_k».proof.Proof.RefTrip0
public import proofs.«01_k».proof.Proof.RefStep1
public import proofs.«01_k».proof.Proof.KerVal

@[expose] public section

set_option maxRecDepth 16384

noncomputable section

namespace Cert.RefProof

open Cert.ReferenceIdeal Cert.ReferenceIdeal.Gen
open Idealize.ShloMosaic Idealize.ShloMosaic.TcCoe
open Idealize.ShloMosaic.StableHlo

/-- Rows split by chunk and head, at an index. -/
theorem toHeads_at (x : S2048x1024.Idx → EReal) (n : Fin 32) (h : Fin 8) (r : Fin 64) (e : Fin 128) :
    transpose S32x8x64x128 [0, 2, 1, 3] (shapeCast S32x64x8x128 x shapeCasts_S2048x1024_S32x64x8x128)
      transposes_S32x64x8x128_S32x8x64x128_0_2_1_3 (ix4 n h r e) = x (ix2 (Spec.row n r) (Cert.Proof.col h e)) := by
  pointwise
  refine congrArg x ?_
  have hn := n.isLt
  have hr := r.isLt
  congr 1
  · exact Fin.ext (by show n.val * 64 + r.val = (64 * n.val + r.val) % 2048; omega)
  · exact Fin.ext (by show h.val * 128 + e.val = 128 * h.val + e.val; omega)

/-- Chunks and heads put back in rows: the array of rows that holds what they hold. -/
theorem fromHeads_eq (y : S32x8x64x128.Idx → EReal) (f : ℕ → Fin 8 → Fin 64 → Fin 128 → EReal) (hy : ∀ (n : Fin 32) h r e, at4 y n h r e = f n h r e) :
    shapeCast S2048x1024 (transpose S32x64x8x128 [0, 2, 1, 3] y transposes_S32x8x64x128_S32x64x8x128_0_2_1_3)
      shapeCasts_S32x64x8x128_S2048x1024 = Spec.colsOf f := by
  funext z
  rw [ValueIdx.eq_ix2 z]
  have h0 : (z 0).val < 2048 := (z 0).isLt
  have h1 : (z 1).val < 1024 := (z 1).isLt
  refine Eq.trans ?_ ((hy ⟨(z 0).val / 64, by omega⟩ ⟨(z 1).val / 128, by omega⟩ ⟨(z 0).val % 64, by omega⟩ ⟨(z 1).val % 128, by omega⟩).trans
    (Spec.colsOf_at f _ _ _ _ _ (by show (z 0).val = _; simp only; omega) (by show (z 1).val = _; simp only; omega)).symm)
  show shapeCast S2048x1024 (transpose S32x64x8x128 [0, 2, 1, 3] y transposes_S32x8x64x128_S32x64x8x128_0_2_1_3)
      shapeCasts_S32x64x8x128_S2048x1024 (ix2 (z 0) (z 1)) = _
  pointwise
  trace_state

/-- The host's `u` by chunk and head. -/
theorem after_host0_u (V : Valuation τ sig (Elt Ideal)) : after host0 V (Proc.devRef .tc main_v13_0) = transpose S32x8x64x128 [0, 2, 1, 3] (shapeCast S32x64x8x128 (V (Proc.devRef .tc main_arg0)) shapeCasts_S2048x1024_S32x64x8x128)
      transposes_S32x64x8x128_S32x8x64x128_0_2_1_3 := by
  after_reads_simp
  rfl
/-- The host's `w` by chunk and head. -/
theorem after_host0_w (V : Valuation τ sig (Elt Ideal)) : after host0 V (Proc.devRef .tc main_v13_1) = transpose S32x8x64x128 [0, 2, 1, 3] (shapeCast S32x64x8x128 (V (Proc.devRef .tc main_arg1)) shapeCasts_S2048x1024_S32x64x8x128)
      transposes_S32x64x8x128_S32x8x64x128_0_2_1_3 := by
  after_reads_simp
  rfl
/-- The host's `qd` by chunk and head. -/
theorem after_host0_qd (V : Valuation τ sig (Elt Ideal)) : after host0 V (Proc.devRef .tc main_v13_3) = transpose S32x8x64x128 [0, 2, 1, 3] (shapeCast S32x64x8x128 (V (Proc.devRef .tc main_arg2)) shapeCasts_S2048x1024_S32x64x8x128)
      transposes_S32x64x8x128_S32x8x64x128_0_2_1_3 := by
  after_reads_simp
  rfl
/-- The host's `kd` by chunk and head. -/
theorem after_host0_kd (V : Valuation τ sig (Elt Ideal)) : after host0 V (Proc.devRef .tc main_v13_4) = transpose S32x8x64x128 [0, 2, 1, 3] (shapeCast S32x64x8x128 (V (Proc.devRef .tc main_arg3)) shapeCasts_S2048x1024_S32x64x8x128)
      transposes_S32x64x8x128_S32x8x64x128_0_2_1_3 := by
  after_reads_simp
  rfl
/-- The host's `d` by chunk and head. -/
theorem after_host1_d (V : Valuation τ sig (Elt Ideal)) : after host1 V (Proc.devRef .tc main_v26_0) = transpose S32x8x64x128 [0, 2, 1, 3] (shapeCast S32x64x8x128 (V (Proc.devRef .tc main_arg6)) shapeCasts_S2048x1024_S32x64x8x128)
      transposes_S32x64x8x128_S32x8x64x128_0_2_1_3 := by
  after_reads_simp
  rfl
/-- The host's `w3` by chunk and head. -/
theorem after_host0_w3 (V : Valuation τ sig (Elt Ideal)) : after host0 V (Proc.devRef .tc main_v3) = transpose S32x8x64x128 [0, 2, 1, 3] (shapeCast S32x64x8x128 (V (Proc.devRef .tc main_arg1)) shapeCasts_S2048x1024_S32x64x8x128)
      transposes_S32x64x8x128_S32x8x64x128_0_2_1_3 := by
  after_reads_simp
  rfl
/-- The host's `qd5` by chunk and head. -/
theorem after_host0_qd5 (V : Valuation τ sig (Elt Ideal)) : after host0 V (Proc.devRef .tc main_v5) = transpose S32x8x64x128 [0, 2, 1, 3] (shapeCast S32x64x8x128 (V (Proc.devRef .tc main_arg2)) shapeCasts_S2048x1024_S32x64x8x128)
      transposes_S32x64x8x128_S32x8x64x128_0_2_1_3 := by
  after_reads_simp
  rfl
/-- The host's `kd7` by chunk and head. -/
theorem after_host0_kd7 (V : Valuation τ sig (Elt Ideal)) : after host0 V (Proc.devRef .tc main_v7) = transpose S32x8x64x128 [0, 2, 1, 3] (shapeCast S32x64x8x128 (V (Proc.devRef .tc main_arg3)) shapeCasts_S2048x1024_S32x64x8x128)
      transposes_S32x64x8x128_S32x8x64x128_0_2_1_3 := by
  after_reads_simp
  rfl

variable (m : (ℓ : Loc nD τ sig) → Buf (Elt Ideal) ℓ) (c : Dev nD)

/-- The reference's arguments, by chunk, head and place. -/
abbrev args : Spec.In := Spec.inOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The first loop is entered with `u` by chunk and head. -/
theorem entry0_u (n : Fin 32) (h : Fin 8) (r : Fin 64) (e : Fin 128) : at4 (E0 m c (Proc.devRef .tc main_v13_0)) n h r e = (args m c).u n h r e := by
  rw [show E0 m c (Proc.devRef .tc main_v13_0) = _ from after_host0_u (launchContents m c)]
  exact toHeads_at _ n h r e
/-- The first loop is entered with `w` by chunk and head. -/
theorem entry0_w (n : Fin 32) (h : Fin 8) (r : Fin 64) (e : Fin 128) : at4 (E0 m c (Proc.devRef .tc main_v13_1)) n h r e = (args m c).w n h r e := by
  rw [show E0 m c (Proc.devRef .tc main_v13_1) = _ from after_host0_w (launchContents m c)]
  exact toHeads_at _ n h r e
/-- The first loop is entered with `qd` by chunk and head. -/
theorem entry0_qd (n : Fin 32) (h : Fin 8) (r : Fin 64) (e : Fin 128) : at4 (E0 m c (Proc.devRef .tc main_v13_3)) n h r e = (args m c).qd n h r e := by
  rw [show E0 m c (Proc.devRef .tc main_v13_3) = _ from after_host0_qd (launchContents m c)]
  exact toHeads_at _ n h r e
/-- The first loop is entered with `kd` by chunk and head. -/
theorem entry0_kd (n : Fin 32) (h : Fin 8) (r : Fin 64) (e : Fin 128) : at4 (E0 m c (Proc.devRef .tc main_v13_4)) n h r e = (args m c).kd n h r e := by
  rw [show E0 m c (Proc.devRef .tc main_v13_4) = _ from after_host0_kd (launchContents m c)]
  exact toHeads_at _ n h r e

/-- And with the decays. -/
theorem entry0_gl (n : Fin 32) (h : Fin 8) : at2 (E0 m c (Proc.devRef .tc main_v13_5)) n h = (args m c).gl n h := by
  have : E0 m c (Proc.devRef .tc main_v13_5) = launchContents m c (Proc.devRef .tc main_arg5) := by
    show after host0 (launchContents m c) _ = _
    after_reads_simp
    rfl
  rw [this]
  show m ((c : Thread nD τ).loc main_arg5) (ix2 n h) = m ((c : Thread nD τ).loc main_arg5) (ix2 (Spec.chunk n) h)
  rw [show Spec.chunk n = n from Fin.ext (Nat.mod_eq_of_lt n.isLt)]
/-- And at the zero state. -/
theorem entry0_S (h : Fin 8) (j e : Fin 128) : at3 (E0 m c (Proc.devRef .tc main_v13_7)) h j e = 0 := by
  have : E0 m c (Proc.devRef .tc main_v13_7) = broadcastInDim S8x128x128 ![] bcast_S_S8x128x128 (constant (F := Ideal) S_ .f32 0x00000000#32) := by
    show after host0 (launchContents m c) _ = _
    after_reads_simp
    rfl
  rw [this]
  show broadcastInDim S8x128x128 ![] bcast_S_S8x128x128 (constant (F := Ideal) S_ .f32 0x00000000#32) (ix3 h j e) = (0 : EReal)
  pointwise

/-- What the first loop meets at trip `k`. -/
abbrev M0 (k : ℕ) : Valuation τ sig (Elt Ideal) := after condOps0 (T0 m k c)
/-- What the second loop meets at trip `k`. -/
abbrev M1 (k : ℕ) : Valuation τ sig (Elt Ideal) := after condOps1 (T1 m k c)

/-- The first loop's test writes nothing the trips read. -/
theorem M0_keeps (k : ℕ) {r : Ref sig .tc} (h : r ∉ condOps0_W) : M0 m c k (Proc.devRef .tc r) = T0 m k c (Proc.devRef .tc r) :=
  condOps0_keeps _ h
/-- Nor does the second's. -/
theorem M1_keeps (k : ℕ) {r : Ref sig .tc} (h : r ∉ condOps1_W) : M1 m c k (Proc.devRef .tc r) = T1 m k c (Proc.devRef .tc r) :=
  condOps1_keeps _ h

/-- Every trip of the first loop meets the arguments. -/
theorem holds0 (k : ℕ) : Holds0 (M0 m c k) (args m c) where
  u n h r e := by rw [M0_keeps m c _ (by decide), T0_keeps _ _ _ (by decide) (by decide), entry0_u]
  w n h r e := by rw [M0_keeps m c _ (by decide), T0_keeps _ _ _ (by decide) (by decide), entry0_w]
  kd n h r e := by rw [M0_keeps m c _ (by decide), T0_keeps _ _ _ (by decide) (by decide), entry0_kd]
  gl n h := by rw [M0_keeps m c _ (by decide), T0_keeps _ _ _ (by decide) (by decide), entry0_gl]
/-- And at its own place. -/
theorem place0 {k : ℕ} (hk : k < 32) : Trip0 (M0 m c k) k := by
  rw [Trip0, M0_keeps m c _ (by decide), ctr0]
  exact iv_toInt hk

/-- After `k` trips: the state is the scan's, and the rows below `k` are saved. -/
structure Inv0 (k : ℕ) : Prop where
  S : ∀ h j e, at3 (T0 m k c (Proc.devRef .tc main_v13_7)) h j e = Spec.S (args m c) k h j e
  st : ∀ n : Fin 32, n.val < k → ∀ h j e, at4 (T0 m k c (Proc.devRef .tc main_v13_9)) n h j e = Spec.S (args m c) n h j e
  v : ∀ n : Fin 32, n.val < k → ∀ h r e, at4 (T0 m k c (Proc.devRef .tc main_v13_10)) n h r e = Spec.vn (args m c) n h r e
  gl : ∀ n : Fin 32, n.val < k → ∀ h, at4 (T0 m k c (Proc.devRef .tc main_v13_11)) n h 0 0 = (args m c).gl n h

/-- The first loop keeps the invariant. -/
theorem inv0 {k : ℕ} (hk : k ≤ 32) : Inv0 m c k := by
  induction k with
  | zero => exact ⟨fun h j e => entry0_S m c h j e, fun n hn => absurd hn (Nat.not_lt_zero _), fun n hn => absurd hn (Nat.not_lt_zero _),
      fun n hn => absurd hn (Nat.not_lt_zero _)⟩
  | succ k ih =>
    have I := ih (by omega)
    have hk' : k < 32 := by omega
    have H := holds0 m c k
    have hi := place0 m c hk'
    have hS : ∀ h j e, at3 (M0 m c k (Proc.devRef .tc main_v13_7)) h j e = Spec.S (args m c) k h j e := fun h j e => by
      rw [M0_keeps m c _ (by decide), I.S]
    refine ⟨fun h j e => ?_, fun n hn h j e => ?_, fun n hn h r e => ?_, fun n hn h => ?_⟩
    · exact trip0_S H hk' hi hS h j e
    · refine (trip0_st hk' hi n h j e).trans ?_
      split
      · next hn' => rw [hS, hn']
      · rw [M0_keeps m c _ (by decide), I.st n (by omega)]
    · refine (trip0_v hk' hi n h r e).trans ?_
      split
      · next hn' => rw [trip0_newV H hk' hi hS, hn']
      · rw [M0_keeps m c _ (by decide), I.v n (by omega)]
    · refine (trip0_gl H hk' hi n h).trans ?_
      split
      · rfl
      · rw [M0_keeps m c _ (by decide), I.gl n (by omega)]

/-- The second loop's entry takes `main_v13_9` as it stands. -/
theorem copy_main_v26_1 (V : Valuation τ sig (Elt Ideal)) : after host1 V (Proc.devRef .tc main_v26_1) = V (Proc.devRef .tc main_v13_9) := by
  after_reads_simp
  rfl
/-- The second loop's entry takes `main_v3` as it stands. -/
theorem copy_main_v26_2 (V : Valuation τ sig (Elt Ideal)) : after host1 V (Proc.devRef .tc main_v26_2) = V (Proc.devRef .tc main_v3) := by
  after_reads_simp
  rfl
/-- The second loop's entry takes `main_v5` as it stands. -/
theorem copy_main_v26_3 (V : Valuation τ sig (Elt Ideal)) : after host1 V (Proc.devRef .tc main_v26_3) = V (Proc.devRef .tc main_v5) := by
  after_reads_simp
  rfl
/-- The second loop's entry takes `main_v13_10` as it stands. -/
theorem copy_main_v26_4 (V : Valuation τ sig (Elt Ideal)) : after host1 V (Proc.devRef .tc main_v26_4) = V (Proc.devRef .tc main_v13_10) := by
  after_reads_simp
  rfl
/-- The second loop's entry takes `main_arg4` as it stands. -/
theorem copy_main_v26_5 (V : Valuation τ sig (Elt Ideal)) : after host1 V (Proc.devRef .tc main_v26_5) = V (Proc.devRef .tc main_arg4) := by
  after_reads_simp
  rfl
/-- The second loop's entry takes `main_v13_11` as it stands. -/
theorem copy_main_v26_6 (V : Valuation τ sig (Elt Ideal)) : after host1 V (Proc.devRef .tc main_v26_6) = V (Proc.devRef .tc main_v13_11) := by
  after_reads_simp
  rfl
/-- The second loop's entry takes `main_v7` as it stands. -/
theorem copy_main_v26_7 (V : Valuation τ sig (Elt Ideal)) : after host1 V (Proc.devRef .tc main_v26_7) = V (Proc.devRef .tc main_v7) := by
  after_reads_simp
  rfl

/-- What the first loop never writes stands after it. -/
theorem X0_keeps {r : Ref sig .tc} (hb : r ∉ bodyI0_W) (hc : r ∉ condOps0_W) : X0 m c (Proc.devRef .tc r) = E0 m c (Proc.devRef .tc r) := by
  rw [show X0 m c = M0 m c 32 from rfl, M0_keeps m c _ hc, T0_keeps _ _ _ hb hc]

/-- The second loop is entered with the arguments and with what the first loop saved. -/
theorem entry1 : Holds1 (E1 m c) (args m c) where
  d n h r e := by
    rw [show E1 m c (Proc.devRef .tc main_v26_0) = _ from after_host1_d (X0 m c), X0_keeps m c (by decide) (by decide),
      show E0 m c (Proc.devRef .tc main_arg6) = _ from preI_keeps (launchContents m c) (by decide)]
    exact toHeads_at _ n h r e
  st n h j e := by
    rw [show E1 m c (Proc.devRef .tc main_v26_1) = _ from copy_main_v26_1 (X0 m c), show X0 m c = M0 m c 32 from rfl, M0_keeps m c _ (by decide)]
    exact (inv0 m c le_rfl).st n n.isLt h j e
  w n h r e := by
    rw [show E1 m c (Proc.devRef .tc main_v26_2) = _ from copy_main_v26_2 (X0 m c), X0_keeps m c (by decide) (by decide),
      show E0 m c (Proc.devRef .tc main_v3) = _ from after_host0_w3 (launchContents m c)]
    exact toHeads_at _ n h r e
  qd n h r e := by
    rw [show E1 m c (Proc.devRef .tc main_v26_3) = _ from copy_main_v26_3 (X0 m c), X0_keeps m c (by decide) (by decide),
      show E0 m c (Proc.devRef .tc main_v5) = _ from after_host0_qd5 (launchContents m c)]
    exact toHeads_at _ n h r e
  vn n h r e := by
    rw [show E1 m c (Proc.devRef .tc main_v26_4) = _ from copy_main_v26_4 (X0 m c), show X0 m c = M0 m c 32 from rfl, M0_keeps m c _ (by decide)]
    exact (inv0 m c le_rfl).v n n.isLt h r e
  qk n h r e := by
    rw [show E1 m c (Proc.devRef .tc main_v26_5) = _ from copy_main_v26_5 (X0 m c), X0_keeps m c (by decide) (by decide),
      show E0 m c (Proc.devRef .tc main_arg4) = _ from preI_keeps (launchContents m c) (by decide)]
    show m ((c : Thread nD τ).loc main_arg4) (ix4 n h r e) = m ((c : Thread nD τ).loc main_arg4) (ix4 (Spec.chunk n) h r e)
    rw [show Spec.chunk n = n from Fin.ext (Nat.mod_eq_of_lt n.isLt)]
  gl n h := by
    rw [show E1 m c (Proc.devRef .tc main_v26_6) = _ from copy_main_v26_6 (X0 m c), show X0 m c = M0 m c 32 from rfl, M0_keeps m c _ (by decide)]
    exact (inv0 m c le_rfl).gl n n.isLt h
  kd n h r e := by
    rw [show E1 m c (Proc.devRef .tc main_v26_7) = _ from copy_main_v26_7 (X0 m c), X0_keeps m c (by decide) (by decide),
      show E0 m c (Proc.devRef .tc main_v7) = _ from after_host0_kd7 (launchContents m c)]
    exact toHeads_at _ n h r e

/-- It is entered at the zero gradient. -/
theorem entry1_D (h : Fin 8) (j e : Fin 128) : at3 (E1 m c (Proc.devRef .tc main_v26_9)) h j e = 0 := by
  have : E1 m c (Proc.devRef .tc main_v26_9) = broadcastInDim S8x128x128 ![] bcast_S_S8x128x128 (constant (F := Ideal) S_ .f32 0x00000000#32) := by
    show after host1 (X0 m c) _ = _
    after_reads_simp
    rfl
  rw [this]
  show broadcastInDim S8x128x128 ![] bcast_S_S8x128x128 (constant (F := Ideal) S_ .f32 0x00000000#32) (ix3 h j e) = (0 : EReal)
  pointwise

/-- Every trip of the second loop meets the same. -/
theorem holds1 (k : ℕ) : Holds1 (M1 m c k) (args m c) where
  d n h j e := by
    rw [M1_keeps m c _ (by decide), T1_keeps _ _ _ (by decide) (by decide)]
    exact (entry1 m c).d n h j e
  st n h j e := by
    rw [M1_keeps m c _ (by decide), T1_keeps _ _ _ (by decide) (by decide)]
    exact (entry1 m c).st n h j e
  w n h j e := by
    rw [M1_keeps m c _ (by decide), T1_keeps _ _ _ (by decide) (by decide)]
    exact (entry1 m c).w n h j e
  qd n h j e := by
    rw [M1_keeps m c _ (by decide), T1_keeps _ _ _ (by decide) (by decide)]
    exact (entry1 m c).qd n h j e
  vn n h j e := by
    rw [M1_keeps m c _ (by decide), T1_keeps _ _ _ (by decide) (by decide)]
    exact (entry1 m c).vn n h j e
  qk n h j e := by
    rw [M1_keeps m c _ (by decide), T1_keeps _ _ _ (by decide) (by decide)]
    exact (entry1 m c).qk n h j e
  gl n h := by
    rw [M1_keeps m c _ (by decide), T1_keeps _ _ _ (by decide) (by decide)]
    exact (entry1 m c).gl n h
  kd n h j e := by
    rw [M1_keeps m c _ (by decide), T1_keeps _ _ _ (by decide) (by decide)]
    exact (entry1 m c).kd n h j e
/-- Trip `k` reads and writes row `31 - k`. -/
theorem place1 {k : ℕ} (hk : k < 32) : Place1 (P1 (M1 m c k)) (31 - k) := by
  have h : P1 (M1 m c k) (Proc.devRef .tc main_while1b_v38)
      = subi (subi (constantI S_ 32 32#32) (M1 m c k (Proc.devRef .tc main_v26_8))) (constantI S_ 32 1#32) := by
    show after trip1_0 (M1 m c k) _ = _
    after_reads_simp
  rw [Place1, h, M1_keeps m c _ (by decide), ctr1]
  exact down_toInt hk

/-- After `k` trips: the gradient of the state is carried, and the rows from `32 - k` on are written. -/
structure Inv1 (k : ℕ) : Prop where
  D : ∀ h j e, at3 (T1 m k c (Proc.devRef .tc main_v26_9)) h j e = Spec.D' (args m c) k h j e
  du : ∀ n : Fin 32, 32 ≤ n.val + k → ∀ h r e, at4 (T1 m k c (Proc.devRef .tc main_v26_10)) n h r e
    = Spec.gradV (args m c) n (Spec.D' (args m c) (31 - n)) h r e
  dw : ∀ n : Fin 32, 32 ≤ n.val + k → ∀ h r e, at4 (T1 m k c (Proc.devRef .tc main_v26_11)) n h r e
    = ∑ s, -Spec.gradV (args m c) n (Spec.D' (args m c) (31 - n)) h r s * Spec.S (args m c) n h e s
  dqk : ∀ n : Fin 32, 32 ≤ n.val + k → ∀ h r e, at4 (T1 m k c (Proc.devRef .tc main_v26_12)) n h r e
    = ∑ s, (args m c).d n h r s * Spec.vn (args m c) n h e s
  dqd : ∀ n : Fin 32, 32 ≤ n.val + k → ∀ h r e, at4 (T1 m k c (Proc.devRef .tc main_v26_13)) n h r e
    = ∑ s, (args m c).d n h r s * Spec.S (args m c) n h e s
  dkd : ∀ n : Fin 32, 32 ≤ n.val + k → ∀ h r e, at4 (T1 m k c (Proc.devRef .tc main_v26_14)) n h r e
    = ∑ s, Spec.vn (args m c) n h r s * Spec.D' (args m c) (31 - n) h e s
  dgl : ∀ n : Fin 32, 32 ≤ n.val + k → ∀ h, at2 (T1 m k c (Proc.devRef .tc main_v26_15)) n h
    = ∑ j, ∑ s, Spec.D' (args m c) (31 - n) h j s * Spec.S (args m c) n h j s

/-- The second loop keeps the invariant. -/
theorem inv1 {k : ℕ} (hk : k ≤ 32) : Inv1 m c k := by
  induction k with
  | zero =>
    have no : ∀ n : Fin 32, ¬ 32 ≤ n.val + 0 := fun n => by omega
    exact ⟨fun h j e => entry1_D m c h j e, fun n hn => absurd hn (no n), fun n hn => absurd hn (no n), fun n hn => absurd hn (no n),
      fun n hn => absurd hn (no n), fun n hn => absurd hn (no n), fun n hn => absurd hn (no n)⟩
  | succ k ih =>
    have I := ih (by omega)
    have H := holds1 m c k
    have hk' : 31 - k < 32 := by omega
    have hi := place1 m c (k := k) (by omega)
    have hD : ∀ h j e, at3 (M1 m c k (Proc.devRef .tc main_v26_9)) h j e = Spec.D' (args m c) k h j e := fun h j e => by
      rw [M1_keeps m c _ (by decide), I.D]
    have back : ∀ n : Fin 32, n.val = 31 - k → 31 - n.val = k := fun n hn => by omega
    refine ⟨fun h j e => ?_, fun n hn h r e => ?_, fun n hn h r e => ?_, fun n hn h r e => ?_, fun n hn h r e => ?_, fun n hn h r e => ?_, fun n hn h => ?_⟩
    · exact step1_D H hk' hi hD h j e
    · refine (step1_du H hk' hi hD n h r e).trans ?_
      split
      · next hn' => rw [back n hn', hn']
      · rw [M1_keeps m c _ (by decide), I.du n (by omega)]
    · refine (step1_dw H hk' hi hD n h r e).trans ?_
      split
      · next hn' => rw [back n hn', hn']
      · rw [M1_keeps m c _ (by decide), I.dw n (by omega)]
    · refine (step1_dqk H hk' hi n h r e).trans ?_
      split
      · next hn' => rw [hn']
      · rw [M1_keeps m c _ (by decide), I.dqk n (by omega)]
    · refine (step1_dqd H hk' hi n h r e).trans ?_
      split
      · next hn' => rw [hn']
      · rw [M1_keeps m c _ (by decide), I.dqd n (by omega)]
    · refine (step1_dkd H hk' hi hD n h r e).trans ?_
      split
      · next hn' => rw [back n hn', hn']
      · rw [M1_keeps m c _ (by decide), I.dkd n (by omega)]
    · refine (step1_dgl H hk' hi hD n h ).trans ?_
      split
      · next hn' => rw [back n hn', hn']
      · rw [M1_keeps m c _ (by decide), I.dgl n (by omega)]

/-- The result `du` is the second loop's, put back in rows. -/
theorem after_host2_du (V : Valuation τ sig (Elt Ideal)) : after host2 V (Proc.devRef .tc main_v34)
    = shapeCast S2048x1024 (transpose S32x64x8x128 [0, 2, 1, 3] (V (Proc.devRef .tc main_v26_10)) transposes_S32x8x64x128_S32x64x8x128_0_2_1_3)
      shapeCasts_S32x64x8x128_S2048x1024 := by
  after_reads_simp
  rfl
/-- The result `dw` is the second loop's, put back in rows. -/
theorem after_host2_dw (V : Valuation τ sig (Elt Ideal)) : after host2 V (Proc.devRef .tc main_v32)
    = shapeCast S2048x1024 (transpose S32x64x8x128 [0, 2, 1, 3] (V (Proc.devRef .tc main_v26_11)) transposes_S32x8x64x128_S32x64x8x128_0_2_1_3)
      shapeCasts_S32x64x8x128_S2048x1024 := by
  after_reads_simp
  rfl
/-- The result `dqd` is the second loop's, put back in rows. -/
theorem after_host2_dqd (V : Valuation τ sig (Elt Ideal)) : after host2 V (Proc.devRef .tc main_v30)
    = shapeCast S2048x1024 (transpose S32x64x8x128 [0, 2, 1, 3] (V (Proc.devRef .tc main_v26_13)) transposes_S32x8x64x128_S32x64x8x128_0_2_1_3)
      shapeCasts_S32x64x8x128_S2048x1024 := by
  after_reads_simp
  rfl
/-- The result `dkd` is the second loop's, put back in rows. -/
theorem after_host2_dkd (V : Valuation τ sig (Elt Ideal)) : after host2 V (Proc.devRef .tc main_v28)
    = shapeCast S2048x1024 (transpose S32x64x8x128 [0, 2, 1, 3] (V (Proc.devRef .tc main_v26_14)) transposes_S32x8x64x128_S32x64x8x128_0_2_1_3)
      shapeCasts_S32x64x8x128_S2048x1024 := by
  after_reads_simp
  rfl
/-- What stands at the second loop's end. -/
theorem X1_row {r : Ref sig .tc} (h : r ∉ condOps1_W) : X1 m c (Proc.devRef .tc r) = T1 m 32 c (Proc.devRef .tc r) :=
  M1_keeps m c 32 h

/-- Counting down twice. -/
theorem twice (n : Fin 32) : 31 - (31 - n.val) = n.val := by omega

variable (hA : Spec.Finite (args m c))
include hA

/-- The reference's `du`. -/
theorem last_du : Last m c (Proc.devRef .tc main_v34) = Spec.colsOf fun n => Spec.dv (args m c) (31 - n) := by
  rw [show Last m c (Proc.devRef .tc main_v34) = _ from after_host2_du (X1 m c), X1_row m c (by decide)]
  refine fromHeads_eq _ _ fun n h r e => ((inv1 m c le_rfl).du n (by omega) h r e).trans ?_
  rw [Spec.dv, twice n, Spec.D'_eq hA]
/-- The reference's `dw`. -/
theorem last_dw : Last m c (Proc.devRef .tc main_v32) = Spec.colsOf fun n => Spec.dw (args m c) (31 - n) := by
  rw [show Last m c (Proc.devRef .tc main_v32) = _ from after_host2_dw (X1 m c), X1_row m c (by decide)]
  refine fromHeads_eq _ _ fun n h r e => ((inv1 m c le_rfl).dw n (by omega) h r e).trans ?_
  rw [← Spec.dw'_eq hA, Spec.dw', twice n]
/-- The reference's `dqd`. -/
theorem last_dqd : Last m c (Proc.devRef .tc main_v30) = Spec.colsOf fun n => Spec.dqd (args m c) (31 - n) := by
  rw [show Last m c (Proc.devRef .tc main_v30) = _ from after_host2_dqd (X1 m c), X1_row m c (by decide)]
  refine fromHeads_eq _ _ fun n h r e => ((inv1 m c le_rfl).dqd n (by omega) h r e).trans ?_
  rw [Spec.dqd, twice n]
/-- The reference's `dkd`. -/
theorem last_dkd : Last m c (Proc.devRef .tc main_v28) = Spec.colsOf fun n => Spec.dkd (args m c) (31 - n) := by
  rw [show Last m c (Proc.devRef .tc main_v28) = _ from after_host2_dkd (X1 m c), X1_row m c (by decide)]
  refine fromHeads_eq _ _ fun n h r e => ((inv1 m c le_rfl).dkd n (by omega) h r e).trans ?_
  rw [Spec.dkd, twice n, Spec.D'_eq hA]
/-- The reference's `dqk`. -/
theorem last_dqk : Last m c (Proc.devRef .tc main_v26_12) = Spec.fourOf fun n => Spec.dqk (args m c) (31 - n) := by
  rw [show Last m c (Proc.devRef .tc main_v26_12) = _ from postI_keeps (X1 m c) (by decide), X1_row m c (by decide)]
  funext z
  obtain ⟨n, h, a, b, rfl⟩ : ∃ (n : Fin 32) (h : Fin 8) (a b : Fin 64), z = ix4 n h a b := ⟨z 0, z 1, z 2, z 3, ValueIdx.eq_ix4 z⟩
  refine ((inv1 m c le_rfl).dqk n (by omega) h a b).trans (Eq.trans ?_ (Spec.fourOf_at _ _ n.val h a b rfl rfl rfl rfl).symm)
  rw [Spec.dqk, twice n]

/-- The reference's gradient of the decays. -/
theorem last_dgl : Last m c (Proc.devRef .tc main_v36) = Spec.fourOf (p := 8) (q := 128) fun n h _ _ => Spec.dgl (args m c) (31 - n) h := by
  have e : Last m c (Proc.devRef .tc main_v36) = broadcastInDim S32x8x8x128 ![0, 1, 2, 3] bcast_S32x8x1x1_S32x8x8x128_0_1_2_3
      (broadcastInDim S32x8x1x1 ![0, 1] bcast_S32x8_S32x8x1x1_0_1 (X1 m c (Proc.devRef .tc main_v26_15))) := by
    show after host2 (X1 m c) _ = _
    after_reads_simp
  rw [e, X1_row m c (by decide)]
  funext z
  obtain ⟨n, h, a, b, rfl⟩ : ∃ (n : Fin 32) (h a : Fin 8) (b : Fin 128), z = ix4 n h a b := ⟨z 0, z 1, z 2, z 3, ValueIdx.eq_ix4 z⟩
  refine Eq.trans ?_ (Spec.fourOf_at _ _ n.val h a b rfl rfl rfl rfl).symm
  refine Eq.trans ?_ (((inv1 m c le_rfl).dgl n (by omega) h).trans ?_)
  · pointwise
  · rw [Spec.dgl, twice n, Spec.D'_eq hA]

end Cert.RefProof

end
-- ==== Proof.Finite.lean ====
/- What the precondition says: every argument is real. -/
module

public import proofs.«01_k».proof.Defs
public import proofs.«01_k».proof.Proof.KerVal
public import Idealize.ShloMosaic.Lib.ReduceAll
public import Idealize.ShloMosaic.Lib.Pointwise

@[expose] public section

noncomputable section

namespace Cert.Reals

open Idealize.ShloMosaic Cert.Pre_finite

/-- The shape relations the precondition states. -/
instance facts : Cert.Pre_finite.Facts where
  bcast_S_S2048x1024 := by decide
  reducesTo_S2048x1024_S_d0_1 := by decide
  h_S_ := by decide
  bcast_S_S32x8x64x64 := by decide
  reducesTo_S32x8x64x64_S_d0_1_2_3 := by decide
  bcast_S_S32x8 := by decide
  reducesTo_S32x8_S_d0_1 := by decide

/-- There is one index into a scalar. -/
instance one_index : Subsingleton S_.Idx := ⟨fun a b => funext fun i => i.elim0⟩

/-- A number whose difference with itself is zero is real. -/
theorem real_of_sub_self {x : EReal} (h : x - x = 0) : Spec.Real x := by
  induction x with
  | bot => exact absurd h (by simp)
  | coe r => exact ⟨r, rfl⟩
  | top => exact absurd h (by simp)

/-- The test of one array, read at an index. -/
theorem real_of_all {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .oeq (subf x x) (broadcastInDim s ![] hb (constant S_ .f32 0x00000000#32))) (constantI S_ 1 1#1) hr Facts.h_S_ j = 1#1)
    (i : s.Idx) : Spec.Real (x i) := by
  have h := Host.reduce_andi_all _ _ hr Facts.h_S_ j e i
  have h' : Ideal.cmp .oeq ((x i : EReal) - x i) (Ideal.ofBits .f32 0x00000000#32) = 1#1 := h
  rw [Ideal.ofBits_zero_f32] at h'
  refine real_of_sub_self ?_
  by_contra hn
  simp [Ideal.cmp, hn] at h'

variable (a0 a1 a2 a3 : FVec Ideal S2048x1024 .f32) (a4 : FVec Ideal S32x8x64x64 .f32) (a5 : FVec Ideal S32x8 .f32) (a6 : FVec Ideal S2048x1024 .f32)

/-- The precondition makes every argument real. -/
theorem finite_of_pre (h : Cert.Pre_finite.fn (F := Ideal) a0 a1 a2 a3 a4 a5 a6 = fun _ => 1#1) : Spec.Finite (Spec.inOf a0 a1 a2 a3 a4 a5 a6) := by
  have h0 := congrFun h (Shape.Idx.first Facts.h_S_)
  unfold Cert.Pre_finite.fn Cert.Pre_finite.fn_part1 at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun _ _ _ _ => real_of_all a0 _ _ _ e0 _, fun _ _ _ _ => real_of_all a1 _ _ _ e1 _, fun _ _ _ _ => real_of_all a2 _ _ _ e2 _,
    fun _ _ _ _ => real_of_all a3 _ _ _ e3 _, fun _ _ _ _ => real_of_all a4 _ _ _ e4 _, fun _ _ => real_of_all a5 _ _ _ e5 _,
    fun _ _ _ _ => real_of_all a6 _ _ _ e6 _⟩

end Cert.Reals

end
-- ==== Proof.In.lean ====
/- The input projection: the kernel's array and the reference's are one product, over the extended reals. -/
module

public import proofs.«01_k».proof.Defs
public import proofs.«01_k».proof.Proof.Gen.KernelIn
public import proofs.«01_k».proof.Proof.Gen.KernelInIdeal.Value
public import proofs.«01_k».proof.Proof.Gen.ReferenceInIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelInIdeal.Product

open Cert.KernelInIdeal Cert.KernelInIdeal.Gen
open Idealize.ShloMosaic Idealize.ShloMosaic.TcCoe Idealize.SL.Sem

variable (m : (ℓ : Loc nD τ sig) → Buf (Elt Ideal) ℓ) (c : Dev nD)

/-- Offsets of zero. -/
theorem hz : (![0, 0] : Fin 2 → Nat) = fun _ => 0 := funext fun a => by fin_cases a <;> rfl

/-- The product, at each place: rows of one argument against rows of the other. -/
def prod (a : (⟨2, ![2048, 2048]⟩ : Shape).Idx → EReal) (b : (⟨2, ![10368, 2048]⟩ : Shape).Idx → EReal) : (⟨2, ![2048, 10368]⟩ : Shape).Idx → EReal :=
  fun i => ∑ k : Fin 2048, a (ix2 (i 0) k) * b (ix2 (i 1) k)

/-- The blocks of a point. -/
theorem idx : ∀ t : Fin grid0.N, win0_0.index t = ![t.val / 9, 0] ∧ win0_1.index t = ![t.val % 9, 0] ∧ win0_2.index t = ![t.val / 9, t.val % 9] ∧ t.val < 18 := by
  decide +kernel

/-- What a point computes is the product, read where its block stands. -/
theorem point (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelInIdeal.Product

namespace Cert.In

open Idealize.ShloMosaic Idealize.ShloMosaic.TcCoe Idealize.SL.Sem
open Cert.KernelInIdeal.Product (prod arr)

/-- The reference's result, at each place, is the product. -/
theorem ref_at (a : Vec Ideal Cert.ReferenceInIdeal.S2048x2048 .bf16) (b : Vec Ideal Cert.ReferenceInIdeal.S10368x2048 .bf16) :
    Host.dotGeneral (F := Ideal) Cert.ReferenceInIdeal.dot_S2048x2048_S2048x10368_S2048x10368_1_0_0_1_n_n none (extf .f32 a Cert.ReferenceInIdeal.Gen.bitsLt_bf16_f32)
      (transpose Cert.ReferenceInIdeal.S2048x10368 [1, 0] (extf .f32 b Cert.ReferenceInIdeal.Gen.bitsLt_bf16_f32) Cert.ReferenceInIdeal.Gen.transposes_S10368x2048_S2048x10368_1_0)
      = prod a b := by
  funext i
  unfold prod
  pointwise

/-- One text, so one frame: the kernel's, at the machine's floats. -/
theorem frame_kernel : Cert.quiescent_KernelIn := by
  have h : Cert.quiescent_KernelIn = ∀ (m : (ℓ : Loc Cert.KernelInIdeal.nD Cert.KernelInIdeal.τ Cert.KernelInIdeal.sig) → Buf (Elt Bits) ℓ) (g : Dev Cert.KernelInIdeal.nD → PrngReg), True →
      θ_run (Cert.KernelInIdeal.defs (F := Bits)) (onTc (τ := Cert.KernelInIdeal.τ) (Cert.KernelInIdeal.main (F := Bits))) ⟨m, fun _ => 0, g⟩ (fun r => (∀ c : Dev Cert.KernelInIdeal.nD,
        r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
        ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
        ∧ r.2.sem = fun _ => 0) := by
    chain_rfl
  exact h.mpr fun m g _ => Cert.KernelInIdeal.Gen.frame m g

/-- The ideal kernel's frame. -/
theorem frame_ideal : Cert.quiescent_KernelInIdeal := fun m g _ => Cert.KernelInIdeal.Gen.frame m g

/-- The reference's frame. -/
theorem frame_ref : Cert.quiescent_ReferenceInIdeal := fun m g _ =>
  (θ_run Cert.ReferenceInIdeal.defs _ _).mono (fun r h => ⟨fun c => (h c).2, sem_eq_zero_of_no_sems rfl _⟩) (Cert.ReferenceInIdeal.Value.run m g)

/-- The two programs compute one product. -/
theorem same : Cert.algebraic_KernelInIdeal_ReferenceInIdeal := fun m g m' g' _ h =>
  ⟨fun c => prod (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)),
    (θ_run Cert.KernelInIdeal.defs _ _).mono (fun r hr c => ⟨(hr c).1.trans (arr m c), (hr c).2⟩) (Cert.KernelInIdeal.Value.run_blocks m g),
    (θ_run Cert.ReferenceInIdeal.defs _ _).mono (fun r hr c =>
      ⟨(hr c).1.trans ((ref_at _ _).trans (by rw [(h c).1, (h c).2])), (hr c).2⟩) (Cert.ReferenceInIdeal.Value.run m' g')⟩

end Cert.In

end
-- ==== Proof.Dw.lean ====
/- The input projection's weight gradient: the kernel's array and the reference's are one product, over the extended reals. -/
module

public import proofs.«01_k».proof.Defs
public import proofs.«01_k».proof.Proof.Gen.KernelDw
public import proofs.«01_k».proof.Proof.Gen.KernelDwIdeal.Value
public import proofs.«01_k».proof.Proof.Gen.ReferenceDwIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelDwIdeal.Product

open Cert.KernelDwIdeal Cert.KernelDwIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: columns of one argument against columns of the other. -/
def prod (a : (⟨2, ![2048, 2048]⟩ : Shape).Idx → EReal) (b : (⟨2, ![2048, 10368]⟩ : Shape).Idx → EReal) : (⟨2, ![10368, 2048]⟩ : Shape).Idx → EReal :=
  fun i => ∑ k : Fin 2048, b (ix2 k (i 0)) * a (ix2 k (i 1))

/-- The blocks of a point. -/
theorem idx : ∀ t : Fin grid0.N, win0_0.index t = ![0, t.val / 2] ∧ win0_1.index t = ![0, t.val % 2] ∧ win0_2.index t = ![t.val / 2, t.val % 2] ∧ win0_3.index t = ![t.val / 2, t.val % 2] ∧ t.val < 18 := by
  decide +kernel

/-- What a point computes is the product, read where its block stands. -/
theorem point (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- What a point computes is the second copy of the product, read where its block stands. -/
theorem point_twin (t : Fin cfg0.N) (y) : k0_pay2 (iblk m c 0 t) (iblk m c 1 t) y
    = prod (m ((c : Thread nD τ).loc main_arg0)) (m ((c : Thread nD τ).loc main_arg1)) (((cfg0.win 3).blk t).view.emb y) := by
  pointwise [k0_pay2, prod]
  blk_point [iblk, V, idx t]

/-- The array after the run is the second copy of the product. -/
theorem arr_twin : (dats m 0 c).arrAt 3 cfg0.N = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_twin m c t y

end Cert.KernelDwIdeal.Product

namespace Cert.Dw

open Idealize.ShloMosaic Idealize.ShloMosaic.TcCoe Idealize.SL.Sem
open Cert.KernelDwIdeal.Product (prod arr arr_twin)

/-- The reference's result, at each place, is the product. -/
theorem ref_at (a : Vec Ideal Cert.ReferenceDwIdeal.S2048x2048 .bf16) (b : Vec Ideal Cert.ReferenceDwIdeal.S2048x10368 .bf16) :
    transpose Cert.ReferenceDwIdeal.S10368x2048 [1, 0] (transpose Cert.ReferenceDwIdeal.S2048x10368 [1, 0] (Host.dotGeneral (F := Ideal) Cert.ReferenceDwIdeal.dot_S2048x10368_S2048x2048_S10368x2048_0_0_1_1_n_n none (extf .f32 b Cert.ReferenceDwIdeal.Gen.bitsLt_bf16_f32) (extf .f32 a Cert.ReferenceDwIdeal.Gen.bitsLt_bf16_f32)) Cert.ReferenceDwIdeal.Gen.transposes_S10368x2048_S2048x10368_1_0) Cert.ReferenceDwIdeal.Gen.transposes_S2048x10368_S10368x2048_1_0
      = prod a b := by
  funext i
  unfold prod
  pointwise

/-- One text, so one frame: the kernel's, at the machine's floats. -/
theorem frame_kernel : Cert.quiescent_KernelDw := by
  have h : Cert.quiescent_KernelDw = ∀ (m : (ℓ : Loc Cert.KernelDwIdeal.nD Cert.KernelDwIdeal.τ Cert.KernelDwIdeal.sig) → Buf (Elt Bits) ℓ) (g : Dev Cert.KernelDwIdeal.nD → PrngReg), True →
      θ_run (Cert.KernelDwIdeal.defs (F := Bits)) (onTc (τ := Cert.KernelDwIdeal.τ) (Cert.KernelDwIdeal.main (F := Bits))) ⟨m, fun _ => 0, g⟩ (fun r => (∀ c : Dev Cert.KernelDwIdeal.nD,
        r.2.mem ((c.tc : Thread Cert.KernelDwIdeal.nD Cert.KernelDwIdeal.τ).loc Cert.KernelDwIdeal.main_arg0) = m ((c.tc : Thread Cert.KernelDwIdeal.nD Cert.KernelDwIdeal.τ).loc Cert.KernelDwIdeal.main_arg0)
        ∧ r.2.mem ((c.tc : Thread Cert.KernelDwIdeal.nD Cert.KernelDwIdeal.τ).loc Cert.KernelDwIdeal.main_arg1) = m ((c.tc : Thread Cert.KernelDwIdeal.nD Cert.KernelDwIdeal.τ).loc Cert.KernelDwIdeal.main_arg1))
        ∧ r.2.sem = fun _ => 0) := by
    chain_rfl
  exact h.mpr fun m g _ => Cert.KernelDwIdeal.Gen.frame m g

/-- The ideal kernel's frame. -/
theorem frame_ideal : Cert.quiescent_KernelDwIdeal := fun m g _ => Cert.KernelDwIdeal.Gen.frame m g

/-- The reference's frame. -/
theorem frame_ref : Cert.quiescent_ReferenceDwIdeal := fun m g _ =>
  (θ_run Cert.ReferenceDwIdeal.defs _ _).mono (fun r h => ⟨fun c => (h c).2.2, sem_eq_zero_of_no_sems rfl _⟩) (Cert.ReferenceDwIdeal.Value.run m g)

/-- The two programs compute one product. -/
theorem same : Cert.algebraic_KernelDwIdeal_ReferenceDwIdeal := fun m g m' g' _ h =>
  ⟨fun c => prod (m ((c.tc : Thread Cert.KernelDwIdeal.nD Cert.KernelDwIdeal.τ).loc Cert.KernelDwIdeal.main_arg0)) (m ((c.tc : Thread Cert.KernelDwIdeal.nD Cert.KernelDwIdeal.τ).loc Cert.KernelDwIdeal.main_arg1)), fun c => prod (m ((c.tc : Thread Cert.KernelDwIdeal.nD Cert.KernelDwIdeal.τ).loc Cert.KernelDwIdeal.main_arg0)) (m ((c.tc : Thread Cert.KernelDwIdeal.nD Cert.KernelDwIdeal.τ).loc Cert.KernelDwIdeal.main_arg1)),
    (θ_run Cert.KernelDwIdeal.defs _ _).mono (fun r hr c => ⟨(hr c).1.trans (arr m c), (hr c).2.1.trans (arr_twin m c), (hr c).2.2⟩) (Cert.KernelDwIdeal.Value.run_blocks m g),
    (θ_run Cert.ReferenceDwIdeal.defs _ _).mono (fun r hr c => ⟨(hr c).1.trans ((ref_at _ _).trans (by rw [(h c).1, (h c).2])), (hr c).2.1.trans ((ref_at _ _).trans (by rw [(h c).1, (h c).2])), (hr c).2.2⟩) (Cert.ReferenceDwIdeal.Value.run m' g')⟩

end Cert.Dw

end
-- ==== Proof.Dh.lean ====
/- What goes back through the input projection: the kernel adds its product in nine parts, the reference takes it at once; over the extended reals they are one. -/
module

public import proofs.«01_k».proof.Defs
public import proofs.«01_k».proof.Proof.Gen.KernelDh
public import proofs.«01_k».proof.Proof.Gen.KernelDhIdeal.Value
public import proofs.«01_k».proof.Proof.Gen.ReferenceDhIdeal.Run
public import Idealize.ShloMosaic.Lib.Pointwise
public import Idealize.ShloMosaic.Lib.Quiescent
public import Idealize.ShloMosaic.Lib.Pipeline.ValueKit
public import Idealize.ShloMosaic.Lib.Pipeline.ReadBack

@[expose] public section

set_option maxRecDepth 16384

noncomputable section

namespace Cert.KernelDhIdeal.Product

open Cert.KernelDhIdeal Cert.KernelDhIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: rows of the second argument against columns of the first. -/
def prod (a : (⟨2, ![10368, 2048]⟩ : Shape).Idx → EReal) (b : (⟨2, ![2048, 10368]⟩ : Shape).Idx → EReal) : (⟨2, ![2048, 2048]⟩ : Shape).Idx → EReal :=
  fun i => ∑ k : Fin 10368, b (ix2 (i 0) k) * a (ix2 k (i 1))

/-- The blocks of a point. -/
theorem idx : ∀ t : Fin grid0.N, win0_0.index t = ![0, t.val % 9] ∧ win0_1.index t = ![t.val % 9, t.val / 9] ∧ win0_2.index t = ![0, t.val / 9] ∧ t.val < 18 := by
  decide +kernel

/-- What the first point of a run stores: the first part. -/
theorem first_part (x : Vec Ideal S2048x1152 .bf16) (w : Vec Ideal S1152x1024 .bf16) (j : S2048x1024.Idx) :
    k0_pay2 x w j = ∑ k : Fin 1152, x (ix2 (j 0) k) * w (ix2 k (j 1)) := by
  pointwise [k0_pay2, k0_pay1]

/-- What a later point stores: what stood there and one more part. -/
theorem next_part (x : Vec Ideal S2048x1152 .bf16) (w : Vec Ideal S1152x1024 .bf16) (acc : Vec Ideal S2048x1024 .f32) (j : S2048x1024.Idx) :
    k0_pay3 x w acc j = acc j + ∑ k : Fin 1152, x (ix2 (j 0) k) * w (ix2 k (j 1)) := by
  pointwise [k0_pay3, k0_pay1]

/-- The part a point adds. -/
def part (t : Fin cfg0.N) (j : S2048x1024.Idx) : EReal :=
  ∑ k : Fin 1152, (show Vec Ideal S2048x1152 .bf16 from iblk m c 0 t) (ix2 (j 0) k) * (show Vec Ideal S1152x1024 .bf16 from iblk m c 1 t) (ix2 k (j 1))

/-- At the first point of a run the running sum is the first part. -/
theorem sum_first (t : Fin cfg0.N) (h : t.val % 9 = 0) (j : S2048x1024.Idx) :
    (outsAt0 m c t.val t.isLt).2 j = 0 + part m c t j := by
  rw [outsAt0_A m c t h (by omega) (by omega)]
  frame_out
  rw [first_part, zero_add]
  rfl

/-- At a later point the running sum has one more part. -/
theorem sum_next (t : Fin cfg0.N) (h : ¬t.val % 9 = 0) (j : S2048x1024.Idx) :
    (outsAt0 m c t.val t.isLt).2 j = (outsAt0 m c (t.val - 1) (Nat.lt_of_le_of_lt (Nat.sub_le _ _) t.isLt)).2 j + part m c t j := by
  by_cases h2 : t.val % 9 = 8
  · rw [outsAt0_C m c t h (by omega) h2]
    frame_out
    rw [next_part, read_unread_whole]
    rfl
  · rw [outsAt0_B m c t h (by omega) h2]
    frame_out
    rw [next_part, read_unread_whole]
    rfl

/-- At the last point of a run the block written back is the running sum. -/
theorem last_block (t : Fin cfg0.N) (h : t.val % 9 = 8) (j : S2048x1024.Idx) :
    (outsAt0 m c t.val t.isLt).1 j = (outsAt0 m c t.val t.isLt).2 j := by
  rw [outsAt0_C m c t (by omega) (by omega) h]
  frame_out

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  have ht := (flush0_2 t).mp hf
  rw [after0_2]
  refine (last_block m c t ht _).trans ?_
  rw [Pipeline.eq_sum_fin_of_reset_step_apply_of_flush (fun n h => (outsAt0 m c n h).2) 9 (fun _ => 0) (part m c)
    (fun t h j => sum_first m c t h j) (fun t h j => sum_next m c t h j) t ht _, zero_add]
  unfold part prod
  refine Fin.sum_mul_add_congr fun s k hl => ?_
  blk_point [iblk, V, idx t, idx ⟨_, Pipeline.run_point_lt_of_flush t ht s⟩]

end Cert.KernelDhIdeal.Product

namespace Cert.Dh

open Idealize.ShloMosaic Idealize.ShloMosaic.TcCoe Idealize.SL.Sem
open Cert.KernelDhIdeal.Product (prod arr)

/-- The reference's result, at each place, is the product. -/
theorem ref_at (a : Vec Ideal Cert.ReferenceDhIdeal.S10368x2048 .bf16) (b : Vec Ideal Cert.ReferenceDhIdeal.S2048x10368 .bf16) :
    Host.dotGeneral (F := Ideal) Cert.ReferenceDhIdeal.dot_S2048x10368_S2048x10368_S2048x2048_1_1_0_0_n_n none (extf .f32 b Cert.ReferenceDhIdeal.Gen.bitsLt_bf16_f32) (transpose Cert.ReferenceDhIdeal.S2048x10368 [1, 0] (extf .f32 a Cert.ReferenceDhIdeal.Gen.bitsLt_bf16_f32) Cert.ReferenceDhIdeal.Gen.transposes_S10368x2048_S2048x10368_1_0)
      = prod a b := by
  funext i
  unfold prod
  pointwise

/-- One text, so one frame: the kernel's, at the machine's floats. -/
theorem frame_kernel : Cert.quiescent_KernelDh := by
  have h : Cert.quiescent_KernelDh = ∀ (m : (ℓ : Loc Cert.KernelDhIdeal.nD Cert.KernelDhIdeal.τ Cert.KernelDhIdeal.sig) → Buf (Elt Bits) ℓ) (g : Dev Cert.KernelDhIdeal.nD → PrngReg), True →
      θ_run (Cert.KernelDhIdeal.defs (F := Bits)) (onTc (τ := Cert.KernelDhIdeal.τ) (Cert.KernelDhIdeal.main (F := Bits))) ⟨m, fun _ => 0, g⟩ (fun r => (∀ c : Dev Cert.KernelDhIdeal.nD,
        r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
        ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
        ∧ r.2.sem = fun _ => 0) := by
    chain_rfl
  exact h.mpr fun m g _ => Cert.KernelDhIdeal.Gen.frame m g

/-- The ideal kernel's frame. -/
theorem frame_ideal : Cert.quiescent_KernelDhIdeal := fun m g _ => Cert.KernelDhIdeal.Gen.frame m g

/-- The reference's frame. -/
theorem frame_ref : Cert.quiescent_ReferenceDhIdeal := fun m g _ =>
  (θ_run Cert.ReferenceDhIdeal.defs _ _).mono (fun r h => ⟨fun c => (h c).2, sem_eq_zero_of_no_sems rfl _⟩) (Cert.ReferenceDhIdeal.Value.run m g)

/-- The two programs compute one product. -/
theorem same : Cert.algebraic_KernelDhIdeal_ReferenceDhIdeal := fun m g m' g' _ h =>
  ⟨fun c => prod (m ((c.tc : Thread Cert.KernelDhIdeal.nD Cert.KernelDhIdeal.τ).loc Cert.KernelDhIdeal.main_arg0)) (m ((c.tc : Thread Cert.KernelDhIdeal.nD Cert.KernelDhIdeal.τ).loc Cert.KernelDhIdeal.main_arg1)),
    (θ_run Cert.KernelDhIdeal.defs _ _).mono (fun r hr c => ⟨(hr c).1.trans (arr m c), (hr c).2⟩) (Cert.KernelDhIdeal.Value.run_blocks m g),
    (θ_run Cert.ReferenceDhIdeal.defs _ _).mono (fun r hr c => ⟨(hr c).1.trans ((ref_at _ _).trans (by rw [(h c).1, (h c).2])), (hr c).2⟩) (Cert.ReferenceDhIdeal.Value.run m' g')⟩

end Cert.Dh

end
-- ==== Proof.Mf.lean ====
/- The two branches merged, forwards: the kernel's arrays and the reference's are the same products under the same gates, over the extended reals. -/
module

public import proofs.«01_k».proof.Defs
public import proofs.«01_k».proof.Proof.Gen.KernelMf
public import proofs.«01_k».proof.Proof.Gen.KernelMfIdeal.Value
public import proofs.«01_k».proof.Proof.Gen.ReferenceMfIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelMfIdeal.Product

open Cert.KernelMfIdeal Cert.KernelMfIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: rows of one argument against columns of the other. -/
def prod (a : (⟨2, ![2048, 1024]⟩ : Shape).Idx → EReal) (w : (⟨2, ![1024, 2048]⟩ : Shape).Idx → EReal) : (⟨2, ![2048, 2048]⟩ : Shape).Idx → EReal :=
  fun i => ∑ k : Fin 1024, a (ix2 (i 0) k) * w (ix2 k (i 1))

/-- The logistic function. -/
def gate (x : EReal) : EReal := Ideal.div 1 (1 + Ideal.exp (-x))

/-- The place of the first gate. -/
def at_s (i : (⟨2, ![2048, 2048]⟩ : Shape).Idx) : (⟨2, ![2048, 10368]⟩ : Shape).Idx :=
  ix2 (i 0) (⟨6144 + (i 1 : ℕ), by have h : (i 1 : ℕ) < 2048 := (i 1).isLt; omega⟩ : Fin 10368)

/-- The place of the second gate. -/
def at_d (i : (⟨2, ![2048, 2048]⟩ : Shape).Idx) : (⟨2, ![2048, 10368]⟩ : Shape).Idx :=
  ix2 (i 0) (⟨8192 + (i 1 : ℕ), by have h : (i 1 : ℕ) < 2048 := (i 1).isLt; omega⟩ : Fin 10368)

/-- The two products under their gates, added. -/
def merged (a b : (⟨2, ![2048, 1024]⟩ : Shape).Idx → EReal) (w v : (⟨2, ![1024, 2048]⟩ : Shape).Idx → EReal) (p : (⟨2, ![2048, 10368]⟩ : Shape).Idx → EReal) :
    (⟨2, ![2048, 2048]⟩ : Shape).Idx → EReal :=
  fun i => gate (p (at_s i)) * prod a w i + gate (p (at_d i)) * prod b v i

/-- The blocks of a point. -/
theorem idx : ∀ t : Fin grid0.N, win0_0.index t = ![t.val / 4, 0] ∧ win0_1.index t = ![t.val / 4, 0] ∧ win0_2.index t = ![0, t.val % 4] ∧ win0_3.index t = ![0, t.val % 4]
    ∧ win0_4.index t = ![t.val / 4, 12 + t.val % 4] ∧ win0_5.index t = ![t.val / 4, 16 + t.val % 4]
    ∧ win0_6.index t = ![t.val / 4, t.val % 4] ∧ win0_7.index t = ![t.val / 4, t.val % 4] ∧ win0_8.index t = ![t.val / 4, t.val % 4] ∧ t.val < 16 := by
  decide +kernel

/-- The gates of a point, read in the projection. -/
theorem at_s_block (t : Fin cfg0.N) (j : S512x512.Idx) (i : S2048x10368.Idx) (h0 : (i 0 : ℕ) = t.val / 4 * 512 + (j 0 : ℕ)) (h1 : (i 1 : ℕ) = 6144 + (t.val % 4 * 512 + (j 1 : ℕ))) :
    (show Vec Ideal S512x512 .f32 from X0_4 m c t) j = m ((c : Thread nD τ).loc main_arg4) i := by
  show X0_4 m c t j = _
  unfold X0_4 Pipeline.Window.fill
  rw [dif_pos (moved0_4 t j)]
  blk_point [iblk, V, idx t]

/-- The gates of a point, read in the projection. -/
theorem at_d_block (t : Fin cfg0.N) (j : S512x512.Idx) (i : S2048x10368.Idx) (h0 : (i 0 : ℕ) = t.val / 4 * 512 + (j 0 : ℕ)) (h1 : (i 1 : ℕ) = 8192 + (t.val % 4 * 512 + (j 1 : ℕ))) :
    (show Vec Ideal S512x512 .f32 from X0_5 m c t) j = m ((c : Thread nD τ).loc main_arg4) i := by
  show X0_5 m c t j = _
  unfold X0_5 Pipeline.Window.fill
  rw [dif_pos (moved0_5 t j)]
  blk_point [iblk, V, idx t]

/-- A block of the product is the product, read where the block stands. -/
theorem point_s (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay1 (iblk m c 0 t) (iblk m c 2 t) y = prod (m ((c : Thread nD τ).loc main_arg0)) (m ((c : Thread nD τ).loc main_arg2)) i := by
  pointwise [k0_pay1, prod]
  blk_point [iblk, V, idx t]

/-- The array after the run is the product. -/
theorem arr_s : (dats m 0 c).arrAt 6 cfg0.N = prod (m ((c : Thread nD τ).loc main_arg0)) (m ((c : Thread nD τ).loc main_arg2)) := by
  refine (dats m 0 c).arrAt_eq_of_covers 6 _ (by decide +kernel) fun t hf y => ?_
  blk_simp
  rw [after0_6]; unfold outsAt0; frame_out
  refine point_s m c t y _ ?_ ?_
  all_goals (blk_simp [idx t] <;> try omega)

/-- A block of the product is the product, read where the block stands. -/
theorem point_d (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay2 (iblk m c 1 t) (iblk m c 3 t) y = prod (m ((c : Thread nD τ).loc main_arg1)) (m ((c : Thread nD τ).loc main_arg3)) i := by
  pointwise [k0_pay2, prod]
  blk_point [iblk, V, idx t]

/-- The array after the run is the product. -/
theorem arr_d : (dats m 0 c).arrAt 7 cfg0.N = prod (m ((c : Thread nD τ).loc main_arg1)) (m ((c : Thread nD τ).loc main_arg3)) := by
  refine (dats m 0 c).arrAt_eq_of_covers 7 _ (by decide +kernel) fun t hf y => ?_
  blk_simp
  rw [after0_7]; unfold outsAt0; frame_out
  refine point_d m c t y _ ?_ ?_
  all_goals (blk_simp [idx t] <;> try omega)

/-- What a point stores of the two branches is its two products under its gates, added. -/
theorem merged_block (x : Vec Ideal S512x1024 .bf16) (w : Vec Ideal S1024x512 .bf16) (u : Vec Ideal S512x1024 .bf16) (v : Vec Ideal S1024x512 .bf16)
    (g h : Vec Ideal S512x512 .f32) (y : S512x512.Idx) :
    k0_pay3 x w u v g h y = gate (g y) * k0_pay1 x w y + gate (h y) * k0_pay2 u v y := by
  pointwise [k0_pay3, k0_pay1, k0_pay2, gate]
  simp only [zero_sub]

/-- What a point stores is the merge, read where its block stands. -/
theorem point_m (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay3 (iblk m c 0 t) (iblk m c 2 t) (iblk m c 1 t) (iblk m c 3 t) (X0_4 m c t) (X0_5 m c t) y
      = merged (m ((c : Thread nD τ).loc main_arg0)) (m ((c : Thread nD τ).loc main_arg1)) (m ((c : Thread nD τ).loc main_arg2)) (m ((c : Thread nD τ).loc main_arg3)) (m ((c : Thread nD τ).loc main_arg4)) i := by
  refine (merged_block _ _ _ _ _ _ y).trans ?_
  rw [point_s m c t y i h0 h1, point_d m c t y i h0 h1]
  have hs := at_s_block m c t y (at_s i) h0 (congrArg (6144 + ·) h1)
  have hd := at_d_block m c t y (at_d i) h0 (congrArg (8192 + ·) h1)
  exact congrArg₂ (· + ·) (congrArg (fun z => gate z * prod _ _ i) hs) (congrArg (fun z => gate z * prod _ _ i) hd)

/-- The array after the run is the merge. -/
theorem arr_m : (dats m 0 c).arrAt 8 cfg0.N = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8]; unfold outsAt0; frame_out
  refine point_m m c t y _ ?_ ?_
  all_goals (blk_simp [idx t] <;> try omega)

end Cert.KernelMfIdeal.Product

namespace Cert.Mf

open Idealize.ShloMosaic Idealize.ShloMosaic.TcCoe Idealize.SL.Sem
open Cert.KernelMfIdeal.Product (prod gate at_s at_d merged arr_s arr_d arr_m)

/-- The reference's product. -/
abbrev dot (a : Vec Ideal Cert.ReferenceMfIdeal.S2048x1024 .bf16) (w : Vec Ideal Cert.ReferenceMfIdeal.S1024x2048 .bf16) : FVec Ideal Cert.ReferenceMfIdeal.S2048x2048 .f32 :=
  Host.dotGeneral (F := Ideal) Cert.ReferenceMfIdeal.dot_S2048x1024_S1024x2048_S2048x2048_1_0_0_1_n_n none (extf .f32 a Cert.ReferenceMfIdeal.Gen.bitsLt_bf16_f32) (extf .f32 w Cert.ReferenceMfIdeal.Gen.bitsLt_bf16_f32)

/-- The reference's gate, from its columns of the projection. -/
abbrev sig (off : Fin 2 → ℕ) (p : FVec Ideal Cert.ReferenceMfIdeal.S2048x10368 .f32) (h : Cert.ReferenceMfIdeal.S2048x10368.Slices off Cert.ReferenceMfIdeal.S2048x2048) : FVec Ideal Cert.ReferenceMfIdeal.S2048x2048 .f32 :=
  Host.divf (broadcastInDim Cert.ReferenceMfIdeal.S2048x2048 ![] Cert.ReferenceMfIdeal.Gen.bcast_S_S2048x2048 (constant (F := Ideal) Cert.ReferenceMfIdeal.S_ .f32 0x3F800000#32)) (addf (broadcastInDim Cert.ReferenceMfIdeal.S2048x2048 ![] Cert.ReferenceMfIdeal.Gen.bcast_S_S2048x2048 (constant (F := Ideal) Cert.ReferenceMfIdeal.S_ .f32 0x3F800000#32)) (Host.exp (Host.negf (extractStridedSlice Cert.ReferenceMfIdeal.S2048x2048 off p h))))

/-- The reference's product, at each place. -/
theorem dot_at (a : Vec Ideal Cert.ReferenceMfIdeal.S2048x1024 .bf16) (w : Vec Ideal Cert.ReferenceMfIdeal.S1024x2048 .bf16) : dot a w = prod a w := by
  funext i
  unfold prod
  pointwise

/-- The reference's first gate, at each place. -/
theorem sig_s (p : FVec Ideal Cert.ReferenceMfIdeal.S2048x10368 .f32) (i : Cert.ReferenceMfIdeal.S2048x2048.Idx) : sig ![0, 6144] p Cert.ReferenceMfIdeal.Gen.slices_S2048x10368_S2048x2048_0_6144 i = gate (p (at_s i)) := by
  unfold gate at_s
  pointwise
  blk_ext

/-- The reference's second gate, at each place. -/
theorem sig_d (p : FVec Ideal Cert.ReferenceMfIdeal.S2048x10368 .f32) (i : Cert.ReferenceMfIdeal.S2048x2048.Idx) : sig ![0, 8192] p Cert.ReferenceMfIdeal.Gen.slices_S2048x10368_S2048x2048_0_8192 i = gate (p (at_d i)) := by
  unfold gate at_d
  pointwise
  blk_ext

/-- The reference's merge, at each place. -/
theorem merged_at (a b : Vec Ideal Cert.ReferenceMfIdeal.S2048x1024 .bf16) (w v : Vec Ideal Cert.ReferenceMfIdeal.S1024x2048 .bf16) (p : FVec Ideal Cert.ReferenceMfIdeal.S2048x10368 .f32) :
    truncf .bf16 (addf (mulf (sig ![0, 6144] p Cert.ReferenceMfIdeal.Gen.slices_S2048x10368_S2048x2048_0_6144) (dot a w)) (mulf (sig ![0, 8192] p Cert.ReferenceMfIdeal.Gen.slices_S2048x10368_S2048x2048_0_8192) (dot b v))) Cert.ReferenceMfIdeal.Gen.bitsLt_bf16_f32
      = merged a b w v p := by
  funext i
  refine (show _ = sig ![0, 6144] p Cert.ReferenceMfIdeal.Gen.slices_S2048x10368_S2048x2048_0_6144 i * dot a w i + sig ![0, 8192] p Cert.ReferenceMfIdeal.Gen.slices_S2048x10368_S2048x2048_0_8192 i * dot b v i from rfl).trans ?_
  rw [sig_s, sig_d, dot_at, dot_at]
  rfl

/-- One text, so one frame: the kernel's, at the machine's floats. -/
theorem frame_kernel : Cert.quiescent_KernelMf := by
  have h : Cert.quiescent_KernelMf = ∀ (m : (ℓ : Loc Cert.KernelMfIdeal.nD Cert.KernelMfIdeal.τ Cert.KernelMfIdeal.sig) → Buf (Elt Bits) ℓ) (g : Dev Cert.KernelMfIdeal.nD → PrngReg), True →
      θ_run (Cert.KernelMfIdeal.defs (F := Bits)) (onTc (τ := Cert.KernelMfIdeal.τ) (Cert.KernelMfIdeal.main (F := Bits))) ⟨m, fun _ => 0, g⟩ (fun r => (∀ c : Dev Cert.KernelMfIdeal.nD,
        r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
        ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
        ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
        ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
        ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4))
        ∧ r.2.sem = fun _ => 0) := by
    chain_rfl
  exact h.mpr fun m g _ => Cert.KernelMfIdeal.Gen.frame m g

/-- The ideal kernel's frame. -/
theorem frame_ideal : Cert.quiescent_KernelMfIdeal := fun m g _ => Cert.KernelMfIdeal.Gen.frame m g

/-- The reference's frame. -/
theorem frame_ref : Cert.quiescent_ReferenceMfIdeal := fun m g _ =>
  (θ_run Cert.ReferenceMfIdeal.defs _ _).mono (fun r h => ⟨fun c => (h c).2.2.2, sem_eq_zero_of_no_sems rfl _⟩) (Cert.ReferenceMfIdeal.Value.run m g)

/-- The two programs compute the same arrays. -/
theorem same : Cert.algebraic_KernelMfIdeal_ReferenceMfIdeal := fun m g m' g' _ h =>
  ⟨fun c => prod (m ((c.tc : Thread Cert.KernelMfIdeal.nD Cert.KernelMfIdeal.τ).loc Cert.KernelMfIdeal.main_arg0)) (m ((c.tc : Thread Cert.KernelMfIdeal.nD Cert.KernelMfIdeal.τ).loc Cert.KernelMfIdeal.main_arg2)), fun c => prod (m ((c.tc : Thread Cert.KernelMfIdeal.nD Cert.KernelMfIdeal.τ).loc Cert.KernelMfIdeal.main_arg1)) (m ((c.tc : Thread Cert.KernelMfIdeal.nD Cert.KernelMfIdeal.τ).loc Cert.KernelMfIdeal.main_arg3)), fun c => merged (m ((c.tc : Thread Cert.KernelMfIdeal.nD Cert.KernelMfIdeal.τ).loc Cert.KernelMfIdeal.main_arg0)) (m ((c.tc : Thread Cert.KernelMfIdeal.nD Cert.KernelMfIdeal.τ).loc Cert.KernelMfIdeal.main_arg1)) (m ((c.tc : Thread Cert.KernelMfIdeal.nD Cert.KernelMfIdeal.τ).loc Cert.KernelMfIdeal.main_arg2)) (m ((c.tc : Thread Cert.KernelMfIdeal.nD Cert.KernelMfIdeal.τ).loc Cert.KernelMfIdeal.main_arg3)) (m ((c.tc : Thread Cert.KernelMfIdeal.nD Cert.KernelMfIdeal.τ).loc Cert.KernelMfIdeal.main_arg4)),
    (θ_run Cert.KernelMfIdeal.defs _ _).mono (fun r hr c => ⟨(hr c).1.trans (arr_s m c), (hr c).2.1.trans (arr_d m c), (hr c).2.2.1.trans (arr_m m c), (hr c).2.2.2⟩) (Cert.KernelMfIdeal.Value.run_blocks m g),
    (θ_run Cert.ReferenceMfIdeal.defs _ _).mono (fun r hr c => ⟨(hr c).1.trans ((dot_at _ _).trans (by rw [(h c).1, (h c).2.2.1])), (hr c).2.1.trans ((dot_at _ _).trans (by rw [(h c).2.1, (h c).2.2.2.1])), (hr c).2.2.1.trans ((merged_at _ _ _ _ _).trans (by rw [(h c).1, (h c).2.1, (h c).2.2.1, (h c).2.2.2.1, (h c).2.2.2.2])), (hr c).2.2.2⟩) (Cert.ReferenceMfIdeal.Value.run m' g')⟩

end Cert.Mf

end
-- ==== Proof.Mb.lean ====
/- The two branches merged, backwards: the kernel's four gradients and the reference's are the same, over the extended reals. -/
module

public import proofs.«01_k».proof.Defs
public import proofs.«01_k».proof.Proof.Gen.KernelMb
public import proofs.«01_k».proof.Proof.Gen.KernelMbIdeal.Value
public import proofs.«01_k».proof.Proof.Gen.ReferenceMbIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelMbIdeal.Product

open Cert.KernelMbIdeal Cert.KernelMbIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: rows of one argument against rows of the other. -/
def prod (a w : (⟨2, ![2048, 2048]⟩ : Shape).Idx → EReal) : (⟨2, ![2048, 2048]⟩ : Shape).Idx → EReal :=
  fun i => ∑ k : Fin 2048, a (ix2 (i 0) k) * w (ix2 (i 1) k)

/-- The logistic function. -/
def gate (x : EReal) : EReal := Ideal.div 1 (1 + Ideal.exp (-x))

/-- The place of the first gate. -/
def at_s (i : (⟨2, ![2048, 2048]⟩ : Shape).Idx) : (⟨2, ![2048, 10368]⟩ : Shape).Idx :=
  ix2 (i 0) (⟨6144 + (i 1 : ℕ), by have h : (i 1 : ℕ) < 2048 := (i 1).isLt; omega⟩ : Fin 10368)

/-- The place of the second gate. -/
def at_d (i : (⟨2, ![2048, 2048]⟩ : Shape).Idx) : (⟨2, ![2048, 10368]⟩ : Shape).Idx :=
  ix2 (i 0) (⟨8192 + (i 1 : ℕ), by have h : (i 1 : ℕ) < 2048 := (i 1).isLt; omega⟩ : Fin 10368)

/-- What goes back to a gate: the product, times what was gated, times the slope of the logistic function. -/
def slope (s : (⟨2, ![2048, 2048]⟩ : Shape).Idx → (⟨2, ![2048, 10368]⟩ : Shape).Idx) (a w : (⟨2, ![2048, 2048]⟩ : Shape).Idx → EReal) (p : (⟨2, ![2048, 10368]⟩ : Shape).Idx → EReal) (v : (⟨2, ![2048, 2048]⟩ : Shape).Idx → EReal) : (⟨2, ![2048, 2048]⟩ : Shape).Idx → EReal :=
  fun i => prod a w i * v i * (gate (p (s i)) * (1 - gate (p (s i))))

/-- What goes back to what was gated: the gate times the product. -/
def through (s : (⟨2, ![2048, 2048]⟩ : Shape).Idx → (⟨2, ![2048, 10368]⟩ : Shape).Idx) (a w : (⟨2, ![2048, 2048]⟩ : Shape).Idx → EReal) (p : (⟨2, ![2048, 10368]⟩ : Shape).Idx → EReal) : (⟨2, ![2048, 2048]⟩ : Shape).Idx → EReal :=
  fun i => gate (p (s i)) * prod a w i

/-- The blocks of a point. -/
theorem idx : ∀ t : Fin grid0.N, win0_0.index t = ![t.val / 4, 0] ∧ win0_1.index t = ![t.val % 4, 0]
    ∧ win0_2.index t = ![t.val / 4, 12 + t.val % 4] ∧ win0_3.index t = ![t.val / 4, 16 + t.val % 4]
    ∧ win0_4.index t = ![t.val / 4, t.val % 4] ∧ win0_5.index t = ![t.val / 4, t.val % 4]
    ∧ win0_6.index t = ![t.val / 4, t.val % 4] ∧ win0_7.index t = ![t.val / 4, t.val % 4] ∧ win0_8.index t = ![t.val / 4, t.val % 4] ∧ win0_9.index t = ![t.val / 4, t.val % 4]
    ∧ t.val < 16 := by
  decide +kernel

/-- The gates of a point, read in the projection. -/
theorem at_s_block (t : Fin cfg0.N) (j : S512x512.Idx) (i : S2048x10368.Idx) (h0 : (i 0 : ℕ) = t.val / 4 * 512 + (j 0 : ℕ)) (h1 : (i 1 : ℕ) = 6144 + (t.val % 4 * 512 + (j 1 : ℕ))) :
    (show Vec Ideal S512x512 .f32 from X0_2 m c t) j = m ((c : Thread nD τ).loc main_arg2) i := by
  show X0_2 m c t j = _
  unfold X0_2 Pipeline.Window.fill
  rw [dif_pos (moved0_2 t j)]
  blk_point [iblk, V, idx t]

/-- The gates of a point, read in the projection. -/
theorem at_d_block (t : Fin cfg0.N) (j : S512x512.Idx) (i : S2048x10368.Idx) (h0 : (i 0 : ℕ) = t.val / 4 * 512 + (j 0 : ℕ)) (h1 : (i 1 : ℕ) = 8192 + (t.val % 4 * 512 + (j 1 : ℕ))) :
    (show Vec Ideal S512x512 .f32 from X0_3 m c t) j = m ((c : Thread nD τ).loc main_arg2) i := by
  show X0_3 m c t j = _
  unfold X0_3 Pipeline.Window.fill
  rw [dif_pos (moved0_3 t j)]
  blk_point [iblk, V, idx t]

/-- What was gated at a point, read where its block stands. -/
theorem first_block (t : Fin cfg0.N) (y : S512x512.Idx) (i : S2048x2048.Idx) (h0 : (i 0 : ℕ) = t.val / 4 * 512 + (y 0 : ℕ)) (h1 : (i 1 : ℕ) = t.val % 4 * 512 + (y 1 : ℕ)) :
    (show Vec Ideal S512x512 .f32 from iblk m c 4 t) y = m ((c : Thread nD τ).loc main_arg3) i := by
  show iblk m c 4 t y = _
  blk_point [iblk, V, idx t]

/-- What was gated at a point, read where its block stands. -/
theorem second_block (t : Fin cfg0.N) (y : S512x512.Idx) (i : S2048x2048.Idx) (h0 : (i 0 : ℕ) = t.val / 4 * 512 + (y 0 : ℕ)) (h1 : (i 1 : ℕ) = t.val % 4 * 512 + (y 1 : ℕ)) :
    (show Vec Ideal S512x512 .f32 from iblk m c 5 t) y = m ((c : Thread nD τ).loc main_arg4) i := by
  show iblk m c 5 t y = _
  blk_point [iblk, V, idx t]

/-- A block of the product is the product, read where the block stands. -/
theorem point_p (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay2 (iblk m c 0 t) (iblk m c 1 t) y = prod (m ((c : Thread nD τ).loc main_arg0)) (m ((c : Thread nD τ).loc main_arg1)) i := by
  pointwise [k0_pay2, prod]
  blk_point [iblk, V, idx t]

/-- What a point stores for the first gate. -/
theorem slope_s_block (x w : Vec Ideal S512x2048 .bf16) (g v : Vec Ideal S512x512 .f32) (y : S512x512.Idx) :
    k0_pay7 x w g v y = k0_pay2 x w y * v y * (gate (g y) * (1 - gate (g y))) := by
  pointwise [k0_pay7, k0_pay3, k0_pay2, gate]
  simp only [zero_sub, mul_assoc]

/-- What a point stores for the second gate. -/
theorem slope_d_block (x w : Vec Ideal S512x2048 .bf16) (g v : Vec Ideal S512x512 .f32) (y : S512x512.Idx) :
    k0_pay1 (k0_pay2 x w) (k0_pay4 g) v y = k0_pay2 x w y * v y * (gate (g y) * (1 - gate (g y))) := by
  pointwise [k0_pay1, k0_pay4, k0_pay2, gate]
  simp only [zero_sub, mul_assoc]

/-- What a point stores for the first of what was gated. -/
theorem through_s_block (x w : Vec Ideal S512x2048 .bf16) (g : Vec Ideal S512x512 .f32) (y : S512x512.Idx) :
    k0_pay5 x w g y = gate (g y) * k0_pay2 x w y := by
  pointwise [k0_pay5, k0_pay3, k0_pay2, gate]
  simp only [zero_sub]
  exact mul_comm _ _

/-- What a point stores for the second of what was gated. -/
theorem through_d_block (x w : Vec Ideal S512x2048 .bf16) (g : Vec Ideal S512x512 .f32) (y : S512x512.Idx) :
    k0_pay6 x w g y = gate (g y) * k0_pay2 x w y := by
  pointwise [k0_pay6, k0_pay4, k0_pay2, gate]
  simp only [zero_sub]
  exact mul_comm _ _

/-- What a point stores is this gradient, read where its block stands. -/
theorem point_slope_s (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay7 (iblk m c 0 t) (iblk m c 1 t) (X0_2 m c t) (iblk m c 4 t) y = slope at_s (m ((c : Thread nD τ).loc main_arg0)) (m ((c : Thread nD τ).loc main_arg1)) (m ((c : Thread nD τ).loc main_arg2)) (m ((c : Thread nD τ).loc main_arg3)) i := by
  refine (slope_s_block _ _ _ _ y).trans ?_
  rw [point_p m c t y i h0 h1]
  have hg := at_s_block m c t y (at_s i) h0 (congrArg (6144 + ·) h1)
  have hv := first_block m c t y i h0 h1
  exact congrArg₂ (fun v z => prod _ _ i * v * (gate z * (1 - gate z))) hv hg

/-- The array after the run is this gradient. -/
theorem arr_slope_s : (dats m 0 c).arrAt 6 cfg0.N = slope at_s (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]; unfold outsAt0; frame_out
  refine point_slope_s m c t y _ ?_ ?_
  all_goals (blk_simp [idx t] <;> try omega)

/-- What a point stores is this gradient, read where its block stands. -/
theorem point_slope_d (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay1 (k0_pay2 (iblk m c 0 t) (iblk m c 1 t)) (k0_pay4 (X0_3 m c t)) (iblk m c 5 t) y = slope at_d (m ((c : Thread nD τ).loc main_arg0)) (m ((c : Thread nD τ).loc main_arg1)) (m ((c : Thread nD τ).loc main_arg2)) (m ((c : Thread nD τ).loc main_arg4)) i := by
  refine (slope_d_block _ _ _ _ y).trans ?_
  rw [point_p m c t y i h0 h1]
  have hg := at_d_block m c t y (at_d i) h0 (congrArg (8192 + ·) h1)
  have hv := second_block m c t y i h0 h1
  exact congrArg₂ (fun v z => prod _ _ i * v * (gate z * (1 - gate z))) hv hg

/-- The array after the run is this gradient. -/
theorem arr_slope_d : (dats m 0 c).arrAt 7 cfg0.N = slope at_d (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]; unfold outsAt0; frame_out
  refine point_slope_d m c t y _ ?_ ?_
  all_goals (blk_simp [idx t] <;> try omega)

/-- What a point stores is this gradient, read where its block stands. -/
theorem point_through_s (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay5 (iblk m c 0 t) (iblk m c 1 t) (X0_2 m c t) y = through at_s (m ((c : Thread nD τ).loc main_arg0)) (m ((c : Thread nD τ).loc main_arg1)) (m ((c : Thread nD τ).loc main_arg2)) i := by
  refine (through_s_block _ _ _ y).trans ?_
  rw [point_p m c t y i h0 h1]
  have hg := at_s_block m c t y (at_s i) h0 (congrArg (6144 + ·) h1)
  exact congrArg (fun z => gate z * prod _ _ i) hg

/-- The array after the run is this gradient. -/
theorem arr_through_s : (dats m 0 c).arrAt 8 cfg0.N = through at_s (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]; unfold outsAt0; frame_out
  refine point_through_s m c t y _ ?_ ?_
  all_goals (blk_simp [idx t] <;> try omega)

/-- What a point stores is this gradient, read where its block stands. -/
theorem point_through_d (t : Fin cfg0.N) (y : S512x512.Idx) (i : S2048x2048.Idx) (h0 : (i 0 : ℕ) = t.val / 4 * 512 + (y 0 : ℕ)) (h1 : (i 1 : ℕ) = t.val % 4 * 512 + (y 1 : ℕ)) :
    k0_pay6 (iblk m c 0 t) (iblk m c 1 t) (X0_3 m c t) y = through at_d (m ((c : Thread nD τ).loc main_arg0)) (m ((c : Thread nD τ).loc main_arg1)) (m ((c : Thread nD τ).loc main_arg2)) i := by
  refine (through_d_block _ _ _ y).trans ?_
  rw [point_p m c t y i h0 h1]
  have hg := at_d_block m c t y (at_d i) h0 (congrArg (8192 + ·) h1)
  exact congrArg (fun z => gate z * prod _ _ i) hg

/-- The array after the run is this gradient. -/
theorem arr_through_d : (dats m 0 c).arrAt 9 cfg0.N = through at_d (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]; unfold outsAt0; frame_out
  refine point_through_d m c t y _ ?_ ?_
  all_goals (blk_simp [idx t] <;> try omega)

end Cert.KernelMbIdeal.Product

namespace Cert.Mb

open Idealize.ShloMosaic Idealize.ShloMosaic.TcCoe Idealize.SL.Sem
open Cert.KernelMbIdeal.Product (prod gate at_s at_d slope through arr_slope_s arr_slope_d arr_through_s arr_through_d)

/-- The reference's product. -/
abbrev dot (a w : Vec Ideal Cert.ReferenceMbIdeal.S2048x2048 .bf16) : FVec Ideal Cert.ReferenceMbIdeal.S2048x2048 .f32 :=
  Host.dotGeneral (F := Ideal) Cert.ReferenceMbIdeal.dot_S2048x2048_S2048x2048_S2048x2048_1_1_0_0_n_n none (extf .f32 a Cert.ReferenceMbIdeal.Gen.bitsLt_bf16_f32) (extf .f32 w Cert.ReferenceMbIdeal.Gen.bitsLt_bf16_f32)

/-- Ones. -/
abbrev ones : FVec Ideal Cert.ReferenceMbIdeal.S2048x2048 .f32 := broadcastInDim Cert.ReferenceMbIdeal.S2048x2048 ![] Cert.ReferenceMbIdeal.Gen.bcast_S_S2048x2048 (constant (F := Ideal) Cert.ReferenceMbIdeal.S_ .f32 0x3F800000#32)

/-- The reference's gate, from its columns of the projection. -/
abbrev sig (off : Fin 2 → ℕ) (p : FVec Ideal Cert.ReferenceMbIdeal.S2048x10368 .f32) (h : Cert.ReferenceMbIdeal.S2048x10368.Slices off Cert.ReferenceMbIdeal.S2048x2048) : FVec Ideal Cert.ReferenceMbIdeal.S2048x2048 .f32 :=
  Host.divf ones (addf ones (Host.exp (Host.negf (extractStridedSlice Cert.ReferenceMbIdeal.S2048x2048 off p h))))

/-- The reference's product, at each place. -/
theorem dot_at (a w : Vec Ideal Cert.ReferenceMbIdeal.S2048x2048 .bf16) : dot a w = prod a w := by
  funext i
  unfold prod
  pointwise

/-- One, at each place. -/
theorem one_at (i : Cert.ReferenceMbIdeal.S2048x2048.Idx) : ones i = (1 : EReal) := by
  pointwise

/-- The reference's first gate, at each place. -/
theorem sig_s (p : FVec Ideal Cert.ReferenceMbIdeal.S2048x10368 .f32) (i : Cert.ReferenceMbIdeal.S2048x2048.Idx) : sig ![0, 6144] p Cert.ReferenceMbIdeal.Gen.slices_S2048x10368_S2048x2048_0_6144 i = gate (p (at_s i)) := by
  unfold gate at_s
  pointwise
  blk_ext

/-- What the reference sends back to the first gate, at each place. -/
theorem slope_s_at (a w : Vec Ideal Cert.ReferenceMbIdeal.S2048x2048 .bf16) (p : FVec Ideal Cert.ReferenceMbIdeal.S2048x10368 .f32) (v : FVec Ideal Cert.ReferenceMbIdeal.S2048x2048 .f32) :
    truncf .bf16 (mulf (mulf (dot a w) v) (mulf (sig ![0, 6144] p Cert.ReferenceMbIdeal.Gen.slices_S2048x10368_S2048x2048_0_6144) (subf ones (sig ![0, 6144] p Cert.ReferenceMbIdeal.Gen.slices_S2048x10368_S2048x2048_0_6144)))) Cert.ReferenceMbIdeal.Gen.bitsLt_bf16_f32
      = slope at_s a w p v := by
  funext i
  refine (show _ = (dot a w i * v i) * (sig ![0, 6144] p Cert.ReferenceMbIdeal.Gen.slices_S2048x10368_S2048x2048_0_6144 i * (ones i - sig ![0, 6144] p Cert.ReferenceMbIdeal.Gen.slices_S2048x10368_S2048x2048_0_6144 i)) from rfl).trans ?_
  rw [sig_s, dot_at, one_at]
  rfl

/-- What the reference sends back to what the first gate gated, at each place. -/
theorem through_s_at (a w : Vec Ideal Cert.ReferenceMbIdeal.S2048x2048 .bf16) (p : FVec Ideal Cert.ReferenceMbIdeal.S2048x10368 .f32) :
    truncf .bf16 (mulf (sig ![0, 6144] p Cert.ReferenceMbIdeal.Gen.slices_S2048x10368_S2048x2048_0_6144) (dot a w)) Cert.ReferenceMbIdeal.Gen.bitsLt_bf16_f32 = through at_s a w p := by
  funext i
  refine (show _ = sig ![0, 6144] p Cert.ReferenceMbIdeal.Gen.slices_S2048x10368_S2048x2048_0_6144 i * dot a w i from rfl).trans ?_
  rw [sig_s, dot_at]
  rfl

/-- The reference's second gate, at each place. -/
theorem sig_d (p : FVec Ideal Cert.ReferenceMbIdeal.S2048x10368 .f32) (i : Cert.ReferenceMbIdeal.S2048x2048.Idx) : sig ![0, 8192] p Cert.ReferenceMbIdeal.Gen.slices_S2048x10368_S2048x2048_0_8192 i = gate (p (at_d i)) := by
  unfold gate at_d
  pointwise
  blk_ext

/-- What the reference sends back to the second gate, at each place. -/
theorem slope_d_at (a w : Vec Ideal Cert.ReferenceMbIdeal.S2048x2048 .bf16) (p : FVec Ideal Cert.ReferenceMbIdeal.S2048x10368 .f32) (v : FVec Ideal Cert.ReferenceMbIdeal.S2048x2048 .f32) :
    truncf .bf16 (mulf (mulf (dot a w) v) (mulf (sig ![0, 8192] p Cert.ReferenceMbIdeal.Gen.slices_S2048x10368_S2048x2048_0_8192) (subf ones (sig ![0, 8192] p Cert.ReferenceMbIdeal.Gen.slices_S2048x10368_S2048x2048_0_8192)))) Cert.ReferenceMbIdeal.Gen.bitsLt_bf16_f32
      = slope at_d a w p v := by
  funext i
  refine (show _ = (dot a w i * v i) * (sig ![0, 8192] p Cert.ReferenceMbIdeal.Gen.slices_S2048x10368_S2048x2048_0_8192 i * (ones i - sig ![0, 8192] p Cert.ReferenceMbIdeal.Gen.slices_S2048x10368_S2048x2048_0_8192 i)) from rfl).trans ?_
  rw [sig_d, dot_at, one_at]
  rfl

/-- What the reference sends back to what the second gate gated, at each place. -/
theorem through_d_at (a w : Vec Ideal Cert.ReferenceMbIdeal.S2048x2048 .bf16) (p : FVec Ideal Cert.ReferenceMbIdeal.S2048x10368 .f32) :
    truncf .bf16 (mulf (sig ![0, 8192] p Cert.ReferenceMbIdeal.Gen.slices_S2048x10368_S2048x2048_0_8192) (dot a w)) Cert.ReferenceMbIdeal.Gen.bitsLt_bf16_f32 = through at_d a w p := by
  funext i
  refine (show _ = sig ![0, 8192] p Cert.ReferenceMbIdeal.Gen.slices_S2048x10368_S2048x2048_0_8192 i * dot a w i from rfl).trans ?_
  rw [sig_d, dot_at]
  rfl

/-- One text, so one frame: the kernel's, at the machine's floats. -/
theorem frame_kernel : Cert.quiescent_KernelMb := by
  have h : Cert.quiescent_KernelMb = ∀ (m : (ℓ : Loc Cert.KernelMbIdeal.nD Cert.KernelMbIdeal.τ Cert.KernelMbIdeal.sig) → Buf (Elt Bits) ℓ) (g : Dev Cert.KernelMbIdeal.nD → PrngReg), True →
      θ_run (Cert.KernelMbIdeal.defs (F := Bits)) (onTc (τ := Cert.KernelMbIdeal.τ) (Cert.KernelMbIdeal.main (F := Bits))) ⟨m, fun _ => 0, g⟩ (fun r => (∀ c : Dev Cert.KernelMbIdeal.nD,
        r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
        ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
        ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
        ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
        ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
        ∧ r.2.sem = fun _ => 0) := by
    chain_rfl
  exact h.mpr fun m g _ => Cert.KernelMbIdeal.Gen.frame m g

/-- The ideal kernel's frame. -/
theorem frame_ideal : Cert.quiescent_KernelMbIdeal := fun m g _ => Cert.KernelMbIdeal.Gen.frame m g

/-- The reference's frame. -/
theorem frame_ref : Cert.quiescent_ReferenceMbIdeal := fun m g _ =>
  (θ_run Cert.ReferenceMbIdeal.defs _ _).mono (fun r h => ⟨fun c => (h c).2.2.2.2, sem_eq_zero_of_no_sems rfl _⟩) (Cert.ReferenceMbIdeal.Value.run m g)

/-- The two programs compute the same arrays. -/
theorem same : Cert.algebraic_KernelMbIdeal_ReferenceMbIdeal := fun m g m' g' _ h =>
  ⟨fun c => slope at_s (m ((c.tc : Thread Cert.KernelMbIdeal.nD Cert.KernelMbIdeal.τ).loc Cert.KernelMbIdeal.main_arg0)) (m ((c.tc : Thread Cert.KernelMbIdeal.nD Cert.KernelMbIdeal.τ).loc Cert.KernelMbIdeal.main_arg1)) (m ((c.tc : Thread Cert.KernelMbIdeal.nD Cert.KernelMbIdeal.τ).loc Cert.KernelMbIdeal.main_arg2)) (m ((c.tc : Thread Cert.KernelMbIdeal.nD Cert.KernelMbIdeal.τ).loc Cert.KernelMbIdeal.main_arg3)), fun c => slope at_d (m ((c.tc : Thread Cert.KernelMbIdeal.nD Cert.KernelMbIdeal.τ).loc Cert.KernelMbIdeal.main_arg0)) (m ((c.tc : Thread Cert.KernelMbIdeal.nD Cert.KernelMbIdeal.τ).loc Cert.KernelMbIdeal.main_arg1)) (m ((c.tc : Thread Cert.KernelMbIdeal.nD Cert.KernelMbIdeal.τ).loc Cert.KernelMbIdeal.main_arg2)) (m ((c.tc : Thread Cert.KernelMbIdeal.nD Cert.KernelMbIdeal.τ).loc Cert.KernelMbIdeal.main_arg4)), fun c => through at_s (m ((c.tc : Thread Cert.KernelMbIdeal.nD Cert.KernelMbIdeal.τ).loc Cert.KernelMbIdeal.main_arg0)) (m ((c.tc : Thread Cert.KernelMbIdeal.nD Cert.KernelMbIdeal.τ).loc Cert.KernelMbIdeal.main_arg1)) (m ((c.tc : Thread Cert.KernelMbIdeal.nD Cert.KernelMbIdeal.τ).loc Cert.KernelMbIdeal.main_arg2)), fun c => through at_d (m ((c.tc : Thread Cert.KernelMbIdeal.nD Cert.KernelMbIdeal.τ).loc Cert.KernelMbIdeal.main_arg0)) (m ((c.tc : Thread Cert.KernelMbIdeal.nD Cert.KernelMbIdeal.τ).loc Cert.KernelMbIdeal.main_arg1)) (m ((c.tc : Thread Cert.KernelMbIdeal.nD Cert.KernelMbIdeal.τ).loc Cert.KernelMbIdeal.main_arg2)),
    (θ_run Cert.KernelMbIdeal.defs _ _).mono (fun r hr c => ⟨(hr c).1.trans (arr_slope_s m c), (hr c).2.1.trans (arr_slope_d m c), (hr c).2.2.1.trans (arr_through_s m c), (hr c).2.2.2.1.trans (arr_through_d m c), (hr c).2.2.2.2⟩) (Cert.KernelMbIdeal.Value.run_blocks m g),
    (θ_run Cert.ReferenceMbIdeal.defs _ _).mono (fun r hr c => ⟨(hr c).1.trans ((slope_s_at _ _ _ _).trans (by rw [(h c).1, (h c).2.1, (h c).2.2.1, (h c).2.2.2.1])), (hr c).2.1.trans ((slope_d_at _ _ _ _).trans (by rw [(h c).1, (h c).2.1, (h c).2.2.1, (h c).2.2.2.2])), (hr c).2.2.1.trans ((through_s_at _ _ _).trans (by rw [(h c).1, (h c).2.1, (h c).2.2.1])), (hr c).2.2.2.1.trans ((through_d_at _ _ _).trans (by rw [(h c).1, (h c).2.1, (h c).2.2.1])), (hr c).2.2.2.2⟩) (Cert.ReferenceMbIdeal.Value.run m' g')⟩

end Cert.Mb

end
-- ==== Proof.Wo.lean ====
/- The output projection's weight gradient: the kernel's array and the reference's are one product, over the extended reals. -/
module

public import proofs.«01_k».proof.Defs
public import proofs.«01_k».proof.Proof.Gen.KernelWo
public import proofs.«01_k».proof.Proof.Gen.KernelWoIdeal.Value
public import proofs.«01_k».proof.Proof.Gen.ReferenceWoIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelWoIdeal.Product

open Cert.KernelWoIdeal Cert.KernelWoIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: columns of one argument against columns of the other. -/
def prod (a : (⟨2, ![2048, 2048]⟩ : Shape).Idx → EReal) (b : (⟨2, ![2048, 2048]⟩ : Shape).Idx → EReal) : (⟨2, ![2048, 2048]⟩ : Shape).Idx → EReal :=
  fun i => ∑ k : Fin 2048, a (ix2 k (i 0)) * b (ix2 k (i 1))

/-- The blocks of a point. -/
theorem idx : ∀ t : Fin grid0.N, win0_0.index t = ![0, t.val / 4] ∧ win0_1.index t = ![0, t.val % 4] ∧ win0_2.index t = ![t.val / 4, t.val % 4] ∧ win0_3.index t = ![t.val / 4, t.val % 4] ∧ t.val < 16 := by
  decide +kernel

/-- What a point computes is the product, read where its block stands. -/
theorem point (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- What a point computes is the second copy of the product, read where its block stands. -/
theorem point_twin (t : Fin cfg0.N) (y) : k0_pay2 (iblk m c 0 t) (iblk m c 1 t) y
    = prod (m ((c : Thread nD τ).loc main_arg0)) (m ((c : Thread nD τ).loc main_arg1)) (((cfg0.win 3).blk t).view.emb y) := by
  pointwise [k0_pay2, prod]
  blk_point [iblk, V, idx t]

/-- The array after the run is the second copy of the product. -/
theorem arr_twin : (dats m 0 c).arrAt 3 cfg0.N = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_twin m c t y

end Cert.KernelWoIdeal.Product

namespace Cert.Wo

open Idealize.ShloMosaic Idealize.ShloMosaic.TcCoe Idealize.SL.Sem
open Cert.KernelWoIdeal.Product (prod arr arr_twin)

/-- The reference's result, at each place, is the product. -/
theorem ref_at (a : Vec Ideal Cert.ReferenceWoIdeal.S2048x2048 .bf16) (b : Vec Ideal Cert.ReferenceWoIdeal.S2048x2048 .bf16) :
    transpose Cert.ReferenceWoIdeal.S2048x2048 [1, 0] (Host.dotGeneral (F := Ideal) Cert.ReferenceWoIdeal.dot_S2048x2048_S2048x2048_S2048x2048_0_0_1_1_n_n none (extf .f32 b Cert.ReferenceWoIdeal.Gen.bitsLt_bf16_f32) (extf .f32 a Cert.ReferenceWoIdeal.Gen.bitsLt_bf16_f32)) Cert.ReferenceWoIdeal.Gen.transposes_S2048x2048_S2048x2048_1_0
      = prod a b := by
  funext i
  unfold prod
  pointwise
  exact Finset.sum_congr rfl fun k _ => mul_comm _ _

/-- One text, so one frame: the kernel's, at the machine's floats. -/
theorem frame_kernel : Cert.quiescent_KernelWo := by
  have h : Cert.quiescent_KernelWo = ∀ (m : (ℓ : Loc Cert.KernelWoIdeal.nD Cert.KernelWoIdeal.τ Cert.KernelWoIdeal.sig) → Buf (Elt Bits) ℓ) (g : Dev Cert.KernelWoIdeal.nD → PrngReg), True →
      θ_run (Cert.KernelWoIdeal.defs (F := Bits)) (onTc (τ := Cert.KernelWoIdeal.τ) (Cert.KernelWoIdeal.main (F := Bits))) ⟨m, fun _ => 0, g⟩ (fun r => (∀ c : Dev Cert.KernelWoIdeal.nD,
        r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
        ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1))
        ∧ r.2.sem = fun _ => 0) := by
    chain_rfl
  exact h.mpr fun m g _ => Cert.KernelWoIdeal.Gen.frame m g

/-- The ideal kernel's frame. -/
theorem frame_ideal : Cert.quiescent_KernelWoIdeal := fun m g _ => Cert.KernelWoIdeal.Gen.frame m g

/-- The reference's frame. -/
theorem frame_ref : Cert.quiescent_ReferenceWoIdeal := fun m g _ =>
  (θ_run Cert.ReferenceWoIdeal.defs _ _).mono (fun r h => ⟨fun c => (h c).2.2, sem_eq_zero_of_no_sems rfl _⟩) (Cert.ReferenceWoIdeal.Value.run m g)

/-- The two programs compute one product. -/
theorem same : Cert.algebraic_KernelWoIdeal_ReferenceWoIdeal := fun m g m' g' _ h =>
  ⟨fun c => prod (m ((c.tc : Thread Cert.KernelWoIdeal.nD Cert.KernelWoIdeal.τ).loc Cert.KernelWoIdeal.main_arg0)) (m ((c.tc : Thread Cert.KernelWoIdeal.nD Cert.KernelWoIdeal.τ).loc Cert.KernelWoIdeal.main_arg1)), fun c => prod (m ((c.tc : Thread Cert.KernelWoIdeal.nD Cert.KernelWoIdeal.τ).loc Cert.KernelWoIdeal.main_arg0)) (m ((c.tc : Thread Cert.KernelWoIdeal.nD Cert.KernelWoIdeal.τ).loc Cert.KernelWoIdeal.main_arg1)),
    (θ_run Cert.KernelWoIdeal.defs _ _).mono (fun r hr c => ⟨(hr c).1.trans (arr m c), (hr c).2.1.trans (arr_twin m c), (hr c).2.2⟩) (Cert.KernelWoIdeal.Value.run_blocks m g),
    (θ_run Cert.ReferenceWoIdeal.defs _ _).mono (fun r hr c => ⟨(hr c).1.trans ((ref_at _ _).trans (by rw [(h c).1, (h c).2])), (hr c).2.1.trans ((ref_at _ _).trans (by rw [(h c).1, (h c).2])), (hr c).2.2⟩) (Cert.ReferenceWoIdeal.Value.run m' g')⟩

end Cert.Wo

end
-- ==== Proof.Su.lean ====
/- The first branch's weight gradient, laid out in column blocks: the kernel's array and the reference's are one product, over the extended reals. -/
module

public import proofs.«01_k».proof.Defs
public import proofs.«01_k».proof.Proof.Gen.KernelSu
public import proofs.«01_k».proof.Proof.Gen.KernelSuIdeal.Value
public import proofs.«01_k».proof.Proof.Gen.ReferenceSuIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelSuIdeal.Product

open Cert.KernelSuIdeal Cert.KernelSuIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: columns of one argument against columns of the other, the columns of the result in four blocks. -/
def prod (a : (⟨2, ![2048, 1024]⟩ : Shape).Idx → EReal) (b : (⟨2, ![2048, 2048]⟩ : Shape).Idx → EReal) : (⟨3, ![4, 1024, 512]⟩ : Shape).Idx → EReal :=
  fun i => ∑ k : Fin 2048, a (ix2 k (i 1)) * b (ix2 k (⟨(i 0 : ℕ) * 512 + (i 2 : ℕ), by have h0 : (i 0 : ℕ) < 4 := (i 0).isLt; have h2 : (i 2 : ℕ) < 512 := (i 2).isLt; omega⟩ : Fin 2048))

/-- The blocks of a point. -/
theorem idx : ∀ t : Fin grid0.N, win0_0.index t = ![0, t.val / 4] ∧ win0_1.index t = ![0, t.val % 4] ∧ win0_2.index t = ![t.val % 4, t.val / 4, 0] ∧ win0_3.index t = ![t.val % 4, t.val / 4, 0] ∧ t.val < 8 := by
  decide +kernel

/-- What a point computes is the product, read where its block stands. -/
theorem point (t : Fin cfg0.N) (y) : k0_pay2 (iblk m c 0 t) (iblk m c 1 t) y
    = prod (m ((c : Thread nD τ).loc main_arg0)) (m ((c : Thread nD τ).loc main_arg1)) (((cfg0.win 2).blk t).view.emb y) := by
  pointwise [k0_pay2, k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- What a point computes is the second copy of the product, read where its block stands. -/
theorem point_twin (t : Fin cfg0.N) (y) : k0_pay3 (iblk m c 0 t) (iblk m c 1 t) y
    = prod (m ((c : Thread nD τ).loc main_arg0)) (m ((c : Thread nD τ).loc main_arg1)) (((cfg0.win 3).blk t).view.emb y) := by
  pointwise [k0_pay3, k0_pay1, prod]
  blk_point [iblk, V, idx t]

/-- The array after the run is the second copy of the product. -/
theorem arr_twin : (dats m 0 c).arrAt 3 cfg0.N = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_twin m c t y

end Cert.KernelSuIdeal.Product

namespace Cert.Su

open Idealize.ShloMosaic Idealize.ShloMosaic.TcCoe Idealize.SL.Sem
open Cert.KernelSuIdeal.Product (prod arr arr_twin)

/-- The reference's result, at each place, is the product. -/
theorem ref_at (a : Vec Ideal Cert.ReferenceSuIdeal.S2048x1024 .bf16) (b : Vec Ideal Cert.ReferenceSuIdeal.S2048x2048 .bf16) :
    transpose Cert.ReferenceSuIdeal.S4x1024x512 [1, 0, 2] (shapeCast Cert.ReferenceSuIdeal.S1024x4x512 (transpose Cert.ReferenceSuIdeal.S1024x2048 [1, 0] (Host.dotGeneral (F := Ideal) Cert.ReferenceSuIdeal.dot_S2048x2048_S2048x1024_S2048x1024_0_0_1_1_n_n none (extf .f32 b Cert.ReferenceSuIdeal.Gen.bitsLt_bf16_f32) (extf .f32 a Cert.ReferenceSuIdeal.Gen.bitsLt_bf16_f32)) Cert.ReferenceSuIdeal.Gen.transposes_S2048x1024_S1024x2048_1_0) Cert.ReferenceSuIdeal.Gen.shapeCasts_S1024x2048_S1024x4x512) Cert.ReferenceSuIdeal.Gen.transposes_S1024x4x512_S4x1024x512_1_0_2
      = prod a b := by
  funext i
  unfold prod
  pointwise
  exact Finset.sum_congr rfl fun k _ => mul_comm _ _

/-- One text, so one frame: the kernel's, at the machine's floats. -/
theorem frame_kernel : Cert.quiescent_KernelSu := by
  have h : Cert.quiescent_KernelSu = ∀ (m : (ℓ : Loc Cert.KernelSuIdeal.nD Cert.KernelSuIdeal.τ Cert.KernelSuIdeal.sig) → Buf (Elt Bits) ℓ) (g : Dev Cert.KernelSuIdeal.nD → PrngReg), True →
      θ_run (Cert.KernelSuIdeal.defs (F := Bits)) (onTc (τ := Cert.KernelSuIdeal.τ) (Cert.KernelSuIdeal.main (F := Bits))) ⟨m, fun _ => 0, g⟩ (fun r => (∀ c : Dev Cert.KernelSuIdeal.nD,
        r.2.mem ((c.tc : Thread Cert.KernelSuIdeal.nD Cert.KernelSuIdeal.τ).loc Cert.KernelSuIdeal.main_arg0) = m ((c.tc : Thread Cert.KernelSuIdeal.nD Cert.KernelSuIdeal.τ).loc Cert.KernelSuIdeal.main_arg0)
        ∧ r.2.mem ((c.tc : Thread Cert.KernelSuIdeal.nD Cert.KernelSuIdeal.τ).loc Cert.KernelSuIdeal.main_arg1) = m ((c.tc : Thread Cert.KernelSuIdeal.nD Cert.KernelSuIdeal.τ).loc Cert.KernelSuIdeal.main_arg1))
        ∧ r.2.sem = fun _ => 0) := by
    chain_rfl
  exact h.mpr fun m g _ => Cert.KernelSuIdeal.Gen.frame m g

/-- The ideal kernel's frame. -/
theorem frame_ideal : Cert.quiescent_KernelSuIdeal := fun m g _ => Cert.KernelSuIdeal.Gen.frame m g

/-- The reference's frame. -/
theorem frame_ref : Cert.quiescent_ReferenceSuIdeal := fun m g _ =>
  (θ_run Cert.ReferenceSuIdeal.defs _ _).mono (fun r h => ⟨fun c => (h c).2.2, sem_eq_zero_of_no_sems rfl _⟩) (Cert.ReferenceSuIdeal.Value.run m g)

/-- The two programs compute one product. -/
theorem same : Cert.algebraic_KernelSuIdeal_ReferenceSuIdeal := fun m g m' g' _ h =>
  ⟨fun c => prod (m ((c.tc : Thread Cert.KernelSuIdeal.nD Cert.KernelSuIdeal.τ).loc Cert.KernelSuIdeal.main_arg0)) (m ((c.tc : Thread Cert.KernelSuIdeal.nD Cert.KernelSuIdeal.τ).loc Cert.KernelSuIdeal.main_arg1)), fun c => prod (m ((c.tc : Thread Cert.KernelSuIdeal.nD Cert.KernelSuIdeal.τ).loc Cert.KernelSuIdeal.main_arg0)) (m ((c.tc : Thread Cert.KernelSuIdeal.nD Cert.KernelSuIdeal.τ).loc Cert.KernelSuIdeal.main_arg1)),
    (θ_run Cert.KernelSuIdeal.defs _ _).mono (fun r hr c => ⟨(hr c).1.trans (arr m c), (hr c).2.1.trans (arr_twin m c), (hr c).2.2⟩) (Cert.KernelSuIdeal.Value.run_blocks m g),
    (θ_run Cert.ReferenceSuIdeal.defs _ _).mono (fun r hr c => ⟨(hr c).1.trans ((ref_at _ _).trans (by rw [(h c).1, (h c).2])), (hr c).2.1.trans ((ref_at _ _).trans (by rw [(h c).1, (h c).2])), (hr c).2.2⟩) (Cert.ReferenceSuIdeal.Value.run m' g')⟩

end Cert.Su

end
-- ==== Proof.Du.lean ====
/- The second branch's weight gradient, laid out in column blocks: the kernel's array and the reference's are one product, over the extended reals. -/
module

public import proofs.«01_k».proof.Defs
public import proofs.«01_k».proof.Proof.Gen.KernelDu
public import proofs.«01_k».proof.Proof.Gen.KernelDuIdeal.Value
public import proofs.«01_k».proof.Proof.Gen.ReferenceDuIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelDuIdeal.Product

open Cert.KernelDuIdeal Cert.KernelDuIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: columns of one argument against columns of the other, the columns of the result in four blocks. -/
def prod (a : (⟨2, ![2048, 1024]⟩ : Shape).Idx → EReal) (b : (⟨2, ![2048, 2048]⟩ : Shape).Idx → EReal) : (⟨3, ![4, 1024, 512]⟩ : Shape).Idx → EReal :=
  fun i => ∑ k : Fin 2048, a (ix2 k (i 1)) * b (ix2 k (⟨(i 0 : ℕ) * 512 + (i 2 : ℕ), by have h0 : (i 0 : ℕ) < 4 := (i 0).isLt; have h2 : (i 2 : ℕ) < 512 := (i 2).isLt; omega⟩ : Fin 2048))

/-- The blocks of a point. -/
theorem idx : ∀ t : Fin grid0.N, win0_0.index t = ![0, t.val / 4] ∧ win0_1.index t = ![0, t.val % 4] ∧ win0_2.index t = ![t.val % 4, t.val / 4, 0] ∧ win0_3.index t = ![t.val % 4, t.val / 4, 0] ∧ t.val < 8 := by
  decide +kernel

/-- What a point computes is the product, read where its block stands. -/
theorem point (t : Fin cfg0.N) (y) : k0_pay2 (iblk m c 0 t) (iblk m c 1 t) y
    = prod (m ((c : Thread nD τ).loc main_arg0)) (m ((c : Thread nD τ).loc main_arg1)) (((cfg0.win 2).blk t).view.emb y) := by
  pointwise [k0_pay2, k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- What a point computes is the second copy of the product, read where its block stands. -/
theorem point_twin (t : Fin cfg0.N) (y) : k0_pay3 (iblk m c 0 t) (iblk m c 1 t) y
    = prod (m ((c : Thread nD τ).loc main_arg0)) (m ((c : Thread nD τ).loc main_arg1)) (((cfg0.win 3).blk t).view.emb y) := by
  pointwise [k0_pay3, k0_pay1, prod]
  blk_point [iblk, V, idx t]

/-- The array after the run is the second copy of the product. -/
theorem arr_twin : (dats m 0 c).arrAt 3 cfg0.N = prod (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_twin m c t y

end Cert.KernelDuIdeal.Product

namespace Cert.Du

open Idealize.ShloMosaic Idealize.ShloMosaic.TcCoe Idealize.SL.Sem
open Cert.KernelDuIdeal.Product (prod arr arr_twin)

/-- The reference's result, at each place, is the product. -/
theorem ref_at (a : Vec Ideal Cert.ReferenceDuIdeal.S2048x1024 .bf16) (b : Vec Ideal Cert.ReferenceDuIdeal.S2048x2048 .bf16) :
    transpose Cert.ReferenceDuIdeal.S4x1024x512 [1, 0, 2] (shapeCast Cert.ReferenceDuIdeal.S1024x4x512 (transpose Cert.ReferenceDuIdeal.S1024x2048 [1, 0] (Host.dotGeneral (F := Ideal) Cert.ReferenceDuIdeal.dot_S2048x2048_S2048x1024_S2048x1024_0_0_1_1_n_n none (extf .f32 b Cert.ReferenceDuIdeal.Gen.bitsLt_bf16_f32) (extf .f32 a Cert.ReferenceDuIdeal.Gen.bitsLt_bf16_f32)) Cert.ReferenceDuIdeal.Gen.transposes_S2048x1024_S1024x2048_1_0) Cert.ReferenceDuIdeal.Gen.shapeCasts_S1024x2048_S1024x4x512) Cert.ReferenceDuIdeal.Gen.transposes_S1024x4x512_S4x1024x512_1_0_2
      = prod a b := by
  funext i
  unfold prod
  pointwise
  exact Finset.sum_congr rfl fun k _ => mul_comm _ _

/-- One text, so one frame: the kernel's, at the machine's floats. -/
theorem frame_kernel : Cert.quiescent_KernelDu := by
  have h : Cert.quiescent_KernelDu = ∀ (m : (ℓ : Loc Cert.KernelDuIdeal.nD Cert.KernelDuIdeal.τ Cert.KernelDuIdeal.sig) → Buf (Elt Bits) ℓ) (g : Dev Cert.KernelDuIdeal.nD → PrngReg), True →
      θ_run (Cert.KernelDuIdeal.defs (F := Bits)) (onTc (τ := Cert.KernelDuIdeal.τ) (Cert.KernelDuIdeal.main (F := Bits))) ⟨m, fun _ => 0, g⟩ (fun r => (∀ c : Dev Cert.KernelDuIdeal.nD,
        r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
        ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
        ∧ r.2.sem = fun _ => 0) := by
    chain_rfl
  exact h.mpr fun m g _ => Cert.KernelDuIdeal.Gen.frame m g

/-- The ideal kernel's frame. -/
theorem frame_ideal : Cert.quiescent_KernelDuIdeal := fun m g _ => Cert.KernelDuIdeal.Gen.frame m g

/-- The reference's frame. -/
theorem frame_ref : Cert.quiescent_ReferenceDuIdeal := fun m g _ =>
  (θ_run Cert.ReferenceDuIdeal.defs _ _).mono (fun r h => ⟨fun c => (h c).2.2, sem_eq_zero_of_no_sems rfl _⟩) (Cert.ReferenceDuIdeal.Value.run m g)

/-- The two programs compute one product. -/
theorem same : Cert.algebraic_KernelDuIdeal_ReferenceDuIdeal := fun m g m' g' _ h =>
  ⟨fun c => prod (m ((c.tc : Thread Cert.KernelDuIdeal.nD Cert.KernelDuIdeal.τ).loc Cert.KernelDuIdeal.main_arg0)) (m ((c.tc : Thread Cert.KernelDuIdeal.nD Cert.KernelDuIdeal.τ).loc Cert.KernelDuIdeal.main_arg1)), fun c => prod (m ((c.tc : Thread Cert.KernelDuIdeal.nD Cert.KernelDuIdeal.τ).loc Cert.KernelDuIdeal.main_arg0)) (m ((c.tc : Thread Cert.KernelDuIdeal.nD Cert.KernelDuIdeal.τ).loc Cert.KernelDuIdeal.main_arg1)),
    (θ_run Cert.KernelDuIdeal.defs _ _).mono (fun r hr c => ⟨(hr c).1.trans (arr m c), (hr c).2.1.trans (arr_twin m c), (hr c).2.2⟩) (Cert.KernelDuIdeal.Value.run_blocks m g),
    (θ_run Cert.ReferenceDuIdeal.defs _ _).mono (fun r hr c => ⟨(hr c).1.trans ((ref_at _ _).trans (by rw [(h c).1, (h c).2])), (hr c).2.1.trans ((ref_at _ _).trans (by rw [(h c).1, (h c).2])), (hr c).2.2⟩) (Cert.ReferenceDuIdeal.Value.run m' g')⟩

end Cert.Du

end
-- ==== Proof.So.lean ====
/- What goes back into the first branch: the kernel's array and the reference's are one product, over the extended reals. -/
module

public import proofs.«01_k».proof.Defs
public import proofs.«01_k».proof.Proof.Gen.KernelSo
public import proofs.«01_k».proof.Proof.Gen.KernelSoIdeal.Value
public import proofs.«01_k».proof.Proof.Gen.ReferenceSoIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelSoIdeal.Product

open Cert.KernelSoIdeal Cert.KernelSoIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: rows of one argument against rows of the other. -/
def prod (a : (⟨2, ![2048, 2048]⟩ : Shape).Idx → EReal) (b : (⟨2, ![1024, 2048]⟩ : Shape).Idx → EReal) : (⟨2, ![2048, 1024]⟩ : Shape).Idx → EReal :=
  fun i => ∑ k : Fin 2048, a (ix2 (i 0) k) * b (ix2 (i 1) k)

/-- The blocks of a point. -/
theorem idx : ∀ t : Fin grid0.N, win0_0.index t = ![t.val / 2, 0] ∧ win0_1.index t = ![t.val % 2, 0] ∧ win0_2.index t = ![t.val / 2, t.val % 2] ∧ t.val < 8 := by
  decide +kernel

/-- What a point computes is the product, read where its block stands. -/
theorem point (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelSoIdeal.Product

namespace Cert.So

open Idealize.ShloMosaic Idealize.ShloMosaic.TcCoe Idealize.SL.Sem
open Cert.KernelSoIdeal.Product (prod arr)

/-- The reference's result, at each place, is the product. -/
theorem ref_at (a : Vec Ideal Cert.ReferenceSoIdeal.S2048x2048 .bf16) (b : Vec Ideal Cert.ReferenceSoIdeal.S1024x2048 .bf16) :
    Host.dotGeneral (F := Ideal) Cert.ReferenceSoIdeal.dot_S2048x2048_S1024x2048_S2048x1024_1_1_0_0_n_n none (extf .f32 a Cert.ReferenceSoIdeal.Gen.bitsLt_bf16_f32) (extf .f32 b Cert.ReferenceSoIdeal.Gen.bitsLt_bf16_f32)
      = prod a b := by
  funext i
  unfold prod
  pointwise

/-- One text, so one frame: the kernel's, at the machine's floats. -/
theorem frame_kernel : Cert.quiescent_KernelSo := by
  have h : Cert.quiescent_KernelSo = ∀ (m : (ℓ : Loc Cert.KernelSoIdeal.nD Cert.KernelSoIdeal.τ Cert.KernelSoIdeal.sig) → Buf (Elt Bits) ℓ) (g : Dev Cert.KernelSoIdeal.nD → PrngReg), True →
      θ_run (Cert.KernelSoIdeal.defs (F := Bits)) (onTc (τ := Cert.KernelSoIdeal.τ) (Cert.KernelSoIdeal.main (F := Bits))) ⟨m, fun _ => 0, g⟩ (fun r => (∀ c : Dev Cert.KernelSoIdeal.nD,
        r.2.mem ((c.tc : Thread Cert.KernelSoIdeal.nD Cert.KernelSoIdeal.τ).loc Cert.KernelSoIdeal.main_arg0) = m ((c.tc : Thread Cert.KernelSoIdeal.nD Cert.KernelSoIdeal.τ).loc Cert.KernelSoIdeal.main_arg0)
        ∧ r.2.mem ((c.tc : Thread Cert.KernelSoIdeal.nD Cert.KernelSoIdeal.τ).loc Cert.KernelSoIdeal.main_arg1) = m ((c.tc : Thread Cert.KernelSoIdeal.nD Cert.KernelSoIdeal.τ).loc Cert.KernelSoIdeal.main_arg1))
        ∧ r.2.sem = fun _ => 0) := by
    chain_rfl
  exact h.mpr fun m g _ => Cert.KernelSoIdeal.Gen.frame m g

/-- The ideal kernel's frame. -/
theorem frame_ideal : Cert.quiescent_KernelSoIdeal := fun m g _ => Cert.KernelSoIdeal.Gen.frame m g

/-- The reference's frame. -/
theorem frame_ref : Cert.quiescent_ReferenceSoIdeal := fun m g _ =>
  (θ_run Cert.ReferenceSoIdeal.defs _ _).mono (fun r h => ⟨fun c => (h c).2, sem_eq_zero_of_no_sems rfl _⟩) (Cert.ReferenceSoIdeal.Value.run m g)

/-- The two programs compute one product. -/
theorem same : Cert.algebraic_KernelSoIdeal_ReferenceSoIdeal := fun m g m' g' _ h =>
  ⟨fun c => prod (m ((c.tc : Thread Cert.KernelSoIdeal.nD Cert.KernelSoIdeal.τ).loc Cert.KernelSoIdeal.main_arg0)) (m ((c.tc : Thread Cert.KernelSoIdeal.nD Cert.KernelSoIdeal.τ).loc Cert.KernelSoIdeal.main_arg1)),
    (θ_run Cert.KernelSoIdeal.defs _ _).mono (fun r hr c => ⟨(hr c).1.trans (arr m c), (hr c).2⟩) (Cert.KernelSoIdeal.Value.run_blocks m g),
    (θ_run Cert.ReferenceSoIdeal.defs _ _).mono (fun r hr c => ⟨(hr c).1.trans ((ref_at _ _).trans (by rw [(h c).1, (h c).2])), (hr c).2⟩) (Cert.ReferenceSoIdeal.Value.run m' g')⟩

end Cert.So

end
-- ==== Proof.Do.lean ====
/- What goes back into the second branch: the kernel's array and the reference's are one product, over the extended reals. -/
module

public import proofs.«01_k».proof.Defs
public import proofs.«01_k».proof.Proof.Gen.KernelDo
public import proofs.«01_k».proof.Proof.Gen.KernelDoIdeal.Value
public import proofs.«01_k».proof.Proof.Gen.ReferenceDoIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelDoIdeal.Product

open Cert.KernelDoIdeal Cert.KernelDoIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The product, at each place: rows of one argument against rows of the other. -/
def prod (a : (⟨2, ![2048, 2048]⟩ : Shape).Idx → EReal) (b : (⟨2, ![1024, 2048]⟩ : Shape).Idx → EReal) : (⟨2, ![2048, 1024]⟩ : Shape).Idx → EReal :=
  fun i => ∑ k : Fin 2048, a (ix2 (i 0) k) * b (ix2 (i 1) k)

/-- The blocks of a point. -/
theorem idx : ∀ t : Fin grid0.N, win0_0.index t = ![t.val / 2, 0] ∧ win0_1.index t = ![t.val % 2, 0] ∧ win0_2.index t = ![t.val / 2, t.val % 2] ∧ t.val < 8 := by
  decide +kernel

/-- What a point computes is the product, read where its block stands. -/
theorem point (t : Fin cfg0.N) (y) : k0_pay1 (iblk m c 0 t) (iblk m c 1 t) y
    = prod (m ((c : Thread nD τ).loc main_arg0)) (m ((c : Thread nD τ).loc main_arg1)) (((cfg0.win 2).blk t).view.emb y) := by
  pointwise [k0_pay1, prod]
  blk_point [iblk, V, idx t]

/-- The array after the run is the product. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelDoIdeal.Product

namespace Cert.Do

open Idealize.ShloMosaic Idealize.ShloMosaic.TcCoe Idealize.SL.Sem
open Cert.KernelDoIdeal.Product (prod arr)

/-- The reference's result, at each place, is the product. -/
theorem ref_at (a : Vec Ideal Cert.ReferenceDoIdeal.S2048x2048 .bf16) (b : Vec Ideal Cert.ReferenceDoIdeal.S1024x2048 .bf16) :
    Host.dotGeneral (F := Ideal) Cert.ReferenceDoIdeal.dot_S2048x2048_S1024x2048_S2048x1024_1_1_0_0_n_n none (extf .f32 a Cert.ReferenceDoIdeal.Gen.bitsLt_bf16_f32) (extf .f32 b Cert.ReferenceDoIdeal.Gen.bitsLt_bf16_f32)
      = prod a b := by
  funext i
  unfold prod
  pointwise

/-- One text, so one frame: the kernel's, at the machine's floats. -/
theorem frame_kernel : Cert.quiescent_KernelDo := by
  have h : Cert.quiescent_KernelDo = ∀ (m : (ℓ : Loc Cert.KernelDoIdeal.nD Cert.KernelDoIdeal.τ Cert.KernelDoIdeal.sig) → Buf (Elt Bits) ℓ) (g : Dev Cert.KernelDoIdeal.nD → PrngReg), True →
      θ_run (Cert.KernelDoIdeal.defs (F := Bits)) (onTc (τ := Cert.KernelDoIdeal.τ) (Cert.KernelDoIdeal.main (F := Bits))) ⟨m, fun _ => 0, g⟩ (fun r => (∀ c : Dev Cert.KernelDoIdeal.nD,
        r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
        ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
        ∧ r.2.sem = fun _ => 0) := by
    chain_rfl
  exact h.mpr fun m g _ => Cert.KernelDoIdeal.Gen.frame m g

/-- The ideal kernel's frame. -/
theorem frame_ideal : Cert.quiescent_KernelDoIdeal := fun m g _ => Cert.KernelDoIdeal.Gen.frame m g

/-- The reference's frame. -/
theorem frame_ref : Cert.quiescent_ReferenceDoIdeal := fun m g _ =>
  (θ_run Cert.ReferenceDoIdeal.defs _ _).mono (fun r h => ⟨fun c => (h c).2, sem_eq_zero_of_no_sems rfl _⟩) (Cert.ReferenceDoIdeal.Value.run m g)

/-- The two programs compute one product. -/
theorem same : Cert.algebraic_KernelDoIdeal_ReferenceDoIdeal := fun m g m' g' _ h =>
  ⟨fun c => prod (m ((c.tc : Thread Cert.KernelDoIdeal.nD Cert.KernelDoIdeal.τ).loc Cert.KernelDoIdeal.main_arg0)) (m ((c.tc : Thread Cert.KernelDoIdeal.nD Cert.KernelDoIdeal.τ).loc Cert.KernelDoIdeal.main_arg1)),
    (θ_run Cert.KernelDoIdeal.defs _ _).mono (fun r hr c => ⟨(hr c).1.trans (arr m c), (hr c).2⟩) (Cert.KernelDoIdeal.Value.run_blocks m g),
    (θ_run Cert.ReferenceDoIdeal.defs _ _).mono (fun r hr c => ⟨(hr c).1.trans ((ref_at _ _).trans (by rw [(h c).1, (h c).2])), (hr c).2⟩) (Cert.ReferenceDoIdeal.Value.run m' g')⟩

end Cert.Do

end
-- ==== Proof.Pf.lean ====
/- The DeltaNet branch's gated norm, forward: the kernel's blocks and the reference's array are the same, over the extended reals. -/
module

public import proofs.«01_k».proof.Defs
public import proofs.«01_k».proof.Proof.Gen.KernelPf
public import proofs.«01_k».proof.Proof.Gen.KernelPfIdeal.Value
public import proofs.«01_k».proof.Proof.Gen.ReferencePfIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelPfIdeal.Norm

open Cert.KernelPfIdeal Cert.KernelPfIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

/-- The place of feature `e` in the head of a place. -/
def inHead (i : (⟨2, ![2048, 1024]⟩ : Shape).Idx) (e : Fin 128) : (⟨2, ![2048, 1024]⟩ : Shape).Idx :=
  ix2 (i 0) (⟨(i 1 : ℕ) / 128 * 128 + e, by have h : (i 1 : ℕ) < 1024 := (i 1).isLt; omega⟩ : Fin 1024)

/-- The place of the gate. -/
def atZ (i : (⟨2, ![2048, 1024]⟩ : Shape).Idx) : (⟨2, ![2048, 10368]⟩ : Shape).Idx :=
  ix2 (i 0) (⟨5120 + (i 1 : ℕ), by have h : (i 1 : ℕ) < 1024 := (i 1).isLt; omega⟩ : Fin 10368)

/-- The place of the weight. -/
def atW (i : (⟨2, ![2048, 1024]⟩ : Shape).Idx) : (⟨2, ![1, 128]⟩ : Shape).Idx :=
  ix2 0 (⟨(i 1 : ℕ) % 128, Nat.mod_lt _ (by decide)⟩ : Fin 128)

/-- The inverse root of the mean square, with the small constant. -/
def root (s : EReal) : EReal := Ideal.rsqrt (Ideal.div s (Ideal.ofBits .f32 0x43000000#32) + Ideal.ofBits .f32 0x358637BD#32)

/-- A number times its logistic. -/
def silu (x : EReal) : EReal := x * Ideal.div 1 (1 + Ideal.exp (-x))

/-- The gated norm, at each place. -/
def normed (o : (⟨2, ![2048, 1024]⟩ : Shape).Idx → EReal) (p : (⟨2, ![2048, 10368]⟩ : Shape).Idx → EReal) (w : (⟨2, ![1, 128]⟩ : Shape).Idx → EReal) : (⟨2, ![2048, 1024]⟩ : Shape).Idx → EReal :=
  fun i => o i * root (∑ e : Fin 128, o (inHead i e) * o (inHead i e)) * w (atW i) * silu (p (atZ i))

/-- The blocks of a point. -/
theorem idx : ∀ t : Fin grid0.N, win0_0.index t = ![t.val / 8, t.val % 8] ∧ win0_1.index t = ![t.val / 8, 40 + t.val % 8]
    ∧ win0_2.index t = ![0, 0] ∧ win0_3.index t = ![t.val / 8, t.val % 8] ∧ t.val < 32 := by
  decide +kernel

/-- What a point stores, in terms of what it loads. -/
theorem stored (x : Vec Ideal S512x128 .f32) (w : Vec Ideal S1x128 .f32) (z : Vec Ideal S512x128 .f32) (y : S512x128.Idx) :
    k0_pay1 x w z y = x y * root (∑ e : Fin 128, x (ix2 (y 0) e) * x (ix2 (y 0) e)) * w (ix2 0 (y 1)) * silu (z y) := by
  pointwise [k0_pay1, root, silu]
  simp only [zero_sub]

/-- What a point stores is the gated norm, read where its block stands. -/
theorem point (t : Fin cfg0.N) (y : S512x128.Idx) (i : S2048x1024.Idx) (h0 : (i 0 : ℕ) = t.val / 8 * 512 + (y 0 : ℕ)) (h1 : (i 1 : ℕ) = t.val % 8 * 128 + (y 1 : ℕ)) :
    k0_pay1 (iblk m c 0 t) (iblk m c 2 t) (iblk m c 1 t) y = normed (m ((c : Thread nD τ).loc main_arg0)) (m ((c : Thread nD τ).loc main_arg1)) (m ((c : Thread nD τ).loc main_arg2)) i := by
  have hy1 : (y 1 : ℕ) < 128 := (y 1).isLt
  refine (stored _ _ _ _).trans ?_
  have hx : ∀ (j : S512x128.Idx) (k : S2048x1024.Idx), (k 0 : ℕ) = t.val / 8 * 512 + (j 0 : ℕ) → (k 1 : ℕ) = t.val % 8 * 128 + (j 1 : ℕ) →
      (show Vec Ideal S512x128 .f32 from iblk m c 0 t) j = m ((c : Thread nD τ).loc main_arg0) k := by
    intro j k hk0 hk1
    show iblk m c 0 t j = _
    blk_point [iblk, V, idx t]
  have hz : (show Vec Ideal S512x128 .f32 from iblk m c 1 t) y = m ((c : Thread nD τ).loc main_arg1) (atZ i) := by
    have e : (atZ i 1 : ℕ) = 5120 + (i 1 : ℕ) := rfl
    have e0 : (atZ i 0 : ℕ) = (i 0 : ℕ) := rfl
    show iblk m c 1 t y = _
    blk_point [iblk, V, idx t]
  have hw : (show Vec Ideal S1x128 .f32 from iblk m c 2 t) (ix2 0 (y 1)) = m ((c : Thread nD τ).loc main_arg2) (atW i) := by
    have e : (atW i 1 : ℕ) = (i 1 : ℕ) % 128 := rfl
    show iblk m c 2 t (ix2 0 (y 1)) = _
    blk_point [iblk, V, idx t]
  have hs : ∀ e : Fin 128, (show Vec Ideal S512x128 .f32 from iblk m c 0 t) (ix2 (y 0) e) = m ((c : Thread nD τ).loc main_arg0) (inHead i e) := fun e =>
    hx _ _ h0 (show (i 1 : ℕ) / 128 * 128 + (e : ℕ) = t.val % 8 * 128 + (e : ℕ) by omega)
  unfold normed
  rw [← hx y i h0 h1, ← hz, ← hw]
  simp only [← hs]

/-- The array after the run is the gated norm. -/
theorem arr : (dats m 0 c).arrAt 3 cfg0.N = normed (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold out0_3; frame_out
  refine point m c t y _ ?_ ?_
  all_goals (blk_simp [idx t] <;> try omega)

end Cert.KernelPfIdeal.Norm

namespace Cert.Pf

open Idealize.ShloMosaic Idealize.ShloMosaic.TcCoe Idealize.SL.Sem
open Cert.ReferencePfIdeal Cert.ReferencePfIdeal.Gen
open Cert.KernelPfIdeal.Norm (normed arr inHead atZ atW root silu)

/-- The reference's array, at each place. -/
theorem ref_at (o : FVec Ideal S2048x1024 .f32) (p : FVec Ideal S2048x10368 .f32) (w : FVec Ideal S1x128 .f32) :
    truncf .bf16 (shapeCast _ (mulf (mulf (mulf (shapeCast _ o shapeCasts_S2048x1024_S2048x8x128) (broadcastInDim S2048x8x128 ![0, 1, 2] bcast_S2048x8x1_S2048x8x128_0_1_2 (Host.rsqrt (addf (Host.divf (broadcastInDim S2048x8x1 ![0, 1] bcast_S2048x8_S2048x8x1_0_1 (Host.reduceAdd (mulf (shapeCast _ o shapeCasts_S2048x1024_S2048x8x128) (shapeCast _ o shapeCasts_S2048x1024_S2048x8x128)) (constant S_ .f32 0x00000000#32) reducesTo_S2048x8x128_S2048x8_d2 h_S_)) (broadcastInDim S2048x8x1 ![] bcast_S_S2048x8x1 (constant S_ .f32 0x43000000#32))) (broadcastInDim S2048x8x1 ![] bcast_S_S2048x8x1 (constant S_ .f32 0x358637BD#32)))))) (broadcastInDim S2048x8x128 ![0, 1, 2] bcast_S1x1x128_S2048x8x128_0_1_2 (broadcastInDim S1x1x128 ![1, 2] bcast_S1x128_S1x1x128_1_2 w))) (mulf (shapeCast _ (extractStridedSlice S2048x1024 ![0, 5120] p slices_S2048x10368_S2048x1024_0_5120) shapeCasts_S2048x1024_S2048x8x128) (Host.divf (broadcastInDim S2048x8x128 ![] bcast_S_S2048x8x128 (constant S_ .f32 0x3F800000#32)) (addf (broadcastInDim S2048x8x128 ![] bcast_S_S2048x8x128 (constant S_ .f32 0x3F800000#32)) (Host.exp (Host.negf (shapeCast _ (extractStridedSlice S2048x1024 ![0, 5120] p slices_S2048x10368_S2048x1024_0_5120) shapeCasts_S2048x1024_S2048x8x128))))))) shapeCasts_S2048x8x128_S2048x1024) bitsLt_bf16_f32
      = normed o p w := by
  funext i
  unfold normed inHead atZ atW root silu
  pointwise

/-- One text, so one frame: the kernel's, at the machine's floats. -/
theorem frame_kernel : Cert.quiescent_KernelPf := by
  have h : Cert.quiescent_KernelPf = ∀ (m : (ℓ : Loc Cert.KernelPfIdeal.nD Cert.KernelPfIdeal.τ Cert.KernelPfIdeal.sig) → Buf (Elt Bits) ℓ) (g : Dev Cert.KernelPfIdeal.nD → PrngReg), True →
      θ_run (Cert.KernelPfIdeal.defs (F := Bits)) (onTc (τ := Cert.KernelPfIdeal.τ) (Cert.KernelPfIdeal.main (F := Bits))) ⟨m, fun _ => 0, g⟩ (fun r => (∀ c : Dev Cert.KernelPfIdeal.nD,
        r.2.mem ((c.tc : Thread Cert.KernelPfIdeal.nD Cert.KernelPfIdeal.τ).loc Cert.KernelPfIdeal.main_arg0) = m ((c.tc : Thread Cert.KernelPfIdeal.nD Cert.KernelPfIdeal.τ).loc Cert.KernelPfIdeal.main_arg0)
        ∧ r.2.mem ((c.tc : Thread Cert.KernelPfIdeal.nD Cert.KernelPfIdeal.τ).loc Cert.KernelPfIdeal.main_arg1) = m ((c.tc : Thread Cert.KernelPfIdeal.nD Cert.KernelPfIdeal.τ).loc Cert.KernelPfIdeal.main_arg1)
        ∧ r.2.mem ((c.tc : Thread Cert.KernelPfIdeal.nD Cert.KernelPfIdeal.τ).loc Cert.KernelPfIdeal.main_arg2) = m ((c.tc : Thread Cert.KernelPfIdeal.nD Cert.KernelPfIdeal.τ).loc Cert.KernelPfIdeal.main_arg2))
        ∧ r.2.sem = fun _ => 0) := by
    chain_rfl
  exact h.mpr fun m g _ => Cert.KernelPfIdeal.Gen.frame m g

/-- The ideal kernel's frame. -/
theorem frame_ideal : Cert.quiescent_KernelPfIdeal := fun m g _ => Cert.KernelPfIdeal.Gen.frame m g

/-- The reference's frame. -/
theorem frame_ref : Cert.quiescent_ReferencePfIdeal := fun m g _ =>
  (θ_run Cert.ReferencePfIdeal.defs _ _).mono (fun r h => ⟨fun c => (h c).2, sem_eq_zero_of_no_sems rfl _⟩) (Cert.ReferencePfIdeal.Value.run m g)

/-- The two programs compute the same arrays. -/
theorem same : Cert.algebraic_KernelPfIdeal_ReferencePfIdeal := fun m g m' g' _ h =>
  ⟨fun c => normed (m ((c.tc : Thread Cert.KernelPfIdeal.nD Cert.KernelPfIdeal.τ).loc Cert.KernelPfIdeal.main_arg0)) (m ((c.tc : Thread Cert.KernelPfIdeal.nD Cert.KernelPfIdeal.τ).loc Cert.KernelPfIdeal.main_arg1)) (m ((c.tc : Thread Cert.KernelPfIdeal.nD Cert.KernelPfIdeal.τ).loc Cert.KernelPfIdeal.main_arg2)),
    (θ_run Cert.KernelPfIdeal.defs _ _).mono (fun r hr c => ⟨(hr c).1.trans (arr m c), (hr c).2⟩) (Cert.KernelPfIdeal.Value.run_blocks m g),
    (θ_run Cert.ReferencePfIdeal.defs _ _).mono (fun r hr c => ⟨(hr c).1.trans ((ref_at _ _ _).trans (by rw [(h c).1, (h c).2.1, (h c).2.2])), (hr c).2⟩) (Cert.ReferencePfIdeal.Value.run m' g')⟩

end Cert.Pf

end
-- ==== Proof.Root.lean ====
/- The root of a mean square, and the gradient through it, over the extended reals. -/
module

public import proofs.«01_k».proof.Proof.Spec
public import Idealize.ShloMosaic.Lib.Pointwise
public import Idealize.ShloMosaic.Lib.IdealHost

@[expose] public section

noncomputable section

namespace Cert.Root

open Idealize.ShloMosaic

/-- The word of 128. -/
theorem w128 : Ideal.ofBits .f32 0x43000000#32 = ((128 : ℝ) : EReal) := by
  simp [Ideal.ofBits, Ideal.ieee, -EReal.coe_mul]; norm_num
/-- The word of 2048. -/
theorem w2048 : Ideal.ofBits .f32 0x45000000#32 = ((2048 : ℝ) : EReal) := by
  simp [Ideal.ofBits, Ideal.ieee, -EReal.coe_mul]; norm_num
/-- The word of one half. -/
theorem whalf : Ideal.ofBits .f32 0x3F000000#32 = ((1 / 2 : ℝ) : EReal) := by
  simp [Ideal.ofBits, Ideal.ieee, -EReal.coe_mul]; norm_num
/-- The word of minus one half. -/
theorem wneghalf : Ideal.ofBits .f32 0xBF000000#32 = ((-(1 / 2) : ℝ) : EReal) := by
  simp [Ideal.ofBits, Ideal.ieee, -EReal.coe_mul]; norm_num
/-- The small constant is real and positive. -/
theorem weps : ∃ e : ℝ, 0 < e ∧ Ideal.ofBits .f32 0x358637BD#32 = (e : EReal) := by
  refine ⟨_, ?_, by simp [Ideal.ofBits, Ideal.ieee]; rfl⟩
  norm_num

/-- A square is not negative. -/
theorem sq_nonneg (x : EReal) : 0 ≤ x * x := by
  induction x with
  | bot => simp
  | coe r => rw [← EReal.coe_mul]; exact_mod_cast mul_self_nonneg r
  | top => simp

/-- The inverse root of a mean square: real, not negative, and over what it is the root of, its cube. -/
theorem root_cube (n : ℝ) (hn : 0 < n) (s : EReal) (hs : 0 ≤ s) :
    ∃ r : ℝ, 0 ≤ r ∧ Ideal.rsqrt (Ideal.div s (n : EReal) + Ideal.ofBits .f32 0x358637BD#32) = (r : EReal)
      ∧ Ideal.div (r : EReal) (Ideal.div s (n : EReal) + Ideal.ofBits .f32 0x358637BD#32) = ((r * r * r : ℝ) : EReal) := by
  obtain ⟨e, he, hw⟩ := weps
  rw [hw, Ideal.div_coe hn.ne']
  induction s with
  | bot => simp at hs
  | coe a =>
    have ha : 0 ≤ a := by exact_mod_cast hs
    rw [← EReal.coe_mul, ← EReal.coe_add]
    have hp : 0 < a * (1 / n) + e := by positivity
    refine ⟨(Real.sqrt (a * (1 / n) + e))⁻¹, by positivity, ?_, ?_⟩
    · rw [Ideal.rsqrt_coe, if_neg hp.le.not_gt, if_neg hp.ne']
    · rw [Ideal.div_coe hp.ne', ← EReal.coe_mul]
      congr 1
      generalize a * (1 / n) + e = v at hp
      have h := Real.mul_self_sqrt hp.le
      have h0 : Real.sqrt v ≠ 0 := (Real.sqrt_pos.2 hp).ne'
      generalize Real.sqrt v = q at h h0
      subst h
      field_simp
  | top =>
    have h1 : (⊤ : EReal) * ((1 / n : ℝ) : EReal) = ⊤ := EReal.top_mul_coe_of_pos (by positivity)
    rw [h1, EReal.top_add_coe]
    exact ⟨0, le_refl 0, by simp, by simp [Ideal.div]⟩

/-- Twice a scaling down is one scaling by the double, taken away. -/
theorem twice_neg (p : EReal) (k : ℝ) (hk : 0 ≤ k) : p * ((-k : ℝ) : EReal) + p * ((-k : ℝ) : EReal) = -(p * ((2 * k : ℝ) : EReal)) := by
  rcases hk.eq_or_lt with h | h
  · subst h; simp
  · induction p with
    | bot => rw [EReal.bot_mul_coe_of_neg (by linarith), EReal.bot_mul_coe_of_pos (by linarith)]; rfl
    | coe a => rw [← EReal.coe_mul, ← EReal.coe_add, ← EReal.coe_mul, ← EReal.coe_neg]; congr 1; ring
    | top => rw [EReal.top_mul_coe_of_neg (by linarith), EReal.top_mul_coe_of_pos (by linarith)]; rfl

/-- The gradient through a norm: the closed form against the chain rule through the root of the mean square. -/
theorem norm_back (n : ℝ) (hn : 0 < n) (s : EReal) (hs : 0 ≤ s) (o t M : EReal) :
    Ideal.rsqrt (Ideal.div s (n : EReal) + Ideal.ofBits .f32 0x358637BD#32) * t
      - o * (Ideal.rsqrt (Ideal.div s (n : EReal) + Ideal.ofBits .f32 0x358637BD#32) * Ideal.rsqrt (Ideal.div s (n : EReal) + Ideal.ofBits .f32 0x358637BD#32) * Ideal.rsqrt (Ideal.div s (n : EReal) + Ideal.ofBits .f32 0x358637BD#32)) * Ideal.div M (n : EReal)
    = t * Ideal.rsqrt (Ideal.div s (n : EReal) + Ideal.ofBits .f32 0x358637BD#32)
      + o * Ideal.div (M * (Ideal.ofBits .f32 0xBF000000#32 * Ideal.div (Ideal.rsqrt (Ideal.div s (n : EReal) + Ideal.ofBits .f32 0x358637BD#32)) (Ideal.div s (n : EReal) + Ideal.ofBits .f32 0x358637BD#32))) (n : EReal)
      + Ideal.div (M * (Ideal.ofBits .f32 0xBF000000#32 * Ideal.div (Ideal.rsqrt (Ideal.div s (n : EReal) + Ideal.ofBits .f32 0x358637BD#32)) (Ideal.div s (n : EReal) + Ideal.ofBits .f32 0x358637BD#32))) (n : EReal) * o := by
  obtain ⟨r, hr, h1, h2⟩ := root_cube n hn s hs
  rw [h1, h2, wneghalf, Ideal.div_coe hn.ne', Ideal.div_coe hn.ne', ← EReal.coe_mul, ← EReal.coe_mul, ← EReal.coe_mul]
  have e1 : o * (M * ((-(1 / 2) * (r * r * r) : ℝ) : EReal) * ((1 / n : ℝ) : EReal)) = (o * M) * ((-(1 / 2 * (r * r * r) * (1 / n)) : ℝ) : EReal) := by
    rw [mul_assoc M, ← EReal.coe_mul, ← mul_assoc]
    congr 2
    ring
  have e2 : o * ((r * r * r : ℝ) : EReal) * (M * ((1 / n : ℝ) : EReal)) = (o * M) * ((2 * (1 / 2 * (r * r * r) * (1 / n)) : ℝ) : EReal) := by
    rw [mul_mul_mul_comm, ← EReal.coe_mul]
    congr 2
    ring
  rw [mul_comm _ o, add_assoc, e1, e2, twice_neg _ _ (by positivity), mul_comm t, sub_eq_add_neg]

/-- A half of a sum is the sum of the halves. -/
theorem half_sum {ι : Type*} [Fintype ι] (f : ι → EReal) :
    Ideal.ofBits .f32 0x3F000000#32 * ∑ i, f i = ∑ i, Ideal.ofBits .f32 0x3F000000#32 * f i := by
  classical
  rw [whalf]
  refine Finset.induction_on (Finset.univ : Finset ι) (by simp) fun a s h ih => ?_
  rw [Finset.sum_insert h, Finset.sum_insert h, EReal.left_distrib_of_nonneg_of_ne_top (by exact_mod_cast (by norm_num : (0 : ℝ) ≤ 1 / 2)) (EReal.coe_ne_top _), ih]

/-- The word of one in 2048. -/
theorem winv2048 : Ideal.ofBits .f32 0x3A000000#32 = ((1 / 2048 : ℝ) : EReal) := by
  simp [Ideal.ofBits, Ideal.ieee, -EReal.coe_mul]; norm_num

/-- Twice the half of a mean is the mean. -/
theorem twice_half (x : EReal) : x * Ideal.div (Ideal.ofBits .f32 0x3F000000#32) (Ideal.ofBits .f32 0x45000000#32)
    + Ideal.div (Ideal.ofBits .f32 0x3F000000#32) (Ideal.ofBits .f32 0x45000000#32) * x = x * Ideal.ofBits .f32 0x3A000000#32 := by
  rw [whalf, w2048, winv2048, Ideal.div_coe (by norm_num), ← EReal.coe_mul, mul_comm _ x]
  have h := twice_neg (-x) (1 / 2 * (1 / 2048)) (by norm_num)
  rw [EReal.coe_neg, mul_neg, neg_mul, neg_neg, neg_mul, neg_neg] at h
  rw [h]
  norm_num

/-- The logistic of a real number is real. -/
theorem gate_real {x : EReal} (h : Spec.Real x) : Spec.Real (Ideal.div 1 (1 + Ideal.exp (-x))) := by
  obtain ⟨a, rfl⟩ := h
  have hp : (1 : ℝ) + Real.exp (-a) ≠ 0 := by positivity
  rw [← EReal.coe_neg, Ideal.exp_coe, ← EReal.coe_one, ← EReal.coe_add, Ideal.div_coe hp, ← EReal.coe_mul]
  exact ⟨_, rfl⟩

/-- A number over the root of the mean square of a row it stands in is real, whatever the row. -/
theorem unit_real (n : ℝ) (hn : 0 < n) {ι : Type*} [Fintype ι] (x : ι → EReal) (i : ι) :
    Spec.Real (x i * Ideal.rsqrt (Ideal.div (∑ k, x k * x k) (n : EReal) + Ideal.ofBits .f32 0x358637BD#32)) := by
  classical
  have h0 : 0 ≤ ∑ k, x k * x k := Finset.sum_nonneg fun k _ => sq_nonneg (x k)
  have hi : x i * x i ≤ ∑ k, x k * x k := Finset.single_le_sum (f := fun k => x k * x k) (fun k _ => sq_nonneg (x k)) (Finset.mem_univ i)
  by_cases ht : ∑ k, x k * x k = ⊤
  · obtain ⟨e, he, hw⟩ := weps
    rw [ht, hw, Ideal.div_coe hn.ne', EReal.top_mul_coe_of_pos (by positivity), EReal.top_add_coe]
    exact ⟨0, by simp⟩
  · obtain ⟨r, _, h1, _⟩ := root_cube n hn _ h0
    rw [h1]
    have hx : Spec.Real (x i) := by
      generalize x i = a at hi
      induction a with
      | bot => exact absurd (top_le_iff.1 (by simpa using hi)) ht
      | coe a => exact ⟨a, rfl⟩
      | top => exact absurd (top_le_iff.1 (by simpa using hi)) ht
    obtain ⟨a, ha⟩ := hx
    exact ⟨a * r, by rw [ha, ← EReal.coe_mul]⟩

/-- The gradient of a number times its logistic: the factored form and the sum of the two terms, for a real arriving gradient. -/
theorem gate_back {A : EReal} (hA : Spec.Real A) (z : EReal) :
    A * (Ideal.div 1 (1 + Ideal.exp (-z)) * (1 + z * (1 - Ideal.div 1 (1 + Ideal.exp (-z)))))
      = A * Ideal.div 1 (1 + Ideal.exp (-z)) + z * A * (Ideal.div 1 (1 + Ideal.exp (-z)) * (1 - Ideal.div 1 (1 + Ideal.exp (-z)))) := by
  have h11 : (1 : EReal) - 1 = 0 := by rw [← EReal.coe_one, ← EReal.coe_sub, sub_self]; rfl
  induction z with
  | bot =>
    have h : Ideal.div 1 (1 + Ideal.exp (-⊥)) = 0 := by
      rw [EReal.neg_bot, Ideal.exp_top, ← EReal.coe_one, EReal.coe_add_top]
      simp [Ideal.div]
    rw [h]
    simp
  | coe z =>
    obtain ⟨s, hs⟩ := gate_real ⟨z, rfl⟩
    obtain ⟨a, rfl⟩ := hA
    rw [hs]
    norm_cast
    ring
  | top =>
    have h : Ideal.div 1 (1 + Ideal.exp (-⊤)) = 1 := by
      rw [EReal.neg_top, Ideal.exp_bot, add_zero, ← EReal.coe_one, Ideal.div_coe one_ne_zero]
      simp
    rw [h, h11]
    simp

end Cert.Root

end
-- ==== Proof.Fi.lean ====
/- The loss head with the output projection: the kernel's blocks and running sums are the reference's loss and gradients, over the extended reals. -/
module

public import proofs.«01_k».proof.Defs
public import proofs.«01_k».proof.Proof.Gen.KernelFi
public import proofs.«01_k».proof.Proof.Gen.KernelFiIdeal.Value
public import proofs.«01_k».proof.Proof.Gen.ReferenceFiIdeal.Run
public import proofs.«01_k».proof.Proof.Root
public import Idealize.ShloMosaic.Lib.Pointwise
public import Idealize.ShloMosaic.Lib.Quiescent
public import Idealize.ShloMosaic.Lib.Pipeline.ValueKit

@[expose] public section

set_option maxRecDepth 16384

noncomputable section

namespace Cert.KernelFiIdeal.Head

open Cert.KernelFiIdeal Cert.KernelFiIdeal.Gen
open Idealize.ShloMosaic Idealize.ShloMosaic.TcCoe Idealize.SL.Sem
open Idealize.ShloMosaic.Pipeline (Dat)

/-- A row of an array. -/
def row {n : ℕ} (x : (⟨2, ![n, 2048]⟩ : Shape).Idx → EReal) (p : Fin n) : Fin 2048 → EReal := fun e => x (ix2 p e)

/-- A row of the residual stream after the output projection. -/
def stream {n : ℕ} (a : (⟨2, ![n, 2048]⟩ : Shape).Idx → EReal) (b : (⟨2, ![2048, 2048]⟩ : Shape).Idx → EReal) (x : (⟨2, ![n, 2048]⟩ : Shape).Idx → EReal) (p : Fin n) : Fin 2048 → EReal :=
  fun e => x (ix2 p e) + ∑ k : Fin 2048, a (ix2 p k) * b (ix2 k e)

/-- The mean square of a row, with the small constant. -/
def square (x : Fin 2048 → EReal) : EReal := Ideal.div (∑ e, x e * x e) (Ideal.ofBits .f32 0x45000000#32) + Ideal.ofBits .f32 0x358637BD#32

/-- The inverse root of a row's mean square. -/
def root (x : Fin 2048 → EReal) : EReal := Ideal.rsqrt (square x)

/-- The error of a row: its norm, weighted, less the target. -/
def err (x w g : Fin 2048 → EReal) (e : Fin 2048) : EReal := x e * root x * w e - g e

/-- The mean squared error of a row. -/
def miss (x w g : Fin 2048 → EReal) : EReal := Ideal.div (∑ e, err x w g e * err x w g e) (Ideal.ofBits .f32 0x45000000#32)

/-- The gradient of the weighted norm. -/
def grad (x w g : Fin 2048 → EReal) (e : Fin 2048) : EReal := err x w g e * Ideal.ofBits .f32 0x3A000000#32

/-- The gradient of the row. -/
def back (x w g : Fin 2048 → EReal) (e : Fin 2048) : EReal :=
  root x * (grad x w g e * w e) - x e * (root x * root x * root x) * Ideal.div (∑ k, grad x w g k * w k * x k) (Ideal.ofBits .f32 0x45000000#32)

/-- The gradient of the weighted norm, as the rule of the square gives it: twice a half. -/
def twice (x w g : Fin 2048 → EReal) (e : Fin 2048) : EReal :=
  err x w g e * Ideal.div (Ideal.ofBits .f32 0x3F000000#32) (Ideal.ofBits .f32 0x45000000#32) + Ideal.div (Ideal.ofBits .f32 0x3F000000#32) (Ideal.ofBits .f32 0x45000000#32) * err x w g e

/-- Both are one. -/
theorem grad_eq (x w g : Fin 2048 → EReal) : grad x w g = twice x w g := funext fun _ => (Root.twice_half _).symm

/-- The gradient of the row by the chain rule through the root of the mean square. -/
def chain (x w g : Fin 2048 → EReal) (e : Fin 2048) : EReal :=
  twice x w g e * w e * root x
    + x e * Ideal.div ((∑ k, x k * (twice x w g k * w k)) * (Ideal.ofBits .f32 0xBF000000#32 * Ideal.div (root x) (square x))) (Ideal.ofBits .f32 0x45000000#32)
    + Ideal.div ((∑ k, x k * (twice x w g k * w k)) * (Ideal.ofBits .f32 0xBF000000#32 * Ideal.div (root x) (square x))) (Ideal.ofBits .f32 0x45000000#32) * x e

/-- The closed form is the chain rule's. -/
theorem back_chain (x w g : Fin 2048 → EReal) (e : Fin 2048) : back x w g e = chain x w g e := by
  have h := Root.norm_back 2048 (by norm_num) (∑ k, x k * x k) (Finset.sum_nonneg fun k _ => Root.sq_nonneg (x k)) (x e) (twice x w g e * w e) (∑ k, x k * (twice x w g k * w k))
  rw [← Root.w2048] at h
  unfold back
  rw [grad_eq, Finset.sum_congr rfl fun k _ => mul_comm (twice x w g k * w k) (x k)]
  exact h

/-- What a row gives to the gradient of the weight. -/
def weigh (x w g : Fin 2048 → EReal) (e : Fin 2048) : EReal := grad x w g e * (x e * root x)

/-- The same, the other way round. -/
theorem weigh_comm (x w g : Fin 2048 → EReal) (e : Fin 2048) : weigh x w g e = x e * root x * twice x w g e := by
  unfold weigh
  rw [grad_eq, mul_comm]

/-- The gradient of the stream, at each place. -/
def dstream (a : (⟨2, ![2048, 2048]⟩ : Shape).Idx → EReal) (b : (⟨2, ![2048, 2048]⟩ : Shape).Idx → EReal) (x g : (⟨2, ![2048, 2048]⟩ : Shape).Idx → EReal) (w : (⟨2, ![1, 2048]⟩ : Shape).Idx → EReal) : (⟨2, ![2048, 2048]⟩ : Shape).Idx → EReal :=
  fun i => back (stream a b x (i 0)) (row w 0) (row g (i 0)) (i 1)

/-- The loss, in every lane. -/
def loss (a : (⟨2, ![2048, 2048]⟩ : Shape).Idx → EReal) (b : (⟨2, ![2048, 2048]⟩ : Shape).Idx → EReal) (x g : (⟨2, ![2048, 2048]⟩ : Shape).Idx → EReal) (w : (⟨2, ![1, 2048]⟩ : Shape).Idx → EReal) : (⟨2, ![1, 128]⟩ : Shape).Idx → EReal :=
  fun _ => Ideal.ofBits .f32 0x3F000000#32 * ∑ p : Fin 2048, miss (stream a b x p) (row w 0) (row g p)

/-- The gradient of the weight, at each place. -/
def dweight (a : (⟨2, ![2048, 2048]⟩ : Shape).Idx → EReal) (b : (⟨2, ![2048, 2048]⟩ : Shape).Idx → EReal) (x g : (⟨2, ![2048, 2048]⟩ : Shape).Idx → EReal) (w : (⟨2, ![1, 2048]⟩ : Shape).Idx → EReal) : (⟨2, ![1, 2048]⟩ : Shape).Idx → EReal :=
  fun i => ∑ p : Fin 2048, weigh (stream a b x p) (row w 0) (row g p) (i 1)

variable (m : (ℓ : Loc nD τ sig) → Buf (Elt Ideal) ℓ) (c : Dev nD)

/-- The blocks of a point. -/
theorem idx : ∀ t : Fin grid0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] ∧ win0_8.index t = ![0, 0] ∧ t.val < 8 := by
  decide +kernel

/-- What a point stores of the gradient of the stream. -/
theorem stored (x : Vec Ideal S256x2048 .f32) (a : Vec Ideal S256x2048 .bf16) (b : Vec Ideal S2048x2048 .bf16) (w : Vec Ideal S1x2048 .f32) (g : Vec Ideal S256x2048 .f32) (y : S256x2048.Idx) :
    k0_pay1 (k0_pay14 x a b w g) (k0_pay15 x a b) (k0_pay16 x a b w g) y = back (stream a b x (y 0)) (row w 0) (row g (y 0)) (y 1) := by
  unfold back grad err root square stream row
  pointwise [k0_pay1, k0_pay14, k0_pay15, k0_pay16, k0_pay13, k0_pay12, k0_pay10, k0_pay9, k0_pay8, k0_pay7]

/-- What a point adds to the gradient of the weight. -/
theorem weighed (x : Vec Ideal S256x2048 .f32) (a : Vec Ideal S256x2048 .bf16) (b : Vec Ideal S2048x2048 .bf16) (w : Vec Ideal S1x2048 .f32) (g : Vec Ideal S256x2048 .f32) (y : S1x2048.Idx) :
    k0_pay3 (k0_pay9 x a b) (k0_pay12 x a b w g) y = ∑ r : Fin 256, weigh (stream a b x r) (row w 0) (row g r) (y 1) := by
  unfold weigh grad err root square stream row
  pointwise [k0_pay3, k0_pay12, k0_pay10, k0_pay9, k0_pay8, k0_pay7]

/-- What a point adds to the loss. -/
theorem missed (x : Vec Ideal S256x2048 .f32) (a : Vec Ideal S256x2048 .bf16) (b : Vec Ideal S2048x2048 .bf16) (w : Vec Ideal S1x2048 .f32) (g : Vec Ideal S256x2048 .f32) (y : S1x128.Idx) :
    k0_pay4 (k0_pay11 x a b w g) y = Ideal.ofBits .f32 0x3F000000#32 * ∑ r : Fin 256, miss (stream a b x r) (row w 0) (row g r) := by
  unfold miss err root square stream row
  pointwise [k0_pay4, k0_pay11, k0_pay10, k0_pay9, k0_pay8, k0_pay7]

/-- A row of the stream in a point's blocks is a row of the stream in the arrays. -/
theorem row_stream (t : Fin cfg0.N) (r : Fin 256) (p : Fin 2048) (h : (p : ℕ) = t.val * 256 + (r : ℕ)) :
    stream (show Vec Ideal S256x2048 .bf16 from iblk m c 0 t) (show Vec Ideal S2048x2048 .bf16 from iblk m c 1 t) (show Vec Ideal S256x2048 .f32 from iblk m c 2 t) r
      = stream (m ((c : Thread nD τ).loc main_arg0)) (m ((c : Thread nD τ).loc main_arg1)) (m ((c : Thread nD τ).loc main_arg2)) p := by
  funext e
  have ha : ∀ k : Fin 2048, (show Vec Ideal S256x2048 .bf16 from iblk m c 0 t) (ix2 r k) = m ((c : Thread nD τ).loc main_arg0) (ix2 p k) := by
    intro k
    show iblk m c 0 t (ix2 r k) = _
    blk_point [iblk, V, idx t]
  have hb : ∀ k : Fin 2048, (show Vec Ideal S2048x2048 .bf16 from iblk m c 1 t) (ix2 k e) = m ((c : Thread nD τ).loc main_arg1) (ix2 k e) := by
    intro k
    show iblk m c 1 t (ix2 k e) = _
    blk_point [iblk, V, idx t]
  have hx : (show Vec Ideal S256x2048 .f32 from iblk m c 2 t) (ix2 r e) = m ((c : Thread nD τ).loc main_arg2) (ix2 p e) := by
    show iblk m c 2 t (ix2 r e) = _
    blk_point [iblk, V, idx t]
  unfold stream
  simp only [ha, hb, hx]

/-- A row of a point's targets is a row of the targets. -/
theorem row_target (t : Fin cfg0.N) (r : Fin 256) (p : Fin 2048) (h : (p : ℕ) = t.val * 256 + (r : ℕ)) :
    row (show Vec Ideal S256x2048 .f32 from iblk m c 3 t) r = row (m ((c : Thread nD τ).loc main_arg3)) p := by
  funext e
  show iblk m c 3 t (ix2 r e) = m ((c : Thread nD τ).loc main_arg3) (ix2 p e)
  blk_point [iblk, V, idx t]

/-- The weight's block is the weight. -/
theorem row_weight (t : Fin cfg0.N) :
    row (show Vec Ideal S1x2048 .f32 from iblk m c 4 t) 0 = row (m ((c : Thread nD τ).loc main_arg4)) 0 := by
  funext e
  show iblk m c 4 t (ix2 0 e) = m ((c : Thread nD τ).loc main_arg4) (ix2 0 e)
  blk_point [iblk, V, idx t]

/-- What a point stores of the gradient of the stream, read where its block stands. -/
theorem point (t : Fin cfg0.N) (y : S256x2048.Idx) (i : S2048x2048.Idx) (h0 : (i 0 : ℕ) = t.val * 256 + (y 0 : ℕ)) (h1 : (i 1 : ℕ) = (y 1 : ℕ)) :
    k0_pay1 (k0_pay14 (iblk m c 2 t) (iblk m c 0 t) (iblk m c 1 t) (iblk m c 4 t) (iblk m c 3 t)) (k0_pay15 (iblk m c 2 t) (iblk m c 0 t) (iblk m c 1 t)) (k0_pay16 (iblk m c 2 t) (iblk m c 0 t) (iblk m c 1 t) (iblk m c 4 t) (iblk m c 3 t)) y
      = dstream (m ((c : Thread nD τ).loc main_arg0)) (m ((c : Thread nD τ).loc main_arg1)) (m ((c : Thread nD τ).loc main_arg2)) (m ((c : Thread nD τ).loc main_arg3)) (m ((c : Thread nD τ).loc main_arg4)) i := by
  refine (stored _ _ _ _ _ _).trans ?_
  unfold dstream
  have e1 := row_stream m c t (y 0) (i 0) h0
  have e2 := row_target m c t (y 0) (i 0) h0
  have e3 := row_weight m c t
  have e4 : (y 1 : Fin 2048) = i 1 := Fin.ext h1.symm
  exact (congrArg (back _ _ _) e4).trans (by rw [← e1, ← e2, ← e3])

/-- The contents of the two row outputs after a point. -/
theorem rows_at (t : Fin cfg0.N) (y : S256x2048.Idx) :
    (outsAt0 m c t.val t.isLt).1 y = k0_pay1 (k0_pay14 (iblk m c 2 t) (iblk m c 0 t) (iblk m c 1 t) (iblk m c 4 t) (iblk m c 3 t)) (k0_pay15 (iblk m c 2 t) (iblk m c 0 t) (iblk m c 1 t)) (k0_pay16 (iblk m c 2 t) (iblk m c 0 t) (iblk m c 1 t) (iblk m c 4 t) (iblk m c 3 t)) y
    ∧ (outsAt0 m c t.val t.isLt).2.1 y = k0_pay1 (k0_pay14 (iblk m c 2 t) (iblk m c 0 t) (iblk m c 1 t) (iblk m c 4 t) (iblk m c 3 t)) (k0_pay15 (iblk m c 2 t) (iblk m c 0 t) (iblk m c 1 t)) (k0_pay16 (iblk m c 2 t) (iblk m c 0 t) (iblk m c 1 t) (iblk m c 4 t) (iblk m c 3 t)) y := by
  have ht := (idx t).2.2.2.2.2.2.2.2.2
  by_cases h : t.val % 8 = 0
  · rw [outsAt0_A m c t h (by omega)]
    constructor <;> frame_out
    rfl
  · rw [outsAt0_B m c t h (by omega)]
    constructor <;> frame_out
    rfl

/-- The gradient of the stream after the run. -/
theorem arr : (dats m 0 c).arrAt 5 cfg0.N = dstream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  refine ((rows_at m c t _).1).trans (point m c t _ _ ?_ ?_)
  all_goals (blk_simp [idx t] <;> try omega)

/-- Its copy after the run. -/
theorem arr_copy : (dats m 0 c).arrAt 6 cfg0.N = dstream (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  refine ((rows_at m c t _).2).trans (point m c t _ _ ?_ ?_)
  all_goals (blk_simp [idx t] <;> try omega)

/-- What a point adds to the loss. -/
def lossPart (t : Fin cfg0.N) (_ : S1x128.Idx) : EReal :=
  Ideal.ofBits .f32 0x3F000000#32 * ∑ r : Fin 256, miss (stream (show Vec Ideal S256x2048 .bf16 from iblk m c 0 t) (show Vec Ideal S2048x2048 .bf16 from iblk m c 1 t) (show Vec Ideal S256x2048 .f32 from iblk m c 2 t) r)
    (row (show Vec Ideal S1x2048 .f32 from iblk m c 4 t) 0) (row (show Vec Ideal S256x2048 .f32 from iblk m c 3 t) r)

/-- What a point adds to the gradient of the weight. -/
def weightPart (t : Fin cfg0.N) (y : S1x2048.Idx) : EReal :=
  ∑ r : Fin 256, weigh (stream (show Vec Ideal S256x2048 .bf16 from iblk m c 0 t) (show Vec Ideal S2048x2048 .bf16 from iblk m c 1 t) (show Vec Ideal S256x2048 .f32 from iblk m c 2 t) r)
    (row (show Vec Ideal S1x2048 .f32 from iblk m c 4 t) 0) (row (show Vec Ideal S256x2048 .f32 from iblk m c 3 t) r) (y 1)

/-- The running loss at the first point. -/
theorem loss_first (t : Fin cfg0.N) (h : t.val % 8 = 0) (y : S1x128.Idx) :
    (outsAt0 m c t.val t.isLt).2.2.1 y = 0 + lossPart m c t y := by
  have ht := (idx t).2.2.2.2.2.2.2.2.2
  rw [outsAt0_A m c t h (by omega)]
  frame_out
  rw [missed, zero_add]
  rfl

/-- The running loss at a later point. -/
theorem loss_next (t : Fin cfg0.N) (h : ¬t.val % 8 = 0) (y : S1x128.Idx) :
    (outsAt0 m c t.val t.isLt).2.2.1 y = (outsAt0 m c (t.val - 1) (Nat.lt_of_le_of_lt (Nat.sub_le _ _) t.isLt)).2.2.1 y + lossPart m c t y := by
  have e : ∀ (v : FVec Ideal S1x1 .f32) (s : Vec Ideal S1x128 .f32), k0_pay5 v s y = s y + k0_pay4 v y := by
    intro v s
    pointwise [k0_pay5]
  rw [outsAt0_B m c t h (by omega)]
  frame_out
  rw [e, missed]
  rfl

/-- The running gradient of the weight at the first point. -/
theorem weight_first (t : Fin cfg0.N) (h : t.val % 8 = 0) (y : S1x2048.Idx) :
    (outsAt0 m c t.val t.isLt).2.2.2 y = 0 + weightPart m c t y := by
  have ht := (idx t).2.2.2.2.2.2.2.2.2
  rw [outsAt0_A m c t h (by omega)]
  frame_out
  rw [weighed, zero_add]
  rfl

/-- The running gradient of the weight at a later point. -/
theorem weight_next (t : Fin cfg0.N) (h : ¬t.val % 8 = 0) (y : S1x2048.Idx) :
    (outsAt0 m c t.val t.isLt).2.2.2 y = (outsAt0 m c (t.val - 1) (Nat.lt_of_le_of_lt (Nat.sub_le _ _) t.isLt)).2.2.2 y + weightPart m c t y := by
  have e : ∀ (u v : FVec Ideal S256x2048 .f32) (s : Vec Ideal S1x2048 .f32), k0_pay6 u v s y = s y + k0_pay3 u v y := by
    intro u v s
    pointwise [k0_pay6]
  rw [outsAt0_B m c t h (by omega)]
  frame_out
  rw [e, weighed]
  rfl

/-- The loss after the run. -/
theorem arr_loss : (dats m 0 c).arrAt 7 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  have ht := (flush0_7 t).mp hf
  have hl := (idx t).2.2.2.2.2.2.2.2.2
  rw [after0_7, Pipeline.eq_sum_fin_of_reset_step_apply_of_flush (fun n h => (outsAt0 m c n h).2.2.1) 8 (fun _ => 0) (lossPart m c)
    (fun t h j => loss_first m c t h j) (fun t h j => loss_next m c t h j) t ht _, zero_add]
  unfold lossPart loss
  rw [← Root.half_sum]
  refine congrArg _ (Fin.sum_mul_add_congr fun s k hl' => ?_)
  have hs : 8 * (t.val / 8) + s.val = s.val := by omega
  rw [row_stream m c ⟨_, Pipeline.run_point_lt_of_flush t ht s⟩ k ⟨s.val * 256 + k.val, hl'⟩ (by show _ = (8 * (t.val / 8) + s.val) * 256 + k.val; rw [hs]),
    row_target m c ⟨_, Pipeline.run_point_lt_of_flush t ht s⟩ k ⟨s.val * 256 + k.val, hl'⟩ (by show _ = (8 * (t.val / 8) + s.val) * 256 + k.val; rw [hs]), row_weight]

/-- The gradient of the weight after the run. -/
theorem arr_weight : (dats m 0 c).arrAt 8 cfg0.N = dweight (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  have ht := (flush0_8 t).mp hf
  have hl := (idx t).2.2.2.2.2.2.2.2.2
  rw [after0_8, Pipeline.eq_sum_fin_of_reset_step_apply_of_flush (fun n h => (outsAt0 m c n h).2.2.2) 8 (fun _ => 0) (weightPart m c)
    (fun t h j => weight_first m c t h j) (fun t h j => weight_next m c t h j) t ht _, zero_add]
  unfold weightPart dweight
  refine Fin.sum_mul_add_congr fun s k hl' => ?_
  have hs : 8 * (t.val / 8) + s.val = s.val := by omega
  rw [row_stream m c ⟨_, Pipeline.run_point_lt_of_flush t ht s⟩ k ⟨s.val * 256 + k.val, hl'⟩ (by show _ = (8 * (t.val / 8) + s.val) * 256 + k.val; rw [hs]),
    row_target m c ⟨_, Pipeline.run_point_lt_of_flush t ht s⟩ k ⟨s.val * 256 + k.val, hl'⟩ (by show _ = (8 * (t.val / 8) + s.val) * 256 + k.val; rw [hs]), row_weight]
  refine congrArg _ (Fin.ext ?_)
  blk_simp [idx t]

end Cert.KernelFiIdeal.Head

namespace Cert.Fi

open Idealize.ShloMosaic Idealize.ShloMosaic.TcCoe Idealize.SL.Sem
open Cert.KernelFiIdeal.Head

/-- What the reference leaves. -/
theorem ref_run (m : (ℓ : Loc Cert.ReferenceFiIdeal.nD Cert.ReferenceFiIdeal.τ Cert.ReferenceFiIdeal.sig) → Buf (Elt Ideal) ℓ) (g : Dev Cert.ReferenceFiIdeal.nD → PrngReg) :
    θ_run Cert.ReferenceFiIdeal.defs (onTc (τ := Cert.ReferenceFiIdeal.τ) (Cert.ReferenceFiIdeal.main (F := Ideal))) ⟨m, fun _ => 0, g⟩ (fun r => ∀ c : Dev Cert.ReferenceFiIdeal.nD,
      r.2.mem ((c.tc : Thread Cert.ReferenceFiIdeal.nD Cert.ReferenceFiIdeal.τ).loc Cert.ReferenceFiIdeal.main_v52) = dstream (m ((c.tc : Thread Cert.ReferenceFiIdeal.nD Cert.ReferenceFiIdeal.τ).loc Cert.ReferenceFiIdeal.main_arg0)) (m ((c.tc : Thread Cert.ReferenceFiIdeal.nD Cert.ReferenceFiIdeal.τ).loc Cert.ReferenceFiIdeal.main_arg1)) (m ((c.tc : Thread Cert.ReferenceFiIdeal.nD Cert.ReferenceFiIdeal.τ).loc Cert.ReferenceFiIdeal.main_arg2)) (m ((c.tc : Thread Cert.ReferenceFiIdeal.nD Cert.ReferenceFiIdeal.τ).loc Cert.ReferenceFiIdeal.main_arg3)) (m ((c.tc : Thread Cert.ReferenceFiIdeal.nD Cert.ReferenceFiIdeal.τ).loc Cert.ReferenceFiIdeal.main_arg4))
      ∧ r.2.mem ((c.tc : Thread Cert.ReferenceFiIdeal.nD Cert.ReferenceFiIdeal.τ).loc Cert.ReferenceFiIdeal.main_v53) = dstream (m ((c.tc : Thread Cert.ReferenceFiIdeal.nD Cert.ReferenceFiIdeal.τ).loc Cert.ReferenceFiIdeal.main_arg0)) (m ((c.tc : Thread Cert.ReferenceFiIdeal.nD Cert.ReferenceFiIdeal.τ).loc Cert.ReferenceFiIdeal.main_arg1)) (m ((c.tc : Thread Cert.ReferenceFiIdeal.nD Cert.ReferenceFiIdeal.τ).loc Cert.ReferenceFiIdeal.main_arg2)) (m ((c.tc : Thread Cert.ReferenceFiIdeal.nD Cert.ReferenceFiIdeal.τ).loc Cert.ReferenceFiIdeal.main_arg3)) (m ((c.tc : Thread Cert.ReferenceFiIdeal.nD Cert.ReferenceFiIdeal.τ).loc Cert.ReferenceFiIdeal.main_arg4))
      ∧ r.2.mem ((c.tc : Thread Cert.ReferenceFiIdeal.nD Cert.ReferenceFiIdeal.τ).loc Cert.ReferenceFiIdeal.main_v54) = loss (m ((c.tc : Thread Cert.ReferenceFiIdeal.nD Cert.ReferenceFiIdeal.τ).loc Cert.ReferenceFiIdeal.main_arg0)) (m ((c.tc : Thread Cert.ReferenceFiIdeal.nD Cert.ReferenceFiIdeal.τ).loc Cert.ReferenceFiIdeal.main_arg1)) (m ((c.tc : Thread Cert.ReferenceFiIdeal.nD Cert.ReferenceFiIdeal.τ).loc Cert.ReferenceFiIdeal.main_arg2)) (m ((c.tc : Thread Cert.ReferenceFiIdeal.nD Cert.ReferenceFiIdeal.τ).loc Cert.ReferenceFiIdeal.main_arg3)) (m ((c.tc : Thread Cert.ReferenceFiIdeal.nD Cert.ReferenceFiIdeal.τ).loc Cert.ReferenceFiIdeal.main_arg4))
      ∧ r.2.mem ((c.tc : Thread Cert.ReferenceFiIdeal.nD Cert.ReferenceFiIdeal.τ).loc Cert.ReferenceFiIdeal.main_v36) = dweight (m ((c.tc : Thread Cert.ReferenceFiIdeal.nD Cert.ReferenceFiIdeal.τ).loc Cert.ReferenceFiIdeal.main_arg0)) (m ((c.tc : Thread Cert.ReferenceFiIdeal.nD Cert.ReferenceFiIdeal.τ).loc Cert.ReferenceFiIdeal.main_arg1)) (m ((c.tc : Thread Cert.ReferenceFiIdeal.nD Cert.ReferenceFiIdeal.τ).loc Cert.ReferenceFiIdeal.main_arg2)) (m ((c.tc : Thread Cert.ReferenceFiIdeal.nD Cert.ReferenceFiIdeal.τ).loc Cert.ReferenceFiIdeal.main_arg3)) (m ((c.tc : Thread Cert.ReferenceFiIdeal.nD Cert.ReferenceFiIdeal.τ).loc Cert.ReferenceFiIdeal.main_arg4))
      ∧ r.2.mem ((c.tc : Thread Cert.ReferenceFiIdeal.nD Cert.ReferenceFiIdeal.τ).loc Cert.ReferenceFiIdeal.main_arg0) = m ((c.tc : Thread Cert.ReferenceFiIdeal.nD Cert.ReferenceFiIdeal.τ).loc Cert.ReferenceFiIdeal.main_arg0)
      ∧ r.2.mem ((c.tc : Thread Cert.ReferenceFiIdeal.nD Cert.ReferenceFiIdeal.τ).loc Cert.ReferenceFiIdeal.main_arg1) = m ((c.tc : Thread Cert.ReferenceFiIdeal.nD Cert.ReferenceFiIdeal.τ).loc Cert.ReferenceFiIdeal.main_arg1)
      ∧ r.2.mem ((c.tc : Thread Cert.ReferenceFiIdeal.nD Cert.ReferenceFiIdeal.τ).loc Cert.ReferenceFiIdeal.main_arg2) = m ((c.tc : Thread Cert.ReferenceFiIdeal.nD Cert.ReferenceFiIdeal.τ).loc Cert.ReferenceFiIdeal.main_arg2)
      ∧ r.2.mem ((c.tc : Thread Cert.ReferenceFiIdeal.nD Cert.ReferenceFiIdeal.τ).loc Cert.ReferenceFiIdeal.main_arg3) = m ((c.tc : Thread Cert.ReferenceFiIdeal.nD Cert.ReferenceFiIdeal.τ).loc Cert.ReferenceFiIdeal.main_arg3)
      ∧ r.2.mem ((c.tc : Thread Cert.ReferenceFiIdeal.nD Cert.ReferenceFiIdeal.τ).loc Cert.ReferenceFiIdeal.main_arg4) = m ((c.tc : Thread Cert.ReferenceFiIdeal.nD Cert.ReferenceFiIdeal.τ).loc Cert.ReferenceFiIdeal.main_arg4)) := by
  refine (θ_run Cert.ReferenceFiIdeal.defs _ _).mono (fun r h c => ⟨(h c).1.trans ?_, (h c).2.1.trans ?_, (h c).2.2.1.trans ?_, (h c).2.2.2.1.trans ?_, (h c).2.2.2.2⟩) (Cert.ReferenceFiIdeal.Value.run m g)
  · unfold Cert.ReferenceFiIdeal.Value.res_main_v52
    funext i
    unfold dstream
    refine Eq.trans ?_ (back_chain _ _ _ _).symm
    unfold chain twice err root square stream row
    pointwise
    rw [Fin.sum_univ_one]
  · unfold Cert.ReferenceFiIdeal.Value.res_main_v53
    funext i
    unfold dstream
    refine Eq.trans ?_ (back_chain _ _ _ _).symm
    unfold chain twice err root square stream row
    pointwise
    rw [Fin.sum_univ_one]
  · funext i
    unfold loss miss err root square stream row
    pointwise
  · unfold Cert.ReferenceFiIdeal.Value.res_main_v36
    funext i
    unfold dweight
    refine Eq.trans ?_ (Finset.sum_congr (M := EReal) rfl fun p _ => (weigh_comm _ _ _ _).symm)
    unfold twice err root square stream row
    pointwise

/-- One text, so one frame: the kernel's, at the machine's floats. -/
theorem frame_kernel : Cert.quiescent_KernelFi := by
  have h : Cert.quiescent_KernelFi = ∀ (m : (ℓ : Loc Cert.KernelFiIdeal.nD Cert.KernelFiIdeal.τ Cert.KernelFiIdeal.sig) → Buf (Elt Bits) ℓ) (g : Dev Cert.KernelFiIdeal.nD → PrngReg), True →
      θ_run (Cert.KernelFiIdeal.defs (F := Bits)) (onTc (τ := Cert.KernelFiIdeal.τ) (Cert.KernelFiIdeal.main (F := Bits))) ⟨m, fun _ => 0, g⟩ (fun r => (∀ c : Dev Cert.KernelFiIdeal.nD,
        r.2.mem ((c.tc : Thread Cert.KernelFiIdeal.nD Cert.KernelFiIdeal.τ).loc Cert.KernelFiIdeal.main_arg0) = m ((c.tc : Thread Cert.KernelFiIdeal.nD Cert.KernelFiIdeal.τ).loc Cert.KernelFiIdeal.main_arg0)
        ∧ r.2.mem ((c.tc : Thread Cert.KernelFiIdeal.nD Cert.KernelFiIdeal.τ).loc Cert.KernelFiIdeal.main_arg1) = m ((c.tc : Thread Cert.KernelFiIdeal.nD Cert.KernelFiIdeal.τ).loc Cert.KernelFiIdeal.main_arg1)
        ∧ r.2.mem ((c.tc : Thread Cert.KernelFiIdeal.nD Cert.KernelFiIdeal.τ).loc Cert.KernelFiIdeal.main_arg2) = m ((c.tc : Thread Cert.KernelFiIdeal.nD Cert.KernelFiIdeal.τ).loc Cert.KernelFiIdeal.main_arg2)
        ∧ r.2.mem ((c.tc : Thread Cert.KernelFiIdeal.nD Cert.KernelFiIdeal.τ).loc Cert.KernelFiIdeal.main_arg3) = m ((c.tc : Thread Cert.KernelFiIdeal.nD Cert.KernelFiIdeal.τ).loc Cert.KernelFiIdeal.main_arg3)
        ∧ r.2.mem ((c.tc : Thread Cert.KernelFiIdeal.nD Cert.KernelFiIdeal.τ).loc Cert.KernelFiIdeal.main_arg4) = m ((c.tc : Thread Cert.KernelFiIdeal.nD Cert.KernelFiIdeal.τ).loc Cert.KernelFiIdeal.main_arg4))
        ∧ r.2.sem = fun _ => 0) := by
    chain_rfl
  exact h.mpr fun m g _ => Cert.KernelFiIdeal.Gen.frame m g

/-- The ideal kernel's frame. -/
theorem frame_ideal : Cert.quiescent_KernelFiIdeal := fun m g _ => Cert.KernelFiIdeal.Gen.frame m g

/-- The reference's frame. -/
theorem frame_ref : Cert.quiescent_ReferenceFiIdeal := fun m g _ =>
  (θ_run Cert.ReferenceFiIdeal.defs _ _).mono (fun r h => ⟨fun c => (h c).2.2.2.2, sem_eq_zero_of_no_sems rfl _⟩) (Cert.ReferenceFiIdeal.Value.run m g)

/-- The two programs compute the same arrays. -/
theorem same : Cert.algebraic_KernelFiIdeal_ReferenceFiIdeal := fun m g m' g' _ h =>
  ⟨fun c => dstream (m ((c.tc : Thread Cert.KernelFiIdeal.nD Cert.KernelFiIdeal.τ).loc Cert.KernelFiIdeal.main_arg0)) (m ((c.tc : Thread Cert.KernelFiIdeal.nD Cert.KernelFiIdeal.τ).loc Cert.KernelFiIdeal.main_arg1)) (m ((c.tc : Thread Cert.KernelFiIdeal.nD Cert.KernelFiIdeal.τ).loc Cert.KernelFiIdeal.main_arg2)) (m ((c.tc : Thread Cert.KernelFiIdeal.nD Cert.KernelFiIdeal.τ).loc Cert.KernelFiIdeal.main_arg3)) (m ((c.tc : Thread Cert.KernelFiIdeal.nD Cert.KernelFiIdeal.τ).loc Cert.KernelFiIdeal.main_arg4)), fun c => dstream (m ((c.tc : Thread Cert.KernelFiIdeal.nD Cert.KernelFiIdeal.τ).loc Cert.KernelFiIdeal.main_arg0)) (m ((c.tc : Thread Cert.KernelFiIdeal.nD Cert.KernelFiIdeal.τ).loc Cert.KernelFiIdeal.main_arg1)) (m ((c.tc : Thread Cert.KernelFiIdeal.nD Cert.KernelFiIdeal.τ).loc Cert.KernelFiIdeal.main_arg2)) (m ((c.tc : Thread Cert.KernelFiIdeal.nD Cert.KernelFiIdeal.τ).loc Cert.KernelFiIdeal.main_arg3)) (m ((c.tc : Thread Cert.KernelFiIdeal.nD Cert.KernelFiIdeal.τ).loc Cert.KernelFiIdeal.main_arg4)), fun c => loss (m ((c.tc : Thread Cert.KernelFiIdeal.nD Cert.KernelFiIdeal.τ).loc Cert.KernelFiIdeal.main_arg0)) (m ((c.tc : Thread Cert.KernelFiIdeal.nD Cert.KernelFiIdeal.τ).loc Cert.KernelFiIdeal.main_arg1)) (m ((c.tc : Thread Cert.KernelFiIdeal.nD Cert.KernelFiIdeal.τ).loc Cert.KernelFiIdeal.main_arg2)) (m ((c.tc : Thread Cert.KernelFiIdeal.nD Cert.KernelFiIdeal.τ).loc Cert.KernelFiIdeal.main_arg3)) (m ((c.tc : Thread Cert.KernelFiIdeal.nD Cert.KernelFiIdeal.τ).loc Cert.KernelFiIdeal.main_arg4)), fun c => dweight (m ((c.tc : Thread Cert.KernelFiIdeal.nD Cert.KernelFiIdeal.τ).loc Cert.KernelFiIdeal.main_arg0)) (m ((c.tc : Thread Cert.KernelFiIdeal.nD Cert.KernelFiIdeal.τ).loc Cert.KernelFiIdeal.main_arg1)) (m ((c.tc : Thread Cert.KernelFiIdeal.nD Cert.KernelFiIdeal.τ).loc Cert.KernelFiIdeal.main_arg2)) (m ((c.tc : Thread Cert.KernelFiIdeal.nD Cert.KernelFiIdeal.τ).loc Cert.KernelFiIdeal.main_arg3)) (m ((c.tc : Thread Cert.KernelFiIdeal.nD Cert.KernelFiIdeal.τ).loc Cert.KernelFiIdeal.main_arg4)),
    (θ_run Cert.KernelFiIdeal.defs _ _).mono (fun r hr c => ⟨(hr c).1.trans (arr m c), (hr c).2.1.trans (arr_copy m c), (hr c).2.2.1.trans (arr_loss m c), (hr c).2.2.2.1.trans (arr_weight m c), (hr c).2.2.2.2⟩) (Cert.KernelFiIdeal.Value.run_blocks m g),
    (θ_run Cert.ReferenceFiIdeal.defs _ _).mono (fun r hr c => ⟨(hr c).1.trans (by rw [(h c).1, (h c).2.1, (h c).2.2.1, (h c).2.2.2.1, (h c).2.2.2.2]), (hr c).2.1.trans (by rw [(h c).1, (h c).2.1, (h c).2.2.1, (h c).2.2.2.1, (h c).2.2.2.2]), (hr c).2.2.1.trans (by rw [(h c).1, (h c).2.1, (h c).2.2.1, (h c).2.2.2.1, (h c).2.2.2.2]), (hr c).2.2.2.1.trans (by rw [(h c).1, (h c).2.1, (h c).2.2.1, (h c).2.2.2.1, (h c).2.2.2.2]), (hr c).2.2.2.2⟩) (ref_run m' g')⟩

end Cert.Fi

end
-- ==== Proof.Sf.lean ====
/- The S5 branch's gated linear unit, forward: the kernel's blocks and the reference's array are the same, over the extended reals. -/
module

public import proofs.«01_k».proof.Defs
public import proofs.«01_k».proof.Proof.Gen.KernelSf
public import proofs.«01_k».proof.Proof.Gen.KernelSfIdeal.Value
public import proofs.«01_k».proof.Proof.Gen.ReferenceSfIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelSfIdeal.Unit

open Cert.KernelSfIdeal Cert.KernelSfIdeal.Gen
open Idealize.ShloMosaic Idealize.ShloMosaic.TcCoe Idealize.SL.Sem
open Idealize.ShloMosaic.Pipeline (Dat)

/-- The logistic. -/
def gate (x : EReal) : EReal := Ideal.div 1 (1 + Ideal.exp (-x))

/-- The smooth rectifier, by its hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The same, with the cube the other way round. -/
theorem gelu_cube (x : EReal) :
    gelu x = x * (Ideal.ofBits .f32 0x3F000000#32 * (1 + Ideal.tanh (Ideal.ofBits .f32 0x3F4C422A#32 * (x + Ideal.ofBits .f32 0x3D372713#32 * (x * (x * x)))))) := by
  unfold gelu
  rw [mul_assoc x x x]

/-- The gated unit of a row: what the state gave, what passed it by, the gate, the weights. -/
def glu (y u z : Fin 1024 → EReal) (d : Fin 1024 → EReal) (g : Fin 1024 → Fin 1024 → EReal) (e : Fin 1024) : EReal :=
  gelu (y e + d e * u e) * gate (∑ k, gelu (y k + d k * u k) * g k e) * (z e * gate (z e))

/-- The gated unit, at each place. -/
def gated (y : (⟨2, ![2048, 1024]⟩ : Shape).Idx → EReal) (p : (⟨2, ![2048, 10368]⟩ : Shape).Idx → EReal) (d : (⟨2, ![1, 1024]⟩ : Shape).Idx → EReal) (g : (⟨2, ![1024, 1024]⟩ : Shape).Idx → EReal) : (⟨2, ![2048, 1024]⟩ : Shape).Idx → EReal :=
  fun i => glu (fun e => y (ix2 (i 0) e)) (fun e => p (ix2 (i 0) (⟨(e : ℕ), by omega⟩ : Fin 10368))) (fun e => p (ix2 (i 0) (⟨1024 + (e : ℕ), by omega⟩ : Fin 10368)))
    (fun e => d (ix2 0 e)) (fun k e => g (ix2 k e)) (i 1)

variable (m : (ℓ : Loc nD τ sig) → Buf (Elt Ideal) ℓ) (c : Dev nD)

/-- The blocks of a point. -/
theorem idx : ∀ t : Fin grid0.N, win0_0.index t = ![t.val, 0] ∧ win0_1.index t = ![t.val, 0] ∧ win0_2.index t = ![t.val, 1] ∧ win0_3.index t = ![0, 0] ∧ win0_4.index t = ![0, 0] ∧ win0_5.index t = ![t.val, 0] ∧ t.val < 8 := by
  decide +kernel

/-- What a point stores, in terms of what it loads. -/
theorem stored (y u z : Vec Ideal S256x1024 .f32) (d : Vec Ideal S1x1024 .f32) (g : Vec Ideal S1024x1024 .bf16) (j : S256x1024.Idx) :
    k0_pay1 (k0_pay2 y u d g) z (k0_pay3 z) j = glu (fun e => y (ix2 (j 0) e)) (fun e => u (ix2 (j 0) e)) (fun e => z (ix2 (j 0) e)) (fun e => d (ix2 0 e)) (fun k e => g (ix2 k e)) (j 1) := by
  simp only [glu, gelu_cube, gate]
  pointwise [k0_pay1, k0_pay2, k0_pay3]
  simp only [zero_sub]

/-- The part that passed by of a point, read where its block stands. -/
theorem block_1 (t : Fin cfg0.N) (j : S256x1024.Idx) (i : S2048x10368.Idx) (h0 : (i 0 : ℕ) = t.val * 256 + (j 0 : ℕ)) (h1 : (i 1 : ℕ) = (j 1 : ℕ)) :
    (show Vec Ideal S256x1024 .f32 from X0_1 m c t) j = m ((c : Thread nD τ).loc main_arg1) i := by
  show X0_1 m c t j = _
  unfold X0_1 Pipeline.Window.fill
  rw [dif_pos (moved0_1 t j)]
  blk_point [iblk, V, idx t]

/-- The gate of a point, read where its block stands. -/
theorem block_2 (t : Fin cfg0.N) (j : S256x1024.Idx) (i : S2048x10368.Idx) (h0 : (i 0 : ℕ) = t.val * 256 + (j 0 : ℕ)) (h1 : (i 1 : ℕ) = 1024 + (j 1 : ℕ)) :
    (show Vec Ideal S256x1024 .f32 from X0_2 m c t) j = m ((c : Thread nD τ).loc main_arg1) i := by
  show X0_2 m c t j = _
  unfold X0_2 Pipeline.Window.fill
  rw [dif_pos (moved0_2 t j)]
  blk_point [iblk, V, idx t]

/-- What a point stores is the gated unit, read where its block stands. -/
theorem point (t : Fin cfg0.N) (y : S256x1024.Idx) (i : S2048x1024.Idx) (h0 : (i 0 : ℕ) = t.val * 256 + (y 0 : ℕ)) (h1 : (i 1 : ℕ) = (y 1 : ℕ)) :
    k0_pay1 (k0_pay2 (iblk m c 0 t) (X0_1 m c t) (iblk m c 3 t) (iblk m c 4 t)) (X0_2 m c t) (k0_pay3 (X0_2 m c t)) y = gated (m ((c : Thread nD τ).loc main_arg0)) (m ((c : Thread nD τ).loc main_arg1)) (m ((c : Thread nD τ).loc main_arg2)) (m ((c : Thread nD τ).loc main_arg3)) i := by
  refine (stored _ _ _ _ _ _).trans ?_
  have e0 : ∀ e : Fin 1024, (show Vec Ideal S256x1024 .f32 from iblk m c 0 t) (ix2 (y 0) e) = m ((c : Thread nD τ).loc main_arg0) (ix2 (i 0) e) := by
    intro e
    show iblk m c 0 t (ix2 (y 0) e) = _
    blk_point [iblk, V, idx t]
  have e1 : ∀ e : Fin 1024, (show Vec Ideal S256x1024 .f32 from X0_1 m c t) (ix2 (y 0) e) = m ((c : Thread nD τ).loc main_arg1) (ix2 (i 0) (⟨(e : ℕ), by omega⟩ : Fin 10368)) := fun e =>
    block_1 m c t _ _ h0 rfl
  have e2 : ∀ e : Fin 1024, (show Vec Ideal S256x1024 .f32 from X0_2 m c t) (ix2 (y 0) e) = m ((c : Thread nD τ).loc main_arg1) (ix2 (i 0) (⟨1024 + (e : ℕ), by omega⟩ : Fin 10368)) := fun e =>
    block_2 m c t _ _ h0 rfl
  have e3 : ∀ e : Fin 1024, (show Vec Ideal S1x1024 .f32 from iblk m c 3 t) (ix2 0 e) = m ((c : Thread nD τ).loc main_arg2) (ix2 0 e) := by
    intro e
    show iblk m c 3 t (ix2 0 e) = _
    blk_point [iblk, V, idx t]
  have e4 : ∀ k e : Fin 1024, (show Vec Ideal S1024x1024 .bf16 from iblk m c 4 t) (ix2 k e) = m ((c : Thread nD τ).loc main_arg3) (ix2 k e) := by
    intro k e
    show iblk m c 4 t (ix2 k e) = _
    blk_point [iblk, V, idx t]
  have e5 : (y 1 : Fin 1024) = i 1 := Fin.ext h1.symm
  unfold gated
  rw [← funext e0, ← funext e1, ← funext e2, ← funext e3, ← funext fun k => funext (e4 k)]
  exact congrArg (glu _ _ _ _ _) e5

/-- The array after the run is the gated unit. -/
theorem arr : (dats m 0 c).arrAt 5 cfg0.N = gated (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold outsAt0; frame_out
  refine point m c t y _ ?_ ?_
  all_goals (blk_simp [idx t] <;> try omega)

end Cert.KernelSfIdeal.Unit

namespace Cert.Sf

open Idealize.ShloMosaic Idealize.ShloMosaic.TcCoe Idealize.SL.Sem
open Cert.KernelSfIdeal.Unit

/-- What the reference leaves. -/
theorem ref_run (m : (ℓ : Loc Cert.ReferenceSfIdeal.nD Cert.ReferenceSfIdeal.τ Cert.ReferenceSfIdeal.sig) → Buf (Elt Ideal) ℓ) (g : Dev Cert.ReferenceSfIdeal.nD → PrngReg) :
    θ_run Cert.ReferenceSfIdeal.defs (onTc (τ := Cert.ReferenceSfIdeal.τ) (Cert.ReferenceSfIdeal.main (F := Ideal))) ⟨m, fun _ => 0, g⟩ (fun r => ∀ c : Dev Cert.ReferenceSfIdeal.nD,
      r.2.mem ((c.tc : Thread Cert.ReferenceSfIdeal.nD Cert.ReferenceSfIdeal.τ).loc Cert.ReferenceSfIdeal.main_v29) = gated (m ((c.tc : Thread Cert.ReferenceSfIdeal.nD Cert.ReferenceSfIdeal.τ).loc Cert.ReferenceSfIdeal.main_arg0)) (m ((c.tc : Thread Cert.ReferenceSfIdeal.nD Cert.ReferenceSfIdeal.τ).loc Cert.ReferenceSfIdeal.main_arg1)) (m ((c.tc : Thread Cert.ReferenceSfIdeal.nD Cert.ReferenceSfIdeal.τ).loc Cert.ReferenceSfIdeal.main_arg2)) (m ((c.tc : Thread Cert.ReferenceSfIdeal.nD Cert.ReferenceSfIdeal.τ).loc Cert.ReferenceSfIdeal.main_arg3))
      ∧ r.2.mem ((c.tc : Thread Cert.ReferenceSfIdeal.nD Cert.ReferenceSfIdeal.τ).loc Cert.ReferenceSfIdeal.main_arg0) = m ((c.tc : Thread Cert.ReferenceSfIdeal.nD Cert.ReferenceSfIdeal.τ).loc Cert.ReferenceSfIdeal.main_arg0)
      ∧ r.2.mem ((c.tc : Thread Cert.ReferenceSfIdeal.nD Cert.ReferenceSfIdeal.τ).loc Cert.ReferenceSfIdeal.main_arg1) = m ((c.tc : Thread Cert.ReferenceSfIdeal.nD Cert.ReferenceSfIdeal.τ).loc Cert.ReferenceSfIdeal.main_arg1)
      ∧ r.2.mem ((c.tc : Thread Cert.ReferenceSfIdeal.nD Cert.ReferenceSfIdeal.τ).loc Cert.ReferenceSfIdeal.main_arg2) = m ((c.tc : Thread Cert.ReferenceSfIdeal.nD Cert.ReferenceSfIdeal.τ).loc Cert.ReferenceSfIdeal.main_arg2)
      ∧ r.2.mem ((c.tc : Thread Cert.ReferenceSfIdeal.nD Cert.ReferenceSfIdeal.τ).loc Cert.ReferenceSfIdeal.main_arg3) = m ((c.tc : Thread Cert.ReferenceSfIdeal.nD Cert.ReferenceSfIdeal.τ).loc Cert.ReferenceSfIdeal.main_arg3)) := by
  refine (θ_run Cert.ReferenceSfIdeal.defs _ _).mono (fun r h c => ⟨(h c).1.trans ?_, (h c).2⟩) (Cert.ReferenceSfIdeal.Value.run m g)
  · unfold Cert.ReferenceSfIdeal.Value.res_main_v29
    funext i
    unfold gated glu gelu gate
    pointwise

/-- One text, so one frame: the kernel's, at the machine's floats. -/
theorem frame_kernel : Cert.quiescent_KernelSf := by
  have h : Cert.quiescent_KernelSf = ∀ (m : (ℓ : Loc Cert.KernelSfIdeal.nD Cert.KernelSfIdeal.τ Cert.KernelSfIdeal.sig) → Buf (Elt Bits) ℓ) (g : Dev Cert.KernelSfIdeal.nD → PrngReg), True →
      θ_run (Cert.KernelSfIdeal.defs (F := Bits)) (onTc (τ := Cert.KernelSfIdeal.τ) (Cert.KernelSfIdeal.main (F := Bits))) ⟨m, fun _ => 0, g⟩ (fun r => (∀ c : Dev Cert.KernelSfIdeal.nD,
        r.2.mem ((c.tc : Thread Cert.KernelSfIdeal.nD Cert.KernelSfIdeal.τ).loc Cert.KernelSfIdeal.main_arg0) = m ((c.tc : Thread Cert.KernelSfIdeal.nD Cert.KernelSfIdeal.τ).loc Cert.KernelSfIdeal.main_arg0)
        ∧ r.2.mem ((c.tc : Thread Cert.KernelSfIdeal.nD Cert.KernelSfIdeal.τ).loc Cert.KernelSfIdeal.main_arg1) = m ((c.tc : Thread Cert.KernelSfIdeal.nD Cert.KernelSfIdeal.τ).loc Cert.KernelSfIdeal.main_arg1)
        ∧ r.2.mem ((c.tc : Thread Cert.KernelSfIdeal.nD Cert.KernelSfIdeal.τ).loc Cert.KernelSfIdeal.main_arg2) = m ((c.tc : Thread Cert.KernelSfIdeal.nD Cert.KernelSfIdeal.τ).loc Cert.KernelSfIdeal.main_arg2)
        ∧ r.2.mem ((c.tc : Thread Cert.KernelSfIdeal.nD Cert.KernelSfIdeal.τ).loc Cert.KernelSfIdeal.main_arg3) = m ((c.tc : Thread Cert.KernelSfIdeal.nD Cert.KernelSfIdeal.τ).loc Cert.KernelSfIdeal.main_arg3))
        ∧ r.2.sem = fun _ => 0) := by
    chain_rfl
  exact h.mpr fun m g _ => Cert.KernelSfIdeal.Gen.frame m g

/-- The ideal kernel's frame. -/
theorem frame_ideal : Cert.quiescent_KernelSfIdeal := fun m g _ => Cert.KernelSfIdeal.Gen.frame m g

/-- The reference's frame. -/
theorem frame_ref : Cert.quiescent_ReferenceSfIdeal := fun m g _ =>
  (θ_run Cert.ReferenceSfIdeal.defs _ _).mono (fun r h => ⟨fun c => (h c).2, sem_eq_zero_of_no_sems rfl _⟩) (Cert.ReferenceSfIdeal.Value.run m g)

/-- The two programs compute the same arrays. -/
theorem same : Cert.algebraic_KernelSfIdeal_ReferenceSfIdeal := fun m g m' g' _ h =>
  ⟨fun c => gated (m ((c.tc : Thread Cert.KernelSfIdeal.nD Cert.KernelSfIdeal.τ).loc Cert.KernelSfIdeal.main_arg0)) (m ((c.tc : Thread Cert.KernelSfIdeal.nD Cert.KernelSfIdeal.τ).loc Cert.KernelSfIdeal.main_arg1)) (m ((c.tc : Thread Cert.KernelSfIdeal.nD Cert.KernelSfIdeal.τ).loc Cert.KernelSfIdeal.main_arg2)) (m ((c.tc : Thread Cert.KernelSfIdeal.nD Cert.KernelSfIdeal.τ).loc Cert.KernelSfIdeal.main_arg3)),
    (θ_run Cert.KernelSfIdeal.defs _ _).mono (fun r hr c => ⟨(hr c).1.trans (arr m c), (hr c).2⟩) (Cert.KernelSfIdeal.Value.run_blocks m g),
    (θ_run Cert.ReferenceSfIdeal.defs _ _).mono (fun r hr c => ⟨(hr c).1.trans (by rw [(h c).1, (h c).2.1, (h c).2.2.1, (h c).2.2.2]), (hr c).2⟩) (ref_run m' g')⟩

end Cert.Sf

end
-- ==== Proof.Lf.lean ====
/- The norm of the residual stream and the root it divides by: the kernel's blocks and the reference's arrays are the same, over the extended reals. -/
module

public import proofs.«01_k».proof.Defs
public import proofs.«01_k».proof.Proof.Gen.KernelLf
public import proofs.«01_k».proof.Proof.Gen.KernelLfIdeal.Value
public import proofs.«01_k».proof.Proof.Gen.ReferenceLfIdeal.Run
public import Idealize.ShloMosaic.Lib.Pointwise
public import Idealize.ShloMosaic.Lib.Quiescent
public import Idealize.ShloMosaic.Lib.Pipeline.ValueKit

@[expose] public section

set_option maxRecDepth 16384

noncomputable section

namespace Cert.KernelLfIdeal.Norm

open Cert.KernelLfIdeal Cert.KernelLfIdeal.Gen
open Idealize.ShloMosaic Idealize.ShloMosaic.TcCoe Idealize.SL.Sem
open Idealize.ShloMosaic.Pipeline (Dat)

/-- The inverse root of a row's mean square, with the small constant. -/
def root {n : ℕ} (x : (⟨2, ![n, 2048]⟩ : Shape).Idx → EReal) (p : Fin n) : EReal :=
  Ideal.rsqrt (Ideal.div (∑ e : Fin 2048, x (ix2 p e) * x (ix2 p e)) (Ideal.ofBits .f32 0x45000000#32) + Ideal.ofBits .f32 0x358637BD#32)

/-- The norm, at each place. -/
def normed (x : (⟨2, ![2048, 2048]⟩ : Shape).Idx → EReal) (w : (⟨2, ![1, 2048]⟩ : Shape).Idx → EReal) : (⟨2, ![2048, 2048]⟩ : Shape).Idx → EReal :=
  fun i => x i * root x (i 0) * w (ix2 0 (i 1))

/-- The roots, at each place. -/
def roots (x : (⟨2, ![2048, 2048]⟩ : Shape).Idx → EReal) : (⟨2, ![2048, 1]⟩ : Shape).Idx → EReal := fun i => root x (i 0)

variable (m : (ℓ : Loc nD τ sig) → Buf (Elt Ideal) ℓ) (c : Dev nD)

/-- The blocks of a point. -/
theorem idx : ∀ t : Fin grid0.N, win0_0.index t = ![t.val, 0] ∧ win0_1.index t = ![0, 0] ∧ win0_2.index t = ![t.val, 0] ∧ win0_3.index t = ![t.val, 0] ∧ t.val < 8 := by
  decide +kernel

/-- The roots a point stores. -/
theorem stored_root (x : Vec Ideal S256x2048 .f32) (y : S256x1.Idx) : k0_pay1 x y = root x (y 0) := by
  unfold root
  pointwise [k0_pay1]

/-- The norm a point stores. -/
theorem stored (x : Vec Ideal S256x2048 .f32) (w : Vec Ideal S1x2048 .f32) (y : S256x2048.Idx) : k0_pay2 x w y = x y * root x (y 0) * w (ix2 0 (y 1)) := by
  unfold root
  pointwise [k0_pay2, k0_pay1]

/-- A point's block of the stream, read where it stands. -/
theorem block (t : Fin cfg0.N) (j : S256x2048.Idx) (k : S2048x2048.Idx) (h0 : (k 0 : ℕ) = t.val * 256 + (j 0 : ℕ)) (h1 : (k 1 : ℕ) = (j 1 : ℕ)) :
    (show Vec Ideal S256x2048 .f32 from iblk m c 0 t) j = m ((c : Thread nD τ).loc main_arg0) k := by
  show iblk m c 0 t j = _
  blk_point [iblk, V, idx t]

/-- A root of a point's block is a root of the stream. -/
theorem root_block (t : Fin cfg0.N) (r : Fin 256) (p : Fin 2048) (h : (p : ℕ) = t.val * 256 + (r : ℕ)) :
    root (show Vec Ideal S256x2048 .f32 from iblk m c 0 t) r = root (m ((c : Thread nD τ).loc main_arg0)) p := by
  have e : ∀ e : Fin 2048, (show Vec Ideal S256x2048 .f32 from iblk m c 0 t) (ix2 r e) = m ((c : Thread nD τ).loc main_arg0) (ix2 p e) := fun e => block m c t _ _ h rfl
  unfold root
  simp only [e]

/-- What a point stores is the norm, read where its block stands. -/
theorem point (t : Fin cfg0.N) (y : S256x2048.Idx) (i : S2048x2048.Idx) (h0 : (i 0 : ℕ) = t.val * 256 + (y 0 : ℕ)) (h1 : (i 1 : ℕ) = (y 1 : ℕ)) :
    k0_pay2 (iblk m c 0 t) (iblk m c 1 t) y = normed (m ((c : Thread nD τ).loc main_arg0)) (m ((c : Thread nD τ).loc main_arg1)) i := by
  refine (stored _ _ _).trans ?_
  have e1 := block m c t y i h0 h1
  have e2 := root_block m c t (y 0) (i 0) h0
  have e3 : (show Vec Ideal S1x2048 .f32 from iblk m c 1 t) (ix2 0 (y 1)) = m ((c : Thread nD τ).loc main_arg1) (ix2 0 (i 1)) := by
    show iblk m c 1 t (ix2 0 (y 1)) = _
    blk_point [iblk, V, idx t]
  exact congrArg₂ (· * ·) (congrArg₂ (· * ·) e1 e2) e3

/-- The norm after the run. -/
theorem arr : (dats m 0 c).arrAt 2 cfg0.N = normed (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  refine point m c t y _ ?_ ?_
  all_goals (blk_simp [idx t] <;> try omega)

/-- The roots after the run. -/
theorem arr_root : (dats m 0 c).arrAt 3 cfg0.N = roots (m ((c : Thread nD τ).loc main_arg0)) := by
  refine (dats m 0 c).arrAt_eq_of_covers 3 _ (by decide +kernel) fun t _ y => ?_
  blk_simp
  rw [after0_3]; unfold out0_3; frame_out
  refine (stored_root _ _).trans (root_block m c t _ _ ?_)
  all_goals (blk_simp [idx t] <;> try omega)

end Cert.KernelLfIdeal.Norm

namespace Cert.Lf

open Idealize.ShloMosaic Idealize.ShloMosaic.TcCoe Idealize.SL.Sem
open Cert.KernelLfIdeal.Norm

/-- What the reference leaves. -/
theorem ref_run (m : (ℓ : Loc Cert.ReferenceLfIdeal.nD Cert.ReferenceLfIdeal.τ Cert.ReferenceLfIdeal.sig) → Buf (Elt Ideal) ℓ) (g : Dev Cert.ReferenceLfIdeal.nD → PrngReg) :
    θ_run Cert.ReferenceLfIdeal.defs (onTc (τ := Cert.ReferenceLfIdeal.τ) (Cert.ReferenceLfIdeal.main (F := Ideal))) ⟨m, fun _ => 0, g⟩ (fun r => ∀ c : Dev Cert.ReferenceLfIdeal.nD,
      r.2.mem ((c.tc : Thread Cert.ReferenceLfIdeal.nD Cert.ReferenceLfIdeal.τ).loc Cert.ReferenceLfIdeal.main_v12) = normed (m ((c.tc : Thread Cert.ReferenceLfIdeal.nD Cert.ReferenceLfIdeal.τ).loc Cert.ReferenceLfIdeal.main_arg0)) (m ((c.tc : Thread Cert.ReferenceLfIdeal.nD Cert.ReferenceLfIdeal.τ).loc Cert.ReferenceLfIdeal.main_arg1))
      ∧ r.2.mem ((c.tc : Thread Cert.ReferenceLfIdeal.nD Cert.ReferenceLfIdeal.τ).loc Cert.ReferenceLfIdeal.main_v20) = roots (m ((c.tc : Thread Cert.ReferenceLfIdeal.nD Cert.ReferenceLfIdeal.τ).loc Cert.ReferenceLfIdeal.main_arg0))
      ∧ r.2.mem ((c.tc : Thread Cert.ReferenceLfIdeal.nD Cert.ReferenceLfIdeal.τ).loc Cert.ReferenceLfIdeal.main_arg0) = m ((c.tc : Thread Cert.ReferenceLfIdeal.nD Cert.ReferenceLfIdeal.τ).loc Cert.ReferenceLfIdeal.main_arg0)
      ∧ r.2.mem ((c.tc : Thread Cert.ReferenceLfIdeal.nD Cert.ReferenceLfIdeal.τ).loc Cert.ReferenceLfIdeal.main_arg1) = m ((c.tc : Thread Cert.ReferenceLfIdeal.nD Cert.ReferenceLfIdeal.τ).loc Cert.ReferenceLfIdeal.main_arg1)) := by
  refine (θ_run Cert.ReferenceLfIdeal.defs _ _).mono (fun r h c => ⟨(h c).1.trans ?_, (h c).2.1.trans ?_, (h c).2.2⟩) (Cert.ReferenceLfIdeal.Value.run m g)
  · funext i
    unfold normed root
    pointwise
  · funext i
    unfold roots root
    pointwise

/-- One text, so one frame: the kernel's, at the machine's floats. -/
theorem frame_kernel : Cert.quiescent_KernelLf := by
  have h : Cert.quiescent_KernelLf = ∀ (m : (ℓ : Loc Cert.KernelLfIdeal.nD Cert.KernelLfIdeal.τ Cert.KernelLfIdeal.sig) → Buf (Elt Bits) ℓ) (g : Dev Cert.KernelLfIdeal.nD → PrngReg), True →
      θ_run (Cert.KernelLfIdeal.defs (F := Bits)) (onTc (τ := Cert.KernelLfIdeal.τ) (Cert.KernelLfIdeal.main (F := Bits))) ⟨m, fun _ => 0, g⟩ (fun r => (∀ c : Dev Cert.KernelLfIdeal.nD,
        r.2.mem ((c.tc : Thread Cert.KernelLfIdeal.nD Cert.KernelLfIdeal.τ).loc Cert.KernelLfIdeal.main_arg0) = m ((c.tc : Thread Cert.KernelLfIdeal.nD Cert.KernelLfIdeal.τ).loc Cert.KernelLfIdeal.main_arg0)
        ∧ r.2.mem ((c.tc : Thread Cert.KernelLfIdeal.nD Cert.KernelLfIdeal.τ).loc Cert.KernelLfIdeal.main_arg1) = m ((c.tc : Thread Cert.KernelLfIdeal.nD Cert.KernelLfIdeal.τ).loc Cert.KernelLfIdeal.main_arg1))
        ∧ r.2.sem = fun _ => 0) := by
    chain_rfl
  exact h.mpr fun m g _ => Cert.KernelLfIdeal.Gen.frame m g

/-- The ideal kernel's frame. -/
theorem frame_ideal : Cert.quiescent_KernelLfIdeal := fun m g _ => Cert.KernelLfIdeal.Gen.frame m g

/-- The reference's frame. -/
theorem frame_ref : Cert.quiescent_ReferenceLfIdeal := fun m g _ =>
  (θ_run Cert.ReferenceLfIdeal.defs _ _).mono (fun r h => ⟨fun c => (h c).2.2, sem_eq_zero_of_no_sems rfl _⟩) (Cert.ReferenceLfIdeal.Value.run m g)

/-- The two programs compute the same arrays. -/
theorem same : Cert.algebraic_KernelLfIdeal_ReferenceLfIdeal := fun m g m' g' _ h =>
  ⟨fun c => normed (m ((c.tc : Thread Cert.KernelLfIdeal.nD Cert.KernelLfIdeal.τ).loc Cert.KernelLfIdeal.main_arg0)) (m ((c.tc : Thread Cert.KernelLfIdeal.nD Cert.KernelLfIdeal.τ).loc Cert.KernelLfIdeal.main_arg1)), fun c => roots (m ((c.tc : Thread Cert.KernelLfIdeal.nD Cert.KernelLfIdeal.τ).loc Cert.KernelLfIdeal.main_arg0)),
    (θ_run Cert.KernelLfIdeal.defs _ _).mono (fun r hr c => ⟨(hr c).1.trans (arr m c), (hr c).2.1.trans (arr_root m c), (hr c).2.2⟩) (Cert.KernelLfIdeal.Value.run_blocks m g),
    (θ_run Cert.ReferenceLfIdeal.defs _ _).mono (fun r hr c => ⟨(hr c).1.trans (by rw [(h c).1, (h c).2]), (hr c).2.1.trans (by rw [(h c).1]), (hr c).2.2⟩) (ref_run m' g')⟩

end Cert.Lf

end
-- ==== Proof.Pb.lean ====
/- The backward call of the DeltaNet branch's gated norm: the kernel's blocks and running sum are the reference's gradients, over the extended reals. -/
module

public import proofs.«01_k».proof.Defs
public import proofs.«01_k».proof.Proof.Gen.KernelPb
public import proofs.«01_k».proof.Proof.Gen.KernelPbIdeal.Value
public import proofs.«01_k».proof.Proof.Gen.ReferencePbIdeal.Run
public import proofs.«01_k».proof.Proof.Root
public import proofs.«01_k».proof.Proof.Finite
public import proofs.«01_k».proof.Proof.Pf
public import Idealize.ShloMosaic.Lib.Pointwise
public import Idealize.ShloMosaic.Lib.Quiescent
public import Idealize.ShloMosaic.Lib.Pipeline.ValueKit

@[expose] public section

set_option maxRecDepth 16384

noncomputable section

namespace Cert.KernelPbIdeal.Back

open Cert.KernelPbIdeal Cert.KernelPbIdeal.Gen
open Idealize.ShloMosaic Idealize.ShloMosaic.TcCoe Idealize.SL.Sem
open Idealize.ShloMosaic.Pipeline (Dat)
open Cert.KernelPfIdeal.Norm (inHead atZ atW root silu)

/-- An array of all heads. -/
abbrev Heads : Type := (⟨2, ![2048, 1024]⟩ : Shape).Idx → EReal
/-- The projection. -/
abbrev Proj : Type := (⟨2, ![2048, 10368]⟩ : Shape).Idx → EReal
/-- The norm's weight. -/
abbrev Weight : Type := (⟨2, ![1, 128]⟩ : Shape).Idx → EReal

/-- The place of the gate of feature `e` in the head of a place. -/
def zHead (i : (⟨2, ![2048, 1024]⟩ : Shape).Idx) (e : Fin 128) : (⟨2, ![2048, 10368]⟩ : Shape).Idx :=
  ix2 (i 0) (⟨5120 + ((i 1 : ℕ) / 128 * 128 + e), by have h : (i 1 : ℕ) < 1024 := (i 1).isLt; omega⟩ : Fin 10368)

/-- Feature `e` of head `h` in row `q`. -/
def hd (q : Fin 2048) (h : Fin 8) (e : Fin 128) : (⟨2, ![2048, 1024]⟩ : Shape).Idx := ix2 q (⟨(h : ℕ) * 128 + e, by omega⟩ : Fin 1024)

/-- Its gate. -/
def hz (q : Fin 2048) (h : Fin 8) (e : Fin 128) : (⟨2, ![2048, 10368]⟩ : Shape).Idx := ix2 q (⟨5120 + ((h : ℕ) * 128 + e), by omega⟩ : Fin 10368)

/-- The logistic. -/
def gate (z : EReal) : EReal := Ideal.div 1 (1 + Ideal.exp (-z))

/-- The gradient that arrives at the normed head. -/
def arrive (g z w : EReal) : EReal := g * silu z * w

/-- The gradient through the norm, in closed form. -/
def through (o r t s : EReal) : EReal := r * t - o * (r * r * r) * Ideal.div s (Ideal.ofBits .f32 0x43000000#32)

/-- The slope of a number times its logistic. -/
def slope (z : EReal) : EReal := gate z * (1 + z * (1 - gate z))

/-- The sum of squares of a place's head. -/
def sumSq (o : Heads) (i : (⟨2, ![2048, 1024]⟩ : Shape).Idx) : EReal := ∑ e : Fin 128, o (inHead i e) * o (inHead i e)

/-- The gradient of the normed array. -/
def dO (o : Heads) (p : Proj) (w : Weight) (g : Heads) : Heads := fun i =>
  through (o i) (root (sumSq o i)) (arrive (g i) (p (atZ i)) (w (atW i))) (∑ e : Fin 128, arrive (g (inHead i e)) (p (zHead i e)) (w (ix2 0 e)) * o (inHead i e))

/-- The gradient of the gate. -/
def dZ (o : Heads) (p : Proj) (w : Weight) (g : Heads) : Heads := fun i =>
  g i * (o i * root (sumSq o i)) * w (atW i) * slope (p (atZ i))

/-- What one head of one row gives to the gradient of the weight. -/
def give (o : Heads) (p : Proj) (g : Heads) (e : Fin 128) (q : Fin 2048) (h : Fin 8) : EReal :=
  g (hd q h e) * silu (p (hz q h e)) * (o (hd q h e) * root (∑ k : Fin 128, o (hd q h k) * o (hd q h k)))

/-- The gradient of the weight. -/
def dW (o : Heads) (p : Proj) (g : Heads) : Weight := fun i => ∑ q : Fin 2048, ∑ h : Fin 8, give o p g (i 1) q h

/-- The mean square of a place's head, with the small constant. -/
def mean (o : Heads) (i : (⟨2, ![2048, 1024]⟩ : Shape).Idx) : EReal := Ideal.div (sumSq o i) (Ideal.ofBits .f32 0x43000000#32) + Ideal.ofBits .f32 0x358637BD#32

/-- The gradient of the mean square's share of a feature, by the chain rule. -/
def share (o : Heads) (p : Proj) (w : Weight) (g : Heads) (i : (⟨2, ![2048, 1024]⟩ : Shape).Idx) : EReal :=
  Ideal.div ((∑ e : Fin 128, o (inHead i e) * arrive (g (inHead i e)) (p (zHead i e)) (w (ix2 0 e))) * (Ideal.ofBits .f32 0xBF000000#32 * Ideal.div (Ideal.rsqrt (mean o i)) (mean o i))) (Ideal.ofBits .f32 0x43000000#32)

/-- The gradient of the normed array by the chain rule. -/
def chainO (o : Heads) (p : Proj) (w : Weight) (g : Heads) : Heads := fun i =>
  arrive (g i) (p (atZ i)) (w (atW i)) * Ideal.rsqrt (mean o i) + o i * share o p w g i + share o p w g i * o i

/-- The closed form is the chain rule's. -/
theorem chain_eq (o : Heads) (p : Proj) (w : Weight) (g : Heads) : chainO o p w g = dO o p w g := by
  funext i
  have h := Root.norm_back 128 (by norm_num) (sumSq o i) (Finset.sum_nonneg fun k _ => Root.sq_nonneg _) (o i) (arrive (g i) (p (atZ i)) (w (atW i)))
    (∑ e : Fin 128, o (inHead i e) * arrive (g (inHead i e)) (p (zHead i e)) (w (ix2 0 e)))
  rw [← Root.w128] at h
  unfold dO through
  rw [Finset.sum_congr rfl fun e _ => mul_comm (arrive (g (inHead i e)) (p (zHead i e)) (w (ix2 0 e))) (o (inHead i e))]
  exact h.symm

/-- The gradient of the gate by the chain rule. -/
def chainZ (o : Heads) (p : Proj) (w : Weight) (g : Heads) : Heads := fun i =>
  o i * root (sumSq o i) * w (atW i) * g i * gate (p (atZ i)) + p (atZ i) * (o i * root (sumSq o i) * w (atW i) * g i) * (gate (p (atZ i)) * (1 - gate (p (atZ i))))

/-- A place is in its own head. -/
theorem inHead_self (i : (⟨2, ![2048, 1024]⟩ : Shape).Idx) : inHead i (⟨(i 1 : ℕ) % 128, Nat.mod_lt _ (by decide)⟩ : Fin 128) = i := by
  funext k
  refine Fin.ext ?_
  match k with
  | 0 => rfl
  | 1 => exact Nat.div_add_mod' (i 1 : ℕ) 128

/-- For a real weight and a real arriving gradient the two forms are one. -/
theorem chainZ_eq (o : Heads) (p : Proj) (w : Weight) (g : Heads) (hw : ∀ i, Spec.Real (w i)) (hg : ∀ i, Spec.Real (g i)) : chainZ o p w g = dZ o p w g := by
  funext i
  have hu := Root.unit_real 128 (by norm_num) (fun e => o (inHead i e)) (⟨(i 1 : ℕ) % 128, Nat.mod_lt _ (by decide)⟩ : Fin 128)
  rw [← Root.w128] at hu
  have hu' : Spec.Real (o i * root (sumSq o i)) := by
    rw [inHead_self] at hu
    exact hu
  have hA : Spec.Real (o i * root (sumSq o i) * w (atW i) * g i) := by
    obtain ⟨a, ha⟩ := hu'
    obtain ⟨b, hb⟩ := hw (atW i)
    obtain ⟨d, hd⟩ := hg i
    exact ⟨a * b * d, by rw [ha, hb, hd, EReal.coe_mul, EReal.coe_mul]⟩
  unfold chainZ dZ slope
  have e : g i * (o i * root (sumSq o i)) * w (atW i) = o i * root (sumSq o i) * w (atW i) * g i := by
    rw [mul_comm (g i), mul_right_comm]
  rw [e]
  exact (Root.gate_back hA (p (atZ i))).symm

variable (m : (ℓ : Loc nD τ sig) → Buf (Elt Ideal) ℓ) (c : Dev nD)

/-- The blocks of a point. -/
theorem idx : ∀ t : Fin grid0.N, win0_0.index t = ![t.val / 8, t.val % 8] ∧ win0_1.index t = ![t.val / 8, 40 + t.val % 8]
    ∧ win0_2.index t = ![0, 0] ∧ win0_3.index t = ![t.val / 8, t.val % 8] ∧ win0_4.index t = ![t.val / 8, t.val % 8]
    ∧ win0_5.index t = ![t.val / 8, t.val % 8] ∧ win0_6.index t = ![0, 0] ∧ t.val < 32 := by
  decide +kernel

/-- What a point stores of the gradient of the normed array. -/
theorem stored_o (x z : Vec Ideal S512x128 .f32) (w : Vec Ideal S1x128 .f32) (g : Vec Ideal S512x128 .f32) (y : S512x128.Idx) :
    k0_pay2 x z w g (k0_pay5 x) (Scalar.ofBits .f32 0x00000000#32 : Ideal .f32) y
      = through (x y) (root (∑ e : Fin 128, x (ix2 (y 0) e) * x (ix2 (y 0) e))) (arrive (g y) (z y) (w (ix2 0 (y 1))))
        (∑ e : Fin 128, arrive (g (ix2 (y 0) e)) (z (ix2 (y 0) e)) (w (ix2 0 e)) * x (ix2 (y 0) e)) := by
  unfold through arrive root silu
  pointwise [k0_pay2, k0_pay1, k0_pay5]
  simp only [zero_sub]

/-- What a point stores of the gradient of the gate. -/
theorem stored_z (x z : Vec Ideal S512x128 .f32) (w : Vec Ideal S1x128 .f32) (g : Vec Ideal S512x128 .f32) (y : S512x128.Idx) :
    k0_pay7 x z w g y = g y * (x y * root (∑ e : Fin 128, x (ix2 (y 0) e) * x (ix2 (y 0) e))) * w (ix2 0 (y 1)) * slope (z y) := by
  unfold slope gate root
  pointwise [k0_pay7, k0_pay6, k0_pay5]
  simp only [zero_sub]

/-- What a point adds to the gradient of the weight. -/
theorem added (x z g : Vec Ideal S512x128 .f32) (y : S1x128.Idx) :
    k0_pay3 z g (k0_pay6 x) (Scalar.ofBits .f32 0x00000000#32 : Ideal .f32) y
      = ∑ r : Fin 512, g (ix2 r (y 1)) * silu (z (ix2 r (y 1))) * (x (ix2 r (y 1)) * root (∑ e : Fin 128, x (ix2 r e) * x (ix2 r e))) := by
  unfold root silu
  pointwise [k0_pay3, k0_pay1, k0_pay6, k0_pay5]
  simp only [zero_sub]

/-- The normed array of a point, read where its block stands. -/
theorem read_o (t : Fin cfg0.N) (j : S512x128.Idx) (k : S2048x1024.Idx) (h0 : (k 0 : ℕ) = t.val / 8 * 512 + (j 0 : ℕ)) (h1 : (k 1 : ℕ) = t.val % 8 * 128 + (j 1 : ℕ)) :
    (show Vec Ideal S512x128 .f32 from iblk m c 0 t) j = m ((c : Thread nD τ).loc main_arg0) k := by
  show iblk m c 0 t j = _
  blk_point [iblk, V, idx t]

/-- The gate of a point, read where its block stands. -/
theorem read_z (t : Fin cfg0.N) (j : S512x128.Idx) (k : S2048x10368.Idx) (h0 : (k 0 : ℕ) = t.val / 8 * 512 + (j 0 : ℕ)) (h1 : (k 1 : ℕ) = 5120 + (t.val % 8 * 128 + (j 1 : ℕ))) :
    (show Vec Ideal S512x128 .f32 from iblk m c 1 t) j = m ((c : Thread nD τ).loc main_arg1) k := by
  show iblk m c 1 t j = _
  blk_point [iblk, V, idx t]

/-- The arriving gradient of a point, read where its block stands. -/
theorem read_g (t : Fin cfg0.N) (j : S512x128.Idx) (k : S2048x1024.Idx) (h0 : (k 0 : ℕ) = t.val / 8 * 512 + (j 0 : ℕ)) (h1 : (k 1 : ℕ) = t.val % 8 * 128 + (j 1 : ℕ)) :
    (show Vec Ideal S512x128 .f32 from iblk m c 3 t) j = m ((c : Thread nD τ).loc main_arg3) k := by
  show iblk m c 3 t j = _
  blk_point [iblk, V, idx t]

/-- The weight's block is the weight. -/
theorem read_w (t : Fin cfg0.N) (e : Fin 128) (k : S1x128.Idx) (h : (k 1 : ℕ) = e) :
    (show Vec Ideal S1x128 .f32 from iblk m c 2 t) (ix2 0 e) = m ((c : Thread nD τ).loc main_arg2) k := by
  have hk : (k 0 : ℕ) < 1 := (k 0).isLt
  show iblk m c 2 t (ix2 0 e) = _
  blk_point [iblk, V, idx t]

/-- The sum of squares of a point's head. -/
theorem read_sq (t : Fin cfg0.N) (y : S512x128.Idx) (i : S2048x1024.Idx) (h0 : (i 0 : ℕ) = t.val / 8 * 512 + (y 0 : ℕ)) (h1 : (i 1 : ℕ) = t.val % 8 * 128 + (y 1 : ℕ)) :
    (∑ e : Fin 128, (show Vec Ideal S512x128 .f32 from iblk m c 0 t) (ix2 (y 0) e) * (show Vec Ideal S512x128 .f32 from iblk m c 0 t) (ix2 (y 0) e)) = sumSq (m ((c : Thread nD τ).loc main_arg0)) i := by
  have hy1 : (y 1 : ℕ) < 128 := (y 1).isLt
  have hx := fun e : Fin 128 => read_o m c t (ix2 (y 0) e) (inHead i e) h0 (show (i 1 : ℕ) / 128 * 128 + (e : ℕ) = t.val % 8 * 128 + (e : ℕ) by omega)
  unfold sumSq
  simp only [← hx]

/-- What a point stores of the gradient of the normed array, read where its block stands. -/
theorem point_o (t : Fin cfg0.N) (y : S512x128.Idx) (i : S2048x1024.Idx) (h0 : (i 0 : ℕ) = t.val / 8 * 512 + (y 0 : ℕ)) (h1 : (i 1 : ℕ) = t.val % 8 * 128 + (y 1 : ℕ)) :
    k0_pay2 (iblk m c 0 t) (iblk m c 1 t) (iblk m c 2 t) (iblk m c 3 t) (k0_pay5 (iblk m c 0 t)) (Scalar.ofBits .f32 0x00000000#32 : Ideal .f32) y = dO (m ((c : Thread nD τ).loc main_arg0)) (m ((c : Thread nD τ).loc main_arg1)) (m ((c : Thread nD τ).loc main_arg2)) (m ((c : Thread nD τ).loc main_arg3)) i := by
  have hy1 : (y 1 : ℕ) < 128 := (y 1).isLt
  refine (stored_o _ _ _ _ _).trans ?_
  have hq (e : Fin 128) : (i 1 : ℕ) / 128 * 128 + (e : ℕ) = t.val % 8 * 128 + (e : ℕ) := by omega
  have hx := fun e : Fin 128 => read_o m c t (ix2 (y 0) e) (inHead i e) h0 (hq e)
  have hg := fun e : Fin 128 => read_g m c t (ix2 (y 0) e) (inHead i e) h0 (hq e)
  have hz := fun e : Fin 128 => read_z m c t (ix2 (y 0) e) (zHead i e) h0 (congrArg (5120 + ·) (hq e))
  have hw := fun e : Fin 128 => read_w m c t e (ix2 0 e) rfl
  unfold dO
  rw [← read_sq m c t y i h0 h1, ← read_o m c t y i h0 h1, ← read_g m c t y i h0 h1, ← read_z m c t y (atZ i) h0 (congrArg (5120 + ·) h1),
    ← read_w m c t (y 1) (atW i) (show (i 1 : ℕ) % 128 = (y 1 : ℕ) by omega)]
  simp only [← hx, ← hg, ← hz, ← hw]

/-- What a point stores of the gradient of the gate, read where its block stands. -/
theorem point_z (t : Fin cfg0.N) (y : S512x128.Idx) (i : S2048x1024.Idx) (h0 : (i 0 : ℕ) = t.val / 8 * 512 + (y 0 : ℕ)) (h1 : (i 1 : ℕ) = t.val % 8 * 128 + (y 1 : ℕ)) :
    k0_pay7 (iblk m c 0 t) (iblk m c 1 t) (iblk m c 2 t) (iblk m c 3 t) y = dZ (m ((c : Thread nD τ).loc main_arg0)) (m ((c : Thread nD τ).loc main_arg1)) (m ((c : Thread nD τ).loc main_arg2)) (m ((c : Thread nD τ).loc main_arg3)) i := by
  have hy1 : (y 1 : ℕ) < 128 := (y 1).isLt
  refine (stored_z _ _ _ _ _).trans ?_
  unfold dZ
  rw [← read_sq m c t y i h0 h1, ← read_o m c t y i h0 h1, ← read_g m c t y i h0 h1, ← read_z m c t y (atZ i) h0 (congrArg (5120 + ·) h1),
    ← read_w m c t (y 1) (atW i) (show (i 1 : ℕ) % 128 = (y 1 : ℕ) by omega)]

/-- What a row of a point adds to the gradient of the weight. -/
def part (t : Fin cfg0.N) (e : Fin 128) (r : Fin 512) : EReal :=
  (show Vec Ideal S512x128 .f32 from iblk m c 3 t) (ix2 r e) * silu ((show Vec Ideal S512x128 .f32 from iblk m c 1 t) (ix2 r e))
    * ((show Vec Ideal S512x128 .f32 from iblk m c 0 t) (ix2 r e) * root (∑ k : Fin 128, (show Vec Ideal S512x128 .f32 from iblk m c 0 t) (ix2 r k) * (show Vec Ideal S512x128 .f32 from iblk m c 0 t) (ix2 r k)))

/-- The same, read in the arrays. -/
theorem part_eq (t : Fin cfg0.N) (e : Fin 128) (r : Fin 512) (q : Fin 2048) (h : Fin 8) (hq : (q : ℕ) = t.val / 8 * 512 + (r : ℕ)) (hh : (h : ℕ) = t.val % 8) :
    part m c t e r = give (m ((c : Thread nD τ).loc main_arg0)) (m ((c : Thread nD τ).loc main_arg1)) (m ((c : Thread nD τ).loc main_arg3)) e q h := by
  have h1 (k : Fin 128) : (h : ℕ) * 128 + (k : ℕ) = t.val % 8 * 128 + (k : ℕ) := by rw [hh]
  have hx := fun k : Fin 128 => read_o m c t (ix2 r k) (hd q h k) hq (h1 k)
  have hg := fun k : Fin 128 => read_g m c t (ix2 r k) (hd q h k) hq (h1 k)
  have hz := fun k : Fin 128 => read_z m c t (ix2 r k) (hz q h k) hq (congrArg (5120 + ·) (h1 k))
  unfold give part
  simp only [← hx, ← hg, ← hz]

/-- The contents of the two blocks a point writes. -/
theorem rows_at (t : Fin cfg0.N) (y : S512x128.Idx) :
    (outsAt0 m c t.val t.isLt).1 y = k0_pay2 (iblk m c 0 t) (iblk m c 1 t) (iblk m c 2 t) (iblk m c 3 t) (k0_pay5 (iblk m c 0 t)) (Scalar.ofBits .f32 0x00000000#32 : Ideal .f32) y
    ∧ (outsAt0 m c t.val t.isLt).2.1 y = k0_pay7 (iblk m c 0 t) (iblk m c 1 t) (iblk m c 2 t) (iblk m c 3 t) y := by
  have ht := (idx t).2.2.2.2.2.2.2
  by_cases h : t.val % 32 = 0
  · rw [outsAt0_A m c t h (by omega)]
    constructor <;> frame_out
  · rw [outsAt0_B m c t h (by omega)]
    constructor <;> frame_out

/-- The gradient of the normed array after the run. -/
theorem arr_o : (dats m 0 c).arrAt 4 cfg0.N = dO (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  refine ((rows_at m c t _).1).trans (point_o m c t _ _ ?_ ?_)
  all_goals (blk_simp [idx t] <;> try omega)

/-- The gradient of the gate after the run. -/
theorem arr_z : (dats m 0 c).arrAt 5 cfg0.N = dZ (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine ((rows_at m c t _).2).trans (point_z m c t _ _ ?_ ?_)
  all_goals (blk_simp [idx t] <;> try omega)

/-- What a point adds to the gradient of the weight. -/
def weightPart (t : Fin cfg0.N) (y : S1x128.Idx) : EReal := ∑ r : Fin 512, part m c t (y 1) r

/-- The running gradient of the weight at the first point. -/
theorem weight_first (t : Fin cfg0.N) (h : t.val % 32 = 0) (y : S1x128.Idx) :
    (outsAt0 m c t.val t.isLt).2.2 y = 0 + weightPart m c t y := by
  have ht := (idx t).2.2.2.2.2.2.2
  rw [outsAt0_A m c t h (by omega)]
  frame_out
  rw [zero_add]
  exact added _ _ _ _

/-- The running gradient of the weight at a later point. -/
theorem weight_next (t : Fin cfg0.N) (h : ¬t.val % 32 = 0) (y : S1x128.Idx) :
    (outsAt0 m c t.val t.isLt).2.2 y = (outsAt0 m c (t.val - 1) (Nat.lt_of_le_of_lt (Nat.sub_le _ _) t.isLt)).2.2 y + weightPart m c t y := by
  have e : ∀ (z g v : FVec Ideal S512x128 .f32) (k : Ideal .f32) (s : Vec Ideal S1x128 .f32), k0_pay4 z g v k s y = s y + k0_pay3 z g v k y := by
    intro z g v k s
    pointwise [k0_pay4]
  rw [outsAt0_B m c t h (by omega)]
  frame_out
  rw [e]
  exact congrArg _ (added _ _ _ _)

/-- The gradient of the weight after the run. -/
theorem arr_w : (dats m 0 c).arrAt 6 cfg0.N = dW (m ((c : Thread nD τ).loc main_arg0)) (m ((c : Thread nD τ).loc main_arg1)) (m ((c : Thread nD τ).loc main_arg3)) := by
  refine (dats m 0 c).arrAt_eq_of_covers 6 _ (by decide +kernel) fun t hf y => ?_
  blk_simp
  have ht := (flush0_6 t).mp hf
  have hl := (idx t).2.2.2.2.2.2.2
  rw [after0_6, Pipeline.eq_sum_fin_of_reset_step_apply_of_flush (fun n h => (outsAt0 m c n h).2.2) 32 (fun _ => 0) (weightPart m c)
    (fun t h j => weight_first m c t h j) (fun t h j => weight_next m c t h j) t ht _, zero_add]
  unfold weightPart dW
  refine (Fin.sum_divmod_congr (A := 4) (S := 8) (f := fun a s => ∑ r : Fin 512, give (m ((c : Thread nD τ).loc main_arg0)) (m ((c : Thread nD τ).loc main_arg1)) (m ((c : Thread nD τ).loc main_arg3)) (y 1) ⟨a.val * 512 + r.val, by omega⟩ s) fun s ha hs => ?_).trans ?_
  · refine Finset.sum_congr rfl fun r _ => ?_
    have e : 32 * (t.val / 32) + s.val = s.val := by omega
    refine (part_eq m c ⟨_, Pipeline.run_point_lt_of_flush t ht s⟩ _ r ⟨s.val / 8 * 512 + r.val, by omega⟩ ⟨s.val % 8, hs⟩ ?_ ?_).trans ?_
    · show s.val / 8 * 512 + r.val = (32 * (t.val / 32) + s.val) / 8 * 512 + r.val
      rw [e]
    · show s.val % 8 = (32 * (t.val / 32) + s.val) % 8
      rw [e]
    · refine congrArg (fun k => give (m ((c : Thread nD τ).loc main_arg0)) (m ((c : Thread nD τ).loc main_arg1)) (m ((c : Thread nD τ).loc main_arg3)) k _ _) (Fin.ext ?_)
      blk_simp [idx t]
  · refine (Finset.sum_congr rfl fun a _ => Finset.sum_comm).trans (Fin.sum_mul_add_congr fun a r hl' => ?_)
    refine Finset.sum_congr rfl fun s _ => ?_
    refine congrArg (fun k => give (m ((c : Thread nD τ).loc main_arg0)) (m ((c : Thread nD τ).loc main_arg1)) (m ((c : Thread nD τ).loc main_arg3)) k _ _) (Fin.ext ?_)
    blk_simp [idx t]

end Cert.KernelPbIdeal.Back

namespace Cert.Pb

/-- The shape relations the precondition states. -/
instance facts : Cert.Pre_finite_norm.Facts where
  bcast_S_S1x128 := by decide
  reducesTo_S1x128_S_d0_1 := by decide
  h_S_ := by decide
  bcast_S_S2048x1024 := by decide
  reducesTo_S2048x1024_S_d0_1 := by decide

end Cert.Pb

namespace Cert.Pb

open Idealize.ShloMosaic Idealize.ShloMosaic.TcCoe Idealize.SL.Sem
open Cert.KernelPbIdeal.Back
open Cert.KernelPfIdeal.Norm (inHead atZ atW root silu)

/-- The precondition makes the weight and the arriving gradient real. -/
theorem real_of_pre (a0 : FVec Ideal Cert.Pre_finite_norm.S2048x1024 .f32) (a1 : FVec Ideal Cert.Pre_finite_norm.S2048x10368 .f32) (a2 : FVec Ideal Cert.Pre_finite_norm.S1x128 .f32) (a3 : FVec Ideal Cert.Pre_finite_norm.S2048x1024 .f32)
    (h : Cert.Pre_finite_norm.fn (F := Ideal) a0 a1 a2 a3 = fun _ => 1#1) : (∀ i, Spec.Real (a2 i)) ∧ ∀ i, Spec.Real (a3 i) := by
  have h0 := congrFun h (Shape.Idx.first Cert.Pre_finite_norm.Facts.h_S_)
  unfold Cert.Pre_finite_norm.fn at h0
  obtain ⟨e0, e1⟩ := IntOp.andi_eq_one.1 h0
  exact ⟨Cert.Reals.real_of_all a2 _ _ _ e0, Cert.Reals.real_of_all a3 _ _ _ e1⟩

section Lead

variable {n0 n1 n2 : ℕ} {t : Shape}

/-- One axis is left when the first two of three are reduced. -/
theorem lead_lt (h : (⟨3, ![n0, n1, n2]⟩ : Shape).ReducesTo [0, 1] t) : 0 < t.rank := by
  have e : t.rank = 1 := h.1
  omega

/-- Its size is the third axis's. -/
theorem lead_size (h : (⟨3, ![n0, n1, n2]⟩ : Shape).ReducesTo [0, 1] t) : t.size ⟨0, lead_lt h⟩ = n2 := h.2 ⟨0, lead_lt h⟩

/-- The third coordinate of a place of the reduced array. -/
def third (h : (⟨3, ![n0, n1, n2]⟩ : Shape).ReducesTo [0, 1] t) (j : t.Idx) : Fin n2 := ⟨(j ⟨0, lead_lt h⟩).val, Shape.coordLt (j ⟨0, lead_lt h⟩) (lead_size h)⟩

/-- Reducing the first two axes of a rank-3 array: the places that drop to `j` are those whose last coordinate is `j`'s. -/
theorem drop_lead (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 (third h j) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e ⟨0, lead_lt h⟩)).symm
  · rintro ⟨k, rfl⟩
    funext b
    apply Fin.ext
    match b with
    | ⟨0, _⟩ => rfl
    | ⟨_ + 1, hb⟩ =>
      have e : t.rank = 1 := h.1
      omega

/-- The host's sum over the first two axes of a rank-3 array. -/
theorem sum_lead (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 (third h j)) := by
  unfold Ideal.hostReduceAdd
  rw [Finset.sum_filter_eq_sum_of_fiber _ (fun k : Fin n0 × Fin n1 => ix3 k.1 k.2 (third h j))
    (fun _ _ e => Prod.ext (congrFun e 0) (congrFun e 1)) (drop_lead h j) v]
  simp only [Fintype.sum_prod_type]

end Lead

/-- What the reference leaves. -/
theorem ref_run (m : (ℓ : Loc Cert.ReferencePbIdeal.nD Cert.ReferencePbIdeal.τ Cert.ReferencePbIdeal.sig) → Buf (Elt Ideal) ℓ) (g : Dev Cert.ReferencePbIdeal.nD → PrngReg) :
    θ_run Cert.ReferencePbIdeal.defs (onTc (τ := Cert.ReferencePbIdeal.τ) (Cert.ReferencePbIdeal.main (F := Ideal))) ⟨m, fun _ => 0, g⟩ (fun r => ∀ c : Dev Cert.ReferencePbIdeal.nD,
      r.2.mem ((c.tc : Thread Cert.ReferencePbIdeal.nD Cert.ReferencePbIdeal.τ).loc Cert.ReferencePbIdeal.main_v48) = chainO (m ((c.tc : Thread Cert.ReferencePbIdeal.nD Cert.ReferencePbIdeal.τ).loc Cert.ReferencePbIdeal.main_arg0)) (m ((c.tc : Thread Cert.ReferencePbIdeal.nD Cert.ReferencePbIdeal.τ).loc Cert.ReferencePbIdeal.main_arg1)) (m ((c.tc : Thread Cert.ReferencePbIdeal.nD Cert.ReferencePbIdeal.τ).loc Cert.ReferencePbIdeal.main_arg2)) (m ((c.tc : Thread Cert.ReferencePbIdeal.nD Cert.ReferencePbIdeal.τ).loc Cert.ReferencePbIdeal.main_arg3))
      ∧ r.2.mem ((c.tc : Thread Cert.ReferencePbIdeal.nD Cert.ReferencePbIdeal.τ).loc Cert.ReferencePbIdeal.main_v49) = chainZ (m ((c.tc : Thread Cert.ReferencePbIdeal.nD Cert.ReferencePbIdeal.τ).loc Cert.ReferencePbIdeal.main_arg0)) (m ((c.tc : Thread Cert.ReferencePbIdeal.nD Cert.ReferencePbIdeal.τ).loc Cert.ReferencePbIdeal.main_arg1)) (m ((c.tc : Thread Cert.ReferencePbIdeal.nD Cert.ReferencePbIdeal.τ).loc Cert.ReferencePbIdeal.main_arg2)) (m ((c.tc : Thread Cert.ReferencePbIdeal.nD Cert.ReferencePbIdeal.τ).loc Cert.ReferencePbIdeal.main_arg3))
      ∧ r.2.mem ((c.tc : Thread Cert.ReferencePbIdeal.nD Cert.ReferencePbIdeal.τ).loc Cert.ReferencePbIdeal.main_v33) = dW (m ((c.tc : Thread Cert.ReferencePbIdeal.nD Cert.ReferencePbIdeal.τ).loc Cert.ReferencePbIdeal.main_arg0)) (m ((c.tc : Thread Cert.ReferencePbIdeal.nD Cert.ReferencePbIdeal.τ).loc Cert.ReferencePbIdeal.main_arg1)) (m ((c.tc : Thread Cert.ReferencePbIdeal.nD Cert.ReferencePbIdeal.τ).loc Cert.ReferencePbIdeal.main_arg3))
      ∧ r.2.mem ((c.tc : Thread Cert.ReferencePbIdeal.nD Cert.ReferencePbIdeal.τ).loc Cert.ReferencePbIdeal.main_arg0) = m ((c.tc : Thread Cert.ReferencePbIdeal.nD Cert.ReferencePbIdeal.τ).loc Cert.ReferencePbIdeal.main_arg0)
      ∧ r.2.mem ((c.tc : Thread Cert.ReferencePbIdeal.nD Cert.ReferencePbIdeal.τ).loc Cert.ReferencePbIdeal.main_arg1) = m ((c.tc : Thread Cert.ReferencePbIdeal.nD Cert.ReferencePbIdeal.τ).loc Cert.ReferencePbIdeal.main_arg1)
      ∧ r.2.mem ((c.tc : Thread Cert.ReferencePbIdeal.nD Cert.ReferencePbIdeal.τ).loc Cert.ReferencePbIdeal.main_arg2) = m ((c.tc : Thread Cert.ReferencePbIdeal.nD Cert.ReferencePbIdeal.τ).loc Cert.ReferencePbIdeal.main_arg2)
      ∧ r.2.mem ((c.tc : Thread Cert.ReferencePbIdeal.nD Cert.ReferencePbIdeal.τ).loc Cert.ReferencePbIdeal.main_arg3) = m ((c.tc : Thread Cert.ReferencePbIdeal.nD Cert.ReferencePbIdeal.τ).loc Cert.ReferencePbIdeal.main_arg3)) := by
  refine (θ_run Cert.ReferencePbIdeal.defs _ _).mono (fun r h c => ⟨(h c).1.trans ?_, (h c).2.1.trans ?_, (h c).2.2.1.trans ?_, (h c).2.2.2⟩) (Cert.ReferencePbIdeal.Value.run m g)
  · unfold Cert.ReferencePbIdeal.Value.res_main_v48
    funext i
    unfold chainO share mean sumSq arrive zHead inHead atZ atW silu
    pointwise
    simp only [Fin.sum_univ_one]
  · funext i
    unfold chainZ sumSq gate inHead atZ atW root
    pointwise
  · funext i
    refine Eq.trans ?_ (Finset.sum_congr (M := EReal) rfl fun q _ => Finset.sum_congr rfl fun h _ => mul_comm _ _)
    unfold hd hz root silu
    pointwise [sum_lead]
    simp only [Fin.sum_univ_one]
    rfl

/-- One text, so one frame: the kernel's, at the machine's floats. -/
theorem frame_kernel : Cert.quiescent_KernelPb := by
  have h : Cert.quiescent_KernelPb = ∀ (m : (ℓ : Loc Cert.KernelPbIdeal.nD Cert.KernelPbIdeal.τ Cert.KernelPbIdeal.sig) → Buf (Elt Bits) ℓ) (g : Dev Cert.KernelPbIdeal.nD → PrngReg), True →
      θ_run (Cert.KernelPbIdeal.defs (F := Bits)) (onTc (τ := Cert.KernelPbIdeal.τ) (Cert.KernelPbIdeal.main (F := Bits))) ⟨m, fun _ => 0, g⟩ (fun r => (∀ c : Dev Cert.KernelPbIdeal.nD,
        r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
        ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1)
        ∧ r.2.mem ((c.tc : Thread Cert.KernelPbIdeal.nD Cert.KernelPbIdeal.τ).loc Cert.KernelPbIdeal.main_arg2) = m ((c.tc : Thread Cert.KernelPbIdeal.nD Cert.KernelPbIdeal.τ).loc Cert.KernelPbIdeal.main_arg2)
        ∧ r.2.mem ((c.tc : Thread Cert.KernelPbIdeal.nD Cert.KernelPbIdeal.τ).loc Cert.KernelPbIdeal.main_arg3) = m ((c.tc : Thread Cert.KernelPbIdeal.nD Cert.KernelPbIdeal.τ).loc Cert.KernelPbIdeal.main_arg3))
        ∧ r.2.sem = fun _ => 0) := by
    chain_rfl
  exact h.mpr fun m g _ => Cert.KernelPbIdeal.Gen.frame m g

/-- The ideal kernel's frame. -/
theorem frame_ideal : Cert.quiescent_KernelPbIdeal := fun m g _ => Cert.KernelPbIdeal.Gen.frame m g

/-- The reference's frame. -/
theorem frame_ref : Cert.quiescent_ReferencePbIdeal := fun m g _ =>
  (θ_run Cert.ReferencePbIdeal.defs _ _).mono (fun r h => ⟨fun c => (h c).2.2.2, sem_eq_zero_of_no_sems rfl _⟩) (Cert.ReferencePbIdeal.Value.run m g)

/-- The frames where the precondition holds. -/
theorem frame_ideal_pre : Cert.quiescent_KernelPbIdeal_pre_finite_norm := fun m g _ => Cert.KernelPbIdeal.Gen.frame m g

/-- The reference's. -/
theorem frame_ref_pre : Cert.quiescent_ReferencePbIdeal_pre_finite_norm := fun m g _ =>
  (θ_run Cert.ReferencePbIdeal.defs _ _).mono (fun r h => ⟨fun c => (h c).2.2.2, sem_eq_zero_of_no_sems rfl _⟩) (Cert.ReferencePbIdeal.Value.run m g)

/-- The two programs compute the same arrays, where the weight and the arriving gradient are finite. -/
theorem same : Cert.algebraic_KernelPbIdeal_ReferencePbIdeal_pre_finite_norm := fun m g m' g' hp h =>
  ⟨fun c => dO (m ((c.tc : Thread Cert.KernelPbIdeal.nD Cert.KernelPbIdeal.τ).loc Cert.KernelPbIdeal.main_arg0)) (m ((c.tc : Thread Cert.KernelPbIdeal.nD Cert.KernelPbIdeal.τ).loc Cert.KernelPbIdeal.main_arg1)) (m ((c.tc : Thread Cert.KernelPbIdeal.nD Cert.KernelPbIdeal.τ).loc Cert.KernelPbIdeal.main_arg2)) (m ((c.tc : Thread Cert.KernelPbIdeal.nD Cert.KernelPbIdeal.τ).loc Cert.KernelPbIdeal.main_arg3)), fun c => dZ (m ((c.tc : Thread Cert.KernelPbIdeal.nD Cert.KernelPbIdeal.τ).loc Cert.KernelPbIdeal.main_arg0)) (m ((c.tc : Thread Cert.KernelPbIdeal.nD Cert.KernelPbIdeal.τ).loc Cert.KernelPbIdeal.main_arg1)) (m ((c.tc : Thread Cert.KernelPbIdeal.nD Cert.KernelPbIdeal.τ).loc Cert.KernelPbIdeal.main_arg2)) (m ((c.tc : Thread Cert.KernelPbIdeal.nD Cert.KernelPbIdeal.τ).loc Cert.KernelPbIdeal.main_arg3)), fun c => dW (m ((c.tc : Thread Cert.KernelPbIdeal.nD Cert.KernelPbIdeal.τ).loc Cert.KernelPbIdeal.main_arg0)) (m ((c.tc : Thread Cert.KernelPbIdeal.nD Cert.KernelPbIdeal.τ).loc Cert.KernelPbIdeal.main_arg1)) (m ((c.tc : Thread Cert.KernelPbIdeal.nD Cert.KernelPbIdeal.τ).loc Cert.KernelPbIdeal.main_arg3)),
    (θ_run Cert.KernelPbIdeal.defs _ _).mono (fun r hr c => ⟨(hr c).1.trans (arr_o m c), (hr c).2.1.trans (arr_z m c), (hr c).2.2.1.trans (arr_w m c), (hr c).2.2.2⟩) (Cert.KernelPbIdeal.Value.run_blocks m g),
    (θ_run Cert.ReferencePbIdeal.defs _ _).mono (fun r hr c => by
      have hw := real_of_pre _ _ _ _ (hp c)
      refine ⟨(hr c).1.trans ?_, (hr c).2.1.trans ?_, (hr c).2.2.1.trans ?_, (hr c).2.2.2⟩
      · rw [(h c).1, (h c).2.1, (h c).2.2.1, (h c).2.2.2]
        exact chain_eq _ _ _ _
      · rw [(h c).1, (h c).2.1, (h c).2.2.1, (h c).2.2.2]
        exact chainZ_eq _ _ _ _ hw.1 hw.2
      · rw [(h c).1, (h c).2.1, (h c).2.2.2]) (ref_run m' g')⟩

end Cert.Pb

end
-- ==== Proof.Lb.lean ====
/- The backward call of the input norm: the kernel's blocks and running sum are the reference's gradients, over the extended reals. -/
module

public import proofs.«01_k».proof.Defs
public import proofs.«01_k».proof.Proof.Gen.KernelLb
public import proofs.«01_k».proof.Proof.Gen.KernelLbIdeal.Value
public import proofs.«01_k».proof.Proof.Gen.ReferenceLbIdeal.Run
public import proofs.«01_k».proof.Proof.Root
public import Idealize.ShloMosaic.Lib.Pointwise
public import Idealize.ShloMosaic.Lib.StableHlo.ReadAt
public import Idealize.ShloMosaic.Lib.Quiescent
public import Idealize.ShloMosaic.Lib.Pipeline.ValueKit

@[expose] public section

set_option maxRecDepth 16384

noncomputable section

namespace Cert.KernelLbIdeal.Back

open Cert.KernelLbIdeal Cert.KernelLbIdeal.Gen
open Idealize.ShloMosaic Idealize.ShloMosaic.TcCoe Idealize.SL.Sem
open Idealize.ShloMosaic.Pipeline (Dat)

/-- An array of rows. -/
abbrev Rows : Type := (⟨2, ![2048, 2048]⟩ : Shape).Idx → EReal
/-- The norm's weight. -/
abbrev Weight : Type := (⟨2, ![1, 2048]⟩ : Shape).Idx → EReal

/-- The mean square of a row, with the small constant. -/
def square (x : Rows) (p : Fin 2048) : EReal := Ideal.div (∑ e : Fin 2048, x (ix2 p e) * x (ix2 p e)) (Ideal.ofBits .f32 0x45000000#32) + Ideal.ofBits .f32 0x358637BD#32

/-- The inverse root of a row's mean square. -/
def root (x : Rows) (p : Fin 2048) : EReal := Ideal.rsqrt (square x p)

/-- The gradient through the norm in closed form, added to what the stream's gradient already carries. -/
def through (d o r t s : EReal) : EReal := d + r * t - o * (r * r * r) * Ideal.div s (Ideal.ofBits .f32 0x45000000#32)

/-- The gradient of the stream, at each place. -/
def dX (x : Rows) (w : Weight) (g d : Rows) : Rows := fun i =>
  through (d i) (x i) (root x (i 0)) (g i * w (ix2 0 (i 1))) (∑ k : Fin 2048, g (ix2 (i 0) k) * w (ix2 0 k) * x (ix2 (i 0) k))

/-- What a row gives to the gradient of the weight. -/
def give (x g : Rows) (e : Fin 2048) (p : Fin 2048) : EReal := g (ix2 p e) * x (ix2 p e) * root x p

/-- The gradient of the weight, at each place. -/
def dW (x g : Rows) : Weight := fun i => ∑ p : Fin 2048, give x g (i 1) p

/-- The same with the factors in the order of the chain rule. -/
theorem dW_eq (x g : Rows) (i : (⟨2, ![1, 2048]⟩ : Shape).Idx) : dW x g i = ∑ p : Fin 2048, x (ix2 p (i 1)) * root x p * g (ix2 p (i 1)) := by
  refine Finset.sum_congr rfl fun p _ => ?_
  unfold give
  rw [mul_comm (g (ix2 p (i 1))), mul_right_comm]

/-- The gradient of the mean square's share of a place, by the chain rule. -/
def share (x : Rows) (w : Weight) (g : Rows) (p : Fin 2048) : EReal :=
  Ideal.div ((∑ k : Fin 2048, x (ix2 p k) * (g (ix2 p k) * w (ix2 0 k))) * (Ideal.ofBits .f32 0xBF000000#32 * Ideal.div (root x p) (square x p))) (Ideal.ofBits .f32 0x45000000#32)

/-- The gradient of the stream by the chain rule. -/
def chain (x : Rows) (w : Weight) (g d : Rows) : Rows := fun i =>
  d i + (g i * w (ix2 0 (i 1)) * root x (i 0) + x i * share x w g (i 0) + share x w g (i 0) * x i)

/-- The chain rule's is the closed form. -/
theorem chain_eq (x : Rows) (w : Weight) (g d : Rows) : chain x w g d = dX x w g d := by
  funext i
  have h := Root.norm_back 2048 (by norm_num) (∑ e : Fin 2048, x (ix2 (i 0) e) * x (ix2 (i 0) e)) (Finset.sum_nonneg fun k _ => Root.sq_nonneg _) (x i) (g i * w (ix2 0 (i 1)))
    (∑ k : Fin 2048, x (ix2 (i 0) k) * (g (ix2 (i 0) k) * w (ix2 0 k)))
  rw [← Root.w2048] at h
  unfold dX through
  rw [Finset.sum_congr rfl fun k _ => mul_comm (g (ix2 (i 0) k) * w (ix2 0 k)) (x (ix2 (i 0) k)), sub_eq_add_neg, add_assoc, ← sub_eq_add_neg]
  exact congrArg (d i + ·) h.symm

variable (m : (ℓ : Loc nD τ sig) → Buf (Elt Ideal) ℓ) (c : Dev nD)

/-- The blocks of a point. -/
theorem idx : ∀ t : Fin grid0.N, win0_0.index t = ![t.val, 0] ∧ win0_1.index t = ![t.val, 0] ∧ win0_2.index t = ![0, 0] ∧ win0_3.index t = ![t.val, 0]
    ∧ win0_4.index t = ![t.val, 0] ∧ win0_5.index t = ![t.val, 0] ∧ win0_6.index t = ![0, 0] ∧ t.val < 8 := by
  decide +kernel

/-- What a point stores of the gradient of the stream. -/
theorem stored (x : Vec Ideal S256x2048 .f32) (r : Vec Ideal S256x1 .f32) (g : Vec Ideal S256x2048 .f32) (w : Vec Ideal S1x2048 .f32) (d : Vec Ideal S256x2048 .f32) (y : S256x2048.Idx) :
    k0_pay2 x r g w d y = through (d y) (x y) (r (ix2 (y 0) 0)) (g y * w (ix2 0 (y 1))) (∑ k : Fin 2048, g (ix2 (y 0) k) * w (ix2 0 k) * x (ix2 (y 0) k)) := by
  unfold through
  pointwise [k0_pay2, k0_pay1]

/-- What a point adds to the gradient of the weight. -/
theorem added (x : Vec Ideal S256x2048 .f32) (r : Vec Ideal S256x1 .f32) (g : Vec Ideal S256x2048 .f32) (y : S1x2048.Idx) :
    k0_pay3 x r g y = ∑ q : Fin 256, g (ix2 q (y 1)) * x (ix2 q (y 1)) * r (ix2 q 0) := by
  pointwise [k0_pay3, k0_pay1]

/-- The roots that the host saves. -/
theorem saved (p : Fin 2048) : V m c main_v7 (ix2 p 0) = root (m ((c : Thread nD τ).loc main_arg0)) p := by
  show StableHlo.after hostOps0 _ _ _ = _
  unfold hostOps0 root square
  after_reads_at

/-- The stream of a point, read where its block stands. -/
theorem read_x (t : Fin cfg0.N) (j : S256x2048.Idx) (k : S2048x2048.Idx) (h0 : (k 0 : ℕ) = t.val * 256 + (j 0 : ℕ)) (h1 : (k 1 : ℕ) = (j 1 : ℕ)) :
    (show Vec Ideal S256x2048 .f32 from iblk m c 0 t) j = (m ((c : Thread nD τ).loc main_arg0)) k := by
  rw [← V_main_arg0 m c]
  show iblk m c 0 t j = _
  blk_point [iblk, idx t]

/-- The roots of a point. -/
theorem read_r (t : Fin cfg0.N) (q : Fin 256) (p : Fin 2048) (h : (p : ℕ) = t.val * 256 + (q : ℕ)) :
    (show Vec Ideal S256x1 .f32 from iblk m c 1 t) (ix2 q 0) = root (m ((c : Thread nD τ).loc main_arg0)) p := by
  have e : (show Vec Ideal S256x1 .f32 from iblk m c 1 t) (ix2 q 0) = V m c main_v7 (ix2 p 0) := by
    show iblk m c 1 t (ix2 q 0) = _
    blk_point [iblk, idx t]
  exact e.trans (saved m c p)

/-- The weight of a point. -/
theorem read_w (t : Fin cfg0.N) (e : Fin 2048) : (show Vec Ideal S1x2048 .f32 from iblk m c 2 t) (ix2 0 e) = (m ((c : Thread nD τ).loc main_arg1)) (ix2 0 e) := by
  rw [← V_main_arg1 m c]
  show iblk m c 2 t (ix2 0 e) = _
  blk_point [iblk, idx t]

/-- The arriving gradient of a point, read where its block stands. -/
theorem read_g (t : Fin cfg0.N) (j : S256x2048.Idx) (k : S2048x2048.Idx) (h0 : (k 0 : ℕ) = t.val * 256 + (j 0 : ℕ)) (h1 : (k 1 : ℕ) = (j 1 : ℕ)) :
    (show Vec Ideal S256x2048 .f32 from iblk m c 3 t) j = (m ((c : Thread nD τ).loc main_arg2)) k := by
  rw [← V_main_arg2 m c]
  show iblk m c 3 t j = _
  blk_point [iblk, idx t]

/-- What the stream's gradient already carries, read where a point's block stands. -/
theorem read_d (t : Fin cfg0.N) (j : S256x2048.Idx) (k : S2048x2048.Idx) (h0 : (k 0 : ℕ) = t.val * 256 + (j 0 : ℕ)) (h1 : (k 1 : ℕ) = (j 1 : ℕ)) :
    (show Vec Ideal S256x2048 .f32 from iblk m c 4 t) j = (m ((c : Thread nD τ).loc main_arg3)) k := by
  rw [← V_main_arg3 m c]
  show iblk m c 4 t j = _
  blk_point [iblk, idx t]

/-- What a point stores of the gradient of the stream, read where its block stands. -/
theorem point (t : Fin cfg0.N) (y : S256x2048.Idx) (i : S2048x2048.Idx) (h0 : (i 0 : ℕ) = t.val * 256 + (y 0 : ℕ)) (h1 : (i 1 : ℕ) = (y 1 : ℕ)) :
    k0_pay2 (iblk m c 0 t) (iblk m c 1 t) (iblk m c 3 t) (iblk m c 2 t) (iblk m c 4 t) y = dX (m ((c : Thread nD τ).loc main_arg0)) (m ((c : Thread nD τ).loc main_arg1)) (m ((c : Thread nD τ).loc main_arg2)) (m ((c : Thread nD τ).loc main_arg3)) i := by
  refine (stored _ _ _ _ _ _).trans ?_
  have ex := read_x m c t y i h0 h1
  have er := read_r m c t (y 0) (i 0) h0
  have eg := read_g m c t y i h0 h1
  have ed := read_d m c t y i h0 h1
  have ew := read_w m c t (y 1)
  have e1 : (y 1 : Fin 2048) = i 1 := Fin.ext h1.symm
  have exk : ∀ k : Fin 2048, (show Vec Ideal S256x2048 .f32 from iblk m c 0 t) (ix2 (y 0) k) = (m ((c : Thread nD τ).loc main_arg0)) (ix2 (i 0) k) := fun k => read_x m c t _ _ h0 rfl
  have egk : ∀ k : Fin 2048, (show Vec Ideal S256x2048 .f32 from iblk m c 3 t) (ix2 (y 0) k) = (m ((c : Thread nD τ).loc main_arg2)) (ix2 (i 0) k) := fun k => read_g m c t _ _ h0 rfl
  have ewk : ∀ k : Fin 2048, (show Vec Ideal S1x2048 .f32 from iblk m c 2 t) (ix2 0 k) = (m ((c : Thread nD τ).loc main_arg1)) (ix2 0 k) := fun k => read_w m c t k
  have es : (∑ k : Fin 2048, (show Vec Ideal S256x2048 .f32 from iblk m c 3 t) (ix2 (y 0) k) * (show Vec Ideal S1x2048 .f32 from iblk m c 2 t) (ix2 0 k) * (show Vec Ideal S256x2048 .f32 from iblk m c 0 t) (ix2 (y 0) k))
      = ∑ k : Fin 2048, (show Rows from (m ((c : Thread nD τ).loc main_arg2))) (ix2 (i 0) k) * (show Weight from (m ((c : Thread nD τ).loc main_arg1))) (ix2 0 k) * (show Rows from (m ((c : Thread nD τ).loc main_arg0))) (ix2 (i 0) k) :=
    Finset.sum_congr rfl fun k _ => congrArg₂ (· * ·) (congrArg₂ (· * ·) (egk k) (ewk k)) (exk k)
  have ew' : (show Vec Ideal S1x2048 .f32 from iblk m c 2 t) (ix2 0 (y 1)) = (m ((c : Thread nD τ).loc main_arg1)) (ix2 0 (i 1)) := ew.trans (congrArg (fun k : Fin 2048 => (m ((c : Thread nD τ).loc main_arg1)) (ix2 0 k)) e1)
  have et := congrArg₂ (· * ·) eg ew'
  unfold dX
  exact (congr (congr (congr (congr (congrArg through ed) ex) er) et) es)

/-- The gradient of the stream after a point. -/
theorem rows_at (t : Fin cfg0.N) (y : S256x2048.Idx) : (outsAt0 m c t.val t.isLt).1 y = k0_pay2 (iblk m c 0 t) (iblk m c 1 t) (iblk m c 3 t) (iblk m c 2 t) (iblk m c 4 t) y := by
  have ht := (idx t).2.2.2.2.2.2.2
  by_cases h : t.val % 8 = 0
  · rw [outsAt0_A m c t h (by omega)]
    frame_out
  · rw [outsAt0_B m c t h (by omega)]
    frame_out

/-- The gradient of the stream after the run. -/
theorem arr : (dats m 0 c).arrAt 5 cfg0.N = dX (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine (rows_at m c t _).trans (point m c t _ _ ?_ ?_)
  all_goals (blk_simp [idx t] <;> try omega)

/-- What a point adds to the gradient of the weight. -/
def weightPart (t : Fin cfg0.N) (y : S1x2048.Idx) : EReal := k0_pay3 (iblk m c 0 t) (iblk m c 1 t) (iblk m c 3 t) y

/-- It is its rows' share. -/
theorem weightPart_eq (t : Fin cfg0.N) (y : S1x2048.Idx) : weightPart m c t y = ∑ q : Fin 256, give (m ((c : Thread nD τ).loc main_arg0)) (m ((c : Thread nD τ).loc main_arg2)) (y 1) ⟨t.val * 256 + q.val, by have := (idx t).2.2.2.2.2.2.2; omega⟩ := by
  refine (added _ _ _ _).trans (Finset.sum_congr rfl fun q _ => ?_)
  exact congrArg₂ (· * ·) (congrArg₂ (· * ·) (read_g m c t _ _ rfl rfl) (read_x m c t _ _ rfl rfl)) (read_r m c t q _ rfl)

/-- The running gradient of the weight at the first point. -/
theorem weight_first (t : Fin cfg0.N) (h : t.val % 8 = 0) (y : S1x2048.Idx) :
    (outsAt0 m c t.val t.isLt).2 y = 0 + weightPart m c t y := by
  have ht := (idx t).2.2.2.2.2.2.2
  rw [outsAt0_A m c t h (by omega)]
  frame_out
  rw [zero_add]
  rfl

/-- The running gradient of the weight at a later point. -/
theorem weight_next (t : Fin cfg0.N) (h : ¬t.val % 8 = 0) (y : S1x2048.Idx) :
    (outsAt0 m c t.val t.isLt).2 y = (outsAt0 m c (t.val - 1) (Nat.lt_of_le_of_lt (Nat.sub_le _ _) t.isLt)).2 y + weightPart m c t y := by
  have e : ∀ (x : Vec Ideal S256x2048 .f32) (r : Vec Ideal S256x1 .f32) (g : Vec Ideal S256x2048 .f32) (s : Vec Ideal S1x2048 .f32), k0_pay4 x r g s y = s y + k0_pay3 x r g y := by
    intro x r g s
    pointwise [k0_pay4]
  rw [outsAt0_B m c t h (by omega)]
  frame_out
  rw [e]
  rfl

/-- The gradient of the weight after the run. -/
theorem arr_w : (dats m 0 c).arrAt 6 cfg0.N = dW (m ((c : Thread nD τ).loc main_arg0)) (m ((c : Thread nD τ).loc main_arg2)) := by
  refine (dats m 0 c).arrAt_eq_of_covers 6 _ (by decide +kernel) fun t hf y => ?_
  blk_simp
  have ht := (flush0_6 t).mp hf
  have hl := (idx t).2.2.2.2.2.2.2
  rw [after0_6, Pipeline.eq_sum_fin_of_reset_step_apply_of_flush (fun n h => (outsAt0 m c n h).2) 8 (fun _ => 0) (weightPart m c)
    (fun t h j => weight_first m c t h j) (fun t h j => weight_next m c t h j) t ht _, zero_add]
  unfold dW
  refine (Finset.sum_congr rfl fun s _ => weightPart_eq m c _ _).trans (Fin.sum_mul_add_congr fun s k hl' => ?_)
  have hs : 8 * (t.val / 8) + s.val = s.val := by omega
  refine congrArg₂ (give (m ((c : Thread nD τ).loc main_arg0)) (m ((c : Thread nD τ).loc main_arg2))) (Fin.ext ?_) (Fin.ext ?_)
  · blk_simp [idx t]
  · show (8 * (t.val / 8) + s.val) * 256 + k.val = s.val * 256 + k.val
    rw [hs]

end Cert.KernelLbIdeal.Back

namespace Cert.Lb

open Idealize.ShloMosaic Idealize.ShloMosaic.TcCoe Idealize.SL.Sem
open Cert.KernelLbIdeal.Back

/-- What the reference leaves. -/
theorem ref_run (m : (ℓ : Loc Cert.ReferenceLbIdeal.nD Cert.ReferenceLbIdeal.τ Cert.ReferenceLbIdeal.sig) → Buf (Elt Ideal) ℓ) (g : Dev Cert.ReferenceLbIdeal.nD → PrngReg) :
    θ_run Cert.ReferenceLbIdeal.defs (onTc (τ := Cert.ReferenceLbIdeal.τ) (Cert.ReferenceLbIdeal.main (F := Ideal))) ⟨m, fun _ => 0, g⟩ (fun r => ∀ c : Dev Cert.ReferenceLbIdeal.nD,
      r.2.mem ((c.tc : Thread Cert.ReferenceLbIdeal.nD Cert.ReferenceLbIdeal.τ).loc Cert.ReferenceLbIdeal.main_v34) = chain (m ((c.tc : Thread Cert.ReferenceLbIdeal.nD Cert.ReferenceLbIdeal.τ).loc Cert.ReferenceLbIdeal.main_arg0)) (m ((c.tc : Thread Cert.ReferenceLbIdeal.nD Cert.ReferenceLbIdeal.τ).loc Cert.ReferenceLbIdeal.main_arg1)) (m ((c.tc : Thread Cert.ReferenceLbIdeal.nD Cert.ReferenceLbIdeal.τ).loc Cert.ReferenceLbIdeal.main_arg2)) (m ((c.tc : Thread Cert.ReferenceLbIdeal.nD Cert.ReferenceLbIdeal.τ).loc Cert.ReferenceLbIdeal.main_arg3))
      ∧ r.2.mem ((c.tc : Thread Cert.ReferenceLbIdeal.nD Cert.ReferenceLbIdeal.τ).loc Cert.ReferenceLbIdeal.main_v17) = dW (m ((c.tc : Thread Cert.ReferenceLbIdeal.nD Cert.ReferenceLbIdeal.τ).loc Cert.ReferenceLbIdeal.main_arg0)) (m ((c.tc : Thread Cert.ReferenceLbIdeal.nD Cert.ReferenceLbIdeal.τ).loc Cert.ReferenceLbIdeal.main_arg2))
      ∧ r.2.mem ((c.tc : Thread Cert.ReferenceLbIdeal.nD Cert.ReferenceLbIdeal.τ).loc Cert.ReferenceLbIdeal.main_arg0) = m ((c.tc : Thread Cert.ReferenceLbIdeal.nD Cert.ReferenceLbIdeal.τ).loc Cert.ReferenceLbIdeal.main_arg0)
      ∧ r.2.mem ((c.tc : Thread Cert.ReferenceLbIdeal.nD Cert.ReferenceLbIdeal.τ).loc Cert.ReferenceLbIdeal.main_arg1) = m ((c.tc : Thread Cert.ReferenceLbIdeal.nD Cert.ReferenceLbIdeal.τ).loc Cert.ReferenceLbIdeal.main_arg1)
      ∧ r.2.mem ((c.tc : Thread Cert.ReferenceLbIdeal.nD Cert.ReferenceLbIdeal.τ).loc Cert.ReferenceLbIdeal.main_arg2) = m ((c.tc : Thread Cert.ReferenceLbIdeal.nD Cert.ReferenceLbIdeal.τ).loc Cert.ReferenceLbIdeal.main_arg2)
      ∧ r.2.mem ((c.tc : Thread Cert.ReferenceLbIdeal.nD Cert.ReferenceLbIdeal.τ).loc Cert.ReferenceLbIdeal.main_arg3) = m ((c.tc : Thread Cert.ReferenceLbIdeal.nD Cert.ReferenceLbIdeal.τ).loc Cert.ReferenceLbIdeal.main_arg3)) := by
  refine (θ_run Cert.ReferenceLbIdeal.defs _ _).mono (fun r h c => ⟨(h c).1.trans ?_, (h c).2.1.trans ?_, (h c).2.2⟩) (Cert.ReferenceLbIdeal.Value.run m g)
  · funext i
    unfold chain share root square
    pointwise
    simp only [Fin.sum_univ_one]
  · funext i
    rw [dW_eq]
    unfold root square
    pointwise

/-- One text, so one frame: the kernel's, at the machine's floats. -/
theorem frame_kernel : Cert.quiescent_KernelLb := by
  have h : Cert.quiescent_KernelLb = ∀ (m : (ℓ : Loc Cert.KernelLbIdeal.nD Cert.KernelLbIdeal.τ Cert.KernelLbIdeal.sig) → Buf (Elt Bits) ℓ) (g : Dev Cert.KernelLbIdeal.nD → PrngReg), True →
      θ_run (Cert.KernelLbIdeal.defs (F := Bits)) (onTc (τ := Cert.KernelLbIdeal.τ) (Cert.KernelLbIdeal.main (F := Bits))) ⟨m, fun _ => 0, g⟩ (fun r => (∀ c : Dev Cert.KernelLbIdeal.nD,
        r.2.mem ((c.tc : Thread Cert.KernelLbIdeal.nD Cert.KernelLbIdeal.τ).loc Cert.KernelLbIdeal.main_arg0) = m ((c.tc : Thread Cert.KernelLbIdeal.nD Cert.KernelLbIdeal.τ).loc Cert.KernelLbIdeal.main_arg0)
        ∧ r.2.mem ((c.tc : Thread Cert.KernelLbIdeal.nD Cert.KernelLbIdeal.τ).loc Cert.KernelLbIdeal.main_arg1) = m ((c.tc : Thread Cert.KernelLbIdeal.nD Cert.KernelLbIdeal.τ).loc Cert.KernelLbIdeal.main_arg1)
        ∧ r.2.mem ((c.tc : Thread Cert.KernelLbIdeal.nD Cert.KernelLbIdeal.τ).loc Cert.KernelLbIdeal.main_arg2) = m ((c.tc : Thread Cert.KernelLbIdeal.nD Cert.KernelLbIdeal.τ).loc Cert.KernelLbIdeal.main_arg2)
        ∧ r.2.mem ((c.tc : Thread Cert.KernelLbIdeal.nD Cert.KernelLbIdeal.τ).loc Cert.KernelLbIdeal.main_arg3) = m ((c.tc : Thread Cert.KernelLbIdeal.nD Cert.KernelLbIdeal.τ).loc Cert.KernelLbIdeal.main_arg3))
        ∧ r.2.sem = fun _ => 0) := by
    chain_rfl
  exact h.mpr fun m g _ => Cert.KernelLbIdeal.Gen.frame m g

/-- The ideal kernel's frame. -/
theorem frame_ideal : Cert.quiescent_KernelLbIdeal := fun m g _ => Cert.KernelLbIdeal.Gen.frame m g

/-- The reference's frame. -/
theorem frame_ref : Cert.quiescent_ReferenceLbIdeal := fun m g _ =>
  (θ_run Cert.ReferenceLbIdeal.defs _ _).mono (fun r h => ⟨fun c => (h c).2.2, sem_eq_zero_of_no_sems rfl _⟩) (Cert.ReferenceLbIdeal.Value.run m g)

/-- The two programs compute the same arrays. -/
theorem same : Cert.algebraic_KernelLbIdeal_ReferenceLbIdeal := fun m g m' g' _ h =>
  ⟨fun c => dX (m ((c.tc : Thread Cert.KernelLbIdeal.nD Cert.KernelLbIdeal.τ).loc Cert.KernelLbIdeal.main_arg0)) (m ((c.tc : Thread Cert.KernelLbIdeal.nD Cert.KernelLbIdeal.τ).loc Cert.KernelLbIdeal.main_arg1)) (m ((c.tc : Thread Cert.KernelLbIdeal.nD Cert.KernelLbIdeal.τ).loc Cert.KernelLbIdeal.main_arg2)) (m ((c.tc : Thread Cert.KernelLbIdeal.nD Cert.KernelLbIdeal.τ).loc Cert.KernelLbIdeal.main_arg3)), fun c => dW (m ((c.tc : Thread Cert.KernelLbIdeal.nD Cert.KernelLbIdeal.τ).loc Cert.KernelLbIdeal.main_arg0)) (m ((c.tc : Thread Cert.KernelLbIdeal.nD Cert.KernelLbIdeal.τ).loc Cert.KernelLbIdeal.main_arg2)),
    (θ_run Cert.KernelLbIdeal.defs _ _).mono (fun r hr c => ⟨(hr c).1.trans (arr m c), (hr c).2.1.trans (arr_w m c), (hr c).2.2⟩) (Cert.KernelLbIdeal.Value.run_blocks m g),
    (θ_run Cert.ReferenceLbIdeal.defs _ _).mono (fun r hr c => by
      refine ⟨(hr c).1.trans ?_, (hr c).2.1.trans ?_, (hr c).2.2⟩
      · rw [(h c).1, (h c).2.1, (h c).2.2.1, (h c).2.2.2]
        exact chain_eq _ _ _ _
      · rw [(h c).1, (h c).2.2.1]) (ref_run m' g')⟩

end Cert.Lb

end
-- ==== Proof.lean ====
/- The claims, assembled. -/
module

public import proofs.«01_k».proof.Defs
public import proofs.«01_k».proof.Proof.Gen.Kernel
public import proofs.«01_k».proof.Proof.Frames
public import proofs.«01_k».proof.Proof.KerVal
public import proofs.«01_k».proof.Proof.RefVal
public import proofs.«01_k».proof.Proof.Finite
public import proofs.«01_k».proof.Proof.In
public import proofs.«01_k».proof.Proof.Dw
public import proofs.«01_k».proof.Proof.Dh
public import proofs.«01_k».proof.Proof.Mf
public import proofs.«01_k».proof.Proof.Mb
public import proofs.«01_k».proof.Proof.Wo
public import proofs.«01_k».proof.Proof.Su
public import proofs.«01_k».proof.Proof.Du
public import proofs.«01_k».proof.Proof.So
public import proofs.«01_k».proof.Proof.Do
public import proofs.«01_k».proof.Proof.Pf
public import proofs.«01_k».proof.Proof.Fi
public import proofs.«01_k».proof.Proof.Sf
public import proofs.«01_k».proof.Proof.Lf
public import proofs.«01_k».proof.Proof.Pb
public import proofs.«01_k».proof.Proof.Lb

@[expose] public section

noncomputable section

namespace Cert.Proof

open Idealize.ShloMosaic Idealize.SL.Sem

/-- The ideal program's frame, read at the machine's floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The two programs have one text, so the kernel's frame is that statement. -/
theorem frame_same : Cert.quiescent_Kernel = FrameAtBits := by
  chain_rfl

/-- The kernel's frame at the machine's floats. -/
theorem frame_kernel : Cert.quiescent_Kernel :=
  frame_same.mpr fun m g _ => Cert.Frames.kernel_frame (F := Bits) m g

/-- The ideal kernel's frame. -/
theorem frame_ideal : Cert.quiescent_KernelIdeal := fun m g _ => Cert.Frames.kernel_frame (F := Ideal) m g

/-- The reference's frame. -/
theorem frame_ref : Cert.quiescent_ReferenceIdeal := fun m g _ => Cert.Frames.ref_frame (F := Ideal) m g

/-- Memories that agree on the arguments give the two programs one set of arguments. -/
theorem args_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.RefProof.args m' c = args m c := by
  obtain ⟨h0, h1, h2, h3, h4, h5, h6⟩ := h
  unfold Cert.RefProof.args args
  rw [h0, h1, h2, h3, h4, h5, h6]

/-- The precondition makes the arguments real. -/
theorem args_real (m : (ℓ : Loc Cert.KernelIdeal.nD Cert.KernelIdeal.τ Cert.KernelIdeal.sig) → Buf (Elt Ideal) ℓ) (h : Cert.Pre_KernelIdeal_finite m)
    (c : Dev Cert.KernelIdeal.nD) : Spec.Finite (args m c) :=
  Cert.Reals.finite_of_pre _ _ _ _ _ _ _ (h c)

/-- The two programs compute the same gradients from real arguments. -/
theorem same_results : Cert.algebraic_KernelIdeal_ReferenceIdeal_pre_finite := fun m g m' g' hp h =>
  ⟨fun c => Spec.colsOf fun n => Spec.dv (args m c) (31 - n), fun c => Spec.colsOf fun n => Spec.dw (args m c) (31 - n),
    fun c => Spec.colsOf fun n => Spec.dqd (args m c) (31 - n), fun c => Spec.colsOf fun n => Spec.dkd (args m c) (31 - n),
    fun c => Spec.fourOf fun n => Spec.dqk (args m c) (31 - n), fun c => Spec.fourOf (p := 8) (q := 128) fun n h _ _ => Spec.dgl (args m c) (31 - n) h,
    (θ_run Cert.KernelIdeal.defs _ _).mono (fun r hr c =>
      ⟨(hr.1 c _ rfl).trans ((B3_0 m c).trans (R1.du_eq m c)), (hr.1 c _ rfl).trans ((B3_1 m c).trans (R1.dw_eq m c)),
        (hr.1 c _ rfl).trans ((B3_2 m c).trans (R1.dqd_eq m c)), (hr.1 c _ rfl).trans ((B3_3 m c).trans (R1.dkd_eq m c)),
        (hr.1 c _ rfl).trans ((B3_4 m c).trans (R1.dqk_eq m c)), (hr.1 c _ rfl).trans ((B3_5 m c).trans (R1.dgl_eq m c)),
        Cert.Frames.kernel_args m c r.2 (hr.1 c)⟩) (run_main m g),
    (θ_run Cert.ReferenceIdeal.defs _ _).mono (fun r hr c => by
      have e := args_same m m' c (h c)
      have hA : Spec.Finite (Cert.RefProof.args m' c) := e ▸ args_real m hp c
      refine ⟨?_, ?_, ?_, ?_, ?_, ?_, Cert.Frames.ref_args m' c r.2 (hr.1 c)⟩
      · exact (hr.1 c _ rfl).trans ((Cert.RefProof.last_du m' c hA).trans (congrArg (fun A => Spec.colsOf fun n => Spec.dv A (31 - n)) e))
      · exact (hr.1 c _ rfl).trans ((Cert.RefProof.last_dw m' c hA).trans (congrArg (fun A => Spec.colsOf fun n => Spec.dw A (31 - n)) e))
      · exact (hr.1 c _ rfl).trans ((Cert.RefProof.last_dqd m' c hA).trans (congrArg (fun A => Spec.colsOf fun n => Spec.dqd A (31 - n)) e))
      · exact (hr.1 c _ rfl).trans ((Cert.RefProof.last_dkd m' c hA).trans (congrArg (fun A => Spec.colsOf fun n => Spec.dkd A (31 - n)) e))
      · exact (hr.1 c _ rfl).trans ((Cert.RefProof.last_dqk m' c hA).trans (congrArg (fun A => Spec.fourOf fun n => Spec.dqk A (31 - n)) e))
      · exact (hr.1 c _ rfl).trans ((Cert.RefProof.last_dgl m' c hA).trans (congrArg (fun A => Spec.fourOf (p := 8) (q := 128) fun n h _ _ => Spec.dgl A (31 - n) h) e))) (Cert.RefProof.run_ref m' g')⟩

/-- Everything claimed. -/
theorem claim : Cert.Claim := ⟨Cert.Kernel.Gen.facts, Cert.KernelIdeal.Gen.facts, Cert.ReferenceIdeal.Gen.facts,
  Cert.KernelIn.Gen.facts, Cert.KernelInIdeal.Gen.facts, Cert.ReferenceInIdeal.Gen.facts, Cert.KernelDw.Gen.facts, Cert.KernelDwIdeal.Gen.facts, Cert.ReferenceDwIdeal.Gen.facts, Cert.KernelDh.Gen.facts, Cert.KernelDhIdeal.Gen.facts, Cert.ReferenceDhIdeal.Gen.facts, Cert.KernelMf.Gen.facts, Cert.KernelMfIdeal.Gen.facts, Cert.ReferenceMfIdeal.Gen.facts, Cert.KernelMb.Gen.facts, Cert.KernelMbIdeal.Gen.facts, Cert.ReferenceMbIdeal.Gen.facts, Cert.KernelWo.Gen.facts, Cert.KernelWoIdeal.Gen.facts, Cert.ReferenceWoIdeal.Gen.facts, Cert.KernelSu.Gen.facts, Cert.KernelSuIdeal.Gen.facts, Cert.ReferenceSuIdeal.Gen.facts, Cert.KernelDu.Gen.facts, Cert.KernelDuIdeal.Gen.facts, Cert.ReferenceDuIdeal.Gen.facts, Cert.KernelSo.Gen.facts, Cert.KernelSoIdeal.Gen.facts, Cert.ReferenceSoIdeal.Gen.facts, Cert.KernelDo.Gen.facts, Cert.KernelDoIdeal.Gen.facts, Cert.ReferenceDoIdeal.Gen.facts, Cert.KernelPf.Gen.facts, Cert.KernelPfIdeal.Gen.facts, Cert.ReferencePfIdeal.Gen.facts, Cert.KernelFi.Gen.facts, Cert.KernelFiIdeal.Gen.facts, Cert.ReferenceFiIdeal.Gen.facts, Cert.KernelSf.Gen.facts, Cert.KernelSfIdeal.Gen.facts, Cert.ReferenceSfIdeal.Gen.facts, Cert.KernelLf.Gen.facts, Cert.KernelLfIdeal.Gen.facts, Cert.ReferenceLfIdeal.Gen.facts, Cert.KernelPb.Gen.facts, Cert.KernelPbIdeal.Gen.facts, Cert.ReferencePbIdeal.Gen.facts, Cert.KernelLb.Gen.facts, Cert.KernelLbIdeal.Gen.facts, Cert.ReferenceLbIdeal.Gen.facts, Cert.Reals.facts, Cert.Pb.facts,
  frame_kernel, frame_ideal, fun m g _ => Cert.Frames.kernel_frame (F := Ideal) m g, frame_ref,
  fun m g _ => Cert.Frames.ref_frame (F := Ideal) m g,
  Cert.In.frame_kernel, Cert.In.frame_ideal, Cert.In.frame_ref,
  Cert.Dw.frame_kernel, Cert.Dw.frame_ideal, Cert.Dw.frame_ref,
  Cert.Dh.frame_kernel, Cert.Dh.frame_ideal, Cert.Dh.frame_ref,
  Cert.Mf.frame_kernel, Cert.Mf.frame_ideal, Cert.Mf.frame_ref,
  Cert.Mb.frame_kernel, Cert.Mb.frame_ideal, Cert.Mb.frame_ref,
  Cert.Wo.frame_kernel, Cert.Wo.frame_ideal, Cert.Wo.frame_ref,
  Cert.Su.frame_kernel, Cert.Su.frame_ideal, Cert.Su.frame_ref,
  Cert.Du.frame_kernel, Cert.Du.frame_ideal, Cert.Du.frame_ref,
  Cert.So.frame_kernel, Cert.So.frame_ideal, Cert.So.frame_ref,
  Cert.Do.frame_kernel, Cert.Do.frame_ideal, Cert.Do.frame_ref,
  Cert.Pf.frame_kernel, Cert.Pf.frame_ideal, Cert.Pf.frame_ref,
  Cert.Fi.frame_kernel, Cert.Fi.frame_ideal, Cert.Fi.frame_ref,
  Cert.Sf.frame_kernel, Cert.Sf.frame_ideal, Cert.Sf.frame_ref,
  Cert.Lf.frame_kernel, Cert.Lf.frame_ideal, Cert.Lf.frame_ref,
  Cert.Pb.frame_kernel, Cert.Pb.frame_ideal, Cert.Pb.frame_ideal_pre, Cert.Pb.frame_ref, Cert.Pb.frame_ref_pre,
  Cert.Lb.frame_kernel, Cert.Lb.frame_ideal, Cert.Lb.frame_ref,
  trivial, same_results,
  trivial, Cert.In.same,
  trivial, Cert.Dw.same,
  trivial, Cert.Dh.same,
  trivial, Cert.Mf.same,
  trivial, Cert.Mb.same,
  trivial, Cert.Wo.same,
  trivial, Cert.Su.same,
  trivial, Cert.Du.same,
  trivial, Cert.So.same,
  trivial, Cert.Do.same,
  trivial, Cert.Pf.same,
  trivial, Cert.Fi.same,
  trivial, Cert.Sf.same,
  trivial, Cert.Lf.same,
  trivial, Cert.Pb.same,
  trivial, Cert.Lb.same⟩

end Cert.Proof

end
